-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_copy [hPre_finite_copy : Cert.Pre_finite_copy.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_copy.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).1 = (fun _ => 1#1)
    ∧ (Cert.Pre_finite_copy.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.1 = (fun _ => 1#1)
    ∧ (Cert.Pre_finite_copy.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.1 = (fun _ => 1#1)
    ∧ (Cert.Pre_finite_copy.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_copy [hPre_finite_copy : Cert.Pre_finite_copy.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_copy.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).1 = (fun _ => 1#1)
    ∧ (Cert.Pre_finite_copy.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.1 = (fun _ => 1#1)
    ∧ (Cert.Pre_finite_copy.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.1 = (fun _ => 1#1)
    ∧ (Cert.Pre_finite_copy.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite [hPre_finite : Cert.Pre_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 = (fun _ => 1#1)
    ∧ (Cert.Pre_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 = (fun _ => 1#1)
    ∧ (Cert.Pre_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.1 = (fun _ => 1#1)
    ∧ (Cert.Pre_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite [hPre_finite : Cert.Pre_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).1 = (fun _ => 1#1)
    ∧ (Cert.Pre_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.1 = (fun _ => 1#1)
    ∧ (Cert.Pre_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.1 = (fun _ => 1#1)
    ∧ (Cert.Pre_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_finite_copy [hKernel12Ideal : Cert.Kernel12Ideal.Facts] [hPre_finite_copy : Cert.Pre_finite_copy.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_copy m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_finite_copy [hReference12Ideal : Cert.Reference12Ideal.Facts] [hPre_finite_copy : Cert.Pre_finite_copy.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_copy m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite [hKernel13Ideal : Cert.Kernel13Ideal.Facts] [hPre_finite : Cert.Pre_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite [hReference13Ideal : Cert.Reference13Ideal.Facts] [hPre_finite : Cert.Pre_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v120) = v4 c
          ∧ r.2.mem ((c.tc : Thread Cert.ReferenceIdeal.nD Cert.ReferenceIdeal.τ).loc Cert.ReferenceIdeal.main_v115) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite_copy [hKernel12Ideal : Cert.Kernel12Ideal.Facts] [hReference12Ideal : Cert.Reference12Ideal.Facts] [hPre_finite_copy : Cert.Pre_finite_copy.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_copy m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v38) = v0 c
          ∧ r.2.mem ((c.tc : Thread Cert.Reference12Ideal.nD Cert.Reference12Ideal.τ).loc Cert.Reference12Ideal.main_v39) = v1 c
          ∧ r.2.mem ((c.tc : Thread Cert.Reference12Ideal.nD Cert.Reference12Ideal.τ).loc Cert.Reference12Ideal.main_v21) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite [hKernel13Ideal : Cert.Kernel13Ideal.Facts] [hReference13Ideal : Cert.Reference13Ideal.Facts] [hPre_finite : Cert.Pre_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_v21) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_tame : Cert.Pre_tame.Facts) (hPre_finite_copy : Cert.Pre_finite_copy.Facts) (hPre_finite : Cert.Pre_finite.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_copy (hKernel12Ideal := hKernel12Ideal) (hPre_finite_copy := hPre_finite_copy)
    ∧ quiescent_Reference12Ideal (hReference12Ideal := hReference12Ideal)
    ∧ quiescent_Reference12Ideal_pre_finite_copy (hReference12Ideal := hReference12Ideal) (hPre_finite_copy := hPre_finite_copy)
    ∧ quiescent_Kernel13 (hKernel13 := hKernel13)
    ∧ quiescent_Kernel13Ideal (hKernel13Ideal := hKernel13Ideal)
    ∧ quiescent_Kernel13Ideal_pre_finite (hKernel13Ideal := hKernel13Ideal) (hPre_finite := hPre_finite)
    ∧ quiescent_Reference13Ideal (hReference13Ideal := hReference13Ideal)
    ∧ quiescent_Reference13Ideal_pre_finite (hReference13Ideal := hReference13Ideal) (hPre_finite := hPre_finite)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_copy (hKernel12Ideal := hKernel12Ideal) (hReference12Ideal := hReference12Ideal) (hPre_finite_copy := hPre_finite_copy)
    ∧ preserves_Kernel13_Kernel13Ideal
    ∧ algebraic_Kernel13Ideal_Reference13Ideal_pre_finite (hKernel13Ideal := hKernel13Ideal) (hReference13Ideal := hReference13Ideal) (hPre_finite := hPre_finite)
-- ==== Pre_finite.lean ====
abbrev S8448x8960 : Shape := ⟨2, ![8448, 8960]⟩
abbrev S1024x8960 : Shape := ⟨2, ![1024, 8960]⟩
abbrev S8448x1024 : Shape := ⟨2, ![8448, 1024]⟩
abbrev S1x1024 : Shape := ⟨2, ![1, 1024]⟩
abbrev S_ : Shape := ⟨0, ![]⟩

class Facts : Prop where
  bcast_S_S8448x8960 : S_.BroadcastsInDim S8448x8960 (![] : Fin 0 → Fin S8448x8960.rank)
  bcast_S_S1024x8960 : S_.BroadcastsInDim S1024x8960 (![] : Fin 0 → Fin S1024x8960.rank)
  bcast_S_S8448x1024 : S_.BroadcastsInDim S8448x1024 (![] : Fin 0 → Fin S8448x1024.rank)
  bcast_S_S1x1024 : S_.BroadcastsInDim S1x1024 (![] : Fin 0 → Fin S1x1024.rank)

variable [Facts]

def fn {F : FTy → Type} [FloatOps F] (main_arg0 : FVec F S8448x8960 .bf16) (main_arg1 : FVec F S1024x8960 .bf16) (main_arg2 : FVec F S8448x1024 .f32) (main_arg3 : FVec F S1x1024 .f32) (main_arg4 : FVec F S8448x1024 .f32) : IVec S8448x8960 1 × IVec S1024x8960 1 × IVec S8448x1024 1 × IVec S1x1024 1 :=
  let main_v0 : FVec F S8448x8960 .bf16 := Host.absf main_arg0
  let main_cst : FVec F S_ .bf16 := constant S_ .bf16 0x7F80#16
  let main_v1 : FVec F S8448x8960 .bf16 := broadcastInDim S8448x8960 ![] bcast_S_S8448x8960 main_cst
  let main_v2 : IVec S8448x8960 1 := cmpf .olt main_v0 main_v1
  let main_v3 : FVec F S1024x8960 .bf16 := Host.absf main_arg1
  let main_cst_0 : FVec F S_ .bf16 := constant S_ .bf16 0x7F80#16
  let main_v4 : FVec F S1024x8960 .bf16 := broadcastInDim S1024x8960 ![] bcast_S_S1024x8960 main_cst_0
  let main_v5 : IVec S1024x8960 1 := cmpf .olt main_v3 main_v4
  let main_v6 : FVec F S8448x1024 .f32 := Host.absf main_arg2
  let main_cst_1 : FVec F S_ .f32 := constant S_ .f32 0x7F800000#32
  let main_v7 : FVec F S8448x1024 .f32 := broadcastInDim S8448x1024 ![] bcast_S_S8448x1024 main_cst_1
  let main_v8 : IVec S8448x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_copy.lean ====
abbrev S8448x5632 : Shape := ⟨2, ![8448, 5632]⟩
abbrev S1024x5632 : Shape := ⟨2, ![1024, 5632]⟩
abbrev S8448x1024 : Shape := ⟨2, ![8448, 1024]⟩
abbrev S1x1024 : Shape := ⟨2, ![1, 1024]⟩
abbrev S_ : Shape := ⟨0, ![]⟩

class Facts : Prop where
  bcast_S_S8448x5632 : S_.BroadcastsInDim S8448x5632 (![] : Fin 0 → Fin S8448x5632.rank)
  bcast_S_S1024x5632 : S_.BroadcastsInDim S1024x5632 (![] : Fin 0 → Fin S1024x5632.rank)
  bcast_S_S8448x1024 : S_.BroadcastsInDim S8448x1024 (![] : Fin 0 → Fin S8448x1024.rank)
  bcast_S_S1x1024 : S_.BroadcastsInDim S1x1024 (![] : Fin 0 → Fin S1x1024.rank)

variable [Facts]

def fn {F : FTy → Type} [FloatOps F] (main_arg0 : FVec F S8448x5632 .bf16) (main_arg1 : FVec F S1024x5632 .bf16) (main_arg2 : FVec F S8448x1024 .f32) (main_arg3 : FVec F S1x1024 .f32) (main_arg4 : FVec F S8448x1024 .f32) : IVec S8448x5632 1 × IVec S1024x5632 1 × IVec S8448x1024 1 × IVec S1x1024 1 :=
  let main_v0 : FVec F S8448x5632 .bf16 := Host.absf main_arg0
  let main_cst : FVec F S_ .bf16 := constant S_ .bf16 0x7F80#16
  let main_v1 : FVec F S8448x5632 .bf16 := broadcastInDim S8448x5632 ![] bcast_S_S8448x5632 main_cst
  let main_v2 : IVec S8448x5632 1 := cmpf .olt main_v0 main_v1
  let main_v3 : FVec F S1024x5632 .bf16 := Host.absf main_arg1
  let main_cst_0 : FVec F S_ .bf16 := constant S_ .bf16 0x7F80#16
  let main_v4 : FVec F S1024x5632 .bf16 := broadcastInDim S1024x5632 ![] bcast_S_S1024x5632 main_cst_0
  let main_v5 : IVec S1024x5632 1 := cmpf .olt main_v3 main_v4
  let main_v6 : FVec F S8448x1024 .f32 := Host.absf main_arg2
  let main_cst_1 : FVec F S_ .f32 := constant S_ .f32 0x7F800000#32
  let main_v7 : FVec F S8448x1024 .f32 := broadcastInDim S8448x1024 ![] bcast_S_S8448x1024 main_cst_1
  let main_v8 : IVec S8448x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_tame.lean ====
abbrev S8448x1280 : Shape := ⟨2, ![8448, 1280]⟩
abbrev S8448x2560 : Shape := ⟨2, ![8448, 2560]⟩
abbrev S8448x8960 : Shape := ⟨2, ![8448, 8960]⟩
abbrev S1x1280 : Shape := ⟨2, ![1, 1280]⟩
abbrev S_ : Shape := ⟨0, ![]⟩

class Facts : Prop where
  slices_S8448x2560_S8448x1280_0_0 : S8448x2560.Slices ![0, 0] S8448x1280
  bitsLt_bf16_f32 : FTy.bits .bf16 < FTy.bits .f32
  slices_S8448x2560_S8448x1280_0_1280 : S8448x2560.Slices ![0, 1280] S8448x1280
  slices_S8448x8960_S8448x1280_0_7680 : S8448x8960.Slices ![0, 7680] S8448x1280
  bcast_S_S8448x1280 : S_.BroadcastsInDim S8448x1280 (![] : Fin 0 → Fin S8448x1280.rank)
  bcast_S_S1x1280 : S_.BroadcastsInDim S1x1280 (![] : Fin 0 → Fin S1x1280.rank)
  bcast_S1x1280_S8448x1280_0_1 : S1x1280.BroadcastsInDim S8448x1280 (![0, 1] : Fin 2 → Fin S8448x1280.rank)

variable [Facts]

def fn_softplus {F : FTy → Type} [FloatOps F] (arg0 : FVec F S1x1280 .f32) : FVec F S1x1280 .f32 :=
  let cst : FVec F S_ .f32 := constant S_ .f32 0x00000000#32
  let v0 : FVec F S1x1280 .f32 := broadcastInDim S1x1280 ![] bcast_S_S1x1280 cst
  let v1 : FVec F S1x1280 .f32 := maximumf arg0 v0
  let v2 : FVec F S1x1280 .f32 := broadcastInDim S1x1280 ![] bcast_S_S1x1280 cst
  let v3 : FVec F S1x1280 .f32 := subf arg0 v2
  let v4 : IVec S1x1280 1 := cmpf .une v3 v3
  let v5 : FVec F S1x1280 .f32 := broadcastInDim S1x1280 ![] bcast_S_S1x1280 cst
  let v6 : FVec F S1x1280 .f32 := addf arg0 v5
  let v7 : FVec F S1x1280 .f32 := Host.absf v3
  let v8 : FVec F S1x1280 .f32 := Host.negf v7
  let v9 : FVec F S1x1280 .f32 := Host.exp v8
  let v10 : FVec F S1x1280 .f32 := Host.log1p v9
  let v11 : FVec F S1x1280 .f32 := addf v1 v10
  let v12 : FVec F S1x1280 .f32 := select v4 v6 v11
  v12

def fn_part3 {F : FTy → Type} [FloatOps F] (main_v41 : IVec S8448x1280 1) (main_v59 : FVec F S8448x1280 .f32) : IVec S8448x1280 1 :=
  let main_cst_11 : FVec F S_ .f32 := constant S_ .f32 0x0DA24260#32
  let main_v60 : FVec F S8448x1280 .f32 := broadcastInDim S8448x1280 ![] bcast_S_S8448x1280 main_cst_11
  let main_v61 : IVec S8448x1280 1 := cmpf .oge main_v59 main_v60
  let main_v62 : IVec S8448x1280 1 := andi main_v41 main_v61
  main_v62

def fn_part2 {F : FTy → Type} [FloatOps F] (main_arg4 : FVec F S1x1280 .f32) (main_arg6 : FVec F S1x1280 .f32) (main_v1 : FVec F S8448x1280 .f32) (main_v36 : IVec S8448x1280 1) (main_v39 : IVec S1x1280 1) : IVec S8448x1280 1 :=
  let main_v40 : IVec S8448x1280 1 := broadcastInDim S8448x1280 ![0, 1] bcast_S1x1280_S8448x1280_0_1 main_v39
  let main_v41 : IVec S8448x1280 1 := andi main_v36 main_v40
  let main_v42 : FVec F S8448x1280 .f32 := broadcastInDim S8448x1280 ![0, 1] bcast_S1x1280_S8448x1280_0_1 main_arg4
  let main_v43 : FVec F S8448x1280 .f32 := addf main_v1 main_v42
  let main_v44 : FVec F S8448x1280 .f32 := Host.negf main_v43
  let main_v45 : FVec F S8448x1280 .f32 := Host.exp main_v44
  let main_cst_7 : FVec F S_ .f32 := constant S_ .f32 0x3F800000#32
  let main_v46 : FVec F S8448x1280 .f32 := broadcastInDim S8448x1280 ![] bcast_S_S8448x1280 main_cst_7
  let main_v47 : FVec F S8448x1280 .f32 := addf main_v46 main_v45
  let main_cst_8 : FVec F S_ .f32 := constant S_ .f32 0x3F800000#32
  let main_v48 : FVec F S8448x1280 .f32 := broadcastInDim S8448x1280 ![] bcast_S_S8448x1280 main_cst_8
  let main_v49 : FVec F S8448x1280 .f32 := Host.divf main_v48 main_v47
  let main_cst_9 : FVec F S_ .f32 := constant S_ .f32 0xC1000000#32
  let main_v50 : FVec F S8448x1280 .f32 := broadcastInDim S8448x1280 ![] bcast_S_S8448x1280 main_cst_9
  let main_v51 : FVec F S8448x1280 .f32 := mulf main_v50 main_v49
  let main_v52 : FVec F S1x1280 .f32 := Host.negf main_arg6
  let main_v53 : FVec F S1x1280 .f32 := fn_softplus (F := F) main_v52
  let main_v54 : FVec F S8448x1280 .f32 := broadcastInDim S8448x1280 ![0, 1] bcast_S1x1280_S8448x1280_0_1 main_v53
  let main_v55 : FVec F S8448x1280 .f32 := mulf main_v51 main_v54
  let main_v56 : FVec F S8448x1280 .f32 := Host.exp main_v55
  let main_v57 : FVec F S8448x1280 .f32 := mulf main_v56 main_v56
  let main_cst_10 : FVec F S_ .f32 := constant S_ .f32 0x3F800000#32
  let main_v58 : FVec F S8448x1280 .f32 := broadcastInDim S8448x1280 ![] bcast_S_S8448x1280 main_cst_10
  let main_v59 : FVec F S8448x1280 .f32 := subf main_v58 main_v57
  fn_part3 (F := F) main_v41 main_v59

def fn_part1 {F : FTy → Type} [FloatOps F] (main_arg2 : FVec F S8448x1280 .bf16) (main_arg4 : FVec F S1x1280 .f32) (main_arg5 : FVec F S1x1280 .f32) (main_arg6 : FVec F S1x1280 .f32) (main_v1 : FVec F S8448x1280 .f32) (main_v17 : IVec S8448x1280 1) (main_v18 : FVec F S8448x1280 .f32) (main_v19 : FVec F S8448x1280 .f32) : IVec S8448x1280 1 :=
  let main_v20 : IVec S8448x1280 1 := cmpf .olt main_v18 main_v19
  let main_v21 : IVec S8448x1280 1 := andi main_v17 main_v20
  let main_v22 : FVec F S8448x1280 .f32 := (extf .f32 · bitsLt_bf16_f32) main_arg2
  let main_v23 : FVec F S8448x1280 .f32 := Host.absf main_v22
  let main_cst_3 : FVec F S_ .f32 := constant S_ .f32 0x7F800000#32
  let main_v24 : FVec F S8448x1280 .f32 := broadcastInDim S8448x1280 ![] bcast_S_S8448x1280 main_cst_3
  let main_v25 : IVec S8448x1280 1 := cmpf .olt main_v23 main_v24
  let main_v26 : IVec S8448x1280 1 := andi main_v21 main_v25
  let main_v27 : FVec F S1x1280 .f32 := Host.absf main_arg4
  let main_cst_4 : FVec F S_ .f32 := constant S_ .f32 0x7F800000#32
  let main_v28 : FVec F S1x1280 .f32 := broadcastInDim S1x1280 ![] bcast_S_S1x1280 main_cst_4
  let main_v29 : IVec S1x1280 1 := cmpf .olt main_v27 main_v28
  let main_v30 : IVec S8448x1280 1 := broadcastInDim S8448x1280 ![0, 1] bcast_S1x1280_S8448x1280_0_1 main_v29
  let main_v31 : IVec S8448x1280 1 := andi main_v26 main_v30
  let main_v32 : FVec F S1x1280 .f32 := Host.absf main_arg5
  let main_cst_5 : FVec F S_ .f32 := constant S_ .f32 0x7F800000#32
  let main_v33 : FVec F S1x1280 .f32 := broadcastInDim S1x1280 ![] bcast_S_S1x1280 main_cst_5
  let main_v34 : IVec S1x1280 1 := cmpf .olt main_v32 main_v33
  let main_v35 : IVec S8448x1280 1 := broadcastInDim S8448x1280 ![0, 1] bcast_S1x1280_S8448x1280_0_1 main_v34
  let main_v36 : IVec S8448x1280 1 := andi main_v31 main_v35
  let main_v37 : FVec F S1x1280 .f32 := Host.absf main_arg6
  let main_cst_6 : FVec F S_ .f32 := constant S_ .f32 0x7F800000#32
  let main_v38 : FVec F S1x1280 .f32 := broadcastInDim S1x1280 ![] bcast_S_S1x1280 main_cst_6
  let main_v39 : IVec S1x1280 1 := cmpf .olt main_v37 main_v38
  fn_part2 (F := F) main_arg4 main_arg6 main_v1 main_v36 main_v39

def fn {F : FTy → Type} [FloatOps F] (main_arg0 : FVec F S8448x1280 .bf16) (main_arg1 : FVec F S8448x2560 .bf16) (main_arg2 : FVec F S8448x1280 .bf16) (main_arg3 : FVec F S8448x8960 .bf16) (main_arg4 : FVec F S1x1280 .f32) (main_arg5 : FVec F S1x1280 .f32) (main_arg6 : FVec F S1x1280 .f32) (main_arg7 : FVec F S8448x8960 .bf16) : IVec S8448x1280 1 :=
  let main_v0 : FVec F S8448x1280 .bf16 := (extractStridedSlice S8448x1280 ![0, 0] · slices_S8448x2560_S8448x1280_0_0) main_arg1
  let main_v1 : FVec F S8448x1280 .f32 := (extf .f32 · bitsLt_bf16_f32) main_v0
  let main_v2 : FVec F S8448x1280 .bf16 := (extractStridedSlice S8448x1280 ![0, 1280] · slices_S8448x2560_S8448x1280_0_1280) main_arg1
  let main_v3 : FVec F S8448x1280 .f32 := (extf .f32 · bitsLt_bf16_f32) main_v2
  let main_v4 : FVec F S8448x1280 .bf16 := (extractStridedSlice S8448x1280 ![0, 7680] · slices_S8448x8960_S8448x1280_0_7680) main_arg3
  let main_v5 : FVec F S8448x1280 .f32 := (extf .f32 · bitsLt_bf16_f32) main_v4
  let main_v6 : FVec F S8448x1280 .f32 := (extf .f32 · bitsLt_bf16_f32) main_arg0
  let main_v7 : FVec F S8448x1280 .f32 := Host.absf main_v6
  let main_cst : FVec F S_ .f32 := constant S_ .f32 0x7F800000#32
  let main_v8 : FVec F S8448x1280 .f32 := broadcastInDim S8448x1280 ![] bcast_S_S8448x1280 main_cst
  let main_v9 : IVec S8448x1280 1 := cmpf .olt main_v7 main_v8
  let main_v10 : FVec F S8448x1280 .f32 := Host.absf main_v1
  let main_cst_0 : FVec F S_ .f32 := constant S_ .f32 0x7F800000#32
  let main_v11 : FVec F S8448x1280 .f32 := broadcastInDim S8448x1280 ![] bcast_S_S8448x1280 main_cst_0
  let main_v12 : IVec S8448x1280 1 := cmpf .olt main_v10 main_v11
  let main_v13 : IVec S8448x1280 1 := andi main_v9 main_v12
  let main_v14 : FVec F S8448x1280 .f32 := Host.absf main_v3
  let main_cst_1 : FVec F S_ .f32 := constant S_ .f32 0x7F800000#32
  let main_v15 : FVec F S8448x1280 .f32 := broadcastInDim S8448x1280 ![] bcast_S_S8448x1280 main_cst_1
  let main_v16 : IVec S8448x1280 1 := cmpf .olt main_v14 main_v15
  let main_v17 : IVec S8448x1280 1 := andi main_v13 main_v16
  let main_v18 : FVec F S8448x1280 .f32 := Host.absf main_v5
  let main_cst_2 : FVec F S_ .f32 := constant S_ .f32 0x7F800000#32
  let main_v19 : FVec F S8448x1280 .f32 := broadcastInDim S8448x1280 ![] bcast_S_S8448x1280 main_cst_2
  fn_part1 (F := F) main_arg2 main_arg4 main_arg5 main_arg6 main_v1 main_v17 main_v18 main_v19
-- ==== Kernel.lean ====
abbrev S8448x1280 : Shape := ⟨2, ![8448, 1280]⟩
abbrev S8448x2560 : Shape := ⟨2, ![8448, 2560]⟩
abbrev S8448x8960 : Shape := ⟨2, ![8448, 8960]⟩
abbrev S1x1280 : Shape := ⟨2, ![1, 1280]⟩
abbrev S256x1280 : Shape := ⟨2, ![256, 1280]⟩
abbrev S8x1280 : Shape := ⟨2, ![8, 1280]⟩
abbrev S16x1280 : Shape := ⟨2, ![16, 1280]⟩
abbrev S256x2560 : Shape := ⟨2, ![256, 2560]⟩
abbrev S24x1280 : Shape := ⟨2, ![24, 1280]⟩
abbrev S3x8x1280 : Shape := ⟨3, ![3, 8, 1280]⟩
abbrev S1x8x1280 : Shape := ⟨3, ![1, 8, 1280]⟩
abbrev S1280 : Shape := ⟨1, ![1280]⟩

abbrev nBuf : Space → Nat
  | .hbm => 16
  | .vmem => 45
  | .smem => 0
  | _ => 0

abbrev bufTy : (tb : Table) → Fin (tcTables nBuf tb) → BufTy
  | .hbm, ⟨0, _⟩ => ⟨S8448x1280, .bf16⟩
  | .hbm, ⟨1, _⟩ => ⟨S8448x2560, .bf16⟩
  | .hbm, ⟨2, _⟩ => ⟨S8448x1280, .bf16⟩
  | .hbm, ⟨3, _⟩ => ⟨S8448x8960, .bf16⟩
  | .hbm, ⟨4, _⟩ => ⟨S1x1280, .f32⟩
  | .hbm, ⟨5, _⟩ => ⟨S1x1280, .f32⟩
  | .hbm, ⟨6, _⟩ => ⟨S1x1280, .f32⟩
  | .hbm, ⟨7, _⟩ => ⟨S8448x8960, .bf16⟩
  | .hbm, ⟨8, _⟩ => ⟨S8448x1280, .f32⟩
  | .hbm, ⟨9, _⟩ => ⟨S8448x1280, .bf16⟩
  | .hbm, ⟨10, _⟩ => ⟨S8448x2560, .bf16⟩
  | .hbm, ⟨11, _⟩ => ⟨S8448x1280, .bf16⟩
  | .hbm, ⟨12, _⟩ => ⟨S8448x8960, .bf16⟩
  | .hbm, ⟨13, _⟩ => ⟨S1x1280, .f32⟩
  | .hbm, ⟨14, _⟩ => ⟨S1x1280, .f32⟩
  | .hbm, ⟨15, _⟩ => ⟨S1x1280, .f32⟩
  | .local _ .vmem, ⟨0, _⟩ => ⟨S256x1280, .bf16⟩
  | .local _ .vmem, ⟨1, _⟩ => ⟨S256x1280, .bf16⟩
  | .local _ .vmem, ⟨2, _⟩ => ⟨S256x1280, .bf16⟩
  | .local _ .vmem, ⟨3, _⟩ => ⟨S256x1280, .bf16⟩
  | .local _ .vmem, ⟨4, _⟩ => ⟨S256x1280, .bf16⟩
  | .local _ .vmem, ⟨5, _⟩ => ⟨S256x1280, .bf16⟩
  | .local _ .vmem, ⟨6, _⟩ => ⟨S256x1280, .bf16⟩
  | .local _ .vmem, ⟨7, _⟩ => ⟨S256x1280, .bf16⟩
  | .local _ .vmem, ⟨8, _⟩ => ⟨S1x1280, .f32⟩
  | .local _ .vmem, ⟨9, _⟩ => ⟨S1x1280, .f32⟩
  | .local _ .vmem, ⟨10, _⟩ => ⟨S1x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .bf16⟩
  | .local _ .vmem, ⟨14, _⟩ => ⟨S256x1280, .bf16⟩
  | .local _ .vmem, ⟨15, _⟩ => ⟨S1x1280, .f32⟩
  | .local _ .vmem, ⟨16, _⟩ => ⟨S256x1280, .bf16⟩
  | .local _ .vmem, ⟨17, _⟩ => ⟨S256x1280, .bf16⟩
  | .local _ .vmem, ⟨18, _⟩ => ⟨S256x1280, .f32⟩
  | .local _ .vmem, ⟨19, _⟩ => ⟨S256x1280, .f32⟩
  | .local _ .vmem, ⟨20, _⟩ => ⟨S8x1280, .f32⟩
  | .local _ .vmem, ⟨21, _⟩ => ⟨S8x1280, .f32⟩
  | .local _ .vmem, ⟨22, _⟩ => ⟨S256x1280, .bf16⟩
  | .local _ .vmem, ⟨23, _⟩ => ⟨S256x1280, .bf16⟩
  | .local _ .vmem, ⟨24, _⟩ => ⟨S256x1280, .bf16⟩
  | .local _ .vmem, ⟨25, _⟩ => ⟨S256x1280, .bf16⟩
  | .local _ .vmem, ⟨26, _⟩ => ⟨S256x1280, .bf16⟩
  | .local _ .vmem, ⟨27, _⟩ => ⟨S256x1280, .bf16⟩
  | .local _ .vmem, ⟨28, _⟩ => ⟨S256x1280, .bf16⟩
  | .local _ .vmem, ⟨29, _⟩ => ⟨S256x1280, .bf16⟩
  | .local _ .vmem, ⟨30, _⟩ => ⟨S1x1280, .f32⟩
  | .local _ .vmem, ⟨31, _⟩ => ⟨S1x1280, .f32⟩
  | .local _ .vmem, ⟨32, _⟩ => ⟨S1x1280, .f32⟩
  | .local _ .vmem, ⟨33, _⟩ => ⟨S256x2560, .bf16⟩
  | .local _ .vmem, ⟨34, _⟩ => ⟨S256x2560, .bf16⟩
  | .local _ .vmem, ⟨35, _⟩ => ⟨S256x1280, .bf16⟩
  | .local _ .vmem, ⟨36, _⟩ => ⟨S256x1280, .bf16⟩
  | .local _ .vmem, ⟨37, _⟩ => ⟨S256x1280, .bf16⟩
  | .local _ .vmem, ⟨38, _⟩ => ⟨S256x1280, .bf16⟩
  | .local _ .vmem, ⟨39, _⟩ => ⟨S1x1280, .f32⟩
  | .local _ .vmem, ⟨40, _⟩ => ⟨S1x1280, .f32⟩
  | .local _ .vmem, ⟨41, _⟩ => ⟨S1x1280, .f32⟩
  | .local _ .vmem, ⟨42, _⟩ => ⟨S24x1280, .f32⟩
  | .local _ .vmem, ⟨43, _⟩ => ⟨S3x8x1280, .f32⟩
  | .local _ .vmem, ⟨44, _⟩ => ⟨S1x1280, .f32⟩
  | _, _ => ⟨S8448x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc1_stg12_1 : Ref sig .tc := ⟨.vmem, 38, rfl⟩
abbrev cc1_stg13_0 : Ref sig .tc := ⟨.vmem, 39, rfl⟩
abbrev cc1_stg14_0 : Ref sig .tc := ⟨.vmem, 40, rfl⟩
abbrev cc1_stg15_0 : Ref sig .tc := ⟨.vmem, 41, rfl⟩
abbrev cc1_scratch0 : Ref sig .tc := ⟨.vmem, 42, rfl⟩
abbrev cc1_scratch1 : Ref sig .tc := ⟨.vmem, 43, rfl⟩
abbrev cc1_scratch2 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem12_1 : DmaSem sig := 37
abbrev cc1_sem13_0 : DmaSem sig := 38
abbrev cc1_sem14_0 : DmaSem sig := 39
abbrev cc1_sem15_0 : DmaSem sig := 40

abbrev nD : Nat := 1
abbrev τ : Topo := Topo.v7x

variable {F : FTy → Type} [FloatOps F]

abbrev grid0 : Pipeline.Grid := ⟨2, ![1, 33], ![false, false]⟩

@[reducible] def k0_t1_loop : Scf.Loop 32 :=
  let c0_i32_8 : BitVec 32 := 0#32
  let c16_i32 : BitVec 32 := 16#32
  let v8 : BitVec 32 := Scalar.addi c0_i32_8 c16_i32
  let c1_i32 : BitVec 32 := 1#32
  ⟨c0_i32_8, v8, c1_i32⟩
def k0_mult1 (k0_t1 : Fin k0_t1_loop.trips) : BitVec 32 :=
  let c0_i32_8 : BitVec 32 := 0#32
  let c1_i32 : BitVec 32 := 1#32
  let arg12 : BitVec 32 := Scf.iv c0_i32_8 c1_i32 k0_t1
  let c16_i32_12 : BitVec 32 := 16#32
  let v13 : BitVec 32 := Scalar.muli arg12 c16_i32_12
  v13
def k0_off1 (k0_t1 : Fin k0_t1_loop.trips) : Fin 2 → Nat :=
  let c0_i32_8 : BitVec 32 := 0#32
  let c1_i32 : BitVec 32 := 1#32
  let arg12 : BitVec 32 := Scf.iv c0_i32_8 c1_i32 k0_t1
  let c16_i32_12 : BitVec 32 := 16#32
  let v13 : BitVec 32 := Scalar.muli arg12 c16_i32_12
  let v14 : BitVec 32 := v13
  let v15 : Index := Scalar.indexCast v14
  let c0_13 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![1, 33], ![false, false]⟩

@[reducible] def k1_t1_loop : Scf.Loop 32 :=
  let c0_i32_14 : BitVec 32 := 0#32
  let c16_i32 : BitVec 32 := 16#32
  let v18 : BitVec 32 := Scalar.addi c0_i32_14 c16_i32
  let c1_i32 : BitVec 32 := 1#32
  ⟨c0_i32_14, v18, c1_i32⟩
def k1_mult1 (k1_t1 : Fin k1_t1_loop.trips) : BitVec 32 :=
  let c15_i32 : BitVec 32 := 15#32
  let c0_i32_14 : BitVec 32 := 0#32
  let c1_i32 : BitVec 32 := 1#32
  let arg22 : BitVec 32 := Scf.iv c0_i32_14 c1_i32 k1_t1
  let v59 : BitVec 32 := Scalar.subi c15_i32 arg22
  let c16_i32_45 : BitVec 32 := 16#32
  let v60 : BitVec 32 := Scalar.muli v59 c16_i32_45
  v60
def k1_off1 (k1_t1 : Fin k1_t1_loop.trips) : Fin 2 → Nat :=
  let c15_i32 : BitVec 32 := 15#32
  let c0_i32_14 : BitVec 32 := 0#32
  let c1_i32 : BitVec 32 := 1#32
  let arg22 : BitVec 32 := Scf.iv c0_i32_14 c1_i32 k1_t1
  let v59 : BitVec 32 := Scalar.subi c15_i32 arg22
  let c16_i32_45 : BitVec 32 := 16#32
  let v60 : BitVec 32 := Scalar.muli v59 c16_i32_45
  let v61 : BitVec 32 := v60
  let v62 : Index := Scalar.indexCast v61
  let c0_46 : Index := 0#32
  ![v62.toNat, 0]
def k1_mult2 (k1_t1 : Fin k1_t1_loop.trips) : BitVec 32 :=
  let c15_i32 : BitVec 32 := 15#32
  let c0_i32_14 : BitVec 32 := 0#32
  let c1_i32 : BitVec 32 := 1#32
  let arg22 : BitVec 32 := Scf.iv c0_i32_14 c1_i32 k1_t1
  let v59 : BitVec 32 := Scalar.subi c15_i32 arg22
  let c16_i32_45 : BitVec 32 := 16#32
  let v60 : BitVec 32 := Scalar.muli v59 c16_i32_45
  let v61 : BitVec 32 := v60
  let c16_i32_88 : BitVec 32 := 16#32
  let v318 : BitVec 32 := Scalar.subi v61 c16_i32_88
  let c0_i32_89 : BitVec 32 := 0#32
  let v319 : BitVec 32 := Scalar.maxsi v318 c0_i32_89
  v319
def k1_off2 (k1_t1 : Fin k1_t1_loop.trips) : Fin 2 → Nat :=
  let c15_i32 : BitVec 32 := 15#32
  let c0_i32_14 : BitVec 32 := 0#32
  let c1_i32 : BitVec 32 := 1#32
  let arg22 : BitVec 32 := Scf.iv c0_i32_14 c1_i32 k1_t1
  let v59 : BitVec 32 := Scalar.subi c15_i32 arg22
  let c16_i32_45 : BitVec 32 := 16#32
  let v60 : BitVec 32 := Scalar.muli v59 c16_i32_45
  let v61 : BitVec 32 := v60
  let c16_i32_88 : BitVec 32 := 16#32
  let v318 : BitVec 32 := Scalar.subi v61 c16_i32_88
  let c0_i32_89 : BitVec 32 := 0#32
  let v319 : BitVec 32 := Scalar.maxsi v318 c0_i32_89
  let v320 : BitVec 32 := v319
  let v321 : Index := Scalar.indexCast v320
  let c0_90 : Index := 0#32
  ![v321.toNat, 0]
def k1_off3 (k1_t1 : Fin k1_t1_loop.trips) : Fin 2 → Nat :=
  let c15_i32 : BitVec 32 := 15#32
  let c0_i32_14 : BitVec 32 := 0#32
  let c1_i32 : BitVec 32 := 1#32
  let arg22 : BitVec 32 := Scf.iv c0_i32_14 c1_i32 k1_t1
  let v59 : BitVec 32 := Scalar.subi c15_i32 arg22
  let c16_i32_45 : BitVec 32 := 16#32
  let v60 : BitVec 32 := Scalar.muli v59 c16_i32_45
  let v61 : BitVec 32 := v60
  let v358 : Index := Scalar.indexCast v61
  let c0_101 : Index := 0#32
  ![v358.toNat, 0]
def k1_off4 (k1_t1 : Fin k1_t1_loop.trips) : Fin 2 → Nat :=
  let c15_i32 : BitVec 32 := 15#32
  let c0_i32_14 : BitVec 32 := 0#32
  let c1_i32 : BitVec 32 := 1#32
  let arg22 : BitVec 32 := Scf.iv c0_i32_14 c1_i32 k1_t1
  let v59 : BitVec 32 := Scalar.subi c15_i32 arg22
  let c16_i32_45 : BitVec 32 := 16#32
  let v60 : BitVec 32 := Scalar.muli v59 c16_i32_45
  let v61 : BitVec 32 := v60
  let v361 : Index := Scalar.indexCast v61
  let c1280 : Index := 1280#32
  ![v361.toNat, 1280]
def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c32_i32_0 : BitVec 32 := 32#32
  let v1 : BitVec 32 := Scalar.muli v0 c32_i32_0
  let c1_i32 : BitVec 32 := 1#32
  let v2 : BitVec 32 := Scalar.subi v1 c1_i32
  let c0_i32 : BitVec 32 := 0#32
  let v3 : BitVec 32 := Scalar.maxsi v2 c0_i32
  let c0_i32_1 : BitVec 32 := 0#32
  ![v3.toNat, arg0.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_4 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let v1 : BitVec 32 := Scalar.addi c1_i32 arg0
  let c0_i32 : BitVec 32 := 0#32
  ![v0.toNat, v1.toNat]

def cc1_transform_5 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_6 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c6_i32 : BitVec 32 := 6#32
  let v1 : BitVec 32 := Scalar.addi c6_i32 arg0
  let c0_i32 : BitVec 32 := 0#32
  ![v0.toNat, v1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_12 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc1_transform_13 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c6_i32 : BitVec 32 := 6#32
  let v1 : BitVec 32 := Scalar.addi c6_i32 arg0
  let c0_i32 : BitVec 32 := 0#32
  ![v0.toNat, v1.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1280 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1280 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1280 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x1280 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x1280 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S1x1280 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false]

abbrev stage1_8 : Fin 1 → Memref sig .tc .vmem S1x1280 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, false]

abbrev stage1_9 : Fin 1 → Memref sig .tc .vmem S1x1280 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, false]

abbrev stage1_10 : Fin 2 → Memref sig .tc .vmem S256x2560 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x1280 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S256x1280 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 1 → Memref sig .tc .vmem S1x1280 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true, false]

abbrev stage1_14 : Fin 1 → Memref sig .tc .vmem S1x1280 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true, false]

abbrev stage1_15 : Fin 1 → Memref sig .tc .vmem S1x1280 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![true, false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S8448x1280 : Shape := ⟨2, ![8448, 1280]⟩
abbrev S8448x2560 : Shape := ⟨2, ![8448, 2560]⟩
abbrev S8448x8960 : Shape := ⟨2, ![8448, 8960]⟩
abbrev S1x1280 : Shape := ⟨2, ![1, 1280]⟩
abbrev S8208x1280 : Shape := ⟨2, ![8208, 1280]⟩
abbrev S_ : Shape := ⟨0, ![]⟩
abbrev S1280 : Shape := ⟨1, ![1280]⟩
abbrev S1 : Shape := ⟨1, ![1]⟩

abbrev nBuf : Space → Nat
  | .hbm => 284
  | .vmem => 0
  | .smem => 0
  | _ => 0

abbrev hbmTy0_0 (i : Nat) : BufTy := match i % 128 with
  | 0 => ⟨S8448x1280, .bf16⟩
  | 1 => ⟨S8448x2560, .bf16⟩
  | 2 => ⟨S8448x1280, .bf16⟩
  | 3 => ⟨S8448x8960, .bf16⟩
  | 4 => ⟨S1x1280, .f32⟩
  | 5 => ⟨S1x1280, .f32⟩
  | 6 => ⟨S1x1280, .f32⟩
  | 7 => ⟨S8448x8960, .bf16⟩
  | 8 => ⟨S8208x1280, .bf16⟩
  | 9 => ⟨S8208x1280, .f32⟩
  | 10 => ⟨S8208x1280, .bf16⟩
  | 11 => ⟨S8208x1280, .f32⟩
  | 12 => ⟨S8208x1280, .bf16⟩
  | 13 => ⟨S8208x1280, .f32⟩
  | 14 => ⟨S8208x1280, .bf16⟩
  | 15 => ⟨S8208x1280, .f32⟩
  | 16 => ⟨S8208x1280, .f32⟩
  | 17 => ⟨S8208x1280, .f32⟩
  | 18 => ⟨S8208x1280, .f32⟩
  | 19 => ⟨S8208x1280, .f32⟩
  | 20 => ⟨S_, .f32⟩
  | 21 => ⟨S8208x1280, .f32⟩
  | 22 => ⟨S8208x1280, .f32⟩
  | 23 => ⟨S_, .f32⟩
  | 24 => ⟨S8208x1280, .f32⟩
  | 25 => ⟨S8208x1280, .f32⟩
  | 26 => ⟨S_, .f32⟩
  | 27 => ⟨S8208x1280, .f32⟩
  | 28 => ⟨S8208x1280, .f32⟩
  | 29 => ⟨S8208x1280, .f32⟩
  | 30 => ⟨S8208x1280, .f32⟩
  | 31 => ⟨S8208x1280, .f32⟩
  | 32 => ⟨S8208x1280, .f32⟩
  | 33 => ⟨S8208x1280, .f32⟩
  | 34 => ⟨S_, .f32⟩
  | 35 => ⟨S8208x1280, .f32⟩
  | 36 => ⟨S8208x1280, .f32⟩
  | 37 => ⟨S_, .f32⟩
  | 38 => ⟨S8208x1280, .f32⟩
  | 39 => ⟨S8208x1280, .f32⟩
  | 40 => ⟨S_, .f32⟩
  | 41 => ⟨S8208x1280, .f32⟩
  | 42 => ⟨S8208x1280, .f32⟩
  | 43 => ⟨S8208x1280, .f32⟩
  | 44 => ⟨S_, .f32⟩
  | 45 => ⟨S8208x1280, .f32⟩
  | 46 => ⟨S8208x1280, .f32⟩
  | 47 => ⟨S1x1280, .f32⟩
  | 48 => ⟨S_, .f32⟩
  | 49 => ⟨S1x1280, .f32⟩
  | 50 => ⟨S1x1280, .f32⟩
  | 51 => ⟨S1x1280, .f32⟩
  | 52 => ⟨S1x1280, .f32⟩
  | 53 => ⟨S1x1280, .i1⟩
  | 54 => ⟨S1x1280, .f32⟩
  | 55 => ⟨S1x1280, .f32⟩
  | 56 => ⟨S1x1280, .f32⟩
  | 57 => ⟨S1x1280, .f32⟩
  | 58 => ⟨S1x1280, .f32⟩
  | 59 => ⟨S1x1280, .f32⟩
  | 60 => ⟨S1x1280, .f32⟩
  | 61 => ⟨S1x1280, .f32⟩
  | 62 => ⟨S_, .f32⟩
  | 63 => ⟨S1x1280, .f32⟩
  | 64 => ⟨S1x1280, .i1⟩
  | 65 => ⟨S_, .f32⟩
  | 66 => ⟨S1x1280, .f32⟩
  | 67 => ⟨S1x1280, .f32⟩
  | 68 => ⟨S_, .f32⟩
  | 69 => ⟨S1x1280, .f32⟩
  | 70 => ⟨S1x1280, .i1⟩
  | 71 => ⟨S_, .f32⟩
  | 72 => ⟨S1x1280, .f32⟩
  | 73 => ⟨S1x1280, .f32⟩
  | 74 => ⟨S1x1280, .f32⟩
  | 75 => ⟨S1x1280, .f32⟩
  | 76 => ⟨S_, .f32⟩
  | 77 => ⟨S_, .f32⟩
  | 78 => ⟨S_, .i1⟩
  | 79 => ⟨S_, .f32⟩
  | 80 => ⟨S_, .f32⟩
  | 81 => ⟨S_, .f32⟩
  | 82 => ⟨S_, .f32⟩
  | 83 => ⟨S1x1280, .f32⟩
  | 84 => ⟨S1x1280, .i1⟩
  | 85 => ⟨S_, .f32⟩
  | 86 => ⟨S1x1280, .f32⟩
  | 87 => ⟨S1x1280, .f32⟩
  | 88 => ⟨S1x1280, .f32⟩
  | 89 => ⟨S1x1280, .f32⟩
  | 90 => ⟨S1x1280, .f32⟩
  | 91 => ⟨S_, .f32⟩
  | 92 => ⟨S1x1280, .f32⟩
  | 93 => ⟨S1x1280, .f32⟩
  | 94 => ⟨S8208x1280, .f32⟩
  | 95 => ⟨S8208x1280, .f32⟩
  | 96 => ⟨S8208x1280, .f32⟩
  | 97 => ⟨S_, .f32⟩
  | 98 => ⟨S8208x1280, .f32⟩
  | 99 => ⟨S8208x1280, .f32⟩
  | 100 => ⟨S8208x1280, .f32⟩
  | 101 => ⟨S8208x1280, .f32⟩
  | 102 => ⟨S8208x1280, .f32⟩
  | 103 => ⟨S8208x1280, .f32⟩
  | 104 => ⟨S_, .f32⟩
  | 105 => ⟨S8208x1280, .f32⟩
  | 106 => ⟨S8208x1280, .f32⟩
  | 107 => ⟨S8208x1280, .f32⟩
  | 108 => ⟨S8208x1280, .f32⟩
  | 109 => ⟨S_, .f32⟩
  | 110 => ⟨S1280, .f32⟩
  | 111 => ⟨S_, .f32⟩
  | 112 => ⟨S8208x1280, .f32⟩
  | 113 => ⟨S_, .f32⟩
  | 114 => ⟨S8208x1280, .f32⟩
  | 115 => ⟨S_, .i32⟩
  | 116 => ⟨S8208x1280, .f32⟩
  | 117 => ⟨S8208x1280, .f32⟩
  | 118 => ⟨S_, .i32⟩
  | 119 => ⟨S1280, .f32⟩
  | 120 => ⟨S8208x1280, .f32⟩
  | 121 => ⟨S8208x1280, .f32⟩
  | 122 => ⟨S_, .i32⟩
  | 123 => ⟨S_, .i1⟩
  | 124 => ⟨S_, .i32⟩
  | 125 => ⟨S1x1280, .f32⟩
  | 126 => ⟨S1280, .f32⟩
  | 127 => ⟨S_, .i32⟩
  | _ => ⟨S8448x1280, .bf16⟩

abbrev hbmTy0_1 (i : Nat) : BufTy := match i % 128 with
  | 0 => ⟨S1x1280, .f32⟩
  | 1 => ⟨S1280, .f32⟩
  | 2 => ⟨S1280, .f32⟩
  | 3 => ⟨S1280, .f32⟩
  | 4 => ⟨S1x1280, .f32⟩
  | 5 => ⟨S_, .i32⟩
  | 6 => ⟨S8208x1280, .f32⟩
  | 7 => ⟨S1x1280, .f32⟩
  | 8 => ⟨S_, .i32⟩
  | 9 => ⟨S8208x1280, .f32⟩
  | 10 => ⟨S_, .i32⟩
  | 11 => ⟨S_, .i32⟩
  | 12 => ⟨S8208x1280, .f32⟩
  | 13 => ⟨S8208x1280, .f32⟩
  | 14 => ⟨S8208x1280, .f32⟩
  | 15 => ⟨S_, .f32⟩
  | 16 => ⟨S8208x1280, .f32⟩
  | 17 => ⟨S8208x1280, .f32⟩
  | 18 => ⟨S_, .f32⟩
  | 19 => ⟨S8208x1280, .f32⟩
  | 20 => ⟨S8208x1280, .f32⟩
  | 21 => ⟨S_, .f32⟩
  | 22 => ⟨S8208x1280, .f32⟩
  | 23 => ⟨S8208x1280, .f32⟩
  | 24 => ⟨S8208x1280, .f32⟩
  | 25 => ⟨S_, .f32⟩
  | 26 => ⟨S8208x1280, .f32⟩
  | 27 => ⟨S8208x1280, .f32⟩
  | 28 => ⟨S8208x1280, .f32⟩
  | 29 => ⟨S_, .f32⟩
  | 30 => ⟨S8208x1280, .f32⟩
  | 31 => ⟨S8208x1280, .f32⟩
  | 32 => ⟨S_, .f32⟩
  | 33 => ⟨S8208x1280, .f32⟩
  | 34 => ⟨S8208x1280, .f32⟩
  | 35 => ⟨S8208x1280, .f32⟩
  | 36 => ⟨S_, .f32⟩
  | 37 => ⟨S8208x1280, .f32⟩
  | 38 => ⟨S8208x1280, .f32⟩
  | 39 => ⟨S_, .f32⟩
  | 40 => ⟨S8208x1280, .f32⟩
  | 41 => ⟨S8208x1280, .f32⟩
  | 42 => ⟨S8208x1280, .f32⟩
  | 43 => ⟨S8208x1280, .f32⟩
  | 44 => ⟨S8208x1280, .bf16⟩
  | 45 => ⟨S8208x1280, .f32⟩
  | 46 => ⟨S_, .f32⟩
  | 47 => ⟨S1280, .f32⟩
  | 48 => ⟨S8208x1280, .f32⟩
  | 49 => ⟨S8208x1280, .f32⟩
  | 50 => ⟨S8208x1280, .f32⟩
  | 51 => ⟨S8208x1280, .f32⟩
  | 52 => ⟨S_, .f32⟩
  | 53 => ⟨S8208x1280, .f32⟩
  | 54 => ⟨S8208x1280, .f32⟩
  | 55 => ⟨S8208x1280, .f32⟩
  | 56 => ⟨S_, .f32⟩
  | 57 => ⟨S8208x1280, .f32⟩
  | 58 => ⟨S8208x1280, .f32⟩
  | 59 => ⟨S8208x1280, .f32⟩
  | 60 => ⟨S_, .f32⟩
  | 61 => ⟨S8208x1280, .f32⟩
  | 62 => ⟨S8208x1280, .f32⟩
  | 63 => ⟨S_, .f32⟩
  | 64 => ⟨S8208x1280, .f32⟩
  | 65 => ⟨S8208x1280, .f32⟩
  | 66 => ⟨S8208x1280, .f32⟩
  | 67 => ⟨S8208x1280, .f32⟩
  | 68 => ⟨S_, .f32⟩
  | 69 => ⟨S1280, .f32⟩
  | 70 => ⟨S_, .f32⟩
  | 71 => ⟨S8208x1280, .f32⟩
  | 72 => ⟨S_, .f32⟩
  | 73 => ⟨S8208x1280, .f32⟩
  | 74 => ⟨S_, .i32⟩
  | 75 => ⟨S8208x1280, .f32⟩
  | 76 => ⟨S8208x1280, .f32⟩
  | 77 => ⟨S8208x1280, .f32⟩
  | 78 => ⟨S_, .i32⟩
  | 79 => ⟨S1280, .f32⟩
  | 80 => ⟨S8208x1280, .f32⟩
  | 81 => ⟨S8208x1280, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S1x1280, .f32⟩
  | 90 => ⟨S1280, .f32⟩
  | 91 => ⟨S_, .i32⟩
  | 92 => ⟨S1x1280, .f32⟩
  | 93 => ⟨S1280, .f32⟩
  | 94 => ⟨S_, .i32⟩
  | 95 => ⟨S1x1280, .f32⟩
  | 96 => ⟨S1280, .f32⟩
  | 97 => ⟨S1280, .f32⟩
  | 98 => ⟨S1280, .f32⟩
  | 99 => ⟨S1280, .f32⟩
  | 100 => ⟨S1x1280, .f32⟩
  | 101 => ⟨S_, .i32⟩
  | 102 => ⟨S8208x1280, .f32⟩
  | 103 => ⟨S1x1280, .f32⟩
  | 104 => ⟨S_, .i32⟩
  | 105 => ⟨S8208x1280, .f32⟩
  | 106 => ⟨S_, .i32⟩
  | 107 => ⟨S_, .i32⟩
  | 108 => ⟨S8208x1280, .f32⟩
  | 109 => ⟨S8208x1280, .f32⟩
  | 110 => ⟨S8208x1280, .f32⟩
  | 111 => ⟨S8208x1280, .f32⟩
  | 112 => ⟨S8208x1280, .f32⟩
  | 113 => ⟨S8208x1280, .f32⟩
  | 114 => ⟨S8208x1280, .f32⟩
  | 115 => ⟨S_, .f32⟩
  | 116 => ⟨S8208x1280, .f32⟩
  | 117 => ⟨S8208x1280, .f32⟩
  | 118 => ⟨S8208x1280, .f32⟩
  | 119 => ⟨S8208x1280, .f32⟩
  | 120 => ⟨S8208x1280, .f32⟩
  | 121 => ⟨S_, .f32⟩
  | 122 => ⟨S1280, .f32⟩
  | 123 => ⟨S1x1280, .f32⟩
  | 124 => ⟨S8208x1280, .f32⟩
  | 125 => ⟨S8208x1280, .f32⟩
  | 126 => ⟨S1x1280, .f32⟩
  | 127 => ⟨S1x1280, .f32⟩
  | _ => ⟨S8448x1280, .bf16⟩

abbrev hbmTy0_2 (i : Nat) : BufTy := match i % 128 with
  | 0 => ⟨S_, .f32⟩
  | 1 => ⟨S8208x1280, .f32⟩
  | 2 => ⟨S8208x1280, .f32⟩
  | 3 => ⟨S8208x1280, .f32⟩
  | 4 => ⟨S_, .f32⟩
  | 5 => ⟨S1280, .f32⟩
  | 6 => ⟨S1x1280, .f32⟩
  | 7 => ⟨S8208x1280, .f32⟩
  | 8 => ⟨S_, .f32⟩
  | 9 => ⟨S1280, .f32⟩
  | 10 => ⟨S1x1280, .f32⟩
  | 11 => ⟨S8208x1280, .bf16⟩
  | 12 => ⟨S_, .bf16⟩
  | 13 => ⟨S8448x8960, .bf16⟩
  | 14 => ⟨S8208x1280, .bf16⟩
  | 15 => ⟨S_, .bf16⟩
  | 16 => ⟨S8448x1280, .bf16⟩
  | 17 => ⟨S8208x1280, .bf16⟩
  | 18 => ⟨S_, .bf16⟩
  | 19 => ⟨S8448x2560, .bf16⟩
  | 20 => ⟨S8208x1280, .bf16⟩
  | 21 => ⟨S_, .bf16⟩
  | 22 => ⟨S8448x2560, .bf16⟩
  | 23 => ⟨S8448x2560, .bf16⟩
  | 24 => ⟨S8448x1280, .bf16⟩
  | 25 => ⟨S_, .i32⟩
  | 26 => ⟨S1, .i32⟩
  | 27 => ⟨S8448x8960, .bf16⟩
  | _ => ⟨S8448x1280, .bf16⟩

abbrev hbmTy (i : Nat) : BufTy := match i / 128 with
  | 0 => hbmTy0_0 i
  | 1 => hbmTy0_1 i
  | 2 => hbmTy0_2 i
  | _ => ⟨S8448x1280, .bf16⟩

abbrev bufTy : (tb : Table) → Fin (tcTables nBuf tb) → BufTy
  | .hbm, ⟨i, _⟩ => hbmTy i
  | _, _ => ⟨S8448x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v33_0 : Ref sig .tc := ⟨.hbm, 61, rfl⟩
abbrev main_call0_cst_0 : Ref sig .tc := ⟨.hbm, 62, rfl⟩
abbrev main_call0_v13 : Ref sig .tc := ⟨.hbm, 63, rfl⟩
abbrev main_call0_v14 : Ref sig .tc := ⟨.hbm, 64, rfl⟩
abbrev main_call0_cst_1 : Ref sig .tc := ⟨.hbm, 65, rfl⟩
abbrev main_call0_v15 : Ref sig .tc := ⟨.hbm, 66, rfl⟩
abbrev main_call0_v16 : Ref sig .tc := ⟨.hbm, 67, rfl⟩
abbrev main_call0_cst_2 : Ref sig .tc := ⟨.hbm, 68, rfl⟩
abbrev main_call0_v17 : Ref sig .tc := ⟨.hbm, 69, rfl⟩
abbrev main_call0_v18 : Ref sig .tc := ⟨.hbm, 70, rfl⟩
abbrev main_call0_cst_3 : Ref sig .tc := ⟨.hbm, 71, rfl⟩
abbrev main_call0_v19 : Ref sig .tc := ⟨.hbm, 72, rfl⟩
abbrev main_call0_v20 : Ref sig .tc := ⟨.hbm, 73, rfl⟩
abbrev main_call0_v21 : Ref sig .tc := ⟨.hbm, 74, rfl⟩
abbrev main_v33_1 : Ref sig .tc := ⟨.hbm, 75, rfl⟩
abbrev main_call0_cst_4 : Ref sig .tc := ⟨.hbm, 76, rfl⟩
abbrev main_call0_cst_5 : Ref sig .tc := ⟨.hbm, 77, rfl⟩
abbrev main_call0_v23 : Ref sig .tc := ⟨.hbm, 78, rfl⟩
abbrev main_call0_cst_6 : Ref sig .tc := ⟨.hbm, 79, rfl⟩
abbrev main_call0_cst_7 : Ref sig .tc := ⟨.hbm, 80, rfl⟩
abbrev main_call0_v24 : Ref sig .tc := ⟨.hbm, 81, rfl⟩
abbrev main_call0_cst_8 : Ref sig .tc := ⟨.hbm, 82, rfl⟩
abbrev main_call0_v25 : Ref sig .tc := ⟨.hbm, 83, rfl⟩
abbrev main_call0_v26 : Ref sig .tc := ⟨.hbm, 84, rfl⟩
abbrev main_call0_cst_9 : Ref sig .tc := ⟨.hbm, 85, rfl⟩
abbrev main_call0_v27 : Ref sig .tc := ⟨.hbm, 86, rfl⟩
abbrev main_call0_v28 : Ref sig .tc := ⟨.hbm, 87, rfl⟩
abbrev main_call0_v29 : Ref sig .tc := ⟨.hbm, 88, rfl⟩
abbrev main_call0_v30 : Ref sig .tc := ⟨.hbm, 89, rfl⟩
abbrev main_call0_v31 : Ref sig .tc := ⟨.hbm, 90, rfl⟩
abbrev main_call0_cst_10 : Ref sig .tc := ⟨.hbm, 91, rfl⟩
abbrev main_call0_v32 : Ref sig .tc := ⟨.hbm, 92, rfl⟩
abbrev main_v33_2 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_6 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_cst_7 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_cst_8 : Ref sig .tc := ⟨.hbm, 109, rfl⟩
abbrev main_v47 : Ref sig .tc := ⟨.hbm, 110, rfl⟩
abbrev main_cst_9 : Ref sig .tc := ⟨.hbm, 111, rfl⟩
abbrev main_v48 : Ref sig .tc := ⟨.hbm, 112, rfl⟩
abbrev main_cst_10 : Ref sig .tc := ⟨.hbm, 113, rfl⟩
abbrev main_v49 : Ref sig .tc := ⟨.hbm, 114, rfl⟩
abbrev main_c : Ref sig .tc := ⟨.hbm, 115, rfl⟩
abbrev main_v50_0 : Ref sig .tc := ⟨.hbm, 116, rfl⟩
abbrev main_v50_1 : Ref sig .tc := ⟨.hbm, 117, rfl⟩
abbrev main_v50_2 : Ref sig .tc := ⟨.hbm, 118, rfl⟩
abbrev main_v50_3 : Ref sig .tc := ⟨.hbm, 119, rfl⟩
abbrev main_v50_4 : Ref sig .tc := ⟨.hbm, 120, rfl⟩
abbrev main_v50_5 : Ref sig .tc := ⟨.hbm, 121, rfl⟩
abbrev main_while0c_c_43 : Ref sig .tc := ⟨.hbm, 122, rfl⟩
abbrev main_while0c_v136 : Ref sig .tc := ⟨.hbm, 123, rfl⟩
abbrev main_while0b_call1_c : Ref sig .tc := ⟨.hbm, 124, rfl⟩
abbrev main_while0b_call1_v0 : Ref sig .tc := ⟨.hbm, 125, rfl⟩
abbrev main_while0b_v136 : Ref sig .tc := ⟨.hbm, 126, rfl⟩
abbrev main_while0b_call2_c : Ref sig .tc := ⟨.hbm, 127, rfl⟩
abbrev main_while0b_call2_v0 : Ref sig .tc := ⟨.hbm, 128, rfl⟩
abbrev main_while0b_v137 : Ref sig .tc := ⟨.hbm, 129, rfl⟩
abbrev main_while0b_v138 : Ref sig .tc := ⟨.hbm, 130, rfl⟩
abbrev main_while0b_v139 : Ref sig .tc := ⟨.hbm, 131, rfl⟩
abbrev main_while0b_call3_v0 : Ref sig .tc := ⟨.hbm, 132, rfl⟩
abbrev main_while0b_call3_c : Ref sig .tc := ⟨.hbm, 133, rfl⟩
abbrev main_while0b_v140 : Ref sig .tc := ⟨.hbm, 134, rfl⟩
abbrev main_while0b_call4_v0 : Ref sig .tc := ⟨.hbm, 135, rfl⟩
abbrev main_while0b_call4_c : Ref sig .tc := ⟨.hbm, 136, rfl⟩
abbrev main_while0b_v141 : Ref sig .tc := ⟨.hbm, 137, rfl⟩
abbrev main_while0b_c_43 : Ref sig .tc := ⟨.hbm, 138, rfl⟩
abbrev main_while0b_v142 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_cst_11 : Ref sig .tc := ⟨.hbm, 143, rfl⟩
abbrev main_v54 : Ref sig .tc := ⟨.hbm, 144, rfl⟩
abbrev main_v55 : Ref sig .tc := ⟨.hbm, 145, rfl⟩
abbrev main_cst_12 : Ref sig .tc := ⟨.hbm, 146, rfl⟩
abbrev main_v56 : Ref sig .tc := ⟨.hbm, 147, rfl⟩
abbrev main_v57 : Ref sig .tc := ⟨.hbm, 148, rfl⟩
abbrev main_cst_13 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_14 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_cst_15 : Ref sig .tc := ⟨.hbm, 157, rfl⟩
abbrev main_v64 : Ref sig .tc := ⟨.hbm, 158, rfl⟩
abbrev main_v65 : Ref sig .tc := ⟨.hbm, 159, rfl⟩
abbrev main_cst_16 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_cst_17 : Ref sig .tc := ⟨.hbm, 164, rfl⟩
abbrev main_v69 : Ref sig .tc := ⟨.hbm, 165, rfl⟩
abbrev main_v70 : Ref sig .tc := ⟨.hbm, 166, rfl⟩
abbrev main_cst_18 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_cst_19 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_cst_20 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_cst_21 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_cst_22 : Ref sig .tc := ⟨.hbm, 188, rfl⟩
abbrev main_v88 : Ref sig .tc := ⟨.hbm, 189, rfl⟩
abbrev main_v89 : Ref sig .tc := ⟨.hbm, 190, rfl⟩
abbrev main_cst_23 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_cst_24 : Ref sig .tc := ⟨.hbm, 196, rfl⟩
abbrev main_v94 : Ref sig .tc := ⟨.hbm, 197, rfl⟩
abbrev main_cst_25 : Ref sig .tc := ⟨.hbm, 198, rfl⟩
abbrev main_v95 : Ref sig .tc := ⟨.hbm, 199, rfl⟩
abbrev main_cst_26 : Ref sig .tc := ⟨.hbm, 200, rfl⟩
abbrev main_v96 : Ref sig .tc := ⟨.hbm, 201, rfl⟩
abbrev main_c_27 : Ref sig .tc := ⟨.hbm, 202, rfl⟩
abbrev main_v97_0 : Ref sig .tc := ⟨.hbm, 203, rfl⟩
abbrev main_v97_1 : Ref sig .tc := ⟨.hbm, 204, rfl⟩
abbrev main_v97_2 : Ref sig .tc := ⟨.hbm, 205, rfl⟩
abbrev main_v97_3 : Ref sig .tc := ⟨.hbm, 206, rfl⟩
abbrev main_v97_4 : Ref sig .tc := ⟨.hbm, 207, rfl⟩
abbrev main_v97_5 : Ref sig .tc := ⟨.hbm, 208, rfl⟩
abbrev main_v97_6 : Ref sig .tc := ⟨.hbm, 209, rfl⟩
abbrev main_while1c_c_44 : Ref sig .tc := ⟨.hbm, 210, rfl⟩
abbrev main_while1c_v136 : Ref sig .tc := ⟨.hbm, 211, rfl⟩
abbrev main_while1b_c_44 : Ref sig .tc := ⟨.hbm, 212, rfl⟩
abbrev main_while1b_v136 : Ref sig .tc := ⟨.hbm, 213, rfl⟩
abbrev main_while1b_c_45 : Ref sig .tc := ⟨.hbm, 214, rfl⟩
abbrev main_while1b_v137 : Ref sig .tc := ⟨.hbm, 215, rfl⟩
abbrev main_while1b_call5_c : Ref sig .tc := ⟨.hbm, 216, rfl⟩
abbrev main_while1b_call5_v0 : Ref sig .tc := ⟨.hbm, 217, rfl⟩
abbrev main_while1b_v138 : Ref sig .tc := ⟨.hbm, 218, rfl⟩
abbrev main_while1b_call6_c : Ref sig .tc := ⟨.hbm, 219, rfl⟩
abbrev main_while1b_call6_v0 : Ref sig .tc := ⟨.hbm, 220, rfl⟩
abbrev main_while1b_v139 : Ref sig .tc := ⟨.hbm, 221, rfl⟩
abbrev main_while1b_call7_c : Ref sig .tc := ⟨.hbm, 222, rfl⟩
abbrev main_while1b_call7_v0 : Ref sig .tc := ⟨.hbm, 223, rfl⟩
abbrev main_while1b_v140 : Ref sig .tc := ⟨.hbm, 224, rfl⟩
abbrev main_while1b_v141 : Ref sig .tc := ⟨.hbm, 225, rfl⟩
abbrev main_while1b_v142 : Ref sig .tc := ⟨.hbm, 226, rfl⟩
abbrev main_while1b_v143 : Ref sig .tc := ⟨.hbm, 227, rfl⟩
abbrev main_while1b_call8_v0 : Ref sig .tc := ⟨.hbm, 228, rfl⟩
abbrev main_while1b_call8_c : Ref sig .tc := ⟨.hbm, 229, rfl⟩
abbrev main_while1b_v144 : Ref sig .tc := ⟨.hbm, 230, rfl⟩
abbrev main_while1b_call9_v0 : Ref sig .tc := ⟨.hbm, 231, rfl⟩
abbrev main_while1b_call9_c : Ref sig .tc := ⟨.hbm, 232, rfl⟩
abbrev main_while1b_v145 : Ref sig .tc := ⟨.hbm, 233, rfl⟩
abbrev main_while1b_c_46 : Ref sig .tc := ⟨.hbm, 234, rfl⟩
abbrev main_while1b_v146 : Ref sig .tc := ⟨.hbm, 235, rfl⟩
abbrev main_v98 : Ref sig .tc := ⟨.hbm, 236, rfl⟩
abbrev main_v99 : Ref sig .tc := ⟨.hbm, 237, rfl⟩
abbrev main_v100 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_cst_28 : Ref sig .tc := ⟨.hbm, 243, rfl⟩
abbrev main_v105 : Ref sig .tc := ⟨.hbm, 244, rfl⟩
abbrev main_v106 : Ref sig .tc := ⟨.hbm, 245, rfl⟩
abbrev main_v107 : Ref sig .tc := ⟨.hbm, 246, rfl⟩
abbrev main_v108 : Ref sig .tc := ⟨.hbm, 247, rfl⟩
abbrev main_v109 : Ref sig .tc := ⟨.hbm, 248, rfl⟩
abbrev main_cst_29 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_cst_30 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_cst_31 : Ref sig .tc := ⟨.hbm, 260, rfl⟩
abbrev main_v119 : Ref sig .tc := ⟨.hbm, 261, rfl⟩
abbrev main_v120 : Ref sig .tc := ⟨.hbm, 262, rfl⟩
abbrev main_v121 : Ref sig .tc := ⟨.hbm, 263, rfl⟩
abbrev main_cst_32 : Ref sig .tc := ⟨.hbm, 264, rfl⟩
abbrev main_v122 : Ref sig .tc := ⟨.hbm, 265, rfl⟩
abbrev main_v123 : Ref sig .tc := ⟨.hbm, 266, rfl⟩
abbrev main_v124 : Ref sig .tc := ⟨.hbm, 267, rfl⟩
abbrev main_cst_33 : Ref sig .tc := ⟨.hbm, 268, rfl⟩
abbrev main_v125 : Ref sig .tc := ⟨.hbm, 269, rfl⟩
abbrev main_v126 : Ref sig .tc := ⟨.hbm, 270, rfl⟩
abbrev main_cst_34 : Ref sig .tc := ⟨.hbm, 271, rfl⟩
abbrev main_v127 : Ref sig .tc := ⟨.hbm, 272, rfl⟩
abbrev main_v128 : Ref sig .tc := ⟨.hbm, 273, rfl⟩
abbrev main_cst_35 : Ref sig .tc := ⟨.hbm, 274, rfl⟩
abbrev main_v129 : Ref sig .tc := ⟨.hbm, 275, rfl⟩
abbrev main_v130 : Ref sig .tc := ⟨.hbm, 276, rfl⟩
abbrev main_cst_36 : Ref sig .tc := ⟨.hbm, 277, rfl⟩
abbrev main_v131 : Ref sig .tc := ⟨.hbm, 278, rfl⟩
abbrev main_v132 : Ref sig .tc := ⟨.hbm, 279, rfl⟩
abbrev main_v133 : Ref sig .tc := ⟨.hbm, 280, rfl⟩
abbrev main_c_37 : Ref sig .tc := ⟨.hbm, 281, rfl⟩
abbrev main_v134 : Ref sig .tc := ⟨.hbm, 282, rfl⟩
abbrev main_v135 : Ref sig .tc := ⟨.hbm, 283, rfl⟩

abbrev nD : Nat := 1
abbrev τ : Topo := Topo.v7x

variable {F : FTy → Type} [FloatOps F]

abbrev main_while0_count : Scf.Loop 32 := ⟨0#32, 8208#32, 1#32⟩

abbrev main_while1_count : Scf.Loop 32 := ⟨0#32, 8208#32, 1#32⟩
-- ==== Kernel2.lean ====
abbrev S8448x1024 : Shape := ⟨2, ![8448, 1024]⟩
abbrev S8448x8960 : Shape := ⟨2, ![8448, 8960]⟩
abbrev S1024x8960 : Shape := ⟨2, ![1024, 8960]⟩
abbrev S1408x1024 : Shape := ⟨2, ![1408, 1024]⟩
abbrev S1408x1792 : Shape := ⟨2, ![1408, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x8960, .bf16⟩
  | .hbm, ⟨2, _⟩ => ⟨S1024x8960, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1792, .bf16⟩
  | .local _ .vmem, ⟨3, _⟩ => ⟨S1408x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S8448x1024 : Shape := ⟨2, ![8448, 1024]⟩
abbrev S8448x8960 : Shape := ⟨2, ![8448, 8960]⟩
abbrev S1024x8960 : Shape := ⟨2, ![1024, 8960]⟩
abbrev S1408x1024 : Shape := ⟨2, ![1408, 1024]⟩
abbrev S1408x1792 : Shape := ⟨2, ![1408, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x8960, .bf16⟩
  | .hbm, ⟨2, _⟩ => ⟨S1024x8960, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1792, .bf16⟩
  | .local _ .vmem, ⟨3, _⟩ => ⟨S1408x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x1024 : Shape := ⟨2, ![8448, 1024]⟩
abbrev S8448x8960 : Shape := ⟨2, ![8448, 8960]⟩
abbrev S_ : Shape := ⟨0, ![]⟩
abbrev S1024x8960 : Shape := ⟨2, ![1024, 8960]⟩
abbrev S8960x1024 : Shape := ⟨2, ![8960, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x8960, .bf16⟩
  | .hbm, ⟨2, _⟩ => ⟨S_, .f32⟩
  | .hbm, ⟨3, _⟩ => ⟨S1024x8960, .f32⟩
  | .hbm, ⟨4, _⟩ => ⟨S8448x1024, .f32⟩
  | .hbm, ⟨5, _⟩ => ⟨S8448x8960, .f32⟩
  | .hbm, ⟨6, _⟩ => ⟨S8448x8960, .f32⟩
  | .hbm, ⟨7, _⟩ => ⟨S8960x1024, .f32⟩
  | .hbm, ⟨8, _⟩ => ⟨S1024x8960, .f32⟩
  | .hbm, ⟨9, _⟩ => ⟨S1024x8960, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8448x1024 : Shape := ⟨2, ![8448, 1024]⟩
abbrev S8448x5632 : Shape := ⟨2, ![8448, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x5632, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel3Ideal.lean ====
abbrev S8448x1024 : Shape := ⟨2, ![8448, 1024]⟩
abbrev S8448x5632 : Shape := ⟨2, ![8448, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S1024x5632, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x1024 : Shape := ⟨2, ![8448, 1024]⟩
abbrev S8448x5632 : Shape := ⟨2, ![8448, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5632, .bf16⟩
  | .hbm, ⟨2, _⟩ => ⟨S_, .f32⟩
  | .hbm, ⟨3, _⟩ => ⟨S1024x5632, .f32⟩
  | .hbm, ⟨4, _⟩ => ⟨S8448x1024, .f32⟩
  | .hbm, ⟨5, _⟩ => ⟨S8448x5632, .f32⟩
  | .hbm, ⟨6, _⟩ => ⟨S8448x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel5Ideal.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8448x1280 : Shape := ⟨2, ![8448, 1280]⟩
abbrev S8448x1024 : Shape := ⟨2, ![8448, 1024]⟩
abbrev S1280x1024 : Shape := ⟨2, ![1280, 1024]⟩
abbrev S1408x1280 : Shape := ⟨2, ![1408, 1280]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1280, .bf16⟩
  | .hbm, ⟨1, _⟩ => ⟨S8448x1024, .bf16⟩
  | .hbm, ⟨2, _⟩ => ⟨S1280x1024, .bf16⟩
  | .local _ .vmem, ⟨0, _⟩ => ⟨S1408x1280, .bf16⟩
  | .local _ .vmem, ⟨1, _⟩ => ⟨S1408x1280, .bf16⟩
  | .local _ .vmem, ⟨2, _⟩ => ⟨S1408x1024, .bf16⟩
  | .local _ .vmem, ⟨3, _⟩ => ⟨S1408x1024, .bf16⟩
  | .local _ .vmem, ⟨4, _⟩ => ⟨S1280x1024, .bf16⟩
  | .local _ .vmem, ⟨5, _⟩ => ⟨S1280x1024, .f32⟩
  | _, _ => ⟨S8448x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel6Ideal.lean ====
abbrev S8448x1280 : Shape := ⟨2, ![8448, 1280]⟩
abbrev S8448x1024 : Shape := ⟨2, ![8448, 1024]⟩
abbrev S1280x1024 : Shape := ⟨2, ![1280, 1024]⟩
abbrev S1408x1280 : Shape := ⟨2, ![1408, 1280]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1280, .bf16⟩
  | .hbm, ⟨1, _⟩ => ⟨S8448x1024, .bf16⟩
  | .hbm, ⟨2, _⟩ => ⟨S1280x1024, .bf16⟩
  | .local _ .vmem, ⟨0, _⟩ => ⟨S1408x1280, .bf16⟩
  | .local _ .vmem, ⟨1, _⟩ => ⟨S1408x1280, .bf16⟩
  | .local _ .vmem, ⟨2, _⟩ => ⟨S1408x1024, .bf16⟩
  | .local _ .vmem, ⟨3, _⟩ => ⟨S1408x1024, .bf16⟩
  | .local _ .vmem, ⟨4, _⟩ => ⟨S1280x1024, .bf16⟩
  | .local _ .vmem, ⟨5, _⟩ => ⟨S1280x1024, .f32⟩
  | _, _ => ⟨S8448x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8448x1280 : Shape := ⟨2, ![8448, 1280]⟩
abbrev S8448x1024 : Shape := ⟨2, ![8448, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 10
  | .vmem => 0
  | .smem => 0
  | _ => 0

abbrev bufTy : (tb : Table) → Fin (tcTables nBuf tb) → BufTy
  | .hbm, ⟨0, _⟩ => ⟨S8448x1280, .bf16⟩
  | .hbm, ⟨1, _⟩ => ⟨S8448x1024, .bf16⟩
  | .hbm, ⟨2, _⟩ => ⟨S_, .f32⟩
  | .hbm, ⟨3, _⟩ => ⟨S1280x1024, .f32⟩
  | .hbm, ⟨4, _⟩ => ⟨S8448x1280, .f32⟩
  | .hbm, ⟨5, _⟩ => ⟨S8448x1024, .f32⟩
  | .hbm, ⟨6, _⟩ => ⟨S8448x1024, .f32⟩
  | .hbm, ⟨7, _⟩ => ⟨S1024x1280, .f32⟩
  | .hbm, ⟨8, _⟩ => ⟨S1280x1024, .f32⟩
  | .hbm, ⟨9, _⟩ => ⟨S1280x1024, .bf16⟩
  | _, _ => ⟨S8448x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel7Ideal.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8448x1024 : Shape := ⟨2, ![8448, 1024]⟩
abbrev S1280x1024 : Shape := ⟨2, ![1280, 1024]⟩
abbrev S8448x1280 : Shape := ⟨2, ![8448, 1280]⟩
abbrev S768x1024 : Shape := ⟨2, ![768, 1024]⟩
abbrev S768x1280 : Shape := ⟨2, ![768, 1280]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1280x1024, .bf16⟩
  | .hbm, ⟨2, _⟩ => ⟨S8448x1280, .bf16⟩
  | .local _ .vmem, ⟨0, _⟩ => ⟨S768x1024, .bf16⟩
  | .local _ .vmem, ⟨1, _⟩ => ⟨S768x1024, .bf16⟩
  | .local _ .vmem, ⟨2, _⟩ => ⟨S1280x1024, .bf16⟩
  | .local _ .vmem, ⟨3, _⟩ => ⟨S768x1280, .bf16⟩
  | .local _ .vmem, ⟨4, _⟩ => ⟨S768x1280, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S8448x1024 : Shape := ⟨2, ![8448, 1024]⟩
abbrev S1280x1024 : Shape := ⟨2, ![1280, 1024]⟩
abbrev S8448x1280 : Shape := ⟨2, ![8448, 1280]⟩
abbrev S768x1024 : Shape := ⟨2, ![768, 1024]⟩
abbrev S768x1280 : Shape := ⟨2, ![768, 1280]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1280x1024, .bf16⟩
  | .hbm, ⟨2, _⟩ => ⟨S8448x1280, .bf16⟩
  | .local _ .vmem, ⟨0, _⟩ => ⟨S768x1024, .bf16⟩
  | .local _ .vmem, ⟨1, _⟩ => ⟨S768x1024, .bf16⟩
  | .local _ .vmem, ⟨2, _⟩ => ⟨S1280x1024, .bf16⟩
  | .local _ .vmem, ⟨3, _⟩ => ⟨S768x1280, .bf16⟩
  | .local _ .vmem, ⟨4, _⟩ => ⟨S768x1280, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x1024 : Shape := ⟨2, ![8448, 1024]⟩
abbrev S1280x1024 : Shape := ⟨2, ![1280, 1024]⟩
abbrev S_ : Shape := ⟨0, ![]⟩
abbrev S8448x1280 : Shape := ⟨2, ![8448, 1280]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1280x1024, .bf16⟩
  | .hbm, ⟨2, _⟩ => ⟨S_, .f32⟩
  | .hbm, ⟨3, _⟩ => ⟨S8448x1280, .f32⟩
  | .hbm, ⟨4, _⟩ => ⟨S1280x1024, .f32⟩
  | .hbm, ⟨5, _⟩ => ⟨S8448x1024, .f32⟩
  | .hbm, ⟨6, _⟩ => ⟨S8448x1024, .f32⟩
  | .hbm, ⟨7, _⟩ => ⟨S8448x1280, .f32⟩
  | .hbm, ⟨8, _⟩ => ⟨S8448x1280, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
  ![arg1.toNat, arg2.toNat]
-- ==== Reference9Ideal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8448x1280 : Shape := ⟨2, ![8448, 1280]⟩
abbrev S1280x1024 : Shape := ⟨2, ![1280, 1024]⟩
abbrev S8448x1024 : Shape := ⟨2, ![8448, 1024]⟩
abbrev S768x1280 : Shape := ⟨2, ![768, 1280]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1280, .bf16⟩
  | .hbm, ⟨1, _⟩ => ⟨S1280x1024, .bf16⟩
  | .hbm, ⟨2, _⟩ => ⟨S8448x1024, .bf16⟩
  | .local _ .vmem, ⟨0, _⟩ => ⟨S768x1280, .bf16⟩
  | .local _ .vmem, ⟨1, _⟩ => ⟨S768x1280, .bf16⟩
  | .local _ .vmem, ⟨2, _⟩ => ⟨S1280x1024, .bf16⟩
  | .local _ .vmem, ⟨3, _⟩ => ⟨S768x1024, .bf16⟩
  | .local _ .vmem, ⟨4, _⟩ => ⟨S768x1024, .bf16⟩
  | _, _ => ⟨S8448x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S8448x1280 : Shape := ⟨2, ![8448, 1280]⟩
abbrev S1280x1024 : Shape := ⟨2, ![1280, 1024]⟩
abbrev S8448x1024 : Shape := ⟨2, ![8448, 1024]⟩
abbrev S768x1280 : Shape := ⟨2, ![768, 1280]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1280, .bf16⟩
  | .hbm, ⟨1, _⟩ => ⟨S1280x1024, .bf16⟩
  | .hbm, ⟨2, _⟩ => ⟨S8448x1024, .bf16⟩
  | .local _ .vmem, ⟨0, _⟩ => ⟨S768x1280, .bf16⟩
  | .local _ .vmem, ⟨1, _⟩ => ⟨S768x1280, .bf16⟩
  | .local _ .vmem, ⟨2, _⟩ => ⟨S1280x1024, .bf16⟩
  | .local _ .vmem, ⟨3, _⟩ => ⟨S768x1024, .bf16⟩
  | .local _ .vmem, ⟨4, _⟩ => ⟨S768x1024, .bf16⟩
  | _, _ => ⟨S8448x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8448x1280 : Shape := ⟨2, ![8448, 1280]⟩
abbrev S1280x1024 : Shape := ⟨2, ![1280, 1024]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1280, .bf16⟩
  | .hbm, ⟨1, _⟩ => ⟨S1280x1024, .bf16⟩
  | .hbm, ⟨2, _⟩ => ⟨S8448x1280, .f32⟩
  | .hbm, ⟨3, _⟩ => ⟨S1280x1024, .f32⟩
  | .hbm, ⟨4, _⟩ => ⟨S8448x1024, .f32⟩
  | .hbm, ⟨5, _⟩ => ⟨S8448x1024, .bf16⟩
  | _, _ => ⟨S8448x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8448x5632 : Shape := ⟨2, ![8448, 5632]⟩
abbrev S1024x5632 : Shape := ⟨2, ![1024, 5632]⟩
abbrev S8448x1024 : Shape := ⟨2, ![8448, 1024]⟩
abbrev S1x1024 : Shape := ⟨2, ![1, 1024]⟩
abbrev S768x1408 : Shape := ⟨2, ![768, 1408]⟩
abbrev S1024x1408 : Shape := ⟨2, ![1024, 1408]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8448x1024, .bf16⟩
  | .hbm, ⟨7, _⟩ => ⟨S1x1024, .f32⟩
  | .local _ .vmem, ⟨0, _⟩ => ⟨S768x1408, .bf16⟩
  | .local _ .vmem, ⟨1, _⟩ => ⟨S768x1408, .bf16⟩
  | .local _ .vmem, ⟨2, _⟩ => ⟨S1024x1408, .bf16⟩
  | .local _ .vmem, ⟨3, _⟩ => ⟨S1024x1408, .bf16⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .bf16⟩
  | .local _ .vmem, ⟨12, _⟩ => ⟨S768x1024, .bf16⟩
  | .local _ .vmem, ⟨13, _⟩ => ⟨S1x1024, .f32⟩
  | .local _ .vmem, ⟨14, _⟩ => ⟨S768x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_11 : BitVec 32 := 0#32
  let v15 : BitVec 1 := Scalar.cmpi .eq arg0 c0_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference12Ideal.lean ====
abbrev S8448x5632 : Shape := ⟨2, ![8448, 5632]⟩
abbrev S1024x5632 : Shape := ⟨2, ![1024, 5632]⟩
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S1024x5632, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S1024x5632, .f32⟩
  | .hbm, ⟨25, _⟩ => ⟨S8448x5632, .f32⟩
  | .hbm, ⟨26, _⟩ => ⟨S8448x5632, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S_, .f32⟩
  | .hbm, ⟨36, _⟩ => ⟨S8448, .f32⟩
  | .hbm, ⟨37, _⟩ => ⟨S8448x1, .f32⟩
  | .hbm, ⟨38, _⟩ => ⟨S8448x1024, .f32⟩
  | .hbm, ⟨39, _⟩ => ⟨S8448x1024, .f32⟩
  | .hbm, ⟨40, _⟩ => ⟨S8448x1, .f32⟩
  | .hbm, ⟨41, _⟩ => ⟨S_, .f32⟩
  | .hbm, ⟨42, _⟩ => ⟨S8448x1, .f32⟩
  | .hbm, ⟨43, _⟩ => ⟨S8448x1, .f32⟩
  | .hbm, ⟨44, _⟩ => ⟨S_, .f32⟩
  | .hbm, ⟨45, _⟩ => ⟨S8448, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel13.lean ====
abbrev S8448x8960 : Shape := ⟨2, ![8448, 8960]⟩
abbrev S1024x8960 : Shape := ⟨2, ![1024, 8960]⟩
abbrev S8448x1024 : Shape := ⟨2, ![8448, 1024]⟩
abbrev S1x1024 : Shape := ⟨2, ![1, 1024]⟩
abbrev S768x1792 : Shape := ⟨2, ![768, 1792]⟩
abbrev S1024x1792 : Shape := ⟨2, ![1024, 1792]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8448x8960, .bf16⟩
  | .hbm, ⟨1, _⟩ => ⟨S1024x8960, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S1x1024, .f32⟩
  | .local _ .vmem, ⟨0, _⟩ => ⟨S768x1792, .bf16⟩
  | .local _ .vmem, ⟨1, _⟩ => ⟨S768x1792, .bf16⟩
  | .local _ .vmem, ⟨2, _⟩ => ⟨S1024x1792, .bf16⟩
  | .local _ .vmem, ⟨3, _⟩ => ⟨S1024x1792, .bf16⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S1x1024, .f32⟩
  | .local _ .vmem, ⟨12, _⟩ => ⟨S768x1024, .f32⟩
  | _, _ => ⟨S8448x8960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![11, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_11 : BitVec 32 := 0#32
  let v15 : BitVec 1 := Scalar.cmpi .eq arg0 c0_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference13Ideal.lean ====
abbrev S8448x8960 : Shape := ⟨2, ![8448, 8960]⟩
abbrev S1024x8960 : Shape := ⟨2, ![1024, 8960]⟩
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8448x8960, .bf16⟩
  | .hbm, ⟨1, _⟩ => ⟨S1024x8960, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S_, .f32⟩
  | .hbm, ⟨7, _⟩ => ⟨S8448, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S1024x8960, .f32⟩
  | .hbm, ⟨25, _⟩ => ⟨S8448x8960, .f32⟩
  | .hbm, ⟨26, _⟩ => ⟨S8448x8960, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S_, .f32⟩
  | .hbm, ⟨36, _⟩ => ⟨S8448, .f32⟩
  | .hbm, ⟨37, _⟩ => ⟨S8448x1, .f32⟩
  | .hbm, ⟨38, _⟩ => ⟨S8448x1024, .f32⟩
  | .hbm, ⟨39, _⟩ => ⟨S8448x1024, .f32⟩
  | .hbm, ⟨40, _⟩ => ⟨S8448x1, .f32⟩
  | .hbm, ⟨41, _⟩ => ⟨S_, .f32⟩
  | .hbm, ⟨42, _⟩ => ⟨S8448x1, .f32⟩
  | .hbm, ⟨43, _⟩ => ⟨S8448x1, .f32⟩
  | .hbm, ⟨44, _⟩ => ⟨S_, .f32⟩
  | .hbm, ⟨45, _⟩ => ⟨S8448, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | _, _ => ⟨S8448x8960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.FwdRun.lean ====
/-
The forward recurrence kernel on any staging buffers: one run of its body, with what it leaves in each buffer as a
function of the blocks it is handed and of the state it carries in.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.RG

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- Whether a point is the first of the grid's inner axis, as the body computes it. -/
abbrev first0 (i : grid0.Coords) : Prop :=
  (Scalar.cmpi .ne (Scalar.extui (Scalar.cmpi .eq (BitVec.ofNat 32 (i 1).val) 0#32)) 0#32) = 1#1

/-- The buffers the forward body works on: seven operands, two results, the carried state. -/
structure Bufs0 where
  a2 : Memref sig .tc .vmem S256x1280 .bf16
  h2 : a2.IsWhole
  a3 : Memref sig .tc .vmem S256x1280 .bf16
  h3 : a3.IsWhole
  a4 : Memref sig .tc .vmem S256x1280 .bf16
  h4 : a4.IsWhole
  a5 : Memref sig .tc .vmem S256x1280 .bf16
  h5 : a5.IsWhole
  a6 : Memref sig .tc .vmem S1x1280 .f32
  h6 : a6.IsWhole
  a7 : Memref sig .tc .vmem S1x1280 .f32
  h7 : a7.IsWhole
  a8 : Memref sig .tc .vmem S1x1280 .f32
  h8 : a8.IsWhole
  a9 : Memref sig .tc .vmem S256x1280 .f32
  h9 : a9.IsWhole
  a10 : Memref sig .tc .vmem S256x1280 .bf16
  h10 : a10.IsWhole
  a11 : Memref sig .tc .vmem S1x1280 .f32
  h11 : a11.IsWhole

variable (F) in
/-- The blocks the forward body is handed. -/
structure Ins0 where
  gr : Vec F S256x1280 .bf16
  gi : Vec F S256x1280 .bf16
  xc : Vec F S256x1280 .bf16
  ag : Vec F S256x1280 .bf16
  ba : Vec F S1x1280 .f32
  bx : Vec F S1x1280 .f32
  lam : Vec F S1x1280 .f32

/-- The body's call on the buffers `M`. -/
abbrev body0 (i : grid0.Coords) (M : Bufs0) : Prog (TpuEff nD τ sig (Elt F) Λ₀ .tc) PUnit :=
  cc0_rg_fwd i M.a2 M.h2 M.a3 M.h3 M.a4 M.h4 M.a5 M.h5 M.a6 M.h6 M.a7 M.h7 M.a8 M.h8 M.a9 M.h9 M.a10 M.h10 M.a11 M.h11

/-- The operands' buffers at their blocks. -/
abbrev ins0 (c : Dev nD) (M : Bufs0) (x : Ins0 F) : sProp 𝕄 :=
  iprop(owns (c : Thread nD τ) M.a2 fullShare x.gr ∗ owns (c : Thread nD τ) M.a3 fullShare x.gi
    ∗ owns (c : Thread nD τ) M.a4 fullShare x.xc ∗ owns (c : Thread nD τ) M.a5 fullShare x.ag
    ∗ owns (c : Thread nD τ) M.a6 fullShare x.ba ∗ owns (c : Thread nD τ) M.a7 fullShare x.bx
    ∗ owns (c : Thread nD τ) M.a8 fullShare x.lam)

/-- The rows' numbers within half a strip. -/
abbrev sub8 : IVec S8x1280 32 := iota .tc S8x1280 32 [0] iota_S8x1280_d0_w32

/-- The state of the strip loop before strip `k`, from the state `init` carried in: the state it carries, and what it
    has stored in the two results' buffers. -/
abbrev st0 (c : Dev nD) (i : grid0.Coords) (M : Bufs0) (x : Ins0 F) (init : Vec F S1x1280 .f32) (k : ℕ) :
    Vec F S1x1280 .f32 × List (View.Piece (Elt F) S256x1280 .f32) × List (View.Piece (Elt F) S256x1280 .bf16) :=
  st_k0_t1 (F := F) Variants.none c none i M.a2 M.h2 M.a3 M.h3 M.a4 M.h4 M.a5 M.h5 M.a6 M.h6 M.a7 M.h7 M.a8 M.h8 M.a9 M.h9
    M.a10 M.h10 M.a11 M.h11 (BitVec.ofNat 32 (i 1).val) x.ba x.bx x.lam sub8 (M.h2.unread x.gr) (M.h3.unread x.gi)
    (M.h4.unread x.xc) (M.h5.unread x.ag) init k

/-- The first result's block. -/
def hBlk (c : Dev nD) (i : grid0.Coords) (M : Bufs0) (x : Ins0 F) (init : Vec F S1x1280 .f32) : Vec F S256x1280 .f32 :=
  View.canon (st0 c i M x init 16).2.1

/-- The second result's block. -/
def yaBlk (c : Dev nD) (i : grid0.Coords) (M : Bufs0) (x : Ins0 F) (init : Vec F S1x1280 .f32) : Vec F S256x1280 .bf16 :=
  View.canon (st0 c i M x init 16).2.2

/-- The state carried out. -/
def carry0 (c : Dev nD) (i : grid0.Coords) (M : Bufs0) (x : Ins0 F) (init : Vec F S1x1280 .f32) : Vec F S1x1280 .f32 :=
  k0_pay5 (st0 c i M x init 16).1

theorem cover_h (c : Dev nD) (i : grid0.Coords) (M : Bufs0) (x : Ins0 F) (init : Vec F S1x1280 .f32) (y : S256x1280.Idx) :
    ∃ p ∈ (st0 c i M x init 16).2.1, y ∈ p.1.set :=
  View.cover_of_tiledL (st0 c i M x init 16).2.1 S16x1280.size (by sl_kernel_rfl) y

theorem cover_ya (c : Dev nD) (i : grid0.Coords) (M : Bufs0) (x : Ins0 F) (init : Vec F S1x1280 .f32) (y : S256x1280.Idx) :
    ∃ p ∈ (st0 c i M x init 16).2.2, y ∈ p.1.set :=
  View.cover_of_tiledL (st0 c i M x init 16).2.2 S16x1280.size (by sl_kernel_rfl) y

/-- What the body leaves: the operands as they were, the results' blocks and the state carried out. -/
abbrev outs0 (c : Dev nD) (i : grid0.Coords) (M : Bufs0) (x : Ins0 F) (init : Vec F S1x1280 .f32) : sProp 𝕄 :=
  iprop(ins0 c M x ∗ owns (c : Thread nD τ) M.a9 fullShare (hBlk c i M x init)
    ∗ owns (c : Thread nD τ) M.a10 fullShare (yaBlk c i M x init)
    ∗ owns (c : Thread nD τ) M.a11 fullShare (carry0 c i M x init))

/-- A load of a whole block reads it. -/
theorem full_unread {s : Shape} {e : EltTy} {m : Memref sig .tc .vmem s e} (h : m.IsWhole) (X : s.Idx → Elt F e)
    {off : Fin s.rank → ℕ} (inb : ∀ a, off a + s.size a ≤ s.size a) :
    m.view.readAt (Elt F) (Rect.unit off s.size inb).toLoadRect (h.unread X) = X := by
  rw [View.readAt_full]; exact h.read_unread X

set_option maxHeartbeats 1000000 in
/-- The body at a later point: the state carried in is what the scratch holds. -/
theorem run0B (c : Dev nD) (i : grid0.Coords) (M : Bufs0) (x : Ins0 F) (s : Vec F S1x1280 .f32) (hc : ¬ first0 i) (E : Set ℕ) (K : PUnit → sProp 𝕄) :
    iprop(ins0 c M x ∗ (∃ d, owns (c : Thread nD τ) M.a9 fullShare d)
        ∗ (∃ d, owns (c : Thread nD τ) M.a10 fullShare d) ∗ owns (c : Thread nD τ) M.a11 fullShare s
        ∗ (outs0 c i M x s -∗ K ⟨⟩))
      ⊢ wp frame (wpE (defs₀ (F := F)) Variants.none c none) E (body0 i M) K := by
  simp only [body0, cc0_rg_fwd_eq_skeleton]; unfold cc0_rg_fwd_skel
  unfold outs0 ins0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%fs0, %hs0, HS0⟩, Hk⟩
  obtain rfl := M.h2.eq_unread hf0; obtain rfl := M.h3.eq_unread hf1; obtain rfl := M.h4.eq_unread hf2
  obtain rfl := M.h5.eq_unread hf3; obtain rfl := M.h6.eq_unread hf4; obtain rfl := M.h7.eq_unread hf5
  obtain rfl := M.h8.eq_unread hf6; obtain rfl := M.h11.eq_unread hs0
  sl_exec (disch := first | sl_exact hc)
  sl_step
  iapply Hk
  isplitl [H0 H1 H2 H3 H4 H5 H6]
  · isplitl [H0]
    · iexists _; isplitr; · ipureintro; exact M.h2.read_unread _
      iexact H0
    isplitl [H1]
    · iexists _; isplitr; · ipureintro; exact M.h3.read_unread _
      iexact H1
    isplitl [H2]
    · iexists _; isplitr; · ipureintro; exact M.h4.read_unread _
      iexact H2
    isplitl [H3]
    · iexists _; isplitr; · ipureintro; exact M.h5.read_unread _
      iexact H3
    isplitl [H4]
    · iexists _; isplitr; · ipureintro; exact M.h6.read_unread _
      iexact H4
    isplitl [H5]
    · iexists _; isplitr; · ipureintro; exact M.h7.read_unread _
      iexact H5
    iexists _; isplitr; · ipureintro; exact M.h8.read_unread _
    iexact H6
  isplitl [H7]
  · iexists _; isplitr; swap; · iexact H7
    ipureintro
    rw [full_unread M.h6 x.ba inb_S1x1280_S1x1280_0_0, full_unread M.h7 x.bx inb_S1x1280_S1x1280_0_0, full_unread M.h8 x.lam inb_S1x1280_S1x1280_0_0, full_unread M.h11 s inb_S1x1280_S1x1280_0_0]
    exact View.read_writes_eq_canon _ _ _ (cover_h c i M x s)
  isplitl [H8]
  · iexists _; isplitr; swap; · iexact H8
    ipureintro
    rw [full_unread M.h6 x.ba inb_S1x1280_S1x1280_0_0, full_unread M.h7 x.bx inb_S1x1280_S1x1280_0_0, full_unread M.h8 x.lam inb_S1x1280_S1x1280_0_0, full_unread M.h11 s inb_S1x1280_S1x1280_0_0]
    exact View.read_writes_eq_canon _ _ _ (cover_ya c i M x s)
  iexists _; isplitr; swap; · iexact HS0
  ipureintro
  rw [full_unread M.h6 x.ba inb_S1x1280_S1x1280_0_0, full_unread M.h7 x.bx inb_S1x1280_S1x1280_0_0, full_unread M.h8 x.lam inb_S1x1280_S1x1280_0_0, full_unread M.h11 s inb_S1x1280_S1x1280_0_0]
  exact View.read_writes_full _ _ inb_S1x1280_S1x1280_0_0 _ _

set_option maxHeartbeats 1000000 in
/-- The body at the first point: the state carried in is zero, whatever the scratch holds. -/
theorem run0A (c : Dev nD) (i : grid0.Coords) (M : Bufs0) (x : Ins0 F) (hc : first0 i) (E : Set ℕ) (K : PUnit → sProp 𝕄) :
    iprop(ins0 c M x ∗ (∃ d, owns (c : Thread nD τ) M.a9 fullShare d)
        ∗ (∃ d, owns (c : Thread nD τ) M.a10 fullShare d) ∗ (∃ d, owns (c : Thread nD τ) M.a11 fullShare d)
        ∗ (outs0 c i M x (k0_pay1 (F := F)) -∗ K ⟨⟩))
      ⊢ wp frame (wpE (defs₀ (F := F)) Variants.none c none) E (body0 i M) K := by
  simp only [body0, cc0_rg_fwd_eq_skeleton]; unfold cc0_rg_fwd_skel
  unfold outs0 ins0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%ds0, %fs0, -, HS0⟩, Hk⟩
  obtain rfl := M.h2.eq_unread hf0; obtain rfl := M.h3.eq_unread hf1; obtain rfl := M.h4.eq_unread hf2
  obtain rfl := M.h5.eq_unread hf3; obtain rfl := M.h6.eq_unread hf4; obtain rfl := M.h7.eq_unread hf5
  obtain rfl := M.h8.eq_unread hf6
  sl_exec (disch := first | sl_exact hc)
  sl_step
  iapply Hk
  isplitl [H0 H1 H2 H3 H4 H5 H6]
  · isplitl [H0]
    · iexists _; isplitr; · ipureintro; exact M.h2.read_unread _
      iexact H0
    isplitl [H1]
    · iexists _; isplitr; · ipureintro; exact M.h3.read_unread _
      iexact H1
    isplitl [H2]
    · iexists _; isplitr; · ipureintro; exact M.h4.read_unread _
      iexact H2
    isplitl [H3]
    · iexists _; isplitr; · ipureintro; exact M.h5.read_unread _
      iexact H3
    isplitl [H4]
    · iexists _; isplitr; · ipureintro; exact M.h6.read_unread _
      iexact H4
    isplitl [H5]
    · iexists _; isplitr; · ipureintro; exact M.h7.read_unread _
      iexact H5
    iexists _; isplitr; · ipureintro; exact M.h8.read_unread _
    iexact H6
  isplitl [H7]
  · iexists _; isplitr; swap; · iexact H7
    ipureintro
    rw [full_unread M.h6 x.ba inb_S1x1280_S1x1280_0_0, full_unread M.h7 x.bx inb_S1x1280_S1x1280_0_0, full_unread M.h8 x.lam inb_S1x1280_S1x1280_0_0, show run0A.sl.v7 c M = k0_pay1 (F := F) from View.readCov_full (s := S1x1280) _ inb_S1x1280_S1x1280_0_0 inb_S1x1280_S1x1280_0_0 _ _]
    exact View.read_writes_eq_canon _ _ _ (cover_h c i M x (k0_pay1 (F := F)))
  isplitl [H8]
  · iexists _; isplitr; swap; · iexact H8
    ipureintro
    rw [full_unread M.h6 x.ba inb_S1x1280_S1x1280_0_0, full_unread M.h7 x.bx inb_S1x1280_S1x1280_0_0, full_unread M.h8 x.lam inb_S1x1280_S1x1280_0_0, show run0A.sl.v7 c M = k0_pay1 (F := F) from View.readCov_full (s := S1x1280) _ inb_S1x1280_S1x1280_0_0 inb_S1x1280_S1x1280_0_0 _ _]
    exact View.read_writes_eq_canon _ _ _ (cover_ya c i M x (k0_pay1 (F := F)))
  iexists _; isplitr; swap; · iexact HS0
  ipureintro
  rw [full_unread M.h6 x.ba inb_S1x1280_S1x1280_0_0, full_unread M.h7 x.bx inb_S1x1280_S1x1280_0_0, full_unread M.h8 x.lam inb_S1x1280_S1x1280_0_0, show run0A.sl.v7 c M = k0_pay1 (F := F) from View.readCov_full (s := S1x1280) _ inb_S1x1280_S1x1280_0_0 inb_S1x1280_S1x1280_0_0 _ _]
  exact View.read_writes_full _ _ inb_S1x1280_S1x1280_0_0 _ _

end Cert.KernelIdeal.RG

end
-- ==== Proof.FwdDat.lean ====
/-
The forward recurrence call as a pipeline: what each point is handed, the state carried from point to point, what each
point leaves, and the body's obligation at every point.
-/
module

public import proofs.«01_k».proof.Proof.FwdRun
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.RG

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev ms0_0 (t : Fin cfg0.N) := win0_0.stage (cfg0.slots t 0)
theorem hs0_0 (t : Fin cfg0.N) : (ms0_0 t).IsWhole := hstage0_0 ((cfg0.slots t 0).cast nbuf0_0)
abbrev ms0_1 (t : Fin cfg0.N) := win0_1.stage (cfg0.slots t 1)
theorem hs0_1 (t : Fin cfg0.N) : (ms0_1 t).IsWhole := hstage0_1 ((cfg0.slots t 1).cast nbuf0_1)
abbrev ms0_2 (t : Fin cfg0.N) := win0_2.stage (cfg0.slots t 2)
theorem hs0_2 (t : Fin cfg0.N) : (ms0_2 t).IsWhole := hstage0_2 ((cfg0.slots t 2).cast nbuf0_2)
abbrev ms0_3 (t : Fin cfg0.N) := win0_3.stage (cfg0.slots t 3)
theorem hs0_3 (t : Fin cfg0.N) : (ms0_3 t).IsWhole := hstage0_3 ((cfg0.slots t 3).cast nbuf0_3)
abbrev ms0_4 (t : Fin cfg0.N) := win0_4.stage (cfg0.slots t 4)
theorem hs0_4 (t : Fin cfg0.N) : (ms0_4 t).IsWhole := hstage0_4 ((cfg0.slots t 4).cast nbuf0_4)
abbrev ms0_5 (t : Fin cfg0.N) := win0_5.stage (cfg0.slots t 5)
theorem hs0_5 (t : Fin cfg0.N) : (ms0_5 t).IsWhole := hstage0_5 ((cfg0.slots t 5).cast nbuf0_5)
abbrev ms0_6 (t : Fin cfg0.N) := win0_6.stage (cfg0.slots t 6)
theorem hs0_6 (t : Fin cfg0.N) : (ms0_6 t).IsWhole := hstage0_6 ((cfg0.slots t 6).cast nbuf0_6)
abbrev ms0_7 (t : Fin cfg0.N) := win0_7.stage (cfg0.slots t 7)
theorem hs0_7 (t : Fin cfg0.N) : (ms0_7 t).IsWhole := hstage0_7 ((cfg0.slots t 7).cast nbuf0_7)
abbrev ms0_8 (t : Fin cfg0.N) := win0_8.stage (cfg0.slots t 8)
theorem hs0_8 (t : Fin cfg0.N) : (ms0_8 t).IsWhole := hstage0_8 ((cfg0.slots t 8).cast nbuf0_8)

/-- The block window `w` stages at point `t`, of the array as the region finds it. -/
abbrev iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The condition the body tests holds at the first point only. -/
theorem hfirst0 : ∀ t : Fin grid0.N, first0 (grid0.coords t) ↔ t.val = 0 := fun t => by
  have ht : t.val < 33 := Nat.lt_of_lt_of_eq t.isLt N_0
  have e1 : (grid0.coords t 1).val = t.val / 1 % 33 := Pipeline.Grid.coords_val t 1 (by decide) rfl
  simp only [first0, e1]
  word_cmp

/-- The buffers of point `t`. -/
abbrev M0 (t : Fin cfg0.N) : Bufs0 where
  a2 := ms0_0 t
  h2 := hs0_0 t
  a3 := ms0_1 t
  h3 := hs0_1 t
  a4 := ms0_2 t
  h4 := hs0_2 t
  a5 := ms0_3 t
  h5 := hs0_3 t
  a6 := ms0_4 t
  h6 := hs0_4 t
  a7 := ms0_5 t
  h7 := hs0_5 t
  a8 := ms0_6 t
  h8 := hs0_6 t
  a9 := ms0_7 t
  h9 := hs0_7 t
  a10 := ms0_8 t
  h10 := hs0_8 t
  a11 := Memref.whole cc0_scratch0
  h11 := Memref.isWhole_whole _

/-- The blocks point `t` is handed. -/
abbrev x0 (c : Dev nD) (t : Fin cfg0.N) : Ins0 F where
  gr := iblk0 V c 0 t
  gi := iblk0 V c 1 t
  xc := iblk0 V c 2 t
  ag := iblk0 V c 3 t
  ba := iblk0 V c 4 t
  bx := iblk0 V c 5 t
  lam := iblk0 V c 6 t

/-- The state before point `n`: zero before the first. -/
def cin0 (c : Dev nD) : ℕ → Vec F S1x1280 .f32
  | 0 => k0_pay1
  | n + 1 => if h : n < cfg0.N then carry0 c (grid0.coords ⟨n, h⟩) (M0 ⟨n, h⟩) (x0 V c ⟨n, h⟩) (cin0 c n) else cin0 c n

theorem cin0_succ (c : Dev nD) (t : Fin cfg0.N) : cin0 V c (t.val + 1) = carry0 c (grid0.coords t) (M0 t) (x0 V c t) (cin0 V c t.val) := by
  rw [cin0, dif_pos t.isLt]

/-- The proof data: the arrays as the region finds them; after point `t` each operand's buffer at its block, the two
    results' at the point's blocks; between points the scratch buffer at the carried state. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => hBlk c (grid0.coords t) (M0 t) (x0 V c t) (cin0 V c t.val)
    | ⟨8, _⟩ => yaBlk c (grid0.coords t) (M0 t) (x0 V c t) (cin0 V c t.val)
  Φ n := iprop((if n.val = 0 then iprop(∃ d, owns (c : Thread nD τ) (Memref.whole cc0_scratch0) fullShare d)
      else owns (c : Thread nD τ) (Memref.whole cc0_scratch0) fullShare (cin0 V c n.val))
    ∗ Pipeline.scopedRestBut (Ix := Unit) (Name := ℕ) (U := UR sig nD τ) (Lvl := ℕ) (Val := Elt F) spec0 c [cc0_scratch0])
  q w := Pipeline.shareOf spec0 w
  owed _ := 0

theorem A0_eq (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = hBlk c (grid0.coords t) (M0 t) (x0 V c t) (cin0 V c t.val) := by dsimp only [dat0]
theorem after0_8 (c : Dev nD) (t : Fin cfg0.N) : (dat0 V c).after 8 t = yaBlk c (grid0.coords t) (M0 t) (x0 V c t) (cin0 V c t.val) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]; try rfl) t d).trans (by unfold Dat.fetched Dat.blockOf iblk0; rw [A0_eq]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0_eq]; try rfl) t d).trans (by unfold Dat.fetched Dat.blockOf iblk0; rw [A0_eq]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A0_eq]; try rfl) t d).trans (by unfold Dat.fetched Dat.blockOf iblk0; rw [A0_eq]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A0_eq]; try rfl) t d).trans (by unfold Dat.fetched Dat.blockOf iblk0; rw [A0_eq]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A0_eq]; try rfl) t d).trans (by unfold Dat.fetched Dat.blockOf iblk0; rw [A0_eq]; try rfl)

/-- What the body is called with at point `t`, the windows one by one. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- What the body returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 1600000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8]
  have hs : (dat0 V c).Φ t.succ = iprop(owns (c : Thread nD τ) (Memref.whole cc0_scratch0) fullShare (carry0 c (grid0.coords t) (M0 t) (x0 V c t) (cin0 V c t.val))
      ∗ Pipeline.scopedRestBut (Ix := Unit) (Name := ℕ) (U := UR sig nD τ) (Lvl := ℕ) (Val := Elt F) spec0 c [cc0_scratch0]) := by
    dsimp only [dat0]
    rw [if_neg (by simp), Fin.val_succ, cin0_succ]
  rw [hs]
  by_cases h0 : t.val = 0
  · have hc : (dat0 V c).Φ t.castSucc = iprop((∃ d, owns (c : Thread nD τ) (Memref.whole cc0_scratch0) fullShare d)
      ∗ Pipeline.scopedRestBut (Ix := Unit) (Name := ℕ) (U := UR sig nD τ) (Lvl := ℕ) (Val := Elt F) spec0 c [cc0_scratch0]) := by
      dsimp only [dat0]
      rw [if_pos (by simpa using h0)]
    rw [hc, show cin0 V c t.val = k0_pay1 from by rw [h0]; rfl]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0A c (grid0.coords t) (M0 t) (x0 V c t) ((hfirst0 t).mpr h0) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [HS]; · iexact HS
    iintro ⟨⟨H0, H1, H2, H3, H4, H5, H6⟩, H7, H8, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc : (dat0 V c).Φ t.castSucc = iprop(owns (c : Thread nD τ) (Memref.whole cc0_scratch0) fullShare (cin0 V c t.val)
      ∗ Pipeline.scopedRestBut (Ix := Unit) (Name := ℕ) (U := UR sig nD τ) (Lvl := ℕ) (Val := Elt F) spec0 c [cc0_scratch0]) := by
      dsimp only [dat0]
      rw [if_neg (by simpa using h0)]; rfl
    rw [hc]
    iintro ⟨⟨HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0B c (grid0.coords t) (M0 t) (x0 V c t) (cin0 V c t.val) (fun h => h0 ((hfirst0 t).mp h)) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [HS]; · iexact HS
    iintro ⟨⟨H0, H1, H2, H3, H4, H5, H6⟩, H7, H8, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body. -/
theorem row0 (t : Fin cfg0.N) : defs₀ (F := F) .tc cfg0.body (cfg0.bodyArgs t (cfg0.slots t)) = bodyAt0 t := by
  unfold defs₀; rw [Defs.onTc_tc]

/-- The obligation of the body, at every point. -/
theorem body_obligation0 (c : Dev nD) : BodyObligation (dat0 (F := F) V c) (defs₀ (F := F)) Variants.none () Set.univ := fun t => by
  rw [bigSep_W0, bigSep_W0, row0]
  exact triple_restated (sound_body0 V c t) rfl .rfl fun _ => .rfl

end Cert.KernelIdeal.RG

end
-- ==== Proof.BwdDefs.lean ====
/-
The backward recurrence kernel on any staging buffers: one run of its body, with what it leaves in each buffer as a
function of the blocks it is handed, of the state it carries in and of the sums so far.
-/
module

public import proofs.«01_k».proof.Proof.FwdRun

@[expose] public section

set_option maxRecDepth 16384

noncomputable section

namespace Cert.KernelIdeal.RG

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- Whether a point is the first of the grid's inner axis, as the body computes it. -/
abbrev first1 (i : grid1.Coords) : Prop :=
  (Scalar.cmpi .ne (Scalar.extui (Scalar.cmpi .eq (BitVec.ofNat 32 (i 1).val) 0#32)) 0#32) = 1#1

/-- The buffers the backward body works on: eleven operands, six results, three scratch buffers. -/
structure Bufs1 where
  a2 : Memref sig .tc .vmem S256x1280 .bf16
  h2 : a2.IsWhole
  a3 : Memref sig .tc .vmem S256x1280 .f32
  h3 : a3.IsWhole
  a4 : Memref sig .tc .vmem S8x1280 .f32
  h4 : a4.IsWhole
  a5 : Memref sig .tc .vmem S256x1280 .bf16
  h5 : a5.IsWhole
  a6 : Memref sig .tc .vmem S256x1280 .bf16
  h6 : a6.IsWhole
  a7 : Memref sig .tc .vmem S256x1280 .bf16
  h7 : a7.IsWhole
  a8 : Memref sig .tc .vmem S256x1280 .bf16
  h8 : a8.IsWhole
  a9 : Memref sig .tc .vmem S1x1280 .f32
  h9 : a9.IsWhole
  a10 : Memref sig .tc .vmem S1x1280 .f32
  h10 : a10.IsWhole
  a11 : Memref sig .tc .vmem S1x1280 .f32
  h11 : a11.IsWhole
  a12 : Memref sig .tc .hbm S8448x8960 .bf16
  h12 : a12.IsWhole
  a13 : Memref sig .tc .vmem S256x2560 .bf16
  h13 : a13.IsWhole
  a14 : Memref sig .tc .vmem S256x1280 .bf16
  h14 : a14.IsWhole
  a15 : Memref sig .tc .vmem S256x1280 .bf16
  h15 : a15.IsWhole
  a16 : Memref sig .tc .vmem S1x1280 .f32
  h16 : a16.IsWhole
  a17 : Memref sig .tc .vmem S1x1280 .f32
  h17 : a17.IsWhole
  a18 : Memref sig .tc .vmem S1x1280 .f32
  h18 : a18.IsWhole
  a19 : Memref sig .tc .vmem S24x1280 .f32
  h19 : a19.IsWhole
  a20 : Memref sig .tc .vmem S3x8x1280 .f32
  h20 : a20.IsWhole
  a21 : Memref sig .tc .vmem S1x1280 .f32
  h21 : a21.IsWhole

variable (F) in
/-- The blocks the backward body is handed. -/
structure Ins1 where
  dya : Vec F S256x1280 .bf16
  h : Vec F S256x1280 .f32
  hh : Vec F S8x1280 .f32
  gr : Vec F S256x1280 .bf16
  gi : Vec F S256x1280 .bf16
  xc : Vec F S256x1280 .bf16
  ag : Vec F S256x1280 .bf16
  ba : Vec F S1x1280 .f32
  bx : Vec F S1x1280 .f32
  lam : Vec F S1x1280 .f32

/-- The body's call on the buffers `M`. -/
abbrev body1 (i : grid1.Coords) (M : Bufs1) : Prog (TpuEff nD τ sig (Elt F) Λ₀ .tc) PUnit :=
  cc1_rg_bwd i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21

/-- The operands' buffers at their blocks. -/
abbrev ins1 (c : Dev nD) (M : Bufs1) (x : Ins1 F) : sProp 𝕄 :=
  iprop(owns (c : Thread nD τ) M.a2 fullShare x.dya ∗ owns (c : Thread nD τ) M.a3 fullShare x.h ∗ owns (c : Thread nD τ) M.a4 fullShare x.hh ∗ owns (c : Thread nD τ) M.a5 fullShare x.gr ∗ owns (c : Thread nD τ) M.a6 fullShare x.gi ∗ owns (c : Thread nD τ) M.a7 fullShare x.xc ∗ owns (c : Thread nD τ) M.a8 fullShare x.ag ∗ owns (c : Thread nD τ) M.a9 fullShare x.ba ∗ owns (c : Thread nD τ) M.a10 fullShare x.bx ∗ owns (c : Thread nD τ) M.a11 fullShare x.lam)

/-- The last row of the block of eight rows before the point's. -/
abbrev halo (hh : Vec F S8x1280 .f32) : Vec F S1x1280 .f32 := View.ld hh (Rect.unit (s := S8x1280) ![7, 0] S1x1280.size inb_S8x1280_S1x1280_7_0)

/-- The state of the strip loop before trip `k`, from the state `init` carried in: the state it carries, and what it
    has stored in the three results' buffers and in two of the scratch buffers. -/
abbrev st1 (c : Dev nD) (i : grid1.Coords) (M : Bufs1) (x : Ins1 F) (init : Vec F S1x1280 .f32) (k : ℕ) :
    Vec F S1x1280 .f32 × List (View.Piece (Elt F) S256x2560 .bf16) × List (View.Piece (Elt F) S256x1280 .bf16)
      × List (View.Piece (Elt F) S256x1280 .bf16) × List (View.Piece (Elt F) S24x1280 .f32) × List (View.Piece (Elt F) S3x8x1280 .f32) :=
  st_k1_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21
    (Scalar.subi 32#32 (BitVec.ofNat 32 (i 1).val)) x.ba x.bx x.lam (halo x.hh) sub8
    (M.h2.unread x.dya) (M.h3.unread x.h) (M.h5.unread x.gr) (M.h6.unread x.gi) (M.h7.unread x.xc) (M.h8.unread x.ag)
    M.a13.view.junk M.a14.view.junk M.a15.view.junk M.a19.view.junk (M.h20.unread (k1_pay67 (F := F))) init k

/-- What one trip yields does not depend on what the results' buffers and the row scratch held. -/
theorem tripR_indep (c : Dev nD) (i : grid1.Coords) (M : Bufs1) (v0 : BitVec 32) (v8 v9 v10 v12 : Vec F S1x1280 .f32) (v16 : IVec S8x1280 32)
    (X2 : BufTy.Contents (Elt F) M.a2.view.ty) (X3 : BufTy.Contents (Elt F) M.a3.view.ty) (X5 : BufTy.Contents (Elt F) M.a5.view.ty)
    (X6 : BufTy.Contents (Elt F) M.a6.view.ty) (X7 : BufTy.Contents (Elt F) M.a7.view.ty) (X8 : BufTy.Contents (Elt F) M.a8.view.ty) (k : Fin k1_t1_loop.trips) (acc : Vec F S1x1280 .f32) (G13 G13' : BufTy.Contents (Elt F) M.a13.view.ty) (G14 G14' : BufTy.Contents (Elt F) M.a14.view.ty)
    (G15 G15' : BufTy.Contents (Elt F) M.a15.view.ty) (G19 G19' : BufTy.Contents (Elt F) M.a19.view.ty)
    (G20 : BufTy.Contents (Elt F) M.a20.view.ty) :
    tripR_k1_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 v0 v8 v9 v10 v12 v16 X2 X3 X5 X6 X7 X8 k acc G13 G14 G15 G19 G20
      = tripR_k1_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 v0 v8 v9 v10 v12 v16 X2 X3 X5 X6 X7 X8 k acc G13' G14' G15' G19' G20 := by
  unfold tripR_k1_t1 trip_k1_t1
  rfl

/-- What one trip stores does not depend on what the results' buffers and the row scratch held. -/
theorem tripL_indep (c : Dev nD) (i : grid1.Coords) (M : Bufs1) (v0 : BitVec 32) (v8 v9 v10 v12 : Vec F S1x1280 .f32) (v16 : IVec S8x1280 32)
    (X2 : BufTy.Contents (Elt F) M.a2.view.ty) (X3 : BufTy.Contents (Elt F) M.a3.view.ty) (X5 : BufTy.Contents (Elt F) M.a5.view.ty)
    (X6 : BufTy.Contents (Elt F) M.a6.view.ty) (X7 : BufTy.Contents (Elt F) M.a7.view.ty) (X8 : BufTy.Contents (Elt F) M.a8.view.ty) (k : Fin k1_t1_loop.trips) (acc : Vec F S1x1280 .f32) (G13 G13' : BufTy.Contents (Elt F) M.a13.view.ty) (G14 G14' : BufTy.Contents (Elt F) M.a14.view.ty)
    (G15 G15' : BufTy.Contents (Elt F) M.a15.view.ty) (G19 G19' : BufTy.Contents (Elt F) M.a19.view.ty)
    (G20 : BufTy.Contents (Elt F) M.a20.view.ty) :
    tripL_k1_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 v0 v8 v9 v10 v12 v16 X2 X3 X5 X6 X7 X8 k acc G13 G14 G15 G19 G20
      = tripL_k1_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 v0 v8 v9 v10 v12 v16 X2 X3 X5 X6 X7 X8 k acc G13' G14' G15' G19' G20 := by
  unfold tripL_k1_t1 trip_k1_t1
  rfl

/-- What the strips leave does not depend on what the results' buffers and the row scratch held. -/
theorem st1_indep (c : Dev nD) (i : grid1.Coords) (M : Bufs1) (v0 : BitVec 32) (v8 v9 v10 v12 : Vec F S1x1280 .f32) (v16 : IVec S8x1280 32)
    (X2 : BufTy.Contents (Elt F) M.a2.view.ty) (X3 : BufTy.Contents (Elt F) M.a3.view.ty) (X5 : BufTy.Contents (Elt F) M.a5.view.ty)
    (X6 : BufTy.Contents (Elt F) M.a6.view.ty) (X7 : BufTy.Contents (Elt F) M.a7.view.ty) (X8 : BufTy.Contents (Elt F) M.a8.view.ty) (G13 G13' : BufTy.Contents (Elt F) M.a13.view.ty) (G14 G14' : BufTy.Contents (Elt F) M.a14.view.ty)
    (G15 G15' : BufTy.Contents (Elt F) M.a15.view.ty) (G19 G19' : BufTy.Contents (Elt F) M.a19.view.ty)
    (G20 : BufTy.Contents (Elt F) M.a20.view.ty) (init : Vec F S1x1280 .f32) (k : ℕ) (hk : k ≤ k1_t1_loop.trips) :
    st_k1_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 v0 v8 v9 v10 v12 v16 X2 X3 X5 X6 X7 X8 G13 G14 G15 G19 G20 init k
      = st_k1_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 v0 v8 v9 v10 v12 v16 X2 X3 X5 X6 X7 X8 G13' G14' G15' G19' G20 init k := by
  induction k with
  | zero => rfl
  | succ k ih =>
    obtain ⟨K, rfl⟩ : ∃ K : Fin k1_t1_loop.trips, K.val = k := ⟨⟨k, hk⟩, rfl⟩
    rw [st_k1_t1_succ, st_k1_t1_succ, ih (Nat.le_of_succ_le hk)]
    generalize st_k1_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 v0 v8 v9 v10 v12 v16 X2 X3 X5 X6 X7 X8 G13' G14' G15' G19' G20 init K.val = S
    rw [tripR_indep c i M v0 v8 v9 v10 v12 v16 X2 X3 X5 X6 X7 X8 K S.1 (M.a13.view.writes (Elt F) G13 S.2.1) (M.a13.view.writes (Elt F) G13' S.2.1)
        (M.a14.view.writes (Elt F) G14 S.2.2.1) (M.a14.view.writes (Elt F) G14' S.2.2.1)
        (M.a15.view.writes (Elt F) G15 S.2.2.2.1) (M.a15.view.writes (Elt F) G15' S.2.2.2.1)
        (M.a19.view.writes (Elt F) G19 S.2.2.2.2.1) (M.a19.view.writes (Elt F) G19' S.2.2.2.2.1),
      tripL_indep c i M v0 v8 v9 v10 v12 v16 X2 X3 X5 X6 X7 X8 K S.1 (M.a13.view.writes (Elt F) G13 S.2.1) (M.a13.view.writes (Elt F) G13' S.2.1)
        (M.a14.view.writes (Elt F) G14 S.2.2.1) (M.a14.view.writes (Elt F) G14' S.2.2.1)
        (M.a15.view.writes (Elt F) G15 S.2.2.2.1) (M.a15.view.writes (Elt F) G15' S.2.2.2.1)
        (M.a19.view.writes (Elt F) G19 S.2.2.2.2.1) (M.a19.view.writes (Elt F) G19' S.2.2.2.2.1)]

/-- The sums over the strips of a block, by eight rows: what the third scratch buffer holds after the strips. -/
def accBlk (c : Dev nD) (i : grid1.Coords) (M : Bufs1) (x : Ins1 F) (init : Vec F S1x1280 .f32) : Vec F S3x8x1280 .f32 :=
  M.a20.view.read (Elt F) (M.a20.view.writes (Elt F) (M.h20.unread (k1_pay67 (F := F))) (st1 c i M x init 16).2.2.2.2.2)

/-- The first result's block: the two gates' gradients. -/
def dgriBlk (c : Dev nD) (i : grid1.Coords) (M : Bufs1) (x : Ins1 F) (init : Vec F S1x1280 .f32) : Vec F S256x2560 .bf16 := View.canon (st1 c i M x init 16).2.1

/-- The second result's block. -/
def dxcBlk (c : Dev nD) (i : grid1.Coords) (M : Bufs1) (x : Ins1 F) (init : Vec F S1x1280 .f32) : Vec F S256x1280 .bf16 := View.canon (st1 c i M x init 16).2.2.1

/-- The third result's block. -/
def dagBlk (c : Dev nD) (i : grid1.Coords) (M : Bufs1) (x : Ins1 F) (init : Vec F S1x1280 .f32) : Vec F S256x1280 .bf16 := View.canon (st1 c i M x init 16).2.2.2.1

/-- The state carried out. -/
def carry1 (c : Dev nD) (i : grid1.Coords) (M : Bufs1) (x : Ins1 F) (init : Vec F S1x1280 .f32) : Vec F S1x1280 .f32 := k1_pay73 (st1 c i M x init 16).1

/-- The first running sum after the point, from the sum `o` before it. -/
def dbaBlk (c : Dev nD) (i : grid1.Coords) (M : Bufs1) (x : Ins1 F) (init : Vec F S1x1280 .f32) (o : Vec F S1x1280 .f32) : Vec F S1x1280 .f32 :=
  k1_pay75 (k1_pay74 o) (View.ld (accBlk c i M x init) (Rect.unit (s := S3x8x1280) ![0, 0, 0] S1x8x1280.size inb_S3x8x1280_S1x8x1280_0_0_0))

/-- The second running sum after the point. -/
def dbxBlk (c : Dev nD) (i : grid1.Coords) (M : Bufs1) (x : Ins1 F) (init : Vec F S1x1280 .f32) (o : Vec F S1x1280 .f32) : Vec F S1x1280 .f32 :=
  k1_pay76 o (View.ld (accBlk c i M x init) (Rect.unit (s := S3x8x1280) ![1, 0, 0] S1x8x1280.size inb_S3x8x1280_S1x8x1280_1_0_0))

/-- The third running sum after the point. -/
def dlamBlk (c : Dev nD) (i : grid1.Coords) (M : Bufs1) (x : Ins1 F) (init : Vec F S1x1280 .f32) (o : Vec F S1x1280 .f32) : Vec F S1x1280 .f32 :=
  k1_pay77 x.lam o (View.ld (accBlk c i M x init) (Rect.unit (s := S3x8x1280) ![2, 0, 0] S1x8x1280.size inb_S3x8x1280_S1x8x1280_2_0_0))

theorem cover_dgri (c : Dev nD) (i : grid1.Coords) (M : Bufs1) (x : Ins1 F) (init : Vec F S1x1280 .f32) (y : S256x2560.Idx) : ∃ p ∈ (st1 c i M x init 16).2.1, y ∈ p.1.set :=
  View.cover_of_tiledL (st1 c i M x init 16).2.1 S16x1280.size (by sl_kernel_rfl) y

theorem cover_dxc (c : Dev nD) (i : grid1.Coords) (M : Bufs1) (x : Ins1 F) (init : Vec F S1x1280 .f32) (y : S256x1280.Idx) : ∃ p ∈ (st1 c i M x init 16).2.2.1, y ∈ p.1.set :=
  View.cover_of_tiledL (st1 c i M x init 16).2.2.1 S16x1280.size (by sl_kernel_rfl) y

theorem cover_dag (c : Dev nD) (i : grid1.Coords) (M : Bufs1) (x : Ins1 F) (init : Vec F S1x1280 .f32) (y : S256x1280.Idx) : ∃ p ∈ (st1 c i M x init 16).2.2.2.1, y ∈ p.1.set :=
  View.cover_of_tiledL (st1 c i M x init 16).2.2.2.1 S16x1280.size (by sl_kernel_rfl) y

/-- What the body leaves: the operands as they were, the blocks, the sums, the state carried out. -/
abbrev outs1 (c : Dev nD) (i : grid1.Coords) (M : Bufs1) (x : Ins1 F) (init : Vec F S1x1280 .f32) (o16 o17 o18 : Vec F S1x1280 .f32) : sProp 𝕄 :=
  iprop(ins1 c M x ∗ owns (c : Thread nD τ) M.a13 fullShare (dgriBlk c i M x init)
    ∗ owns (c : Thread nD τ) M.a14 fullShare (dxcBlk c i M x init)
    ∗ owns (c : Thread nD τ) M.a15 fullShare (dagBlk c i M x init)
    ∗ owns (c : Thread nD τ) M.a16 fullShare (dbaBlk c i M x init o16)
    ∗ owns (c : Thread nD τ) M.a17 fullShare (dbxBlk c i M x init o17)
    ∗ owns (c : Thread nD τ) M.a18 fullShare (dlamBlk c i M x init o18)
    ∗ (∃ d, owns (c : Thread nD τ) M.a19 fullShare d) ∗ (∃ d, owns (c : Thread nD τ) M.a20 fullShare d)
    ∗ owns (c : Thread nD τ) M.a21 fullShare (carry1 c i M x init))

/-- The zero-filled scratch of sums, as contents. -/
theorem zero20 (M : Bufs1) : M.a20.view.writes (Elt F) M.a20.view.junk [⟨Rect.unit ![0, 0, 0] ![3, 8, 1280] inb_S3x8x1280_S3x8x1280_0_0_0, k1_pay67 (F := F)⟩] = M.h20.unread (k1_pay67 (F := F)) :=
  M.h20.eq_unread (View.read_writes_full (s := S3x8x1280) _ _ inb_S3x8x1280_S3x8x1280_0_0_0 _ _)

/-- The strips as the body runs them leave what `st1` says. -/
theorem st1_run (c : Dev nD) (i : grid1.Coords) (M : Bufs1) (x : Ins1 F) (init : Vec F S1x1280 .f32) (G13 : BufTy.Contents (Elt F) M.a13.view.ty) (G14 : BufTy.Contents (Elt F) M.a14.view.ty)
    (G15 : BufTy.Contents (Elt F) M.a15.view.ty) (G19 : BufTy.Contents (Elt F) M.a19.view.ty) (init' : Vec F S1x1280 .f32) (hi : init' = init) :
    st_k1_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21
      (Scalar.subi 32#32 (BitVec.ofNat 32 (i 1).val))
      (View.readAt (Elt F) M.a9.view (Rect.unit (s := S1x1280) ![0, 0] ![1, 1280] inb_S1x1280_S1x1280_0_0).toLoadRect (M.h9.unread x.ba))
      (View.readAt (Elt F) M.a10.view (Rect.unit (s := S1x1280) ![0, 0] ![1, 1280] inb_S1x1280_S1x1280_0_0).toLoadRect (M.h10.unread x.bx))
      (View.readAt (Elt F) M.a11.view (Rect.unit (s := S1x1280) ![0, 0] ![1, 1280] inb_S1x1280_S1x1280_0_0).toLoadRect (M.h11.unread x.lam))
      (View.readAt (Elt F) M.a4.view (Rect.unit (s := S8x1280) ![7, 0] ![1, 1280] inb_S8x1280_S1x1280_7_0).toLoadRect (M.h4.unread x.hh))
      sub8 (M.h2.unread x.dya) (M.h3.unread x.h) (M.h5.unread x.gr) (M.h6.unread x.gi) (M.h7.unread x.xc) (M.h8.unread x.ag) G13 G14 G15 G19
      (M.a20.view.writes (Elt F) M.a20.view.junk [⟨Rect.unit ![0, 0, 0] ![3, 8, 1280] inb_S3x8x1280_S3x8x1280_0_0_0, k1_pay67 (F := F)⟩])
      init' 16 = st1 c i M x init 16 := by
  subst hi
  have e9 : View.readAt (Elt F) M.a9.view (Rect.unit (s := S1x1280) ![0, 0] ![1, 1280] inb_S1x1280_S1x1280_0_0).toLoadRect (M.h9.unread x.ba) = x.ba := full_unread M.h9 x.ba inb_S1x1280_S1x1280_0_0
  have e10 : View.readAt (Elt F) M.a10.view (Rect.unit (s := S1x1280) ![0, 0] ![1, 1280] inb_S1x1280_S1x1280_0_0).toLoadRect (M.h10.unread x.bx) = x.bx := full_unread M.h10 x.bx inb_S1x1280_S1x1280_0_0
  have e11 : View.readAt (Elt F) M.a11.view (Rect.unit (s := S1x1280) ![0, 0] ![1, 1280] inb_S1x1280_S1x1280_0_0).toLoadRect (M.h11.unread x.lam) = x.lam := full_unread M.h11 x.lam inb_S1x1280_S1x1280_0_0
  have e4 : View.readAt (Elt F) M.a4.view (Rect.unit (s := S8x1280) ![7, 0] ![1, 1280] inb_S8x1280_S1x1280_7_0).toLoadRect (M.h4.unread x.hh) = halo x.hh := by
    rw [View.readAt_eq_ld, M.h4.read_unread]
  rw [e9, e10, e11, e4, zero20]
  exact st1_indep c i M _ _ _ _ _ _ _ _ _ _ _ _ _ _ _ _ _ _ _ _ _ _ 16 (by decide)

/-- A load of the scratch of sums after the strips. -/
theorem acc_load (c : Dev nD) (i : grid1.Coords) (M : Bufs1) (x : Ins1 F) (init : Vec F S1x1280 .f32) (B : Rect S3x8x1280) :
    M.a20.view.readCov (Val := Elt F) ((st1 c i M x init 16).2.2.2.2.2 ++ [⟨Rect.unit ![0, 0, 0] ![3, 8, 1280] inb_S3x8x1280_S3x8x1280_0_0_0, k1_pay67 (F := F)⟩]) B.toLoadRect
      = View.ld (accBlk c i M x init) B := by
  unfold View.readCov
  rw [View.writes_append, zero20, View.readAt_eq_ld]
  rfl

/-- A load of a row after one whole store reads what was stored. -/
theorem cov_full (m : Memref sig .tc .vmem S1x1280 .f32) (w : Vec F S1x1280 .f32) :
    m.view.readCov (Val := Elt F) [⟨Rect.unit ![0, 0] ![1, 1280] inb_S1x1280_S1x1280_0_0, w⟩] (Rect.unit (s := S1x1280) ![0, 0] ![1, 1280] inb_S1x1280_S1x1280_0_0).toLoadRect = w :=
  View.readCov_full (s := S1x1280) _ inb_S1x1280_S1x1280_0_0 inb_S1x1280_S1x1280_0_0 _ _

end Cert.KernelIdeal.RG

end
-- ==== Proof.BwdRunA.lean ====
/-
The backward recurrence kernel on any staging buffers: one run of its body, at the first point.
-/
module

public import proofs.«01_k».proof.Proof.BwdDefs

@[expose] public section

set_option maxRecDepth 16384

noncomputable section

namespace Cert.KernelIdeal.RG

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first point: the carried state and the sums start at zero. -/
theorem run1A (c : Dev nD) (i : grid1.Coords) (M : Bufs1) (x : Ins1 F) (hc : first1 i) (E : Set ℕ) (K : PUnit → sProp 𝕄) :
    iprop(ins1 c M x ∗ (∃ d, owns (c : Thread nD τ) M.a13 fullShare d) ∗ (∃ d, owns (c : Thread nD τ) M.a14 fullShare d)
        ∗ (∃ d, owns (c : Thread nD τ) M.a15 fullShare d) ∗ (∃ d, owns (c : Thread nD τ) M.a16 fullShare d) ∗ (∃ d, owns (c : Thread nD τ) M.a17 fullShare d) ∗ (∃ d, owns (c : Thread nD τ) M.a18 fullShare d)
        ∗ (∃ d, owns (c : Thread nD τ) M.a19 fullShare d) ∗ (∃ d, owns (c : Thread nD τ) M.a20 fullShare d) ∗ (∃ d, owns (c : Thread nD τ) M.a21 fullShare d)
        ∗ (outs1 c i M x (k1_pay63 (F := F)) (k1_pay64 (F := F)) (k1_pay65 (F := F)) (k1_pay66 (F := F)) -∗ K ⟨⟩))
      ⊢ wp frame (wpE (defs₀ (F := F)) Variants.none c none) E (body1 i M) K := by
  simp only [body1, cc1_rg_bwd_eq_skeleton]; unfold cc1_rg_bwd_skel
  simp only [k1_part8_eq_skeleton, k1_part9_eq_skeleton]; unfold k1_part8_skel k1_part9_skel
  unfold outs1 ins1 owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  obtain rfl := M.h2.eq_unread hf2
  obtain rfl := M.h3.eq_unread hf3
  obtain rfl := M.h4.eq_unread hf4
  obtain rfl := M.h5.eq_unread hf5
  obtain rfl := M.h6.eq_unread hf6
  obtain rfl := M.h7.eq_unread hf7
  obtain rfl := M.h8.eq_unread hf8
  obtain rfl := M.h9.eq_unread hf9
  obtain rfl := M.h10.eq_unread hf10
  obtain rfl := M.h11.eq_unread hf11
  clear hf2 hf3 hf4 hf5 hf6 hf7 hf8 hf9 hf10 hf11
  sl_exec (disch := first | sl_exact hc)
  simp only [bind_assoc]
  sl_exec (disch := first | sl_exact hc)
  sl_step
  iapply Hk
  isplitl [H2 H3 H4 H5 H6 H7 H8 H9 H10 H11]
  · isplitl [H2]
    · iexists _; isplitr; · ipureintro; exact M.h2.read_unread _
      iexact H2
    isplitl [H3]
    · iexists _; isplitr; · ipureintro; exact M.h3.read_unread _
      iexact H3
    isplitl [H4]
    · iexists _; isplitr; · ipureintro; exact M.h4.read_unread _
      iexact H4
    isplitl [H5]
    · iexists _; isplitr; · ipureintro; exact M.h5.read_unread _
      iexact H5
    isplitl [H6]
    · iexists _; isplitr; · ipureintro; exact M.h6.read_unread _
      iexact H6
    isplitl [H7]
    · iexists _; isplitr; · ipureintro; exact M.h7.read_unread _
      iexact H7
    isplitl [H8]
    · iexists _; isplitr; · ipureintro; exact M.h8.read_unread _
      iexact H8
    isplitl [H9]
    · iexists _; isplitr; · ipureintro; exact M.h9.read_unread _
      iexact H9
    isplitl [H10]
    · iexists _; isplitr; · ipureintro; exact M.h10.read_unread _
      iexact H10
    iexists _; isplitr; · ipureintro; exact M.h11.read_unread _
    iexact H11
  isplitl [H13]
  · iexists _; isplitr; swap; · iexact H13
    ipureintro
    have e := st1_run c i M x (k1_pay63 (F := F)) f13 f14 f15 f19 _ (cov_full M.a21 (k1_pay63 (F := F)))
    refine (congrArg (fun S => M.a13.view.read (Elt F) (M.a13.view.writes (Elt F) f13 S.2.1)) e).trans ?_
    exact View.read_writes_eq_canon _ _ _ (cover_dgri c i M x (k1_pay63 (F := F)))
  isplitl [H14]
  · iexists _; isplitr; swap; · iexact H14
    ipureintro
    have e := st1_run c i M x (k1_pay63 (F := F)) f13 f14 f15 f19 _ (cov_full M.a21 (k1_pay63 (F := F)))
    refine (congrArg (fun S => M.a14.view.read (Elt F) (M.a14.view.writes (Elt F) f14 S.2.2.1)) e).trans ?_
    exact View.read_writes_eq_canon _ _ _ (cover_dxc c i M x (k1_pay63 (F := F)))
  isplitl [H15]
  · iexists _; isplitr; swap; · iexact H15
    ipureintro
    have e := st1_run c i M x (k1_pay63 (F := F)) f13 f14 f15 f19 _ (cov_full M.a21 (k1_pay63 (F := F)))
    refine (congrArg (fun S => M.a15.view.read (Elt F) (M.a15.view.writes (Elt F) f15 S.2.2.2.1)) e).trans ?_
    exact View.read_writes_eq_canon _ _ _ (cover_dag c i M x (k1_pay63 (F := F)))
  isplitl [H16]
  · iexists _; isplitr; swap; · iexact H16
    ipureintro
    have e := st1_run c i M x (k1_pay63 (F := F)) f13 f14 f15 f19 _ (cov_full M.a21 (k1_pay63 (F := F)))
    refine (View.read_writes_full _ _ inb_S1x1280_S1x1280_0_0 _ _).trans ?_
    refine (congrArg₂ (fun (o : Vec F S1x1280 .f32) (S : Vec F S1x1280 .f32 × List (View.Piece (Elt F) S256x2560 .bf16) × List (View.Piece (Elt F) S256x1280 .bf16) × List (View.Piece (Elt F) S256x1280 .bf16) × List (View.Piece (Elt F) S24x1280 .f32) × List (View.Piece (Elt F) S3x8x1280 .f32)) => k1_pay75 (k1_pay74 o) (M.a20.view.readCov (S.2.2.2.2.2 ++ [⟨Rect.unit ![0, 0, 0] ![3, 8, 1280] inb_S3x8x1280_S3x8x1280_0_0_0, k1_pay67 (F := F)⟩]) (Rect.unit (s := S3x8x1280) ![0, 0, 0] ![1, 8, 1280] inb_S3x8x1280_S1x8x1280_0_0_0).toLoadRect)) (show _ = (k1_pay64 (F := F)) from cov_full M.a16 (k1_pay64 (F := F))) e).trans ?_
    exact congrArg (k1_pay75 (k1_pay74 (k1_pay64 (F := F)))) (acc_load c i M x (k1_pay63 (F := F)) _)
  isplitl [H17]
  · iexists _; isplitr; swap; · iexact H17
    ipureintro
    have e := st1_run c i M x (k1_pay63 (F := F)) f13 f14 f15 f19 _ (cov_full M.a21 (k1_pay63 (F := F)))
    refine (View.read_writes_full _ _ inb_S1x1280_S1x1280_0_0 _ _).trans ?_
    refine (congrArg₂ (fun (o : Vec F S1x1280 .f32) (S : Vec F S1x1280 .f32 × List (View.Piece (Elt F) S256x2560 .bf16) × List (View.Piece (Elt F) S256x1280 .bf16) × List (View.Piece (Elt F) S256x1280 .bf16) × List (View.Piece (Elt F) S24x1280 .f32) × List (View.Piece (Elt F) S3x8x1280 .f32)) => k1_pay76 o (M.a20.view.readCov (S.2.2.2.2.2 ++ [⟨Rect.unit ![0, 0, 0] ![3, 8, 1280] inb_S3x8x1280_S3x8x1280_0_0_0, k1_pay67 (F := F)⟩]) (Rect.unit (s := S3x8x1280) ![1, 0, 0] ![1, 8, 1280] inb_S3x8x1280_S1x8x1280_1_0_0).toLoadRect)) (show _ = (k1_pay65 (F := F)) from cov_full M.a17 (k1_pay65 (F := F))) e).trans ?_
    exact congrArg (k1_pay76 (k1_pay65 (F := F))) (acc_load c i M x (k1_pay63 (F := F)) _)
  isplitl [H18]
  · iexists _; isplitr; swap; · iexact H18
    ipureintro
    have e := st1_run c i M x (k1_pay63 (F := F)) f13 f14 f15 f19 _ (cov_full M.a21 (k1_pay63 (F := F)))
    refine (View.read_writes_full _ _ inb_S1x1280_S1x1280_0_0 _ _).trans ?_
    refine (congr (congr (congrArg (fun (lam o : Vec F S1x1280 .f32) (S : Vec F S1x1280 .f32 × List (View.Piece (Elt F) S256x2560 .bf16) × List (View.Piece (Elt F) S256x1280 .bf16) × List (View.Piece (Elt F) S256x1280 .bf16) × List (View.Piece (Elt F) S24x1280 .f32) × List (View.Piece (Elt F) S3x8x1280 .f32)) => k1_pay77 lam o (M.a20.view.readCov (S.2.2.2.2.2 ++ [⟨Rect.unit ![0, 0, 0] ![3, 8, 1280] inb_S3x8x1280_S3x8x1280_0_0_0, k1_pay67 (F := F)⟩]) (Rect.unit (s := S3x8x1280) ![2, 0, 0] ![1, 8, 1280] inb_S3x8x1280_S1x8x1280_2_0_0).toLoadRect)) (full_unread M.h11 x.lam inb_S1x1280_S1x1280_0_0)) (show _ = (k1_pay66 (F := F)) from cov_full M.a18 (k1_pay66 (F := F)))) e).trans ?_
    exact congrArg (k1_pay77 x.lam (k1_pay66 (F := F))) (acc_load c i M x (k1_pay63 (F := F)) _)
  isplitl [H19]
  · iexists _, _; isplitr; swap; · iexact H19
    ipureintro; rfl
  isplitl [H20]
  · iexists _, _; isplitr; swap; · iexact H20
    ipureintro; rfl
  iexists _; isplitr; swap; · iexact H21
  ipureintro
  have e := st1_run c i M x (k1_pay63 (F := F)) f13 f14 f15 f19 _ (cov_full M.a21 (k1_pay63 (F := F)))
  refine (View.read_writes_full _ _ inb_S1x1280_S1x1280_0_0 _ _).trans ?_
  exact congrArg (fun S => k1_pay73 S.1) e

end Cert.KernelIdeal.RG

end
-- ==== Proof.BwdRunB.lean ====
/-
The backward recurrence kernel on any staging buffers: one run of its body, at a later point.
-/
module

public import proofs.«01_k».proof.Proof.BwdDefs

@[expose] public section

set_option maxRecDepth 16384

noncomputable section

namespace Cert.KernelIdeal.RG

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a later point: the carried state is what the scratch holds, the sums go on. -/
theorem run1B (c : Dev nD) (i : grid1.Coords) (M : Bufs1) (x : Ins1 F) (init o16 o17 o18 : Vec F S1x1280 .f32) (hc : ¬ first1 i) (E : Set ℕ) (K : PUnit → sProp 𝕄) :
    iprop(ins1 c M x ∗ (∃ d, owns (c : Thread nD τ) M.a13 fullShare d) ∗ (∃ d, owns (c : Thread nD τ) M.a14 fullShare d)
        ∗ (∃ d, owns (c : Thread nD τ) M.a15 fullShare d) ∗ owns (c : Thread nD τ) M.a16 fullShare o16 ∗ owns (c : Thread nD τ) M.a17 fullShare o17 ∗ owns (c : Thread nD τ) M.a18 fullShare o18
        ∗ (∃ d, owns (c : Thread nD τ) M.a19 fullShare d) ∗ (∃ d, owns (c : Thread nD τ) M.a20 fullShare d) ∗ owns (c : Thread nD τ) M.a21 fullShare init
        ∗ (outs1 c i M x init o16 o17 o18 -∗ K ⟨⟩))
      ⊢ wp frame (wpE (defs₀ (F := F)) Variants.none c none) E (body1 i M) K := by
  simp only [body1, cc1_rg_bwd_eq_skeleton]; unfold cc1_rg_bwd_skel
  simp only [k1_part8_eq_skeleton, k1_part9_eq_skeleton]; unfold k1_part8_skel k1_part9_skel
  unfold outs1 ins1 owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%d19, %f19, -, H19⟩, ⟨%d20, %f20, -, H20⟩, ⟨%f21, %hf21, H21⟩, Hk⟩
  obtain rfl := M.h2.eq_unread hf2
  obtain rfl := M.h3.eq_unread hf3
  obtain rfl := M.h4.eq_unread hf4
  obtain rfl := M.h5.eq_unread hf5
  obtain rfl := M.h6.eq_unread hf6
  obtain rfl := M.h7.eq_unread hf7
  obtain rfl := M.h8.eq_unread hf8
  obtain rfl := M.h9.eq_unread hf9
  obtain rfl := M.h10.eq_unread hf10
  obtain rfl := M.h11.eq_unread hf11
  obtain rfl := M.h16.eq_unread hf16
  obtain rfl := M.h17.eq_unread hf17
  obtain rfl := M.h18.eq_unread hf18
  obtain rfl := M.h21.eq_unread hf21
  clear hf2 hf3 hf4 hf5 hf6 hf7 hf8 hf9 hf10 hf11 hf16 hf17 hf18 hf21
  sl_exec (disch := first | sl_exact hc)
  simp only [bind_assoc]
  sl_exec (disch := first | sl_exact hc)
  sl_step
  iapply Hk
  isplitl [H2 H3 H4 H5 H6 H7 H8 H9 H10 H11]
  · isplitl [H2]
    · iexists _; isplitr; · ipureintro; exact M.h2.read_unread _
      iexact H2
    isplitl [H3]
    · iexists _; isplitr; · ipureintro; exact M.h3.read_unread _
      iexact H3
    isplitl [H4]
    · iexists _; isplitr; · ipureintro; exact M.h4.read_unread _
      iexact H4
    isplitl [H5]
    · iexists _; isplitr; · ipureintro; exact M.h5.read_unread _
      iexact H5
    isplitl [H6]
    · iexists _; isplitr; · ipureintro; exact M.h6.read_unread _
      iexact H6
    isplitl [H7]
    · iexists _; isplitr; · ipureintro; exact M.h7.read_unread _
      iexact H7
    isplitl [H8]
    · iexists _; isplitr; · ipureintro; exact M.h8.read_unread _
      iexact H8
    isplitl [H9]
    · iexists _; isplitr; · ipureintro; exact M.h9.read_unread _
      iexact H9
    isplitl [H10]
    · iexists _; isplitr; · ipureintro; exact M.h10.read_unread _
      iexact H10
    iexists _; isplitr; · ipureintro; exact M.h11.read_unread _
    iexact H11
  isplitl [H13]
  · iexists _; isplitr; swap; · iexact H13
    ipureintro
    have e := st1_run c i M x init f13 f14 f15 f19 _ (full_unread M.h21 init inb_S1x1280_S1x1280_0_0)
    refine (congrArg (fun S => M.a13.view.read (Elt F) (M.a13.view.writes (Elt F) f13 S.2.1)) e).trans ?_
    exact View.read_writes_eq_canon _ _ _ (cover_dgri c i M x init)
  isplitl [H14]
  · iexists _; isplitr; swap; · iexact H14
    ipureintro
    have e := st1_run c i M x init f13 f14 f15 f19 _ (full_unread M.h21 init inb_S1x1280_S1x1280_0_0)
    refine (congrArg (fun S => M.a14.view.read (Elt F) (M.a14.view.writes (Elt F) f14 S.2.2.1)) e).trans ?_
    exact View.read_writes_eq_canon _ _ _ (cover_dxc c i M x init)
  isplitl [H15]
  · iexists _; isplitr; swap; · iexact H15
    ipureintro
    have e := st1_run c i M x init f13 f14 f15 f19 _ (full_unread M.h21 init inb_S1x1280_S1x1280_0_0)
    refine (congrArg (fun S => M.a15.view.read (Elt F) (M.a15.view.writes (Elt F) f15 S.2.2.2.1)) e).trans ?_
    exact View.read_writes_eq_canon _ _ _ (cover_dag c i M x init)
  isplitl [H16]
  · iexists _; isplitr; swap; · iexact H16
    ipureintro
    have e := st1_run c i M x init f13 f14 f15 f19 _ (full_unread M.h21 init inb_S1x1280_S1x1280_0_0)
    refine (View.read_writes_full _ _ inb_S1x1280_S1x1280_0_0 _ _).trans ?_
    refine (congrArg₂ (fun (o : Vec F S1x1280 .f32) (S : Vec F S1x1280 .f32 × List (View.Piece (Elt F) S256x2560 .bf16) × List (View.Piece (Elt F) S256x1280 .bf16) × List (View.Piece (Elt F) S256x1280 .bf16) × List (View.Piece (Elt F) S24x1280 .f32) × List (View.Piece (Elt F) S3x8x1280 .f32)) => k1_pay75 (k1_pay74 o) (M.a20.view.readCov (S.2.2.2.2.2 ++ [⟨Rect.unit ![0, 0, 0] ![3, 8, 1280] inb_S3x8x1280_S3x8x1280_0_0_0, k1_pay67 (F := F)⟩]) (Rect.unit (s := S3x8x1280) ![0, 0, 0] ![1, 8, 1280] inb_S3x8x1280_S1x8x1280_0_0_0).toLoadRect)) (show _ = o16 from full_unread M.h16 o16 inb_S1x1280_S1x1280_0_0) e).trans ?_
    exact congrArg (k1_pay75 (k1_pay74 o16)) (acc_load c i M x init _)
  isplitl [H17]
  · iexists _; isplitr; swap; · iexact H17
    ipureintro
    have e := st1_run c i M x init f13 f14 f15 f19 _ (full_unread M.h21 init inb_S1x1280_S1x1280_0_0)
    refine (View.read_writes_full _ _ inb_S1x1280_S1x1280_0_0 _ _).trans ?_
    refine (congrArg₂ (fun (o : Vec F S1x1280 .f32) (S : Vec F S1x1280 .f32 × List (View.Piece (Elt F) S256x2560 .bf16) × List (View.Piece (Elt F) S256x1280 .bf16) × List (View.Piece (Elt F) S256x1280 .bf16) × List (View.Piece (Elt F) S24x1280 .f32) × List (View.Piece (Elt F) S3x8x1280 .f32)) => k1_pay76 o (M.a20.view.readCov (S.2.2.2.2.2 ++ [⟨Rect.unit ![0, 0, 0] ![3, 8, 1280] inb_S3x8x1280_S3x8x1280_0_0_0, k1_pay67 (F := F)⟩]) (Rect.unit (s := S3x8x1280) ![1, 0, 0] ![1, 8, 1280] inb_S3x8x1280_S1x8x1280_1_0_0).toLoadRect)) (show _ = o17 from full_unread M.h17 o17 inb_S1x1280_S1x1280_0_0) e).trans ?_
    exact congrArg (k1_pay76 o17) (acc_load c i M x init _)
  isplitl [H18]
  · iexists _; isplitr; swap; · iexact H18
    ipureintro
    have e := st1_run c i M x init f13 f14 f15 f19 _ (full_unread M.h21 init inb_S1x1280_S1x1280_0_0)
    refine (View.read_writes_full _ _ inb_S1x1280_S1x1280_0_0 _ _).trans ?_
    refine (congr (congr (congrArg (fun (lam o : Vec F S1x1280 .f32) (S : Vec F S1x1280 .f32 × List (View.Piece (Elt F) S256x2560 .bf16) × List (View.Piece (Elt F) S256x1280 .bf16) × List (View.Piece (Elt F) S256x1280 .bf16) × List (View.Piece (Elt F) S24x1280 .f32) × List (View.Piece (Elt F) S3x8x1280 .f32)) => k1_pay77 lam o (M.a20.view.readCov (S.2.2.2.2.2 ++ [⟨Rect.unit ![0, 0, 0] ![3, 8, 1280] inb_S3x8x1280_S3x8x1280_0_0_0, k1_pay67 (F := F)⟩]) (Rect.unit (s := S3x8x1280) ![2, 0, 0] ![1, 8, 1280] inb_S3x8x1280_S1x8x1280_2_0_0).toLoadRect)) (full_unread M.h11 x.lam inb_S1x1280_S1x1280_0_0)) (show _ = o18 from full_unread M.h18 o18 inb_S1x1280_S1x1280_0_0)) e).trans ?_
    exact congrArg (k1_pay77 x.lam o18) (acc_load c i M x init _)
  isplitl [H19]
  · iexists _, _; isplitr; swap; · iexact H19
    ipureintro; rfl
  isplitl [H20]
  · iexists _, _; isplitr; swap; · iexact H20
    ipureintro; rfl
  iexists _; isplitr; swap; · iexact H21
  ipureintro
  have e := st1_run c i M x init f13 f14 f15 f19 _ (full_unread M.h21 init inb_S1x1280_S1x1280_0_0)
  refine (View.read_writes_full _ _ inb_S1x1280_S1x1280_0_0 _ _).trans ?_
  exact congrArg (fun S => k1_pay73 S.1) e

end Cert.KernelIdeal.RG

end
-- ==== Proof.BwdDat.lean ====
/-
The backward recurrence call as a pipeline: what each point is handed, the state and the sums carried from point to
point, what each point leaves, and the body's obligation at every point.
-/
module

public import proofs.«01_k».proof.Proof.BwdRunA
public import proofs.«01_k».proof.Proof.BwdRunB
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic

@[expose] public section

set_option maxRecDepth 16384

noncomputable section

namespace Cert.KernelIdeal.RG

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev ms1_0 (t : Fin cfg1.N) := win1_0.stage (cfg1.slots t 0)
theorem hs1_0 (t : Fin cfg1.N) : (ms1_0 t).IsWhole := hstage1_0 ((cfg1.slots t 0).cast nbuf1_0)
abbrev ms1_1 (t : Fin cfg1.N) := win1_1.stage (cfg1.slots t 1)
theorem hs1_1 (t : Fin cfg1.N) : (ms1_1 t).IsWhole := hstage1_1 ((cfg1.slots t 1).cast nbuf1_1)
abbrev ms1_2 (t : Fin cfg1.N) := win1_2.stage (cfg1.slots t 2)
theorem hs1_2 (t : Fin cfg1.N) : (ms1_2 t).IsWhole := hstage1_2 ((cfg1.slots t 2).cast nbuf1_2)
abbrev ms1_3 (t : Fin cfg1.N) := win1_3.stage (cfg1.slots t 3)
theorem hs1_3 (t : Fin cfg1.N) : (ms1_3 t).IsWhole := hstage1_3 ((cfg1.slots t 3).cast nbuf1_3)
abbrev ms1_4 (t : Fin cfg1.N) := win1_4.stage (cfg1.slots t 4)
theorem hs1_4 (t : Fin cfg1.N) : (ms1_4 t).IsWhole := hstage1_4 ((cfg1.slots t 4).cast nbuf1_4)
abbrev ms1_5 (t : Fin cfg1.N) := win1_5.stage (cfg1.slots t 5)
theorem hs1_5 (t : Fin cfg1.N) : (ms1_5 t).IsWhole := hstage1_5 ((cfg1.slots t 5).cast nbuf1_5)
abbrev ms1_6 (t : Fin cfg1.N) := win1_6.stage (cfg1.slots t 6)
theorem hs1_6 (t : Fin cfg1.N) : (ms1_6 t).IsWhole := hstage1_6 ((cfg1.slots t 6).cast nbuf1_6)
abbrev ms1_7 (t : Fin cfg1.N) := win1_7.stage (cfg1.slots t 7)
theorem hs1_7 (t : Fin cfg1.N) : (ms1_7 t).IsWhole := hstage1_7 ((cfg1.slots t 7).cast nbuf1_7)
abbrev ms1_8 (t : Fin cfg1.N) := win1_8.stage (cfg1.slots t 8)
theorem hs1_8 (t : Fin cfg1.N) : (ms1_8 t).IsWhole := hstage1_8 ((cfg1.slots t 8).cast nbuf1_8)
abbrev ms1_9 (t : Fin cfg1.N) := win1_9.stage (cfg1.slots t 9)
theorem hs1_9 (t : Fin cfg1.N) : (ms1_9 t).IsWhole := hstage1_9 ((cfg1.slots t 9).cast nbuf1_9)
abbrev ms1_10 (t : Fin cfg1.N) := win1_10.stage (cfg1.slots t 10)
theorem hs1_10 (t : Fin cfg1.N) : (ms1_10 t).IsWhole := hstage1_10 ((cfg1.slots t 10).cast nbuf1_10)
abbrev ms1_11 (t : Fin cfg1.N) := win1_11.stage (cfg1.slots t 11)
theorem hs1_11 (t : Fin cfg1.N) : (ms1_11 t).IsWhole := hstage1_11 ((cfg1.slots t 11).cast nbuf1_11)
abbrev ms1_12 (t : Fin cfg1.N) := win1_12.stage (cfg1.slots t 12)
theorem hs1_12 (t : Fin cfg1.N) : (ms1_12 t).IsWhole := hstage1_12 ((cfg1.slots t 12).cast nbuf1_12)
abbrev ms1_13 (t : Fin cfg1.N) := win1_13.stage (cfg1.slots t 13)
theorem hs1_13 (t : Fin cfg1.N) : (ms1_13 t).IsWhole := hstage1_13 ((cfg1.slots t 13).cast nbuf1_13)
abbrev ms1_14 (t : Fin cfg1.N) := win1_14.stage (cfg1.slots t 14)
theorem hs1_14 (t : Fin cfg1.N) : (ms1_14 t).IsWhole := hstage1_14 ((cfg1.slots t 14).cast nbuf1_14)
abbrev ms1_15 (t : Fin cfg1.N) := win1_15.stage (cfg1.slots t 15)
theorem hs1_15 (t : Fin cfg1.N) : (ms1_15 t).IsWhole := hstage1_15 ((cfg1.slots t 15).cast nbuf1_15)

/-- The block window `w` stages at point `t`, of the array as the region finds it. -/
abbrev iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The condition the body tests holds at the first point only. -/
theorem hfirst1 : ∀ t : Fin grid1.N, first1 (grid1.coords t) ↔ t.val = 0 := fun t => by
  have ht : t.val < 33 := Nat.lt_of_lt_of_eq t.isLt N_1
  have e1 : (grid1.coords t 1).val = t.val / 1 % 33 := Pipeline.Grid.coords_val t 1 (by decide) rfl
  simp only [first1, e1]
  word_cmp

/-- The buffers of point `t`. -/
abbrev M1 (t : Fin cfg1.N) : Bufs1 where
  a2 := ms1_0 t
  h2 := hs1_0 t
  a3 := ms1_1 t
  h3 := hs1_1 t
  a4 := ms1_2 t
  h4 := hs1_2 t
  a5 := ms1_3 t
  h5 := hs1_3 t
  a6 := ms1_4 t
  h6 := hs1_4 t
  a7 := ms1_5 t
  h7 := hs1_5 t
  a8 := ms1_6 t
  h8 := hs1_6 t
  a9 := ms1_7 t
  h9 := hs1_7 t
  a10 := ms1_8 t
  h10 := hs1_8 t
  a11 := ms1_9 t
  h11 := hs1_9 t
  a12 := Memref.whole main_arg7
  h12 := Memref.isWhole_whole _
  a13 := ms1_10 t
  h13 := hs1_10 t
  a14 := ms1_11 t
  h14 := hs1_11 t
  a15 := ms1_12 t
  h15 := hs1_12 t
  a16 := ms1_13 t
  h16 := hs1_13 t
  a17 := ms1_14 t
  h17 := hs1_14 t
  a18 := ms1_15 t
  h18 := hs1_15 t
  a19 := Memref.whole cc1_scratch0
  h19 := Memref.isWhole_whole _
  a20 := Memref.whole cc1_scratch1
  h20 := Memref.isWhole_whole _
  a21 := Memref.whole cc1_scratch2
  h21 := Memref.isWhole_whole _

/-- The blocks point `t` is handed. -/
abbrev x1 (c : Dev nD) (t : Fin cfg1.N) : Ins1 F where
  dya := iblk1 V c 0 t
  h := iblk1 V c 1 t
  hh := iblk1 V c 2 t
  gr := iblk1 V c 3 t
  gi := iblk1 V c 4 t
  xc := iblk1 V c 5 t
  ag := iblk1 V c 6 t
  ba := iblk1 V c 7 t
  bx := iblk1 V c 8 t
  lam := iblk1 V c 9 t

/-- The state before point `n`: zero before the first. -/
def cin1 (c : Dev nD) : ℕ → Vec F S1x1280 .f32
  | 0 => k1_pay63
  | n + 1 => if h : n < cfg1.N then carry1 c (grid1.coords ⟨n, h⟩) (M1 ⟨n, h⟩) (x1 V c ⟨n, h⟩) (cin1 c n) else cin1 c n

theorem cin1_succ (c : Dev nD) (t : Fin cfg1.N) : cin1 V c (t.val + 1) = carry1 c (grid1.coords t) (M1 t) (x1 V c t) (cin1 V c t.val) := by
  rw [cin1, dif_pos t.isLt]

/-- The first running sum before point `n`. -/
def sba (c : Dev nD) : ℕ → Vec F S1x1280 .f32
  | 0 => k1_pay64
  | n + 1 => if h : n < cfg1.N then dbaBlk c (grid1.coords ⟨n, h⟩) (M1 ⟨n, h⟩) (x1 V c ⟨n, h⟩) (cin1 V c n) (sba c n) else sba c n

theorem sba_succ (c : Dev nD) (t : Fin cfg1.N) : sba V c (t.val + 1) = dbaBlk c (grid1.coords t) (M1 t) (x1 V c t) (cin1 V c t.val) (sba V c t.val) := by
  rw [sba, dif_pos t.isLt]

/-- The second running sum before point `n`. -/
def sbx (c : Dev nD) : ℕ → Vec F S1x1280 .f32
  | 0 => k1_pay65
  | n + 1 => if h : n < cfg1.N then dbxBlk c (grid1.coords ⟨n, h⟩) (M1 ⟨n, h⟩) (x1 V c ⟨n, h⟩) (cin1 V c n) (sbx c n) else sbx c n

theorem sbx_succ (c : Dev nD) (t : Fin cfg1.N) : sbx V c (t.val + 1) = dbxBlk c (grid1.coords t) (M1 t) (x1 V c t) (cin1 V c t.val) (sbx V c t.val) := by
  rw [sbx, dif_pos t.isLt]

/-- The third running sum before point `n`. -/
def slam (c : Dev nD) : ℕ → Vec F S1x1280 .f32
  | 0 => k1_pay66
  | n + 1 => if h : n < cfg1.N then dlamBlk c (grid1.coords ⟨n, h⟩) (M1 ⟨n, h⟩) (x1 V c ⟨n, h⟩) (cin1 V c n) (slam c n) else slam c n

theorem slam_succ (c : Dev nD) (t : Fin cfg1.N) : slam V c (t.val + 1) = dlamBlk c (grid1.coords t) (M1 t) (x1 V c t) (cin1 V c t.val) (slam V c t.val) := by
  rw [slam, dif_pos t.isLt]

/-- The proof data: the arrays as the region finds them; after point `t` each operand's buffer at its block, the first
    three results' at the point's blocks, the last three's at the running sums; between points one scratch buffer at
    the carried state, the two others at anything. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => dgriBlk c (grid1.coords t) (M1 t) (x1 V c t) (cin1 V c t.val)
    | ⟨11, _⟩ => dxcBlk c (grid1.coords t) (M1 t) (x1 V c t) (cin1 V c t.val)
    | ⟨12, _⟩ => dagBlk c (grid1.coords t) (M1 t) (x1 V c t) (cin1 V c t.val)
    | ⟨13, _⟩ => sba V c (t.val + 1)
    | ⟨14, _⟩ => sbx V c (t.val + 1)
    | ⟨15, _⟩ => slam V c (t.val + 1)
    | ⟨_ + 16, h⟩ => absurd h (Nat.not_lt.2 (Nat.le_add_left _ _))
  Φ n := iprop((if n.val = 0 then iprop(∃ d, owns (c : Thread nD τ) (Memref.whole cc1_scratch2) fullShare d)
      else owns (c : Thread nD τ) (Memref.whole cc1_scratch2) fullShare (cin1 V c n.val))
    ∗ (∃ d, owns (c : Thread nD τ) (Memref.whole cc1_scratch0) fullShare d) ∗ (∃ d, owns (c : Thread nD τ) (Memref.whole cc1_scratch1) fullShare d) ∗ Pipeline.scopedRestBut (Ix := Unit) (Name := ℕ) (U := UR sig nD τ) (Lvl := ℕ) (Val := Elt F) spec1 c [cc1_scratch0, cc1_scratch1, cc1_scratch2])
  q w := Pipeline.shareOf spec1 w
  owed _ := 0

theorem A1_eq (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = dgriBlk c (grid1.coords t) (M1 t) (x1 V c t) (cin1 V c t.val) := by dsimp only [dat1]
theorem after1_11 (c : Dev nD) (t : Fin cfg1.N) : (dat1 V c).after 11 t = dxcBlk c (grid1.coords t) (M1 t) (x1 V c t) (cin1 V c t.val) := by dsimp only [dat1]
theorem after1_12 (c : Dev nD) (t : Fin cfg1.N) : (dat1 V c).after 12 t = dagBlk c (grid1.coords t) (M1 t) (x1 V c t) (cin1 V c t.val) := by dsimp only [dat1]
theorem after1_13 (c : Dev nD) (t : Fin cfg1.N) : (dat1 V c).after 13 t = sba V c (t.val + 1) := by dsimp only [dat1]
theorem after1_14 (c : Dev nD) (t : Fin cfg1.N) : (dat1 V c).after 14 t = sbx V c (t.val + 1) := by dsimp only [dat1]
theorem after1_15 (c : Dev nD) (t : Fin cfg1.N) : (dat1 V c).after 15 t = slam V c (t.val + 1) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans (by unfold Dat.fetched Dat.blockOf iblk1; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]; try rfl) t d).trans (by unfold Dat.fetched Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans (by unfold Dat.fetched Dat.blockOf iblk1; rw [A1_eq]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A1_eq]; try rfl) t d).trans (by unfold Dat.fetched Dat.blockOf iblk1; rw [A1_eq]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A1_eq]; try rfl) t d).trans (by unfold Dat.fetched Dat.blockOf iblk1; rw [A1_eq]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A1_eq]; try rfl) t d).trans (by unfold Dat.fetched Dat.blockOf iblk1; rw [A1_eq]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A1_eq]; try rfl) t d).trans (by unfold Dat.fetched Dat.blockOf iblk1; rw [A1_eq]; try rfl)
theorem before1_13 (c : Dev nD) (t : Fin cfg1.N) (h0 : t.val ≠ 0) (d) : (dat1 V c).before 13 t d = sba V c t.val := by
  have ht : t.val < 33 := Nat.lt_of_lt_of_eq t.isLt N_1
  rw [(dat1 V c).before_out_kept 13 rfl t h0 (Bool.eq_false_iff.mpr fun h => by have := (flush1_13 _).mp h; dsimp only at this; omega) (fun _ => rfl) (fun _ _ => rfl), after1_13]
  dsimp only
  rw [Nat.sub_add_cancel (Nat.one_le_iff_ne_zero.mpr h0)]
theorem before1_14 (c : Dev nD) (t : Fin cfg1.N) (h0 : t.val ≠ 0) (d) : (dat1 V c).before 14 t d = sbx V c t.val := by
  have ht : t.val < 33 := Nat.lt_of_lt_of_eq t.isLt N_1
  rw [(dat1 V c).before_out_kept 14 rfl t h0 (Bool.eq_false_iff.mpr fun h => by have := (flush1_14 _).mp h; dsimp only at this; omega) (fun _ => rfl) (fun _ _ => rfl), after1_14]
  dsimp only
  rw [Nat.sub_add_cancel (Nat.one_le_iff_ne_zero.mpr h0)]
theorem before1_15 (c : Dev nD) (t : Fin cfg1.N) (h0 : t.val ≠ 0) (d) : (dat1 V c).before 15 t d = slam V c t.val := by
  have ht : t.val < 33 := Nat.lt_of_lt_of_eq t.isLt N_1
  rw [(dat1 V c).before_out_kept 15 rfl t h0 (Bool.eq_false_iff.mpr fun h => by have := (flush1_15 _).mp h; dsimp only at this; omega) (fun _ => rfl) (fun _ _ => rfl), after1_15]
  dsimp only
  rw [Nat.sub_add_cancel (Nat.one_le_iff_ne_zero.mpr h0)]

/-- What the body is called with at point `t`, the windows one by one. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d)))

/-- What the body returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t))

set_option maxHeartbeats 3200000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2, before1_3, before1_4, before1_5, before1_6, before1_7, before1_8, before1_9]
  rw [show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, sba_succ, sbx_succ, slam_succ]
  have hs : (dat1 V c).Φ t.succ = iprop(owns (c : Thread nD τ) (Memref.whole cc1_scratch2) fullShare (carry1 c (grid1.coords t) (M1 t) (x1 V c t) (cin1 V c t.val))
      ∗ (∃ d, owns (c : Thread nD τ) (Memref.whole cc1_scratch0) fullShare d) ∗ (∃ d, owns (c : Thread nD τ) (Memref.whole cc1_scratch1) fullShare d) ∗ Pipeline.scopedRestBut (Ix := Unit) (Name := ℕ) (U := UR sig nD τ) (Lvl := ℕ) (Val := Elt F) spec1 c [cc1_scratch0, cc1_scratch1, cc1_scratch2]) := by
    dsimp only [dat1]
    rw [if_neg (by simp), Fin.val_succ, cin1_succ]
  rw [hs]
  by_cases h0 : t.val = 0
  · have hc : (dat1 V c).Φ t.castSucc = iprop((∃ d, owns (c : Thread nD τ) (Memref.whole cc1_scratch2) fullShare d)
      ∗ (∃ d, owns (c : Thread nD τ) (Memref.whole cc1_scratch0) fullShare d) ∗ (∃ d, owns (c : Thread nD τ) (Memref.whole cc1_scratch1) fullShare d) ∗ Pipeline.scopedRestBut (Ix := Unit) (Name := ℕ) (U := UR sig nD τ) (Lvl := ℕ) (Val := Elt F) spec1 c [cc1_scratch0, cc1_scratch1, cc1_scratch2]) := by
      dsimp only [dat1]
      rw [if_pos (by simpa using h0)]
    rw [hc, show cin1 V c t.val = k1_pay63 from by rw [h0]; rfl, show sba V c t.val = k1_pay64 from by rw [h0]; rfl,
      show sbx V c t.val = k1_pay65 from by rw [h0]; rfl, show slam V c t.val = k1_pay66 from by rw [h0]; rfl]
    iintro ⟨⟨HS2, HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run1A c (grid1.coords t) (M1 t) (x1 V c t) ((hfirst1 t).mpr h0) Set.univ _)
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    iintro ⟨⟨H0, H1, H2, H3, H4, H5, H6, H7, H8, H9⟩, H10, H11, H12, H13, H14, H15, HS0, HS1, HS2⟩
    isplitl [HS0 HS1 HS2 HR]
    · isplitl [HS2]; · iexact HS2
      isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · have hc : (dat1 V c).Φ t.castSucc = iprop(owns (c : Thread nD τ) (Memref.whole cc1_scratch2) fullShare (cin1 V c t.val)
      ∗ (∃ d, owns (c : Thread nD τ) (Memref.whole cc1_scratch0) fullShare d) ∗ (∃ d, owns (c : Thread nD τ) (Memref.whole cc1_scratch1) fullShare d) ∗ Pipeline.scopedRestBut (Ix := Unit) (Name := ℕ) (U := UR sig nD τ) (Lvl := ℕ) (Val := Elt F) spec1 c [cc1_scratch0, cc1_scratch1, cc1_scratch2]) := by
      dsimp only [dat1]
      rw [if_neg (by simpa using h0)]; rfl
    rw [hc]
    simp only [before1_13 V c t h0, before1_14 V c t h0, before1_15 V c t h0]
    iintro ⟨⟨HS2, HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (run1B c (grid1.coords t) (M1 t) (x1 V c t) (cin1 V c t.val) (sba V c t.val) (sbx V c t.val) (slam V c t.val) (fun h => h0 ((hfirst1 t).mp h)) Set.univ _)
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [HS0]; · iexact HS0
    isplitl [HS1]; · iexact HS1
    isplitl [HS2]; · iexact HS2
    iintro ⟨⟨H0, H1, H2, H3, H4, H5, H6, H7, H8, H9⟩, H10, H11, H12, H13, H14, H15, HS0, HS1, HS2⟩
    isplitl [HS0 HS1 HS2 HR]
    · isplitl [HS2]; · iexact HS2
      isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at point `t`'s slots is the body. -/
theorem row1 (t : Fin cfg1.N) : defs₀ (F := F) .tc cfg1.body (cfg1.bodyArgs t (cfg1.slots t)) = bodyAt1 t := by
  unfold defs₀; rw [Defs.onTc_tc]

/-- The obligation of the body, at every point. -/
theorem body_obligation1 (c : Dev nD) : BodyObligation (dat1 (F := F) V c) (defs₀ (F := F)) Variants.none () Set.univ := fun t => by
  rw [bigSep_W1, bigSep_W1, row1]
  exact triple_restated (sound_body1 V c t) rfl .rfl fun _ => .rfl

end Cert.KernelIdeal.RG

end
-- ==== Proof.Run.lean ====
/-
The two calls as regions of the program and the run of the whole program: from any memory it ends, every buffer at
what the two calls leave.
-/
module

public import proofs.«01_k».proof.Proof.FwdDat
public import proofs.«01_k».proof.Proof.BwdDat
public import proofs.«01_k».proof.Proof.Gen.KernelIdeal.Regions
public import Idealize.ShloMosaic.Lib.Pipeline.Regions
public import Idealize.ShloMosaic.Lib.Pipeline.RegionsLoop
public import Idealize.ShloMosaic.Lib.Tactic

@[expose] public section

set_option maxRecDepth 16384

noncomputable section

namespace Cert.KernelIdeal.RG

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A valuation's contents by reference. -/
abbrev rd (W : Dev nD → Valuation τ sig (Elt F)) (c : Dev nD) (b : Ref sig .tc) : Buf (Elt F) ((c : Thread nD τ).loc b) := W c b

/-- The buffers at the launch. -/
abbrev W0 (c : Dev nD) : Valuation τ sig (Elt F) := fun b => m (c, b)
/-- What the forward call leaves in its two results. -/
def fwdOut (w : Fin cfg0.W) (c : Dev nD) : Buf (Elt F) ((cfg0.win w).arr.view.loc (c : Thread nD τ)) := (dat0 (rd (W0 m)) c).arrAt w cfg0.N
/-- The buffers after the forward call. -/
def W1 (c : Dev nD) : Valuation τ sig (Elt F) :=
  Function.update (Function.update (W0 m c) main_v0_0 (fwdOut m 7 c)) main_v0_1 (fwdOut m 8 c)
/-- The buffers after the copy of the last argument. -/
def W2 (c : Dev nD) : Valuation τ sig (Elt F) := StableHlo.after hostOps1 (W1 m c)
/-- What the backward call leaves in its six results. -/
def bwdOut (w : Fin cfg1.W) (c : Dev nD) : Buf (Elt F) ((cfg1.win w).arr.view.loc (c : Thread nD τ)) := (dat1 (rd (W2 m)) c).arrAt w cfg1.N
/-- The buffers after the backward call. -/
def W3 (c : Dev nD) : Valuation τ sig (Elt F) :=
  Function.update (Function.update (Function.update (Function.update (Function.update (Function.update (W2 m c)
    main_v1_0 (bwdOut m 10 c)) main_v1_1 (bwdOut m 11 c)) main_v1_2 (bwdOut m 12 c)) main_v1_3 (bwdOut m 13 c))
    main_v1_4 (bwdOut m 14 c)) main_v1_5 (bwdOut m 15 c)

theorem ne_dev {r s : Ref sig .tc} (h : r ≠ s) : (Proc.devRef .tc r : DevRef τ sig) ≠ Proc.devRef .tc s := StableHlo.devRef_ne_of_ne h

/-- The forward call changes its two results only. -/
theorem W1_of (c : Dev nD) (r : Ref sig .tc) (h0 : r ≠ main_v0_0) (h1 : r ≠ main_v0_1) : W1 m c r = W0 m c r := by
  simp only [W1, Function.update_of_ne (ne_dev h0), Function.update_of_ne (ne_dev h1)]
theorem W1_h (c : Dev nD) : W1 m c main_v0_0 = fwdOut m 7 c := by
  simp only [W1, Function.update_of_ne (ne_dev (show main_v0_0 ≠ main_v0_1 by decide)), Function.update_self]
theorem W1_ya (c : Dev nD) : W1 m c main_v0_1 = fwdOut m 8 c := by
  simp only [W1, Function.update_self]
/-- The copy changes its destination only. -/
theorem W2_of (c : Dev nD) (r : Ref sig .tc) (h : r ∉ hostOps1_W) : W2 m c r = W1 m c r :=
  StableHlo.after_of_writes_sub hostOps1 _ hostOps1_writes h
/-- The copy's destination holds the last argument. -/
theorem W2_copy (c : Dev nD) : W2 m c main_v1_2 = W1 m c main_arg7 := by
  simp only [W2, hostOps1, StableHlo.after_cons, StableHlo.after_nil]
  rfl
/-- The backward call changes its six results only. -/
theorem W3_of (c : Dev nD) (r : Ref sig .tc) (h : r ∉ ([main_v1_0, main_v1_1, main_v1_2, main_v1_3, main_v1_4, main_v1_5] : List (Ref sig .tc))) :
    W3 m c r = W2 m c r := by
  simp only [List.mem_cons, List.not_mem_nil, or_false, not_or] at h
  obtain ⟨h0, h1, h2, h3, h4, h5⟩ := h
  simp only [W3, Function.update_of_ne (ne_dev h0), Function.update_of_ne (ne_dev h1), Function.update_of_ne (ne_dev h2),
    Function.update_of_ne (ne_dev h3), Function.update_of_ne (ne_dev h4), Function.update_of_ne (ne_dev h5)]
theorem W3_0 (c : Dev nD) : W3 m c main_v1_0 = bwdOut m 10 c := by
  simp only [W3, Function.update_of_ne (ne_dev (show main_v1_0 ≠ main_v1_1 by decide)), Function.update_of_ne (ne_dev (show main_v1_0 ≠ main_v1_2 by decide)), Function.update_of_ne (ne_dev (show main_v1_0 ≠ main_v1_3 by decide)), Function.update_of_ne (ne_dev (show main_v1_0 ≠ main_v1_4 by decide)), Function.update_of_ne (ne_dev (show main_v1_0 ≠ main_v1_5 by decide)), Function.update_self]
theorem W3_1 (c : Dev nD) : W3 m c main_v1_1 = bwdOut m 11 c := by
  simp only [W3, Function.update_of_ne (ne_dev (show main_v1_1 ≠ main_v1_2 by decide)), Function.update_of_ne (ne_dev (show main_v1_1 ≠ main_v1_3 by decide)), Function.update_of_ne (ne_dev (show main_v1_1 ≠ main_v1_4 by decide)), Function.update_of_ne (ne_dev (show main_v1_1 ≠ main_v1_5 by decide)), Function.update_self]
theorem W3_2 (c : Dev nD) : W3 m c main_v1_2 = bwdOut m 12 c := by
  simp only [W3, Function.update_of_ne (ne_dev (show main_v1_2 ≠ main_v1_3 by decide)), Function.update_of_ne (ne_dev (show main_v1_2 ≠ main_v1_4 by decide)), Function.update_of_ne (ne_dev (show main_v1_2 ≠ main_v1_5 by decide)), Function.update_self]
theorem W3_3 (c : Dev nD) : W3 m c main_v1_3 = bwdOut m 13 c := by
  simp only [W3, Function.update_of_ne (ne_dev (show main_v1_3 ≠ main_v1_4 by decide)), Function.update_of_ne (ne_dev (show main_v1_3 ≠ main_v1_5 by decide)), Function.update_self]
theorem W3_4 (c : Dev nD) : W3 m c main_v1_4 = bwdOut m 14 c := by
  simp only [W3, Function.update_of_ne (ne_dev (show main_v1_4 ≠ main_v1_5 by decide)), Function.update_self]
theorem W3_5 (c : Dev nD) : W3 m c main_v1_5 = bwdOut m 15 c := by
  simp only [W3, Function.update_self]

/-- No item writes an argument. -/
theorem W3_arg (c : Dev nD) (r : Ref sig .tc) (h : r ∉ ([main_v1_0, main_v1_1, main_v1_2, main_v1_3, main_v1_4, main_v1_5] : List (Ref sig .tc)))
    (h0 : r ≠ main_v0_0) (h1 : r ≠ main_v0_1) (h2 : r ∉ hostOps1_W) : W3 m c r = m ((c : Thread nD τ).loc r) :=
  (W3_of m c r h).trans ((W2_of m c r h2).trans (W1_of m c r h0 h1))

/-- No core owes another anything: no level is assigned. -/
abbrev L : GSem nD τ sig → Finset Unit := fun _ => ∅
abbrev lv : GSem nD τ sig → Unit → ℕ := fun _ _ => 0

/-- The proof data of the two calls, each from the buffers it finds. -/
def pdats : (p : Fin 2) → (c : Dev nD) → Dat τ (Elt F) Unit ℕ (UR sig nD τ) ℕ (Pipeline.pin (pcfgs (F := F)) adm p) c
  | ⟨0, _⟩ => fun c => dat0 (rd (W0 m)) c
  | ⟨1, _⟩ => fun c => dat1 (rd (W2 m)) c

/-- What rides along between items: the core owes nothing. -/
abbrev Rest (c : Dev nD) : sProp 𝕄 := iprop(∃ W, owes (c : Thread nD τ) (0 : CellTallies nD τ sig Unit) W)

/-- The buffers the pipeline does not stage give the first invariant. -/
theorem phi0_in (V : (c : Dev nD) → (b : Ref sig .tc) → Buf (Elt F) ((c : Thread nD τ).loc b)) (c : Dev nD) :
    iprop((BI.emp : sProp 𝕄) ∗ (BI.emp : sProp 𝕄) ∗ Pipeline.scopedRest (Ix := Unit) (Name := ℕ) (U := UR sig nD τ) (Lvl := ℕ) (Val := Elt F) spec0 c) ⊢ (dat0 (F := F) V c).Φ 0 := by
  rw [scopedRest0_split]
  dsimp only [dat0]
  rw [if_pos (by simp)]
  simp only [owns_whole_eq]
  iintro ⟨-, -, ⟨%f, H⟩, HR⟩
  isplitl [H]
  · iexists f; iexists f; isplitr; · ipureintro; rfl
    iexact H
  iexact HR

/-- The last invariant gives them back. -/
theorem phi0_out (V : (c : Dev nD) → (b : Ref sig .tc) → Buf (Elt F) ((c : Thread nD τ).loc b)) (c : Dev nD) :
    (dat0 (F := F) V c).Φ (Fin.last _) ⊢ (Pipeline.scopedRest (Ix := Unit) (Name := ℕ) (U := UR sig nD τ) (Lvl := ℕ) (Val := Elt F) spec0 c : sProp 𝕄) := by
  rw [scopedRest0_split]
  dsimp only [dat0]
  rw [if_neg (by rw [Fin.val_last, show cfg0.N = 33 from N_0]; decide)]
  simp only [owns_whole_eq]
  iintro ⟨⟨%f, -, H⟩, HR⟩
  isplitl [H]
  · iexists f; iexact H
  iexact HR

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ (∃ f : Buf (Elt F) ((c : Thread nD τ).loc cc1_scratch2), ((c : Thread nD τ).loc cc1_scratch2) ↦{fullShare} f))
          ∗ Pipeline.scopedRestBut (Ix := Unit) (Name := ℕ) (U := UR sig nD τ) (Lvl := ℕ) (Val := Elt F) spec1 c [cc1_scratch0, cc1_scratch1, cc1_scratch2]) :=
  Pipeline.scopedRest_split_of_list spec1 c [cc1_scratch0, cc1_scratch1, cc1_scratch2] (by decide) (by decide)

/-- The buffers the pipeline does not stage give the first invariant. -/
theorem phi1_in (V : (c : Dev nD) → (b : Ref sig .tc) → Buf (Elt F) ((c : Thread nD τ).loc b)) (c : Dev nD) :
    iprop((BI.emp : sProp 𝕄) ∗ (BI.emp : sProp 𝕄) ∗ Pipeline.scopedRest (Ix := Unit) (Name := ℕ) (U := UR sig nD τ) (Lvl := ℕ) (Val := Elt F) spec1 c) ⊢ (dat1 (F := F) V c).Φ 0 := by
  rw [scopedRest1_split]
  dsimp only [dat1]
  rw [if_pos (by simp)]
  simp only [owns_whole_eq]
  iintro ⟨-, -, ⟨⟨%f0, H0⟩, ⟨%f1, H1⟩, ⟨%f, H⟩⟩, HR⟩
  isplitl [H]
  · iexists f; iexists f; isplitr; · ipureintro; rfl
    iexact H
  isplitl [H0]
  · iexists f0; iexists f0; isplitr; · ipureintro; rfl
    iexact H0
  isplitl [H1]
  · iexists f1; iexists f1; isplitr; · ipureintro; rfl
    iexact H1
  iexact HR

/-- The last invariant gives them back. -/
theorem phi1_out (V : (c : Dev nD) → (b : Ref sig .tc) → Buf (Elt F) ((c : Thread nD τ).loc b)) (c : Dev nD) :
    (dat1 (F := F) V c).Φ (Fin.last _) ⊢ (Pipeline.scopedRest (Ix := Unit) (Name := ℕ) (U := UR sig nD τ) (Lvl := ℕ) (Val := Elt F) spec1 c : sProp 𝕄) := by
  rw [scopedRest1_split]
  dsimp only [dat1]
  rw [if_neg (by rw [Fin.val_last, show cfg1.N = 33 from N_1]; decide)]
  simp only [owns_whole_eq]
  iintro ⟨⟨%f, -, H⟩, ⟨%d0, %f0, -, H0⟩, ⟨%d1, %f1, -, H1⟩, HR⟩
  isplitl [H H0 H1]
  · isplitl [H0]
    · iexists f0; iexact H0
    isplitl [H1]
    · iexists f1; iexact H1
    iexists f; iexact H
  iexact HR

/-- Every array of the forward call at its end is what `W1` says. -/
theorem arr0_exit (c : Dev nD) (w : Fin cfg0.W) : (pdats (F := F) m 0 c).arrAt w cfg0.N = rd (W1 m) c (Pipeline.arrRef spec0 w) := by
  match w with
  | ⟨0, _⟩ => exact ((dat0 (rd (W0 m)) c).arrAt_in 0 rfl _).trans ((A0_eq _ c 0).trans (W1_of m c (Pipeline.arrRef spec0 0) (by decide) (by decide)).symm)
  | ⟨1, _⟩ => exact ((dat0 (rd (W0 m)) c).arrAt_in 1 rfl _).trans ((A0_eq _ c 1).trans (W1_of m c (Pipeline.arrRef spec0 1) (by decide) (by decide)).symm)
  | ⟨2, _⟩ => exact ((dat0 (rd (W0 m)) c).arrAt_in 2 rfl _).trans ((A0_eq _ c 2).trans (W1_of m c (Pipeline.arrRef spec0 2) (by decide) (by decide)).symm)
  | ⟨3, _⟩ => exact ((dat0 (rd (W0 m)) c).arrAt_in 3 rfl _).trans ((A0_eq _ c 3).trans (W1_of m c (Pipeline.arrRef spec0 3) (by decide) (by decide)).symm)
  | ⟨4, _⟩ => exact ((dat0 (rd (W0 m)) c).arrAt_in 4 rfl _).trans ((A0_eq _ c 4).trans (W1_of m c (Pipeline.arrRef spec0 4) (by decide) (by decide)).symm)
  | ⟨5, _⟩ => exact ((dat0 (rd (W0 m)) c).arrAt_in 5 rfl _).trans ((A0_eq _ c 5).trans (W1_of m c (Pipeline.arrRef spec0 5) (by decide) (by decide)).symm)
  | ⟨6, _⟩ => exact ((dat0 (rd (W0 m)) c).arrAt_in 6 rfl _).trans ((A0_eq _ c 6).trans (W1_of m c (Pipeline.arrRef spec0 6) (by decide) (by decide)).symm)
  | ⟨7, _⟩ => exact (W1_h m c).symm
  | ⟨8, _⟩ => exact (W1_ya m c).symm
theorem rest0_exit (c : Dev nD) (b : Ref sig .tc) (hb : b ∉ Finset.univ.image (Pipeline.arrRef spec0)) : rd (W1 m) c b = rd (W0 m) c b :=
  W1_of m c b (fun h => hb (h ▸ Finset.mem_image.mpr ⟨7, Finset.mem_univ _, rfl⟩)) (fun h => hb (h ▸ Finset.mem_image.mpr ⟨8, Finset.mem_univ _, rfl⟩))

/-- Every array of the backward call at its end is what `W3` says. -/
theorem arr1_exit (c : Dev nD) (w : Fin cfg1.W) : (pdats (F := F) m 1 c).arrAt w cfg1.N = rd (W3 m) c (Pipeline.arrRef spec1 w) := by
  match w with
  | ⟨0, _⟩ => exact ((dat1 (rd (W2 m)) c).arrAt_in 0 rfl _).trans ((A1_eq _ c 0).trans (W3_of m c (Pipeline.arrRef spec1 0) (by decide)).symm)
  | ⟨1, _⟩ => exact ((dat1 (rd (W2 m)) c).arrAt_in 1 rfl _).trans ((A1_eq _ c 1).trans (W3_of m c (Pipeline.arrRef spec1 1) (by decide)).symm)
  | ⟨2, _⟩ => exact ((dat1 (rd (W2 m)) c).arrAt_in 2 rfl _).trans ((A1_eq _ c 2).trans (W3_of m c (Pipeline.arrRef spec1 2) (by decide)).symm)
  | ⟨3, _⟩ => exact ((dat1 (rd (W2 m)) c).arrAt_in 3 rfl _).trans ((A1_eq _ c 3).trans (W3_of m c (Pipeline.arrRef spec1 3) (by decide)).symm)
  | ⟨4, _⟩ => exact ((dat1 (rd (W2 m)) c).arrAt_in 4 rfl _).trans ((A1_eq _ c 4).trans (W3_of m c (Pipeline.arrRef spec1 4) (by decide)).symm)
  | ⟨5, _⟩ => exact ((dat1 (rd (W2 m)) c).arrAt_in 5 rfl _).trans ((A1_eq _ c 5).trans (W3_of m c (Pipeline.arrRef spec1 5) (by decide)).symm)
  | ⟨6, _⟩ => exact ((dat1 (rd (W2 m)) c).arrAt_in 6 rfl _).trans ((A1_eq _ c 6).trans (W3_of m c (Pipeline.arrRef spec1 6) (by decide)).symm)
  | ⟨7, _⟩ => exact ((dat1 (rd (W2 m)) c).arrAt_in 7 rfl _).trans ((A1_eq _ c 7).trans (W3_of m c (Pipeline.arrRef spec1 7) (by decide)).symm)
  | ⟨8, _⟩ => exact ((dat1 (rd (W2 m)) c).arrAt_in 8 rfl _).trans ((A1_eq _ c 8).trans (W3_of m c (Pipeline.arrRef spec1 8) (by decide)).symm)
  | ⟨9, _⟩ => exact ((dat1 (rd (W2 m)) c).arrAt_in 9 rfl _).trans ((A1_eq _ c 9).trans (W3_of m c (Pipeline.arrRef spec1 9) (by decide)).symm)
  | ⟨10, _⟩ => exact (W3_0 m c).symm
  | ⟨11, _⟩ => exact (W3_1 m c).symm
  | ⟨12, _⟩ => exact (W3_2 m c).symm
  | ⟨13, _⟩ => exact (W3_3 m c).symm
  | ⟨14, _⟩ => exact (W3_4 m c).symm
  | ⟨15, _⟩ => exact (W3_5 m c).symm
  | ⟨_ + 16, h⟩ => exact absurd h (Nat.not_lt.2 (Nat.le_add_left _ _))
theorem rest1_exit (c : Dev nD) (b : Ref sig .tc) (hb : b ∉ Finset.univ.image (Pipeline.arrRef spec1)) : rd (W3 m) c b = rd (W2 m) c b := by
  refine W3_of m c b fun h => hb ?_
  simp only [List.mem_cons, List.not_mem_nil, or_false] at h
  rcases h with rfl | rfl | rfl | rfl | rfl | rfl
  · exact Finset.mem_image.mpr ⟨10, Finset.mem_univ _, rfl⟩
  · exact Finset.mem_image.mpr ⟨11, Finset.mem_univ _, rfl⟩
  · exact Finset.mem_image.mpr ⟨12, Finset.mem_univ _, rfl⟩
  · exact Finset.mem_image.mpr ⟨13, Finset.mem_univ _, rfl⟩
  · exact Finset.mem_image.mpr ⟨14, Finset.mem_univ _, rfl⟩
  · exact Finset.mem_image.mpr ⟨15, Finset.mem_univ _, rfl⟩

set_option backward.isDefEq.respectTransparency.types false in
/-- The forward call as a region: entered with every buffer at `W0`, left with every buffer at `W1`. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation0 (rd (W0 m)) c).loose
  hwaits := Pipeline.hwaits_of_owed_zero _ _ _ _ L lv 0 fun _ _ => rfl
  pre c := iprop(unscopedBufs c (rd (W0 m) c) ∗ Rest c)
  post c := iprop(unscopedBufs c (rd (W1 m) c) ∗ Rest c)
  X _ := BI.emp
  Y _ := BI.emp
  Z c := Pipeline.unscopedRest (Ix := Unit) (Name := ℕ) (U := UR sig nD τ) (Lvl := ℕ) spec0 c (rd (W0 m) c)
  hentry c := by
    rw [Pipeline.ownSems0_none]
    have hsplit := Pipeline.arrays_of_unscopedBufs_shared (p := 0) (pcfgs (F := F)) adm (pdats m) winFacts₀0 sharedIn0 arr_whole0 c
      (fun _ _ => rfl) (rd (W0 m) c) fun w => A0_eq (rd (W0 m)) c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (dat0 (rd (W0 m)) c).Φ 0 from rfl]
    exact phi0_in _ c
  hout c := by
    rw [Pipeline.ownSems0_none, show (pdats m 0 c).Φ (Fin.last _) = (dat0 (rd (W0 m)) c).Φ (Fin.last _) from rfl]
    iintro Hr
    isplitr; · iempintro
    isplitr; · iempintro
    iapply (phi0_out (rd (W0 m)) c)
    iexact Hr
  hexit c := by
    have hjoin := Pipeline.unscopedBufs_of_arrays_shared (p := 0) (pcfgs (F := F)) adm (Ix := Unit) (Name := ℕ) (U := UR sig nD τ) (Lvl := ℕ)
      winFacts₀0 sharedIn0 arr_whole0 c (pdats m) (fun _ _ => rfl) (rd (W0 m) c) (rd (W1 m) c) ((pdats m 0 c).arrAt · cfg0.N)
      (fun w => arr0_exit m c w) (fun b hb => rest0_exit m c b hb)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The backward call as a region: entered with every buffer at `W2`, left with every buffer at `W3`. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (rd (W2 m)) c).loose
  hwaits := Pipeline.hwaits_of_owed_zero _ _ _ _ L lv 1 fun _ _ => rfl
  pre c := iprop(unscopedBufs c (rd (W2 m) c) ∗ Rest c)
  post c := iprop(unscopedBufs c (rd (W3 m) c) ∗ Rest c)
  X _ := BI.emp
  Y _ := BI.emp
  Z c := Pipeline.unscopedRest (Ix := Unit) (Name := ℕ) (U := UR sig nD τ) (Lvl := ℕ) spec1 c (rd (W2 m) c)
  hentry c := by
    rw [Pipeline.ownSems0_none]
    have hsplit := Pipeline.arrays_of_unscopedBufs_shared (p := 1) (pcfgs (F := F)) adm (pdats m) winFacts₀1 sharedIn1 arr_whole1 c
      (fun _ _ => rfl) (rd (W2 m) c) fun w => A1_eq (rd (W2 m)) c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (dat1 (rd (W2 m)) c).Φ 0 from rfl]
    exact phi1_in _ c
  hout c := by
    rw [Pipeline.ownSems0_none, show (pdats m 1 c).Φ (Fin.last _) = (dat1 (rd (W2 m)) c).Φ (Fin.last _) from rfl]
    iintro Hr
    isplitr; · iempintro
    isplitr; · iempintro
    iapply (phi1_out (rd (W2 m)) c)
    iexact Hr
  hexit c := by
    have hjoin := Pipeline.unscopedBufs_of_arrays_shared (p := 1) (pcfgs (F := F)) adm (Ix := Unit) (Name := ℕ) (U := UR sig nD τ) (Lvl := ℕ)
      winFacts₀1 sharedIn1 arr_whole1 c (pdats m) (fun _ _ => rfl) (rd (W2 m) c) (rd (W3 m) c) ((pdats m 1 c).arrAt · cfg1.N)
      (fun w => arr1_exit m c w) (fun b hb => rest1_exit m c b hb)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The copy between the two calls. -/
def cpy : Pipeline.HostSeg (Ix := Unit) (Name := ℕ) (U := UR sig nD τ) (Lvl := ℕ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) Rest

/-- The program's items. -/
abbrev items (_ : Dev nD) : List (Pipeline.Seg (pcfgs (F := F)) adm (pdats m) () defs₀ Variants.none L lv) :=
  [.region (reg0 m), .host (cpy m), .region (reg1 m)]

/-- What the run leaves: every buffer of the program's own at `W3`. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = W3 m c (Proc.devRef .tc b)

theorem held_of (c : Dev nD) (W : Dev nD → Valuation τ sig (Elt F)) :
    (unscopedBufs c (rd W c) : sProp 𝕄) = StableHlo.held (c : Thread nD τ) (Pipeline.ucRefs τ sig) (W c) :=
  Pipeline.unscopedBufs_held (Ix := Unit) (Name := ℕ) (U := UR sig nD τ) (Lvl := ℕ) c (W c)

set_option backward.isDefEq.respectTransparency.types false in
/-- What a core is given at the launch holds its buffers and owes nothing. -/
theorem launch_pre (c : Dev nD) :
    iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ iprop(emp))
      ⊢ (iprop(unscopedBufs c (rd (W0 m) c) ∗ Rest c) : sProp 𝕄) := by
  iintro ⟨Hu, -, Ho, -, -, -⟩
  isplitl [Hu]; · iexact Hu
  iexists ∅; iexact Ho

/-- The run: from any memory, all counters at zero, the program ends with every buffer at `W3` and all counters at zero. -/
theorem run_main : θ_run defs (onTc (τ := τ) (main (F := F))) ⟨m, fun _ => 0, ρ⟩ (fun r => Final m r.2 ∧ r.2.sem = fun _ => 0) := by
  refine Pipeline.θ_run_regions_kit_dev_sems (pcfgs (F := F)) adm (pdats m) () cellOf_inj (emb₁ : Emb (UR sig nD τ) 𝕄) defs₀ Variants.none L lv m ρ main
    (items m)
    (fun c Q => by
      rewrite [main_chain c, Pipeline.Seg.run_eq_chain,
        show (items m c).map Pipeline.Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Pipeline.Seg.pipes_host, Pipeline.Seg.pipes_region, Pipeline.Seg.pipes_nil]; decide)
    (O₀ := fun _ => 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
          ⊢ BI.own ((emb₁ : Emb (UR sig nD τ) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (rd (W0 m) c) ∗ Rest c))
    (Tₙ := fun c => unscopedBufs c (rd (W3 m) c))
    (hch := fun c => ⟨.rfl, sep_mono (Entails.of_eq (held_of c (W1 m))) .rfl, sep_mono (Entails.of_eq (held_of c (W2 m)).symm) .rfl, .rfl⟩)
    (hinit := ?_)
    (QY := fun c s => ∀ b : Ref sig .tc, (Proc.devRef .tc b : DevRef τ sig) ∈ Pipeline.ucRefs τ sig →
      s.mem ((c : Thread nD τ).loc b) = W3 m c (Proc.devRef .tc b))
    (hfin := fun c s' => ?_) (hQ := fun _ h hz => ⟨h, funext fun g => hz g (.inr (regions_no_unscoped g.2))⟩)
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ iprop(emp)))
        ⊢ (bigSep Finset.univ fun c : Dev nD => iprop(unscopedBufs c (rd (W0 m) c) ∗ Rest c) : sProp 𝕄) from
      bigSep_mono fun c _ => launch_pre m ρ c)
    iexact H
  · rw [held_of]
    unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact fun b hb => h _ hb
    · iexact HSI

theorem mem_uc (b : Ref sig .tc) (h : ¬ (Proc.devRef (τ := τ) .tc b).isScoped) : (Proc.devRef .tc b : DevRef τ sig) ∈ Pipeline.ucRefs τ sig :=
  Finset.mem_filter.mpr ⟨StableHlo.devRef_mem_tcRefs b, h⟩

/-- What the run leaves, buffer by buffer: the arguments as launched, the results at what the backward call leaves. -/
structure Ends (s : MemSt nD τ sig (Elt F)) (c : Dev nD) : Prop where
  a0 : s.mem ((c : Thread nD τ).loc main_arg0) = m ((c : Thread nD τ).loc main_arg0)
  a1 : s.mem ((c : Thread nD τ).loc main_arg1) = m ((c : Thread nD τ).loc main_arg1)
  a2 : s.mem ((c : Thread nD τ).loc main_arg2) = m ((c : Thread nD τ).loc main_arg2)
  a3 : s.mem ((c : Thread nD τ).loc main_arg3) = m ((c : Thread nD τ).loc main_arg3)
  a4 : s.mem ((c : Thread nD τ).loc main_arg4) = m ((c : Thread nD τ).loc main_arg4)
  a5 : s.mem ((c : Thread nD τ).loc main_arg5) = m ((c : Thread nD τ).loc main_arg5)
  a6 : s.mem ((c : Thread nD τ).loc main_arg6) = m ((c : Thread nD τ).loc main_arg6)
  a7 : s.mem ((c : Thread nD τ).loc main_arg7) = m ((c : Thread nD τ).loc main_arg7)
  r0 : s.mem ((c : Thread nD τ).loc main_v1_0) = bwdOut m 10 c
  r1 : s.mem ((c : Thread nD τ).loc main_v1_1) = bwdOut m 11 c
  r2 : s.mem ((c : Thread nD τ).loc main_v1_2) = bwdOut m 12 c
  r3 : s.mem ((c : Thread nD τ).loc main_v1_3) = bwdOut m 13 c
  r4 : s.mem ((c : Thread nD τ).loc main_v1_4) = bwdOut m 14 c
  r5 : s.mem ((c : Thread nD τ).loc main_v1_5) = bwdOut m 15 c

theorem ends_of (s : MemSt nD τ sig (Elt F)) (h : Final m s) (c : Dev nD) : Ends m s c where
  a0 := (h c main_arg0 (mem_uc _ (by decide))).trans (W3_arg m c main_arg0 (by decide) (by decide) (by decide) (by decide))
  a1 := (h c main_arg1 (mem_uc _ (by decide))).trans (W3_arg m c main_arg1 (by decide) (by decide) (by decide) (by decide))
  a2 := (h c main_arg2 (mem_uc _ (by decide))).trans (W3_arg m c main_arg2 (by decide) (by decide) (by decide) (by decide))
  a3 := (h c main_arg3 (mem_uc _ (by decide))).trans (W3_arg m c main_arg3 (by decide) (by decide) (by decide) (by decide))
  a4 := (h c main_arg4 (mem_uc _ (by decide))).trans (W3_arg m c main_arg4 (by decide) (by decide) (by decide) (by decide))
  a5 := (h c main_arg5 (mem_uc _ (by decide))).trans (W3_arg m c main_arg5 (by decide) (by decide) (by decide) (by decide))
  a6 := (h c main_arg6 (mem_uc _ (by decide))).trans (W3_arg m c main_arg6 (by decide) (by decide) (by decide) (by decide))
  a7 := (h c main_arg7 (mem_uc _ (by decide))).trans (W3_arg m c main_arg7 (by decide) (by decide) (by decide) (by decide))
  r0 := (h c main_v1_0 (mem_uc _ (by decide))).trans (W3_0 m c)
  r1 := (h c main_v1_1 (mem_uc _ (by decide))).trans (W3_1 m c)
  r2 := (h c main_v1_2 (mem_uc _ (by decide))).trans (W3_2 m c)
  r3 := (h c main_v1_3 (mem_uc _ (by decide))).trans (W3_3 m c)
  r4 := (h c main_v1_4 (mem_uc _ (by decide))).trans (W3_4 m c)
  r5 := (h c main_v1_5 (mem_uc _ (by decide))).trans (W3_5 m c)

end Cert.KernelIdeal.RG

end
-- ==== Proof.RefOps.lean ====
/-
The reference as stretches of host operations around its two loops: the lists, and that its program is their chain.
-/
module

public import proofs.«01_k».proof.Proof.Gen.ReferenceIdeal
public import Idealize.ShloMosaic.Lib.Pipeline.RegionsLoop
public import Idealize.ShloMosaic.Lib.StableHlo.RunLoop
public import Idealize.ShloMosaic.Lib.StableHlo.RunRead
public import Idealize.ShloMosaic.Lib.StableHlo.RunClose

@[expose] public section

set_option maxRecDepth 16384

noncomputable section

namespace Cert.ReferenceIdeal.RG

open Cert.ReferenceIdeal
open Idealize.ShloMosaic Idealize.ShloMosaic.TcCoe Idealize.ShloMosaic.StableHlo
open Idealize.SL.Sem
open Facts₀ Facts

variable {F : FTy → Type} [FloatOps F]

/-- Stretch 0 of the host operations before the first loop. -/
abbrev ops0_0 : List (HloOp τ sig (Elt F)) :=
  [ StableHlo.unary main_arg1 main_v0 ((extractStridedSlice S8208x1280 ![240, 0] · slices_S8448x2560_S8208x1280_240_0) : (⟨S8448x2560, .bf16⟩ : BufTy).Contents (Elt F) → (⟨S8208x1280, .bf16⟩ : BufTy).Contents (Elt F)),
    StableHlo.unary main_v0 main_v1 ((extf .f32 · bitsLt_bf16_f32) : (⟨S8208x1280, .bf16⟩ : BufTy).Contents (Elt F) → (⟨S8208x1280, .f32⟩ : BufTy).Contents (Elt F)),
    StableHlo.unary main_arg1 main_v2 ((extractStridedSlice S8208x1280 ![240, 1280] · slices_S8448x2560_S8208x1280_240_1280) : (⟨S8448x2560, .bf16⟩ : BufTy).Contents (Elt F) → (⟨S8208x1280, .bf16⟩ : BufTy).Contents (Elt F)),
    StableHlo.unary main_v2 main_v3 ((extf .f32 · bitsLt_bf16_f32) : (⟨S8208x1280, .bf16⟩ : BufTy).Contents (Elt F) → (⟨S8208x1280, .f32⟩ : BufTy).Contents (Elt F)),
    StableHlo.unary main_arg2 main_v4 ((extractStridedSlice S8208x1280 ![240, 0] · slices_S8448x1280_S8208x1280_240_0) : (⟨S8448x1280, .bf16⟩ : BufTy).Contents (Elt F) → (⟨S8208x1280, .bf16⟩ : BufTy).Contents (Elt F)),
    StableHlo.unary main_v4 main_v5 ((extf .f32 · bitsLt_bf16_f32) : (⟨S8208x1280, .bf16⟩ : BufTy).Contents (Elt F) → (⟨S8208x1280, .f32⟩ : BufTy).Contents (Elt F)),
    StableHlo.unary main_arg3 main_v6 ((extractStridedSlice S8208x1280 ![240, 7680] · slices_S8448x8960_S8208x1280_240_7680) : (⟨S8448x8960, .bf16⟩ : BufTy).Contents (Elt F) → (⟨S8208x1280, .bf16⟩ : BufTy).Contents (Elt F)),
    StableHlo.unary main_v6 main_v7 ((extf .f32 · bitsLt_bf16_f32) : (⟨S8208x1280, .bf16⟩ : BufTy).Contents (Elt F) → (⟨S8208x1280, .f32⟩ : BufTy).Contents (Elt F)) ]
theorem ops0_0_sub : (ops0_0 (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem ops0_0_fresh : ∀ op ∈ (ops0_0 (F := F)), op.fresh = ∅ := by
  intro _ h; (repeat (cases h with | head => rfl | tail _ h => ?_)); exact nomatch h
abbrev ops0_0_W : List (Ref sig .tc) := [main_v0, main_v1, main_v2, main_v3, main_v4, main_v5, main_v6, main_v7]
theorem ops0_0_writes : (ops0_0 (F := F)).Forall fun op => op.writes ⊆ (ops0_0_W.map (Proc.devRef (τ := τ) .tc)).toFinset :=
  StableHlo.forall_writes_sub_of_map rfl

/-- Stretch 1 of the host operations before the first loop. -/
abbrev ops0_1 : List (HloOp τ sig (Elt F)) :=
  [ StableHlo.unary main_arg4 main_v8 (broadcastInDim S8208x1280 ![0, 1] bcast_S1x1280_S8208x1280_0_1 : (⟨S1x1280, .f32⟩ : BufTy).Contents (Elt F) → (⟨S8208x1280, .f32⟩ : BufTy).Contents (Elt F)),
    StableHlo.binary main_v1 main_v8 main_v9 (addf : (⟨S8208x1280, .f32⟩ : BufTy).Contents (Elt F) → (⟨S8208x1280, .f32⟩ : BufTy).Contents (Elt F) → (⟨S8208x1280, .f32⟩ : BufTy).Contents (Elt F)),
    StableHlo.unary main_v9 main_v10 (Host.negf : (⟨S8208x1280, .f32⟩ : BufTy).Contents (Elt F) → (⟨S8208x1280, .f32⟩ : BufTy).Contents (Elt F)),
    StableHlo.unary main_v10 main_v11 (Host.exp : (⟨S8208x1280, .f32⟩ : BufTy).Contents (Elt F) → (⟨S8208x1280, .f32⟩ : BufTy).Contents (Elt F)),
    StableHlo.nullary main_cst (constant S_ .f32 0x3F800000#32),
    StableHlo.unary main_cst main_v12 (broadcastInDim S8208x1280 ![] bcast_S_S8208x1280 : (⟨S_, .f32⟩ : BufTy).Contents (Elt F) → (⟨S8208x1280, .f32⟩ : BufTy).Contents (Elt F)),
    StableHlo.binary main_v12 main_v11 main_v13 (addf : (⟨S8208x1280, .f32⟩ : BufTy).Contents (Elt F) → (⟨S8208x1280, .f32⟩ : BufTy).Contents (Elt F) → (⟨S8208x1280, .f32⟩ : BufTy).Contents (Elt F)),
    StableHlo.nullary main_cst_0 (constant S_ .f32 0x3F800000#32),
    StableHlo.unary main_cst_0 main_v14 (broadcastInDim S8208x1280 ![] bcast_S_S8208x1280 : (⟨S_, .f32⟩ : BufTy).Contents (Elt F) → (⟨S8208x1280, .f32⟩ : BufTy).Contents (Elt F)),
    StableHlo.binary main_v14 main_v13 main_v15 (Host.divf : (⟨S8208x1280, .f32⟩ : BufTy).Contents (Elt F) → (⟨S8208x1280, .f32⟩ : BufTy).Contents (Elt F) → (⟨S8208x1280, .f32⟩ : BufTy).Contents (Elt F)),
    StableHlo.nullary main_cst_1 (constant S_ .f32 0x3F800000#32),
    StableHlo.unary main_cst_1 main_v16 (broadcastInDim S8208x1280 ![] bcast_S_S8208x1280 : (⟨S_, .f32⟩ : BufTy).Contents (Elt F) → (⟨S8208x1280, .f32⟩ : BufTy).Contents (Elt F)),
    StableHlo.binary main_v16 main_v15 main_v17 (subf : (⟨S8208x1280, .f32⟩ : BufTy).Contents (Elt F) → (⟨S8208x1280, .f32⟩ : BufTy).Contents (Elt F) → (⟨S8208x1280, .f32⟩ : BufTy).Contents (Elt F)),
    StableHlo.binary main_v15 main_v17 main_v18 (mulf : (⟨S8208x1280, .f32⟩ : BufTy).Contents (Elt F) → (⟨S8208x1280, .f32⟩ : BufTy).Contents (Elt F) → (⟨S8208x1280, .f32⟩ : BufTy).Contents (Elt F)) ]
theorem ops0_1_sub : (ops0_1 (F := F)).Forall fun op => op.bufs ⊆ StableHlo.tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem ops0_1_fresh : ∀ op ∈ (ops0_1 (F := F)), op.fresh = ∅ := by
  intro _ h; (repeat (cases h with | head => rfl | tail _ h => ?_)); exact nomatch h
abbrev ops0_1_W : List (Ref sig .tc) := [main_v8, main_v9, main_v10, main_v11, main_cst, main_v12, main_v13, main_cst_0, main_v14, main_v15, main_cst_1, main_v16, main_v17, main_v18]
theorem ops0_1_writes : (ops0_1 (F := F)).Forall fun op => op.writes ⊆ (ops0_1_W.map (Proc.devRef (τ := τ) .tc)).toFinset :=
  StableHlo.forall_writes_sub_of_map rfl

/-- Stretch 2 of the host operations before the first loop. -/
abbrev ops0_2 : List (HloOp τ sig (Elt F)) :=
  [ StableHlo.unary main_arg5 main_v19 (broadcastInDim S8208x1280 ![0, 1] bcast_S1x1280_S8208x1280_0_1 : (⟨S1x1280, .f32⟩ : BufTy).Contents (Elt F) → (⟨S8208x1280, .f32⟩ : BufTy).Contents (Elt F)),
    StableHlo.binary main_v3 main_v19 main_v20 (addf : (⟨S8208x1280, .f32⟩ : BufTy).Contents (Elt F) → (⟨S8208x1280, .f32⟩ : BufTy).Contents (Elt F) → (⟨S8208x1280, .f32⟩ : BufTy).Contents (Elt F)),
    StableHlo.unary main_v20 main_v21 (Host.negf : (⟨S8208x1280, .f32⟩ : BufTy).Contents (Elt F) → (⟨S8208x1280, .f32⟩ : BufTy).Contents (Elt F)),
    StableHlo.unary main_v21 main_v22 (Host.exp : (⟨S8208x1280, .f32⟩ : BufTy).Contents (Elt F) → (⟨S8208x1280, .f32⟩ : BufTy).Contents (Elt F)),
    StableHlo.nullary main_cst_2 (constant S_ .f32 0x3F800000#32),
    StableHlo.unary main_cst_2 main_v23 (broadcastInDim S8208x1280 ![] bcast_S_S8208x1280 : (⟨S_, .f32⟩ : BufTy).Contents (Elt F) → (⟨S8208x1280, .f32⟩ : BufTy).Contents (Elt F)),
    StableHlo.binary main_v23 main_v22 main_v24 (addf : (⟨S8208x1280, .f32⟩ : BufTy).Contents (Elt F) → (⟨S8208x1280, .f32⟩ : BufTy).Contents (Elt F) → (⟨S8208x1280, .f32⟩ : BufTy).Contents (Elt F)),
    StableHlo.nullary main_cst_3 (constant S_ .f32 0x3F800000#32),
    StableHlo.unary main_cst_3 main_v25 (broadcastInDim S8208x1280 ![] bcast_S_S8208x1280 : (⟨S_, .f32⟩ : BufTy).Contents (Elt F) → (⟨S8208x1280, .f32⟩ : BufTy).Contents (Elt F)),
    StableHlo.binary main_v25 main_v24 main_v26 (Host.divf : (⟨S8208x1280, .f32⟩ : BufTy).Contents (Elt F) → (⟨S8208x1280, .f32⟩ : BufTy).Contents (Elt F) → (⟨S8208x1280, .f32⟩ : BufTy).Contents (Elt F)),
    StableHlo.nullary main_cst_4 (constant S_ .f32 0x3F800000#32),
    StableHlo.unary main_cst_4 main_v27 (broadcastInDim S8208x1280 ![] bcast_S_S8208x1280 : (⟨S_, .f32⟩ : BufTy).Contents (Elt F) → (⟨S8208x1280, .f32⟩ : BufTy).Contents (Elt F)),
    StableHlo.binary main_v27 main_v26 main_v28 (subf : (⟨S8208x1280, .f32⟩ : BufTy).Contents (Elt F) → (⟨S8208x1280, .f32⟩ : BufTy).Contents (Elt F) → (⟨S8208x1280, .f32⟩ : BufTy).Contents (Elt F)),
    StableHlo.binary main_v26 main_v28 main_v29 (mulf : (⟨S8208x1280, .f32⟩ : BufTy).Contents (Elt F) → (⟨S8208x1280, .f32⟩ : BufTy).Contents (Elt F) → (⟨S8208x1280, .f32⟩ : BufTy).Contents (Elt F)) ]
theorem ops0_2_sub : (ops0_2 (F := F)).Forall fun op => op.bufs ⊆ StableHlo.tcRefs τ sig :=
  ⟨StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem ops0_2_fresh : ∀ op ∈ (ops0_2 (F := F)), op.fresh = ∅ := by
  intro _ h; (repeat (cases h with | head => rfl | tail _ h => ?_)); exact nomatch h
abbrev ops0_2_W : List (Ref sig .tc) := [main_v19, main_v20, main_v21, main_v22, main_cst_2, main_v23, main_v24, main_cst_3, main_v25, main_v26, main_cst_4, main_v27, main_v28, main_v29]
theorem ops0_2_writes : (ops0_2 (F := F)).Forall fun op => op.writes ⊆ (ops0_2_W.map (Proc.devRef (τ := τ) .tc)).toFinset :=
  StableHlo.forall_writes_sub_of_map rfl

/-- Stretch 3 of the host operations before the first loop. -/
abbrev ops0_3 : List (HloOp τ sig (Elt F)) :=
  [ StableHlo.nullary main_cst_5 (constant S_ .f32 0xC1000000#32),
    StableHlo.unary main_cst_5 main_v30 (broadcastInDim S8208x1280 ![] bcast_S_S8208x1280 : (⟨S_, .f32⟩ : BufTy).Contents (Elt F) → (⟨S8208x1280, .f32⟩ : BufTy).Contents (Elt F)),
    StableHlo.binary main_v30 main_v15 main_v31 (mulf : (⟨S8208x1280, .f32⟩ : BufTy).Contents (Elt F) → (⟨S8208x1280, .f32⟩ : BufTy).Contents (Elt F) → (⟨S8208x1280, .f32⟩ : BufTy).Contents (Elt F)),
    StableHlo.unary main_arg6 main_v32 (Host.negf : (⟨S1x1280, .f32⟩ : BufTy).Contents (Elt F) → (⟨S1x1280, .f32⟩ : BufTy).Contents (Elt F)) ]
theorem ops0_3_sub : (ops0_3 (F := F)).Forall fun op => op.bufs ⊆ StableHlo.tcRefs τ sig :=
  ⟨StableHlo.nullary_bufs_sub .., StableHlo.unary_bufs_sub .., StableHlo.binary_bufs_sub .., StableHlo.unary_bufs_sub ..⟩
theorem ops0_3_fresh : ∀ op ∈ (ops0_3 (F := F)), op.fresh = ∅ := by
  intro _ h; (repeat (cases h with | head => rfl | tail _ h => ?_)); exact nomatch h
abbrev ops0_3_W : List (Ref sig .tc) := [main_cst_5, main_v30, main_v31, main_v32]
theorem ops0_3_writes : (ops0_3 (F := F)).Forall fun op => op.writes ⊆ (ops0_3_W.map (Proc.devRef (τ := τ) .tc)).toFinset :=
  StableHlo.forall_writes_sub_of_map rfl

/-- Stretch 4 of the host operations before the first loop. -/
abbrev ops0_4 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1x1280, .f32⟩) (broadcastInDim S1x1280 ![] bcast_S_S1x1280),
    StableHlo.TRef.binary (.of main_v32 : StableHlo.TRef sig ⟨S1x1280, .f32⟩) (.of main_call0_v0 : StableHlo.TRef sig ⟨S1x1280, .f32⟩) (.of main_call0_v1 : StableHlo.TRef sig ⟨S1x1280, .f32⟩) maximumf,
    StableHlo.TRef.unary (.of main_call0_cst : StableHlo.TRef sig ⟨S_, .f32⟩) (.of main_call0_v2 : StableHlo.TRef sig ⟨S1x1280, .f32⟩) (broadcastInDim S1x1280 ![] bcast_S_S1x1280),
    StableHlo.TRef.binary (.of main_v32 : StableHlo.TRef sig ⟨S1x1280, .f32⟩) (.of main_call0_v2 : StableHlo.TRef sig ⟨S1x1280, .f32⟩) (.of main_call0_v3 : StableHlo.TRef sig ⟨S1x1280, .f32⟩) subf,
    StableHlo.TRef.binary (.of main_call0_v3 : StableHlo.TRef sig ⟨S1x1280, .f32⟩) (.of main_call0_v3 : StableHlo.TRef sig ⟨S1x1280, .f32⟩) (.of main_call0_v4 : StableHlo.TRef sig ⟨S1x1280, .i1⟩) (cmpf .une),
    StableHlo.TRef.unary (.of main_call0_cst : StableHlo.TRef sig ⟨S_, .f32⟩) (.of main_call0_v5 : StableHlo.TRef sig ⟨S1x1280, .f32⟩) (broadcastInDim S1x1280 ![] bcast_S_S1x1280),
    StableHlo.TRef.binary (.of main_v32 : StableHlo.TRef sig ⟨S1x1280, .f32⟩) (.of main_call0_v5 : StableHlo.TRef sig ⟨S1x1280, .f32⟩) (.of main_call0_v6 : StableHlo.TRef sig ⟨S1x1280, .f32⟩) addf,
    StableHlo.TRef.unary (.of main_call0_v3 : StableHlo.TRef sig ⟨S1x1280, .f32⟩) (.of main_call0_v7 : StableHlo.TRef sig ⟨S1x1280, .f32⟩) Host.absf,
    StableHlo.TRef.unary (.of main_call0_v7 : StableHlo.TRef sig ⟨S1x1280, .f32⟩) (.of main_call0_v8 : StableHlo.TRef sig ⟨S1x1280, .f32⟩) Host.negf,
    StableHlo.TRef.unary (.of main_call0_v8 : StableHlo.TRef sig ⟨S1x1280, .f32⟩) (.of main_call0_v9 : StableHlo.TRef sig ⟨S1x1280, .f32⟩) Host.exp,
    StableHlo.TRef.unary (.of main_call0_v9 : StableHlo.TRef sig ⟨S1x1280, .f32⟩) (.of main_call0_v10 : StableHlo.TRef sig ⟨S1x1280, .f32⟩) Host.log1p,
    StableHlo.TRef.binary (.of main_call0_v1 : StableHlo.TRef sig ⟨S1x1280, .f32⟩) (.of main_call0_v10 : StableHlo.TRef sig ⟨S1x1280, .f32⟩) (.of main_call0_v11 : StableHlo.TRef sig ⟨S1x1280, .f32⟩) addf,
    StableHlo.TRef.ternary (.of main_call0_v4 : StableHlo.TRef sig ⟨S1x1280, .i1⟩) (.of main_call0_v6 : StableHlo.TRef sig ⟨S1x1280, .f32⟩) (.of main_call0_v11 : StableHlo.TRef sig ⟨S1x1280, .f32⟩) (.of main_v33_0 : StableHlo.TRef sig ⟨S1x1280, .f32⟩) select,
    StableHlo.TRef.nullary (.of main_call0_cst_0 : StableHlo.TRef sig ⟨S_, .f32⟩) (constant S_ .f32 0x7F800000#32),
    StableHlo.TRef.unary (.of main_call0_cst_0 : StableHlo.TRef sig ⟨S_, .f32⟩) (.of main_call0_v13 : StableHlo.TRef sig ⟨S1x1280, .f32⟩) (broadcastInDim S1x1280 ![] bcast_S_S1x1280),
    StableHlo.TRef.binary (.of main_v32 : StableHlo.TRef sig ⟨S1x1280, .f32⟩) (.of main_call0_v13 : StableHlo.TRef sig ⟨S1x1280, .f32⟩) (.of main_call0_v14 : StableHlo.TRef sig ⟨S1x1280, .i1⟩) (cmpf .oeq),
    StableHlo.TRef.nullary (.of main_call0_cst_1 : StableHlo.TRef sig ⟨S_, .f32⟩) (constant S_ .f32 0x00000000#32),
    StableHlo.TRef.unary (.of main_call0_cst_1 : StableHlo.TRef sig ⟨S_, .f32⟩) (.of main_call0_v15 : StableHlo.TRef sig ⟨S1x1280, .f32⟩) (broadcastInDim S1x1280 ![] bcast_S_S1x1280),
    StableHlo.TRef.ternary (.of main_call0_v14 : StableHlo.TRef sig ⟨S1x1280, .i1⟩) (.of main_call0_v15 : StableHlo.TRef sig ⟨S1x1280, .f32⟩) (.of main_v32 : StableHlo.TRef sig ⟨S1x1280, .f32⟩) (.of main_call0_v16 : StableHlo.TRef sig ⟨S1x1280, .f32⟩) select,
    StableHlo.TRef.nullary (.of main_call0_cst_2 : StableHlo.TRef sig ⟨S_, .f32⟩) (constant S_ .f32 0x7F800000#32),
    StableHlo.TRef.unary (.of main_call0_cst_2 : StableHlo.TRef sig ⟨S_, .f32⟩) (.of main_call0_v17 : StableHlo.TRef sig ⟨S1x1280, .f32⟩) (broadcastInDim S1x1280 ![] bcast_S_S1x1280),
    StableHlo.TRef.binary (.of main_v33_0 : StableHlo.TRef sig ⟨S1x1280, .f32⟩) (.of main_call0_v17 : StableHlo.TRef sig ⟨S1x1280, .f32⟩) (.of main_call0_v18 : StableHlo.TRef sig ⟨S1x1280, .i1⟩) (cmpf .oeq),
    StableHlo.TRef.nullary (.of main_call0_cst_3 : StableHlo.TRef sig ⟨S_, .f32⟩) (constant S_ .f32 0x00000000#32),
    StableHlo.TRef.unary (.of main_call0_cst_3 : StableHlo.TRef sig ⟨S_, .f32⟩) (.of main_call0_v19 : StableHlo.TRef sig ⟨S1x1280, .f32⟩) (broadcastInDim S1x1280 ![] bcast_S_S1x1280),
    StableHlo.TRef.ternary (.of main_call0_v18 : StableHlo.TRef sig ⟨S1x1280, .i1⟩) (.of main_call0_v19 : StableHlo.TRef sig ⟨S1x1280, .f32⟩) (.of main_v33_0 : StableHlo.TRef sig ⟨S1x1280, .f32⟩) (.of main_call0_v20 : StableHlo.TRef sig ⟨S1x1280, .f32⟩) select,
    StableHlo.TRef.binary (.of main_call0_v16 : StableHlo.TRef sig ⟨S1x1280, .f32⟩) (.of main_call0_v20 : StableHlo.TRef sig ⟨S1x1280, .f32⟩) (.of main_call0_v21 : StableHlo.TRef sig ⟨S1x1280, .f32⟩) subf,
    StableHlo.TRef.unary (.of main_call0_v21 : StableHlo.TRef sig ⟨S1x1280, .f32⟩) (.of main_v33_1 : StableHlo.TRef sig ⟨S1x1280, .f32⟩) Host.exp,
    StableHlo.TRef.nullary (.of main_call0_cst_4 : StableHlo.TRef sig ⟨S_, .f32⟩) (constant S_ .f32 0x00000000#32),
    StableHlo.TRef.nullary (.of main_call0_cst_5 : StableHlo.TRef sig ⟨S_, .f32⟩) (constant S_ .f32 0x7F800000#32),
    StableHlo.TRef.binary (.of main_call0_cst_4 : StableHlo.TRef sig ⟨S_, .f32⟩) (.of main_call0_cst_5 : StableHlo.TRef sig ⟨S_, .f32⟩) (.of main_call0_v23 : StableHlo.TRef sig ⟨S_, .i1⟩) (cmpf .oeq),
    StableHlo.TRef.nullary (.of main_call0_cst_6 : StableHlo.TRef sig ⟨S_, .f32⟩) (constant S_ .f32 0x00000000#32),
    StableHlo.TRef.nullary (.of main_call0_cst_7 : StableHlo.TRef sig ⟨S_, .f32⟩) (constant S_ .f32 0x00000000#32),
    StableHlo.TRef.ternary (.of main_call0_v23 : StableHlo.TRef sig ⟨S_, .i1⟩) (.of main_call0_cst_7 : StableHlo.TRef sig ⟨S_, .f32⟩) (.of main_call0_cst_6 : StableHlo.TRef sig ⟨S_, .f32⟩) (.of main_call0_v24 : StableHlo.TRef sig ⟨S_, .f32⟩) select,
    StableHlo.TRef.nullary (.of main_call0_cst_8 : StableHlo.TRef sig ⟨S_, .f32⟩) (constant S_ .f32 0x7F800000#32),
    StableHlo.TRef.unary (.of main_call0_cst_8 : StableHlo.TRef sig ⟨S_, .f32⟩) (.of main_call0_v25 : StableHlo.TRef sig ⟨S1x1280, .f32⟩) (broadcastInDim S1x1280 ![] bcast_S_S1x1280),
    StableHlo.TRef.binary (.of main_v33_0 : StableHlo.TRef sig ⟨S1x1280, .f32⟩) (.of main_call0_v25 : StableHlo.TRef sig ⟨S1x1280, .f32⟩) (.of main_call0_v26 : StableHlo.TRef sig ⟨S1x1280, .i1⟩) (cmpf .oeq),
    StableHlo.TRef.nullary (.of main_call0_cst_9 : StableHlo.TRef sig ⟨S_, .f32⟩) (constant S_ .f32 0x00000000#32),
    StableHlo.TRef.unary (.of main_call0_cst_9 : StableHlo.TRef sig ⟨S_, .f32⟩) (.of main_call0_v27 : StableHlo.TRef sig ⟨S1x1280, .f32⟩) (broadcastInDim S1x1280 ![] bcast_S_S1x1280),
    StableHlo.TRef.ternary (.of main_call0_v26 : StableHlo.TRef sig ⟨S1x1280, .i1⟩) (.of main_call0_v27 : StableHlo.TRef sig ⟨S1x1280, .f32⟩) (.of main_v33_0 : StableHlo.TRef sig ⟨S1x1280, .f32⟩) (.of main_call0_v28 : StableHlo.TRef sig ⟨S1x1280, .f32⟩) select,
    StableHlo.TRef.unary (.of main_call0_v24 : StableHlo.TRef sig ⟨S_, .f32⟩) (.of main_call0_v29 : StableHlo.TRef sig ⟨S1x1280, .f32⟩) (broadcastInDim S1x1280 ![] bcast_S_S1x1280),
    StableHlo.TRef.binary (.of main_call0_v29 : StableHlo.TRef sig ⟨S1x1280, .f32⟩) (.of main_call0_v28 : StableHlo.TRef sig ⟨S1x1280, .f32⟩) (.of main_call0_v30 : StableHlo.TRef sig ⟨S1x1280, .f32⟩) subf,
    StableHlo.TRef.unary (.of main_call0_v30 : StableHlo.TRef sig ⟨S1x1280, .f32⟩) (.of main_call0_v31 : StableHlo.TRef sig ⟨S1x1280, .f32⟩) Host.exp,
    StableHlo.TRef.nullary (.of main_call0_cst_10 : StableHlo.TRef sig ⟨S_, .f32⟩) (constant S_ .f32 0x00000000#32),
    StableHlo.TRef.unary (.of main_call0_cst_10 : StableHlo.TRef sig ⟨S_, .f32⟩) (.of main_call0_v32 : StableHlo.TRef sig ⟨S1x1280, .f32⟩) (broadcastInDim S1x1280 ![] bcast_S_S1x1280),
    StableHlo.TRef.binary (.of main_call0_v32 : StableHlo.TRef sig ⟨S1x1280, .f32⟩) (.of main_call0_v31 : StableHlo.TRef sig ⟨S1x1280, .f32⟩) (.of main_v33_2 : StableHlo.TRef sig ⟨S1x1280, .f32⟩) mulf ]
theorem ops0_4_sub : (ops0_4 (F := F)).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub ..⟩
theorem ops0_4_fresh : ∀ op ∈ (ops0_4 (F := F)), op.fresh = ∅ := by
  intro _ h; (repeat (cases h with | head => rfl | tail _ h => ?_)); exact nomatch h
abbrev ops0_4_W : List (Ref sig .tc) := [main_call0_cst, main_call0_v0, main_call0_v1, main_call0_v2, main_call0_v3, main_call0_v4, main_call0_v5, main_call0_v6, main_call0_v7, main_call0_v8, main_call0_v9, main_call0_v10, main_call0_v11, main_v33_0, main_call0_cst_0, main_call0_v13, main_call0_v14, main_call0_cst_1, main_call0_v15, main_call0_v16, main_call0_cst_2, main_call0_v17, main_call0_v18, main_call0_cst_3, main_call0_v19, main_call0_v20, main_call0_v21, main_v33_1, main_call0_cst_4, main_call0_cst_5, main_call0_v23, main_call0_cst_6, main_call0_cst_7, main_call0_v24, main_call0_cst_8, main_call0_v25, main_call0_v26, main_call0_cst_9, main_call0_v27, main_call0_v28, main_call0_v29, main_call0_v30, main_call0_v31, main_call0_cst_10, main_call0_v32, main_v33_2]
theorem ops0_4_writes : (ops0_4 (F := F)).Forall fun op => op.writes ⊆ (ops0_4_W.map (Proc.devRef (τ := τ) .tc)).toFinset :=
  StableHlo.forall_writes_sub_of_map rfl

/-- Stretch 5 of the host operations before the first loop. -/
abbrev ops0_5 : List (HloOp τ sig (Elt F)) :=
  [ StableHlo.unary main_v33_0 main_v34 (broadcastInDim S8208x1280 ![0, 1] bcast_S1x1280_S8208x1280_0_1 : (⟨S1x1280, .f32⟩ : BufTy).Contents (Elt F) → (⟨S8208x1280, .f32⟩ : BufTy).Contents (Elt F)),
    StableHlo.binary main_v31 main_v34 main_v35 (mulf : (⟨S8208x1280, .f32⟩ : BufTy).Contents (Elt F) → (⟨S8208x1280, .f32⟩ : BufTy).Contents (Elt F) → (⟨S8208x1280, .f32⟩ : BufTy).Contents (Elt F)),
    StableHlo.unary main_v35 main_v36 (Host.exp : (⟨S8208x1280, .f32⟩ : BufTy).Contents (Elt F) → (⟨S8208x1280, .f32⟩ : BufTy).Contents (Elt F)),
    StableHlo.nullary main_cst_6 (constant S_ .f32 0x40000000#32),
    StableHlo.unary main_cst_6 main_v37 (broadcastInDim S8208x1280 ![] bcast_S_S8208x1280 : (⟨S_, .f32⟩ : BufTy).Contents (Elt F) → (⟨S8208x1280, .f32⟩ : BufTy).Contents (Elt F)),
    StableHlo.binary main_v37 main_v35 main_v38 (mulf : (⟨S8208x1280, .f32⟩ : BufTy).Contents (Elt F) → (⟨S8208x1280, .f32⟩ : BufTy).Contents (Elt F) → (⟨S8208x1280, .f32⟩ : BufTy).Contents (Elt F)),
    StableHlo.unary main_v38 main_v39 (Host.expm1 : (⟨S8208x1280, .f32⟩ : BufTy).Contents (Elt F) → (⟨S8208x1280, .f32⟩ : BufTy).Contents (Elt F)),
    StableHlo.unary main_v38 main_v40 (Host.exp : (⟨S8208x1280, .f32⟩ : BufTy).Contents (Elt F) → (⟨S8208x1280, .f32⟩ : BufTy).Contents (Elt F)),
    StableHlo.unary main_v39 main_v41 (Host.negf : (⟨S8208x1280, .f32⟩ : BufTy).Contents (Elt F) → (⟨S8208x1280, .f32⟩ : BufTy).Contents (Elt F)),
    StableHlo.unary main_v41 main_v42 (Host.sqrt : (⟨S8208x1280, .f32⟩ : BufTy).Contents (Elt F) → (⟨S8208x1280, .f32⟩ : BufTy).Contents (Elt F)),
    StableHlo.nullary main_cst_7 (constant S_ .f32 0x3F000000#32),
    StableHlo.unary main_cst_7 main_v43 (broadcastInDim S8208x1280 ![] bcast_S_S8208x1280 : (⟨S_, .f32⟩ : BufTy).Contents (Elt F) → (⟨S8208x1280, .f32⟩ : BufTy).Contents (Elt F)),
    StableHlo.binary main_v43 main_v42 main_v44 (Host.divf : (⟨S8208x1280, .f32⟩ : BufTy).Contents (Elt F) → (⟨S8208x1280, .f32⟩ : BufTy).Contents (Elt F) → (⟨S8208x1280, .f32⟩ : BufTy).Contents (Elt F)),
    StableHlo.binary main_v26 main_v5 main_v45 (mulf : (⟨S8208x1280, .f32⟩ : BufTy).Contents (Elt F) → (⟨S8208x1280, .f32⟩ : BufTy).Contents (Elt F) → (⟨S8208x1280, .f32⟩ : BufTy).Contents (Elt F)),
    StableHlo.binary main_v42 main_v45 main_v46 (mulf : (⟨S8208x1280, .f32⟩ : BufTy).Contents (Elt F) → (⟨S8208x1280, .f32⟩ : BufTy).Contents (Elt F) → (⟨S8208x1280, .f32⟩ : BufTy).Contents (Elt F)) ]
theorem ops0_5_sub : (ops0_5 (F := F)).Forall fun op => op.bufs ⊆ StableHlo.tcRefs τ sig :=
  ⟨StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub ..⟩
theorem ops0_5_fresh : ∀ op ∈ (ops0_5 (F := F)), op.fresh = ∅ := by
  intro _ h; (repeat (cases h with | head => rfl | tail _ h => ?_)); exact nomatch h
abbrev ops0_5_W : List (Ref sig .tc) := [main_v34, main_v35, main_v36, main_cst_6, main_v37, main_v38, main_v39, main_v40, main_v41, main_v42, main_cst_7, main_v43, main_v44, main_v45, main_v46]
theorem ops0_5_writes : (ops0_5 (F := F)).Forall fun op => op.writes ⊆ (ops0_5_W.map (Proc.devRef (τ := τ) .tc)).toFinset :=
  StableHlo.forall_writes_sub_of_map rfl

/-- Stretch 6 of the host operations before the first loop. -/
abbrev ops0_6 : List (HloOp τ sig (Elt F)) :=
  [ StableHlo.nullary main_cst_8 (constant S_ .f32 0x00000000#32),
    StableHlo.unary main_cst_8 main_v47 (broadcastInDim S1280 ![] bcast_S_S1280 : (⟨S_, .f32⟩ : BufTy).Contents (Elt F) → (⟨S1280, .f32⟩ : BufTy).Contents (Elt F)),
    StableHlo.nullary main_cst_9 (constant S_ .f32 0x00000000#32),
    StableHlo.unary main_cst_9 main_v48 (broadcastInDim S8208x1280 ![] bcast_S_S8208x1280 : (⟨S_, .f32⟩ : BufTy).Contents (Elt F) → (⟨S8208x1280, .f32⟩ : BufTy).Contents (Elt F)),
    StableHlo.nullary main_cst_10 (constant S_ .f32 0x00000000#32),
    StableHlo.unary main_cst_10 main_v49 (broadcastInDim S8208x1280 ![] bcast_S_S8208x1280 : (⟨S_, .f32⟩ : BufTy).Contents (Elt F) → (⟨S8208x1280, .f32⟩ : BufTy).Contents (Elt F)),
    StableHlo.nullary main_c (constantI S_ 32 0#32),
    StableHlo.unary main_v36 main_v50_0 id,
    StableHlo.unary main_v46 main_v50_1 id,
    StableHlo.unary main_c main_v50_2 id,
    StableHlo.unary main_v47 main_v50_3 id,
    StableHlo.unary main_v48 main_v50_4 id,
    StableHlo.unary main_v49 main_v50_5 id ]
theorem ops0_6_sub : (ops0_6 (F := F)).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem ops0_6_fresh : ∀ op ∈ (ops0_6 (F := F)), op.fresh = ∅ := by
  intro _ h; (repeat (cases h with | head => rfl | tail _ h => ?_)); exact nomatch h
abbrev ops0_6_W : List (Ref sig .tc) := [main_cst_8, main_v47, main_cst_9, main_v48, main_cst_10, main_v49, main_c, main_v50_0, main_v50_1, main_v50_2, main_v50_3, main_v50_4, main_v50_5]
theorem ops0_6_writes : (ops0_6 (F := F)).Forall fun op => op.writes ⊆ (ops0_6_W.map (Proc.devRef (τ := τ) .tc)).toFinset :=
  StableHlo.forall_writes_sub_of_map rfl

/-- Stretch 0 of the host operations between the loops. -/
abbrev ops1_0 : List (HloOp τ sig (Elt F)) :=
  [ StableHlo.binary main_v7 main_v7 main_v51 (mulf : (⟨S8208x1280, .f32⟩ : BufTy).Contents (Elt F) → (⟨S8208x1280, .f32⟩ : BufTy).Contents (Elt F) → (⟨S8208x1280, .f32⟩ : BufTy).Contents (Elt F)),
    StableHlo.binary main_v51 main_v7 main_v52 (mulf : (⟨S8208x1280, .f32⟩ : BufTy).Contents (Elt F) → (⟨S8208x1280, .f32⟩ : BufTy).Contents (Elt F) → (⟨S8208x1280, .f32⟩ : BufTy).Contents (Elt F)),
    StableHlo.binary main_v7 main_v7 main_v53 (mulf : (⟨S8208x1280, .f32⟩ : BufTy).Contents (Elt F) → (⟨S8208x1280, .f32⟩ : BufTy).Contents (Elt F) → (⟨S8208x1280, .f32⟩ : BufTy).Contents (Elt F)),
    StableHlo.nullary main_cst_11 (constant S_ .f32 0x40400000#32),
    StableHlo.unary main_cst_11 main_v54 (broadcastInDim S8208x1280 ![] bcast_S_S8208x1280 : (⟨S_, .f32⟩ : BufTy).Contents (Elt F) → (⟨S8208x1280, .f32⟩ : BufTy).Contents (Elt F)),
    StableHlo.binary main_v54 main_v53 main_v55 (mulf : (⟨S8208x1280, .f32⟩ : BufTy).Contents (Elt F) → (⟨S8208x1280, .f32⟩ : BufTy).Contents (Elt F) → (⟨S8208x1280, .f32⟩ : BufTy).Contents (Elt F)),
    StableHlo.nullary main_cst_12 (constant S_ .f32 0x472EAB00#32),
    StableHlo.unary main_cst_12 main_v56 (broadcastInDim S8208x1280 ![] bcast_S_S8208x1280 : (⟨S_, .f32⟩ : BufTy).Contents (Elt F) → (⟨S8208x1280, .f32⟩ : BufTy).Contents (Elt F)),
    StableHlo.binary main_v56 main_v52 main_v57 (mulf : (⟨S8208x1280, .f32⟩ : BufTy).Contents (Elt F) → (⟨S8208x1280, .f32⟩ : BufTy).Contents (Elt F) → (⟨S8208x1280, .f32⟩ : BufTy).Contents (Elt F)),
    StableHlo.nullary main_cst_13 (constant S_ .f32 0x49742400#32),
    StableHlo.unary main_cst_13 main_v58 (broadcastInDim S8208x1280 ![] bcast_S_S8208x1280 : (⟨S_, .f32⟩ : BufTy).Contents (Elt F) → (⟨S8208x1280, .f32⟩ : BufTy).Contents (Elt F)),
    StableHlo.binary main_v57 main_v58 main_v59 (Host.divf : (⟨S8208x1280, .f32⟩ : BufTy).Contents (Elt F) → (⟨S8208x1280, .f32⟩ : BufTy).Contents (Elt F) → (⟨S8208x1280, .f32⟩ : BufTy).Contents (Elt F)),
    StableHlo.binary main_v7 main_v59 main_v60 (addf : (⟨S8208x1280, .f32⟩ : BufTy).Contents (Elt F) → (⟨S8208x1280, .f32⟩ : BufTy).Contents (Elt F) → (⟨S8208x1280, .f32⟩ : BufTy).Contents (Elt F)) ]
theorem ops1_0_sub : (ops1_0 (F := F)).Forall fun op => op.bufs ⊆ StableHlo.tcRefs τ sig :=
  ⟨StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem ops1_0_fresh : ∀ op ∈ (ops1_0 (F := F)), op.fresh = ∅ := by
  intro _ h; (repeat (cases h with | head => rfl | tail _ h => ?_)); exact nomatch h
abbrev ops1_0_W : List (Ref sig .tc) := [main_v51, main_v52, main_v53, main_cst_11, main_v54, main_v55, main_cst_12, main_v56, main_v57, main_cst_13, main_v58, main_v59, main_v60]
theorem ops1_0_writes : (ops1_0 (F := F)).Forall fun op => op.writes ⊆ (ops1_0_W.map (Proc.devRef (τ := τ) .tc)).toFinset :=
  StableHlo.forall_writes_sub_of_map rfl

/-- Stretch 1 of the host operations between the loops. -/
abbrev ops1_1 : List (HloOp τ sig (Elt F)) :=
  [ StableHlo.nullary main_cst_14 (constant S_ .f32 0x3F4C422A#32),
    StableHlo.unary main_cst_14 main_v61 (broadcastInDim S8208x1280 ![] bcast_S_S8208x1280 : (⟨S_, .f32⟩ : BufTy).Contents (Elt F) → (⟨S8208x1280, .f32⟩ : BufTy).Contents (Elt F)),
    StableHlo.binary main_v61 main_v60 main_v62 (mulf : (⟨S8208x1280, .f32⟩ : BufTy).Contents (Elt F) → (⟨S8208x1280, .f32⟩ : BufTy).Contents (Elt F) → (⟨S8208x1280, .f32⟩ : BufTy).Contents (Elt F)),
    StableHlo.unary main_v62 main_v63 (Host.tanh : (⟨S8208x1280, .f32⟩ : BufTy).Contents (Elt F) → (⟨S8208x1280, .f32⟩ : BufTy).Contents (Elt F)),
    StableHlo.nullary main_cst_15 (constant S_ .f32 0x3F800000#32),
    StableHlo.unary main_cst_15 main_v64 (broadcastInDim S8208x1280 ![] bcast_S_S8208x1280 : (⟨S_, .f32⟩ : BufTy).Contents (Elt F) → (⟨S8208x1280, .f32⟩ : BufTy).Contents (Elt F)),
    StableHlo.binary main_v64 main_v63 main_v65 (addf : (⟨S8208x1280, .f32⟩ : BufTy).Contents (Elt F) → (⟨S8208x1280, .f32⟩ : BufTy).Contents (Elt F) → (⟨S8208x1280, .f32⟩ : BufTy).Contents (Elt F)),
    StableHlo.nullary main_cst_16 (constant S_ .f32 0x3F800000#32),
    StableHlo.unary main_cst_16 main_v66 (broadcastInDim S8208x1280 ![] bcast_S_S8208x1280 : (⟨S_, .f32⟩ : BufTy).Contents (Elt F) → (⟨S8208x1280, .f32⟩ : BufTy).Contents (Elt F)),
    StableHlo.binary main_v66 main_v63 main_v67 (subf : (⟨S8208x1280, .f32⟩ : BufTy).Contents (Elt F) → (⟨S8208x1280, .f32⟩ : BufTy).Contents (Elt F) → (⟨S8208x1280, .f32⟩ : BufTy).Contents (Elt F)),
    StableHlo.binary main_v65 main_v67 main_v68 (mulf : (⟨S8208x1280, .f32⟩ : BufTy).Contents (Elt F) → (⟨S8208x1280, .f32⟩ : BufTy).Contents (Elt F) → (⟨S8208x1280, .f32⟩ : BufTy).Contents (Elt F)),
    StableHlo.nullary main_cst_17 (constant S_ .f32 0x3F800000#32),
    StableHlo.unary main_cst_17 main_v69 (broadcastInDim S8208x1280 ![] bcast_S_S8208x1280 : (⟨S_, .f32⟩ : BufTy).Contents (Elt F) → (⟨S8208x1280, .f32⟩ : BufTy).Contents (Elt F)),
    StableHlo.binary main_v69 main_v63 main_v70 (addf : (⟨S8208x1280, .f32⟩ : BufTy).Contents (Elt F) → (⟨S8208x1280, .f32⟩ : BufTy).Contents (Elt F) → (⟨S8208x1280, .f32⟩ : BufTy).Contents (Elt F)),
    StableHlo.nullary main_cst_18 (constant S_ .f32 0x3F000000#32),
    StableHlo.unary main_cst_18 main_v71 (broadcastInDim S8208x1280 ![] bcast_S_S8208x1280 : (⟨S_, .f32⟩ : BufTy).Contents (Elt F) → (⟨S8208x1280, .f32⟩ : BufTy).Contents (Elt F)),
    StableHlo.binary main_v71 main_v70 main_v72 (mulf : (⟨S8208x1280, .f32⟩ : BufTy).Contents (Elt F) → (⟨S8208x1280, .f32⟩ : BufTy).Contents (Elt F) → (⟨S8208x1280, .f32⟩ : BufTy).Contents (Elt F)),
    StableHlo.binary main_v7 main_v72 main_v73 (mulf : (⟨S8208x1280, .f32⟩ : BufTy).Contents (Elt F) → (⟨S8208x1280, .f32⟩ : BufTy).Contents (Elt F) → (⟨S8208x1280, .f32⟩ : BufTy).Contents (Elt F)),
    StableHlo.binary main_v50_4 main_v73 main_v74 (mulf : (⟨S8208x1280, .f32⟩ : BufTy).Contents (Elt F) → (⟨S8208x1280, .f32⟩ : BufTy).Contents (Elt F) → (⟨S8208x1280, .f32⟩ : BufTy).Contents (Elt F)) ]
theorem ops1_1_sub : (ops1_1 (F := F)).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
theorem ops1_1_fresh : ∀ op ∈ (ops1_1 (F := F)), op.fresh = ∅ := by
  intro _ h; (repeat (cases h with | head => rfl | tail _ h => ?_)); exact nomatch h
abbrev ops1_1_W : List (Ref sig .tc) := [main_cst_14, main_v61, main_v62, main_v63, main_cst_15, main_v64, main_v65, main_cst_16, main_v66, main_v67, main_v68, main_cst_17, main_v69, main_v70, main_cst_18, main_v71, main_v72, main_v73, main_v74]
theorem ops1_1_writes : (ops1_1 (F := F)).Forall fun op => op.writes ⊆ (ops1_1_W.map (Proc.devRef (τ := τ) .tc)).toFinset :=
  StableHlo.forall_writes_sub_of_map rfl

/-- Stretch 2 of the host operations between the loops. -/
abbrev ops1_2 : List (HloOp τ sig (Elt F)) :=
  [ StableHlo.unary main_arg0 main_v75 ((extractStridedSlice S8208x1280 ![240, 0] · slices_S8448x1280_S8208x1280_240_0) : (⟨S8448x1280, .bf16⟩ : BufTy).Contents (Elt F) → (⟨S8208x1280, .bf16⟩ : BufTy).Contents (Elt F)),
    StableHlo.unary main_v75 main_v76 ((extf .f32 · bitsLt_bf16_f32) : (⟨S8208x1280, .bf16⟩ : BufTy).Contents (Elt F) → (⟨S8208x1280, .f32⟩ : BufTy).Contents (Elt F)),
    StableHlo.nullary main_cst_19 (constant S_ .f32 0x00000000#32),
    StableHlo.unary main_cst_19 main_v77 (broadcastInDim S1280 ![] bcast_S_S1280 : (⟨S_, .f32⟩ : BufTy).Contents (Elt F) → (⟨S1280, .f32⟩ : BufTy).Contents (Elt F)),
    StableHlo.binary main_v50_4 main_v76 main_v78 (mulf : (⟨S8208x1280, .f32⟩ : BufTy).Contents (Elt F) → (⟨S8208x1280, .f32⟩ : BufTy).Contents (Elt F) → (⟨S8208x1280, .f32⟩ : BufTy).Contents (Elt F)),
    StableHlo.binary main_v76 main_v73 main_v79 (mulf : (⟨S8208x1280, .f32⟩ : BufTy).Contents (Elt F) → (⟨S8208x1280, .f32⟩ : BufTy).Contents (Elt F) → (⟨S8208x1280, .f32⟩ : BufTy).Contents (Elt F)),
    StableHlo.binary main_v7 main_v78 main_v80 (mulf : (⟨S8208x1280, .f32⟩ : BufTy).Contents (Elt F) → (⟨S8208x1280, .f32⟩ : BufTy).Contents (Elt F) → (⟨S8208x1280, .f32⟩ : BufTy).Contents (Elt F)),
    StableHlo.binary main_v78 main_v72 main_v81 (mulf : (⟨S8208x1280, .f32⟩ : BufTy).Contents (Elt F) → (⟨S8208x1280, .f32⟩ : BufTy).Contents (Elt F) → (⟨S8208x1280, .f32⟩ : BufTy).Contents (Elt F)),
    StableHlo.nullary main_cst_20 (constant S_ .f32 0x3F000000#32),
    StableHlo.unary main_cst_20 main_v82 (broadcastInDim S8208x1280 ![] bcast_S_S8208x1280 : (⟨S_, .f32⟩ : BufTy).Contents (Elt F) → (⟨S8208x1280, .f32⟩ : BufTy).Contents (Elt F)),
    StableHlo.binary main_v82 main_v80 main_v83 (mulf : (⟨S8208x1280, .f32⟩ : BufTy).Contents (Elt F) → (⟨S8208x1280, .f32⟩ : BufTy).Contents (Elt F) → (⟨S8208x1280, .f32⟩ : BufTy).Contents (Elt F)),
    StableHlo.binary main_v83 main_v68 main_v84 (mulf : (⟨S8208x1280, .f32⟩ : BufTy).Contents (Elt F) → (⟨S8208x1280, .f32⟩ : BufTy).Contents (Elt F) → (⟨S8208x1280, .f32⟩ : BufTy).Contents (Elt F)),
    StableHlo.nullary main_cst_21 (constant S_ .f32 0x3F4C422A#32),
    StableHlo.unary main_cst_21 main_v85 (broadcastInDim S8208x1280 ![] bcast_S_S8208x1280 : (⟨S_, .f32⟩ : BufTy).Contents (Elt F) → (⟨S8208x1280, .f32⟩ : BufTy).Contents (Elt F)),
    StableHlo.binary main_v85 main_v84 main_v86 (mulf : (⟨S8208x1280, .f32⟩ : BufTy).Contents (Elt F) → (⟨S8208x1280, .f32⟩ : BufTy).Contents (Elt F) → (⟨S8208x1280, .f32⟩ : BufTy).Contents (Elt F)),
    StableHlo.binary main_v81 main_v86 main_v87 (addf : (⟨S8208x1280, .f32⟩ : BufTy).Contents (Elt F) → (⟨S8208x1280, .f32⟩ : BufTy).Contents (Elt F) → (⟨S8208x1280, .f32⟩ : BufTy).Contents (Elt F)),
    StableHlo.nullary main_cst_22 (constant S_ .f32 0x49742400#32),
    StableHlo.unary main_cst_22 main_v88 (broadcastInDim S8208x1280 ![] bcast_S_S8208x1280 : (⟨S_, .f32⟩ : BufTy).Contents (Elt F) → (⟨S8208x1280, .f32⟩ : BufTy).Contents (Elt F)),
    StableHlo.binary main_v86 main_v88 main_v89 (Host.divf : (⟨S8208x1280, .f32⟩ : BufTy).Contents (Elt F) → (⟨S8208x1280, .f32⟩ : BufTy).Contents (Elt F) → (⟨S8208x1280, .f32⟩ : BufTy).Contents (Elt F)),
    StableHlo.nullary main_cst_23 (constant S_ .f32 0x472EAB00#32),
    StableHlo.unary main_cst_23 main_v90 (broadcastInDim S8208x1280 ![] bcast_S_S8208x1280 : (⟨S_, .f32⟩ : BufTy).Contents (Elt F) → (⟨S8208x1280, .f32⟩ : BufTy).Contents (Elt F)),
    StableHlo.binary main_v90 main_v89 main_v91 (mulf : (⟨S8208x1280, .f32⟩ : BufTy).Contents (Elt F) → (⟨S8208x1280, .f32⟩ : BufTy).Contents (Elt F) → (⟨S8208x1280, .f32⟩ : BufTy).Contents (Elt F)),
    StableHlo.binary main_v91 main_v55 main_v92 (mulf : (⟨S8208x1280, .f32⟩ : BufTy).Contents (Elt F) → (⟨S8208x1280, .f32⟩ : BufTy).Contents (Elt F) → (⟨S8208x1280, .f32⟩ : BufTy).Contents (Elt F)),
    StableHlo.binary main_v87 main_v92 main_v93 (addf : (⟨S8208x1280, .f32⟩ : BufTy).Contents (Elt F) → (⟨S8208x1280, .f32⟩ : BufTy).Contents (Elt F) → (⟨S8208x1280, .f32⟩ : BufTy).Contents (Elt F)) ]
theorem ops1_2_sub : (ops1_2 (F := F)).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
theorem ops1_2_fresh : ∀ op ∈ (ops1_2 (F := F)), op.fresh = ∅ := by
  intro _ h; (repeat (cases h with | head => rfl | tail _ h => ?_)); exact nomatch h
abbrev ops1_2_W : List (Ref sig .tc) := [main_v75, main_v76, main_cst_19, main_v77, main_v78, main_v79, main_v80, main_v81, main_cst_20, main_v82, main_v83, main_v84, main_cst_21, main_v85, main_v86, main_v87, main_cst_22, main_v88, main_v89, main_cst_23, main_v90, main_v91, main_v92, main_v93]
theorem ops1_2_writes : (ops1_2 (F := F)).Forall fun op => op.writes ⊆ (ops1_2_W.map (Proc.devRef (τ := τ) .tc)).toFinset :=
  StableHlo.forall_writes_sub_of_map rfl

/-- Stretch 3 of the host operations between the loops. -/
abbrev ops1_3 : List (HloOp τ sig (Elt F)) :=
  [ StableHlo.nullary main_cst_24 (constant S_ .f32 0x00000000#32),
    StableHlo.unary main_cst_24 main_v94 (broadcastInDim S1280 ![] bcast_S_S1280 : (⟨S_, .f32⟩ : BufTy).Contents (Elt F) → (⟨S1280, .f32⟩ : BufTy).Contents (Elt F)),
    StableHlo.nullary main_cst_25 (constant S_ .f32 0x00000000#32),
    StableHlo.unary main_cst_25 main_v95 (broadcastInDim S8208x1280 ![] bcast_S_S8208x1280 : (⟨S_, .f32⟩ : BufTy).Contents (Elt F) → (⟨S8208x1280, .f32⟩ : BufTy).Contents (Elt F)),
    StableHlo.nullary main_cst_26 (constant S_ .f32 0x00000000#32),
    StableHlo.unary main_cst_26 main_v96 (broadcastInDim S8208x1280 ![] bcast_S_S8208x1280 : (⟨S_, .f32⟩ : BufTy).Contents (Elt F) → (⟨S8208x1280, .f32⟩ : BufTy).Contents (Elt F)),
    StableHlo.nullary main_c_27 (constantI S_ 32 0#32),
    StableHlo.unary main_v79 main_v97_0 id,
    StableHlo.unary main_v50_5 main_v97_1 id,
    StableHlo.unary main_v36 main_v97_2 id,
    StableHlo.unary main_c_27 main_v97_3 id,
    StableHlo.unary main_v94 main_v97_4 id,
    StableHlo.unary main_v95 main_v97_5 id,
    StableHlo.unary main_v96 main_v97_6 id ]
theorem ops1_3_sub : (ops1_3 (F := F)).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem ops1_3_fresh : ∀ op ∈ (ops1_3 (F := F)), op.fresh = ∅ := by
  intro _ h; (repeat (cases h with | head => rfl | tail _ h => ?_)); exact nomatch h
abbrev ops1_3_W : List (Ref sig .tc) := [main_cst_24, main_v94, main_cst_25, main_v95, main_cst_26, main_v96, main_c_27, main_v97_0, main_v97_1, main_v97_2, main_v97_3, main_v97_4, main_v97_5, main_v97_6]
theorem ops1_3_writes : (ops1_3 (F := F)).Forall fun op => op.writes ⊆ (ops1_3_W.map (Proc.devRef (τ := τ) .tc)).toFinset :=
  StableHlo.forall_writes_sub_of_map rfl

/-- Stretch 0 of the host operations after the second loop. -/
abbrev ops2_0 : List (HloOp τ sig (Elt F)) :=
  [ StableHlo.binary main_v42 main_v97_6 main_v98 (mulf : (⟨S8208x1280, .f32⟩ : BufTy).Contents (Elt F) → (⟨S8208x1280, .f32⟩ : BufTy).Contents (Elt F) → (⟨S8208x1280, .f32⟩ : BufTy).Contents (Elt F)),
    StableHlo.binary main_v97_6 main_v45 main_v99 (mulf : (⟨S8208x1280, .f32⟩ : BufTy).Contents (Elt F) → (⟨S8208x1280, .f32⟩ : BufTy).Contents (Elt F) → (⟨S8208x1280, .f32⟩ : BufTy).Contents (Elt F)),
    StableHlo.binary main_v26 main_v98 main_v100 (mulf : (⟨S8208x1280, .f32⟩ : BufTy).Contents (Elt F) → (⟨S8208x1280, .f32⟩ : BufTy).Contents (Elt F) → (⟨S8208x1280, .f32⟩ : BufTy).Contents (Elt F)),
    StableHlo.binary main_v98 main_v5 main_v101 (mulf : (⟨S8208x1280, .f32⟩ : BufTy).Contents (Elt F) → (⟨S8208x1280, .f32⟩ : BufTy).Contents (Elt F) → (⟨S8208x1280, .f32⟩ : BufTy).Contents (Elt F)),
    StableHlo.binary main_v99 main_v44 main_v102 (mulf : (⟨S8208x1280, .f32⟩ : BufTy).Contents (Elt F) → (⟨S8208x1280, .f32⟩ : BufTy).Contents (Elt F) → (⟨S8208x1280, .f32⟩ : BufTy).Contents (Elt F)),
    StableHlo.unary main_v102 main_v103 (Host.negf : (⟨S8208x1280, .f32⟩ : BufTy).Contents (Elt F) → (⟨S8208x1280, .f32⟩ : BufTy).Contents (Elt F)),
    StableHlo.binary main_v103 main_v40 main_v104 (mulf : (⟨S8208x1280, .f32⟩ : BufTy).Contents (Elt F) → (⟨S8208x1280, .f32⟩ : BufTy).Contents (Elt F) → (⟨S8208x1280, .f32⟩ : BufTy).Contents (Elt F)),
    StableHlo.nullary main_cst_28 (constant S_ .f32 0x40000000#32),
    StableHlo.unary main_cst_28 main_v105 (broadcastInDim S8208x1280 ![] bcast_S_S8208x1280 : (⟨S_, .f32⟩ : BufTy).Contents (Elt F) → (⟨S8208x1280, .f32⟩ : BufTy).Contents (Elt F)),
    StableHlo.binary main_v105 main_v104 main_v106 (mulf : (⟨S8208x1280, .f32⟩ : BufTy).Contents (Elt F) → (⟨S8208x1280, .f32⟩ : BufTy).Contents (Elt F) → (⟨S8208x1280, .f32⟩ : BufTy).Contents (Elt F)),
    StableHlo.binary main_v97_5 main_v36 main_v107 (mulf : (⟨S8208x1280, .f32⟩ : BufTy).Contents (Elt F) → (⟨S8208x1280, .f32⟩ : BufTy).Contents (Elt F) → (⟨S8208x1280, .f32⟩ : BufTy).Contents (Elt F)),
    StableHlo.binary main_v106 main_v107 main_v108 (addf : (⟨S8208x1280, .f32⟩ : BufTy).Contents (Elt F) → (⟨S8208x1280, .f32⟩ : BufTy).Contents (Elt F) → (⟨S8208x1280, .f32⟩ : BufTy).Contents (Elt F)) ]
theorem ops2_0_sub : (ops2_0 (F := F)).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
theorem ops2_0_fresh : ∀ op ∈ (ops2_0 (F := F)), op.fresh = ∅ := by
  intro _ h; (repeat (cases h with | head => rfl | tail _ h => ?_)); exact nomatch h
abbrev ops2_0_W : List (Ref sig .tc) := [main_v98, main_v99, main_v100, main_v101, main_v102, main_v103, main_v104, main_cst_28, main_v105, main_v106, main_v107, main_v108]
theorem ops2_0_writes : (ops2_0 (F := F)).Forall fun op => op.writes ⊆ (ops2_0_W.map (Proc.devRef (τ := τ) .tc)).toFinset :=
  StableHlo.forall_writes_sub_of_map rfl

/-- Stretch 1 of the host operations after the second loop. -/
abbrev ops2_1 : List (HloOp τ sig (Elt F)) :=
  [ StableHlo.binary main_v31 main_v108 main_v109 (mulf : (⟨S8208x1280, .f32⟩ : BufTy).Contents (Elt F) → (⟨S8208x1280, .f32⟩ : BufTy).Contents (Elt F) → (⟨S8208x1280, .f32⟩ : BufTy).Contents (Elt F)),
    StableHlo.nullary main_cst_29 (constant S_ .f32 0x00000000#32),
    StableHlo.binary main_v109 main_cst_29 main_v110 ((fun x v => Host.reduceAdd x v reducesTo_S8208x1280_S1280_d0 h_S_) : (⟨S8208x1280, .f32⟩ : BufTy).Contents (Elt F) → (⟨S_, .f32⟩ : BufTy).Contents (Elt F) → (⟨S1280, .f32⟩ : BufTy).Contents (Elt F)),
    StableHlo.reshape main_v110 main_v111 (rfl : (.f32 : EltTy) = .f32) shapeCasts_S1280_S1x1280,
    StableHlo.unary main_v33_0 main_v112 (broadcastInDim S8208x1280 ![0, 1] bcast_S1x1280_S8208x1280_0_1 : (⟨S1x1280, .f32⟩ : BufTy).Contents (Elt F) → (⟨S8208x1280, .f32⟩ : BufTy).Contents (Elt F)),
    StableHlo.binary main_v108 main_v112 main_v113 (mulf : (⟨S8208x1280, .f32⟩ : BufTy).Contents (Elt F) → (⟨S8208x1280, .f32⟩ : BufTy).Contents (Elt F) → (⟨S8208x1280, .f32⟩ : BufTy).Contents (Elt F)),
    StableHlo.TRef.binary (.of main_v111 : StableHlo.TRef sig ⟨S1x1280, .f32⟩) (.of main_v33_1 : StableHlo.TRef sig ⟨S1x1280, .f32⟩) (.of main_v114 : StableHlo.TRef sig ⟨S1x1280, .f32⟩) mulf,
    StableHlo.unary main_v114 main_v115 (Host.negf : (⟨S1x1280, .f32⟩ : BufTy).Contents (Elt F) → (⟨S1x1280, .f32⟩ : BufTy).Contents (Elt F)) ]
theorem ops2_1_sub : (ops2_1 (F := F)).Forall fun op => op.bufs ⊆ StableHlo.tcRefs τ sig :=
  ⟨StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.unary_bufs_sub ..⟩
theorem ops2_1_fresh : ∀ op ∈ (ops2_1 (F := F)), op.fresh = ∅ := by
  intro _ h; (repeat (cases h with | head => rfl | tail _ h => ?_)); exact nomatch h
abbrev ops2_1_W : List (Ref sig .tc) := [main_v109, main_cst_29, main_v110, main_v111, main_v112, main_v113, main_v114, main_v115]
theorem ops2_1_writes : (ops2_1 (F := F)).Forall fun op => op.writes ⊆ (ops2_1_W.map (Proc.devRef (τ := τ) .tc)).toFinset :=
  StableHlo.forall_writes_sub_of_map rfl

/-- Stretch 2 of the host operations after the second loop. -/
abbrev ops2_2 : List (HloOp τ sig (Elt F)) :=
  [ StableHlo.nullary main_cst_30 (constant S_ .f32 0xC1000000#32),
    StableHlo.unary main_cst_30 main_v116 (broadcastInDim S8208x1280 ![] bcast_S_S8208x1280 : (⟨S_, .f32⟩ : BufTy).Contents (Elt F) → (⟨S8208x1280, .f32⟩ : BufTy).Contents (Elt F)),
    StableHlo.binary main_v116 main_v113 main_v117 (mulf : (⟨S8208x1280, .f32⟩ : BufTy).Contents (Elt F) → (⟨S8208x1280, .f32⟩ : BufTy).Contents (Elt F) → (⟨S8208x1280, .f32⟩ : BufTy).Contents (Elt F)),
    StableHlo.binary main_v101 main_v29 main_v118 (mulf : (⟨S8208x1280, .f32⟩ : BufTy).Contents (Elt F) → (⟨S8208x1280, .f32⟩ : BufTy).Contents (Elt F) → (⟨S8208x1280, .f32⟩ : BufTy).Contents (Elt F)),
    StableHlo.nullary main_cst_31 (constant S_ .f32 0x00000000#32),
    StableHlo.binary main_v118 main_cst_31 main_v119 ((fun x v => Host.reduceAdd x v reducesTo_S8208x1280_S1280_d0 h_S_) : (⟨S8208x1280, .f32⟩ : BufTy).Contents (Elt F) → (⟨S_, .f32⟩ : BufTy).Contents (Elt F) → (⟨S1280, .f32⟩ : BufTy).Contents (Elt F)),
    StableHlo.reshape main_v119 main_v120 (rfl : (.f32 : EltTy) = .f32) shapeCasts_S1280_S1x1280,
    StableHlo.binary main_v117 main_v18 main_v121 (mulf : (⟨S8208x1280, .f32⟩ : BufTy).Contents (Elt F) → (⟨S8208x1280, .f32⟩ : BufTy).Contents (Elt F) → (⟨S8208x1280, .f32⟩ : BufTy).Contents (Elt F)),
    StableHlo.nullary main_cst_32 (constant S_ .f32 0x00000000#32),
    StableHlo.binary main_v121 main_cst_32 main_v122 ((fun x v => Host.reduceAdd x v reducesTo_S8208x1280_S1280_d0 h_S_) : (⟨S8208x1280, .f32⟩ : BufTy).Contents (Elt F) → (⟨S_, .f32⟩ : BufTy).Contents (Elt F) → (⟨S1280, .f32⟩ : BufTy).Contents (Elt F)),
    StableHlo.reshape main_v122 main_v123 (rfl : (.f32 : EltTy) = .f32) shapeCasts_S1280_S1x1280 ]
theorem ops2_2_sub : (ops2_2 (F := F)).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.binary_bufs_sub .., StableHlo.reshape_bufs_sub .., StableHlo.binary_bufs_sub .., StableHlo.nullary_bufs_sub .., StableHlo.binary_bufs_sub .., StableHlo.reshape_bufs_sub ..⟩
theorem ops2_2_fresh : ∀ op ∈ (ops2_2 (F := F)), op.fresh = ∅ := by
  intro _ h; (repeat (cases h with | head => rfl | tail _ h => ?_)); exact nomatch h
abbrev ops2_2_W : List (Ref sig .tc) := [main_cst_30, main_v116, main_v117, main_v118, main_cst_31, main_v119, main_v120, main_v121, main_cst_32, main_v122, main_v123]
theorem ops2_2_writes : (ops2_2 (F := F)).Forall fun op => op.writes ⊆ (ops2_2_W.map (Proc.devRef (τ := τ) .tc)).toFinset :=
  StableHlo.forall_writes_sub_of_map rfl

/-- Stretch 3 of the host operations after the second loop. -/
abbrev ops2_3 : List (HloOp τ sig (Elt F)) :=
  [ StableHlo.unary main_v93 main_v124 ((truncf .bf16 · bitsLt_bf16_f32) : (⟨S8208x1280, .f32⟩ : BufTy).Contents (Elt F) → (⟨S8208x1280, .bf16⟩ : BufTy).Contents (Elt F)),
    StableHlo.nullary main_cst_33 (constant S_ .bf16 0x0000#16),
    StableHlo.binary main_v124 main_cst_33 main_v125 ((fun x v => pad S8448x8960 ![240, 7680] ![0, 0] ![0, 0] x v pads_S8208x1280_S8448x8960_24000_768000 h_S_) : (⟨S8208x1280, .bf16⟩ : BufTy).Contents (Elt F) → (⟨S_, .bf16⟩ : BufTy).Contents (Elt F) → (⟨S8448x8960, .bf16⟩ : BufTy).Contents (Elt F)),
    StableHlo.unary main_v100 main_v126 ((truncf .bf16 · bitsLt_bf16_f32) : (⟨S8208x1280, .f32⟩ : BufTy).Contents (Elt F) → (⟨S8208x1280, .bf16⟩ : BufTy).Contents (Elt F)),
    StableHlo.nullary main_cst_34 (constant S_ .bf16 0x0000#16),
    StableHlo.binary main_v126 main_cst_34 main_v127 ((fun x v => pad S8448x1280 ![240, 0] ![0, 0] ![0, 0] x v pads_S8208x1280_S8448x1280_24000_000 h_S_) : (⟨S8208x1280, .bf16⟩ : BufTy).Contents (Elt F) → (⟨S_, .bf16⟩ : BufTy).Contents (Elt F) → (⟨S8448x1280, .bf16⟩ : BufTy).Contents (Elt F)) ]
theorem ops2_3_sub : (ops2_3 (F := F)).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub ..⟩
theorem ops2_3_fresh : ∀ op ∈ (ops2_3 (F := F)), op.fresh = ∅ := by
  intro _ h; (repeat (cases h with | head => rfl | tail _ h => ?_)); exact nomatch h
abbrev ops2_3_W : List (Ref sig .tc) := [main_v124, main_cst_33, main_v125, main_v126, main_cst_34, main_v127]
theorem ops2_3_writes : (ops2_3 (F := F)).Forall fun op => op.writes ⊆ (ops2_3_W.map (Proc.devRef (τ := τ) .tc)).toFinset :=
  StableHlo.forall_writes_sub_of_map rfl

/-- Stretch 4 of the host operations after the second loop. -/
abbrev ops2_4 : List (HloOp τ sig (Elt F)) :=
  [ StableHlo.unary main_v118 main_v128 ((truncf .bf16 · bitsLt_bf16_f32) : (⟨S8208x1280, .f32⟩ : BufTy).Contents (Elt F) → (⟨S8208x1280, .bf16⟩ : BufTy).Contents (Elt F)),
    StableHlo.nullary main_cst_35 (constant S_ .bf16 0x0000#16),
    StableHlo.binary main_v128 main_cst_35 main_v129 ((fun x v => pad S8448x2560 ![240, 1280] ![0, 0] ![0, 0] x v pads_S8208x1280_S8448x2560_24000_128000 h_S_) : (⟨S8208x1280, .bf16⟩ : BufTy).Contents (Elt F) → (⟨S_, .bf16⟩ : BufTy).Contents (Elt F) → (⟨S8448x2560, .bf16⟩ : BufTy).Contents (Elt F)),
    StableHlo.unary main_v121 main_v130 ((truncf .bf16 · bitsLt_bf16_f32) : (⟨S8208x1280, .f32⟩ : BufTy).Contents (Elt F) → (⟨S8208x1280, .bf16⟩ : BufTy).Contents (Elt F)),
    StableHlo.nullary main_cst_36 (constant S_ .bf16 0x0000#16),
    StableHlo.binary main_v130 main_cst_36 main_v131 ((fun x v => pad S8448x2560 ![240, 0] ![0, 1280] ![0, 0] x v pads_S8208x1280_S8448x2560_24000_012800 h_S_) : (⟨S8208x1280, .bf16⟩ : BufTy).Contents (Elt F) → (⟨S_, .bf16⟩ : BufTy).Contents (Elt F) → (⟨S8448x2560, .bf16⟩ : BufTy).Contents (Elt F)),
    StableHlo.binary main_v129 main_v131 main_v132 (addf : (⟨S8448x2560, .bf16⟩ : BufTy).Contents (Elt F) → (⟨S8448x2560, .bf16⟩ : BufTy).Contents (Elt F) → (⟨S8448x2560, .bf16⟩ : BufTy).Contents (Elt F)) ]
theorem ops2_4_sub : (ops2_4 (F := F)).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub .., StableHlo.binary_bufs_sub ..⟩
theorem ops2_4_fresh : ∀ op ∈ (ops2_4 (F := F)), op.fresh = ∅ := by
  intro _ h; (repeat (cases h with | head => rfl | tail _ h => ?_)); exact nomatch h
abbrev ops2_4_W : List (Ref sig .tc) := [main_v128, main_cst_35, main_v129, main_v130, main_cst_36, main_v131, main_v132]
theorem ops2_4_writes : (ops2_4 (F := F)).Forall fun op => op.writes ⊆ (ops2_4_W.map (Proc.devRef (τ := τ) .tc)).toFinset :=
  StableHlo.forall_writes_sub_of_map rfl

/-- Stretch 5 of the host operations after the second loop. -/
abbrev ops2_5 : List (HloOp τ sig (Elt F)) :=
  [ StableHlo.unary main_v125 main_v133 ((extractStridedSlice S8448x1280 ![0, 7680] · slices_S8448x8960_S8448x1280_0_7680) : (⟨S8448x8960, .bf16⟩ : BufTy).Contents (Elt F) → (⟨S8448x1280, .bf16⟩ : BufTy).Contents (Elt F)),
    StableHlo.nullary main_c_37 (constantI S_ 32 7680#32),
    StableHlo.unary main_c_37 main_v134 (broadcastInDim S1 ![] bcast_S_S1 : (⟨S_, .i32⟩ : BufTy).Contents (Elt F) → (⟨S1, .i32⟩ : BufTy).Contents (Elt F)),
    StableHlo.ternary main_arg7 main_v134 main_v133 main_v135 ((fun x i u => Host.scatter scatter_S8448x8960_S1_S8448x1280_01_n_1_0 (fun _ b => b) x i u) : (⟨S8448x8960, .bf16⟩ : BufTy).Contents (Elt F) → (⟨S1, .i32⟩ : BufTy).Contents (Elt F) → (⟨S8448x1280, .bf16⟩ : BufTy).Contents (Elt F) → (⟨S8448x8960, .bf16⟩ : BufTy).Contents (Elt F)) ]
theorem ops2_5_sub : (ops2_5 (F := F)).Forall fun op => op.bufs ⊆ StableHlo.tcRefs τ sig :=
  ⟨StableHlo.unary_bufs_sub .., StableHlo.nullary_bufs_sub .., StableHlo.unary_bufs_sub .., StableHlo.ternary_bufs_sub ..⟩
theorem ops2_5_fresh : ∀ op ∈ (ops2_5 (F := F)), op.fresh = ∅ := by
  intro _ h; (repeat (cases h with | head => rfl | tail _ h => ?_)); exact nomatch h
abbrev ops2_5_W : List (Ref sig .tc) := [main_v133, main_c_37, main_v134, main_v135]
theorem ops2_5_writes : (ops2_5 (F := F)).Forall fun op => op.writes ⊆ (ops2_5_W.map (Proc.devRef (τ := τ) .tc)).toFinset :=
  StableHlo.forall_writes_sub_of_map rfl

/-- The first loop's condition. -/
abbrev cond0 : List (HloOp τ sig (Elt F)) :=
  [ StableHlo.nullary main_while0c_c_43 (constantI S_ 32 8208#32),
    StableHlo.binary main_v50_2 main_while0c_c_43 main_while0c_v136 (cmpi .slt : (⟨S_, .i32⟩ : BufTy).Contents (Elt F) → (⟨S_, .i32⟩ : BufTy).Contents (Elt F) → (⟨S_, .i1⟩ : BufTy).Contents (Elt F)) ]
theorem cond0_sub : (cond0 (F := F)).Forall fun op => op.bufs ⊆ StableHlo.tcRefs τ sig :=
  ⟨StableHlo.nullary_bufs_sub .., StableHlo.binary_bufs_sub ..⟩
theorem cond0_fresh : ∀ op ∈ (cond0 (F := F)), op.fresh = ∅ := by
  intro _ h; (repeat (cases h with | head => rfl | tail _ h => ?_)); exact nomatch h
abbrev cond0_W : List (Ref sig .tc) := [main_while0c_c_43, main_while0c_v136]
theorem cond0_writes : (cond0 (F := F)).Forall fun op => op.writes ⊆ (cond0_W.map (Proc.devRef (τ := τ) .tc)).toFinset :=
  StableHlo.forall_writes_sub_of_map rfl

/-- The first loop's body. -/
abbrev body0 : List (HloOp τ sig (Elt F)) :=
  [ StableHlo.TRef.nullary (.of main_while0b_call1_c : StableHlo.TRef sig ⟨S_, .i32⟩) (constantI S_ 32 0#32),
    StableHlo.TRef.unaryIndexed (.of main_v50_0 : StableHlo.TRef sig ⟨S8208x1280, .f32⟩) ![(.of main_v50_2 : StableHlo.TRef sig ⟨S_, .i32⟩), (.of main_while0b_call1_c : StableHlo.TRef sig ⟨S_, .i32⟩)] (.of main_while0b_call1_v0 : StableHlo.TRef sig ⟨S1x1280, .f32⟩) (fun x i => Host.dynamicSlice S1x1280 x (fun k => (i k (Shape.Idx.first h_S_)).toInt) sliceFits_S8208x1280_S1x1280),
    StableHlo.TRef.reshape (.of main_while0b_call1_v0 : StableHlo.TRef sig ⟨S1x1280, .f32⟩) (.of main_while0b_v136 : StableHlo.TRef sig ⟨S1280, .f32⟩) (rfl : (.f32 : EltTy) = .f32) shapeCasts_S1x1280_S1280,
    StableHlo.TRef.nullary (.of main_while0b_call2_c : StableHlo.TRef sig ⟨S_, .i32⟩) (constantI S_ 32 0#32),
    StableHlo.TRef.unaryIndexed (.of main_v50_1 : StableHlo.TRef sig ⟨S8208x1280, .f32⟩) ![(.of main_v50_2 : StableHlo.TRef sig ⟨S_, .i32⟩), (.of main_while0b_call2_c : StableHlo.TRef sig ⟨S_, .i32⟩)] (.of main_while0b_call2_v0 : StableHlo.TRef sig ⟨S1x1280, .f32⟩) (fun x i => Host.dynamicSlice S1x1280 x (fun k => (i k (Shape.Idx.first h_S_)).toInt) sliceFits_S8208x1280_S1x1280),
    StableHlo.TRef.reshape (.of main_while0b_call2_v0 : StableHlo.TRef sig ⟨S1x1280, .f32⟩) (.of main_while0b_v137 : StableHlo.TRef sig ⟨S1280, .f32⟩) (rfl : (.f32 : EltTy) = .f32) shapeCasts_S1x1280_S1280,
    StableHlo.binary main_while0b_v136 main_v50_3 main_while0b_v138 (mulf : (⟨S1280, .f32⟩ : BufTy).Contents (Elt F) → (⟨S1280, .f32⟩ : BufTy).Contents (Elt F) → (⟨S1280, .f32⟩ : BufTy).Contents (Elt F)),
    StableHlo.binary main_while0b_v138 main_while0b_v137 main_while0b_v139 (addf : (⟨S1280, .f32⟩ : BufTy).Contents (Elt F) → (⟨S1280, .f32⟩ : BufTy).Contents (Elt F) → (⟨S1280, .f32⟩ : BufTy).Contents (Elt F)),
    StableHlo.TRef.unary (.of main_while0b_v139 : StableHlo.TRef sig ⟨S1280, .f32⟩) (.of main_while0b_call3_v0 : StableHlo.TRef sig ⟨S1x1280, .f32⟩) (broadcastInDim S1x1280 ![1] bcast_S1280_S1x1280_1),
    StableHlo.TRef.nullary (.of main_while0b_call3_c : StableHlo.TRef sig ⟨S_, .i32⟩) (constantI S_ 32 0#32),
    StableHlo.TRef.binaryIndexed (.of main_v50_4 : StableHlo.TRef sig ⟨S8208x1280, .f32⟩) (.of main_while0b_call3_v0 : StableHlo.TRef sig ⟨S1x1280, .f32⟩) ![(.of main_v50_2 : StableHlo.TRef sig ⟨S_, .i32⟩), (.of main_while0b_call3_c : StableHlo.TRef sig ⟨S_, .i32⟩)] (.of main_while0b_v140 : StableHlo.TRef sig ⟨S8208x1280, .f32⟩) (fun x u i => Host.dynamicUpdateSlice x u (fun k => (i k (Shape.Idx.first h_S_)).toInt) updateFits_S8208x1280_S1x1280),
    StableHlo.TRef.unary (.of main_v50_3 : StableHlo.TRef sig ⟨S1280, .f32⟩) (.of main_while0b_call4_v0 : StableHlo.TRef sig ⟨S1x1280, .f32⟩) (broadcastInDim S1x1280 ![1] bcast_S1280_S1x1280_1),
    StableHlo.TRef.nullary (.of main_while0b_call4_c : StableHlo.TRef sig ⟨S_, .i32⟩) (constantI S_ 32 0#32),
    StableHlo.TRef.binaryIndexed (.of main_v50_5 : StableHlo.TRef sig ⟨S8208x1280, .f32⟩) (.of main_while0b_call4_v0 : StableHlo.TRef sig ⟨S1x1280, .f32⟩) ![(.of main_v50_2 : StableHlo.TRef sig ⟨S_, .i32⟩), (.of main_while0b_call4_c : StableHlo.TRef sig ⟨S_, .i32⟩)] (.of main_while0b_v141 : StableHlo.TRef sig ⟨S8208x1280, .f32⟩) (fun x u i => Host.dynamicUpdateSlice x u (fun k => (i k (Shape.Idx.first h_S_)).toInt) updateFits_S8208x1280_S1x1280),
    StableHlo.nullary main_while0b_c_43 (constantI S_ 32 1#32),
    StableHlo.binary main_v50_2 main_while0b_c_43 main_while0b_v142 (addi : (⟨S_, .i32⟩ : BufTy).Contents (Elt F) → (⟨S_, .i32⟩ : BufTy).Contents (Elt F) → (⟨S_, .i32⟩ : BufTy).Contents (Elt F)),
    StableHlo.unary main_while0b_v142 main_v50_2 id,
    StableHlo.unary main_while0b_v139 main_v50_3 id,
    StableHlo.unary main_while0b_v140 main_v50_4 id,
    StableHlo.unary main_while0b_v141 main_v50_5 id ]
theorem body0_sub : (body0 (F := F)).Forall fun op => op.bufs ⊆ StableHlo.tcRefs τ sig :=
  ⟨StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
theorem body0_fresh : ∀ op ∈ (body0 (F := F)), op.fresh = ∅ := by
  intro _ h; (repeat (cases h with | head => rfl | tail _ h => ?_)); exact nomatch h
abbrev body0_W : List (Ref sig .tc) := [main_while0b_call1_c, main_while0b_call1_v0, main_while0b_v136, main_while0b_call2_c, main_while0b_call2_v0, main_while0b_v137, main_while0b_v138, main_while0b_v139, main_while0b_call3_v0, main_while0b_call3_c, main_while0b_v140, main_while0b_call4_v0, main_while0b_call4_c, main_while0b_v141, main_while0b_c_43, main_while0b_v142, main_v50_2, main_v50_3, main_v50_4, main_v50_5]
theorem body0_writes : (body0 (F := F)).Forall fun op => op.writes ⊆ (body0_W.map (Proc.devRef (τ := τ) .tc)).toFinset :=
  StableHlo.forall_writes_sub_of_map rfl

/-- The second loop's condition. -/
abbrev cond1 : List (HloOp τ sig (Elt F)) :=
  [ StableHlo.nullary main_while1c_c_44 (constantI S_ 32 8208#32),
    StableHlo.binary main_v97_3 main_while1c_c_44 main_while1c_v136 (cmpi .slt : (⟨S_, .i32⟩ : BufTy).Contents (Elt F) → (⟨S_, .i32⟩ : BufTy).Contents (Elt F) → (⟨S_, .i1⟩ : BufTy).Contents (Elt F)) ]
theorem cond1_sub : (cond1 (F := F)).Forall fun op => op.bufs ⊆ StableHlo.tcRefs τ sig :=
  ⟨StableHlo.nullary_bufs_sub .., StableHlo.binary_bufs_sub ..⟩
theorem cond1_fresh : ∀ op ∈ (cond1 (F := F)), op.fresh = ∅ := by
  intro _ h; (repeat (cases h with | head => rfl | tail _ h => ?_)); exact nomatch h
abbrev cond1_W : List (Ref sig .tc) := [main_while1c_c_44, main_while1c_v136]
theorem cond1_writes : (cond1 (F := F)).Forall fun op => op.writes ⊆ (cond1_W.map (Proc.devRef (τ := τ) .tc)).toFinset :=
  StableHlo.forall_writes_sub_of_map rfl

/-- The second loop's body. -/
abbrev body1 : List (HloOp τ sig (Elt F)) :=
  [ StableHlo.nullary main_while1b_c_44 (constantI S_ 32 8208#32),
    StableHlo.binary main_while1b_c_44 main_v97_3 main_while1b_v136 (subi : (⟨S_, .i32⟩ : BufTy).Contents (Elt F) → (⟨S_, .i32⟩ : BufTy).Contents (Elt F) → (⟨S_, .i32⟩ : BufTy).Contents (Elt F)),
    StableHlo.nullary main_while1b_c_45 (constantI S_ 32 1#32),
    StableHlo.binary main_while1b_v136 main_while1b_c_45 main_while1b_v137 (subi : (⟨S_, .i32⟩ : BufTy).Contents (Elt F) → (⟨S_, .i32⟩ : BufTy).Contents (Elt F) → (⟨S_, .i32⟩ : BufTy).Contents (Elt F)),
    StableHlo.TRef.nullary (.of main_while1b_call5_c : StableHlo.TRef sig ⟨S_, .i32⟩) (constantI S_ 32 0#32),
    StableHlo.TRef.unaryIndexed (.of main_v97_0 : StableHlo.TRef sig ⟨S8208x1280, .f32⟩) ![(.of main_while1b_v137 : StableHlo.TRef sig ⟨S_, .i32⟩), (.of main_while1b_call5_c : StableHlo.TRef sig ⟨S_, .i32⟩)] (.of main_while1b_call5_v0 : StableHlo.TRef sig ⟨S1x1280, .f32⟩) (fun x i => Host.dynamicSlice S1x1280 x (fun k => (i k (Shape.Idx.first h_S_)).toInt) sliceFits_S8208x1280_S1x1280),
    StableHlo.TRef.reshape (.of main_while1b_call5_v0 : StableHlo.TRef sig ⟨S1x1280, .f32⟩) (.of main_while1b_v138 : StableHlo.TRef sig ⟨S1280, .f32⟩) (rfl : (.f32 : EltTy) = .f32) shapeCasts_S1x1280_S1280,
    StableHlo.TRef.nullary (.of main_while1b_call6_c : StableHlo.TRef sig ⟨S_, .i32⟩) (constantI S_ 32 0#32),
    StableHlo.TRef.unaryIndexed (.of main_v97_1 : StableHlo.TRef sig ⟨S8208x1280, .f32⟩) ![(.of main_while1b_v137 : StableHlo.TRef sig ⟨S_, .i32⟩), (.of main_while1b_call6_c : StableHlo.TRef sig ⟨S_, .i32⟩)] (.of main_while1b_call6_v0 : StableHlo.TRef sig ⟨S1x1280, .f32⟩) (fun x i => Host.dynamicSlice S1x1280 x (fun k => (i k (Shape.Idx.first h_S_)).toInt) sliceFits_S8208x1280_S1x1280),
    StableHlo.TRef.reshape (.of main_while1b_call6_v0 : StableHlo.TRef sig ⟨S1x1280, .f32⟩) (.of main_while1b_v139 : StableHlo.TRef sig ⟨S1280, .f32⟩) (rfl : (.f32 : EltTy) = .f32) shapeCasts_S1x1280_S1280,
    StableHlo.TRef.nullary (.of main_while1b_call7_c : StableHlo.TRef sig ⟨S_, .i32⟩) (constantI S_ 32 0#32),
    StableHlo.TRef.unaryIndexed (.of main_v97_2 : StableHlo.TRef sig ⟨S8208x1280, .f32⟩) ![(.of main_while1b_v137 : StableHlo.TRef sig ⟨S_, .i32⟩), (.of main_while1b_call7_c : StableHlo.TRef sig ⟨S_, .i32⟩)] (.of main_while1b_call7_v0 : StableHlo.TRef sig ⟨S1x1280, .f32⟩) (fun x i => Host.dynamicSlice S1x1280 x (fun k => (i k (Shape.Idx.first h_S_)).toInt) sliceFits_S8208x1280_S1x1280),
    StableHlo.TRef.reshape (.of main_while1b_call7_v0 : StableHlo.TRef sig ⟨S1x1280, .f32⟩) (.of main_while1b_v140 : StableHlo.TRef sig ⟨S1280, .f32⟩) (rfl : (.f32 : EltTy) = .f32) shapeCasts_S1x1280_S1280,
    StableHlo.binary main_v97_4 main_while1b_v138 main_while1b_v141 (addf : (⟨S1280, .f32⟩ : BufTy).Contents (Elt F) → (⟨S1280, .f32⟩ : BufTy).Contents (Elt F) → (⟨S1280, .f32⟩ : BufTy).Contents (Elt F)),
    StableHlo.binary main_while1b_v140 main_while1b_v141 main_while1b_v142 (mulf : (⟨S1280, .f32⟩ : BufTy).Contents (Elt F) → (⟨S1280, .f32⟩ : BufTy).Contents (Elt F) → (⟨S1280, .f32⟩ : BufTy).Contents (Elt F)),
    StableHlo.binary main_while1b_v141 main_while1b_v139 main_while1b_v143 (mulf : (⟨S1280, .f32⟩ : BufTy).Contents (Elt F) → (⟨S1280, .f32⟩ : BufTy).Contents (Elt F) → (⟨S1280, .f32⟩ : BufTy).Contents (Elt F)),
    StableHlo.TRef.unary (.of main_while1b_v143 : StableHlo.TRef sig ⟨S1280, .f32⟩) (.of main_while1b_call8_v0 : StableHlo.TRef sig ⟨S1x1280, .f32⟩) (broadcastInDim S1x1280 ![1] bcast_S1280_S1x1280_1),
    StableHlo.TRef.nullary (.of main_while1b_call8_c : StableHlo.TRef sig ⟨S_, .i32⟩) (constantI S_ 32 0#32),
    StableHlo.TRef.binaryIndexed (.of main_v97_5 : StableHlo.TRef sig ⟨S8208x1280, .f32⟩) (.of main_while1b_call8_v0 : StableHlo.TRef sig ⟨S1x1280, .f32⟩) ![(.of main_while1b_v137 : StableHlo.TRef sig ⟨S_, .i32⟩), (.of main_while1b_call8_c : StableHlo.TRef sig ⟨S_, .i32⟩)] (.of main_while1b_v144 : StableHlo.TRef sig ⟨S8208x1280, .f32⟩) (fun x u i => Host.dynamicUpdateSlice x u (fun k => (i k (Shape.Idx.first h_S_)).toInt) updateFits_S8208x1280_S1x1280),
    StableHlo.TRef.unary (.of main_while1b_v141 : StableHlo.TRef sig ⟨S1280, .f32⟩) (.of main_while1b_call9_v0 : StableHlo.TRef sig ⟨S1x1280, .f32⟩) (broadcastInDim S1x1280 ![1] bcast_S1280_S1x1280_1),
    StableHlo.TRef.nullary (.of main_while1b_call9_c : StableHlo.TRef sig ⟨S_, .i32⟩) (constantI S_ 32 0#32),
    StableHlo.TRef.binaryIndexed (.of main_v97_6 : StableHlo.TRef sig ⟨S8208x1280, .f32⟩) (.of main_while1b_call9_v0 : StableHlo.TRef sig ⟨S1x1280, .f32⟩) ![(.of main_while1b_v137 : StableHlo.TRef sig ⟨S_, .i32⟩), (.of main_while1b_call9_c : StableHlo.TRef sig ⟨S_, .i32⟩)] (.of main_while1b_v145 : StableHlo.TRef sig ⟨S8208x1280, .f32⟩) (fun x u i => Host.dynamicUpdateSlice x u (fun k => (i k (Shape.Idx.first h_S_)).toInt) updateFits_S8208x1280_S1x1280),
    StableHlo.nullary main_while1b_c_46 (constantI S_ 32 1#32),
    StableHlo.binary main_v97_3 main_while1b_c_46 main_while1b_v146 (addi : (⟨S_, .i32⟩ : BufTy).Contents (Elt F) → (⟨S_, .i32⟩ : BufTy).Contents (Elt F) → (⟨S_, .i32⟩ : BufTy).Contents (Elt F)),
    StableHlo.unary main_while1b_v146 main_v97_3 id,
    StableHlo.unary main_while1b_v142 main_v97_4 id,
    StableHlo.unary main_while1b_v144 main_v97_5 id,
    StableHlo.unary main_while1b_v145 main_v97_6 id ]
theorem body1_sub : (body1 (F := F)).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
theorem body1_fresh : ∀ op ∈ (body1 (F := F)), op.fresh = ∅ := by
  intro _ h; (repeat (cases h with | head => rfl | tail _ h => ?_)); exact nomatch h
abbrev body1_W : List (Ref sig .tc) := [main_while1b_c_44, main_while1b_v136, main_while1b_c_45, main_while1b_v137, main_while1b_call5_c, main_while1b_call5_v0, main_while1b_v138, main_while1b_call6_c, main_while1b_call6_v0, main_while1b_v139, main_while1b_call7_c, main_while1b_call7_v0, main_while1b_v140, main_while1b_v141, main_while1b_v142, main_while1b_v143, main_while1b_call8_v0, main_while1b_call8_c, main_while1b_v144, main_while1b_call9_v0, main_while1b_call9_c, main_while1b_v145, main_while1b_c_46, main_while1b_v146, main_v97_3, main_v97_4, main_v97_5, main_v97_6]
theorem body1_writes : (body1 (F := F)).Forall fun op => op.writes ⊆ (body1_W.map (Proc.devRef (τ := τ) .tc)).toFinset :=
  StableHlo.forall_writes_sub_of_map rfl

end Cert.ReferenceIdeal.RG

end
-- ==== Proof.RefRun.lean ====
/-
The run of the reference: stretches, a loop forward in time, stretches, a loop backward in time, stretches.
-/
module

public import proofs.«01_k».proof.Proof.RefOps
public import Idealize.ShloMosaic.Lib.Scf.ExitTest
public import Idealize.ShloMosaic.Lib.Scf.Counter

@[expose] public section

set_option maxRecDepth 16384

noncomputable section

namespace Cert.ReferenceIdeal.RG

open Cert.ReferenceIdeal
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg ucRefs sub_ucRefs)

variable {F : FTy → Type} [FloatOps F]

local notation "𝕄" => MT nD τ sig Unit (Elt F) ℕ (Option PUnit) ℕ

/-- No pipeline, so no admissibility data and no ticket, no level. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
theorem cellOf_inj : Function.Injective (Pipeline.cellOf (nD := nD) (τ := τ) (Pipeline.pin (pcfgs (F := F)) adm)) := fun k => k.1.elim0
abbrev Rw (c : Dev nD) : sProp 𝕄 := iprop(∃ W, owes (c : Thread nD τ) (0 : CellTallies nD τ sig Unit) W)

/-- The stretches before the first loop, between the loops, after the second. -/
abbrev preI : List (List (HloOp τ sig (Elt F))) := [ops0_0, ops0_1, ops0_2, ops0_3, ops0_4, ops0_5, ops0_6]
abbrev midI : List (List (HloOp τ sig (Elt F))) := [ops1_0, ops1_1, ops1_2, ops1_3]
abbrev postI : List (List (HloOp τ sig (Elt F))) := [ops2_0, ops2_1, ops2_2, ops2_3, ops2_4, ops2_5]
theorem preI_plain : Plain (preI (F := F)) :=
  .cons ops0_0_sub (.cons ops0_1_sub (.cons ops0_2_sub (.cons ops0_3_sub (.cons ops0_4_sub (.cons ops0_5_sub (.cons ops0_6_sub .nil ops0_6_fresh)
    ops0_5_fresh) ops0_4_fresh) ops0_3_fresh) ops0_2_fresh) ops0_1_fresh) ops0_0_fresh
theorem midI_plain : Plain (midI (F := F)) :=
  .cons ops1_0_sub (.cons ops1_1_sub (.cons ops1_2_sub (.cons ops1_3_sub .nil ops1_3_fresh) ops1_2_fresh) ops1_1_fresh) ops1_0_fresh
theorem postI_plain : Plain (postI (F := F)) :=
  .cons ops2_0_sub (.cons ops2_1_sub (.cons ops2_2_sub (.cons ops2_3_sub (.cons ops2_4_sub (.cons ops2_5_sub .nil ops2_5_fresh)
    ops2_4_fresh) ops2_3_fresh) ops2_2_fresh) ops2_1_fresh) ops2_0_fresh
theorem body0_plain : Plain [body0 (F := F)] := .cons body0_sub .nil body0_fresh
theorem body1_plain : Plain [body1 (F := F)] := .cons body1_sub .nil body1_fresh

variable (m : (ℓ : Loc nD τ sig) → Buf (Elt F) ℓ) (ρ : Dev nD → PrngReg)

/-- A core's buffers when the first loop is entered; after it; when the second is entered; after it; at the end. -/
def X0 (c : Dev nD) : Valuation τ sig (Elt F) := afterL preI (launchContents m c)
def T0 (k : ℕ) (c : Dev nD) : Valuation τ sig (Elt F) := atTrip cond0 [body0] (X0 m) k c
def X1 (c : Dev nD) : Valuation τ sig (Elt F) := after cond0 (T0 m 8208 c)
def X2 (c : Dev nD) : Valuation τ sig (Elt F) := afterL midI (X1 m c)
def T1 (k : ℕ) (c : Dev nD) : Valuation τ sig (Elt F) := atTrip cond1 [body1] (X2 m) k c
def X3 (c : Dev nD) : Valuation τ sig (Elt F) := after cond1 (T1 m 8208 c)
def X4 (c : Dev nD) : Valuation τ sig (Elt F) := afterL postI (X3 m c)

theorem T0_zero (c : Dev nD) : T0 m 0 c = X0 m c := rfl
theorem T0_succ (k : ℕ) (c : Dev nD) : T0 m (k + 1) c = after body0 (after cond0 (T0 m k c)) := rfl
theorem T1_zero (c : Dev nD) : T1 m 0 c = X2 m c := rfl
theorem T1_succ (k : ℕ) (c : Dev nD) : T1 m (k + 1) c = after body1 (after cond1 (T1 m k c)) := rfl

/-! ## The trip counters -/

theorem ctr0_entry (c : Dev nD) : X0 m c (Proc.devRef .tc main_v50_2) = fun _ => (0#32 : BitVec 32) := by
  unfold X0
  simp only [afterL_cons, afterL_nil]
  generalize after (ops0_5 (F := F)) _ = V
  after_results
  rfl
theorem ctr0_step (V : Valuation τ sig (Elt F)) : after body0 V (Proc.devRef .tc main_v50_2) = addi (V (Proc.devRef .tc main_v50_2)) (constantI S_ 32 1#32) := by
  after_results
  rfl
theorem ctr0 (c : Dev nD) : ∀ k, T0 m k c (Proc.devRef .tc main_v50_2) = fun _ => Scf.iv 0#32 1#32 k
  | 0 => by rw [T0_zero, ctr0_entry, Scf.iv_zero]
  | k + 1 => by
    rw [T0_succ, ctr0_step, after_of_writes_sub cond0 _ cond0_writes (by decide), ctr0 c k, Scf.iv_succ]
    rfl
theorem ctr1_entry (c : Dev nD) : X2 m c (Proc.devRef .tc main_v97_3) = fun _ => (0#32 : BitVec 32) := by
  unfold X2
  simp only [afterL_cons, afterL_nil]
  generalize after (ops1_2 (F := F)) _ = V
  after_results
  rfl
theorem ctr1_step (V : Valuation τ sig (Elt F)) : after body1 V (Proc.devRef .tc main_v97_3) = addi (V (Proc.devRef .tc main_v97_3)) (constantI S_ 32 1#32) := by
  after_results
  rfl
theorem ctr1 (c : Dev nD) : ∀ k, T1 m k c (Proc.devRef .tc main_v97_3) = fun _ => Scf.iv 0#32 1#32 k
  | 0 => by rw [T1_zero, ctr1_entry, Scf.iv_zero]
  | k + 1 => by
    rw [T1_succ, ctr1_step, after_of_writes_sub cond1 _ cond1_writes (by decide), ctr1 c k, Scf.iv_succ]
    rfl

/-! ## The conditions -/

set_option backward.isDefEq.respectTransparency.types false in
theorem cond_spec0 : LoopCond (pcfgs (F := F)) defs₀ Variants.none loops (Rw (F := F)) main_while0_cond cond0 [body0] (X0 m) 8208 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v50_2 HostLoop.idx0)
        (HloOp.result _ (T0 m k c) main_while0c_c_43 HostLoop.idx0) = 1#1) (k < 8208)
    rw [nullary_result_ne _ _ _ _ (by decide), nullary_result, hctr]
    exact Scf.cmpi_slt_iv_ub_iff (lb := 0#32) (ub := 8208#32) (st := 1#32) (by decide) (show k ≤ Scf.trips 0#32 8208#32 1#32 from hk)
  isplitl [Hb]; · iexact Hb
  isplitl [Hh]; · rw [after_cons, after_cons, after_nil]; iexact Hh
  iexact HR

set_option backward.isDefEq.respectTransparency.types false in
theorem cond_spec1 : LoopCond (pcfgs (F := F)) defs₀ Variants.none loops (Rw (F := F)) main_while1_cond cond1 [body1] (X2 m) 8208 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v97_3 HostLoop.idx0)
        (HloOp.result _ (T1 m k c) main_while1c_c_44 HostLoop.idx0) = 1#1) (k < 8208)
    rw [nullary_result_ne _ _ _ _ (by decide), nullary_result, hctr]
    exact Scf.cmpi_slt_iv_ub_iff (lb := 0#32) (ub := 8208#32) (st := 1#32) (by decide) (show k ≤ Scf.trips 0#32 8208#32 1#32 from hk)
  isplitl [Hb]; · iexact Hb
  isplitl [Hh]; · rw [after_cons, after_cons, after_nil]; iexact Hh
  iexact HR

/-! ## The program as a chain, and its run -/

theorem body0_chain : main_while0_body (F := F) = Pipeline.chain ([body0].map fun ops => (seq ops : Prog _ PUnit)) := by chain_rfl
theorem body1_chain : main_while1_body (F := F) = Pipeline.chain ([body1].map fun ops => (seq ops : Prog _ PUnit)) := by chain_rfl

/-- The program's segments. -/
def segs : List (CSeg (pcfgs (F := F)) adm defs₀ Variants.none L lv loops tk) :=
  segsOf _ _ _ _ _ _ _ _ Rw preI preI_plain (launchContents m)
    ++ (loopSeg _ _ _ _ _ _ _ _ 0 main_while0_cond main_while0_body rfl cond0 [body0] body0_plain body0_chain 8208 (X0 m) Rw (cond_spec0 m)
      :: (segsOf _ _ _ _ _ _ _ _ Rw midI midI_plain (X1 m)
        ++ loopSeg _ _ _ _ _ _ _ _ 1 main_while1_cond main_while1_body rfl cond1 [body1] body1_plain body1_chain 8208 (X2 m) Rw (cond_spec1 m)
          :: segsOf _ _ _ _ _ _ _ _ Rw postI postI_plain (X3 m)))

theorem segs_prog : (segs m).map CSeg.prog
    = (preI.map fun ops => (seq ops : Prog _ PUnit)) ++ (HostLoop.enter 0 :: ((midI.map fun ops => (seq ops : Prog _ PUnit))
        ++ (HostLoop.enter 1 :: postI.map fun ops => (seq ops : Prog _ PUnit)))) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (X4 m c)) ∗ ∃ W, owes (c : Thread nD τ) (0 : CellTallies nD τ sig Unit) W)) := by
  unfold segs
  exact CSeg.Chains.append (segsOf_chains _ _ _ _ _ _ _ _ Rw preI preI_plain _)
    ⟨fun _ => .rfl, CSeg.Chains.append (segsOf_chains _ _ _ _ _ _ _ _ Rw midI midI_plain _)
      ⟨fun _ => .rfl, segsOf_chains _ _ _ _ _ _ _ _ Rw postI postI_plain _⟩⟩

set_option maxRecDepth 400000 in
theorem main_chain (c : Dev nD) : main (F := F) c
    = Pipeline.chain ((preI.map fun ops => (seq ops : Prog _ PUnit)) ++ (HostLoop.enter 0 :: ((midI.map fun ops => (seq ops : Prog _ PUnit))
        ++ (HostLoop.enter 1 :: postI.map fun ops => (seq ops : Prog _ PUnit))))) := by chain_rfl

theorem main_run (c : Dev nD) : main (F := F) c = CSeg.runL (segs m) := (main_chain c).trans (congrArg Pipeline.chain (segs_prog m)).symm

theorem segs_T : ∀ s ∈ segs m, s.T = ∅ := fun s _ => Finset.eq_empty_of_isEmpty s.T

/-- The reference terminates, and leaves every buffer at `X4`. -/
theorem run_main : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = X4 m c (Proc.devRef .tc b)) := by
  refine Pipeline.θ_run_regions_loop_kit (Ix := Unit) (Name := ℕ) (U := Option PUnit) (Lvl := ℕ) (J := Fin 0) (P := Fin 0) (Val := Elt F)
    (pcfgs (F := F)) adm cellOf_inj defs₀ Variants.none L lv loops tk m ρ main
    (segs m) ?hrun (CSeg.pairwise_disjoint_of_T_empty _ (segs_T m))
    (O₀ := 0) (hL := fun _ _ => rfl) (G := fun _ => iprop(emp)) (u₀ := 1) (hu₀ := ?hu)
    (T₀ := fun c => iprop(held (c : Thread nD τ) (ucRefs τ sig) (launchContents m c) ∗ Rw c))
    (Tₙ := fun c => iprop(held (c : Thread nD τ) (ucRefs τ sig) (X4 m c)))
    (hch := segs_chains m) (hinit := ?hinit)
    (QY := fun c s => ∀ b ∈ ucRefs τ sig, s.mem ((c : Dev nD), b) = X4 m c b)
    (hfin := ?hfin) (hQ := ?hQ)
  case hrun =>
    intro c Q
    exact Entails.of_eq (congrArg (fun p => wp frame (wpE (HostLoop.defs loops (Pipeline.defs pcfgs defs₀)) (Variants.lift Variants.none) (c : Thread nD τ) none) Set.univ p Q) (main_run m c).symm)
  case hu =>
    iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  case hinit =>
    refine Pipeline.initEach L lv fun c => ?_
    rw [show unscopedBufs c (fun b => m ((c : Thread nD τ).loc b)) = held (c : Thread nD τ) (ucRefs τ sig) (launchContents m c) from Pipeline.unscopedBufs_held c (launchContents m c)]
    iintro ⟨⟨Hh, -, HO, -, -, -⟩, -⟩
    imodintro
    isplitl [Hh]; · iexact Hh
    iexists ∅; iexact HO
  case hfin =>
    intro c s'
    unfold held
    iintro ⟨Hh, HSI⟩
    ihave Hr := (pointsTo_read_all (ucRefs τ sig) (fun b => ((c : Dev nD), b)) (fun b => X4 m c b) s') $$ [Hh HSI]
    · isplitl [Hh] <;> iassumption
    icases Hr with ⟨%h, HSI⟩
    imodintro
    isplitr; · ipureintro; exact h
    iexact HSI
  case hQ =>
    exact fun _ h c b hb => h c _ (devRef_mem_ucRefs b hb)

/-! ## The arguments stay -/

/-- Two valuations agree on the eight argument arrays. -/
abbrev argRefs : List (Ref sig .tc) := [main_arg0, main_arg1, main_arg2, main_arg3, main_arg4, main_arg5, main_arg6, main_arg7]

theorem X0_args (c : Dev nD) (a : Ref sig .tc) (ha : a ∈ argRefs) : X0 m c (Proc.devRef .tc a) = launchContents m c (Proc.devRef .tc a) := by
  unfold X0
  simp only [afterL_cons, afterL_nil]
  rw [after_of_writes_sub ops0_6 _ ops0_6_writes ((by decide : ∀ a ∈ argRefs, a ∉ ops0_6_W) a ha),
    after_of_writes_sub ops0_5 _ ops0_5_writes ((by decide : ∀ a ∈ argRefs, a ∉ ops0_5_W) a ha),
    after_of_writes_sub ops0_4 _ ops0_4_writes ((by decide : ∀ a ∈ argRefs, a ∉ ops0_4_W) a ha),
    after_of_writes_sub ops0_3 _ ops0_3_writes ((by decide : ∀ a ∈ argRefs, a ∉ ops0_3_W) a ha),
    after_of_writes_sub ops0_2 _ ops0_2_writes ((by decide : ∀ a ∈ argRefs, a ∉ ops0_2_W) a ha),
    after_of_writes_sub ops0_1 _ ops0_1_writes ((by decide : ∀ a ∈ argRefs, a ∉ ops0_1_W) a ha),
    after_of_writes_sub ops0_0 _ ops0_0_writes ((by decide : ∀ a ∈ argRefs, a ∉ ops0_0_W) a ha)]
theorem X2_args (c : Dev nD) (a : Ref sig .tc) (ha : a ∈ argRefs) : X2 m c (Proc.devRef .tc a) = X1 m c (Proc.devRef .tc a) := by
  unfold X2
  simp only [afterL_cons, afterL_nil]
  rw [after_of_writes_sub ops1_3 _ ops1_3_writes ((by decide : ∀ a ∈ argRefs, a ∉ ops1_3_W) a ha),
    after_of_writes_sub ops1_2 _ ops1_2_writes ((by decide : ∀ a ∈ argRefs, a ∉ ops1_2_W) a ha),
    after_of_writes_sub ops1_1 _ ops1_1_writes ((by decide : ∀ a ∈ argRefs, a ∉ ops1_1_W) a ha),
    after_of_writes_sub ops1_0 _ ops1_0_writes ((by decide : ∀ a ∈ argRefs, a ∉ ops1_0_W) a ha)]
theorem X4_args (c : Dev nD) (a : Ref sig .tc) (ha : a ∈ argRefs) : X4 m c (Proc.devRef .tc a) = X3 m c (Proc.devRef .tc a) := by
  unfold X4
  simp only [afterL_cons, afterL_nil]
  rw [after_of_writes_sub ops2_5 _ ops2_5_writes ((by decide : ∀ a ∈ argRefs, a ∉ ops2_5_W) a ha),
    after_of_writes_sub ops2_4 _ ops2_4_writes ((by decide : ∀ a ∈ argRefs, a ∉ ops2_4_W) a ha),
    after_of_writes_sub ops2_3 _ ops2_3_writes ((by decide : ∀ a ∈ argRefs, a ∉ ops2_3_W) a ha),
    after_of_writes_sub ops2_2 _ ops2_2_writes ((by decide : ∀ a ∈ argRefs, a ∉ ops2_2_W) a ha),
    after_of_writes_sub ops2_1 _ ops2_1_writes ((by decide : ∀ a ∈ argRefs, a ∉ ops2_1_W) a ha),
    after_of_writes_sub ops2_0 _ ops2_0_writes ((by decide : ∀ a ∈ argRefs, a ∉ ops2_0_W) a ha)]
theorem T0_args (c : Dev nD) (a : Ref sig .tc) (ha : a ∈ argRefs) : ∀ k, T0 m k c (Proc.devRef .tc a) = X0 m c (Proc.devRef .tc a)
  | 0 => rfl
  | k + 1 => by
    rw [T0_succ, after_of_writes_sub body0 _ body0_writes ((by decide : ∀ a ∈ argRefs, a ∉ body0_W) a ha),
      after_of_writes_sub cond0 _ cond0_writes ((by decide : ∀ a ∈ argRefs, a ∉ cond0_W) a ha)]
    exact T0_args c a ha k
theorem T1_args (c : Dev nD) (a : Ref sig .tc) (ha : a ∈ argRefs) : ∀ k, T1 m k c (Proc.devRef .tc a) = X2 m c (Proc.devRef .tc a)
  | 0 => rfl
  | k + 1 => by
    rw [T1_succ, after_of_writes_sub body1 _ body1_writes ((by decide : ∀ a ∈ argRefs, a ∉ body1_W) a ha),
      after_of_writes_sub cond1 _ cond1_writes ((by decide : ∀ a ∈ argRefs, a ∉ cond1_W) a ha)]
    exact T1_args c a ha k
/-- The program writes no argument. -/
theorem X4_arg (c : Dev nD) (a : Ref sig .tc) (ha : a ∈ argRefs) : X4 m c (Proc.devRef .tc a) = m ((c : Thread nD τ).loc a) := by
  rw [X4_args m c a ha, X3, after_of_writes_sub cond1 _ cond1_writes ((by decide : ∀ a ∈ argRefs, a ∉ cond1_W) a ha), T1_args m c a ha, X2_args m c a ha, X1,
    after_of_writes_sub cond0 _ cond0_writes ((by decide : ∀ a ∈ argRefs, a ∉ cond0_W) a ha), T0_args m c a ha, X0_args m c a ha]

end Cert.ReferenceIdeal.RG
-- ==== Proof.Frames.lean ====
/-
The frames of the ideal kernel and of the reference, from their runs.
-/
module

public import proofs.«01_k».proof.Defs
public import proofs.«01_k».proof.Proof.Run
public import proofs.«01_k».proof.Proof.RefRun
public import Idealize.ShloMosaic.Lib.Quiescent

@[expose] public section

set_option maxRecDepth 16384

noncomputable section

namespace Cert.Frames

open Idealize.ShloMosaic Idealize.ShloMosaic.TcCoe Idealize.SL.Sem

/-- The side conditions of the precondition's program hold. -/
instance pre_facts : Cert.Pre_tame.Facts where
  slices_S8448x2560_S8448x1280_0_0 := by decide
  bitsLt_bf16_f32 := by decide
  slices_S8448x2560_S8448x1280_0_1280 := by decide
  slices_S8448x8960_S8448x1280_0_7680 := by decide
  bcast_S_S8448x1280 := by decide
  bcast_S_S1x1280 := by decide
  bcast_S1x1280_S8448x1280_0_1 := by decide

/-- The ideal kernel terminates, leaves its arguments as they were and every semaphore at zero. -/
theorem frame_pi : Cert.quiescent_KernelIdeal := fun m g _ =>
  (θ_run Cert.KernelIdeal.defs _ _).mono (fun r h => ⟨fun c =>
    let e := Cert.KernelIdeal.RG.ends_of m r.2 h.1 c
    ⟨e.a0, e.a1, e.a2, e.a3, e.a4, e.a5, e.a6, e.a7⟩, h.2⟩) (Cert.KernelIdeal.RG.run_main (F := Ideal) m g)

/-- The same under the precondition. -/
theorem frame_pi_tame : Cert.quiescent_KernelIdeal_pre_tame := fun m g _ => frame_pi m g trivial

/-- The reference has no semaphore, so every counter is zero. -/
theorem ref_sems (s : MemSt Cert.ReferenceIdeal.nD Cert.ReferenceIdeal.τ Cert.ReferenceIdeal.sig (Elt Ideal)) : s.sem = fun _ => 0 :=
  sem_eq_zero_of_no_sems (by decide) s

/-- An argument of the reference is as it was. -/
theorem ref_arg (m : (ℓ : Loc Cert.ReferenceIdeal.nD Cert.ReferenceIdeal.τ Cert.ReferenceIdeal.sig) → Buf (Elt Ideal) ℓ) (c : Dev Cert.ReferenceIdeal.nD)
    (a : Ref Cert.ReferenceIdeal.sig .tc) (ha : a ∈ Cert.ReferenceIdeal.RG.argRefs) :
    Cert.ReferenceIdeal.RG.X4 m c (Proc.devRef .tc a) = m ((c : Thread Cert.ReferenceIdeal.nD Cert.ReferenceIdeal.τ).loc a) :=
  Cert.ReferenceIdeal.RG.X4_arg m c a ha

/-- The reference terminates, leaves its arguments as they were and every semaphore at zero. -/
theorem frame_ri : Cert.quiescent_ReferenceIdeal := fun m g _ =>
  (θ_run Cert.ReferenceIdeal.defs _ _).mono (fun r h => ⟨fun c =>
    ⟨(h c _ rfl).trans (ref_arg m c _ (by decide)), (h c _ rfl).trans (ref_arg m c _ (by decide)), (h c _ rfl).trans (ref_arg m c _ (by decide)),
     (h c _ rfl).trans (ref_arg m c _ (by decide)), (h c _ rfl).trans (ref_arg m c _ (by decide)), (h c _ rfl).trans (ref_arg m c _ (by decide)),
     (h c _ rfl).trans (ref_arg m c _ (by decide)), (h c _ rfl).trans (ref_arg m c _ (by decide))⟩, ref_sems r.2⟩) (Cert.ReferenceIdeal.RG.run_main (F := Ideal) m g)

/-- The same under the precondition. -/
theorem frame_ri_tame : Cert.quiescent_ReferenceIdeal_pre_tame := fun m g _ => frame_ri m g trivial

/-- The two named constants are what the names say. -/
theorem preserves : Cert.preserves_Kernel_KernelIdeal :=
  ⟨IdealRules.named_const.statement Cert.KernelIdeal.κ "gelu_c" .f32 0x3D372713#32 ((8943 / 200000 : ℝ) : EReal) rfl,
   IdealRules.named_const.statement Cert.KernelIdeal.κ "gelu_3c" .f32 0x3E095D4F#32 ((26829 / 200000 : ℝ) : EReal) rfl⟩

end Cert.Frames

end
-- ==== Proof.KernelFrame.lean ====
/-
The frame of the kernel on words: it is the ideal kernel, with each named constant read as the word it names.
-/
module

public import proofs.«01_k».proof.Defs
public import proofs.«01_k».proof.Proof.Gen.Kernel
public import proofs.«01_k».proof.Proof.Run

@[expose] public section

set_option maxRecDepth 16384

noncomputable section

namespace Cert.Frames

open Idealize.ShloMosaic Idealize.ShloMosaic.TcCoe Idealize.SL.Sem

/-- On words a named constant is the word it was printed from. -/
instance namedBits : Named Bits where
  named _ _ {φ} b := Scalar.ofBits (F := Bits) φ b

/-- The kernel's frame, stated of the ideal kernel's program on words. -/
def FrameOnWords : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

/-- The ideal kernel's program has its frame on words too. -/
theorem frame_on_words : FrameOnWords := fun m g _ =>
  (θ_run Cert.KernelIdeal.defs _ _).mono (fun r h => ⟨fun c =>
    let e := Cert.KernelIdeal.RG.ends_of m r.2 h.1 c
    ⟨e.a0, e.a1, e.a2, e.a3, e.a4, e.a5, e.a6, e.a7⟩, h.2⟩) (Cert.KernelIdeal.RG.run_main (F := Bits) m g)

/-- The two statements are of the same program. -/
theorem frame_p_eq : Cert.quiescent_Kernel = FrameOnWords := by chain_rfl

/-- The kernel terminates, leaves its arguments as they were and every semaphore at zero. -/
theorem frame_p : Cert.quiescent_Kernel := frame_p_eq.mpr frame_on_words

end Cert.Frames

end
-- ==== Proof.Scal.lean ====
/-
The scalar functions the two kernels apply to each element over the extended reals, and the recurrences down a column
that they compute: the state from the first row on, and the gradient's carry from the last row back.
-/
module

public import Idealize.ShloMosaic.Lib.Pointwise

@[expose] public section

noncomputable section

namespace Cert.Col

open Idealize.ShloMosaic

/-- The gates' logistic, written through the hyperbolic tangent. -/
def sgK (z : EReal) : EReal :=
  Ideal.ofBits FTy.f32 1056964608#32 * Ideal.tanh (Ideal.ofBits FTy.f32 1056964608#32 * z) + Ideal.ofBits FTy.f32 1056964608#32

/-- The softplus of `-v`. -/
def spK (v : EReal) : EReal :=
  if 0 - v ≠ 0 - v then 0 - v
  else max (0 - v) 0 + Ideal.log1p (Ideal.exp (0 - FloatOps.absf (F := Ideal) (φ := .f32) (0 - v)))

/-- The decay, from the first gate's value `r` and the parameter `lam`. -/
def aK (r lam : EReal) : EReal := Ideal.exp (Ideal.ofBits FTy.f32 3238002688#32 * r * spK lam)

/-- One less the decay's square, kept away from zero. -/
def s2K (a : EReal) : EReal := max (1 - a * a) (Ideal.ofBits FTy.f32 228737632#32)

/-- The input's scale. -/
def sK (a : EReal) : EReal := s2K a * Ideal.rsqrt (s2K a)

/-- A recurrence `h ↦ a h + u` run from `h`, after `n` steps. -/
def scan (A U : ℕ → EReal) (h : EReal) : ℕ → EReal
  | 0 => h
  | n + 1 => A n * scan A U h n + U n

/-- Running on is running from what was reached. -/
theorem scan_add (A U : ℕ → EReal) (h : EReal) (m : ℕ) :
    ∀ n, scan A U h (m + n) = scan (fun k => A (m + k)) (fun k => U (m + k)) (scan A U h m) n
  | 0 => rfl
  | n + 1 => by show _ * scan A U h (m + n) + _ = _; rw [scan_add A U h m n]; rfl

/-- The hyperbolic tangent's argument's scale in gelu. -/
def c0K : EReal := Ideal.ofBits FTy.f32 1061962282#32

/-- The hyperbolic tangent in gelu. -/
def thK (v : EReal) : EReal := Ideal.tanh (c0K * (v + ((8943 / 200000 : ℝ) : EReal) * v * v * v))

/-- Gelu. -/
def geK (v : EReal) : EReal := Ideal.ofBits FTy.f32 1056964608#32 * v * (1 + thK v)

/-- Gelu's derivative. -/
def dgeK (v : EReal) : EReal :=
  Ideal.ofBits FTy.f32 1056964608#32 * (1 + thK v)
    + Ideal.ofBits FTy.f32 1056964608#32 * v * (1 - thK v * thK v) * c0K * (1 + ((26829 / 200000 : ℝ) : EReal) * v * v)

/-- The backward recurrence `c ↦ a (d + c)` run from `s`, after `n` steps. -/
def bscan (A D : ℕ → EReal) (s : EReal) : ℕ → EReal
  | 0 => s
  | n + 1 => A n * (D n + bscan A D s n)

theorem bscan_add (A D : ℕ → EReal) (s : EReal) (m : ℕ) :
    ∀ n, bscan A D s (m + n) = bscan (fun k => A (m + k)) (fun k => D (m + k)) (bscan A D s m) n
  | 0 => rfl
  | n + 1 => by show _ * (_ + bscan A D s (m + n)) = _; rw [bscan_add A D s m n]; rfl

/-- The numbers one column of the problem holds: for each row the blocks' entries, and the three parameters. -/
structure Data where
  dya : ℕ → EReal
  gr : ℕ → EReal
  gi : ℕ → EReal
  xc : ℕ → EReal
  ag : ℕ → EReal
  ba : EReal
  bx : EReal
  lam : EReal

namespace Data

variable (C : Data)

/-- The first gate at a row. -/
def r (n : ℕ) : EReal := sgK (C.gr n + C.ba)

/-- The second gate at a row. -/
def ig (n : ℕ) : EReal := sgK (C.gi n + C.bx)

/-- The decay at a row. -/
def a (n : ℕ) : EReal := aK (C.r n) C.lam

/-- The input at a row: zero on the rows of padding. -/
def u (n : ℕ) : EReal := if 240 ≤ n then sK (C.a n) * C.ig n * C.xc n else 0

/-- The state before row `n`. -/
def h (n : ℕ) : EReal := scan C.a C.u 0 n

/-- What reaches a row's state from the row's own result. -/
def d (n : ℕ) : EReal := C.dya n * geK (C.ag n)

/-- The carry of the backward recurrence after `m` rows from the last. -/
def c (m : ℕ) : EReal := bscan (fun k => C.a (8447 - k)) (fun k => C.d (8447 - k)) 0 m

/-- The gradient of a row's state. -/
def g (n : ℕ) : EReal := C.d n + C.c (8447 - n)

/-- The gradient of a row's input: zero on the rows of padding. -/
def du (n : ℕ) : EReal := if 240 ≤ n then C.g n else 0

/-- The gradient of the scaled input before its scale. -/
def dm (n : ℕ) : EReal := C.du n * sK (C.a n)

/-- The gradient of the decay's logarithm. -/
def dla (n : ℕ) : EReal := (C.g n * C.h n - C.a n * (C.du n * (C.ig n * C.xc n)) * Ideal.rsqrt (s2K (C.a n))) * C.a n

/-- The gradient of the first gate before its logistic. -/
def dr (n : ℕ) : EReal := C.dla n * (Ideal.ofBits FTy.f32 3238002688#32 * spK C.lam) * C.r n * (1 - C.r n)

/-- The gradient of the second gate before its logistic. -/
def di (n : ℕ) : EReal := C.dm n * C.xc n * C.ig n * (1 - C.ig n)

/-- The gradient of the convolved input. -/
def dxc (n : ℕ) : EReal := C.dm n * C.ig n

/-- A row's part of the softplus's gradient. -/
def dl (n : ℕ) : EReal := C.dla n * (Ideal.ofBits FTy.f32 3238002688#32 * C.r n)

/-- The gradient of gelu's argument. -/
def dag (n : ℕ) : EReal := C.dya n * C.h (n + 1) * dgeK (C.ag n)

end Data

/-- A column of the arrays as a function of the row's number. -/
def rowsOf (f : Fin 8448 → EReal) (n : ℕ) : EReal := if h : n < 8448 then f ⟨n, h⟩ else 0

theorem rowsOf_val (f : Fin 8448 → EReal) (n : ℕ) (h : n < 8448) : rowsOf f n = f ⟨n, h⟩ := dif_pos h

/-- Column `l` of the problem's arrays. -/
def colOf (dya : Fin 8448 → Fin 1280 → EReal) (gri : Fin 8448 → Fin 2560 → EReal) (xc : Fin 8448 → Fin 1280 → EReal)
    (proj : Fin 8448 → Fin 8960 → EReal) (ba bx lam : Fin 1280 → EReal) (l : Fin 1280) : Data where
  dya := rowsOf fun r => dya r l
  gr := rowsOf fun r => gri r ⟨l.val, by omega⟩
  gi := rowsOf fun r => gri r ⟨1280 + l.val, by omega⟩
  xc := rowsOf fun r => xc r l
  ag := rowsOf fun r => proj r ⟨7680 + l.val, by omega⟩
  ba := ba l
  bx := bx l
  lam := lam l

end Cert.Col

end
-- ==== Proof.RefSc.lean ====
/-
What the reference computes of one row of one column, in the extended reals, operation for operation.
-/
module

public import proofs.«01_k».proof.Proof.Scal

@[expose] public section

noncomputable section

namespace Cert.Col

open Idealize.ShloMosaic

/-- The logistic as the reference writes it. -/
def sgR (z : EReal) : EReal := Ideal.div 1 (1 + Ideal.exp (-z))

/-- The softplus of `-v` as the reference writes it. -/
def spR (v : EReal) : EReal :=
  if -v - 0 ≠ -v - 0 then -v + 0
  else max (-v) 0 + Ideal.log1p (Ideal.exp (-FloatOps.absf (F := Ideal) (φ := .f32) (-v - 0)))

/-- Its derivative as the reference writes it. -/
def dspR (v : EReal) : EReal :=
  Ideal.exp ((if -v = Ideal.ofBits FTy.f32 2139095040#32 then 0 else -v)
    - (if spR v = Ideal.ofBits FTy.f32 2139095040#32 then 0 else spR v))

/-- The cubic in gelu as the reference writes it. -/
def cubR (v : EReal) : EReal :=
  v + Ideal.div (Ideal.ofBits FTy.f32 1194240768#32 * (v * v * v)) (Ideal.ofBits FTy.f32 1232348160#32)

/-- The hyperbolic tangent in gelu as the reference writes it. -/
def thR (v : EReal) : EReal := Ideal.tanh (c0K * cubR v)

/-- Half of one more than it. -/
def haR (v : EReal) : EReal := Ideal.ofBits FTy.f32 1056964608#32 * (1 + thR v)

/-- What reaches the cubic from a gradient `p`. -/
def tgR (p v : EReal) : EReal :=
  c0K * (Ideal.ofBits FTy.f32 1056964608#32 * (v * p) * ((1 + thR v) * (1 - thR v)))

/-- The gradient of gelu's argument, the result's gradient being `p`. -/
def dgeR (p v : EReal) : EReal :=
  p * haR v + tgR p v
    + Ideal.ofBits FTy.f32 1194240768#32 * Ideal.div (tgR p v) (Ideal.ofBits FTy.f32 1232348160#32)
      * (Ideal.ofBits FTy.f32 1077936128#32 * (v * v))

namespace Data

variable (C : Data)

def rR (n : ℕ) : EReal := sgR (C.gr n + C.ba)
def iR (n : ℕ) : EReal := sgR (C.gi n + C.bx)
def cfR (n : ℕ) : EReal := Ideal.ofBits FTy.f32 3238002688#32 * C.rR n
def laR (n : ℕ) : EReal := C.cfR n * spR C.lam
def aR (n : ℕ) : EReal := Ideal.exp (C.laR n)
def e2R (n : ℕ) : EReal := Ideal.exp (Ideal.ofBits FTy.f32 1073741824#32 * C.laR n)
def sR (n : ℕ) : EReal := Ideal.sqrt (-(C.e2R n - 1))
def hsR (n : ℕ) : EReal := Ideal.div (Ideal.ofBits FTy.f32 1056964608#32) (C.sR n)
def ixR (n : ℕ) : EReal := C.iR n * C.xc n
def uR (n : ℕ) : EReal := C.sR n * C.ixR n

/-- The state before live row `k`. -/
def hR (k : ℕ) : EReal := scan (fun n => C.aR (240 + n)) (fun n => C.uR (240 + n)) 0 k

def dR (n : ℕ) : EReal := C.dya n * (C.ag n * haR (C.ag n))

/-- The carry of the backward recurrence after `k` rows from the last. -/
def bR (k : ℕ) : EReal := bscan (fun n => C.aR (240 + (8207 - n))) (fun n => C.dR (240 + (8207 - n))) 0 k

/-- The gradient of live row `k`'s state. -/
def gR (k : ℕ) : EReal := C.dR (240 + k) + C.bR (8207 - k)

def dagR (k : ℕ) : EReal := dgeR (C.hR (k + 1) * C.dya (240 + k)) (C.ag (240 + k))
def dxcR (k : ℕ) : EReal := C.iR (240 + k) * (C.sR (240 + k) * C.gR k)
def dsR (k : ℕ) : EReal := C.gR k * C.ixR (240 + k) * C.hsR (240 + k)
def dlaR (k : ℕ) : EReal :=
  Ideal.ofBits FTy.f32 1073741824#32 * (-C.dsR k * C.e2R (240 + k)) + C.gR k * C.hR k * C.aR (240 + k)
def diR (k : ℕ) : EReal := C.sR (240 + k) * C.gR k * C.xc (240 + k) * (C.iR (240 + k) * (1 - C.iR (240 + k)))
def drR (k : ℕ) : EReal :=
  Ideal.ofBits FTy.f32 3238002688#32 * (C.dlaR k * spR C.lam) * (C.rR (240 + k) * (1 - C.rR (240 + k)))

end Data

end Cert.Col

end
-- ==== Proof.Reals.lean ====
/-
The scalar functions of the two programs on real arguments: both are the same real numbers.
-/
module

public import proofs.«01_k».proof.Proof.Scal
public import proofs.«01_k».proof.Proof.RefSc

@[expose] public section

noncomputable section

namespace Cert.Col

open Idealize.ShloMosaic

theorem w_half : Ideal.ofBits FTy.f32 1056964608#32 = ((1 / 2 : ℝ) : EReal) := by
  simp [Ideal.ofBits, Ideal.ieee, -EReal.coe_mul]; norm_num

theorem w_m8 : Ideal.ofBits FTy.f32 3238002688#32 = ((-8 : ℝ) : EReal) := by
  simp [Ideal.ofBits, Ideal.ieee, -EReal.coe_mul]; norm_num

theorem w_two : Ideal.ofBits FTy.f32 1073741824#32 = ((2 : ℝ) : EReal) := by
  simp [Ideal.ofBits, Ideal.ieee, -EReal.coe_mul]; norm_num

theorem w_three : Ideal.ofBits FTy.f32 1077936128#32 = ((3 : ℝ) : EReal) := by
  simp [Ideal.ofBits, Ideal.ieee, -EReal.coe_mul]; norm_num

theorem w_num : Ideal.ofBits FTy.f32 1194240768#32 = ((44715 : ℝ) : EReal) := by
  simp [Ideal.ofBits, Ideal.ieee, -EReal.coe_mul]; norm_num

theorem w_den : Ideal.ofBits FTy.f32 1232348160#32 = ((1000000 : ℝ) : EReal) := by
  simp [Ideal.ofBits, Ideal.ieee, -EReal.coe_mul]; norm_num

theorem w_inf : Ideal.ofBits FTy.f32 2139095040#32 = ⊤ := by
  simp [Ideal.ofBits, Ideal.ieee]

/-- The floor is a positive real. -/
theorem w_eps : ∃ e : ℝ, 0 < e ∧ Ideal.ofBits FTy.f32 228737632#32 = (e : EReal) := by
  refine ⟨_, ?_, by simp [Ideal.ofBits, Ideal.ieee, -EReal.coe_mul]; rfl⟩
  positivity

/-- The hyperbolic tangent's argument's scale is a real. -/
theorem c0_real : ∃ e : ℝ, c0K = (e : EReal) :=
  ⟨_, by unfold c0K; simp [Ideal.ofBits, Ideal.ieee, -EReal.coe_mul]; rfl⟩

/-- The logistic. -/
def sg (z : ℝ) : ℝ := (1 + Real.exp (-z))⁻¹

/-- The softplus of `-v`. -/
def sp (v : ℝ) : ℝ := max (-v) 0 + Real.log (1 + Real.exp (-|v|))

theorem sg_tanh (z : ℝ) : 1 / 2 * Real.tanh (1 / 2 * z) + 1 / 2 = sg z := by
  have e1 : Real.exp (-(1 / 2 * z)) = (Real.exp (1 / 2 * z))⁻¹ := Real.exp_neg _
  have e2 : Real.exp (-z) = (Real.exp (1 / 2 * z))⁻¹ * (Real.exp (1 / 2 * z))⁻¹ := by
    rw [← e1, ← Real.exp_add]; congr 1; ring
  have hp := Real.exp_pos (1 / 2 * z)
  rw [sg, Real.tanh_eq_sinh_div_cosh, Real.sinh_eq, Real.cosh_eq, e1, e2]
  generalize Real.exp (1 / 2 * z) = x at hp
  have : x ≠ 0 := hp.ne'
  have h2 : x + x⁻¹ ≠ 0 := by positivity
  have h3 : 1 + x⁻¹ * x⁻¹ ≠ 0 := by positivity
  field_simp
  ring

theorem sgK_coe (z : ℝ) : sgK (z : EReal) = (sg z : EReal) := by
  unfold sgK; rw [w_half, ← EReal.coe_mul, Ideal.tanh_coe, ← EReal.coe_mul, ← EReal.coe_add, sg_tanh]

theorem sgR_coe (z : ℝ) : sgR (z : EReal) = (sg z : EReal) := by
  have h : (1 + Real.exp (-z)) ≠ 0 := by positivity
  unfold sgR
  rw [← EReal.coe_neg, Ideal.exp_coe, ← EReal.coe_one, ← EReal.coe_add, Ideal.div_coe h, ← EReal.coe_mul, sg, one_mul, one_div]

theorem coe_max' (x y : ℝ) : max (x : EReal) (y : EReal) = ((max x y : ℝ) : EReal) :=
  (EReal.coe_strictMono.monotone.map_max (a := x) (b := y)).symm

theorem abs_coe (z : ℝ) : FloatOps.absf (F := Ideal) (φ := .f32) ((z : ℝ) : EReal) = ((|z| : ℝ) : EReal) := by
  show max (z : EReal) (-(z : EReal)) = _
  rw [← EReal.coe_neg, abs, coe_max']

theorem log1p_coe (y : ℝ) (h : 0 ≤ y) : Ideal.log1p (y : EReal) = ((Real.log (1 + y) : ℝ) : EReal) := by
  unfold Ideal.log1p
  rw [← EReal.coe_one, ← EReal.coe_add, Ideal.log_coe, if_neg (by linarith)]

theorem spR_coe (v : ℝ) : spR (v : EReal) = (sp v : EReal) := by
  unfold spR
  rw [if_neg (by simp), sub_zero, ← EReal.coe_neg, abs_coe, ← EReal.coe_neg, Ideal.exp_coe,
    log1p_coe _ (Real.exp_pos _).le, ← EReal.coe_zero, coe_max', ← EReal.coe_add, abs_neg]; rfl

theorem spK_coe (v : ℝ) : spK (v : EReal) = (sp v : EReal) := by
  unfold spK
  rw [if_neg (by simp), zero_sub, zero_sub, ← EReal.coe_neg, abs_coe, ← EReal.coe_neg, Ideal.exp_coe,
    log1p_coe _ (Real.exp_pos _).le, ← EReal.coe_zero, coe_max', ← EReal.coe_add, abs_neg]; rfl

/-- The softplus of `-v` without its case distinction. -/
theorem sp_log (v : ℝ) : sp v = Real.log (1 + Real.exp (-v)) := by
  unfold sp
  rcases le_total 0 v with h | h
  · rw [max_eq_right (by linarith), abs_of_nonneg h, zero_add]
  · rw [max_eq_left (by linarith), abs_of_nonpos h, neg_neg]
    have h1 : 1 + Real.exp (-v) = Real.exp (-v) * (1 + Real.exp v) := by
      rw [mul_add, mul_one, ← Real.exp_add, neg_add_cancel, Real.exp_zero, add_comm]
    rw [h1, Real.log_mul (Real.exp_pos _).ne' (by positivity), Real.log_exp]

theorem dspR_coe (v : ℝ) : dspR (v : EReal) = (sg (-v) : EReal) := by
  unfold dspR
  rw [w_inf, spR_coe, ← EReal.coe_neg, if_neg (EReal.coe_ne_top _), if_neg (EReal.coe_ne_top _), ← EReal.coe_sub, Ideal.exp_coe,
    sp_log, Real.exp_sub, Real.exp_log (by positivity), sg, neg_neg]
  congr 1
  have h := Real.exp_pos v
  rw [Real.exp_neg]
  generalize Real.exp v = x at h
  have : x ≠ 0 := h.ne'
  field_simp
  ring

/-- Gelu's two forms. -/
theorem ge_eq (v : ℝ) : geK (v : EReal) = (v : EReal) * haR (v : EReal) ∧ ∃ x : ℝ, geK (v : EReal) = (x : EReal) := by
  obtain ⟨c, hc⟩ := c0_real
  have hK : thK (v : EReal) = ((Real.tanh (c * (v + 8943 / 200000 * v * v * v)) : ℝ) : EReal) := by
    unfold thK; rw [hc]; norm_cast
  have hR : thR (v : EReal) = ((Real.tanh (c * (v + 8943 / 200000 * v * v * v)) : ℝ) : EReal) := by
    unfold thR cubR
    rw [hc, w_num, w_den, Ideal.div_coe (by norm_num)]
    norm_cast
    rw [Ideal.tanh_coe]
    congr 3; ring
  unfold geK haR
  rw [hK, hR, w_half]
  refine ⟨?_, ⟨_, by norm_cast⟩⟩
  norm_cast
  ring

/-- Gelu's derivative's two forms. -/
theorem dge_eq (y h v : ℝ) :
    (y : EReal) * (h : EReal) * dgeK (v : EReal) = dgeR ((h : EReal) * (y : EReal)) (v : EReal) := by
  obtain ⟨c, hc⟩ := c0_real
  have hK : thK (v : EReal) = ((Real.tanh (c * (v + 8943 / 200000 * v * v * v)) : ℝ) : EReal) := by
    unfold thK; rw [hc]; norm_cast
  have hR : thR (v : EReal) = ((Real.tanh (c * (v + 8943 / 200000 * v * v * v)) : ℝ) : EReal) := by
    unfold thR cubR
    rw [hc, w_num, w_den, Ideal.div_coe (by norm_num)]
    norm_cast
    rw [Ideal.tanh_coe]
    congr 3; ring
  unfold dgeK dgeR tgR haR
  rw [hK, hR, hc, w_half, w_num, w_den, w_three, Ideal.div_coe (by norm_num)]
  norm_cast
  generalize Real.tanh (c * (v + 8943 / 200000 * v * v * v)) = t
  congr 1; push_cast; ring

end Cert.Col

end
-- ==== Proof.Eqs.lean ====
/-
One column of the problem under the precondition: the kernels' formulas and the reference's give the same numbers.
-/
module

public import proofs.«01_k».proof.Proof.Reals

@[expose] public section

noncomputable section

namespace Cert.Col

open Idealize.ShloMosaic

/-- Two scans over steps that agree agree. -/
theorem scan_eq {A A' U U' : ℕ → EReal} {h h' : EReal} (e : h = h') : ∀ n, (∀ j, j < n → A j = A' j) → (∀ j, j < n → U j = U' j) →
    scan A U h n = scan A' U' h' n
  | 0, _, _ => e
  | n + 1, hA, hU => by
    show A n * scan A U h n + U n = A' n * scan A' U' h' n + U' n
    rw [hA n (by omega), hU n (by omega), scan_eq e n (fun j hj => hA j (by omega)) (fun j hj => hU j (by omega))]

theorem bscan_eq {A A' D D' : ℕ → EReal} {h h' : EReal} (e : h = h') : ∀ n, (∀ j, j < n → A j = A' j) → (∀ j, j < n → D j = D' j) →
    bscan A D h n = bscan A' D' h' n
  | 0, _, _ => e
  | n + 1, hA, hD => by
    show A n * (D n + bscan A D h n) = A' n * (D' n + bscan A' D' h' n)
    rw [hA n (by omega), hD n (by omega), bscan_eq e n (fun j hj => hA j (by omega)) (fun j hj => hD j (by omega))]

/-- A scan over reals is real. -/
theorem scan_real {A U : ℕ → EReal} : ∀ n, (∀ j, j < n → ∃ x : ℝ, A j = x) → (∀ j, j < n → ∃ x : ℝ, U j = x) →
    ∃ x : ℝ, scan A U 0 n = x
  | 0, _, _ => ⟨0, rfl⟩
  | n + 1, hA, hU => by
    obtain ⟨s, hs⟩ := scan_real n (fun j hj => hA j (by omega)) (fun j hj => hU j (by omega))
    obtain ⟨a, ha⟩ := hA n (by omega)
    obtain ⟨u, hu⟩ := hU n (by omega)
    refine ⟨a * s + u, ?_⟩
    show A n * scan A U 0 n + U n = _
    rw [hs, ha, hu]; norm_cast

theorem bscan_real {A D : ℕ → EReal} : ∀ n, (∀ j, j < n → ∃ x : ℝ, A j = x) → (∀ j, j < n → ∃ x : ℝ, D j = x) →
    ∃ x : ℝ, bscan A D 0 n = x
  | 0, _, _ => ⟨0, rfl⟩
  | n + 1, hA, hD => by
    obtain ⟨s, hs⟩ := bscan_real n (fun j hj => hA j (by omega)) (fun j hj => hD j (by omega))
    obtain ⟨a, ha⟩ := hA n (by omega)
    obtain ⟨u, hu⟩ := hD n (by omega)
    refine ⟨a * (u + s), ?_⟩
    show A n * (D n + bscan A D 0 n) = _
    rw [hs, ha, hu]; norm_cast

/-- A scan without inputs stays zero. -/
theorem scan_zero {A U : ℕ → EReal} : ∀ n, (∀ j, j < n → U j = 0) → scan A U 0 n = 0
  | 0, _ => rfl
  | n + 1, hU => by
    show A n * scan A U 0 n + U n = 0
    rw [hU n (by omega), scan_zero n (fun j hj => hU j (by omega)), mul_zero, add_zero]

/-- What the precondition says of a column: its numbers are real, and no decay is so near to one that the floor is met. -/
structure Tame (C : Data) : Prop where
  dya : ∀ n, n < 8448 → ∃ x : ℝ, C.dya n = x
  gr : ∀ n, n < 8448 → ∃ x : ℝ, C.gr n = x
  gi : ∀ n, n < 8448 → ∃ x : ℝ, C.gi n = x
  xc : ∀ n, n < 8448 → ∃ x : ℝ, C.xc n = x
  ag : ∀ n, n < 8448 → ∃ x : ℝ, C.ag n = x
  ba : ∃ x : ℝ, C.ba = x
  bx : ∃ x : ℝ, C.bx = x
  lam : ∃ x : ℝ, C.lam = x
  low : ∀ n, n < 8448 → Ideal.ofBits FTy.f32 228737632#32 ≤ 1 - C.aR n * C.aR n

namespace Data

/-- A row's quantities as real numbers, the kernels' and the reference's. -/
structure Row (C : Data) (n : ℕ) (r i a q x y v l : ℝ) : Prop where
  rK : C.r n = r
  rR : C.rR n = r
  iK : C.ig n = i
  iR : C.iR n = i
  aK : C.a n = a
  aR : C.aR n = a
  e2 : C.e2R n = ((a * a : ℝ) : EReal)
  sK : sK (C.a n) = q
  sR : C.sR n = q
  rs : Ideal.rsqrt (s2K (C.a n)) = ((q⁻¹ : ℝ) : EReal)
  hs : C.hsR n = ((1 / 2 * q⁻¹ : ℝ) : EReal)
  ne : q ≠ 0
  xc : C.xc n = x
  dya : C.dya n = y
  ag : C.ag n = v
  spK : spK C.lam = l
  spR : spR C.lam = l

variable (C : Data) (T : Tame C)
include T

/-- Every row's quantities are real and the two programs agree on them. -/
theorem row (n : ℕ) (hn : n < 8448) : ∃ r i a q x y v l : ℝ, Row C n r i a q x y v l := by
  obtain ⟨gr, hgr⟩ := T.gr n hn
  obtain ⟨gi, hgi⟩ := T.gi n hn
  obtain ⟨ba, hba⟩ := T.ba
  obtain ⟨bx, hbx⟩ := T.bx
  obtain ⟨lam, hlam⟩ := T.lam
  obtain ⟨x, hx⟩ := T.xc n hn
  obtain ⟨y, hy⟩ := T.dya n hn
  obtain ⟨v, hv⟩ := T.ag n hn
  have hrK : C.r n = ((sg (gr + ba) : ℝ) : EReal) := by unfold Data.r; rw [hgr, hba, ← EReal.coe_add, sgK_coe]
  have hrR : C.rR n = ((sg (gr + ba) : ℝ) : EReal) := by unfold Data.rR; rw [hgr, hba, ← EReal.coe_add, sgR_coe]
  have hiK : C.ig n = ((sg (gi + bx) : ℝ) : EReal) := by unfold Data.ig; rw [hgi, hbx, ← EReal.coe_add, sgK_coe]
  have hiR : C.iR n = ((sg (gi + bx) : ℝ) : EReal) := by unfold Data.iR; rw [hgi, hbx, ← EReal.coe_add, sgR_coe]
  generalize sg (gr + ba) = r at hrK hrR
  generalize sg (gi + bx) = i at hiK hiR
  have hspK : Cert.Col.spK C.lam = ((sp lam : ℝ) : EReal) := by rw [hlam, spK_coe]
  have hspR : Cert.Col.spR C.lam = ((sp lam : ℝ) : EReal) := by rw [hlam, spR_coe]
  generalize sp lam = l at hspK hspR
  have hla : C.laR n = ((-8 * r * l : ℝ) : EReal) := by
    unfold laR cfR; rw [hrR, hspR, w_m8]; norm_cast
  have haR : C.aR n = ((Real.exp (-8 * r * l) : ℝ) : EReal) := by unfold Data.aR; rw [hla, Ideal.exp_coe]
  have haK : C.a n = ((Real.exp (-8 * r * l) : ℝ) : EReal) := by
    unfold Data.a Cert.Col.aK; rw [hrK, hspK, w_m8, ← EReal.coe_mul, ← EReal.coe_mul, Ideal.exp_coe]
  have he2 : C.e2R n = ((Real.exp (-8 * r * l) * Real.exp (-8 * r * l) : ℝ) : EReal) := by
    unfold e2R; rw [hla, w_two, ← EReal.coe_mul, Ideal.exp_coe, ← Real.exp_add]; congr 2; ring
  generalize Real.exp (-8 * r * l) = a at haR haK he2
  obtain ⟨e, he, hw⟩ := w_eps
  have hlow := T.low n hn
  rw [hw, haR] at hlow
  have hlow' : e ≤ 1 - a * a := by exact_mod_cast hlow
  have hs2 : s2K (C.a n) = ((1 - a * a : ℝ) : EReal) := by
    unfold s2K; rw [haK, hw]
    have : (1 : EReal) - (a : EReal) * (a : EReal) = ((1 - a * a : ℝ) : EReal) := by norm_cast
    rw [this, coe_max', max_eq_left hlow']
  have hpos : 0 < 1 - a * a := lt_of_lt_of_le he hlow'
  have hq : 0 < Real.sqrt (1 - a * a) := Real.sqrt_pos.mpr hpos
  have hrs : Ideal.rsqrt (s2K (C.a n)) = (((Real.sqrt (1 - a * a))⁻¹ : ℝ) : EReal) := by
    rw [hs2, Ideal.rsqrt_coe, if_neg (by linarith), if_neg hpos.ne']
  have hsK : Cert.Col.sK (C.a n) = ((Real.sqrt (1 - a * a) : ℝ) : EReal) := by
    unfold Cert.Col.sK; rw [hrs, hs2, ← EReal.coe_mul]; congr 1
    rw [← div_eq_mul_inv, Real.div_sqrt]
  have hsR : C.sR n = ((Real.sqrt (1 - a * a) : ℝ) : EReal) := by
    unfold Data.sR; rw [he2]
    have : -(((a * a : ℝ) : EReal) - 1) = ((1 - a * a : ℝ) : EReal) := by
      rw [← EReal.coe_one, ← EReal.coe_sub, ← EReal.coe_neg]; congr 1; ring
    rw [this, Ideal.sqrt_coe, if_neg (by linarith)]
  have hhs : C.hsR n = ((1 / 2 * (Real.sqrt (1 - a * a))⁻¹ : ℝ) : EReal) := by
    unfold Data.hsR; rw [hsR, w_half, Ideal.div_coe hq.ne', ← EReal.coe_mul, one_div (Real.sqrt _)]
  exact ⟨r, i, a, _, x, y, v, l, hrK, hrR, hiK, hiR, haK, haR, he2, hsK, hsR, hrs, hhs, hq.ne', hx, hy, hv, hspK, hspR⟩

theorem a_eq (n : ℕ) (hn : n < 8448) : C.a n = C.aR n ∧ ∃ x : ℝ, C.a n = x := by
  obtain ⟨r, i, a, q, x, y, v, l, R⟩ := C.row T n hn
  exact ⟨R.aK.trans R.aR.symm, a, R.aK⟩

theorem d_eq (n : ℕ) (hn : n < 8448) : C.d n = C.dR n ∧ ∃ x : ℝ, C.d n = x := by
  obtain ⟨r, i, a, q, x, y, v, l, R⟩ := C.row T n hn
  obtain ⟨e1, z, e2⟩ := ge_eq v
  unfold d dR
  rw [R.dya, R.ag, ← e1, e2]
  exact ⟨rfl, y * z, by norm_cast⟩

theorem u_eq (n : ℕ) (hn : n < 8448) (h : 240 ≤ n) : C.u n = C.uR n ∧ ∃ x : ℝ, C.u n = x := by
  obtain ⟨r, i, a, q, x, y, v, l, R⟩ := C.row T n hn
  unfold u uR ixR
  rw [if_pos h, R.sK, R.iK, R.xc, R.sR, R.iR, mul_assoc]
  exact ⟨rfl, q * (i * x), by norm_cast⟩

omit T in
theorem u_dead (n : ℕ) (h : n < 240) : C.u n = 0 := if_neg (by omega)

omit T in
theorem h_dead (n : ℕ) (h : n ≤ 240) : C.h n = 0 := scan_zero n fun j hj => C.u_dead j (by omega)

/-- The states of the live rows. -/
theorem h_eq (k : ℕ) (hk : k ≤ 8208) : C.h (240 + k) = C.hR k ∧ ∃ x : ℝ, C.h (240 + k) = x := by
  have e : C.h (240 + k) = C.hR k := by
    refine (scan_add C.a C.u 0 240 k).trans (scan_eq (C.h_dead 240 (by omega)) k (fun j hj => ?_) (fun j hj => ?_))
    · exact (C.a_eq T _ (by omega)).1
    · exact (C.u_eq T _ (by omega) (by omega)).1
  refine ⟨e, ?_⟩
  rw [e]
  refine scan_real k (fun j hj => ?_) (fun j hj => ?_)
  · rw [← (C.a_eq T (240 + j) (by omega)).1]; exact (C.a_eq T _ (by omega)).2
  · rw [← (C.u_eq T (240 + j) (by omega) (by omega)).1]; exact (C.u_eq T _ (by omega) (by omega)).2

/-- The carries over the live rows. -/
theorem c_eq (k : ℕ) (hk : k ≤ 8208) : C.c k = C.bR k ∧ ∃ x : ℝ, C.c k = x := by
  refine ⟨bscan_eq rfl k (fun j hj => ?_) (fun j hj => ?_), bscan_real k (fun j hj => ?_) (fun j hj => ?_)⟩
  · rw [show 8447 - j = 240 + (8207 - j) by omega]; exact (C.a_eq T _ (by omega)).1
  · rw [show 8447 - j = 240 + (8207 - j) by omega]; exact (C.d_eq T _ (by omega)).1
  · exact (C.a_eq T _ (by omega)).2
  · exact (C.d_eq T _ (by omega)).2

/-- The gradients of the live rows' states. -/
theorem g_eq (k : ℕ) (hk : k < 8208) : C.g (240 + k) = C.gR k ∧ ∃ x : ℝ, C.g (240 + k) = x := by
  have e : 8447 - (240 + k) = 8207 - k := by omega
  obtain ⟨e1, x, e2⟩ := C.d_eq T (240 + k) (by omega)
  obtain ⟨e3, z, e4⟩ := C.c_eq T (8207 - k) (by omega)
  unfold g gR
  rw [e, ← e1, ← e3, e2, e4]
  exact ⟨rfl, x + z, by norm_cast⟩

/-- The gradient of the decay's logarithm on a live row. -/
theorem dla_eq (k : ℕ) (hk : k < 8208) : C.dla (240 + k) = C.dlaR k ∧ ∃ x : ℝ, C.dla (240 + k) = x := by
  obtain ⟨r, i, a, q, x, y, v, l, R⟩ := C.row T (240 + k) (by omega)
  obtain ⟨e1, gg, e2⟩ := C.g_eq T k hk
  obtain ⟨e3, hh, e4⟩ := C.h_eq T k (by omega)
  unfold dla dlaR dsR ixR du
  rw [← e1, ← e3, e2, e4, if_pos (by omega), R.aK, R.iK, R.xc, ← R.aK, R.rs, R.aK, R.iR, R.hs, R.e2, R.aR, w_two]
  refine ⟨?_, _, by norm_cast⟩
  norm_cast
  ring

theorem dm_eq (k : ℕ) (hk : k < 8208) : C.dm (240 + k) = C.sR (240 + k) * C.gR k := by
  obtain ⟨r, i, a, q, x, y, v, l, R⟩ := C.row T (240 + k) (by omega)
  unfold dm du
  rw [if_pos (by omega), R.sK, R.sR, (C.g_eq T k hk).1, mul_comm]

theorem dxc_live (k : ℕ) (hk : k < 8208) : C.dxc (240 + k) = C.dxcR k := by
  obtain ⟨r, i, a, q, x, y, v, l, R⟩ := C.row T (240 + k) (by omega)
  unfold dxc dxcR
  rw [C.dm_eq T k hk, R.iK, R.iR, mul_comm]

theorem di_live (k : ℕ) (hk : k < 8208) : C.di (240 + k) = C.diR k := by
  obtain ⟨r, i, a, q, x, y, v, l, R⟩ := C.row T (240 + k) (by omega)
  unfold di diR
  rw [C.dm_eq T k hk, R.iK, R.iR, mul_assoc]

theorem dr_live (k : ℕ) (hk : k < 8208) : C.dr (240 + k) = C.drR k := by
  obtain ⟨r, i, a, q, x, y, v, l, R⟩ := C.row T (240 + k) (by omega)
  unfold dr drR
  rw [(C.dla_eq T k hk).1, R.rK, R.rR, R.spK, R.spR, mul_assoc _ (r : EReal) _, mul_left_comm (C.dlaR k)]

theorem dl_live (k : ℕ) (hk : k < 8208) : C.dl (240 + k) = C.cfR (240 + k) * C.dlaR k ∧ ∃ x : ℝ, C.dl (240 + k) = x := by
  obtain ⟨r, i, a, q, x, y, v, l, R⟩ := C.row T (240 + k) (by omega)
  obtain ⟨e1, z, e2⟩ := C.dla_eq T k hk
  unfold dl cfR
  rw [← e1, e2, R.rK, R.rR, w_m8, mul_comm]
  exact ⟨rfl, -8 * r * z, by norm_cast⟩

theorem dag_live (k : ℕ) (hk : k < 8208) : C.dag (240 + k) = C.dagR k := by
  obtain ⟨r, i, a, q, x, y, v, l, R⟩ := C.row T (240 + k) (by omega)
  obtain ⟨e1, z, e2⟩ := C.h_eq T (k + 1) (by omega)
  unfold dag dagR
  rw [← e1, show 240 + k + 1 = 240 + (k + 1) by omega, e2, R.dya, R.ag, dge_eq]

omit T

theorem dm_dead (n : ℕ) (h : n < 240) : C.dm n = 0 := by
  unfold dm du; rw [if_neg (by omega), zero_mul]

theorem dxc_dead (n : ℕ) (h : n < 240) : C.dxc n = 0 := by
  unfold dxc; rw [C.dm_dead n h, zero_mul]

theorem di_dead (n : ℕ) (h : n < 240) : C.di n = 0 := by
  unfold di; rw [C.dm_dead n h, zero_mul, zero_mul, zero_mul]

theorem dla_dead (n : ℕ) (h : n < 240) : C.dla n = 0 := by
  unfold dla du; rw [if_neg (by omega), C.h_dead n (by omega), zero_mul, mul_zero, mul_zero, zero_mul, sub_zero, zero_mul]

theorem dr_dead (n : ℕ) (h : n < 240) : C.dr n = 0 := by
  unfold dr; rw [C.dla_dead n h, zero_mul, zero_mul, zero_mul]

theorem dl_dead (n : ℕ) (h : n < 240) : C.dl n = 0 := by
  unfold dl; rw [C.dla_dead n h, zero_mul]

theorem dag_dead (n : ℕ) (h : n < 240) : C.dag n = 0 := by
  unfold dag; rw [C.h_dead (n + 1) (by omega), mul_zero, zero_mul]

include T

/-- The gradient of the first gate. -/
theorem dr_eq (n : ℕ) (hn : n < 8448) : C.dr n = if 240 ≤ n then C.drR (n - 240) else 0 := by
  split_ifs with h
  · rw [← C.dr_live T (n - 240) (by omega), Nat.add_sub_cancel' h]
  · exact C.dr_dead n (by omega)

/-- The gradient of the second gate. -/
theorem di_eq (n : ℕ) (hn : n < 8448) : C.di n = if 240 ≤ n then C.diR (n - 240) else 0 := by
  split_ifs with h
  · rw [← C.di_live T (n - 240) (by omega), Nat.add_sub_cancel' h]
  · exact C.di_dead n (by omega)

/-- The gradient of the convolved input. -/
theorem dxc_eq (n : ℕ) (hn : n < 8448) : C.dxc n = if 240 ≤ n then C.dxcR (n - 240) else 0 := by
  split_ifs with h
  · rw [← C.dxc_live T (n - 240) (by omega), Nat.add_sub_cancel' h]
  · exact C.dxc_dead n (by omega)

/-- The gradient of gelu's argument. -/
theorem dag_eq (n : ℕ) (hn : n < 8448) : C.dag n = if 240 ≤ n then C.dagR (n - 240) else 0 := by
  split_ifs with h
  · rw [← C.dag_live T (n - 240) (by omega), Nat.add_sub_cancel' h]
  · exact C.dag_dead n (by omega)

omit T

/-- A sum over all rows of what is zero on the padding is the sum over the live rows. -/
theorem sum_live (f : ℕ → EReal) (hf : ∀ n, n < 240 → f n = 0) :
    ∑ n ∈ Finset.range 8448, f n = ∑ x : Fin 8208, f (240 + x.val) := by
  rw [show (8448 : ℕ) = 240 + 8208 from rfl, Finset.sum_range_add, Finset.sum_eq_zero (fun n hn => hf n (Finset.mem_range.mp hn)), zero_add,
    Finset.sum_range]

include T

/-- The first bias's gradient. -/
theorem dba_eq : ∑ n ∈ Finset.range 8448, C.dr n = ∑ x : Fin 8208, C.drR x.val := by
  rw [sum_live _ C.dr_dead]
  exact Finset.sum_congr rfl fun x _ => C.dr_live T x.val x.isLt

/-- The second bias's gradient. -/
theorem dbx_eq : ∑ n ∈ Finset.range 8448, C.di n = ∑ x : Fin 8208, C.diR x.val := by
  rw [sum_live _ C.di_dead]
  exact Finset.sum_congr rfl fun x _ => C.di_live T x.val x.isLt

end Data

end Cert.Col

end
-- ==== Proof.Tame.lean ====
/-
What the precondition says of each column of the arrays.
-/
module

public import proofs.«01_k».proof.Proof.Eqs
public import proofs.«01_k».proof.Proof.Frames
public import Idealize.ShloMosaic.Lib.StableHlo.Predicate

@[expose] public section

noncomputable section

namespace Cert.Col

open Idealize.ShloMosaic Idealize.ShloMosaic.TcCoe

theorem and_one {x y : BitVec 1} : x &&& y = 1#1 ↔ x = 1#1 ∧ y = 1#1 := by
  revert x y; decide

theorem real_of_abs {x : EReal} (h : max x (-x) < ⊤) : ∃ r : ℝ, x = r := by
  induction x with
  | bot => simp at h
  | coe r => exact ⟨r, rfl⟩
  | top => simp at h

/-- Under the precondition every column of the arrays is tame. -/
theorem tame_of (x0 : Vec Ideal Cert.Pre_tame.S8448x1280 .bf16) (x1 : Vec Ideal Cert.Pre_tame.S8448x2560 .bf16)
    (x2 : Vec Ideal Cert.Pre_tame.S8448x1280 .bf16) (x3 : Vec Ideal Cert.Pre_tame.S8448x8960 .bf16)
    (x4 x5 x6 : Vec Ideal Cert.Pre_tame.S1x1280 .f32) (x7 : Vec Ideal Cert.Pre_tame.S8448x8960 .bf16)
    (h : Cert.Pre_tame.fn (F := Ideal) x0 x1 x2 x3 x4 x5 x6 x7 = fun _ => 1#1) (l : Fin 1280) :
    Tame (colOf (fun r q => x0 (ix2 r q)) (fun r q => x1 (ix2 r q)) (fun r q => x2 (ix2 r q)) (fun r q => x3 (ix2 r q))
      (fun q => x4 (ix2 0 q)) (fun q => x5 (ix2 0 q)) (fun q => x6 (ix2 0 q)) l) := by
  have key : ∀ n : Fin 8448, _ := fun n => by
    have e := congrFun h (ix2 n l)
    pointwise [Cert.Pre_tame.fn, Cert.Pre_tame.fn_part1, Cert.Pre_tame.fn_part2, Cert.Pre_tame.fn_part3, Cert.Pre_tame.fn_softplus] at e
    simp only [IntOp.andi, and_one, StableHlo.Predicate.ofBool_eq_one_iff, decide_eq_true_eq, w_inf] at e
    exact e
  refine ⟨fun n hn => ?_, fun n hn => ?_, fun n hn => ?_, fun n hn => ?_, fun n hn => ?_, ?_, ?_, ?_, fun n hn => ?_⟩
  · obtain ⟨⟨⟨⟨⟨⟨⟨⟨h0, h1⟩, h2⟩, h3⟩, h4⟩, h5⟩, h6⟩, h7⟩, h8⟩ := key ⟨n, hn⟩
    exact (real_of_abs h0).imp fun x hx => (rowsOf_val (fun r => x0 (ix2 r l)) n hn).trans hx
  · obtain ⟨⟨⟨⟨⟨⟨⟨⟨h0, h1⟩, h2⟩, h3⟩, h4⟩, h5⟩, h6⟩, h7⟩, h8⟩ := key ⟨n, hn⟩
    exact (real_of_abs h1).imp fun x hx => (rowsOf_val (fun r => x1 (ix2 r ⟨l.val, _⟩)) n hn).trans hx
  · obtain ⟨⟨⟨⟨⟨⟨⟨⟨h0, h1⟩, h2⟩, h3⟩, h4⟩, h5⟩, h6⟩, h7⟩, h8⟩ := key ⟨n, hn⟩
    exact (real_of_abs h2).imp fun x hx => (rowsOf_val (fun r => x1 (ix2 r ⟨1280 + l.val, _⟩)) n hn).trans hx
  · obtain ⟨⟨⟨⟨⟨⟨⟨⟨h0, h1⟩, h2⟩, h3⟩, h4⟩, h5⟩, h6⟩, h7⟩, h8⟩ := key ⟨n, hn⟩
    exact (real_of_abs h4).imp fun x hx => (rowsOf_val (fun r => x2 (ix2 r l)) n hn).trans hx
  · obtain ⟨⟨⟨⟨⟨⟨⟨⟨h0, h1⟩, h2⟩, h3⟩, h4⟩, h5⟩, h6⟩, h7⟩, h8⟩ := key ⟨n, hn⟩
    exact (real_of_abs h3).imp fun x hx => (rowsOf_val (fun r => x3 (ix2 r ⟨7680 + l.val, _⟩)) n hn).trans hx
  · obtain ⟨⟨⟨⟨⟨⟨⟨⟨h0, h1⟩, h2⟩, h3⟩, h4⟩, h5⟩, h6⟩, h7⟩, h8⟩ := key 0
    exact real_of_abs h5
  · obtain ⟨⟨⟨⟨⟨⟨⟨⟨h0, h1⟩, h2⟩, h3⟩, h4⟩, h5⟩, h6⟩, h7⟩, h8⟩ := key 0
    exact real_of_abs h6
  · obtain ⟨⟨⟨⟨⟨⟨⟨⟨h0, h1⟩, h2⟩, h3⟩, h4⟩, h5⟩, h6⟩, h7⟩, h8⟩ := key 0
    exact real_of_abs h7
  · obtain ⟨⟨⟨⟨⟨⟨⟨⟨h0, h1⟩, h2⟩, h3⟩, h4⟩, h5⟩, h6⟩, h7⟩, h8⟩ := key ⟨n, hn⟩
    unfold Data.aR Data.laR Data.cfR Data.rR sgR spR colOf
    simp only [rowsOf_val _ n hn, sub_zero, add_zero]
    exact h8

end Cert.Col

end
-- ==== Proof.Sums.lean ====
/-
Sums over the rows of a column: by blocks, strips and halves of a strip, they are the sum over all rows.
-/
module

public import proofs.«01_k».proof.Proof.Scal

@[expose] public section

namespace Cert.Col

/-- A sum over `w n` numbers, `w` at a time. -/
theorem sum_blocks (f : ℕ → EReal) (w : ℕ) : ∀ n, ∑ q ∈ Finset.range (w * n), f q = ∑ j ∈ Finset.range n, ∑ r ∈ Finset.range w, f (w * j + r)
  | 0 => by simp
  | n + 1 => by rw [Nat.mul_succ, Finset.sum_range_add, sum_blocks f w n, Finset.sum_range_succ]

/-- A block's sum as the kernel takes it: for each of eight lanes, strip by strip from the last, the lane's two rows. -/
theorem block_sum (f : ℕ → EReal) (B : ℕ) :
    ∑ r : Fin 8, ∑ j ∈ Finset.range 16, (f (B + (16 * (15 - j) + r.val)) + f (B + (16 * (15 - j) + (8 + r.val)))) = ∑ q ∈ Finset.range 256, f (B + q) := by
  rw [show (256 : ℕ) = 16 * 16 from rfl, sum_blocks (fun q => f (B + q)) 16 16,
    ← Finset.sum_range_reflect (fun j => ∑ r ∈ Finset.range 16, f (B + (16 * j + r))) 16, Finset.sum_comm]
  refine Finset.sum_congr rfl fun j _ => ?_
  rw [show (16 : ℕ) - 1 - j = 15 - j from rfl, show Finset.range 16 = Finset.range (8 + 8) from rfl, Finset.sum_range_add, Finset.sum_add_distrib,
    ← Fin.sum_univ_eq_sum_range (fun r => f (B + (16 * (15 - j) + r))) 8, ← Fin.sum_univ_eq_sum_range (fun r => f (B + (16 * (15 - j) + (8 + r)))) 8]

/-- The blocks' sums, from the last block back, are the sum over all rows. -/
theorem rows_sum (f : ℕ → EReal) : ∑ t ∈ Finset.range 33, ∑ q ∈ Finset.range 256, f (256 * (32 - t) + q) = ∑ n ∈ Finset.range 8448, f n := by
  rw [show (8448 : ℕ) = 256 * 33 from rfl, sum_blocks f 256 33, ← Finset.sum_range_reflect (fun j => ∑ r ∈ Finset.range 256, f (256 * j + r)) 33]

end Cert.Col
end
-- ==== Proof.Lam.lean ====
/-
The gradient of the decay's parameter: block by block it is scaled by a real number, which comes out of the sum.
-/
module

public import proofs.«01_k».proof.Proof.Eqs
public import proofs.«01_k».proof.Proof.Sums

@[expose] public section

noncomputable section

namespace Cert.Col

open Idealize.ShloMosaic

/-- A sum of reals is real. -/
theorem sum_coe (f : ℕ → ℝ) : ∀ n, ∑ q ∈ Finset.range n, ((f q : ℝ) : EReal) = ((∑ q ∈ Finset.range n, f q : ℝ) : EReal)
  | 0 => by simp
  | n + 1 => by rw [Finset.sum_range_succ, Finset.sum_range_succ, sum_coe f n, EReal.coe_add]

namespace Data

/-- The gradient of the decay's parameter. -/
theorem dlam_eq (C : Data) (T : Tame C) :
    (∑ t ∈ Finset.range 33, (0 - sgK (0 - C.lam)) * ∑ q ∈ Finset.range 256, C.dl (256 * (32 - t) + q))
      = -((∑ x : Fin 8208, C.cfR (240 + x.val) * C.dlaR x.val) * dspR C.lam) := by
  obtain ⟨lam, hlam⟩ := T.lam
  have hreal : ∀ n, ∃ x : ℝ, n < 8448 → C.dl n = x := fun n => by
    by_cases hn : n < 8448
    · by_cases h : 240 ≤ n
      · obtain ⟨_, x, e⟩ := C.dl_live T (n - 240) (by omega)
        rw [Nat.add_sub_cancel' h] at e
        exact ⟨x, fun _ => e⟩
      · exact ⟨0, fun _ => C.dl_dead n (by omega)⟩
    · exact ⟨0, fun h => absurd h hn⟩
  choose f hf using hreal
  have hs : (0 : EReal) - sgK (0 - C.lam) = ((-sg (-lam) : ℝ) : EReal) := by
    rw [hlam, zero_sub, zero_sub, ← EReal.coe_neg, sgK_coe, ← EReal.coe_neg]
  have hblk : ∀ t ∈ Finset.range 33, (0 - sgK (0 - C.lam)) * ∑ q ∈ Finset.range 256, C.dl (256 * (32 - t) + q)
      = ((-sg (-lam) * ∑ q ∈ Finset.range 256, f (256 * (32 - t) + q) : ℝ) : EReal) := fun t ht => by
    rw [hs, EReal.coe_mul, ← sum_coe (fun q => f (256 * (32 - t) + q))]
    refine congrArg _ (Finset.sum_congr rfl fun q hq => hf _ ?_)
    have := Finset.mem_range.mp ht
    have := Finset.mem_range.mp hq
    omega
  have hall : ∑ x : Fin 8208, C.cfR (240 + x.val) * C.dlaR x.val = ((∑ n ∈ Finset.range 8448, f n : ℝ) : EReal) := by
    rw [← sum_coe, ← Finset.sum_congr rfl (fun n hn => hf n (Finset.mem_range.mp hn)), sum_live _ C.dl_dead]
    exact Finset.sum_congr rfl fun x _ => ((C.dl_live T x.val x.isLt).1).symm
  have hrows : ∑ t ∈ Finset.range 33, ((∑ q ∈ Finset.range 256, f (256 * (32 - t) + q) : ℝ) : EReal)
      = ((∑ n ∈ Finset.range 8448, f n : ℝ) : EReal) := by
    rw [← sum_coe, ← rows_sum]
    exact Finset.sum_congr rfl fun t _ => (sum_coe (fun q => f (256 * (32 - t) + q)) 256).symm
  rw [sum_coe (fun t => ∑ q ∈ Finset.range 256, f (256 * (32 - t) + q))] at hrows
  generalize ∑ n ∈ Finset.range 8448, f n = S at hall hrows
  rw [Finset.sum_congr rfl hblk, sum_coe (fun t => -sg (-lam) * ∑ q ∈ Finset.range 256, f (256 * (32 - t) + q)), ← Finset.mul_sum,
    EReal.coe_mul, hrows, hall, hlam, dspR_coe, ← EReal.coe_mul, ← EReal.coe_mul, ← EReal.coe_neg]
  refine congrArg _ ?_
  ring

end Data

end Cert.Col

end
-- ==== Proof.FwdVal.lean ====
/-
The values of the forward recurrence kernel: what each strip computes, column by column over the extended reals.
-/
module

public import proofs.«01_k».proof.Proof.FwdRun
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic
public import proofs.«01_k».proof.Proof.Scal
public import Idealize.ShloMosaic.Lib.Pointwise

@[expose] public section

set_option maxRecDepth 16384

noncomputable section

namespace Cert.KernelIdeal.RG

open Cert.KernelIdeal.Gen Cert.Col
open Idealize.ShloMosaic Idealize.ShloMosaic.TcCoe Idealize.ShloMosaic.Tactic

/-- The column `l` of a block at point `t` is rows `256 t` on of the column's data. -/
structure Col0 (x : Ins0 Ideal) (C : Data) (t : ℕ) (l : Fin 1280) : Prop where
  gr : ∀ q : Fin 256, x.gr (ix2 q l) = C.gr (256 * t + q)
  gi : ∀ q : Fin 256, x.gi (ix2 q l) = C.gi (256 * t + q)
  xc : ∀ q : Fin 256, x.xc (ix2 q l) = C.xc (256 * t + q)
  ba : x.ba (ix2 0 l) = C.ba
  bx : x.bx (ix2 0 l) = C.bx
  lam : x.lam (ix2 0 l) = C.lam

/-- Where trip `k` stores and loads: rows `16 k` on. -/
theorem off1_eq (k : Fin k0_t1_loop.trips) : k0_off1 k = ![16 * k.val, 0] := by revert k; decide

/-- A load of trip `k`'s rows of a whole block. -/
theorem load16 {e : EltTy} (m : Memref sig .tc .vmem S256x1280 e) (hm : m.IsWhole) (d : Vec Ideal S256x1280 e)
    (off : Fin S256x1280.rank → ℕ) (inb : ∀ a, off a + S16x1280.size a ≤ S256x1280.size a)
    (o : ℕ) (ho : o + 16 ≤ 256) (hoff : off = ![o, 0]) (r : Fin 16) (l : Fin 1280) :
    View.readAt (Elt Ideal) m.view (Rect.unit (s := S256x1280) off S16x1280.size inb).toLoadRect (hm.unread d) (ix2 r l)
      = d (ix2 ⟨o + r.val, by have := r.isLt; omega⟩ l) := by
  subst hoff
  rw [View.readAt_eq_ld, Memref.IsWhole.read_unread]
  pointwise

/-- The decays of a strip. -/
theorem pay15_apply (v3 v5 : Vec Ideal S1x1280 .f32) (g : Vec Ideal S16x1280 .bf16) (r : Fin 16) (l : Fin 1280) :
    k0_pay15 (F := Ideal) (k0_pay7 v3 g) (k0_pay10 v5) (k0_pay12 v5) (k0_pay13 v5) (k0_pay14 v5) (ix2 r l)
      = aK (sgK (g (ix2 r l) + v3 (ix2 0 l))) (v5 (ix2 0 l)) := by
  pointwise [k0_pay15, k0_pay7, k0_pay10, k0_pay12, k0_pay13, k0_pay14, k0_pay11, k0_pay9]
  rfl

/-- The number of a strip's first row, as the body computes it. -/
abbrev row0w (g : ℕ) (k : ℕ) : BitVec 32 :=
  Scalar.addi (Scalar.muli (BitVec.ofNat 32 g) 256#32) (Scalar.muli (Scf.iv 0#32 1#32 k) 16#32)

/-- Whether a row is live, as the strip computes it. -/
theorem live_word (t k r : ℕ) (ht : t < 33) (hk : k < 16) (hr : r < 16) :
    IntOp.cmpi CmpIPredicate.sge (IntOp.addi (row0w t k) (BitVec.ofNat 32 r)) 240#32
      = if 240 ≤ 256 * t + (16 * k + r) then 1#1 else 0#1 := by
  have h : ∀ t : Fin 33, ∀ k : Fin 16, ∀ r : Fin 16, IntOp.cmpi CmpIPredicate.sge (IntOp.addi (row0w t k) (BitVec.ofNat 32 r)) 240#32
      = if 240 ≤ 256 * t.val + (16 * k.val + r.val) then 1#1 else 0#1 := by decide +kernel
  exact h ⟨t, ht⟩ ⟨k, hk⟩ ⟨r, hr⟩

section
variable (i : grid0.Coords) (M : Bufs0) (x : Ins0 Ideal) (k : Fin k0_t1_loop.trips)

/-- Trip `k`'s rows of a block. -/
abbrev ld0 {e : EltTy} (m : Memref sig .tc .vmem S256x1280 e) (hm : m.IsWhole) (d : Vec Ideal S256x1280 e) : Vec Ideal S16x1280 e :=
  View.readAt (Elt Ideal) m.view (Rect.unit (s := S256x1280) (k0_off1 k) S16x1280.size (k0_off1_inb k)).toLoadRect (hm.unread d)

/-- The decays of strip `k`. -/
def a16 : FVec Ideal S16x1280 .f32 :=
  k0_pay15 (k0_pay7 x.ba (ld0 k M.a2 M.h2 x.gr)) (k0_pay10 x.lam) (k0_pay12 x.lam) (k0_pay13 x.lam) (k0_pay14 x.lam)

/-- The inputs of strip `k`. -/
def u16 : FVec Ideal S16x1280 .f32 :=
  k0_pay16 (k0_pay6 (ld0 k M.a4 M.h4 x.xc)) (row0w (i 1).val k.val) (k0_pay7 x.ba (ld0 k M.a2 M.h2 x.gr)) (k0_pay8 x.bx (ld0 k M.a3 M.h3 x.gi)) (k0_pay10 x.lam) (k0_pay12 x.lam) (k0_pay13 x.lam) (k0_pay14 x.lam)

/-- The state after three rows of strip `k`. -/
def h3 (acc : Vec Ideal S1x1280 .f32) : FVec Ideal S1x1280 .f32 :=
  k0_pay19 acc (k0_pay6 (ld0 k M.a4 M.h4 x.xc)) (row0w (i 1).val k.val) (k0_pay7 x.ba (ld0 k M.a2 M.h2 x.gr)) (k0_pay8 x.bx (ld0 k M.a3 M.h3 x.gi)) (k0_pay10 x.lam) (k0_pay12 x.lam) (k0_pay13 x.lam) (k0_pay14 x.lam)

/-- The first three rows of the strip's states. -/
def o3 (acc : Vec Ideal S1x1280 .f32) : FVec Ideal S8x1280 .f32 :=
  k0_pay20 sub8 acc (k0_pay6 (ld0 k M.a4 M.h4 x.xc)) (row0w (i 1).val k.val) (k0_pay7 x.ba (ld0 k M.a2 M.h2 x.gr)) (k0_pay8 x.bx (ld0 k M.a3 M.h3 x.gi)) (k0_pay10 x.lam) (k0_pay12 x.lam) (k0_pay13 x.lam) (k0_pay14 x.lam)

/-- What strip `k` stores in the first result's buffer. -/
def hs16 (acc : Vec Ideal S1x1280 .f32) : FVec Ideal S16x1280 .f32 :=
  let A := a16 M x k
  let U := u16 i M x k
  let h := h3 i M x k acc
  let v := k0_pay28 A U h
  k0_pay3 A U (k0_pay26 sub8 A U h (o3 i M x k acc))
    (k0_pay36 sub8 A U k0_pay27 v (k0_pay29 sub8) (k0_pay30 A U h)) (k0_pay37 A U v) (k0_pay38 sub8) (k0_pay39 A U v)

/-- The state strip `k` yields. -/
def hN (acc : Vec Ideal S1x1280 .f32) : FVec Ideal S1x1280 .f32 :=
  k0_pay2 (a16 M x k) (u16 i M x k) (k0_pay37 (a16 M x k) (u16 i M x k) (k0_pay28 (a16 M x k) (u16 i M x k) (h3 i M x k acc)))

theorem tripR0 (c : Dev nD) (acc : Vec Ideal S1x1280 .f32) :
   tripR_k0_t1 (F := Ideal) Variants.none c none i M.a2 M.h2 M.a3 M.h3 M.a4 M.h4 M.a5 M.h5 M.a6 M.h6 M.a7 M.h7 M.a8 M.h8 M.a9 M.h9
    M.a10 M.h10 M.a11 M.h11 (BitVec.ofNat 32 (i 1).val) x.ba x.bx x.lam sub8 (M.h2.unread x.gr) (M.h3.unread x.gi)
    (M.h4.unread x.xc) (M.h5.unread x.ag) k acc = hN i M x k acc := by
  unfold tripR_k0_t1 trip_k0_t1
  rfl

theorem tripL0 (c : Dev nD) (acc : Vec Ideal S1x1280 .f32) :
   (tripL_k0_t1 (F := Ideal) Variants.none c none i M.a2 M.h2 M.a3 M.h3 M.a4 M.h4 M.a5 M.h5 M.a6 M.h6 M.a7 M.h7 M.a8 M.h8 M.a9 M.h9
    M.a10 M.h10 M.a11 M.h11 (BitVec.ofNat 32 (i 1).val) x.ba x.bx x.lam sub8 (M.h2.unread x.gr) (M.h3.unread x.gi)
    (M.h4.unread x.xc) (M.h5.unread x.ag) k acc).1 = [⟨Rect.unit (s := S256x1280) (k0_off1 k) S16x1280.size (k0_off1_inb k), hs16 i M x k acc⟩] := by
  unfold tripL_k0_t1 trip_k0_t1
  rfl

theorem a16_apply (C : Data) (t : ℕ) (l : Fin 1280) (hx : Col0 x C t l) (r : Fin 16) :
    a16 M x k (ix2 r l) = C.a (256 * t + (16 * k.val + r)) := by
  have hk : k.val < 16 := Nat.lt_of_lt_of_le k.isLt k0_t1_abs.2.1
  unfold a16
  rw [pay15_apply, show ld0 k M.a2 M.h2 x.gr (ix2 r l) = _ from load16 M.a2 M.h2 x.gr _ _ (16 * k.val) (by omega) (off1_eq k) r l, hx.gr, hx.ba, hx.lam]
  rfl

theorem u16_apply (C : Data) (t : ℕ) (ht : (i 1).val = t) (l : Fin 1280) (hx : Col0 x C t l) (r : Fin 16) :
    u16 i M x k (ix2 r l) = C.u (256 * t + (16 * k.val + r)) := by
  have hk : k.val < 16 := Nat.lt_of_lt_of_le k.isLt k0_t1_abs.2.1
  have h64 := a16_apply M x k C t l hx r
  unfold a16 at h64
  unfold u16
  pointwise [k0_pay16, k0_pay6, k0_pay8]
  rw [h64]
  have e1 := load16 M.a4 M.h4 x.xc _ (k0_off1_inb k) (16 * k.val) (by omega) (off1_eq k) r l
  have e2 := load16 M.a3 M.h3 x.gi _ (k0_off1_inb k) (16 * k.val) (by omega) (off1_eq k) r l
  have hi : (IntOp.cmpi CmpIPredicate.sge (IntOp.addi (row0w (i 1).val k.val) (BitVec.ofNat 32 r.val)) 240#32) = _ :=
    live_word (i 1).val k.val r.val (i 1).isLt hk r.isLt
  rw [hi, show ld0 k M.a4 M.h4 x.xc (ix2 r l) = _ from e1, show ld0 k M.a3 M.h3 x.gi (ix2 r l) = _ from e2, hx.xc, hx.gi, hx.bx, ht]
  unfold Data.u
  by_cases h : 240 ≤ 256 * t + (16 * k.val + r.val)
  · rw [if_pos h, if_pos h]; rfl
  · rw [if_neg h, if_neg h]; rfl

theorem h3_apply (acc : Vec Ideal S1x1280 .f32) (A U : ℕ → EReal) (l : Fin 1280)
    (hA : ∀ r : Fin 16, a16 M x k (ix2 r l) = A r) (hU : ∀ r : Fin 16, u16 i M x k (ix2 r l) = U r) :
    h3 i M x k acc (ix2 0 l) = scan A U (acc (ix2 0 l)) 3 := by
  unfold a16 at hA
  unfold u16 at hU
  unfold h3
  pointwise [k0_pay19, k0_pay18, k0_pay17]
  simp only [hA, hU]
  rfl

/-- A select on whether a row's number is `k`. -/
theorem sel_eq {α : Type} (r k : ℕ) (hr : r < 8) (hk : k < 8) (a b : α) :
    Scalar.select (IntOp.cmpi CmpIPredicate.eq (BitVec.ofNat 32 r) (BitVec.ofNat 32 k)) a b = if r = k then a else b := by
  have h : ∀ r k : Fin 8, IntOp.cmpi CmpIPredicate.eq (BitVec.ofNat 32 r.val) (BitVec.ofNat 32 k.val) = if r.val = k.val then 1#1 else 0#1 := by decide
  rw [show IntOp.cmpi CmpIPredicate.eq (BitVec.ofNat 32 r) (BitVec.ofNat 32 k) = _ from h ⟨r, hr⟩ ⟨k, hk⟩]
  by_cases e : r = k
  · rw [if_pos e, if_pos (show (⟨r, hr⟩ : Fin 8).val = (⟨k, hk⟩ : Fin 8).val from e)]; rfl
  · rw [if_neg e, if_neg (show ¬ (⟨r, hr⟩ : Fin 8).val = (⟨k, hk⟩ : Fin 8).val from e)]; rfl

section
variable (a u : FVec Ideal S16x1280 .f32) (A U : ℕ → EReal) (l : Fin 1280) (s : EReal)
  (hA : ∀ r : Fin 16, a (ix2 r l) = A r) (hU : ∀ r : Fin 16, u (ix2 r l) = U r)
include hA hU

theorem lo_apply (v103 : FVec Ideal S1x1280 .f32) (h103 : v103 (ix2 0 l) = scan A U s 3) (v108 : FVec Ideal S8x1280 .f32)
    (h108 : ∀ r : Fin 8, r.val < 3 → v108 (ix2 r l) = scan A U s (r.val + 1)) (r : Fin 8) :
    k0_pay26 sub8 a u v103 v108 (ix2 r l) = scan A U s (r.val + 1) := by
  have p4 : k0_pay21 a u v103 (ix2 0 l) = scan A U s 4 := by pointwise [k0_pay21]; simp only [hA, hU, h103]; rfl
  have p5 : k0_pay22 a u v103 (ix2 0 l) = scan A U s 5 := by pointwise [k0_pay22]; simp only [hA, hU, p4]; rfl
  have p6 : k0_pay23 a u v103 (ix2 0 l) = scan A U s 6 := by pointwise [k0_pay23]; simp only [hA, hU, p5]; rfl
  have p7 : k0_pay24 a u v103 (ix2 0 l) = scan A U s 7 := by pointwise [k0_pay24]; simp only [hA, hU, p6]; rfl
  have p8 : k0_pay25 a u v103 (ix2 0 l) = scan A U s 8 := by pointwise [k0_pay25]; simp only [hA, hU, p7]; rfl
  pointwise [k0_pay26]
  simp only [p4, p5, p6, p7, p8]
  obtain ⟨r, hr⟩ := r
  rw [sel_eq _ _ hr (by decide), sel_eq _ _ hr (by decide), sel_eq _ _ hr (by decide), sel_eq _ _ hr (by decide), sel_eq _ _ hr (by decide)]
  by_cases h3 : r < 3
  · rw [if_neg (by omega), if_neg (by omega), if_neg (by omega), if_neg (by omega), if_neg (by omega)]; exact h108 ⟨r, hr⟩ h3
  · interval_cases r <;> simp at h3 ⊢

theorem h9_apply (v103 : FVec Ideal S1x1280 .f32) (h103 : v103 (ix2 0 l) = scan A U s 3) :
    k0_pay28 a u v103 (ix2 0 l) = scan A U s 9 := by
  pointwise [k0_pay28, k0_pay25, k0_pay24, k0_pay23, k0_pay22, k0_pay21]; simp only [hA, hU, h103]; rfl

theorem h15_apply (v : FVec Ideal S1x1280 .f32) (h9 : v (ix2 0 l) = scan A U s 9) :
    k0_pay37 a u v (ix2 0 l) = scan A U s 15 := by
  pointwise [k0_pay37, k0_pay35, k0_pay34, k0_pay33, k0_pay32, k0_pay31]; simp only [hA, hU, h9]; rfl

theorem h16_apply (v : FVec Ideal S1x1280 .f32) (h15 : v (ix2 0 l) = scan A U s 15) :
    k0_pay2 a u v (ix2 0 l) = scan A U s 16 := by
  pointwise [k0_pay2]; simp only [hA, hU, h15]; rfl

theorem hi_apply (v103 : FVec Ideal S1x1280 .f32) (h103 : v103 (ix2 0 l) = scan A U s 3) (r : Fin 8) (hr7 : r.val < 6) :
    k0_pay36 sub8 a u k0_pay27 (k0_pay28 a u v103) (k0_pay29 sub8) (k0_pay30 a u v103) (ix2 r l) = scan A U s (r.val + 9) := by
  have p9 := h9_apply a u A U l s hA hU v103 h103
  generalize hv : k0_pay28 a u v103 = v at p9
  have p9' : k0_pay30 a u v103 (ix2 0 l) = scan A U s 9 := by pointwise [k0_pay30]; rw [hv]; exact p9
  have p10 : k0_pay31 a u v (ix2 0 l) = scan A U s 10 := by pointwise [k0_pay31]; simp only [hA, hU, p9]; rfl
  have p11 : k0_pay32 a u v (ix2 0 l) = scan A U s 11 := by pointwise [k0_pay32]; simp only [hA, hU, p10]; rfl
  have p12 : k0_pay33 a u v (ix2 0 l) = scan A U s 12 := by pointwise [k0_pay33]; simp only [hA, hU, p11]; rfl
  have p13 : k0_pay34 a u v (ix2 0 l) = scan A U s 13 := by pointwise [k0_pay34]; simp only [hA, hU, p12]; rfl
  have p14 : k0_pay35 a u v (ix2 0 l) = scan A U s 14 := by pointwise [k0_pay35]; simp only [hA, hU, p13]; rfl
  pointwise [k0_pay36, k0_pay29]
  simp only [p9', p10, p11, p12, p13, p14]
  obtain ⟨r, hr⟩ := r
  simp only [sel_eq _ _ hr (show 5 < 8 by decide), sel_eq _ _ hr (show 4 < 8 by decide), sel_eq _ _ hr (show 3 < 8 by decide), sel_eq _ _ hr (show 2 < 8 by decide), sel_eq _ _ hr (show 1 < 8 by decide), sel_eq _ _ hr (show 0 < 8 by decide)]
  have hr7' : r < 6 := hr7
  interval_cases r <;> simp

end

theorem o3_apply (acc : Vec Ideal S1x1280 .f32) (A U : ℕ → EReal) (l : Fin 1280)
    (hA : ∀ r : Fin 16, a16 M x k (ix2 r l) = A r) (hU : ∀ r : Fin 16, u16 i M x k (ix2 r l) = U r) (r : Fin 8) (hr : r.val < 3) :
    o3 i M x k acc (ix2 r l) = scan A U (acc (ix2 0 l)) (r.val + 1) := by
  unfold a16 at hA
  unfold u16 at hU
  unfold o3
  obtain ⟨r, h8⟩ := r
  have hr' : r < 3 := hr
  pointwise [k0_pay20, k0_pay19, k0_pay18, k0_pay17]
  simp only [hA, hU]
  simp only [sel_eq _ _ h8 (show 2 < 8 by decide), sel_eq _ _ h8 (show 1 < 8 by decide), sel_eq _ _ h8 (show 0 < 8 by decide)]
  interval_cases r
  · exact (if_neg (by decide)).trans ((if_neg (by decide)).trans (if_pos rfl))
  · exact (if_neg (by decide)).trans (if_pos rfl)
  · exact if_pos rfl

theorem hN_apply (acc : Vec Ideal S1x1280 .f32) (A U : ℕ → EReal) (l : Fin 1280)
    (hA : ∀ r : Fin 16, a16 M x k (ix2 r l) = A r) (hU : ∀ r : Fin 16, u16 i M x k (ix2 r l) = U r) :
    hN i M x k acc (ix2 0 l) = scan A U (acc (ix2 0 l)) 16 :=
  h16_apply _ _ A U l _ hA hU _ (h15_apply _ _ A U l _ hA hU _ (h9_apply _ _ A U l _ hA hU _ (h3_apply i M x k acc A U l hA hU)))

theorem hs16_apply (acc : Vec Ideal S1x1280 .f32) (A U : ℕ → EReal) (l : Fin 1280)
    (hA : ∀ r : Fin 16, a16 M x k (ix2 r l) = A r) (hU : ∀ r : Fin 16, u16 i M x k (ix2 r l) = U r) (r : Fin 16) :
    hs16 i M x k acc (ix2 r l) = scan A U (acc (ix2 0 l)) (r.val + 1) := by
  have e3 := h3_apply i M x k acc A U l hA hU
  have e9 := h9_apply _ _ A U l _ hA hU _ e3
  have e15 := h15_apply _ _ A U l _ hA hU _ e9
  have e16 := h16_apply _ _ A U l _ hA hU _ e15
  have o := o3_apply i M x k acc A U l hA hU
  have lo := lo_apply _ _ A U l _ hA hU _ e3 _ o
  have hi := hi_apply _ _ A U l _ hA hU _ e3
  have e15' : k0_pay39 (a16 M x k) (u16 i M x k) (k0_pay28 (a16 M x k) (u16 i M x k) (h3 i M x k acc)) (ix2 0 l) = scan A U (acc (ix2 0 l)) 15 := by
    pointwise [k0_pay39]; exact e15
  unfold hs16
  pointwise [k0_pay3, k0_pay38]
  rw [e16, e15']
  obtain ⟨r, h16⟩ := r
  by_cases h : r < 8
  · rw [dif_pos h]; exact lo ⟨r, h⟩
  · rw [dif_neg h, sel_eq (r - 8) 7 (by omega) (by decide), sel_eq (r - 8) 6 (by omega) (by decide)]
    by_cases h7 : r - 8 = 7
    · rw [if_pos h7]; congr 1; show 16 = r + 1; omega
    · rw [if_neg h7]
      by_cases h6 : r - 8 = 6
      · rw [if_pos h6]; congr 1; show 15 = r + 1; omega
      · rw [if_neg h6, hi ⟨r - 8, by omega⟩ (show r - 8 < 6 by omega)]
        congr 1; show r - 8 + 9 = r + 1; omega

end
end Cert.KernelIdeal.RG
end
-- ==== Proof.BwdScan.lean ====
/-
The values of the backward recurrence kernel's strips: the carry and the gradient of the state, row by row from the
strip's last row back.
-/
module

public import proofs.«01_k».proof.Proof.FwdVal
public import proofs.«01_k».proof.Proof.BwdDefs
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic
public import proofs.«01_k».proof.Proof.Scal
public import Idealize.ShloMosaic.Lib.Pointwise

@[expose] public section

set_option maxRecDepth 16384

noncomputable section

namespace Cert.KernelIdeal.RG

open Cert.KernelIdeal.Gen Cert.Col
open Idealize.ShloMosaic Idealize.ShloMosaic.TcCoe Idealize.ShloMosaic.Tactic

section
variable (a d e y : FVec Ideal S16x1280 .f32) (A D : ℕ → EReal) (l : Fin 1280) (acc : Vec Ideal S1x1280 .f32)

section
variable (hA : ∀ r : Fin 16, a (ix2 r l) = A (15 - r.val)) (hD : ∀ r : Fin 16, k1_pay18 y e (ix2 r l) = D (15 - r.val))
include hD

theorem g15_apply : k1_pay19 acc y e (ix2 0 l) = D 0 + bscan A D (acc (ix2 0 l)) 0 := by
  unfold k1_pay19; pointwise; simp only [hD]; rfl

include hA

theorem g14_apply : k1_pay20 acc y a e (ix2 0 l) = D 1 + bscan A D (acc (ix2 0 l)) 1 := by
  have p := g15_apply e y A D l acc hD
  unfold k1_pay20; pointwise; simp only [hA, hD, p]; rfl

theorem g13_apply : k1_pay21 acc y a e (ix2 0 l) = D 2 + bscan A D (acc (ix2 0 l)) 2 := by
  have p := g14_apply a e y A D l acc hA hD
  unfold k1_pay21; pointwise; simp only [hA, hD, p]; rfl

theorem c3_apply : k1_pay22 acc y a e (ix2 0 l) = bscan A D (acc (ix2 0 l)) 3 := by
  have p := g13_apply a e y A D l acc hA hD
  unfold k1_pay22; pointwise; simp only [hA, hD, p]; rfl

theorem top_apply (r : Fin 8) (hr : 5 ≤ r.val) : k1_pay23 sub8 acc y a e (ix2 r l) = D (7 - r.val) + bscan A D (acc (ix2 0 l)) (7 - r.val) := by
  have p0 := g15_apply e y A D l acc hD
  have p1 := g14_apply a e y A D l acc hA hD
  have p2 := g13_apply a e y A D l acc hA hD
  obtain ⟨r, h8⟩ := r
  have hr' : 5 ≤ r := hr
  unfold k1_pay23
  pointwise
  simp only [p0, p1, p2]
  simp only [sel_eq _ _ h8 (show 7 < 8 by decide), sel_eq _ _ h8 (show 6 < 8 by decide), sel_eq _ _ h8 (show 5 < 8 by decide)]
  interval_cases r
  · exact if_pos rfl
  · exact (if_neg (by decide)).trans (if_pos rfl)
  · exact (if_neg (by decide)).trans ((if_neg (by decide)).trans (if_pos rfl))

end

section
variable (s : EReal) (hA : ∀ r : Fin 16, a (ix2 r l) = A (15 - r.val)) (hD : ∀ r : Fin 16, d (ix2 r l) = D (15 - r.val))
include hA hD

theorem up_apply (v : FVec Ideal S1x1280 .f32) (hv : v (ix2 0 l) = bscan A D s 3) (w : FVec Ideal S8x1280 .f32)
    (hw : ∀ r : Fin 8, 5 ≤ r.val → w (ix2 r l) = D (7 - r.val) + bscan A D s (7 - r.val)) (r : Fin 8) :
    k1_pay29 sub8 a d v w (ix2 r l) = D (7 - r.val) + bscan A D s (7 - r.val) := by
  have p3 : k1_pay24 d v (ix2 0 l) = D 3 + bscan A D s 3 := by pointwise [k1_pay24]; simp only [hD, hv]; rfl
  have p4 : k1_pay25 a d v (ix2 0 l) = D 4 + bscan A D s 4 := by pointwise [k1_pay25]; simp only [hA, hD, p3]; rfl
  have p5 : k1_pay26 a d v (ix2 0 l) = D 5 + bscan A D s 5 := by pointwise [k1_pay26]; simp only [hA, hD, p4]; rfl
  have p6 : k1_pay27 a d v (ix2 0 l) = D 6 + bscan A D s 6 := by pointwise [k1_pay27]; simp only [hA, hD, p5]; rfl
  have p7 : k1_pay28 a d v (ix2 0 l) = D 7 + bscan A D s 7 := by pointwise [k1_pay28]; simp only [hA, hD, p6]; rfl
  pointwise [k1_pay29]
  simp only [p3, p4, p5, p6, p7]
  obtain ⟨r, hr⟩ := r
  simp only [sel_eq _ _ hr (show 4 < 8 by decide), sel_eq _ _ hr (show 3 < 8 by decide), sel_eq _ _ hr (show 2 < 8 by decide), sel_eq _ _ hr (show 1 < 8 by decide), sel_eq _ _ hr (show 0 < 8 by decide)]
  by_cases h3 : 5 ≤ r
  · rw [if_neg (by omega), if_neg (by omega), if_neg (by omega), if_neg (by omega), if_neg (by omega)]; exact hw ⟨r, hr⟩ h3
  · interval_cases r <;> simp at h3 ⊢

theorem g7_apply (v : FVec Ideal S1x1280 .f32) (hv : v (ix2 0 l) = bscan A D s 3) :
    k1_pay31 a d v (ix2 0 l) = D 8 + bscan A D s 8 := by
  pointwise [k1_pay31, k1_pay28, k1_pay27, k1_pay26, k1_pay25, k1_pay24]; simp only [hA, hD, hv]; rfl

theorem c9_apply (v : FVec Ideal S1x1280 .f32) (hv : v (ix2 0 l) = bscan A D s 3) :
    k1_pay32 a d v (ix2 0 l) = bscan A D s 9 := by
  have p := g7_apply a d A D l s hA hD v hv
  pointwise [k1_pay32]; simp only [hA, p]; rfl

theorem g1_apply (v : FVec Ideal S1x1280 .f32) (hv : v (ix2 0 l) = bscan A D s 9) :
    k1_pay41 a d v (ix2 0 l) = D 14 + bscan A D s 14 := by
  pointwise [k1_pay41, k1_pay39, k1_pay38, k1_pay37, k1_pay36, k1_pay35]; simp only [hA, hD, hv]; rfl

theorem c15_apply (v : FVec Ideal S1x1280 .f32) (hv : v (ix2 0 l) = bscan A D s 9) :
    k1_pay42 a d v (ix2 0 l) = bscan A D s 15 := by
  have p := g1_apply a d A D l s hA hD v hv
  pointwise [k1_pay42]; simp only [hA, p]; rfl

theorem c16_apply (v : FVec Ideal S1x1280 .f32) (hv : v (ix2 0 l) = bscan A D s 15) :
    k1_pay46 a d v (ix2 0 l) = bscan A D s 16 := by
  pointwise [k1_pay46, k1_pay45]; simp only [hA, hD, hv]; rfl

theorem mid_apply (v : FVec Ideal S1x1280 .f32) (hv : v (ix2 0 l) = bscan A D s 9) (z : FVec Ideal S8x1280 .f32) (v7 : FVec Ideal S1x1280 .f32)
    (h7 : v7 (ix2 0 l) = D 8 + bscan A D s 8) (r : Fin 8) (hr2 : 2 ≤ r.val) :
    k1_pay40 sub8 a d z v (k1_pay33 sub8) v7 (ix2 r l) = D (15 - r.val) + bscan A D s (15 - r.val) := by
  have p9 : k1_pay35 d v (ix2 0 l) = D 9 + bscan A D s 9 := by pointwise [k1_pay35]; simp only [hD, hv]; rfl
  have p10 : k1_pay36 a d v (ix2 0 l) = D 10 + bscan A D s 10 := by pointwise [k1_pay36]; simp only [hA, hD, p9]; rfl
  have p11 : k1_pay37 a d v (ix2 0 l) = D 11 + bscan A D s 11 := by pointwise [k1_pay37]; simp only [hA, hD, p10]; rfl
  have p12 : k1_pay38 a d v (ix2 0 l) = D 12 + bscan A D s 12 := by pointwise [k1_pay38]; simp only [hA, hD, p11]; rfl
  have p13 : k1_pay39 a d v (ix2 0 l) = D 13 + bscan A D s 13 := by pointwise [k1_pay39]; simp only [hA, hD, p12]; rfl
  pointwise [k1_pay40, k1_pay33]
  simp only [p9, p10, p11, p12, p13, h7]
  obtain ⟨r, hr⟩ := r
  have hr2' : 2 ≤ r := hr2
  simp only [sel_eq _ _ hr (show 7 < 8 by decide), sel_eq _ _ hr (show 6 < 8 by decide), sel_eq _ _ hr (show 5 < 8 by decide), sel_eq _ _ hr (show 4 < 8 by decide), sel_eq _ _ hr (show 3 < 8 by decide), sel_eq _ _ hr (show 2 < 8 by decide)]
  interval_cases r <;> simp

/-- The strip's gradients of the state. -/
theorem g16_apply (up mid : FVec Ideal S8x1280 .f32) (v : FVec Ideal S1x1280 .f32) (v1 : FVec Ideal S1x1280 .f32)
    (hup : ∀ r : Fin 8, up (ix2 r l) = D (7 - r.val) + bscan A D s (7 - r.val))
    (hmid : ∀ r : Fin 8, 2 ≤ r.val → mid (ix2 r l) = D (15 - r.val) + bscan A D s (15 - r.val))
    (hv : v (ix2 0 l) = bscan A D s 15) (hv1 : v1 (ix2 0 l) = D 14 + bscan A D s 14) (r : Fin 16) :
    k1_pay47 sub8 d up mid v (k1_pay43 sub8) v1 (ix2 r l) = D (15 - r.val) + bscan A D s (15 - r.val) := by
  have p15 : k1_pay45 d v (ix2 0 l) = D 15 + bscan A D s 15 := by pointwise [k1_pay45]; simp only [hD, hv]; rfl
  pointwise [k1_pay47, k1_pay43]
  simp only [p15, hv1]
  obtain ⟨r, h16⟩ := r
  by_cases h : r < 8
  · rw [dif_pos h, sel_eq r 0 h (by decide), sel_eq r 1 h (by decide)]
    by_cases h0 : r = 0
    · subst h0; rfl
    · rw [if_neg h0]
      by_cases h1 : r = 1
      · subst h1; rfl
      · rw [if_neg h1]; exact hmid ⟨r, h⟩ (show 2 ≤ r by omega)
  · rw [dif_neg h, hup]
    have e : 7 - (r - 8) = 15 - r := by omega
    show D (7 - (r - 8)) + bscan A D s (7 - (r - 8)) = D (15 - r) + bscan A D s (15 - r)
    rw [e]

end
end
end Cert.KernelIdeal.RG
end
-- ==== Proof.BwdStrip.lean ====
/-
The values of the backward recurrence kernel's strips: what each strip stores, column by column over the extended reals.
-/
module

public import proofs.«01_k».proof.Proof.BwdScan
public import Idealize.ShloMosaic.Lib.WritesUnit
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic
public import proofs.«01_k».proof.Proof.Scal
public import Idealize.ShloMosaic.Lib.Pointwise

@[expose] public section

set_option maxRecDepth 16384

noncomputable section

namespace Cert.KernelIdeal.RG

open Cert.KernelIdeal.Gen Cert.Col
open Idealize.ShloMosaic Idealize.ShloMosaic.TcCoe Idealize.ShloMosaic.Tactic

/-- The column `l` of the blocks of a point is rows `B` on of the column's data. -/
structure Col1 (i : grid1.Coords) (x : Ins1 Ideal) (C : Data) (B : ℕ) (l : Fin 1280) : Prop where
  dya : ∀ q : Fin 256, x.dya (ix2 q l) = C.dya (B + q)
  h : ∀ q : Fin 256, x.h (ix2 q l) = C.h (B + q + 1)
  halo : k1_pay68 i (halo x.hh) (ix2 0 l) = C.h B
  gr : ∀ q : Fin 256, x.gr (ix2 q l) = C.gr (B + q)
  gi : ∀ q : Fin 256, x.gi (ix2 q l) = C.gi (B + q)
  xc : ∀ q : Fin 256, x.xc (ix2 q l) = C.xc (B + q)
  ag : ∀ q : Fin 256, x.ag (ix2 q l) = C.ag (B + q)
  ba : x.ba (ix2 0 l) = C.ba
  bx : x.bx (ix2 0 l) = C.bx
  lam : x.lam (ix2 0 l) = C.lam

theorem k1_off1_eq (k : Fin k1_t1_loop.trips) : k1_off1 k = ![16 * (15 - k.val), 0] := by revert k; decide
theorem k1_off2_eq (k : Fin k1_t1_loop.trips) : k1_off2 k = ![16 * (14 - k.val), 0] := by revert k; decide
theorem k1_off3_eq (k : Fin k1_t1_loop.trips) : k1_off3 k = ![16 * (15 - k.val), 0] := by revert k; decide
theorem k1_off4_eq (k : Fin k1_t1_loop.trips) : k1_off4 k = ![16 * (15 - k.val), 1280] := by revert k; decide

theorem trips1 (k : Fin k1_t1_loop.trips) : k.val < 16 := Nat.lt_of_lt_of_le k.isLt k1_t1_abs.2.1

/-- The number of a strip's first row in its block, as the body computes it. -/
abbrev stripw (k : ℕ) : BitVec 32 := Scalar.subi 15#32 (Scf.iv 0#32 1#32 k)

/-- The number of a strip's first row, as the body computes it. -/
abbrev row1w (g : ℕ) (k : ℕ) : BitVec 32 :=
  Scalar.addi (Scalar.muli (Scalar.subi 32#32 (BitVec.ofNat 32 g)) 256#32) (Scalar.muli (stripw k) 16#32)

/-- Whether a row is live, as the strip computes it. -/
theorem live_word1 (t k r : ℕ) (ht : t < 33) (hk : k < 16) (hr : r < 16) :
    IntOp.cmpi CmpIPredicate.sge (IntOp.addi (row1w t k) (BitVec.ofNat 32 r)) 240#32
      = if 240 ≤ 256 * (32 - t) + 16 * (15 - k) + r then 1#1 else 0#1 := by
  have h : ∀ t : Fin 33, ∀ k : Fin 16, ∀ r : Fin 16, IntOp.cmpi CmpIPredicate.sge (IntOp.addi (row1w t k) (BitVec.ofNat 32 r)) 240#32
      = if 240 ≤ 256 * (32 - t.val) + 16 * (15 - k.val) + r.val then 1#1 else 0#1 := by decide +kernel
  exact h ⟨t, ht⟩ ⟨k, hk⟩ ⟨r, hr⟩

section
variable (i : grid1.Coords) (M : Bufs1) (x : Ins1 Ideal) (k : Fin k1_t1_loop.trips) (acc : Vec Ideal S1x1280 .f32)

/-- Trip `k`'s rows of a block. -/
abbrev ld1 {e : EltTy} (m : Memref sig .tc .vmem S256x1280 e) (hm : m.IsWhole) (d : Vec Ideal S256x1280 e) : Vec Ideal S16x1280 e :=
  View.readAt (Elt Ideal) m.view (Rect.unit (s := S256x1280) (k1_off1 k) S16x1280.size (k1_off1_inb k)).toLoadRect (hm.unread d)

/-- The strip's convolved inputs. -/
def xs16 : FVec Ideal S16x1280 .f32 := k1_pay1 (ld1 k M.a7 M.h7 x.xc)
/-- The strip's states. -/
def hv16 : FVec Ideal S16x1280 .f32 := k1_pay2 (ld1 k M.a3 M.h3 x.h)
/-- The strip's arguments of gelu. -/
def ag16 : FVec Ideal S16x1280 .f32 := k1_pay3 (ld1 k M.a8 M.h8 x.ag)
/-- The strip's cotangents. -/
def ya16 : FVec Ideal S16x1280 .f32 := k1_pay4 (ld1 k M.a2 M.h2 x.dya)
/-- The strip's first gates. -/
def r16 : FVec Ideal S16x1280 .f32 := k1_pay5 x.ba (ld1 k M.a5 M.h5 x.gr)
/-- The strip's second gates. -/
def i16 : FVec Ideal S16x1280 .f32 := k1_pay6 x.bx (ld1 k M.a6 M.h6 x.gi)
/-- The strip's decays. -/
def A16 : FVec Ideal S16x1280 .f32 := k1_pay9 (r16 M x k) (k1_pay7 x.lam)
/-- The strip's gelus. -/
def e16 : FVec Ideal S16x1280 .f32 := k1_pay15 (ag16 M x k)
/-- What reaches the strip's states from their own results. -/
def d16 : FVec Ideal S16x1280 .f32 := k1_pay18 (ya16 M x k) (e16 M x k)
/-- Which of the strip's rows are live. -/
def live16 : IVec S16x1280 1 := k1_pay13 (row1w (i 1).val k.val)

/-- The carry after three rows. -/
def c3 : FVec Ideal S1x1280 .f32 := k1_pay22 acc (ya16 M x k) (A16 M x k) (e16 M x k)
/-- The upper eight rows' gradients of the state. -/
def up8 : FVec Ideal S8x1280 .f32 :=
  k1_pay29 sub8 (A16 M x k) (d16 M x k) (c3 M x k acc) (k1_pay23 sub8 acc (ya16 M x k) (A16 M x k) (e16 M x k))
/-- The carry after nine rows. -/
def c9 : FVec Ideal S1x1280 .f32 := k1_pay32 (A16 M x k) (d16 M x k) (c3 M x k acc)
/-- The lower rows' gradients of the state, all but two. -/
def mid8 : FVec Ideal S8x1280 .f32 :=
  k1_pay40 sub8 (A16 M x k) (d16 M x k) k1_pay30 (c9 M x k acc) (k1_pay33 sub8) (k1_pay34 (A16 M x k) (d16 M x k) (c3 M x k acc))
/-- The carry after fifteen rows. -/
def c15 : FVec Ideal S1x1280 .f32 := k1_pay42 (A16 M x k) (d16 M x k) (c9 M x k acc)
/-- The second row's gradient of the state. -/
def g1 : FVec Ideal S1x1280 .f32 := k1_pay44 (A16 M x k) (d16 M x k) (c9 M x k acc)
/-- The state before each of the strip's rows. -/
def hp16 : FVec Ideal S16x1280 .f32 :=
  M.a19.view.readCov (Val := Elt Ideal) [⟨Rect.unit (s := S24x1280) ![8, 0] S16x1280.size inb_S24x1280_S16x1280_8_0, k1_pay49 (hv16 M x k)⟩,
    ⟨Rect.unit (s := S24x1280) ![7, 0] S1x1280.size inb_S24x1280_S1x1280_7_0, k1_pay48 (k1_pay68 i (halo x.hh)) (stripw k.val)
      (View.readAt (Elt Ideal) M.a3.view (Rect.unit (s := S256x1280) (k1_off2 k) S16x1280.size (k1_off2_inb k)).toLoadRect (M.h3.unread x.h))⟩]
    (Rect.unit (s := S24x1280) ![7, 0] S16x1280.size inb_S24x1280_S16x1280_7_0).toLoadRect
/-- The gradients of the scaled inputs. -/
def dm16 : FVec Ideal S16x1280 .f32 :=
  k1_pay51 sub8 (k1_pay12 (r16 M x k) (k1_pay7 x.lam)) (live16 i k) (d16 M x k) (up8 M x k acc) (mid8 M x k acc) (c15 M x k acc) (k1_pay43 sub8) (g1 M x k acc)
/-- The gradients of the decays' logarithms. -/
def dla16 : FVec Ideal S16x1280 .f32 :=
  k1_pay52 sub8 (xs16 M x k) (i16 M x k) (A16 M x k) (k1_pay11 (r16 M x k) (k1_pay7 x.lam)) (live16 i k) (d16 M x k) (up8 M x k acc) (mid8 M x k acc) (c15 M x k acc)
    (k1_pay43 sub8) (g1 M x k acc) (hp16 i M x k)
/-- The gradients of the first gates before their last factor. -/
def dlr16 : FVec Ideal S16x1280 .f32 :=
  k1_pay53 sub8 (xs16 M x k) (r16 M x k) (i16 M x k) (k1_pay8 (k1_pay7 x.lam)) (A16 M x k) (k1_pay11 (r16 M x k) (k1_pay7 x.lam)) (live16 i k) (d16 M x k) (up8 M x k acc)
    (mid8 M x k acc) (c15 M x k acc) (k1_pay43 sub8) (g1 M x k acc) (hp16 i M x k)

/-- What the strip adds to the sums, by rows: the first gate's, the second's, the softplus's. -/
def sum16 : Fin 3 → FVec Ideal S16x1280 .f32
  | 0 => k1_pay55 (r16 M x k) (dlr16 i M x k acc) k1_pay54
  | 1 => k1_pay56 (xs16 M x k) (i16 M x k) (dm16 i M x k acc)
  | 2 => k1_pay60 (r16 M x k) (dla16 i M x k acc)

/-- The carry the strip yields. -/
def cN : FVec Ideal S1x1280 .f32 := k1_pay46 (A16 M x k) (d16 M x k) (c15 M x k acc)

section
variable (c : Dev nD) (G13 : BufTy.Contents (Elt Ideal) M.a13.view.ty) (G14 : BufTy.Contents (Elt Ideal) M.a14.view.ty)
    (G15 : BufTy.Contents (Elt Ideal) M.a15.view.ty) (G19 : BufTy.Contents (Elt Ideal) M.a19.view.ty) (G20 : BufTy.Contents (Elt Ideal) M.a20.view.ty)

theorem tripR1 :
    tripR_k1_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 (Scalar.subi 32#32 (BitVec.ofNat 32 (i 1).val)) x.ba x.bx x.lam (halo x.hh) sub8 (M.h2.unread x.dya) (M.h3.unread x.h) (M.h5.unread x.gr) (M.h6.unread x.gi) (M.h7.unread x.xc) (M.h8.unread x.ag) k acc G13 G14 G15 G19 G20 = cN M x k acc := by
  unfold tripR_k1_t1 trip_k1_t1
  rfl

theorem tripL1_13 : (tripL_k1_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 (Scalar.subi 32#32 (BitVec.ofNat 32 (i 1).val)) x.ba x.bx x.lam (halo x.hh) sub8 (M.h2.unread x.dya) (M.h3.unread x.h) (M.h5.unread x.gr) (M.h6.unread x.gi) (M.h7.unread x.xc) (M.h8.unread x.ag) k acc G13 G14 G15 G19 G20).1
    = [⟨Rect.unit (s := S256x2560) (k1_off4 k) S16x1280.size (k1_off4_inb k), k1_pay58 (xs16 M x k) (i16 M x k) (dm16 i M x k acc)⟩,
       ⟨Rect.unit (s := S256x2560) (k1_off3 k) S16x1280.size (k1_off3_inb k), k1_pay57 (r16 M x k) (dlr16 i M x k acc) k1_pay54⟩] := by
  unfold tripL_k1_t1 trip_k1_t1
  rfl

theorem tripL1_14 : (tripL_k1_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 (Scalar.subi 32#32 (BitVec.ofNat 32 (i 1).val)) x.ba x.bx x.lam (halo x.hh) sub8 (M.h2.unread x.dya) (M.h3.unread x.h) (M.h5.unread x.gr) (M.h6.unread x.gi) (M.h7.unread x.xc) (M.h8.unread x.ag) k acc G13 G14 G15 G19 G20).2.1
    = [⟨Rect.unit (s := S256x1280) (k1_off1 k) S16x1280.size (k1_off1_inb k), k1_pay59 (i16 M x k) (dm16 i M x k acc)⟩] := by
  unfold tripL_k1_t1 trip_k1_t1
  rfl

theorem tripL1_15 : (tripL_k1_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 (Scalar.subi 32#32 (BitVec.ofNat 32 (i 1).val)) x.ba x.bx x.lam (halo x.hh) sub8 (M.h2.unread x.dya) (M.h3.unread x.h) (M.h5.unread x.gr) (M.h6.unread x.gi) (M.h7.unread x.xc) (M.h8.unread x.ag) k acc G13 G14 G15 G19 G20).2.2.1
    = [⟨Rect.unit (s := S256x1280) (k1_off1 k) S16x1280.size (k1_off1_inb k), k1_pay17 (hv16 M x k) (ag16 M x k) (ya16 M x k) (k1_pay14 (ag16 M x k)) (k1_pay16 (ag16 M x k))⟩] := by
  unfold tripL_k1_t1 trip_k1_t1
  rfl

/-- A page of the scratch of sums. -/
abbrev pg0 : Rect S3x8x1280 := Rect.unit (s := S3x8x1280) ![0, 0, 0] S1x8x1280.size inb_S3x8x1280_S1x8x1280_0_0_0
/-- The second page. -/
abbrev pg1 : Rect S3x8x1280 := Rect.unit (s := S3x8x1280) ![1, 0, 0] S1x8x1280.size inb_S3x8x1280_S1x8x1280_1_0_0
/-- The third page. -/
abbrev pg2 : Rect S3x8x1280 := Rect.unit (s := S3x8x1280) ![2, 0, 0] S1x8x1280.size inb_S3x8x1280_S1x8x1280_2_0_0

/-- The first half's sums. -/
def accA : List (View.Piece (Elt Ideal) S3x8x1280 .f32) :=
  [⟨pg2, k1_pay69 (sum16 i M x k acc 2) (View.readAt (Elt Ideal) M.a20.view pg2.toLoadRect G20)⟩,
   ⟨pg1, k1_pay62 (xs16 M x k) (i16 M x k) (dm16 i M x k acc) (View.readAt (Elt Ideal) M.a20.view pg1.toLoadRect G20)⟩,
   ⟨pg0, k1_pay61 (r16 M x k) (dlr16 i M x k acc) k1_pay54 (View.readAt (Elt Ideal) M.a20.view pg0.toLoadRect G20)⟩]

/-- Both halves' sums, on to the first page. -/
def accB0 : List (View.Piece (Elt Ideal) S3x8x1280 .f32) :=
  ⟨pg0, k1_pay70 (sum16 i M x k acc 0) (M.a20.view.readCov (accA i M x k acc G20) pg0.toLoadRect)⟩ :: accA i M x k acc G20

/-- Both halves' sums, on to the second page. -/
def accB1 : List (View.Piece (Elt Ideal) S3x8x1280 .f32) :=
  ⟨pg1, k1_pay71 (sum16 i M x k acc 1) (M.a20.view.readCov (accB0 i M x k acc G20) pg1.toLoadRect)⟩ :: accB0 i M x k acc G20

theorem tripL1_20 : (tripL_k1_t1 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 (Scalar.subi 32#32 (BitVec.ofNat 32 (i 1).val)) x.ba x.bx x.lam (halo x.hh) sub8 (M.h2.unread x.dya) (M.h3.unread x.h) (M.h5.unread x.gr) (M.h6.unread x.gi) (M.h7.unread x.xc) (M.h8.unread x.ag) k acc G13 G14 G15 G19 G20).2.2.2.2
    = ⟨pg2, k1_pay72 (sum16 i M x k acc 2) (M.a20.view.readCov (accB1 i M x k acc G20) pg2.toLoadRect)⟩ :: accB1 i M x k acc G20 := by
  unfold tripL_k1_t1 trip_k1_t1
  rfl

end
end
end Cert.KernelIdeal.RG
end
-- ==== Proof.BwdVal.lean ====
/-
The values of the backward recurrence kernel's strips: what each strip stores, column by column over the extended reals.
-/
module

public import proofs.«01_k».proof.Proof.BwdStrip
public import Idealize.ShloMosaic.Lib.WritesUnit
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic
public import proofs.«01_k».proof.Proof.Scal
public import Idealize.ShloMosaic.Lib.Pointwise

@[expose] public section

set_option maxRecDepth 16384

noncomputable section

namespace Cert.KernelIdeal.RG

open Cert.KernelIdeal.Gen Cert.Col
open Idealize.ShloMosaic Idealize.ShloMosaic.TcCoe Idealize.ShloMosaic.Tactic

/-- A read of the row scratch from row 7 on after the two stores: the first row of the first store, then the second's rows. -/
theorem rows19 (m : Memref sig .tc .vmem S24x1280 .f32) (w8 : Vec Ideal S16x1280 .f32) (w7 : Vec Ideal S1x1280 .f32) (r : Fin 16) (l : Fin 1280) :
    m.view.readCov (Val := Elt Ideal) [⟨Rect.unit (s := S24x1280) ![8, 0] S16x1280.size inb_S24x1280_S16x1280_8_0, w8⟩,
      ⟨Rect.unit (s := S24x1280) ![7, 0] S1x1280.size inb_S24x1280_S1x1280_7_0, w7⟩]
      (Rect.unit (s := S24x1280) ![7, 0] S16x1280.size inb_S24x1280_S16x1280_7_0).toLoadRect (ix2 r l)
      = if h : r.val = 0 then w7 (ix2 0 l) else w8 (ix2 ⟨r.val - 1, by omega⟩ l) := by
  unfold View.readCov
  rw [View.readAt_eq_ld]
  pointwise
  obtain ⟨r, hr⟩ := r
  by_cases h0 : r = 0
  · rw [dif_pos h0]
    subst h0
    refine (View.read_writes_cons_unit_of_not_mem m.view _ inb_S24x1280_S16x1280_8_0 w8 _ _ rfl 0 (Or.inl (show 7 + 0 < 8 by decide))).trans ?_
    refine View.read_writes_cons_unit_of_mem m.view _ inb_S24x1280_S1x1280_7_0 w7 _ _ (ix2 0 l) rfl ?_
    exact Fin.forall_fin_two.mpr ⟨rfl, (Nat.zero_add _).symm⟩
  · rw [dif_neg h0]
    refine View.read_writes_cons_unit_of_mem m.view _ inb_S24x1280_S16x1280_8_0 w8 _ _ (ix2 ⟨r - 1, by omega⟩ l) rfl ?_
    exact Fin.forall_fin_two.mpr ⟨show 7 + r = 8 + (r - 1) by omega, (Nat.zero_add _).symm⟩

section
variable (i : grid1.Coords) (M : Bufs1) (x : Ins1 Ideal) (k : Fin k1_t1_loop.trips) (acc : Vec Ideal S1x1280 .f32)
variable (C : Data) (t : ℕ) (ht : (i 1).val = t) (l : Fin 1280) (hx : Col1 i x C (256 * (32 - t)) l) (r : Fin 16)

/-- The number of row `r` of strip `k` of point `t`. -/
abbrev rowN (t k r : ℕ) : ℕ := 256 * (32 - t) + (16 * (15 - k) + r)

include hx

theorem xs16_apply : xs16 M x k (ix2 r l) = C.xc (rowN t k.val r.val) := by
  have hk := trips1 k
  unfold xs16
  pointwise [k1_pay1]
  rw [show ld1 k M.a7 M.h7 x.xc (ix2 r l) = _ from load16 M.a7 M.h7 x.xc _ _ (16 * (15 - k.val)) (by omega) (k1_off1_eq k) r l, hx.xc]

theorem hv16_apply : hv16 M x k (ix2 r l) = C.h (rowN t k.val r.val + 1) := by
  have hk := trips1 k
  unfold hv16
  pointwise [k1_pay2]
  rw [show ld1 k M.a3 M.h3 x.h (ix2 r l) = _ from load16 M.a3 M.h3 x.h _ _ (16 * (15 - k.val)) (by omega) (k1_off1_eq k) r l, hx.h]

theorem ag16_apply : ag16 M x k (ix2 r l) = C.ag (rowN t k.val r.val) := by
  have hk := trips1 k
  unfold ag16
  pointwise [k1_pay3]
  rw [show ld1 k M.a8 M.h8 x.ag (ix2 r l) = _ from load16 M.a8 M.h8 x.ag _ _ (16 * (15 - k.val)) (by omega) (k1_off1_eq k) r l, hx.ag]

theorem ya16_apply : ya16 M x k (ix2 r l) = C.dya (rowN t k.val r.val) := by
  have hk := trips1 k
  unfold ya16
  pointwise [k1_pay4]
  rw [show ld1 k M.a2 M.h2 x.dya (ix2 r l) = _ from load16 M.a2 M.h2 x.dya _ _ (16 * (15 - k.val)) (by omega) (k1_off1_eq k) r l, hx.dya]

theorem r16_apply : r16 M x k (ix2 r l) = C.r (rowN t k.val r.val) := by
  have hk := trips1 k
  unfold r16
  pointwise [k1_pay5]
  rw [show ld1 k M.a5 M.h5 x.gr (ix2 r l) = _ from load16 M.a5 M.h5 x.gr _ _ (16 * (15 - k.val)) (by omega) (k1_off1_eq k) r l, hx.gr, hx.ba]
  rfl

theorem i16_apply : i16 M x k (ix2 r l) = C.ig (rowN t k.val r.val) := by
  have hk := trips1 k
  unfold i16
  pointwise [k1_pay6]
  rw [show ld1 k M.a6 M.h6 x.gi (ix2 r l) = _ from load16 M.a6 M.h6 x.gi _ _ (16 * (15 - k.val)) (by omega) (k1_off1_eq k) r l, hx.gi, hx.bx]
  rfl

theorem A16_apply : A16 M x k (ix2 r l) = C.a (rowN t k.val r.val) := by
  have h1 := r16_apply i M x k C t l hx r
  unfold A16
  pointwise [k1_pay9, k1_pay8, k1_pay7]
  rw [h1, hx.lam]
  rfl

theorem e16_apply : e16 M x k (ix2 r l) = geK (C.ag (rowN t k.val r.val)) := by
  have h1 := ag16_apply i M x k C t l hx r
  unfold e16
  pointwise [k1_pay15, k1_pay14]
  rw [h1]
  rfl

theorem d16_apply : d16 M x k (ix2 r l) = C.d (rowN t k.val r.val) := by
  have h1 := e16_apply i M x k C t l hx r
  have h2 := ya16_apply i M x k C t l hx r
  unfold d16
  pointwise [k1_pay18]
  rw [h1, h2]
  rfl

theorem dag16_apply : k1_pay17 (hv16 M x k) (ag16 M x k) (ya16 M x k) (k1_pay14 (ag16 M x k)) (k1_pay16 (ag16 M x k)) (ix2 r l)
    = C.dag (rowN t k.val r.val) := by
  have h1 := ag16_apply i M x k C t l hx r
  have h2 := ya16_apply i M x k C t l hx r
  have h3 := hv16_apply i M x k C t l hx r
  pointwise [k1_pay17, k1_pay16, k1_pay14]
  rw [h1, h2, h3]
  rfl

/-- The state before each row of the strip. -/
theorem hp16_apply : hp16 i M x k (ix2 r l) = C.h (rowN t k.val r.val) := by
  have hk := trips1 k
  unfold hp16
  rw [rows19]
  have hr := r.isLt
  by_cases h0 : r.val = 0
  · rw [dif_pos h0]
    have e2 : ∀ q : Fin 16, View.readAt (Elt Ideal) M.a3.view (Rect.unit (s := S256x1280) (k1_off2 k) S16x1280.size (k1_off2_inb k)).toLoadRect (M.h3.unread x.h) (ix2 q l) = _ :=
      fun q => load16 M.a3 M.h3 x.h _ _ (16 * (14 - k.val)) (by omega) (k1_off2_eq k) q l
    have hw : ∀ k : Fin 16, Scalar.cmpi .eq (stripw k.val) 0#32 = if k.val = 15 then 1#1 else 0#1 := by decide
    pointwise [k1_pay48]
    rw [e2, hx.h, hx.halo, show Scalar.cmpi .eq (stripw k.val) 0#32 = _ from hw ⟨k.val, hk⟩]
    by_cases h15 : k.val = 15
    · rw [if_pos h15]
      show C.h _ = C.h _
      congr 1; show _ = 256 * (32 - t) + (16 * (15 - k.val) + r.val); omega
    · rw [if_neg h15]
      show C.h _ = C.h _
      congr 1; show 256 * (32 - t) + (16 * (14 - k.val) + 15) + 1 = 256 * (32 - t) + (16 * (15 - k.val) + r.val); omega
  · rw [dif_neg h0]
    pointwise [k1_pay49]
    rw [hv16_apply i M x k C t l hx]
    congr 1; show 256 * (32 - t) + (16 * (15 - k.val) + (r.val - 1)) + 1 = 256 * (32 - t) + (16 * (15 - k.val) + r.val); omega

/-- The strip's decays, from its last row back. -/
abbrev Ak (C : Data) (t k : ℕ) (n : ℕ) : EReal := C.a (8447 - (256 * t + 16 * k + n))
/-- What reaches the strip's states from their own results, from its last row back. -/
abbrev Dk (C : Data) (t k : ℕ) (n : ℕ) : EReal := C.d (8447 - (256 * t + 16 * k + n))

omit hx in
theorem row_rev (t k r : ℕ) (ht : t < 33) (hk : k < 16) (hr : r < 16) : 8447 - (256 * t + 16 * k + (15 - r)) = rowN t k r := by
  show _ = 256 * (32 - t) + (16 * (15 - k) + r); omega

include ht in
theorem A16_rev (r : Fin 16) : A16 M x k (ix2 r l) = Ak C t k.val (15 - r.val) := by
  rw [A16_apply i M x k C t l hx, ← row_rev t k.val r.val (ht ▸ (i 1).isLt) (trips1 k) r.isLt]

include ht in
theorem d16_rev (r : Fin 16) : d16 M x k (ix2 r l) = Dk C t k.val (15 - r.val) := by
  rw [d16_apply i M x k C t l hx, ← row_rev t k.val r.val (ht ▸ (i 1).isLt) (trips1 k) r.isLt]

section
variable (h0 : acc (ix2 0 l) = C.c (256 * t + 16 * k.val))

omit hx in
include h0 in
theorem scan_c (n : ℕ) : bscan (Ak C t k.val) (Dk C t k.val) (acc (ix2 0 l)) n = C.c (256 * t + 16 * k.val + n) := by
  rw [h0]; exact (bscan_add (fun k => C.a (8447 - k)) (fun k => C.d (8447 - k)) 0 (256 * t + 16 * k.val) n).symm

include ht h0

theorem c3_val : c3 M x k acc (ix2 0 l) = bscan (Ak C t k.val) (Dk C t k.val) (acc (ix2 0 l)) 3 :=
  c3_apply _ _ _ _ _ l acc (A16_rev i M x k C t ht l hx) (d16_rev i M x k C t ht l hx)

theorem c9_val : c9 M x k acc (ix2 0 l) = bscan (Ak C t k.val) (Dk C t k.val) (acc (ix2 0 l)) 9 :=
  c9_apply _ _ _ _ l _ (A16_rev i M x k C t ht l hx) (d16_rev i M x k C t ht l hx) _ (c3_val i M x k acc C t ht l hx h0)

theorem c15_val : c15 M x k acc (ix2 0 l) = bscan (Ak C t k.val) (Dk C t k.val) (acc (ix2 0 l)) 15 :=
  c15_apply _ _ _ _ l _ (A16_rev i M x k C t ht l hx) (d16_rev i M x k C t ht l hx) _ (c9_val i M x k acc C t ht l hx h0)

theorem cN_val : cN M x k acc (ix2 0 l) = C.c (256 * t + 16 * k.val + 16) :=
  (c16_apply _ _ _ _ l _ (A16_rev i M x k C t ht l hx) (d16_rev i M x k C t ht l hx) _ (c15_val i M x k acc C t ht l hx h0)).trans
    (scan_c k acc C t l h0 16)

/-- The gradient of the state at each row of the strip. -/
theorem g16_val (r : Fin 16) :
    k1_pay47 sub8 (d16 M x k) (up8 M x k acc) (mid8 M x k acc) (c15 M x k acc) (k1_pay43 sub8) (g1 M x k acc) (ix2 r l) = C.g (rowN t k.val r.val) := by
  have hA := A16_rev i M x k C t ht l hx
  have hD := d16_rev i M x k C t ht l hx
  have e3 := c3_val i M x k acc C t ht l hx h0
  have e9 := c9_val i M x k acc C t ht l hx h0
  have e15 := c15_val i M x k acc C t ht l hx h0
  have hup := up_apply _ _ _ _ l _ hA hD _ e3 _ (top_apply _ _ _ _ _ l acc hA hD)
  have e7 : k1_pay34 (A16 M x k) (d16 M x k) (c3 M x k acc) (ix2 0 l) = Dk C t k.val 8 + bscan (Ak C t k.val) (Dk C t k.val) (acc (ix2 0 l)) 8 := by
    pointwise [k1_pay34]; exact g7_apply _ _ _ _ l _ hA hD _ e3
  have e1 : g1 M x k acc (ix2 0 l) = Dk C t k.val 14 + bscan (Ak C t k.val) (Dk C t k.val) (acc (ix2 0 l)) 14 := by
    unfold g1
    pointwise [k1_pay44]; exact g1_apply _ _ _ _ l _ hA hD _ e9
  have hmid := mid_apply _ _ _ _ l _ hA hD _ e9 k1_pay30 _ e7
  refine (g16_apply _ _ _ _ l _ hA hD _ _ _ _ hup hmid e15 e1 r).trans ?_
  rw [scan_c k acc C t l h0]
  have e := row_rev t k.val r.val (ht ▸ (i 1).isLt) (trips1 k) r.isLt
  unfold Data.g
  rw [← e]
  congr 2
  have := trips1 k; have := r.isLt
  have ht' : t < 33 := ht ▸ (i 1).isLt
  omega

/-- The gradient of the input at each row of the strip. -/
theorem du16_val (r : Fin 16) :
    k1_pay50 sub8 (live16 i k) (d16 M x k) (up8 M x k acc) (mid8 M x k acc) (c15 M x k acc) (k1_pay43 sub8) (g1 M x k acc) (ix2 r l) = C.du (rowN t k.val r.val) := by
  have h1 := g16_val i M x k acc C t ht l hx h0 r
  unfold live16
  pointwise [k1_pay50, k1_pay13]
  rw [h1]
  have hi := live_word1 (i 1).val k.val r.val (i 1).isLt (trips1 k) r.isLt
  rw [show IntOp.cmpi CmpIPredicate.sge (IntOp.addi (row1w (i 1).val k.val) (BitVec.ofNat 32 r.val)) 240#32 = _ from hi, ht, Nat.add_assoc]
  unfold Data.du
  by_cases h : 240 ≤ 256 * (32 - t) + (16 * (15 - k.val) + r.val)
  · rw [if_pos h, if_pos h]; rfl
  · rw [if_neg h, if_neg h]; rfl

theorem dm16_val (r : Fin 16) : dm16 i M x k acc (ix2 r l) = C.dm (rowN t k.val r.val) := by
  have h1 := du16_val i M x k acc C t ht l hx h0 r
  have h2 := A16_apply i M x k C t l hx r
  unfold A16 at h2
  unfold dm16
  pointwise [k1_pay51, k1_pay12, k1_pay11, k1_pay10]
  rw [h1, h2]
  rfl

theorem dla16_val (r : Fin 16) : dla16 i M x k acc (ix2 r l) = C.dla (rowN t k.val r.val) := by
  have h1 := du16_val i M x k acc C t ht l hx h0 r
  have h2 := A16_apply i M x k C t l hx r
  have h3 := g16_val i M x k acc C t ht l hx h0 r
  have h4 := xs16_apply i M x k C t l hx r
  have h5 := i16_apply i M x k C t l hx r
  have h6 := hp16_apply i M x k C t l hx r
  have h7 : k1_pay11 (r16 M x k) (k1_pay7 x.lam) (ix2 r l) = Ideal.rsqrt (s2K (C.a (rowN t k.val r.val))) := by
    unfold A16 at h2
    pointwise [k1_pay11, k1_pay10]
    rw [h2]
    rfl
  unfold dla16
  pointwise [k1_pay52]
  rw [h1, h2, h3, h4, h5, h6, h7]
  rfl

theorem dr16_val (r : Fin 16) : k1_pay55 (r16 M x k) (dlr16 i M x k acc) k1_pay54 (ix2 r l) = C.dr (rowN t k.val r.val) := by
  have h1 := dla16_val i M x k acc C t ht l hx h0 r
  have h2 := r16_apply i M x k C t l hx r
  unfold dla16 at h1
  unfold dlr16
  generalize k1_pay11 (r16 M x k) (k1_pay7 x.lam) = z at h1 ⊢
  pointwise [k1_pay55, k1_pay54, k1_pay53, k1_pay8, k1_pay7]
  rw [h1, h2, hx.lam]
  rfl

theorem di16_val (r : Fin 16) : k1_pay56 (xs16 M x k) (i16 M x k) (dm16 i M x k acc) (ix2 r l) = C.di (rowN t k.val r.val) := by
  have h1 := dm16_val i M x k acc C t ht l hx h0 r
  have h2 := xs16_apply i M x k C t l hx r
  have h3 := i16_apply i M x k C t l hx r
  pointwise [k1_pay56]
  rw [h1, h2, h3]
  rfl

theorem dl16_val (r : Fin 16) : k1_pay60 (r16 M x k) (dla16 i M x k acc) (ix2 r l) = C.dl (rowN t k.val r.val) := by
  have h1 := dla16_val i M x k acc C t ht l hx h0 r
  have h2 := r16_apply i M x k C t l hx r
  pointwise [k1_pay60]
  rw [h1, h2]
  rfl

theorem dxc16_val (r : Fin 16) : k1_pay59 (i16 M x k) (dm16 i M x k acc) (ix2 r l) = C.dxc (rowN t k.val r.val) := by
  have h1 := dm16_val i M x k acc C t ht l hx h0 r
  have h3 := i16_apply i M x k C t l hx r
  pointwise [k1_pay59]
  rw [h1, h3]
  rfl

theorem dr16_out (r : Fin 16) : k1_pay57 (r16 M x k) (dlr16 i M x k acc) k1_pay54 (ix2 r l) = C.dr (rowN t k.val r.val) := by
  have h1 := dr16_val i M x k acc C t ht l hx h0 r
  pointwise [k1_pay57]
  exact h1

theorem di16_out (r : Fin 16) : k1_pay58 (xs16 M x k) (i16 M x k) (dm16 i M x k acc) (ix2 r l) = C.di (rowN t k.val r.val) := by
  have h1 := di16_val i M x k acc C t ht l hx h0 r
  pointwise [k1_pay58]
  exact h1

end
end
end Cert.KernelIdeal.RG
end
-- ==== Proof.FwdArr.lean ====
/-
The forward recurrence call's first result: the state of every column at every row.
-/
module

public import proofs.«01_k».proof.Proof.FwdVal
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic
public import proofs.«01_k».proof.Proof.Run
public import Idealize.ShloMosaic.Lib.Pipeline.ValueKit.Geometry
public import Idealize.ShloMosaic.Lib.Pointwise

@[expose] public section

set_option maxRecDepth 16384

noncomputable section

namespace Cert.KernelIdeal.RG

open Cert.KernelIdeal.Gen Cert.Col
open Idealize.ShloMosaic Idealize.ShloMosaic.TcCoe Idealize.ShloMosaic.Tactic
open Idealize.ShloMosaic.Pipeline (Dat)

/-- A strip's index in its block. -/
theorem emb16 (off : Fin S256x1280.rank → ℕ) (inb : ∀ a, off a + S16x1280.size a ≤ S256x1280.size a) (o : ℕ) (ho : o + 16 ≤ 256)
    (hoff : off = ![o, 0]) (r : Fin 16) (l : Fin 1280) :
    (Rect.unit (s := S256x1280) off S16x1280.size inb).emb (ix2 r l) = ix2 (n0 := 256) (n1 := 1280) ⟨o + r.val, by omega⟩ l := by
  subst hoff
  funext a
  match a with
  | ⟨0, _⟩ => exact Fin.ext (ValueKit.rect_emb_unit_val _ _ _ _ _)
  | ⟨1, _⟩ => exact Fin.ext ((ValueKit.rect_emb_unit_val _ _ _ _ _).trans (Nat.zero_add _))

/-- The strips of a block: the state they carry, and what they store, column by column. -/
theorem st0_col (c : Dev nD) (i : grid0.Coords) (M : Bufs0) (x : Ins0 Ideal) (init : Vec Ideal S1x1280 .f32) (C : Fin 1280 → Data) (t : ℕ)
    (ht : (i 1).val = t) (hx : ∀ l, Col0 x (C l) t l) (h0 : ∀ l, init (ix2 0 l) = (C l).h (256 * t)) : ∀ k, k ≤ 16 →
      (∀ l, (st0 c i M x init k).1 (ix2 0 l) = (C l).h (256 * t + 16 * k))
      ∧ ∀ p ∈ (st0 c i M x init k).2.1, ∀ y : p.1.shape.Idx, p.2 y = (C (p.1.emb y 1)).h (256 * t + (p.1.emb y 0).val + 1) := by
  intro k
  induction k with
  | zero => exact fun _ => ⟨fun l => h0 l, fun p hp => absurd hp (List.not_mem_nil)⟩
  | succ n ih =>
    intro hn
    obtain ⟨K, rfl⟩ : ∃ K : Fin k0_t1_loop.trips, K.val = n := ⟨⟨n, hn⟩, rfl⟩
    obtain ⟨i1, i2⟩ := ih (by omega)
    have hA : ∀ l, ∀ r : Fin 16, a16 M x K (ix2 r l) = (fun j => (C l).a (256 * t + 16 * K.val + j)) r.val := fun l r => by
      rw [a16_apply M x K (C l) t l (hx l) r]; simp only [Nat.add_assoc]
    have hU : ∀ l, ∀ r : Fin 16, u16 i M x K (ix2 r l) = (fun j => (C l).u (256 * t + 16 * K.val + j)) r.val := fun l r => by
      rw [u16_apply i M x K (C l) t ht l (hx l) r]; simp only [Nat.add_assoc]
    have hs : ∀ l n, scan (fun j => (C l).a (256 * t + 16 * K.val + j)) (fun j => (C l).u (256 * t + 16 * K.val + j)) ((st0 c i M x init K.val).1 (ix2 0 l)) n
        = (C l).h (256 * t + 16 * K.val + n) := fun l n => by
      rw [i1 l]; exact (scan_add (C l).a (C l).u 0 (256 * t + 16 * K.val) n).symm
    rw [st0, st_k0_t1_succ]
    refine ⟨fun l => ?_, fun p hp y => ?_⟩
    · dsimp only
      rw [tripR0 i M x K c, hN_apply i M x K _ (fun j => (C l).a (256 * t + 16 * K.val + j)) (fun j => (C l).u (256 * t + 16 * K.val + j)) l (hA l) (hU l), hs]
      congr 1
    · have hp' := List.mem_append.1 hp
      rcases hp' with hp | hp
      · rw [tripL0 i M x K c] at hp
        obtain rfl := List.mem_singleton.1 hp
        obtain ⟨r, l, rfl⟩ : ∃ (r : Fin 16) (l : Fin 1280), y = ix2 r l := ⟨y 0, y 1, eq_ix2 y⟩
        refine (hs16_apply i M x K _ (fun j => (C l).a (256 * t + 16 * K.val + j)) (fun j => (C l).u (256 * t + 16 * K.val + j)) l (hA l) (hU l) r).trans ((hs l _).trans ?_)
        show _ = (C ((Rect.unit (s := S256x1280) (k0_off1 K) S16x1280.size (k0_off1_inb K)).emb (ix2 r l) 1)).h
          (256 * t + ((Rect.unit (s := S256x1280) (k0_off1 K) S16x1280.size (k0_off1_inb K)).emb (ix2 r l) 0).val + 1)
        rw [emb16 _ _ (16 * K.val) (by omega) (off1_eq K)]
        show (C l).h _ = (C l).h (256 * t + (16 * K.val + r.val) + 1)
        congr 1; omega
      · exact i2 p hp y

/-- The block of states. -/
theorem hBlk_apply (c : Dev nD) (i : grid0.Coords) (M : Bufs0) (x : Ins0 Ideal) (init : Vec Ideal S1x1280 .f32) (C : Fin 1280 → Data) (t : ℕ)
    (ht : (i 1).val = t) (hx : ∀ l, Col0 x (C l) t l) (h0 : ∀ l, init (ix2 0 l) = (C l).h (256 * t)) (y : S256x1280.Idx) :
    hBlk c i M x init y = (C (y 1)).h (256 * t + (y 0).val + 1) :=
  View.canon_apply_of_pieces (Val := Elt Ideal) (S := S256x1280) (e := .f32) (fun y => (C (y 1)).h (256 * t + (y 0).val + 1)) _
    (st0_col c i M x init C t ht hx h0 16 le_rfl).2 y (cover_h c i M x init y)

/-- The state carried out of a block. -/
theorem carry0_apply (c : Dev nD) (i : grid0.Coords) (M : Bufs0) (x : Ins0 Ideal) (init : Vec Ideal S1x1280 .f32) (C : Fin 1280 → Data) (t : ℕ)
    (ht : (i 1).val = t) (hx : ∀ l, Col0 x (C l) t l) (h0 : ∀ l, init (ix2 0 l) = (C l).h (256 * t)) (l : Fin 1280) :
    carry0 c i M x init (ix2 0 l) = (C l).h (256 * (t + 1)) := by
  unfold carry0
  pointwise [k0_pay5]
  exact (st0_col c i M x init C t ht hx h0 16 le_rfl).1 l

section
variable (V : (c : Dev nD) → (b : Ref sig .tc) → Buf (Elt Ideal) ((c : Thread nD τ).loc b))

/-- Column `l` of the arrays a call finds. -/
def colV (c : Dev nD) : Fin 1280 → Data :=
  colOf (fun r l => V c main_arg0 (ix2 r l)) (fun r l => V c main_arg1 (ix2 r l)) (fun r l => V c main_arg2 (ix2 r l))
    (fun r l => V c main_arg3 (ix2 r l)) (fun l => V c main_arg4 (ix2 0 l)) (fun l => V c main_arg5 (ix2 0 l)) (fun l => V c main_arg6 (ix2 0 l))

theorem idx0_0 : ∀ t : Fin cfg0.N, win0_0.index t = ![t.val, 0] := (by decide +kernel : ∀ t : Fin grid0.N, _)
theorem idx0_1 : ∀ t : Fin cfg0.N, win0_1.index t = ![t.val, 1] := (by decide +kernel : ∀ t : Fin grid0.N, _)
theorem idx0_2 : ∀ t : Fin cfg0.N, win0_2.index t = ![t.val, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![t.val, 0] := (by decide +kernel : ∀ t : Fin grid0.N, _)
theorem crd0 : ∀ t : Fin cfg0.N, (grid0.coords t 1).val = t.val := (by decide +kernel : ∀ t : Fin grid0.N, _)

theorem col0_of (c : Dev nD) (t : Fin cfg0.N) (l : Fin 1280) : Col0 (x0 V c t) (colV V c l) t.val l := by
  have ht : t.val < 33 := Nat.lt_of_lt_of_eq t.isLt N_0
  constructor
  · intro q
    have hq := q.isLt
    rw [show (colV V c l).gr = rowsOf (fun r => V c main_arg1 (ix2 r ⟨l.val, by omega⟩)) from rfl, rowsOf_val _ _ (by omega)]
    dsimp only [x0]
    blk_simp [iblk0]
    congr 1
    blk_ext [idx0_0]
  · intro q
    have hq := q.isLt
    rw [show (colV V c l).gi = rowsOf (fun r => V c main_arg1 (ix2 r ⟨1280 + l.val, by omega⟩)) from rfl, rowsOf_val _ _ (by omega)]
    dsimp only [x0]
    blk_simp [iblk0]
    congr 1
    blk_ext [idx0_1]
  · intro q
    have hq := q.isLt
    rw [show (colV V c l).xc = rowsOf (fun r => V c main_arg2 (ix2 r l)) from rfl, rowsOf_val _ _ (by omega)]
    dsimp only [x0]
    blk_simp [iblk0]
    congr 1
    blk_ext [idx0_2]
  · show _ = V c main_arg4 (ix2 0 l)
    dsimp only [x0]
    blk_simp [iblk0]
    congr 1
    blk_ext [idx0_4]
  · show _ = V c main_arg5 (ix2 0 l)
    dsimp only [x0]
    blk_simp [iblk0]
    congr 1
    blk_ext [idx0_5]
  · show _ = V c main_arg6 (ix2 0 l)
    dsimp only [x0]
    blk_simp [iblk0]
    congr 1
    blk_ext [idx0_6]

/-- The state carried into each point. -/
theorem cin0_apply (c : Dev nD) (l : Fin 1280) (n : ℕ) (hn : n ≤ 33) : ∀ l, cin0 V c n (ix2 0 l) = (colV V c l).h (256 * n) := by
  induction n with
  | zero => intro l; unfold cin0; pointwise [k0_pay1]; rfl
  | succ n ih =>
    obtain ⟨t, rfl⟩ : ∃ t : Fin cfg0.N, t.val = n := ⟨⟨n, by rw [show cfg0.N = 33 from N_0]; omega⟩, rfl⟩
    intro l
    rw [cin0_succ]
    exact carry0_apply c _ _ _ _ (colV V c) t.val (crd0 t) (fun l => col0_of V c t l) (ih (by omega)) l

/-- The array of states: row `R` holds the state after row `R`. -/
def hArr (c : Dev nD) : Vec Ideal S8448x1280 .f32 := fun y => (colV V c (y 1)).h ((y 0).val + 1)

theorem h_arr (c : Dev nD) : (dat0 V c).arrAt 7 cfg0.N = hArr V c := by
  refine (dat0 V c).arrAt_eq_of_covers 7 _ (by decide +kernel) fun t hf y => ?_
  have ht : t.val < 33 := Nat.lt_of_lt_of_eq t.isLt N_0
  blk_simp
  rw [after0_7]
  refine (hBlk_apply c _ _ _ _ (colV V c) t.val (crd0 t) (fun l => col0_of V c t l) (cin0_apply V c 0 t.val (by omega)) y).trans ?_
  unfold hArr
  have e0 : (((win0_7.blk t).view.emb y) 0).val = 256 * t.val + (y 0).val := by blk_simp [idx0_7]; show t.val * 256 + _ = _; omega
  have e1 : ((win0_7.blk t).view.emb y) 1 = y 1 := by apply Fin.ext; blk_simp [idx0_7]
  rw [e0, e1]

end
end Cert.KernelIdeal.RG
end
-- ==== Proof.BwdBlk.lean ====
/-
The values of the backward recurrence kernel's blocks: what all the strips of a point leave.
-/
module

public import proofs.«01_k».proof.Proof.BwdVal
public import proofs.«01_k».proof.Proof.FwdArr
public import proofs.«01_k».proof.Proof.Sums
public import Idealize.ShloMosaic.Lib.WritesUnit
public import Idealize.ShloMosaic.Lib.Pipeline.ValueKit.Geometry
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic
public import proofs.«01_k».proof.Proof.Scal
public import Idealize.ShloMosaic.Lib.Pointwise

@[expose] public section

set_option maxRecDepth 16384

noncomputable section

namespace Cert.KernelIdeal.RG

open Cert.KernelIdeal.Gen Cert.Col
open Idealize.ShloMosaic Idealize.ShloMosaic.TcCoe Idealize.ShloMosaic.Tactic

/-- A place of a page of the scratch of sums. -/
abbrev at3 (p : Fin 3) (r : Fin 8) (l : Fin 1280) : S3x8x1280.Idx := ix3 p r l

section
variable (m : Memref sig .tc .vmem S3x8x1280 .f32) (f : BufTy.Contents (Elt Ideal) m.view.ty) (q : ℕ) (hq : q < 3)
  (inb : ∀ a, (![q, 0, 0] : Fin 3 → ℕ) a + S1x8x1280.size a ≤ S3x8x1280.size a) (r : Fin 8) (l : Fin 1280)

/-- A read of the page just stored. -/
theorem page_hit (w : Vec Ideal S1x8x1280 .f32) (L : List (View.Piece (Elt Ideal) S3x8x1280 .f32)) :
    m.view.read (Elt Ideal) (m.view.writes (Elt Ideal) f (⟨Rect.unit (s := S3x8x1280) ![q, 0, 0] S1x8x1280.size inb, w⟩ :: L)) (at3 ⟨q, hq⟩ r l) = w (ix3 0 r l) := by
  refine View.read_writes_cons_unit_of_mem m.view f inb w L _ (ix3 0 r l) rfl ?_
  intro a
  match a with
  | ⟨0, _⟩ => exact (Nat.add_zero _).symm
  | ⟨1, _⟩ => exact (Nat.zero_add _).symm
  | ⟨2, _⟩ => exact (Nat.zero_add _).symm

/-- A read of another page than the one just stored. -/
theorem page_miss (w : Vec Ideal S1x8x1280 .f32) (L : List (View.Piece (Elt Ideal) S3x8x1280 .f32)) (p : Fin 3) (hp : p.val ≠ q) :
    m.view.read (Elt Ideal) (m.view.writes (Elt Ideal) f (⟨Rect.unit (s := S3x8x1280) ![q, 0, 0] S1x8x1280.size inb, w⟩ :: L)) (at3 p r l)
      = m.view.read (Elt Ideal) (m.view.writes (Elt Ideal) f L) (at3 p r l) := by
  refine View.read_writes_cons_unit_of_not_mem m.view f inb w L _ rfl 0 ?_
  show p.val < q ∨ q + 1 ≤ p.val
  omega

/-- A page's load. -/
theorem page_ld (d : Vec Ideal S3x8x1280 .f32) :
    View.ld d (Rect.unit (s := S3x8x1280) ![q, 0, 0] S1x8x1280.size inb) (ix3 0 r l) = d (at3 ⟨q, hq⟩ r l) := by
  show d _ = d _
  congr 1
  funext a
  match a with
  | ⟨0, _⟩ => exact Fin.ext (ValueKit.rect_emb_unit_val _ _ _ _ _)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))

end

section
variable (i : grid1.Coords) (M : Bufs1) (x : Ins1 Ideal) (k : Fin k1_t1_loop.trips) (acc : Vec Ideal S1x1280 .f32)
  (G20 : BufTy.Contents (Elt Ideal) M.a20.view.ty) (r : Fin 8) (l : Fin 1280)

theorem accA_apply (f : BufTy.Contents (Elt Ideal) M.a20.view.ty) (p : Fin 3) :
    M.a20.view.read (Elt Ideal) (M.a20.view.writes (Elt Ideal) f (accA i M x k acc G20)) (at3 p r l)
      = M.a20.view.read (Elt Ideal) G20 (at3 p r l) + sum16 i M x k acc p (ix2 ⟨r.val, by omega⟩ l) := by
  unfold accA
  match p with
  | 0 =>
    rw [page_miss _ _ _ _ _ _ _ _ _ (by decide), page_miss _ _ _ _ _ _ _ _ _ (by decide)]
    refine (page_hit M.a20 f 0 (by decide) _ r l _ _).trans ?_
    rw [View.readAt_eq_ld]
    pointwise [k1_pay61]
    rfl
  | 1 =>
    rw [page_miss _ _ _ _ _ _ _ _ _ (by decide)]
    refine (page_hit M.a20 f 1 (by decide) _ r l _ _).trans ?_
    rw [View.readAt_eq_ld]
    pointwise [k1_pay62]
    rfl
  | 2 =>
    refine (page_hit M.a20 f 2 (by decide) _ r l _ _).trans ?_
    rw [View.readAt_eq_ld]
    pointwise [k1_pay69]

theorem acc_apply (f : BufTy.Contents (Elt Ideal) M.a20.view.ty) (p : Fin 3) :
    M.a20.view.read (Elt Ideal) (M.a20.view.writes (Elt Ideal) f
        (⟨pg2, k1_pay72 (sum16 i M x k acc 2) (M.a20.view.readCov (accB1 i M x k acc G20) pg2.toLoadRect)⟩ :: accB1 i M x k acc G20)) (at3 p r l)
      = M.a20.view.read (Elt Ideal) G20 (at3 p r l) + sum16 i M x k acc p (ix2 ⟨r.val, by omega⟩ l) + sum16 i M x k acc p (ix2 ⟨8 + r.val, by omega⟩ l) := by
  match p with
  | 0 =>
    rw [page_miss _ _ _ _ _ _ _ _ _ (by decide)]
    unfold accB1
    rw [page_miss _ _ _ _ _ _ _ _ _ (by decide)]
    unfold accB0
    refine (page_hit M.a20 f 0 (by decide) _ r l _ _).trans ?_
    unfold View.readCov
    rw [View.readAt_eq_ld]
    pointwise [k1_pay70]
    exact congrArg (· + _) (accA_apply i M x k acc G20 r l _ 0)
  | 1 =>
    rw [page_miss _ _ _ _ _ _ _ _ _ (by decide)]
    unfold accB1
    refine (page_hit M.a20 f 1 (by decide) _ r l _ _).trans ?_
    unfold View.readCov
    rw [View.readAt_eq_ld]
    pointwise [k1_pay71]
    unfold accB0
    rw [page_miss _ _ _ _ _ _ _ _ _ (by decide)]
    exact congrArg (· + _) (accA_apply i M x k acc G20 r l _ 1)
  | 2 =>
    refine (page_hit M.a20 f 2 (by decide) _ r l _ _).trans ?_
    unfold View.readCov
    rw [View.readAt_eq_ld]
    pointwise [k1_pay72]
    unfold accB1
    rw [page_miss _ _ _ _ _ _ _ _ _ (by decide)]
    unfold accB0
    rw [page_miss _ _ _ _ _ _ _ _ _ (by decide)]
    exact congrArg (· + _) (accA_apply i M x k acc G20 r l _ 2)

end

/-- The summands of the three sums. -/
def sumOf (C : Data) : Fin 3 → ℕ → EReal
  | 0 => C.dr
  | 1 => C.di
  | 2 => C.dl

theorem sum16_val (i : grid1.Coords) (M : Bufs1) (x : Ins1 Ideal) (k : Fin k1_t1_loop.trips) (acc : Vec Ideal S1x1280 .f32)
    (C : Data) (t : ℕ) (ht : (i 1).val = t) (l : Fin 1280) (hx : Col1 i x C (256 * (32 - t)) l) (h0 : acc (ix2 0 l) = C.c (256 * t + 16 * k.val))
    (p : Fin 3) (r : Fin 16) : sum16 i M x k acc p (ix2 r l) = sumOf C p (rowN t k.val r.val) := by
  match p with
  | 0 => exact dr16_val i M x k acc C t ht l hx h0 r
  | 1 => exact di16_val i M x k acc C t ht l hx h0 r
  | 2 => exact dl16_val i M x k acc C t ht l hx h0 r

/-- A strip's index in the block of the two gates. -/
theorem emb16w (off : Fin S256x2560.rank → ℕ) (inb : ∀ a, off a + S16x1280.size a ≤ S256x2560.size a) (o q : ℕ) (ho : o + 16 ≤ 256) (hq : q + 1280 ≤ 2560)
    (hoff : off = ![o, q]) (r : Fin 16) (l : Fin 1280) :
    (Rect.unit (s := S256x2560) off S16x1280.size inb).emb (ix2 r l) = ix2 (n0 := 256) (n1 := 2560) ⟨o + r.val, by omega⟩ ⟨q + l.val, by omega⟩ := by
  subst hoff
  funext a
  match a with
  | ⟨0, _⟩ => exact Fin.ext (ValueKit.rect_emb_unit_val _ _ _ _ _)
  | ⟨1, _⟩ => exact Fin.ext (ValueKit.rect_emb_unit_val _ _ _ _ _)

/-- The two gates' gradients at a row and one of the 2560 columns: the first gate's, then the second's. -/
def dgriOf (C : Fin 1280 → Data) (n : ℕ) (q : Fin 2560) : EReal :=
  if h : q.val < 1280 then (C ⟨q.val, h⟩).dr n else (C ⟨q.val - 1280, by omega⟩).di n

/-- The strips of a block: the carry, what they store in the three results, and the sums. -/
theorem st1_col (c : Dev nD) (i : grid1.Coords) (M : Bufs1) (x : Ins1 Ideal) (init : Vec Ideal S1x1280 .f32) (C : Fin 1280 → Data) (t : ℕ)
    (ht : (i 1).val = t) (hx : ∀ l, Col1 i x (C l) (256 * (32 - t)) l) (h0 : ∀ l, init (ix2 0 l) = (C l).c (256 * t)) : ∀ k, k ≤ 16 →
      (∀ l, (st1 c i M x init k).1 (ix2 0 l) = (C l).c (256 * t + 16 * k))
      ∧ (∀ p ∈ (st1 c i M x init k).2.1, ∀ y : p.1.shape.Idx, p.2 y = dgriOf C (256 * (32 - t) + (p.1.emb y 0).val) (p.1.emb y 1))
      ∧ (∀ p ∈ (st1 c i M x init k).2.2.1, ∀ y : p.1.shape.Idx, p.2 y = (C (p.1.emb y 1)).dxc (256 * (32 - t) + (p.1.emb y 0).val))
      ∧ (∀ p ∈ (st1 c i M x init k).2.2.2.1, ∀ y : p.1.shape.Idx, p.2 y = (C (p.1.emb y 1)).dag (256 * (32 - t) + (p.1.emb y 0).val))
      ∧ ∀ (p : Fin 3) (r : Fin 8) (l : Fin 1280),
          M.a20.view.read (Elt Ideal) (M.a20.view.writes (Elt Ideal) (M.h20.unread (k1_pay67 (F := Ideal))) (st1 c i M x init k).2.2.2.2.2) (at3 p r l)
            = ∑ j ∈ Finset.range k, (sumOf (C l) p (rowN t j r.val) + sumOf (C l) p (rowN t j (8 + r.val))) := by
  intro k
  induction k with
  | zero =>
    refine fun _ => ⟨fun l => h0 l, fun p hp => absurd hp (List.not_mem_nil), fun p hp => absurd hp (List.not_mem_nil), fun p hp => absurd hp (List.not_mem_nil), fun p r l => ?_⟩
    show M.a20.view.read (Elt Ideal) (M.h20.unread (k1_pay67 (F := Ideal))) (at3 p r l) = _
    rw [M.h20.read_unread, Finset.sum_range_zero]
    pointwise [k1_pay67]
  | succ n ih =>
    intro hn
    obtain ⟨K, rfl⟩ : ∃ K : Fin k1_t1_loop.trips, K.val = n := ⟨⟨n, hn⟩, rfl⟩
    obtain ⟨i1, i2, i3, i4, i5⟩ := ih (by omega)
    have hK := trips1 K
    rw [st1, st_k1_t1_succ]
    refine ⟨fun l => ?_, fun p hp y => ?_, fun p hp y => ?_, fun p hp y => ?_, fun p r l => ?_⟩
    · dsimp only
      rw [tripR1 i M x K, cN_val i M x K _ (C l) t ht l (hx l) (i1 l)]
      congr 1
    · have hp' := List.mem_append.1 hp
      rcases hp' with hp | hp
      · rw [tripL1_13 i M x K] at hp
        rcases List.mem_cons.1 hp with rfl | hp
        · obtain ⟨r, l, rfl⟩ : ∃ (r : Fin 16) (l : Fin 1280), y = ix2 r l := ⟨y 0, y 1, eq_ix2 y⟩
          refine (di16_out i M x K _ (C l) t ht l (hx l) (i1 l) r).trans ?_
          show _ = dgriOf C (256 * (32 - t) + ((Rect.unit (s := S256x2560) (k1_off4 K) S16x1280.size (k1_off4_inb K)).emb (ix2 r l) 0).val)
            ((Rect.unit (s := S256x2560) (k1_off4 K) S16x1280.size (k1_off4_inb K)).emb (ix2 r l) 1)
          rw [emb16w _ _ (16 * (15 - K.val)) 1280 (by omega) (by omega) (k1_off4_eq K)]
          show _ = dgriOf C (256 * (32 - t) + (16 * (15 - K.val) + r.val)) ⟨1280 + l.val, by omega⟩
          unfold dgriOf
          rw [dif_neg (show ¬ 1280 + l.val < 1280 by omega)]
          congr 2
          exact Fin.ext (show l.val = 1280 + l.val - 1280 by omega)
        · obtain rfl := List.mem_singleton.1 hp
          obtain ⟨r, l, rfl⟩ : ∃ (r : Fin 16) (l : Fin 1280), y = ix2 r l := ⟨y 0, y 1, eq_ix2 y⟩
          refine (dr16_out i M x K _ (C l) t ht l (hx l) (i1 l) r).trans ?_
          show _ = dgriOf C (256 * (32 - t) + ((Rect.unit (s := S256x2560) (k1_off3 K) S16x1280.size (k1_off3_inb K)).emb (ix2 r l) 0).val)
            ((Rect.unit (s := S256x2560) (k1_off3 K) S16x1280.size (k1_off3_inb K)).emb (ix2 r l) 1)
          rw [emb16w _ _ (16 * (15 - K.val)) 0 (by omega) (by omega) (k1_off3_eq K)]
          show _ = dgriOf C (256 * (32 - t) + (16 * (15 - K.val) + r.val)) ⟨0 + l.val, by omega⟩
          unfold dgriOf
          rw [dif_pos (show 0 + l.val < 1280 by omega)]
          congr 2
          exact Fin.ext (show l.val = 0 + l.val by omega)
      · exact i2 p hp y
    · have hp' := List.mem_append.1 hp
      rcases hp' with hp | hp
      · rw [tripL1_14 i M x K] at hp
        obtain rfl := List.mem_singleton.1 hp
        obtain ⟨r, l, rfl⟩ : ∃ (r : Fin 16) (l : Fin 1280), y = ix2 r l := ⟨y 0, y 1, eq_ix2 y⟩
        refine (dxc16_val i M x K _ (C l) t ht l (hx l) (i1 l) r).trans ?_
        show _ = (C ((Rect.unit (s := S256x1280) (k1_off1 K) S16x1280.size (k1_off1_inb K)).emb (ix2 r l) 1)).dxc
          (256 * (32 - t) + ((Rect.unit (s := S256x1280) (k1_off1 K) S16x1280.size (k1_off1_inb K)).emb (ix2 r l) 0).val)
        rw [emb16 _ _ (16 * (15 - K.val)) (by omega) (k1_off1_eq K)]
        rfl
      · exact i3 p hp y
    · have hp' := List.mem_append.1 hp
      rcases hp' with hp | hp
      · rw [tripL1_15 i M x K] at hp
        obtain rfl := List.mem_singleton.1 hp
        obtain ⟨r, l, rfl⟩ : ∃ (r : Fin 16) (l : Fin 1280), y = ix2 r l := ⟨y 0, y 1, eq_ix2 y⟩
        refine (dag16_apply i M x K (C l) t l (hx l) r).trans ?_
        show _ = (C ((Rect.unit (s := S256x1280) (k1_off1 K) S16x1280.size (k1_off1_inb K)).emb (ix2 r l) 1)).dag
          (256 * (32 - t) + ((Rect.unit (s := S256x1280) (k1_off1 K) S16x1280.size (k1_off1_inb K)).emb (ix2 r l) 0).val)
        rw [emb16 _ _ (16 * (15 - K.val)) (by omega) (k1_off1_eq K)]
        rfl
      · exact i4 p hp y
    · show M.a20.view.read (Elt Ideal) (M.a20.view.writes (Elt Ideal) (M.h20.unread (k1_pay67 (F := Ideal))) (_ ++ (st1 c i M x init K.val).2.2.2.2.2)) (at3 p r l) = _
      rw [View.writes_append, tripL1_20 i M x K, acc_apply, i5 p r l, sum16_val i M x K _ (C l) t ht l (hx l) (i1 l), sum16_val i M x K _ (C l) t ht l (hx l) (i1 l),
        Finset.sum_range_succ, add_assoc]

end Cert.KernelIdeal.RG
end
-- ==== Proof.BwdArr.lean ====
/-
The values of the backward recurrence call's results: what the whole grid leaves in the arrays.
-/
module

public import proofs.«01_k».proof.Proof.BwdBlk
public import proofs.«01_k».proof.Proof.BwdDat
public import Idealize.ShloMosaic.Lib.Pipeline.ValueKit.Partial
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Tactic
public import proofs.«01_k».proof.Proof.Scal
public import Idealize.ShloMosaic.Lib.Pointwise

@[expose] public section

set_option maxRecDepth 16384

noncomputable section

namespace Cert.KernelIdeal.RG

open Cert.KernelIdeal.Gen Cert.Col
open Idealize.ShloMosaic Idealize.ShloMosaic.TcCoe Idealize.ShloMosaic.Tactic
open Idealize.ShloMosaic.Pipeline (Dat Cfg Window cellOf)

section
variable (c : Dev nD) (i : grid1.Coords) (M : Bufs1) (x : Ins1 Ideal) (init : Vec Ideal S1x1280 .f32) (C : Fin 1280 → Data) (t : ℕ)
    (ht : (i 1).val = t) (hx : ∀ l, Col1 i x (C l) (256 * (32 - t)) l) (h0 : ∀ l, init (ix2 0 l) = (C l).c (256 * t))
include ht hx h0

theorem dgriBlk_apply (y : S256x2560.Idx) : dgriBlk c i M x init y = dgriOf C (256 * (32 - t) + (y 0).val) (y 1) :=
  View.canon_apply_of_pieces (Val := Elt Ideal) (S := S256x2560) (e := .bf16) (fun y => dgriOf C (256 * (32 - t) + (y 0).val) (y 1)) _
    (st1_col c i M x init C t ht hx h0 16 le_rfl).2.1 y (cover_dgri c i M x init y)

theorem dxcBlk_apply (y : S256x1280.Idx) : dxcBlk c i M x init y = (C (y 1)).dxc (256 * (32 - t) + (y 0).val) :=
  View.canon_apply_of_pieces (Val := Elt Ideal) (S := S256x1280) (e := .bf16) (fun y => (C (y 1)).dxc (256 * (32 - t) + (y 0).val)) _
    (st1_col c i M x init C t ht hx h0 16 le_rfl).2.2.1 y (cover_dxc c i M x init y)

theorem dagBlk_apply (y : S256x1280.Idx) : dagBlk c i M x init y = (C (y 1)).dag (256 * (32 - t) + (y 0).val) :=
  View.canon_apply_of_pieces (Val := Elt Ideal) (S := S256x1280) (e := .bf16) (fun y => (C (y 1)).dag (256 * (32 - t) + (y 0).val)) _
    (st1_col c i M x init C t ht hx h0 16 le_rfl).2.2.2.1 y (cover_dag c i M x init y)

theorem carry1_apply (l : Fin 1280) : carry1 c i M x init (ix2 0 l) = (C l).c (256 * (t + 1)) := by
  unfold carry1
  pointwise [k1_pay73]
  exact (st1_col c i M x init C t ht hx h0 16 le_rfl).1 l

/-- A page of the sums over a block, its eight rows added: the sum over the block's rows. -/
theorem page_sum (p : Fin 3) (l : Fin 1280) : (∑ r : Fin 8, accBlk c i M x init (at3 p r l)) = ∑ q ∈ Finset.range 256, sumOf (C l) p (256 * (32 - t) + q) := by
  rw [← block_sum]
  refine Finset.sum_congr rfl fun r _ => ?_
  exact (st1_col c i M x init C t ht hx h0 16 le_rfl).2.2.2.2 p r l

theorem dbaBlk_apply (o : Vec Ideal S1x1280 .f32) (l : Fin 1280) :
    dbaBlk c i M x init o (ix2 0 l) = o (ix2 0 l) + ∑ q ∈ Finset.range 256, (C l).dr (256 * (32 - t) + q) := by
  have e : _ = ∑ q ∈ Finset.range 256, (C l).dr (256 * (32 - t) + q) := page_sum c i M x init C t ht hx h0 0 l
  rw [← e]
  unfold dbaBlk
  pointwise [k1_pay75, k1_pay74]

theorem dbxBlk_apply (o : Vec Ideal S1x1280 .f32) (l : Fin 1280) :
    dbxBlk c i M x init o (ix2 0 l) = o (ix2 0 l) + ∑ q ∈ Finset.range 256, (C l).di (256 * (32 - t) + q) := by
  have e : _ = ∑ q ∈ Finset.range 256, (C l).di (256 * (32 - t) + q) := page_sum c i M x init C t ht hx h0 1 l
  rw [← e]
  unfold dbxBlk
  pointwise [k1_pay76]

theorem dlamBlk_apply (o : Vec Ideal S1x1280 .f32) (l : Fin 1280) :
    dlamBlk c i M x init o (ix2 0 l) = o (ix2 0 l) + (0 - sgK (0 - (C l).lam)) * ∑ q ∈ Finset.range 256, (C l).dl (256 * (32 - t) + q) := by
  have e : _ = ∑ q ∈ Finset.range 256, (C l).dl (256 * (32 - t) + q) := page_sum c i M x init C t ht hx h0 2 l
  rw [← e]
  unfold dlamBlk
  pointwise [k1_pay77]
  rw [(hx l).lam, mul_comm]
  rfl

end

section
variable (V : (c : Dev nD) → (b : Ref sig .tc) → Buf (Elt Ideal) ((c : Thread nD τ).loc b))

theorem idx1_0 : ∀ t : Fin cfg1.N, win1_0.index t = ![32 - t.val, 0] := (by decide +kernel : ∀ t : Fin grid1.N, _)
theorem idx1_1 : ∀ t : Fin cfg1.N, win1_1.index t = ![32 - t.val, 0] := (by decide +kernel : ∀ t : Fin grid1.N, _)
theorem idx1_2 : ∀ t : Fin cfg1.N, win1_2.index t = ![32 * (32 - t.val) - 1, 0] := (by decide +kernel : ∀ t : Fin grid1.N, _)
theorem idx1_3 : ∀ t : Fin cfg1.N, win1_3.index t = ![32 - t.val, 0] := (by decide +kernel : ∀ t : Fin grid1.N, _)
theorem idx1_4 : ∀ t : Fin cfg1.N, win1_4.index t = ![32 - t.val, 1] := (by decide +kernel : ∀ t : Fin grid1.N, _)
theorem idx1_5 : ∀ t : Fin cfg1.N, win1_5.index t = ![32 - t.val, 0] := (by decide +kernel : ∀ t : Fin grid1.N, _)
theorem idx1_6 : ∀ t : Fin cfg1.N, win1_6.index t = ![32 - t.val, 6] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![0, 0] := (by decide +kernel : ∀ t : Fin grid1.N, _)
theorem idx1_9 : ∀ t : Fin cfg1.N, win1_9.index t = ![0, 0] := (by decide +kernel : ∀ t : Fin grid1.N, _)
theorem idx1_10 : ∀ t : Fin cfg1.N, win1_10.index t = ![32 - t.val, 0] := (by decide +kernel : ∀ t : Fin grid1.N, _)
theorem idx1_11 : ∀ t : Fin cfg1.N, win1_11.index t = ![32 - t.val, 0] := (by decide +kernel : ∀ t : Fin grid1.N, _)
theorem idx1_12 : ∀ t : Fin cfg1.N, win1_12.index t = ![32 - t.val, 6] := (by decide +kernel : ∀ t : Fin grid1.N, _)
theorem crd1 : ∀ t : Fin cfg1.N, (grid1.coords t 1).val = t.val := (by decide +kernel : ∀ t : Fin grid1.N, _)

/-- The block before the first is taken for zero. -/
theorem halo_cond : ∀ t : Fin 33, Scalar.cmpi .sgt (Scalar.subi (32#32) (BitVec.ofNat 32 t.val)) 0#32 = if t.val < 32 then 1#1 else 0#1 := by decide

theorem pay68_apply (i : grid1.Coords) (v : Vec Ideal S1x1280 .f32) (l : Fin 1280) :
    k1_pay68 i v (ix2 0 l) = if (i 1).val < 32 then v (ix2 0 l) else 0 := by
  have e := halo_cond ⟨(i 1).val, (i 1).isLt⟩
  dsimp only at e
  by_cases h : (i 1).val < 32
  · rw [if_pos h] at e ⊢
    pointwise [k1_pay68]
    rw [e]
    rfl
  · rw [if_neg h] at e ⊢
    pointwise [k1_pay68]
    rw [e]
    pointwise

variable (c : Dev nD)

/-- The first result's array. -/
def dgriArr : Vec Ideal S8448x2560 .bf16 := fun y => dgriOf (colV V c) (y 0).val (y 1)

/-- The second result's array. -/
def dxcArr : Vec Ideal S8448x1280 .bf16 := fun y => (colV V c (y 1)).dxc (y 0).val

/-- A column of the last 1280 of the third result's. -/
abbrev lastCol (q : Fin 8960) : Fin 1280 := ⟨q.val - 7680, by omega⟩

/-- The third result's array where it is written. -/
def dagArr : Vec Ideal S8448x8960 .bf16 := fun y => (colV V c (lastCol (y 1))).dag (y 0).val

theorem lt_last : 32 < cfg1.N := by
  rw [show cfg1.N = 33 from N_1]
  decide

theorem whole13 : (cfg1.win 13).WholeAt ⟨32, lt_last⟩ := by decide +kernel
theorem whole14 : (cfg1.win 14).WholeAt ⟨32, lt_last⟩ := by decide +kernel
theorem whole15 : (cfg1.win 15).WholeAt ⟨32, lt_last⟩ := by decide +kernel

theorem point_last : ∃ t : Fin cfg1.N, t.val = 32 := ⟨⟨32, lt_last⟩, rfl⟩

variable (hh : V c main_v0_0 = hArr V c)
include hh

theorem col1_of (t : Fin cfg1.N) (l : Fin 1280) : Col1 (grid1.coords t) (x1 V c t) (colV V c l) (256 * (32 - t.val)) l := by
  have ht : t.val < 33 := Nat.lt_of_lt_of_eq t.isLt N_1
  constructor
  · intro q
    have hq := q.isLt
    rw [show (colV V c l).dya = rowsOf (fun r => V c main_arg0 (ix2 r l)) from rfl, rowsOf_val _ _ (by omega)]
    dsimp only [x1]
    blk_simp [iblk1]
    congr 1
    blk_ext [idx1_0]
  · intro q
    have hq := q.isLt
    dsimp only [x1]
    blk_simp [iblk1]
    rw [hh]
    unfold hArr
    have e0 : (((win1_1.blk t).view.emb (ix2 q l)) 0).val = 256 * (32 - t.val) + q.val := by
      blk_simp [idx1_1]
      show (32 - t.val) * 256 + q.val = _
      omega
    have e1 : ((win1_1.blk t).view.emb (ix2 q l)) 1 = l := by
      apply Fin.ext
      blk_simp [idx1_1]
    rw [e0, e1]
  · rw [pay68_apply, crd1]
    by_cases h : t.val < 32
    · rw [if_pos h]
      unfold halo
      have e : View.ld (x1 V c t).hh (Rect.unit (s := S8x1280) ![7, 0] S1x1280.size inb_S8x1280_S1x1280_7_0) (ix2 0 l) = (x1 V c t).hh (ix2 7 l) := by
        show (x1 V c t).hh _ = _
        congr 1
        funext a
        match a with
        | ⟨0, _⟩ => exact Fin.ext (ValueKit.rect_emb_unit_val _ _ _ _ _)
        | ⟨1, _⟩ => exact Fin.ext ((ValueKit.rect_emb_unit_val _ _ _ _ _).trans (Nat.zero_add _))
      refine e.trans ?_
      dsimp only [x1]
      blk_simp [iblk1]
      rw [hh]
      unfold hArr
      have e0 : (((win1_2.blk t).view.emb (ix2 7 l)) 0).val + 1 = 256 * (32 - t.val) := by
        blk_simp [idx1_2]
        show (32 * (32 - t.val) - 1) * 8 + 7 + 1 = _
        omega
      have e1 : ((win1_2.blk t).view.emb (ix2 7 l)) 1 = l := by
        apply Fin.ext
        blk_simp [idx1_2]
      rw [e0, e1]
    · rw [if_neg h, show 256 * (32 - t.val) = 0 by omega]
      rfl
  · intro q
    have hq := q.isLt
    rw [show (colV V c l).gr = rowsOf (fun r => V c main_arg1 (ix2 r ⟨l.val, by omega⟩)) from rfl, rowsOf_val _ _ (by omega)]
    dsimp only [x1]
    blk_simp [iblk1]
    congr 1
    blk_ext [idx1_3]
  · intro q
    have hq := q.isLt
    rw [show (colV V c l).gi = rowsOf (fun r => V c main_arg1 (ix2 r ⟨1280 + l.val, by omega⟩)) from rfl, rowsOf_val _ _ (by omega)]
    dsimp only [x1]
    blk_simp [iblk1]
    congr 1
    blk_ext [idx1_4]
  · intro q
    have hq := q.isLt
    rw [show (colV V c l).xc = rowsOf (fun r => V c main_arg2 (ix2 r l)) from rfl, rowsOf_val _ _ (by omega)]
    dsimp only [x1]
    blk_simp [iblk1]
    congr 1
    blk_ext [idx1_5]
  · intro q
    have hq := q.isLt
    rw [show (colV V c l).ag = rowsOf (fun r => V c main_arg3 (ix2 r ⟨7680 + l.val, by omega⟩)) from rfl, rowsOf_val _ _ (by omega)]
    dsimp only [x1]
    blk_simp [iblk1]
    congr 1
    blk_ext [idx1_6]
  · show _ = V c main_arg4 (ix2 0 l)
    dsimp only [x1]
    blk_simp [iblk1]
    congr 1
    blk_ext [idx1_7]
  · show _ = V c main_arg5 (ix2 0 l)
    dsimp only [x1]
    blk_simp [iblk1]
    congr 1
    blk_ext [idx1_8]
  · show _ = V c main_arg6 (ix2 0 l)
    dsimp only [x1]
    blk_simp [iblk1]
    congr 1
    blk_ext [idx1_9]

/-- The gradient carried into each point. -/
theorem cin1_apply (n : ℕ) (hn : n ≤ 33) : ∀ l, cin1 V c n (ix2 0 l) = (colV V c l).c (256 * n) := by
  induction n with
  | zero => intro l; unfold cin1; pointwise [k1_pay63]; rfl
  | succ n ih =>
    obtain ⟨t, rfl⟩ : ∃ t : Fin cfg1.N, t.val = n := ⟨⟨n, by rw [show cfg1.N = 33 from N_1]; omega⟩, rfl⟩
    intro l
    rw [cin1_succ]
    exact carry1_apply c _ _ _ _ (colV V c) t.val (crd1 t) (fun l => col1_of V c hh t l) (ih (by omega)) l

/-- The running sums before each point. -/
theorem sba_apply (n : ℕ) (hn : n ≤ 33) (l : Fin 1280) : sba V c n (ix2 0 l) = ∑ t ∈ Finset.range n, ∑ q ∈ Finset.range 256, (colV V c l).dr (256 * (32 - t) + q) := by
  induction n with
  | zero => unfold sba; pointwise [k1_pay64]; rfl
  | succ n ih =>
    obtain ⟨t, rfl⟩ : ∃ t : Fin cfg1.N, t.val = n := ⟨⟨n, by rw [show cfg1.N = 33 from N_1]; omega⟩, rfl⟩
    rw [sba_succ, Finset.sum_range_succ, ← ih (by omega)]
    exact dbaBlk_apply c _ _ _ _ (colV V c) t.val (crd1 t) (fun l => col1_of V c hh t l) (cin1_apply V c hh t.val (by omega)) _ l

theorem sbx_apply (n : ℕ) (hn : n ≤ 33) (l : Fin 1280) : sbx V c n (ix2 0 l) = ∑ t ∈ Finset.range n, ∑ q ∈ Finset.range 256, (colV V c l).di (256 * (32 - t) + q) := by
  induction n with
  | zero => unfold sbx; pointwise [k1_pay65]; rfl
  | succ n ih =>
    obtain ⟨t, rfl⟩ : ∃ t : Fin cfg1.N, t.val = n := ⟨⟨n, by rw [show cfg1.N = 33 from N_1]; omega⟩, rfl⟩
    rw [sbx_succ, Finset.sum_range_succ, ← ih (by omega)]
    exact dbxBlk_apply c _ _ _ _ (colV V c) t.val (crd1 t) (fun l => col1_of V c hh t l) (cin1_apply V c hh t.val (by omega)) _ l

theorem slam_apply (n : ℕ) (hn : n ≤ 33) (l : Fin 1280) :
    slam V c n (ix2 0 l) = ∑ t ∈ Finset.range n, (0 - sgK (0 - (colV V c l).lam)) * ∑ q ∈ Finset.range 256, (colV V c l).dl (256 * (32 - t) + q) := by
  induction n with
  | zero => unfold slam; pointwise [k1_pay66]; rfl
  | succ n ih =>
    obtain ⟨t, rfl⟩ : ∃ t : Fin cfg1.N, t.val = n := ⟨⟨n, by rw [show cfg1.N = 33 from N_1]; omega⟩, rfl⟩
    rw [slam_succ, Finset.sum_range_succ, ← ih (by omega)]
    exact dlamBlk_apply c _ _ _ _ (colV V c) t.val (crd1 t) (fun l => col1_of V c hh t l) (cin1_apply V c hh t.val (by omega)) _ l

/-- The first result: the gates' gradients. -/
theorem dgri_arr : (dat1 V c).arrAt 10 cfg1.N = dgriArr V c := by
  refine (dat1 V c).arrAt_eq_of_covers 10 _ (by decide +kernel) fun t hf y => ?_
  have ht : t.val < 33 := Nat.lt_of_lt_of_eq t.isLt N_1
  blk_simp
  rw [after1_10]
  refine (dgriBlk_apply c _ _ _ _ (colV V c) t.val (crd1 t) (fun l => col1_of V c hh t l) (cin1_apply V c hh t.val (by omega)) y).trans ?_
  have e0 : (((win1_10.blk t).view.emb y) 0).val = 256 * (32 - t.val) + (y 0).val := by blk_simp [idx1_10]; show (32 - t.val) * 256 + _ = _; omega
  have e1 : ((win1_10.blk t).view.emb y) 1 = y 1 := by apply Fin.ext; blk_simp [idx1_10]
  unfold dgriArr
  rw [e0, e1]

/-- The second result. -/
theorem dxc_arr : (dat1 V c).arrAt 11 cfg1.N = dxcArr V c := by
  refine (dat1 V c).arrAt_eq_of_covers 11 _ (by decide +kernel) fun t hf y => ?_
  have ht : t.val < 33 := Nat.lt_of_lt_of_eq t.isLt N_1
  blk_simp
  rw [after1_11]
  refine (dxcBlk_apply c _ _ _ _ (colV V c) t.val (crd1 t) (fun l => col1_of V c hh t l) (cin1_apply V c hh t.val (by omega)) y).trans ?_
  have e0 : (((win1_11.blk t).view.emb y) 0).val = 256 * (32 - t.val) + (y 0).val := by blk_simp [idx1_11]; show (32 - t.val) * 256 + _ = _; omega
  have e1 : ((win1_11.blk t).view.emb y) 1 = y 1 := by apply Fin.ext; blk_simp [idx1_11]
  unfold dxcArr
  rw [e0, e1]

/-- The third result: its last 1280 columns are written, the others are as they were. -/
theorem dproj_arr : (dat1 V c).arrAt 12 cfg1.N = fun y => if (y 1).val / 1280 = 6 then dagArr V c y else V c main_v1_2 y := by
  refine (dat1 V c).arrAt_eq_of_coversWhere 12 (dagArr V c) (fun β => β (1 : Fin _) = 6) (by decide +kernel) (fun t hf y => ?_) (fun j => Iff.rfl)
  have ht : t.val < 33 := Nat.lt_of_lt_of_eq t.isLt N_1
  blk_simp
  rw [after1_12]
  refine (dagBlk_apply c _ _ _ _ (colV V c) t.val (crd1 t) (fun l => col1_of V c hh t l) (cin1_apply V c hh t.val (by omega)) y).trans ?_
  have e0 : (((win1_12.blk t).view.emb y) 0).val = 256 * (32 - t.val) + (y 0).val := by blk_simp [idx1_12]; show (32 - t.val) * 256 + _ = _; omega
  have e1 : (((win1_12.blk t).view.emb y) 1).val = 7680 + (y 1).val := by blk_simp [idx1_12]
  unfold dagArr
  rw [e0]
  have e2 : (y 1 : Fin 1280) = lastCol ((win1_12.blk t).view.emb y 1) := Fin.ext (by show (y 1).val = (((win1_12.blk t).view.emb y) 1).val - 7680; omega)
  exact congrArg (fun l => (colV V c l).dag (256 * (32 - t.val) + (y 0).val)) e2

theorem dba_arr : (dat1 V c).arrAt 13 cfg1.N = fun y => ∑ n ∈ Finset.range 8448, (colV V c (y 1)).dr n := by
  obtain ⟨t0, h0⟩ := point_last
  have hW : (cfg1.win 13).WholeAt t0 := by
    rw [show t0 = ⟨32, lt_last⟩ from Fin.ext h0]
    exact whole13
  refine (dat1 V c).arrAt_eq_of_after_last 13 t0 hW _ fun j => ?_
  show (dat1 V c).after 13 t0 _ = _
  rw [after1_13, h0]
  obtain ⟨r, l, rfl⟩ : ∃ (r : Fin 1) (l : Fin 1280), j = ix2 r l := ⟨j 0, j 1, eq_ix2 j⟩
  obtain rfl : r = 0 := Subsingleton.elim _ _
  refine (sba_apply V c hh 33 le_rfl l).trans ?_
  rw [rows_sum]
  rfl

theorem dbx_arr : (dat1 V c).arrAt 14 cfg1.N = fun y => ∑ n ∈ Finset.range 8448, (colV V c (y 1)).di n := by
  obtain ⟨t0, h0⟩ := point_last
  have hW : (cfg1.win 14).WholeAt t0 := by
    rw [show t0 = ⟨32, lt_last⟩ from Fin.ext h0]
    exact whole14
  refine (dat1 V c).arrAt_eq_of_after_last 14 t0 hW _ fun j => ?_
  show (dat1 V c).after 14 t0 _ = _
  rw [after1_14, h0]
  obtain ⟨r, l, rfl⟩ : ∃ (r : Fin 1) (l : Fin 1280), j = ix2 r l := ⟨j 0, j 1, eq_ix2 j⟩
  obtain rfl : r = 0 := Subsingleton.elim _ _
  refine (sbx_apply V c hh 33 le_rfl l).trans ?_
  rw [rows_sum]
  rfl

theorem dlam_arr : (dat1 V c).arrAt 15 cfg1.N
    = fun y => ∑ t ∈ Finset.range 33, (0 - sgK (0 - (colV V c (y 1)).lam)) * ∑ q ∈ Finset.range 256, (colV V c (y 1)).dl (256 * (32 - t) + q) := by
  obtain ⟨t0, h0⟩ := point_last
  have hW : (cfg1.win 15).WholeAt t0 := by
    rw [show t0 = ⟨32, lt_last⟩ from Fin.ext h0]
    exact whole15
  refine (dat1 V c).arrAt_eq_of_after_last 15 t0 hW _ fun j => ?_
  show (dat1 V c).after 15 t0 _ = _
  rw [after1_15, h0]
  obtain ⟨r, l, rfl⟩ : ∃ (r : Fin 1) (l : Fin 1280), j = ix2 r l := ⟨j 0, j 1, eq_ix2 j⟩
  obtain rfl : r = 0 := Subsingleton.elim _ _
  exact slam_apply V c hh 33 le_rfl l

end

end Cert.KernelIdeal.RG
end
-- ==== Proof.KerOut.lean ====
/-
The values of the ideal kernel's six results, in terms of the columns of its arguments.
-/
module

public import proofs.«01_k».proof.Proof.BwdArr
public import proofs.«01_k».proof.Proof.FwdArr
public import proofs.«01_k».proof.Proof.Run

@[expose] public section

set_option maxRecDepth 16384

noncomputable section

namespace Cert.KernelIdeal.RG

open Cert.KernelIdeal.Gen Cert.Col
open Idealize.ShloMosaic Idealize.ShloMosaic.TcCoe Idealize.ShloMosaic.Tactic

variable (m : (ℓ : Loc nD τ sig) → Buf (Elt Ideal) ℓ) (c : Dev nD)

/-- Column `l` of the arguments. -/
def colM (l : Fin 1280) : Data :=
  colOf (fun r q => m ((c : Thread nD τ).loc main_arg0) (ix2 r q)) (fun r q => m ((c : Thread nD τ).loc main_arg1) (ix2 r q))
    (fun r q => m ((c : Thread nD τ).loc main_arg2) (ix2 r q)) (fun r q => m ((c : Thread nD τ).loc main_arg3) (ix2 r q))
    (fun q => m ((c : Thread nD τ).loc main_arg4) (ix2 0 q)) (fun q => m ((c : Thread nD τ).loc main_arg5) (ix2 0 q))
    (fun q => m ((c : Thread nD τ).loc main_arg6) (ix2 0 q)) l

/-- The backward call finds every argument as it was. -/
theorem W2_arg (r : Ref sig .tc) (h0 : r ≠ main_v0_0) (h1 : r ≠ main_v0_1) (h2 : r ∉ hostOps1_W) : rd (W2 m) c r = m ((c : Thread nD τ).loc r) :=
  (W2_of m c r h2).trans (W1_of m c r h0 h1)

theorem colV_fwd : colV (rd (W0 m)) c = colM m c := rfl

theorem colV_bwd : colV (rd (W2 m)) c = colM m c := by
  have e0 := W2_arg m c main_arg0 (by decide) (by decide) (by decide)
  have e1 := W2_arg m c main_arg1 (by decide) (by decide) (by decide)
  have e2 := W2_arg m c main_arg2 (by decide) (by decide) (by decide)
  have e3 := W2_arg m c main_arg3 (by decide) (by decide) (by decide)
  have e4 := W2_arg m c main_arg4 (by decide) (by decide) (by decide)
  have e5 := W2_arg m c main_arg5 (by decide) (by decide) (by decide)
  have e6 := W2_arg m c main_arg6 (by decide) (by decide) (by decide)
  unfold colV
  rw [e0, e1, e2, e3, e4, e5, e6]
  rfl

/-- The backward call finds the states the forward call left. -/
theorem states : rd (W2 m) c main_v0_0 = hArr (rd (W2 m)) c := by
  refine ((W2_of m c main_v0_0 (by decide)).trans (W1_h m c)).trans ?_
  refine (h_arr (rd (W0 m)) c).trans ?_
  unfold hArr
  rw [colV_fwd, colV_bwd]

theorem out0 (n : Fin 8448) (q : Fin 2560) : (bwdOut m 10 c : Vec Ideal S8448x2560 .bf16) (ix2 n q) = (dgriOf (colM m c) n.val q : EReal) := by
  refine (congrFun (dgri_arr (rd (W2 m)) c (states m c)) (ix2 n q)).trans ?_
  rw [← colV_bwd]
  rfl

theorem out1 (n : Fin 8448) (l : Fin 1280) : (bwdOut m 11 c : Vec Ideal S8448x1280 .bf16) (ix2 n l) = ((colM m c l).dxc n.val : EReal) := by
  refine (congrFun (dxc_arr (rd (W2 m)) c (states m c)) (ix2 n l)).trans ?_
  rw [← colV_bwd]
  rfl

theorem out2 (n : Fin 8448) (q : Fin 8960) : (bwdOut m 12 c : Vec Ideal S8448x8960 .bf16) (ix2 n q)
    = (if q.val / 1280 = 6 then (colM m c (lastCol q)).dag n.val else m ((c : Thread nD τ).loc main_arg7) (ix2 n q) : EReal) := by
  refine (congrFun (dproj_arr (rd (W2 m)) c (states m c)) (ix2 n q)).trans ?_
  have e : rd (W2 m) c main_v1_2 = m ((c : Thread nD τ).loc main_arg7) := (W2_copy m c).trans (W1_of m c main_arg7 (by decide) (by decide))
  rw [← colV_bwd, e]
  rfl

theorem out3 (l : Fin 1280) : (bwdOut m 13 c : Vec Ideal S1x1280 .f32) (ix2 0 l) = (∑ n ∈ Finset.range 8448, (colM m c l).dr n : EReal) := by
  refine (congrFun (dba_arr (rd (W2 m)) c (states m c)) (ix2 0 l)).trans ?_
  rw [← colV_bwd]
  rfl

theorem out4 (l : Fin 1280) : (bwdOut m 14 c : Vec Ideal S1x1280 .f32) (ix2 0 l) = (∑ n ∈ Finset.range 8448, (colM m c l).di n : EReal) := by
  refine (congrFun (dbx_arr (rd (W2 m)) c (states m c)) (ix2 0 l)).trans ?_
  rw [← colV_bwd]
  rfl

theorem out5 (l : Fin 1280) : (bwdOut m 15 c : Vec Ideal S1x1280 .f32) (ix2 0 l)
    = (∑ t ∈ Finset.range 33, (0 - sgK (0 - (colM m c l).lam)) * ∑ q ∈ Finset.range 256, (colM m c l).dl (256 * (32 - t) + q) : EReal) := by
  refine (congrFun (dlam_arr (rd (W2 m)) c (states m c)) (ix2 0 l)).trans ?_
  rw [← colV_bwd]
  rfl

end Cert.KernelIdeal.RG

end
-- ==== Proof.RefLoop.lean ====
module

public import proofs.«01_k».proof.Proof.RefRun
public import proofs.«01_k».proof.Proof.Scal
public import Idealize.ShloMosaic.Lib.Pointwise

@[expose] public section

set_option maxRecDepth 16384

noncomputable section

namespace Cert.ReferenceIdeal.RG

open Cert.ReferenceIdeal Cert.Col
open Facts₀ Facts
open Idealize.ShloMosaic Idealize.ShloMosaic.TcCoe Idealize.ShloMosaic.StableHlo

variable (V : Valuation τ sig (Elt Ideal))

/-- Where a row's window starts. -/
def start (w : Vec Ideal S_ .i32) : Fin 2 → Int :=
  fun k => BitVec.toInt ((![w, constantI S_ 32 0#32] : Fin 2 → Vec Ideal S_ .i32) k (Shape.Idx.first h_S_))

/-- The row a number names. -/
def rowAt (x : Vec Ideal S8208x1280 .f32) (w : Vec Ideal S_ .i32) : Vec Ideal S1280 .f32 :=
  shapeCast S1280 (Host.dynamicSlice S1x1280 x (start w) sliceFits_S8208x1280_S1x1280) shapeCasts_S1x1280_S1280

/-- An array with the row a number names replaced. -/
def putRow (x : Vec Ideal S8208x1280 .f32) (r : Vec Ideal S1280 .f32) (w : Vec Ideal S_ .i32) : Vec Ideal S8208x1280 .f32 :=
  Host.dynamicUpdateSlice x (broadcastInDim S1x1280 ![1] bcast_S1280_S1x1280_1 r) (start w) updateFits_S8208x1280_S1x1280

/-- The sum and the product of two rows. -/
def addR (x y : Vec Ideal S1280 .f32) : Vec Ideal S1280 .f32 := fun i => ((x i : EReal) + (y i : EReal) : EReal)
def mulR (x y : Vec Ideal S1280 .f32) : Vec Ideal S1280 .f32 := fun i => ((x i : EReal) * (y i : EReal) : EReal)

theorem b0_3 : after body0 V (Proc.devRef .tc main_v50_3)
    = addR (mulR (rowAt (V (Proc.devRef .tc main_v50_0)) (V (Proc.devRef .tc main_v50_2))) (V (Proc.devRef .tc main_v50_3) : Vec Ideal S1280 .f32))
        (rowAt (V (Proc.devRef .tc main_v50_1)) (V (Proc.devRef .tc main_v50_2))) := by
  after_results_simp_entrywise
  simp only [TRef.ofBuf_toBuf]
  rfl

theorem b0_4 : after body0 V (Proc.devRef .tc main_v50_4)
    = putRow (V (Proc.devRef .tc main_v50_4))
        (addR (mulR (rowAt (V (Proc.devRef .tc main_v50_0)) (V (Proc.devRef .tc main_v50_2))) (V (Proc.devRef .tc main_v50_3) : Vec Ideal S1280 .f32))
          (rowAt (V (Proc.devRef .tc main_v50_1)) (V (Proc.devRef .tc main_v50_2)))) (V (Proc.devRef .tc main_v50_2)) := by
  after_results_simp_entrywise
  simp only [TRef.ofBuf_toBuf]
  rfl

theorem b0_5 : after body0 V (Proc.devRef .tc main_v50_5)
    = putRow (V (Proc.devRef .tc main_v50_5)) (V (Proc.devRef .tc main_v50_3) : Vec Ideal S1280 .f32) (V (Proc.devRef .tc main_v50_2)) := by
  after_results_simp_entrywise
  simp only [TRef.ofBuf_toBuf]
  rfl

/-- The row the second loop's trip reads, counted from the last. -/
def back (w : Vec Ideal S_ .i32) : Vec Ideal S_ .i32 := subi (subi (constantI S_ 32 8208#32) w) (constantI S_ 32 1#32)

theorem b1_4 : after body1 V (Proc.devRef .tc main_v97_4)
    = mulR (rowAt (V (Proc.devRef .tc main_v97_2)) (back (V (Proc.devRef .tc main_v97_3))))
        (addR (V (Proc.devRef .tc main_v97_4) : Vec Ideal S1280 .f32) (rowAt (V (Proc.devRef .tc main_v97_0)) (back (V (Proc.devRef .tc main_v97_3))))) := by
  after_results_simp_entrywise
  simp only [TRef.ofBuf_toBuf]
  rfl

set_option maxHeartbeats 4000000 in
theorem b1_5 : after body1 V (Proc.devRef .tc main_v97_5)
    = putRow (V (Proc.devRef .tc main_v97_5))
        (mulR (addR (V (Proc.devRef .tc main_v97_4) : Vec Ideal S1280 .f32) (rowAt (V (Proc.devRef .tc main_v97_0)) (back (V (Proc.devRef .tc main_v97_3)))))
          (rowAt (V (Proc.devRef .tc main_v97_1)) (back (V (Proc.devRef .tc main_v97_3)))))
        (back (V (Proc.devRef .tc main_v97_3))) := by
  after_results_simp_entrywise
  simp only [TRef.ofBuf_toBuf]
  rfl

set_option maxHeartbeats 4000000 in
theorem b1_6 : after body1 V (Proc.devRef .tc main_v97_6)
    = putRow (V (Proc.devRef .tc main_v97_6))
        (addR (V (Proc.devRef .tc main_v97_4) : Vec Ideal S1280 .f32) (rowAt (V (Proc.devRef .tc main_v97_0)) (back (V (Proc.devRef .tc main_v97_3)))))
        (back (V (Proc.devRef .tc main_v97_3))) := by
  after_results_simp_entrywise
  simp only [TRef.ofBuf_toBuf]
  rfl

theorem rowAt_apply (x : Vec Ideal S8208x1280 .f32) (w : Vec Ideal S_ .i32) (k : ℕ) (hk : k < 8208)
    (hw : (w (Shape.Idx.first h_S_)).toInt = k) (l : Fin 1280) : rowAt x w (ix1 l) = x (ix2 ⟨k, hk⟩ l) := by
  have e0 : Host.clampedStart S8208x1280 S1x1280 rfl (start w) 0 = k :=
    Host.clampedStart_of_le (s := S8208x1280) (t := S1x1280) rfl _ 0 k hw (by show k + 1 ≤ 8208; omega)
  have e1 : Host.clampedStart S8208x1280 S1x1280 rfl (start w) 1 = 0 :=
    Host.clampedStart_of_le (s := S8208x1280) (t := S1x1280) rfl _ 1 0 rfl (by show 0 + 1280 ≤ 1280; omega)
  unfold rowAt
  generalize start w = st at e0 e1 ⊢
  pointwise
  refine congrArg x (congr (congrArg _ (Fin.ext e0)) (Fin.ext ?_))
  show Host.clampedStart S8208x1280 S1x1280 _ st 1 + l.val = l.val
  omega

theorem putRow_apply (x : Vec Ideal S8208x1280 .f32) (r : Vec Ideal S1280 .f32) (w : Vec Ideal S_ .i32) (k : ℕ) (hk : k < 8208)
    (hw : (w (Shape.Idx.first h_S_)).toInt = k) (n : Fin 8208) (l : Fin 1280) :
    putRow x r w (ix2 n l) = if n.val = k then r (ix1 l) else x (ix2 n l) := by
  have e0 : Host.clampedStart S8208x1280 S1x1280 rfl (start w) 0 = k :=
    Host.clampedStart_of_le (s := S8208x1280) (t := S1x1280) rfl _ 0 k hw (by show k + 1 ≤ 8208; omega)
  have e1 : Host.clampedStart S8208x1280 S1x1280 rfl (start w) 1 = 0 :=
    Host.clampedStart_of_le (s := S8208x1280) (t := S1x1280) rfl _ 1 0 rfl (by show 0 + 1280 ≤ 1280; omega)
  unfold putRow
  generalize start w = st at e0 e1 ⊢
  pointwise
  by_cases h : n.val = k
  · rw [if_pos h, dif_pos (by omega)]
    refine congrArg r (congrArg _ (Fin.ext ?_))
    show l.val - Host.clampedStart S8208x1280 S1x1280 _ st 1 = l.val
    omega
  · rw [if_neg h, dif_neg (by omega)]

/-- A loop's counter at a trip. -/
def cnt (k : ℕ) : Vec Ideal S_ .i32 := fun _ => Scf.iv 0#32 1#32 k

/-- A counter's word as a number. -/
theorem iv_toInt (k : ℕ) (hk : k < 8208) : (Scf.iv 0#32 1#32 k).toInt = k := by
  rw [Scf.iv_eq_ofInt, BitVec.toInt_ofInt]
  show ((0 : ℤ) + k * 1).bmod (2 ^ 32) = k
  rw [Int.bmod_def]
  omega

theorem back_iv (k : ℕ) (hk : k < 8208) :
    ((back (cnt k)) (Shape.Idx.first h_S_)).toInt = ((8207 - k : ℕ) : ℤ) := by
  show ((8208#32 - Scf.iv 0#32 1#32 k) - 1#32 : BitVec 32).toInt = _
  rw [BitVec.toInt_sub, BitVec.toInt_sub, iv_toInt k hk]
  show ((((8208 : ℤ) - k).bmod (2 ^ 32)) - 1).bmod (2 ^ 32) = _
  rw [Int.bmod_def, Int.bmod_def]
  omega

/-- A column of an array, zero past its end. -/
def rowN (x : Vec Ideal S8208x1280 .f32) (l : Fin 1280) (n : ℕ) : EReal := if h : n < 8208 then x (ix2 ⟨n, h⟩ l) else 0

theorem rowN_of_lt (x : Vec Ideal S8208x1280 .f32) (l : Fin 1280) (n : ℕ) (h : n < 8208) : rowN x l n = x (ix2 ⟨n, h⟩ l) := dif_pos h

variable (m : (ℓ : Loc nD τ sig) → Buf (Elt Ideal) ℓ) (c : Dev nD) (l : Fin 1280)

/-- What the loops do not write they keep. -/
theorem T0_keep {r : Ref sig .tc} (h0 : r ∉ cond0_W) (h1 : r ∉ body0_W) : ∀ k, T0 m k c (Proc.devRef .tc r) = X0 m c (Proc.devRef .tc r)
  | 0 => by rw [T0_zero]
  | k + 1 => by
    rw [T0_succ, after_of_writes_sub body0 _ body0_writes h1, after_of_writes_sub cond0 _ cond0_writes h0, T0_keep h0 h1 k]

theorem T1_keep {r : Ref sig .tc} (h0 : r ∉ cond1_W) (h1 : r ∉ body1_W) : ∀ k, T1 m k c (Proc.devRef .tc r) = X2 m c (Proc.devRef .tc r)
  | 0 => by rw [T1_zero]
  | k + 1 => by
    rw [T1_succ, after_of_writes_sub body1 _ body1_writes h1, after_of_writes_sub cond1 _ cond1_writes h0, T1_keep h0 h1 k]

/-- The first loop's decay and input, by row. -/
def A0 : ℕ → EReal := rowN (X0 m c (Proc.devRef .tc main_v50_0)) l
def U0 : ℕ → EReal := rowN (X0 m c (Proc.devRef .tc main_v50_1)) l

/-- The first loop's carry is the recurrence. -/
theorem carry0 (h0 : (X0 m c (Proc.devRef .tc main_v50_3) : Vec Ideal S1280 .f32) (ix1 l) = (0 : EReal)) : ∀ k, k ≤ 8208 →
    (T0 m k c (Proc.devRef .tc main_v50_3) : Vec Ideal S1280 .f32) (ix1 l) = scan (A0 m c l) (U0 m c l) 0 k
  | 0, _ => by rw [T0_zero, h0]; rfl
  | k + 1, hk => by
    have hc : after cond0 (T0 m k c) (Proc.devRef .tc main_v50_2) = fun _ => Scf.iv 0#32 1#32 k := by
      rw [after_of_writes_sub cond0 _ cond0_writes (by decide)]; exact ctr0 m c k
    rw [T0_succ, b0_3, hc]
    show ((rowAt _ _ (ix1 l) : EReal) * _ + rowAt _ _ (ix1 l) : EReal) = _
    rw [rowAt_apply _ _ k (by omega) (iv_toInt k (by omega)), rowAt_apply _ _ k (by omega) (iv_toInt k (by omega)),
      after_of_writes_sub cond0 _ cond0_writes (by decide), after_of_writes_sub cond0 _ cond0_writes (by decide),
      after_of_writes_sub cond0 _ cond0_writes (by decide), carry0 h0 k (by omega), T0_keep m c (by decide) (by decide),
      T0_keep m c (by decide) (by decide)]
    show _ = A0 m c l k * _ + U0 m c l k
    unfold A0 U0
    rw [rowN_of_lt _ _ _ (by omega : k < 8208), rowN_of_lt _ _ _ (by omega : k < 8208)]

theorem out0_4 (h0 : (X0 m c (Proc.devRef .tc main_v50_3) : Vec Ideal S1280 .f32) (ix1 l) = (0 : EReal)) (n : Fin 8208) : ∀ k, k ≤ 8208 → n.val < k →
    (T0 m k c (Proc.devRef .tc main_v50_4) : Vec Ideal S8208x1280 .f32) (ix2 n l) = scan (A0 m c l) (U0 m c l) 0 (n.val + 1)
  | 0, _, h => absurd h (Nat.not_lt_zero _)
  | k + 1, hk, h => by
    have hc : after cond0 (T0 m k c) (Proc.devRef .tc main_v50_2) = fun _ => Scf.iv 0#32 1#32 k := by
      rw [after_of_writes_sub cond0 _ cond0_writes (by decide)]; exact ctr0 m c k
    have e3 := carry0 m c l h0 (k + 1) hk
    rw [T0_succ, b0_3] at e3
    rw [T0_succ, b0_4, hc, putRow_apply _ _ _ k (by omega) (iv_toInt k (by omega))]
    rw [hc] at e3
    by_cases hn : n.val = k
    · rw [if_pos hn, e3, hn]
    · rw [if_neg hn, after_of_writes_sub cond0 _ cond0_writes (by decide)]
      exact out0_4 h0 n k (by omega) (by omega)

theorem out0_5 (h0 : (X0 m c (Proc.devRef .tc main_v50_3) : Vec Ideal S1280 .f32) (ix1 l) = (0 : EReal)) (n : Fin 8208) : ∀ k, k ≤ 8208 → n.val < k →
    (T0 m k c (Proc.devRef .tc main_v50_5) : Vec Ideal S8208x1280 .f32) (ix2 n l) = scan (A0 m c l) (U0 m c l) 0 n.val
  | 0, _, h => absurd h (Nat.not_lt_zero _)
  | k + 1, hk, h => by
    have hc : after cond0 (T0 m k c) (Proc.devRef .tc main_v50_2) = fun _ => Scf.iv 0#32 1#32 k := by
      rw [after_of_writes_sub cond0 _ cond0_writes (by decide)]; exact ctr0 m c k
    rw [T0_succ, b0_5, hc, putRow_apply _ _ _ k (by omega) (iv_toInt k (by omega))]
    by_cases hn : n.val = k
    · rw [if_pos hn, after_of_writes_sub cond0 _ cond0_writes (by decide), carry0 m c l h0 k (by omega), hn]
    · rw [if_neg hn, after_of_writes_sub cond0 _ cond0_writes (by decide)]
      exact out0_5 h0 n k (by omega) (by omega)

/-- The second loop's decay and what it adds, counted from the last row. -/
def A1 : ℕ → EReal := fun j => rowN (X2 m c (Proc.devRef .tc main_v97_2)) l (8207 - j)
def D1 : ℕ → EReal := fun j => rowN (X2 m c (Proc.devRef .tc main_v97_0)) l (8207 - j)

/-- What the second loop's trip finds the row's gradient to be. -/
theorem grad1 (k : ℕ) (hk : k < 8208) (b : EReal)
    (hb : (T1 m k c (Proc.devRef .tc main_v97_4) : Vec Ideal S1280 .f32) (ix1 l) = b) :
    addR (after cond1 (T1 m k c) (Proc.devRef .tc main_v97_4) : Vec Ideal S1280 .f32)
        (rowAt (after cond1 (T1 m k c) (Proc.devRef .tc main_v97_0)) (back (cnt k))) (ix1 l)
      = D1 m c l k + b := by
  show ((_ : EReal) + rowAt _ _ (ix1 l) : EReal) = _
  rw [rowAt_apply _ _ (8207 - k) (by omega) (back_iv k hk),
      after_of_writes_sub cond1 _ cond1_writes (by decide), after_of_writes_sub cond1 _ cond1_writes (by decide),
      hb, T1_keep m c (by decide) (by decide), add_comm]
  unfold D1
  rw [rowN_of_lt _ _ _ (by omega : 8207 - k < 8208)]

theorem hc1 (k : ℕ) : after cond1 (T1 m k c) (Proc.devRef .tc main_v97_3) = cnt k := by
  rw [after_of_writes_sub cond1 _ cond1_writes (by decide)]; exact ctr1 m c k

/-- The second loop's carry is the backward recurrence. -/
theorem carry1 (h0 : (X2 m c (Proc.devRef .tc main_v97_4) : Vec Ideal S1280 .f32) (ix1 l) = (0 : EReal)) : ∀ k, k ≤ 8208 →
    (T1 m k c (Proc.devRef .tc main_v97_4) : Vec Ideal S1280 .f32) (ix1 l) = bscan (A1 m c l) (D1 m c l) 0 k
  | 0, _ => by rw [T1_zero, h0]; rfl
  | k + 1, hk => by
    rw [T1_succ, b1_4, hc1]
    show ((rowAt _ _ (ix1 l) : EReal) * addR _ _ (ix1 l) : EReal) = _
    rw [grad1 m c l k (by omega) _ (carry1 h0 k (by omega)), rowAt_apply _ _ (8207 - k) (by omega) (back_iv k (by omega)),
      after_of_writes_sub cond1 _ cond1_writes (by decide), T1_keep m c (by decide) (by decide)]
    show _ = A1 m c l k * (D1 m c l k + _)
    unfold A1
    rw [rowN_of_lt _ _ _ (by omega : 8207 - k < 8208)]

theorem out1_6 (h0 : (X2 m c (Proc.devRef .tc main_v97_4) : Vec Ideal S1280 .f32) (ix1 l) = (0 : EReal)) (n : Fin 8208) : ∀ k, k ≤ 8208 → 8208 - k ≤ n.val →
    (T1 m k c (Proc.devRef .tc main_v97_6) : Vec Ideal S8208x1280 .f32) (ix2 n l)
      = D1 m c l (8207 - n.val) + bscan (A1 m c l) (D1 m c l) 0 (8207 - n.val)
  | 0, _, h => absurd n.isLt (by omega)
  | k + 1, hk, h => by
    rw [T1_succ, b1_6, hc1, putRow_apply _ _ _ (8207 - k) (by omega) (back_iv k (by omega))]
    by_cases hn : n.val = 8207 - k
    · have hk' : 8207 - n.val = k := by omega
      rw [if_pos hn, grad1 m c l k (by omega) _ (carry1 m c l h0 k (by omega)), hk']
    · rw [if_neg hn, after_of_writes_sub cond1 _ cond1_writes (by decide)]
      exact out1_6 h0 n k (by omega) (by omega)

theorem out1_5 (h0 : (X2 m c (Proc.devRef .tc main_v97_4) : Vec Ideal S1280 .f32) (ix1 l) = (0 : EReal)) (n : Fin 8208) : ∀ k, k ≤ 8208 → 8208 - k ≤ n.val →
    (T1 m k c (Proc.devRef .tc main_v97_5) : Vec Ideal S8208x1280 .f32) (ix2 n l)
      = (D1 m c l (8207 - n.val) + bscan (A1 m c l) (D1 m c l) 0 (8207 - n.val))
        * (X2 m c (Proc.devRef .tc main_v97_1) : Vec Ideal S8208x1280 .f32) (ix2 n l)
  | 0, _, h => absurd n.isLt (by omega)
  | k + 1, hk, h => by
    rw [T1_succ, b1_5, hc1, putRow_apply _ _ _ (8207 - k) (by omega) (back_iv k (by omega))]
    by_cases hn : n.val = 8207 - k
    · have hk' : 8207 - n.val = k := by omega
      have hn' : n = ⟨8207 - k, by omega⟩ := Fin.ext hn
      rw [if_pos hn, hk']
      show (addR _ _ (ix1 l) * (rowAt _ _ (ix1 l) : EReal) : EReal) = _
      rw [grad1 m c l k (by omega) _ (carry1 m c l h0 k (by omega)), rowAt_apply _ _ (8207 - k) (by omega) (back_iv k (by omega)),
        after_of_writes_sub cond1 _ cond1_writes (by decide), T1_keep m c (by decide) (by decide), ← hn']
    · rw [if_neg hn, after_of_writes_sub cond1 _ cond1_writes (by decide)]
      exact out1_5 h0 n k (by omega) (by omega)

end Cert.ReferenceIdeal.RG

end
-- ==== Proof.RefStr.lean ====
/-
What each stretch of the reference writes, read at one row and column of what it reads.
-/
module

public import proofs.«01_k».proof.Proof.RefRun
public import proofs.«01_k».proof.Proof.RefSc
public import Idealize.ShloMosaic.Lib.Pointwise

@[expose] public section

set_option maxRecDepth 16384

noncomputable section

namespace Cert.ReferenceIdeal.RG

open Cert.ReferenceIdeal Cert.Col
open Facts₀ Facts
open Idealize.ShloMosaic Idealize.ShloMosaic.TcCoe Idealize.ShloMosaic.StableHlo

variable (V : Valuation τ sig (Elt Ideal)) (n : Fin 8208) (l : Fin 1280)

theorem st_v1
    (y_arg1 : EReal) (h_arg1 : V (Proc.devRef .tc main_arg1) (ix2 ⟨240 + n.val, by omega⟩ ⟨l.val, by omega⟩) = y_arg1) :
    (after ops0_0 V (Proc.devRef .tc main_v1) : Vec Ideal S8208x1280 .f32) (ix2 n l) = (y_arg1 : EReal) := by
  after_results_simp_entrywise
  try simp only [TRef.ofBuf_toBuf]
  try dsimp only [id]
  try unfold sgR
  try unfold cubR
  try unfold c0K
  pointwise
  try simp only [h_arg1]

theorem st_v3
    (y_gi : EReal) (h_arg1 : V (Proc.devRef .tc main_arg1) (ix2 ⟨240 + n.val, by omega⟩ ⟨1280 + l.val, by omega⟩) = y_gi) :
    (after ops0_0 V (Proc.devRef .tc main_v3) : Vec Ideal S8208x1280 .f32) (ix2 n l) = (y_gi : EReal) := by
  after_results_simp_entrywise
  try simp only [TRef.ofBuf_toBuf]
  try dsimp only [id]
  try unfold sgR
  try unfold cubR
  try unfold c0K
  pointwise
  try simp only [h_arg1]

theorem st_v5
    (y_arg2 : EReal) (h_arg2 : V (Proc.devRef .tc main_arg2) (ix2 ⟨240 + n.val, by omega⟩ l) = y_arg2) :
    (after ops0_0 V (Proc.devRef .tc main_v5) : Vec Ideal S8208x1280 .f32) (ix2 n l) = (y_arg2 : EReal) := by
  after_results_simp_entrywise
  try simp only [TRef.ofBuf_toBuf]
  try dsimp only [id]
  try unfold sgR
  try unfold cubR
  try unfold c0K
  pointwise
  try simp only [h_arg2]

theorem st_v7
    (y_arg3 : EReal) (h_arg3 : V (Proc.devRef .tc main_arg3) (ix2 ⟨240 + n.val, by omega⟩ ⟨7680 + l.val, by omega⟩) = y_arg3) :
    (after ops0_0 V (Proc.devRef .tc main_v7) : Vec Ideal S8208x1280 .f32) (ix2 n l) = (y_arg3 : EReal) := by
  after_results_simp_entrywise
  try simp only [TRef.ofBuf_toBuf]
  try dsimp only [id]
  try unfold sgR
  try unfold cubR
  try unfold c0K
  pointwise
  try simp only [h_arg3]

theorem st_v15
    (y_v1 : EReal) (h_v1 : V (Proc.devRef .tc main_v1) (ix2 n l) = y_v1)
    (y_arg4 : EReal) (h_arg4 : V (Proc.devRef .tc main_arg4) (ix2 0 l) = y_arg4) :
    (after ops0_1 V (Proc.devRef .tc main_v15) : Vec Ideal S8208x1280 .f32) (ix2 n l) = (sgR (y_v1 + y_arg4) : EReal) := by
  after_results_simp_entrywise
  try simp only [TRef.ofBuf_toBuf]
  try dsimp only [id]
  try unfold sgR
  try unfold cubR
  try unfold c0K
  pointwise
  try simp only [h_v1, h_arg4]

theorem st_v18
    (y_v1 : EReal) (h_v1 : V (Proc.devRef .tc main_v1) (ix2 n l) = y_v1)
    (y_arg4 : EReal) (h_arg4 : V (Proc.devRef .tc main_arg4) (ix2 0 l) = y_arg4) :
    (after ops0_1 V (Proc.devRef .tc main_v18) : Vec Ideal S8208x1280 .f32) (ix2 n l) = (sgR (y_v1 + y_arg4) * (1 - sgR (y_v1 + y_arg4)) : EReal) := by
  after_results_simp_entrywise
  try simp only [TRef.ofBuf_toBuf]
  try dsimp only [id]
  try unfold sgR
  try unfold cubR
  try unfold c0K
  pointwise
  try simp only [h_v1, h_arg4]

theorem st_v26
    (y_v3 : EReal) (h_v3 : V (Proc.devRef .tc main_v3) (ix2 n l) = y_v3)
    (y_arg5 : EReal) (h_arg5 : V (Proc.devRef .tc main_arg5) (ix2 0 l) = y_arg5) :
    (after ops0_2 V (Proc.devRef .tc main_v26) : Vec Ideal S8208x1280 .f32) (ix2 n l) = (sgR (y_v3 + y_arg5) : EReal) := by
  after_results_simp_entrywise
  try simp only [TRef.ofBuf_toBuf]
  try dsimp only [id]
  try unfold sgR
  try unfold cubR
  try unfold c0K
  pointwise
  try simp only [h_v3, h_arg5]

theorem st_v29
    (y_v3 : EReal) (h_v3 : V (Proc.devRef .tc main_v3) (ix2 n l) = y_v3)
    (y_arg5 : EReal) (h_arg5 : V (Proc.devRef .tc main_arg5) (ix2 0 l) = y_arg5) :
    (after ops0_2 V (Proc.devRef .tc main_v29) : Vec Ideal S8208x1280 .f32) (ix2 n l) = (sgR (y_v3 + y_arg5) * (1 - sgR (y_v3 + y_arg5)) : EReal) := by
  after_results_simp_entrywise
  try simp only [TRef.ofBuf_toBuf]
  try dsimp only [id]
  try unfold sgR
  try unfold cubR
  try unfold c0K
  pointwise
  try simp only [h_v3, h_arg5]

theorem st_v31
    (y_v15 : EReal) (h_v15 : V (Proc.devRef .tc main_v15) (ix2 n l) = y_v15) :
    (after ops0_3 V (Proc.devRef .tc main_v31) : Vec Ideal S8208x1280 .f32) (ix2 n l) = (Ideal.ofBits FTy.f32 3238002688#32 * y_v15 : EReal) := by
  after_results_simp_entrywise
  try simp only [TRef.ofBuf_toBuf]
  try dsimp only [id]
  try unfold sgR
  try unfold cubR
  try unfold c0K
  pointwise
  try simp only [h_v15]

theorem st_v32
    (y_arg6 : EReal) (h_arg6 : V (Proc.devRef .tc main_arg6) (ix2 0 l) = y_arg6) :
    (after ops0_3 V (Proc.devRef .tc main_v32) : Vec Ideal S1x1280 .f32) (ix2 0 l) = (-y_arg6 : EReal) := by
  after_results_simp_entrywise
  try simp only [TRef.ofBuf_toBuf]
  try dsimp only [id]
  try unfold sgR
  try unfold cubR
  try unfold c0K
  pointwise
  try simp only [h_arg6]

theorem st_v36
    (y_v31 : EReal) (h_v31 : V (Proc.devRef .tc main_v31) (ix2 n l) = y_v31)
    (y_v33_0 : EReal) (h_v33_0 : V (Proc.devRef .tc main_v33_0) (ix2 0 l) = y_v33_0) :
    (after ops0_5 V (Proc.devRef .tc main_v36) : Vec Ideal S8208x1280 .f32) (ix2 n l) = (Ideal.exp (y_v31 * y_v33_0) : EReal) := by
  after_results_simp_entrywise
  try simp only [TRef.ofBuf_toBuf]
  try dsimp only [id]
  try unfold sgR
  try unfold cubR
  try unfold c0K
  pointwise
  try simp only [h_v31, h_v33_0]

theorem st_v40
    (y_v31 : EReal) (h_v31 : V (Proc.devRef .tc main_v31) (ix2 n l) = y_v31)
    (y_v33_0 : EReal) (h_v33_0 : V (Proc.devRef .tc main_v33_0) (ix2 0 l) = y_v33_0) :
    (after ops0_5 V (Proc.devRef .tc main_v40) : Vec Ideal S8208x1280 .f32) (ix2 n l) = (Ideal.exp (Ideal.ofBits FTy.f32 1073741824#32 * (y_v31 * y_v33_0)) : EReal) := by
  after_results_simp_entrywise
  try simp only [TRef.ofBuf_toBuf]
  try dsimp only [id]
  try unfold sgR
  try unfold cubR
  try unfold c0K
  pointwise
  try simp only [h_v31, h_v33_0]

theorem st_v42
    (y_v31 : EReal) (h_v31 : V (Proc.devRef .tc main_v31) (ix2 n l) = y_v31)
    (y_v33_0 : EReal) (h_v33_0 : V (Proc.devRef .tc main_v33_0) (ix2 0 l) = y_v33_0) :
    (after ops0_5 V (Proc.devRef .tc main_v42) : Vec Ideal S8208x1280 .f32) (ix2 n l) = (Ideal.sqrt (-(Ideal.exp (Ideal.ofBits FTy.f32 1073741824#32 * (y_v31 * y_v33_0)) - 1)) : EReal) := by
  after_results_simp_entrywise
  try simp only [TRef.ofBuf_toBuf]
  try dsimp only [id]
  try unfold sgR
  try unfold cubR
  try unfold c0K
  pointwise
  try simp only [h_v31, h_v33_0]

theorem st_v44
    (y_v31 : EReal) (h_v31 : V (Proc.devRef .tc main_v31) (ix2 n l) = y_v31)
    (y_v33_0 : EReal) (h_v33_0 : V (Proc.devRef .tc main_v33_0) (ix2 0 l) = y_v33_0) :
    (after ops0_5 V (Proc.devRef .tc main_v44) : Vec Ideal S8208x1280 .f32) (ix2 n l) = (Ideal.div (Ideal.ofBits FTy.f32 1056964608#32) (Ideal.sqrt (-(Ideal.exp (Ideal.ofBits FTy.f32 1073741824#32 * (y_v31 * y_v33_0)) - 1))) : EReal) := by
  after_results_simp_entrywise
  try simp only [TRef.ofBuf_toBuf]
  try dsimp only [id]
  try unfold sgR
  try unfold cubR
  try unfold c0K
  pointwise
  try simp only [h_v31, h_v33_0]

theorem st_v45
    (y_v26 : EReal) (h_v26 : V (Proc.devRef .tc main_v26) (ix2 n l) = y_v26)
    (y_v5 : EReal) (h_v5 : V (Proc.devRef .tc main_v5) (ix2 n l) = y_v5) :
    (after ops0_5 V (Proc.devRef .tc main_v45) : Vec Ideal S8208x1280 .f32) (ix2 n l) = (y_v26 * y_v5 : EReal) := by
  after_results_simp_entrywise
  try simp only [TRef.ofBuf_toBuf]
  try dsimp only [id]
  try unfold sgR
  try unfold cubR
  try unfold c0K
  pointwise
  try simp only [h_v26, h_v5]

theorem st_v46
    (y_v31 : EReal) (h_v31 : V (Proc.devRef .tc main_v31) (ix2 n l) = y_v31)
    (y_v33_0 : EReal) (h_v33_0 : V (Proc.devRef .tc main_v33_0) (ix2 0 l) = y_v33_0)
    (y_v26 : EReal) (h_v26 : V (Proc.devRef .tc main_v26) (ix2 n l) = y_v26)
    (y_v5 : EReal) (h_v5 : V (Proc.devRef .tc main_v5) (ix2 n l) = y_v5) :
    (after ops0_5 V (Proc.devRef .tc main_v46) : Vec Ideal S8208x1280 .f32) (ix2 n l) = (Ideal.sqrt (-(Ideal.exp (Ideal.ofBits FTy.f32 1073741824#32 * (y_v31 * y_v33_0)) - 1)) * (y_v26 * y_v5) : EReal) := by
  after_results_simp_entrywise
  try simp only [TRef.ofBuf_toBuf]
  try dsimp only [id]
  try unfold sgR
  try unfold cubR
  try unfold c0K
  pointwise
  try simp only [h_v31, h_v33_0, h_v26, h_v5]

theorem st_v50_0
    (y_v36 : EReal) (h_v36 : V (Proc.devRef .tc main_v36) (ix2 n l) = y_v36) :
    (after ops0_6 V (Proc.devRef .tc main_v50_0) : Vec Ideal S8208x1280 .f32) (ix2 n l) = (y_v36 : EReal) := by
  after_results_simp_entrywise
  try simp only [TRef.ofBuf_toBuf]
  try dsimp only [id]
  try unfold sgR
  try unfold cubR
  try unfold c0K
  pointwise
  try simp only [h_v36]

theorem st_v50_1
    (y_v46 : EReal) (h_v46 : V (Proc.devRef .tc main_v46) (ix2 n l) = y_v46) :
    (after ops0_6 V (Proc.devRef .tc main_v50_1) : Vec Ideal S8208x1280 .f32) (ix2 n l) = (y_v46 : EReal) := by
  after_results_simp_entrywise
  try simp only [TRef.ofBuf_toBuf]
  try dsimp only [id]
  try unfold sgR
  try unfold cubR
  try unfold c0K
  pointwise
  try simp only [h_v46]

theorem st_v50_3 :
    (after ops0_6 V (Proc.devRef .tc main_v50_3) : Vec Ideal S1280 .f32) (ix1 l) = ((0 : EReal) : EReal) := by
  after_results_simp_entrywise
  try simp only [TRef.ofBuf_toBuf]
  try dsimp only [id]
  try unfold sgR
  try unfold cubR
  try unfold c0K
  pointwise

theorem st_v55
    (y_v7 : EReal) (h_v7 : V (Proc.devRef .tc main_v7) (ix2 n l) = y_v7) :
    (after ops1_0 V (Proc.devRef .tc main_v55) : Vec Ideal S8208x1280 .f32) (ix2 n l) = (Ideal.ofBits FTy.f32 1077936128#32 * (y_v7 * y_v7) : EReal) := by
  after_results_simp_entrywise
  try simp only [TRef.ofBuf_toBuf]
  try dsimp only [id]
  try unfold sgR
  try unfold cubR
  try unfold c0K
  pointwise
  try simp only [h_v7]

theorem st_v60
    (y_v7 : EReal) (h_v7 : V (Proc.devRef .tc main_v7) (ix2 n l) = y_v7) :
    (after ops1_0 V (Proc.devRef .tc main_v60) : Vec Ideal S8208x1280 .f32) (ix2 n l) = (cubR y_v7 : EReal) := by
  after_results_simp_entrywise
  try simp only [TRef.ofBuf_toBuf]
  try dsimp only [id]
  try unfold sgR
  try unfold cubR
  try unfold c0K
  pointwise
  try simp only [h_v7]

theorem st_v68
    (y_v60 : EReal) (h_v60 : V (Proc.devRef .tc main_v60) (ix2 n l) = y_v60) :
    (after ops1_1 V (Proc.devRef .tc main_v68) : Vec Ideal S8208x1280 .f32) (ix2 n l) = ((1 + Ideal.tanh (c0K * y_v60)) * (1 - Ideal.tanh (c0K * y_v60)) : EReal) := by
  after_results_simp_entrywise
  try simp only [TRef.ofBuf_toBuf]
  try dsimp only [id]
  try unfold sgR
  try unfold cubR
  try unfold c0K
  pointwise
  try simp only [h_v60]

theorem st_v72
    (y_v60 : EReal) (h_v60 : V (Proc.devRef .tc main_v60) (ix2 n l) = y_v60) :
    (after ops1_1 V (Proc.devRef .tc main_v72) : Vec Ideal S8208x1280 .f32) (ix2 n l) = (Ideal.ofBits FTy.f32 1056964608#32 * (1 + Ideal.tanh (c0K * y_v60)) : EReal) := by
  after_results_simp_entrywise
  try simp only [TRef.ofBuf_toBuf]
  try dsimp only [id]
  try unfold sgR
  try unfold cubR
  try unfold c0K
  pointwise
  try simp only [h_v60]

theorem st_v73
    (y_v7 : EReal) (h_v7 : V (Proc.devRef .tc main_v7) (ix2 n l) = y_v7)
    (y_v60 : EReal) (h_v60 : V (Proc.devRef .tc main_v60) (ix2 n l) = y_v60) :
    (after ops1_1 V (Proc.devRef .tc main_v73) : Vec Ideal S8208x1280 .f32) (ix2 n l) = (y_v7 * (Ideal.ofBits FTy.f32 1056964608#32 * (1 + Ideal.tanh (c0K * y_v60))) : EReal) := by
  after_results_simp_entrywise
  try simp only [TRef.ofBuf_toBuf]
  try dsimp only [id]
  try unfold sgR
  try unfold cubR
  try unfold c0K
  pointwise
  try simp only [h_v7, h_v60]

theorem st_v79
    (y_arg0 : EReal) (h_arg0 : V (Proc.devRef .tc main_arg0) (ix2 ⟨240 + n.val, by omega⟩ l) = y_arg0)
    (y_v73 : EReal) (h_v73 : V (Proc.devRef .tc main_v73) (ix2 n l) = y_v73) :
    (after ops1_2 V (Proc.devRef .tc main_v79) : Vec Ideal S8208x1280 .f32) (ix2 n l) = (y_arg0 * y_v73 : EReal) := by
  after_results_simp_entrywise
  try simp only [TRef.ofBuf_toBuf]
  try dsimp only [id]
  try unfold sgR
  try unfold cubR
  try unfold c0K
  pointwise
  try simp only [h_arg0, h_v73]

theorem st_v93
    (y_v50_4 : EReal) (h_v50_4 : V (Proc.devRef .tc main_v50_4) (ix2 n l) = y_v50_4)
    (y_arg0 : EReal) (h_arg0 : V (Proc.devRef .tc main_arg0) (ix2 ⟨240 + n.val, by omega⟩ l) = y_arg0)
    (y_v72 : EReal) (h_v72 : V (Proc.devRef .tc main_v72) (ix2 n l) = y_v72)
    (y_v7 : EReal) (h_v7 : V (Proc.devRef .tc main_v7) (ix2 n l) = y_v7)
    (y_v68 : EReal) (h_v68 : V (Proc.devRef .tc main_v68) (ix2 n l) = y_v68)
    (y_v55 : EReal) (h_v55 : V (Proc.devRef .tc main_v55) (ix2 n l) = y_v55) :
    (after ops1_2 V (Proc.devRef .tc main_v93) : Vec Ideal S8208x1280 .f32) (ix2 n l) = ((y_v50_4 * y_arg0) * y_v72 + (c0K * (Ideal.ofBits FTy.f32 1056964608#32 * (y_v7 * (y_v50_4 * y_arg0)) * y_v68)) + Ideal.ofBits FTy.f32 1194240768#32 * Ideal.div (c0K * (Ideal.ofBits FTy.f32 1056964608#32 * (y_v7 * (y_v50_4 * y_arg0)) * y_v68)) (Ideal.ofBits FTy.f32 1232348160#32) * y_v55 : EReal) := by
  after_results_simp_entrywise
  try simp only [TRef.ofBuf_toBuf]
  try dsimp only [id]
  try unfold sgR
  try unfold cubR
  try unfold c0K
  pointwise
  try simp only [h_v50_4, h_arg0, h_v72, h_v7, h_v68, h_v55]

theorem st_v97_0
    (y_v79 : EReal) (h_v79 : V (Proc.devRef .tc main_v79) (ix2 n l) = y_v79) :
    (after ops1_3 V (Proc.devRef .tc main_v97_0) : Vec Ideal S8208x1280 .f32) (ix2 n l) = (y_v79 : EReal) := by
  after_results_simp_entrywise
  try simp only [TRef.ofBuf_toBuf]
  try dsimp only [id]
  try unfold sgR
  try unfold cubR
  try unfold c0K
  pointwise
  try simp only [h_v79]

theorem st_v97_1
    (y_v50_5 : EReal) (h_v50_5 : V (Proc.devRef .tc main_v50_5) (ix2 n l) = y_v50_5) :
    (after ops1_3 V (Proc.devRef .tc main_v97_1) : Vec Ideal S8208x1280 .f32) (ix2 n l) = (y_v50_5 : EReal) := by
  after_results_simp_entrywise
  try simp only [TRef.ofBuf_toBuf]
  try dsimp only [id]
  try unfold sgR
  try unfold cubR
  try unfold c0K
  pointwise
  try simp only [h_v50_5]

theorem st_v97_2
    (y_v36 : EReal) (h_v36 : V (Proc.devRef .tc main_v36) (ix2 n l) = y_v36) :
    (after ops1_3 V (Proc.devRef .tc main_v97_2) : Vec Ideal S8208x1280 .f32) (ix2 n l) = (y_v36 : EReal) := by
  after_results_simp_entrywise
  try simp only [TRef.ofBuf_toBuf]
  try dsimp only [id]
  try unfold sgR
  try unfold cubR
  try unfold c0K
  pointwise
  try simp only [h_v36]

theorem st_v97_4 :
    (after ops1_3 V (Proc.devRef .tc main_v97_4) : Vec Ideal S1280 .f32) (ix1 l) = ((0 : EReal) : EReal) := by
  after_results_simp_entrywise
  try simp only [TRef.ofBuf_toBuf]
  try dsimp only [id]
  try unfold sgR
  try unfold cubR
  try unfold c0K
  pointwise

theorem st_v100
    (y_v26 : EReal) (h_v26 : V (Proc.devRef .tc main_v26) (ix2 n l) = y_v26)
    (y_v42 : EReal) (h_v42 : V (Proc.devRef .tc main_v42) (ix2 n l) = y_v42)
    (y_v97_6 : EReal) (h_v97_6 : V (Proc.devRef .tc main_v97_6) (ix2 n l) = y_v97_6) :
    (after ops2_0 V (Proc.devRef .tc main_v100) : Vec Ideal S8208x1280 .f32) (ix2 n l) = (y_v26 * (y_v42 * y_v97_6) : EReal) := by
  after_results_simp_entrywise
  try simp only [TRef.ofBuf_toBuf]
  try dsimp only [id]
  try unfold sgR
  try unfold cubR
  try unfold c0K
  pointwise
  try simp only [h_v26, h_v42, h_v97_6]

theorem st_v101
    (y_v42 : EReal) (h_v42 : V (Proc.devRef .tc main_v42) (ix2 n l) = y_v42)
    (y_v97_6 : EReal) (h_v97_6 : V (Proc.devRef .tc main_v97_6) (ix2 n l) = y_v97_6)
    (y_v5 : EReal) (h_v5 : V (Proc.devRef .tc main_v5) (ix2 n l) = y_v5) :
    (after ops2_0 V (Proc.devRef .tc main_v101) : Vec Ideal S8208x1280 .f32) (ix2 n l) = (y_v42 * y_v97_6 * y_v5 : EReal) := by
  after_results_simp_entrywise
  try simp only [TRef.ofBuf_toBuf]
  try dsimp only [id]
  try unfold sgR
  try unfold cubR
  try unfold c0K
  pointwise
  try simp only [h_v42, h_v97_6, h_v5]

theorem st_v108
    (y_v97_6 : EReal) (h_v97_6 : V (Proc.devRef .tc main_v97_6) (ix2 n l) = y_v97_6)
    (y_v45 : EReal) (h_v45 : V (Proc.devRef .tc main_v45) (ix2 n l) = y_v45)
    (y_v44 : EReal) (h_v44 : V (Proc.devRef .tc main_v44) (ix2 n l) = y_v44)
    (y_v40 : EReal) (h_v40 : V (Proc.devRef .tc main_v40) (ix2 n l) = y_v40)
    (y_v97_5 : EReal) (h_v97_5 : V (Proc.devRef .tc main_v97_5) (ix2 n l) = y_v97_5)
    (y_v36 : EReal) (h_v36 : V (Proc.devRef .tc main_v36) (ix2 n l) = y_v36) :
    (after ops2_0 V (Proc.devRef .tc main_v108) : Vec Ideal S8208x1280 .f32) (ix2 n l) = (Ideal.ofBits FTy.f32 1073741824#32 * (-(y_v97_6 * y_v45 * y_v44) * y_v40) + y_v97_5 * y_v36 : EReal) := by
  after_results_simp_entrywise
  try simp only [TRef.ofBuf_toBuf]
  try dsimp only [id]
  try unfold sgR
  try unfold cubR
  try unfold c0K
  pointwise
  try simp only [h_v97_6, h_v45, h_v44, h_v40, h_v97_5, h_v36]

theorem st_v113
    (y_v108 : EReal) (h_v108 : V (Proc.devRef .tc main_v108) (ix2 n l) = y_v108)
    (y_v33_0 : EReal) (h_v33_0 : V (Proc.devRef .tc main_v33_0) (ix2 0 l) = y_v33_0) :
    (after ops2_1 V (Proc.devRef .tc main_v113) : Vec Ideal S8208x1280 .f32) (ix2 n l) = (y_v108 * y_v33_0 : EReal) := by
  after_results_simp_entrywise
  try simp only [TRef.ofBuf_toBuf]
  try dsimp only [id]
  try unfold sgR
  try unfold cubR
  try unfold c0K
  pointwise
  try simp only [h_v108, h_v33_0]

theorem st_v118
    (y_v101 : EReal) (h_v101 : V (Proc.devRef .tc main_v101) (ix2 n l) = y_v101)
    (y_v29 : EReal) (h_v29 : V (Proc.devRef .tc main_v29) (ix2 n l) = y_v29) :
    (after ops2_2 V (Proc.devRef .tc main_v118) : Vec Ideal S8208x1280 .f32) (ix2 n l) = (y_v101 * y_v29 : EReal) := by
  after_results_simp_entrywise
  try simp only [TRef.ofBuf_toBuf]
  try dsimp only [id]
  try unfold sgR
  try unfold cubR
  try unfold c0K
  pointwise
  try simp only [h_v101, h_v29]

theorem st_v121
    (y_v113 : EReal) (h_v113 : V (Proc.devRef .tc main_v113) (ix2 n l) = y_v113)
    (y_v18 : EReal) (h_v18 : V (Proc.devRef .tc main_v18) (ix2 n l) = y_v18) :
    (after ops2_2 V (Proc.devRef .tc main_v121) : Vec Ideal S8208x1280 .f32) (ix2 n l) = (Ideal.ofBits FTy.f32 3238002688#32 * y_v113 * y_v18 : EReal) := by
  after_results_simp_entrywise
  try simp only [TRef.ofBuf_toBuf]
  try dsimp only [id]
  try unfold sgR
  try unfold cubR
  try unfold c0K
  pointwise
  try simp only [h_v113, h_v18]

theorem st_v120
    (y_v101 : Fin 8208 → EReal) (h_v101 : ∀ x, V (Proc.devRef .tc main_v101) (ix2 x l) = y_v101 x)
    (y_v29 : Fin 8208 → EReal) (h_v29 : ∀ x, V (Proc.devRef .tc main_v29) (ix2 x l) = y_v29 x) :
    (after ops2_2 V (Proc.devRef .tc main_v120) : Vec Ideal S1x1280 .f32) (ix2 0 l) = (∑ x : Fin 8208, y_v101 x * y_v29 x : EReal) := by
  after_results_simp_entrywise
  try simp only [TRef.ofBuf_toBuf]
  try dsimp only [id]
  try unfold sgR
  try unfold cubR
  try unfold c0K
  pointwise
  try simp only [h_v101, h_v29]

theorem st_v123
    (y_v113 : Fin 8208 → EReal) (h_v113 : ∀ x, V (Proc.devRef .tc main_v113) (ix2 x l) = y_v113 x)
    (y_v18 : Fin 8208 → EReal) (h_v18 : ∀ x, V (Proc.devRef .tc main_v18) (ix2 x l) = y_v18 x) :
    (after ops2_2 V (Proc.devRef .tc main_v123) : Vec Ideal S1x1280 .f32) (ix2 0 l) = (∑ x : Fin 8208, Ideal.ofBits FTy.f32 3238002688#32 * y_v113 x * y_v18 x : EReal) := by
  after_results_simp_entrywise
  try simp only [TRef.ofBuf_toBuf]
  try dsimp only [id]
  try unfold sgR
  try unfold cubR
  try unfold c0K
  pointwise
  try simp only [h_v113, h_v18]

theorem ofBuf_v32 (h1 h2 h3) (x : (main_v32 : Ref sig .tc).ty.Contents (Elt Ideal)) :
    (TRef.of main_v32 h1 h2 h3 : TRef sig ⟨S1x1280, .f32⟩).ofBuf x = x := rfl
theorem ofBuf_v33_0 (h1 h2 h3) (x : (main_v33_0 : Ref sig .tc).ty.Contents (Elt Ideal)) :
    (TRef.of main_v33_0 h1 h2 h3 : TRef sig ⟨S1x1280, .f32⟩).ofBuf x = x := rfl
theorem toBuf_v33_0 (h1 h2 h3) (x : (⟨S1x1280, .f32⟩ : BufTy).Contents (Elt Ideal)) :
    (TRef.of main_v33_0 h1 h2 h3 : TRef sig ⟨S1x1280, .f32⟩).toBuf x = x := rfl
theorem ofBuf_v33_1 (h1 h2 h3) (x : (main_v33_1 : Ref sig .tc).ty.Contents (Elt Ideal)) :
    (TRef.of main_v33_1 h1 h2 h3 : TRef sig ⟨S1x1280, .f32⟩).ofBuf x = x := rfl
theorem toBuf_v33_1 (h1 h2 h3) (x : (⟨S1x1280, .f32⟩ : BufTy).Contents (Elt Ideal)) :
    (TRef.of main_v33_1 h1 h2 h3 : TRef sig ⟨S1x1280, .f32⟩).toBuf x = x := rfl
theorem ofBuf_v111 (h1 h2 h3) (x : (main_v111 : Ref sig .tc).ty.Contents (Elt Ideal)) :
    (TRef.of main_v111 h1 h2 h3 : TRef sig ⟨S1x1280, .f32⟩).ofBuf x = x := rfl
theorem toBuf_v114 (h1 h2 h3) (x : (⟨S1x1280, .f32⟩ : BufTy).Contents (Elt Ideal)) :
    (TRef.of main_v114 h1 h2 h3 : TRef sig ⟨S1x1280, .f32⟩).toBuf x = x := rfl

/-- The softplus, as the stretch that computes it writes it. -/
theorem st_v33_0 (lam : EReal) (h : V (Proc.devRef .tc main_v32) (ix2 0 l) = (-lam : EReal)) :
    (after ops0_4 V (Proc.devRef .tc main_v33_0) : Vec Ideal S1x1280 .f32) (ix2 0 l) = spR lam := by
  after_results_simp_entrywise
  simp only [TRef.ofBuf_toBuf, ofBuf_v32, ofBuf_v33_0, toBuf_v33_0, ofBuf_v33_1, toBuf_v33_1, ofBuf_v111, toBuf_v114]
  unfold spR
  rw [← h]
  pointwise
  all_goals rfl

/-- Its derivative likewise. -/
theorem st_v33_1 (lam : EReal) (h : V (Proc.devRef .tc main_v32) (ix2 0 l) = (-lam : EReal)) :
    (after ops0_4 V (Proc.devRef .tc main_v33_1) : Vec Ideal S1x1280 .f32) (ix2 0 l) = dspR lam := by
  after_results_simp_entrywise
  simp only [TRef.ofBuf_toBuf, ofBuf_v32, ofBuf_v33_0, toBuf_v33_0, ofBuf_v33_1, toBuf_v33_1, ofBuf_v111, toBuf_v114]
  unfold dspR spR
  rw [← h]
  pointwise
  all_goals rfl

theorem st_v115 (y z : Fin 8208 → EReal) (w : EReal) (hy : ∀ x, V (Proc.devRef .tc main_v31) (ix2 x l) = y x)
    (hz : ∀ x, V (Proc.devRef .tc main_v108) (ix2 x l) = z x) (hw : V (Proc.devRef .tc main_v33_1) (ix2 0 l) = w) :
    (after ops2_1 V (Proc.devRef .tc main_v115) : Vec Ideal S1x1280 .f32) (ix2 0 l) = (-((∑ x : Fin 8208, y x * z x) * w) : EReal) := by
  after_results_simp_entrywise
  simp only [TRef.ofBuf_toBuf, ofBuf_v32, ofBuf_v33_0, toBuf_v33_0, ofBuf_v33_1, toBuf_v33_1, ofBuf_v111, toBuf_v114]
  pointwise
  simp only [hy, hz, hw]

end Cert.ReferenceIdeal.RG

end
-- ==== Proof.RefVal.lean ====
/-
The values the reference holds after each stretch, by row and column of its arguments.
-/
module

public import proofs.«01_k».proof.Proof.RefLoop
public import proofs.«01_k».proof.Proof.RefStr
public import proofs.«01_k».proof.Proof.RefSc
public import Idealize.ShloMosaic.Lib.Pointwise

@[expose] public section

set_option maxRecDepth 16384

noncomputable section

namespace Cert.ReferenceIdeal.RG

open Cert.ReferenceIdeal Cert.Col
open Facts₀ Facts
open Idealize.ShloMosaic Idealize.ShloMosaic.TcCoe Idealize.ShloMosaic.StableHlo

variable (m : (ℓ : Loc nD τ sig) → Buf (Elt Ideal) ℓ) (c : Dev nD)

/-- Column `l` of the arguments. -/
def colR (l : Fin 1280) : Data :=
  colOf (fun r q => m ((c : Thread nD τ).loc main_arg0) (ix2 r q)) (fun r q => m ((c : Thread nD τ).loc main_arg1) (ix2 r q))
    (fun r q => m ((c : Thread nD τ).loc main_arg2) (ix2 r q)) (fun r q => m ((c : Thread nD τ).loc main_arg3) (ix2 r q))
    (fun q => m ((c : Thread nD τ).loc main_arg4) (ix2 0 q)) (fun q => m ((c : Thread nD τ).loc main_arg5) (ix2 0 q))
    (fun q => m ((c : Thread nD τ).loc main_arg6) (ix2 0 q)) l

/-! ## The contents after each stretch -/

def G0 : Valuation τ sig (Elt Ideal) := launchContents m c
def G1 : Valuation τ sig (Elt Ideal) := after ops0_0 (G0 m c)
def G2 : Valuation τ sig (Elt Ideal) := after ops0_1 (G1 m c)
def G3 : Valuation τ sig (Elt Ideal) := after ops0_2 (G2 m c)
def G4 : Valuation τ sig (Elt Ideal) := after ops0_3 (G3 m c)
def G5 : Valuation τ sig (Elt Ideal) := after ops0_4 (G4 m c)
def G6 : Valuation τ sig (Elt Ideal) := after ops0_5 (G5 m c)
def G7 : Valuation τ sig (Elt Ideal) := after ops0_6 (G6 m c)
def G8 : Valuation τ sig (Elt Ideal) := X1 m c
def G9 : Valuation τ sig (Elt Ideal) := after ops1_0 (G8 m c)
def G10 : Valuation τ sig (Elt Ideal) := after ops1_1 (G9 m c)
def G11 : Valuation τ sig (Elt Ideal) := after ops1_2 (G10 m c)
def G12 : Valuation τ sig (Elt Ideal) := after ops1_3 (G11 m c)
def G13 : Valuation τ sig (Elt Ideal) := X3 m c
def G14 : Valuation τ sig (Elt Ideal) := after ops2_0 (G13 m c)
def G15 : Valuation τ sig (Elt Ideal) := after ops2_1 (G14 m c)
def G16 : Valuation τ sig (Elt Ideal) := after ops2_2 (G15 m c)
def G17 : Valuation τ sig (Elt Ideal) := after ops2_3 (G16 m c)
def G18 : Valuation τ sig (Elt Ideal) := after ops2_4 (G17 m c)
def G19 : Valuation τ sig (Elt Ideal) := after ops2_5 (G18 m c)

theorem G7_eq : X0 m c = G7 m c := rfl
theorem G12_eq : X2 m c = G12 m c := rfl
theorem G19_eq : X4 m c = G19 m c := rfl

theorem G1_keep {r : Ref sig .tc} (h : r ∉ ops0_0_W) : G1 m c (Proc.devRef .tc r) = G0 m c (Proc.devRef .tc r) :=
  after_of_writes_sub ops0_0 _ ops0_0_writes h
theorem G2_keep {r : Ref sig .tc} (h : r ∉ ops0_1_W) : G2 m c (Proc.devRef .tc r) = G1 m c (Proc.devRef .tc r) :=
  after_of_writes_sub ops0_1 _ ops0_1_writes h
theorem G3_keep {r : Ref sig .tc} (h : r ∉ ops0_2_W) : G3 m c (Proc.devRef .tc r) = G2 m c (Proc.devRef .tc r) :=
  after_of_writes_sub ops0_2 _ ops0_2_writes h
theorem G4_keep {r : Ref sig .tc} (h : r ∉ ops0_3_W) : G4 m c (Proc.devRef .tc r) = G3 m c (Proc.devRef .tc r) :=
  after_of_writes_sub ops0_3 _ ops0_3_writes h
theorem G5_keep {r : Ref sig .tc} (h : r ∉ ops0_4_W) : G5 m c (Proc.devRef .tc r) = G4 m c (Proc.devRef .tc r) :=
  after_of_writes_sub ops0_4 _ ops0_4_writes h
theorem G6_keep {r : Ref sig .tc} (h : r ∉ ops0_5_W) : G6 m c (Proc.devRef .tc r) = G5 m c (Proc.devRef .tc r) :=
  after_of_writes_sub ops0_5 _ ops0_5_writes h
theorem G7_keep {r : Ref sig .tc} (h : r ∉ ops0_6_W) : G7 m c (Proc.devRef .tc r) = G6 m c (Proc.devRef .tc r) :=
  after_of_writes_sub ops0_6 _ ops0_6_writes h
theorem G8_keep {r : Ref sig .tc} (h0 : r ∉ cond0_W) (h1 : r ∉ body0_W) : G8 m c (Proc.devRef .tc r) = G7 m c (Proc.devRef .tc r) :=
  (after_of_writes_sub cond0 _ cond0_writes h0).trans (T0_keep m c h0 h1 8208)
theorem G9_keep {r : Ref sig .tc} (h : r ∉ ops1_0_W) : G9 m c (Proc.devRef .tc r) = G8 m c (Proc.devRef .tc r) :=
  after_of_writes_sub ops1_0 _ ops1_0_writes h
theorem G10_keep {r : Ref sig .tc} (h : r ∉ ops1_1_W) : G10 m c (Proc.devRef .tc r) = G9 m c (Proc.devRef .tc r) :=
  after_of_writes_sub ops1_1 _ ops1_1_writes h
theorem G11_keep {r : Ref sig .tc} (h : r ∉ ops1_2_W) : G11 m c (Proc.devRef .tc r) = G10 m c (Proc.devRef .tc r) :=
  after_of_writes_sub ops1_2 _ ops1_2_writes h
theorem G12_keep {r : Ref sig .tc} (h : r ∉ ops1_3_W) : G12 m c (Proc.devRef .tc r) = G11 m c (Proc.devRef .tc r) :=
  after_of_writes_sub ops1_3 _ ops1_3_writes h
theorem G13_keep {r : Ref sig .tc} (h0 : r ∉ cond1_W) (h1 : r ∉ body1_W) : G13 m c (Proc.devRef .tc r) = G12 m c (Proc.devRef .tc r) :=
  (after_of_writes_sub cond1 _ cond1_writes h0).trans (T1_keep m c h0 h1 8208)
theorem G14_keep {r : Ref sig .tc} (h : r ∉ ops2_0_W) : G14 m c (Proc.devRef .tc r) = G13 m c (Proc.devRef .tc r) :=
  after_of_writes_sub ops2_0 _ ops2_0_writes h
theorem G15_keep {r : Ref sig .tc} (h : r ∉ ops2_1_W) : G15 m c (Proc.devRef .tc r) = G14 m c (Proc.devRef .tc r) :=
  after_of_writes_sub ops2_1 _ ops2_1_writes h
theorem G16_keep {r : Ref sig .tc} (h : r ∉ ops2_2_W) : G16 m c (Proc.devRef .tc r) = G15 m c (Proc.devRef .tc r) :=
  after_of_writes_sub ops2_2 _ ops2_2_writes h
theorem G17_keep {r : Ref sig .tc} (h : r ∉ ops2_3_W) : G17 m c (Proc.devRef .tc r) = G16 m c (Proc.devRef .tc r) :=
  after_of_writes_sub ops2_3 _ ops2_3_writes h
theorem G18_keep {r : Ref sig .tc} (h : r ∉ ops2_4_W) : G18 m c (Proc.devRef .tc r) = G17 m c (Proc.devRef .tc r) :=
  after_of_writes_sub ops2_4 _ ops2_4_writes h
theorem G19_keep {r : Ref sig .tc} (h : r ∉ ops2_5_W) : G19 m c (Proc.devRef .tc r) = G18 m c (Proc.devRef .tc r) :=
  after_of_writes_sub ops2_5 _ ops2_5_writes h

/-! ## The values -/

theorem f_v1 (n : Fin 8208) (l : Fin 1280) : (G1 m c (Proc.devRef .tc main_v1) : Vec Ideal S8208x1280 .f32) (ix2 n l) = ((colR m c l).gr (240 + n.val) : EReal) :=
  st_v1 (G0 m c) n l _ (rowsOf_val (fun r => m ((c : Thread nD τ).loc main_arg1) (ix2 r ⟨l.val, by omega⟩)) (240 + n.val) (by omega)).symm
theorem f_v3 (n : Fin 8208) (l : Fin 1280) : (G1 m c (Proc.devRef .tc main_v3) : Vec Ideal S8208x1280 .f32) (ix2 n l) = ((colR m c l).gi (240 + n.val) : EReal) :=
  st_v3 (G0 m c) n l _ (rowsOf_val (fun r => m ((c : Thread nD τ).loc main_arg1) (ix2 r ⟨1280 + l.val, by omega⟩)) (240 + n.val) (by omega)).symm
theorem f_v5 (n : Fin 8208) (l : Fin 1280) : (G1 m c (Proc.devRef .tc main_v5) : Vec Ideal S8208x1280 .f32) (ix2 n l) = ((colR m c l).xc (240 + n.val) : EReal) :=
  st_v5 (G0 m c) n l _ (rowsOf_val (fun r => m ((c : Thread nD τ).loc main_arg2) (ix2 r l)) (240 + n.val) (by omega)).symm
theorem f_v7 (n : Fin 8208) (l : Fin 1280) : (G1 m c (Proc.devRef .tc main_v7) : Vec Ideal S8208x1280 .f32) (ix2 n l) = ((colR m c l).ag (240 + n.val) : EReal) :=
  st_v7 (G0 m c) n l _ (rowsOf_val (fun r => m ((c : Thread nD τ).loc main_arg3) (ix2 r ⟨7680 + l.val, by omega⟩)) (240 + n.val) (by omega)).symm
theorem k_arg4_1 : G1 m c (Proc.devRef .tc main_arg4) = G0 m c (Proc.devRef .tc main_arg4) := by
  rw [G1_keep m c (by decide)]
theorem f_v15 (n : Fin 8208) (l : Fin 1280) : (G2 m c (Proc.devRef .tc main_v15) : Vec Ideal S8208x1280 .f32) (ix2 n l) = ((colR m c l).rR (240 + n.val) : EReal) :=
  st_v15 (G1 m c) n l _ (f_v1 m c n l) _ ((congrFun (k_arg4_1 m c) _).trans rfl)
theorem f_v18 (n : Fin 8208) (l : Fin 1280) : (G2 m c (Proc.devRef .tc main_v18) : Vec Ideal S8208x1280 .f32) (ix2 n l) = ((colR m c l).rR (240 + n.val) * (1 - (colR m c l).rR (240 + n.val)) : EReal) :=
  st_v18 (G1 m c) n l _ (f_v1 m c n l) _ ((congrFun (k_arg4_1 m c) _).trans rfl)
theorem k_v3_2 : G2 m c (Proc.devRef .tc main_v3) = G1 m c (Proc.devRef .tc main_v3) := by
  rw [G2_keep m c (by decide)]
theorem k_arg5_2 : G2 m c (Proc.devRef .tc main_arg5) = G0 m c (Proc.devRef .tc main_arg5) := by
  rw [G2_keep m c (by decide), G1_keep m c (by decide)]
theorem f_v26 (n : Fin 8208) (l : Fin 1280) : (G3 m c (Proc.devRef .tc main_v26) : Vec Ideal S8208x1280 .f32) (ix2 n l) = ((colR m c l).iR (240 + n.val) : EReal) :=
  st_v26 (G2 m c) n l _ ((congrFun (k_v3_2 m c) _).trans (f_v3 m c n l)) _ ((congrFun (k_arg5_2 m c) _).trans rfl)
theorem f_v29 (n : Fin 8208) (l : Fin 1280) : (G3 m c (Proc.devRef .tc main_v29) : Vec Ideal S8208x1280 .f32) (ix2 n l) = ((colR m c l).iR (240 + n.val) * (1 - (colR m c l).iR (240 + n.val)) : EReal) :=
  st_v29 (G2 m c) n l _ ((congrFun (k_v3_2 m c) _).trans (f_v3 m c n l)) _ ((congrFun (k_arg5_2 m c) _).trans rfl)
theorem k_v15_3 : G3 m c (Proc.devRef .tc main_v15) = G2 m c (Proc.devRef .tc main_v15) := by
  rw [G3_keep m c (by decide)]
theorem f_v31 (n : Fin 8208) (l : Fin 1280) : (G4 m c (Proc.devRef .tc main_v31) : Vec Ideal S8208x1280 .f32) (ix2 n l) = ((colR m c l).cfR (240 + n.val) : EReal) :=
  st_v31 (G3 m c) n l _ ((congrFun (k_v15_3 m c) _).trans (f_v15 m c n l))
theorem k_arg6_3 : G3 m c (Proc.devRef .tc main_arg6) = G0 m c (Proc.devRef .tc main_arg6) := by
  rw [G3_keep m c (by decide), G2_keep m c (by decide), G1_keep m c (by decide)]
theorem f_v32 (l : Fin 1280) : (G4 m c (Proc.devRef .tc main_v32) : Vec Ideal S1x1280 .f32) (ix2 0 l) = (-(colR m c l).lam : EReal) :=
  st_v32 (G3 m c) l _ ((congrFun (k_arg6_3 m c) _).trans rfl)
theorem f_v33_0 (l : Fin 1280) : (G5 m c (Proc.devRef .tc main_v33_0) : Vec Ideal S1x1280 .f32) (ix2 0 l) = (spR (colR m c l).lam : EReal) :=
  st_v33_0 (G4 m c) l _ (f_v32 m c l)
theorem f_v33_1 (l : Fin 1280) : (G5 m c (Proc.devRef .tc main_v33_1) : Vec Ideal S1x1280 .f32) (ix2 0 l) = (dspR (colR m c l).lam : EReal) :=
  st_v33_1 (G4 m c) l _ (f_v32 m c l)
theorem k_v31_5 : G5 m c (Proc.devRef .tc main_v31) = G4 m c (Proc.devRef .tc main_v31) := by
  rw [G5_keep m c (by decide)]
theorem f_v36 (n : Fin 8208) (l : Fin 1280) : (G6 m c (Proc.devRef .tc main_v36) : Vec Ideal S8208x1280 .f32) (ix2 n l) = ((colR m c l).aR (240 + n.val) : EReal) :=
  st_v36 (G5 m c) n l _ ((congrFun (k_v31_5 m c) _).trans (f_v31 m c n l)) _ (f_v33_0 m c l)
theorem f_v40 (n : Fin 8208) (l : Fin 1280) : (G6 m c (Proc.devRef .tc main_v40) : Vec Ideal S8208x1280 .f32) (ix2 n l) = ((colR m c l).e2R (240 + n.val) : EReal) :=
  st_v40 (G5 m c) n l _ ((congrFun (k_v31_5 m c) _).trans (f_v31 m c n l)) _ (f_v33_0 m c l)
theorem f_v42 (n : Fin 8208) (l : Fin 1280) : (G6 m c (Proc.devRef .tc main_v42) : Vec Ideal S8208x1280 .f32) (ix2 n l) = ((colR m c l).sR (240 + n.val) : EReal) :=
  st_v42 (G5 m c) n l _ ((congrFun (k_v31_5 m c) _).trans (f_v31 m c n l)) _ (f_v33_0 m c l)
theorem f_v44 (n : Fin 8208) (l : Fin 1280) : (G6 m c (Proc.devRef .tc main_v44) : Vec Ideal S8208x1280 .f32) (ix2 n l) = ((colR m c l).hsR (240 + n.val) : EReal) :=
  st_v44 (G5 m c) n l _ ((congrFun (k_v31_5 m c) _).trans (f_v31 m c n l)) _ (f_v33_0 m c l)
theorem k_v26_5 : G5 m c (Proc.devRef .tc main_v26) = G3 m c (Proc.devRef .tc main_v26) := by
  rw [G5_keep m c (by decide), G4_keep m c (by decide)]
theorem k_v5_5 : G5 m c (Proc.devRef .tc main_v5) = G1 m c (Proc.devRef .tc main_v5) := by
  rw [G5_keep m c (by decide), G4_keep m c (by decide), G3_keep m c (by decide), G2_keep m c (by decide)]
theorem f_v45 (n : Fin 8208) (l : Fin 1280) : (G6 m c (Proc.devRef .tc main_v45) : Vec Ideal S8208x1280 .f32) (ix2 n l) = ((colR m c l).ixR (240 + n.val) : EReal) :=
  st_v45 (G5 m c) n l _ ((congrFun (k_v26_5 m c) _).trans (f_v26 m c n l)) _ ((congrFun (k_v5_5 m c) _).trans (f_v5 m c n l))
theorem f_v46 (n : Fin 8208) (l : Fin 1280) : (G6 m c (Proc.devRef .tc main_v46) : Vec Ideal S8208x1280 .f32) (ix2 n l) = ((colR m c l).uR (240 + n.val) : EReal) :=
  st_v46 (G5 m c) n l _ ((congrFun (k_v31_5 m c) _).trans (f_v31 m c n l)) _ (f_v33_0 m c l) _ ((congrFun (k_v26_5 m c) _).trans (f_v26 m c n l)) _ ((congrFun (k_v5_5 m c) _).trans (f_v5 m c n l))
theorem f_v50_0 (n : Fin 8208) (l : Fin 1280) : (G7 m c (Proc.devRef .tc main_v50_0) : Vec Ideal S8208x1280 .f32) (ix2 n l) = ((colR m c l).aR (240 + n.val) : EReal) :=
  st_v50_0 (G6 m c) n l _ (f_v36 m c n l)
theorem f_v50_1 (n : Fin 8208) (l : Fin 1280) : (G7 m c (Proc.devRef .tc main_v50_1) : Vec Ideal S8208x1280 .f32) (ix2 n l) = ((colR m c l).uR (240 + n.val) : EReal) :=
  st_v50_1 (G6 m c) n l _ (f_v46 m c n l)
theorem f_v50_3 (l : Fin 1280) : (G7 m c (Proc.devRef .tc main_v50_3) : Vec Ideal S1280 .f32) (ix1 l) = (0 : EReal) :=
  st_v50_3 (G6 m c) l

/-! ## The loops' recurrences -/

theorem scan_congr {A U A' U' : ℕ → EReal} (h : EReal) : ∀ n, (∀ j, j < n → A j = A' j) → (∀ j, j < n → U j = U' j) →
    scan A U h n = scan A' U' h n
  | 0, _, _ => rfl
  | n + 1, ha, hu => by
    show A n * scan A U h n + U n = A' n * scan A' U' h n + U' n
    rw [ha n (Nat.lt_succ_self n), hu n (Nat.lt_succ_self n),
      scan_congr h n (fun j hj => ha j (Nat.lt_succ_of_lt hj)) fun j hj => hu j (Nat.lt_succ_of_lt hj)]

theorem A0_eq (l : Fin 1280) (j : ℕ) (hj : j < 8208) : A0 m c l j = (colR m c l).aR (240 + j) := by
  unfold A0
  rw [rowN_of_lt _ _ _ hj]
  exact f_v50_0 m c ⟨j, hj⟩ l

theorem U0_eq (l : Fin 1280) (j : ℕ) (hj : j < 8208) : U0 m c l j = (colR m c l).uR (240 + j) := by
  unfold U0
  rw [rowN_of_lt _ _ _ hj]
  exact f_v50_1 m c ⟨j, hj⟩ l

theorem f_v50_4 (n : Fin 8208) (l : Fin 1280) : (G8 m c (Proc.devRef .tc main_v50_4) : Vec Ideal S8208x1280 .f32) (ix2 n l) = (colR m c l).hR (n.val + 1) := by
  have e : G8 m c (Proc.devRef .tc main_v50_4) = T0 m 8208 c (Proc.devRef .tc main_v50_4) := after_of_writes_sub cond0 _ cond0_writes (by decide)
  rw [e, out0_4 m c l (f_v50_3 m c l) n 8208 (le_refl _) n.isLt]
  exact scan_congr 0 _ (fun j hj => A0_eq m c l j (by omega)) fun j hj => U0_eq m c l j (by omega)

theorem f_v50_5 (n : Fin 8208) (l : Fin 1280) : (G8 m c (Proc.devRef .tc main_v50_5) : Vec Ideal S8208x1280 .f32) (ix2 n l) = (colR m c l).hR n.val := by
  have e : G8 m c (Proc.devRef .tc main_v50_5) = T0 m 8208 c (Proc.devRef .tc main_v50_5) := after_of_writes_sub cond0 _ cond0_writes (by decide)
  rw [e, out0_5 m c l (f_v50_3 m c l) n 8208 (le_refl _) n.isLt]
  exact scan_congr 0 _ (fun j hj => A0_eq m c l j (by omega)) fun j hj => U0_eq m c l j (by omega)

theorem k_v7_8 : G8 m c (Proc.devRef .tc main_v7) = G1 m c (Proc.devRef .tc main_v7) := by
  rw [G8_keep m c (by decide) (by decide), G7_keep m c (by decide), G6_keep m c (by decide), G5_keep m c (by decide), G4_keep m c (by decide), G3_keep m c (by decide), G2_keep m c (by decide)]
theorem f_v55 (n : Fin 8208) (l : Fin 1280) : (G9 m c (Proc.devRef .tc main_v55) : Vec Ideal S8208x1280 .f32) (ix2 n l) = (Ideal.ofBits FTy.f32 1077936128#32 * ((colR m c l).ag (240 + n.val) * (colR m c l).ag (240 + n.val)) : EReal) :=
  st_v55 (G8 m c) n l _ ((congrFun (k_v7_8 m c) _).trans (f_v7 m c n l))
theorem f_v60 (n : Fin 8208) (l : Fin 1280) : (G9 m c (Proc.devRef .tc main_v60) : Vec Ideal S8208x1280 .f32) (ix2 n l) = (cubR ((colR m c l).ag (240 + n.val)) : EReal) :=
  st_v60 (G8 m c) n l _ ((congrFun (k_v7_8 m c) _).trans (f_v7 m c n l))
theorem f_v68 (n : Fin 8208) (l : Fin 1280) : (G10 m c (Proc.devRef .tc main_v68) : Vec Ideal S8208x1280 .f32) (ix2 n l) = ((1 + thR ((colR m c l).ag (240 + n.val))) * (1 - thR ((colR m c l).ag (240 + n.val))) : EReal) :=
  st_v68 (G9 m c) n l _ (f_v60 m c n l)
theorem f_v72 (n : Fin 8208) (l : Fin 1280) : (G10 m c (Proc.devRef .tc main_v72) : Vec Ideal S8208x1280 .f32) (ix2 n l) = (haR ((colR m c l).ag (240 + n.val)) : EReal) :=
  st_v72 (G9 m c) n l _ (f_v60 m c n l)
theorem k_v7_9 : G9 m c (Proc.devRef .tc main_v7) = G1 m c (Proc.devRef .tc main_v7) := by
  rw [G9_keep m c (by decide), G8_keep m c (by decide) (by decide), G7_keep m c (by decide), G6_keep m c (by decide), G5_keep m c (by decide), G4_keep m c (by decide), G3_keep m c (by decide), G2_keep m c (by decide)]
theorem f_v73 (n : Fin 8208) (l : Fin 1280) : (G10 m c (Proc.devRef .tc main_v73) : Vec Ideal S8208x1280 .f32) (ix2 n l) = ((colR m c l).ag (240 + n.val) * haR ((colR m c l).ag (240 + n.val)) : EReal) :=
  st_v73 (G9 m c) n l _ ((congrFun (k_v7_9 m c) _).trans (f_v7 m c n l)) _ (f_v60 m c n l)
theorem k_arg0_10 : G10 m c (Proc.devRef .tc main_arg0) = G0 m c (Proc.devRef .tc main_arg0) := by
  rw [G10_keep m c (by decide), G9_keep m c (by decide), G8_keep m c (by decide) (by decide), G7_keep m c (by decide), G6_keep m c (by decide), G5_keep m c (by decide), G4_keep m c (by decide), G3_keep m c (by decide), G2_keep m c (by decide), G1_keep m c (by decide)]
theorem f_v79 (n : Fin 8208) (l : Fin 1280) : (G11 m c (Proc.devRef .tc main_v79) : Vec Ideal S8208x1280 .f32) (ix2 n l) = ((colR m c l).dR (240 + n.val) : EReal) :=
  st_v79 (G10 m c) n l _ ((congrFun (k_arg0_10 m c) _).trans (rowsOf_val (fun r => m ((c : Thread nD τ).loc main_arg0) (ix2 r l)) (240 + n.val) (by omega)).symm) _ (f_v73 m c n l)
theorem k_v50_4_10 : G10 m c (Proc.devRef .tc main_v50_4) = G8 m c (Proc.devRef .tc main_v50_4) := by
  rw [G10_keep m c (by decide), G9_keep m c (by decide)]
theorem k_v7_10 : G10 m c (Proc.devRef .tc main_v7) = G1 m c (Proc.devRef .tc main_v7) := by
  rw [G10_keep m c (by decide), G9_keep m c (by decide), G8_keep m c (by decide) (by decide), G7_keep m c (by decide), G6_keep m c (by decide), G5_keep m c (by decide), G4_keep m c (by decide), G3_keep m c (by decide), G2_keep m c (by decide)]
theorem k_v55_10 : G10 m c (Proc.devRef .tc main_v55) = G9 m c (Proc.devRef .tc main_v55) := by
  rw [G10_keep m c (by decide)]
theorem f_v93 (n : Fin 8208) (l : Fin 1280) : (G11 m c (Proc.devRef .tc main_v93) : Vec Ideal S8208x1280 .f32) (ix2 n l) = ((colR m c l).dagR n.val : EReal) :=
  st_v93 (G10 m c) n l _ ((congrFun (k_v50_4_10 m c) _).trans (f_v50_4 m c n l)) _ ((congrFun (k_arg0_10 m c) _).trans (rowsOf_val (fun r => m ((c : Thread nD τ).loc main_arg0) (ix2 r l)) (240 + n.val) (by omega)).symm) _ (f_v72 m c n l) _ ((congrFun (k_v7_10 m c) _).trans (f_v7 m c n l)) _ (f_v68 m c n l) _ ((congrFun (k_v55_10 m c) _).trans (f_v55 m c n l))
theorem f_v97_0 (n : Fin 8208) (l : Fin 1280) : (G12 m c (Proc.devRef .tc main_v97_0) : Vec Ideal S8208x1280 .f32) (ix2 n l) = ((colR m c l).dR (240 + n.val) : EReal) :=
  st_v97_0 (G11 m c) n l _ (f_v79 m c n l)
theorem k_v50_5_11 : G11 m c (Proc.devRef .tc main_v50_5) = G8 m c (Proc.devRef .tc main_v50_5) := by
  rw [G11_keep m c (by decide), G10_keep m c (by decide), G9_keep m c (by decide)]
theorem f_v97_1 (n : Fin 8208) (l : Fin 1280) : (G12 m c (Proc.devRef .tc main_v97_1) : Vec Ideal S8208x1280 .f32) (ix2 n l) = ((colR m c l).hR n.val : EReal) :=
  st_v97_1 (G11 m c) n l _ ((congrFun (k_v50_5_11 m c) _).trans (f_v50_5 m c n l))
theorem k_v36_11 : G11 m c (Proc.devRef .tc main_v36) = G6 m c (Proc.devRef .tc main_v36) := by
  rw [G11_keep m c (by decide), G10_keep m c (by decide), G9_keep m c (by decide), G8_keep m c (by decide) (by decide), G7_keep m c (by decide)]
theorem f_v97_2 (n : Fin 8208) (l : Fin 1280) : (G12 m c (Proc.devRef .tc main_v97_2) : Vec Ideal S8208x1280 .f32) (ix2 n l) = ((colR m c l).aR (240 + n.val) : EReal) :=
  st_v97_2 (G11 m c) n l _ ((congrFun (k_v36_11 m c) _).trans (f_v36 m c n l))
theorem f_v97_4 (l : Fin 1280) : (G12 m c (Proc.devRef .tc main_v97_4) : Vec Ideal S1280 .f32) (ix1 l) = (0 : EReal) :=
  st_v97_4 (G11 m c) l

theorem A1_eq (l : Fin 1280) : A1 m c l = fun j => (colR m c l).aR (240 + (8207 - j)) := funext fun j => by
  unfold A1
  rw [rowN_of_lt _ _ _ (by omega : 8207 - j < 8208)]
  exact f_v97_2 m c ⟨8207 - j, by omega⟩ l

theorem D1_eq (l : Fin 1280) : D1 m c l = fun j => (colR m c l).dR (240 + (8207 - j)) := funext fun j => by
  unfold D1
  rw [rowN_of_lt _ _ _ (by omega : 8207 - j < 8208)]
  exact f_v97_0 m c ⟨8207 - j, by omega⟩ l

theorem grad_eq (n : Fin 8208) (l : Fin 1280) :
    D1 m c l (8207 - n.val) + bscan (A1 m c l) (D1 m c l) 0 (8207 - n.val) = (colR m c l).gR n.val := by
  rw [A1_eq, D1_eq]
  have h : 8207 - (8207 - n.val) = n.val := by omega
  show (colR m c l).dR (240 + (8207 - (8207 - n.val))) + _ = _
  rw [h]
  rfl

theorem f_v97_6 (n : Fin 8208) (l : Fin 1280) : (G13 m c (Proc.devRef .tc main_v97_6) : Vec Ideal S8208x1280 .f32) (ix2 n l) = (colR m c l).gR n.val := by
  have e : G13 m c (Proc.devRef .tc main_v97_6) = T1 m 8208 c (Proc.devRef .tc main_v97_6) := after_of_writes_sub cond1 _ cond1_writes (by decide)
  rw [e, out1_6 m c l (f_v97_4 m c l) n 8208 (le_refl _) (by omega), grad_eq]

theorem f_v97_5 (n : Fin 8208) (l : Fin 1280) : (G13 m c (Proc.devRef .tc main_v97_5) : Vec Ideal S8208x1280 .f32) (ix2 n l)
    = ((colR m c l).gR n.val * (colR m c l).hR n.val : EReal) := by
  have e : G13 m c (Proc.devRef .tc main_v97_5) = T1 m 8208 c (Proc.devRef .tc main_v97_5) := after_of_writes_sub cond1 _ cond1_writes (by decide)
  rw [e, out1_5 m c l (f_v97_4 m c l) n 8208 (le_refl _) (by omega), grad_eq]
  exact congrArg (fun t : EReal => (colR m c l).gR n.val * t) (f_v97_1 m c n l)

theorem k_v26_13 : G13 m c (Proc.devRef .tc main_v26) = G3 m c (Proc.devRef .tc main_v26) := by
  rw [G13_keep m c (by decide) (by decide), G12_keep m c (by decide), G11_keep m c (by decide), G10_keep m c (by decide), G9_keep m c (by decide), G8_keep m c (by decide) (by decide), G7_keep m c (by decide), G6_keep m c (by decide), G5_keep m c (by decide), G4_keep m c (by decide)]
theorem k_v42_13 : G13 m c (Proc.devRef .tc main_v42) = G6 m c (Proc.devRef .tc main_v42) := by
  rw [G13_keep m c (by decide) (by decide), G12_keep m c (by decide), G11_keep m c (by decide), G10_keep m c (by decide), G9_keep m c (by decide), G8_keep m c (by decide) (by decide), G7_keep m c (by decide)]
theorem f_v100 (n : Fin 8208) (l : Fin 1280) : (G14 m c (Proc.devRef .tc main_v100) : Vec Ideal S8208x1280 .f32) (ix2 n l) = ((colR m c l).dxcR n.val : EReal) :=
  st_v100 (G13 m c) n l _ ((congrFun (k_v26_13 m c) _).trans (f_v26 m c n l)) _ ((congrFun (k_v42_13 m c) _).trans (f_v42 m c n l)) _ (f_v97_6 m c n l)
theorem k_v5_13 : G13 m c (Proc.devRef .tc main_v5) = G1 m c (Proc.devRef .tc main_v5) := by
  rw [G13_keep m c (by decide) (by decide), G12_keep m c (by decide), G11_keep m c (by decide), G10_keep m c (by decide), G9_keep m c (by decide), G8_keep m c (by decide) (by decide), G7_keep m c (by decide), G6_keep m c (by decide), G5_keep m c (by decide), G4_keep m c (by decide), G3_keep m c (by decide), G2_keep m c (by decide)]
theorem f_v101 (n : Fin 8208) (l : Fin 1280) : (G14 m c (Proc.devRef .tc main_v101) : Vec Ideal S8208x1280 .f32) (ix2 n l) = ((colR m c l).sR (240 + n.val) * (colR m c l).gR n.val * (colR m c l).xc (240 + n.val) : EReal) :=
  st_v101 (G13 m c) n l _ ((congrFun (k_v42_13 m c) _).trans (f_v42 m c n l)) _ (f_v97_6 m c n l) _ ((congrFun (k_v5_13 m c) _).trans (f_v5 m c n l))
theorem k_v45_13 : G13 m c (Proc.devRef .tc main_v45) = G6 m c (Proc.devRef .tc main_v45) := by
  rw [G13_keep m c (by decide) (by decide), G12_keep m c (by decide), G11_keep m c (by decide), G10_keep m c (by decide), G9_keep m c (by decide), G8_keep m c (by decide) (by decide), G7_keep m c (by decide)]
theorem k_v44_13 : G13 m c (Proc.devRef .tc main_v44) = G6 m c (Proc.devRef .tc main_v44) := by
  rw [G13_keep m c (by decide) (by decide), G12_keep m c (by decide), G11_keep m c (by decide), G10_keep m c (by decide), G9_keep m c (by decide), G8_keep m c (by decide) (by decide), G7_keep m c (by decide)]
theorem k_v40_13 : G13 m c (Proc.devRef .tc main_v40) = G6 m c (Proc.devRef .tc main_v40) := by
  rw [G13_keep m c (by decide) (by decide), G12_keep m c (by decide), G11_keep m c (by decide), G10_keep m c (by decide), G9_keep m c (by decide), G8_keep m c (by decide) (by decide), G7_keep m c (by decide)]
theorem k_v36_13 : G13 m c (Proc.devRef .tc main_v36) = G6 m c (Proc.devRef .tc main_v36) := by
  rw [G13_keep m c (by decide) (by decide), G12_keep m c (by decide), G11_keep m c (by decide), G10_keep m c (by decide), G9_keep m c (by decide), G8_keep m c (by decide) (by decide), G7_keep m c (by decide)]
theorem f_v108 (n : Fin 8208) (l : Fin 1280) : (G14 m c (Proc.devRef .tc main_v108) : Vec Ideal S8208x1280 .f32) (ix2 n l) = ((colR m c l).dlaR n.val : EReal) :=
  st_v108 (G13 m c) n l _ (f_v97_6 m c n l) _ ((congrFun (k_v45_13 m c) _).trans (f_v45 m c n l)) _ ((congrFun (k_v44_13 m c) _).trans (f_v44 m c n l)) _ ((congrFun (k_v40_13 m c) _).trans (f_v40 m c n l)) _ (f_v97_5 m c n l) _ ((congrFun (k_v36_13 m c) _).trans (f_v36 m c n l))
theorem k_v33_0_14 : G14 m c (Proc.devRef .tc main_v33_0) = G5 m c (Proc.devRef .tc main_v33_0) := by
  rw [G14_keep m c (by decide), G13_keep m c (by decide) (by decide), G12_keep m c (by decide), G11_keep m c (by decide), G10_keep m c (by decide), G9_keep m c (by decide), G8_keep m c (by decide) (by decide), G7_keep m c (by decide), G6_keep m c (by decide)]
theorem f_v113 (n : Fin 8208) (l : Fin 1280) : (G15 m c (Proc.devRef .tc main_v113) : Vec Ideal S8208x1280 .f32) (ix2 n l) = ((colR m c l).dlaR n.val * spR (colR m c l).lam : EReal) :=
  st_v113 (G14 m c) n l _ (f_v108 m c n l) _ ((congrFun (k_v33_0_14 m c) _).trans (f_v33_0 m c l))
theorem k_v31_14 : G14 m c (Proc.devRef .tc main_v31) = G4 m c (Proc.devRef .tc main_v31) := by
  rw [G14_keep m c (by decide), G13_keep m c (by decide) (by decide), G12_keep m c (by decide), G11_keep m c (by decide), G10_keep m c (by decide), G9_keep m c (by decide), G8_keep m c (by decide) (by decide), G7_keep m c (by decide), G6_keep m c (by decide), G5_keep m c (by decide)]
theorem k_v33_1_14 : G14 m c (Proc.devRef .tc main_v33_1) = G5 m c (Proc.devRef .tc main_v33_1) := by
  rw [G14_keep m c (by decide), G13_keep m c (by decide) (by decide), G12_keep m c (by decide), G11_keep m c (by decide), G10_keep m c (by decide), G9_keep m c (by decide), G8_keep m c (by decide) (by decide), G7_keep m c (by decide), G6_keep m c (by decide)]
theorem f_v115 (l : Fin 1280) : (G15 m c (Proc.devRef .tc main_v115) : Vec Ideal S1x1280 .f32) (ix2 0 l) = (-((∑ x : Fin 8208, (colR m c l).cfR (240 + x.val) * (colR m c l).dlaR x.val) * dspR (colR m c l).lam) : EReal) :=
  st_v115 (G14 m c) l _ _ _ (fun x => ((congrFun (k_v31_14 m c) _).trans (f_v31 m c x l))) (fun x => (f_v108 m c x l)) ((congrFun (k_v33_1_14 m c) _).trans (f_v33_1 m c l))
theorem k_v101_15 : G15 m c (Proc.devRef .tc main_v101) = G14 m c (Proc.devRef .tc main_v101) := by
  rw [G15_keep m c (by decide)]
theorem k_v29_15 : G15 m c (Proc.devRef .tc main_v29) = G3 m c (Proc.devRef .tc main_v29) := by
  rw [G15_keep m c (by decide), G14_keep m c (by decide), G13_keep m c (by decide) (by decide), G12_keep m c (by decide), G11_keep m c (by decide), G10_keep m c (by decide), G9_keep m c (by decide), G8_keep m c (by decide) (by decide), G7_keep m c (by decide), G6_keep m c (by decide), G5_keep m c (by decide), G4_keep m c (by decide)]
theorem f_v118 (n : Fin 8208) (l : Fin 1280) : (G16 m c (Proc.devRef .tc main_v118) : Vec Ideal S8208x1280 .f32) (ix2 n l) = ((colR m c l).diR n.val : EReal) :=
  st_v118 (G15 m c) n l _ ((congrFun (k_v101_15 m c) _).trans (f_v101 m c n l)) _ ((congrFun (k_v29_15 m c) _).trans (f_v29 m c n l))
theorem k_v18_15 : G15 m c (Proc.devRef .tc main_v18) = G2 m c (Proc.devRef .tc main_v18) := by
  rw [G15_keep m c (by decide), G14_keep m c (by decide), G13_keep m c (by decide) (by decide), G12_keep m c (by decide), G11_keep m c (by decide), G10_keep m c (by decide), G9_keep m c (by decide), G8_keep m c (by decide) (by decide), G7_keep m c (by decide), G6_keep m c (by decide), G5_keep m c (by decide), G4_keep m c (by decide), G3_keep m c (by decide)]
theorem f_v121 (n : Fin 8208) (l : Fin 1280) : (G16 m c (Proc.devRef .tc main_v121) : Vec Ideal S8208x1280 .f32) (ix2 n l) = ((colR m c l).drR n.val : EReal) :=
  st_v121 (G15 m c) n l _ (f_v113 m c n l) _ ((congrFun (k_v18_15 m c) _).trans (f_v18 m c n l))
theorem f_v120 (l : Fin 1280) : (G16 m c (Proc.devRef .tc main_v120) : Vec Ideal S1x1280 .f32) (ix2 0 l) = (∑ x : Fin 8208, (colR m c l).diR x.val : EReal) :=
  st_v120 (G15 m c) l _ (fun x => ((congrFun (k_v101_15 m c) _).trans (f_v101 m c x l))) _ (fun x => ((congrFun (k_v29_15 m c) _).trans (f_v29 m c x l)))
theorem f_v123 (l : Fin 1280) : (G16 m c (Proc.devRef .tc main_v123) : Vec Ideal S1x1280 .f32) (ix2 0 l) = (∑ x : Fin 8208, (colR m c l).drR x.val : EReal) :=
  st_v123 (G15 m c) l _ (fun x => (f_v113 m c x l)) _ (fun x => ((congrFun (k_v18_15 m c) _).trans (f_v18 m c x l)))

end Cert.ReferenceIdeal.RG

end
-- ==== Proof.RefOut.lean ====
/-
The reference's results by row and column of its arguments.
-/
module

public import proofs.«01_k».proof.Proof.RefVal
public import Idealize.ShloMosaic.Lib.Routing.OpsSet
public import Idealize.ShloMosaic.Lib.Routing.OpsPair

@[expose] public section

set_option maxRecDepth 16384

noncomputable section

namespace Cert.ReferenceIdeal.RG

open Cert.ReferenceIdeal Cert.Col
open Facts₀ Facts
open Idealize.ShloMosaic Idealize.ShloMosaic.TcCoe Idealize.ShloMosaic.StableHlo Idealize.ShloMosaic.Routing

section
variable (V : Valuation τ sig (Elt Ideal)) (n : Fin 8448) (l : Fin 1280)

/-- An array of the live rows over rows of zeros. -/
theorem st_v127 (f : ℕ → EReal) (h : ∀ k : Fin 8208, V (Proc.devRef .tc main_v100) (ix2 k l) = f k.val) :
    (after ops2_3 V (Proc.devRef .tc main_v127) : Vec Ideal S8448x1280 .bf16) (ix2 n l) = (if 240 ≤ n.val then f (n.val - 240) else 0 : EReal) := by
  after_results_simp_entrywise
  pointwise
  by_cases hn : 240 ≤ n.val
  · rw [dif_pos ⟨hn, by omega⟩, if_pos hn]
    exact h ⟨n.val - 240, by omega⟩
  · rw [dif_neg fun q => hn q.1, if_neg hn]

theorem st_v125 (f : ℕ → EReal) (q : Fin 8960) (hq : q.val = 7680 + l.val)
    (h : ∀ k : Fin 8208, V (Proc.devRef .tc main_v93) (ix2 k l) = f k.val) :
    (after ops2_3 V (Proc.devRef .tc main_v125) : Vec Ideal S8448x8960 .bf16) (ix2 n q) = (if 240 ≤ n.val then f (n.val - 240) else 0 : EReal) := by
  after_results_simp_entrywise
  pointwise
  by_cases hn : 240 ≤ n.val
  · rw [dif_pos ⟨⟨hn, by omega⟩, by omega, by omega⟩, if_pos hn]
    have e : (⟨q.val - 7680, by omega⟩ : Fin 1280) = l := Fin.ext (by show q.val - 7680 = l.val; omega)
    rw [e]
    exact h ⟨n.val - 240, by omega⟩
  · rw [dif_neg fun q => hn q.1.1, if_neg hn]

/-- Both gates' gradients side by side over rows of zeros. -/
theorem st_v132 (q : Fin 2560) (f g : Fin 1280 → ℕ → EReal)
    (hf : ∀ (l : Fin 1280) (k : Fin 8208), V (Proc.devRef .tc main_v121) (ix2 k l) = f l k.val)
    (hg : ∀ (l : Fin 1280) (k : Fin 8208), V (Proc.devRef .tc main_v118) (ix2 k l) = g l k.val) :
    (after ops2_4 V (Proc.devRef .tc main_v132) : Vec Ideal S8448x2560 .bf16) (ix2 n q)
      = (if 240 ≤ n.val then
          (if h : q.val < 1280 then f ⟨q.val, h⟩ (n.val - 240) else g ⟨q.val - 1280, by omega⟩ (n.val - 240)) else 0 : EReal) := by
  after_results_simp_entrywise
  pointwise
  by_cases hn : 240 ≤ n.val
  · by_cases hq : q.val < 1280
    · rw [dif_neg (by omega), dif_pos ⟨⟨hn, by omega⟩, hq⟩, if_pos hn, dif_pos hq, zero_add]
      exact hf ⟨q.val, hq⟩ ⟨n.val - 240, by omega⟩
    · rw [dif_pos ⟨⟨hn, by omega⟩, by omega, by omega⟩, dif_neg (by omega), if_pos hn, dif_neg hq, add_zero]
      exact hg ⟨q.val - 1280, by omega⟩ ⟨n.val - 240, by omega⟩
  · rw [dif_neg (by omega), dif_neg (by omega), if_neg hn, add_zero]

/-- Where the scatter's updates land. -/
theorem lands (idx : IVec S1 32) (hidx : (idx (ix1 0)).toInt = 7680) (k : Fin 8448) (p : Fin 1280) (q : Fin 8960) :
    scatter_S8448x8960_S1_S8448x1280_01_n_1_0.resultIdx? (ix2 k p) idx = some (ix2 n q) ↔ k = n ∧ 7680 + p.val = q.val := by
  have hw0 : scatter_S8448x8960_S1_S8448x1280_01_n_1_0.window (ix2 k p) 0 = k.val := rfl
  have hw1 : scatter_S8448x8960_S1_S8448x1280_01_n_1_0.window (ix2 k p) 1 = p.val := rfl
  have hs0 : scatter_S8448x8960_S1_S8448x1280_01_n_1_0.start (ix2 k p) idx 0 = 0 := rfl
  have hs1 : scatter_S8448x8960_S1_S8448x1280_01_n_1_0.start (ix2 k p) idx 1 = 7680 := by
    refine Eq.trans ?_ hidx
    refine congrArg (fun i => (idx i).toInt) (funext fun b => ?_)
    match b with
    | ⟨0, _⟩ => exact Subsingleton.elim (α := Fin 1) _ _
  have e := resultIdx?_ix2 (R := 8448) (C := 8960) scatter_S8448x8960_S1_S8448x1280_01_n_1_0 (ix2 k p) idx n q
  rw [hs0, hw0, hs1, hw1] at e
  refine e.trans ?_
  rw [Fin.ext_iff]
  omega

/-- The last window of columns replaced. -/
theorem st_v135 (q : Fin 8960) (f : Fin 1280 → ℕ → EReal) (x : EReal)
    (hf : ∀ (l : Fin 1280) (k : Fin 8448), V (Proc.devRef .tc main_v125) (ix2 k ⟨7680 + l.val, by omega⟩) = f l k.val)
    (hx : V (Proc.devRef .tc main_arg7) (ix2 n q) = x) :
    (after ops2_5 V (Proc.devRef .tc main_v135) : Vec Ideal S8448x8960 .bf16) (ix2 n q)
      = (if h : 7680 ≤ q.val then f ⟨q.val - 7680, by omega⟩ n.val else x : EReal) := by
  have e : after ops2_5 V (Proc.devRef .tc main_v135)
      = Host.scatter scatter_S8448x8960_S1_S8448x1280_01_n_1_0 (fun _ b => b) (V (Proc.devRef .tc main_arg7))
          (fun _ => 7680#32 : IVec S1 32) (extractStridedSlice S8448x1280 ![0, 7680] (V (Proc.devRef .tc main_v125)) slices_S8448x8960_S8448x1280_0_7680) := by
    after_results_simp_entrywise
    rfl
  rw [e]
  have hu : ∀ (k : Fin 8448) (p : Fin 1280),
      (extractStridedSlice S8448x1280 ![0, 7680] (V (Proc.devRef .tc main_v125)) slices_S8448x8960_S8448x1280_0_7680 : Vec Ideal S8448x1280 .bf16) (ix2 k p) = f p k.val := by
    intro k p
    refine Eq.trans ?_ (hf p k)
    pointwise
  by_cases h : 7680 ≤ q.val
  · rw [dif_pos h]
    refine scatter_set_hit _ _ _ _ _ _ (fun j hj => ?_) (ix2 n ⟨q.val - 7680, by omega⟩) ((lands n _ rfl _ _ q).2 ⟨rfl, by show 7680 + (q.val - 7680) = q.val; omega⟩)
    obtain ⟨k, p, rfl⟩ : ∃ (k : Fin 8448) (p : Fin 1280), j = ix2 k p := ⟨j 0, j 1, eq_ix2 j⟩
    obtain ⟨rfl, h2⟩ := (lands n _ rfl k p q).1 hj
    rw [hu]
    exact congrArg (fun t => f t k.val) (Fin.ext (by show p.val = q.val - 7680; omega))
  · rw [dif_neg h]
    refine (scatter_set_miss _ _ _ _ _ fun j hj => h ?_).trans hx
    obtain ⟨k, p, rfl⟩ : ∃ (k : Fin 8448) (p : Fin 1280), j = ix2 k p := ⟨j 0, j 1, eq_ix2 j⟩
    have := ((lands n _ rfl k p q).1 hj).2
    omega

end

variable (m : (ℓ : Loc nD τ sig) → Buf (Elt Ideal) ℓ) (c : Dev nD)

theorem k_v100_16 : G16 m c (Proc.devRef .tc main_v100) = G14 m c (Proc.devRef .tc main_v100) := by
  rw [G16_keep m c (by decide), G15_keep m c (by decide)]
theorem k_v93_16 : G16 m c (Proc.devRef .tc main_v93) = G11 m c (Proc.devRef .tc main_v93) := by
  rw [G16_keep m c (by decide), G15_keep m c (by decide), G14_keep m c (by decide), G13_keep m c (by decide) (by decide), G12_keep m c (by decide)]
theorem k_v121_17 : G17 m c (Proc.devRef .tc main_v121) = G16 m c (Proc.devRef .tc main_v121) := G17_keep m c (by decide)
theorem k_v118_17 : G17 m c (Proc.devRef .tc main_v118) = G16 m c (Proc.devRef .tc main_v118) := G17_keep m c (by decide)
theorem k_v125_18 : G18 m c (Proc.devRef .tc main_v125) = G17 m c (Proc.devRef .tc main_v125) := G18_keep m c (by decide)

theorem k_arg7 : G18 m c (Proc.devRef .tc main_arg7) = m ((c : Thread nD τ).loc main_arg7) := by
  rw [← X4_arg m c main_arg7 (by decide), G19_eq, G19_keep m c (by decide)]

/-- The gates' gradient. -/
theorem res_v132 (n : Fin 8448) (q : Fin 2560) : (X4 m c (Proc.devRef .tc main_v132) : Vec Ideal S8448x2560 .bf16) (ix2 n q)
    = (if 240 ≤ n.val then
        (if h : q.val < 1280 then (colR m c ⟨q.val, h⟩).drR (n.val - 240) else (colR m c ⟨q.val - 1280, by omega⟩).diR (n.val - 240)) else 0 : EReal) := by
  rw [G19_eq, G19_keep m c (by decide)]
  exact st_v132 (G17 m c) n q (fun l k => (colR m c l).drR k) (fun l k => (colR m c l).diR k)
    (fun l k => (congrFun (k_v121_17 m c) _).trans (f_v121 m c k l)) (fun l k => (congrFun (k_v118_17 m c) _).trans (f_v118 m c k l))

/-- The convolved input's gradient. -/
theorem res_v127 (n : Fin 8448) (l : Fin 1280) : (X4 m c (Proc.devRef .tc main_v127) : Vec Ideal S8448x1280 .bf16) (ix2 n l)
    = (if 240 ≤ n.val then (colR m c l).dxcR (n.val - 240) else 0 : EReal) := by
  rw [G19_eq, G19_keep m c (by decide), G18_keep m c (by decide)]
  exact st_v127 (G16 m c) n l (fun k => (colR m c l).dxcR k) fun k => (congrFun (k_v100_16 m c) _).trans (f_v100 m c k l)

theorem val_v125 (n : Fin 8448) (l : Fin 1280) :
    (G18 m c (Proc.devRef .tc main_v125) : Vec Ideal S8448x8960 .bf16) (ix2 n ⟨7680 + l.val, by omega⟩)
    = (if 240 ≤ n.val then (colR m c l).dagR (n.val - 240) else 0 : EReal) := by
  rw [k_v125_18]
  exact st_v125 (G16 m c) n l (fun k => (colR m c l).dagR k) _ rfl fun k => (congrFun (k_v93_16 m c) _).trans (f_v93 m c k l)

/-- The projection's gradient: the last window of columns is this branch's, the others as they came. -/
theorem res_v135 (n : Fin 8448) (q : Fin 8960) : (X4 m c (Proc.devRef .tc main_v135) : Vec Ideal S8448x8960 .bf16) (ix2 n q)
    = (if h : 7680 ≤ q.val then (if 240 ≤ n.val then (colR m c ⟨q.val - 7680, by omega⟩).dagR (n.val - 240) else 0)
        else m ((c : Thread nD τ).loc main_arg7) (ix2 n q) : EReal) :=
  st_v135 (G18 m c) n q (fun l k => if 240 ≤ k then (colR m c l).dagR (k - 240) else 0) _ (fun l k => val_v125 m c k l)
    (congrFun (k_arg7 m c) _)

/-- The first gate's bias's gradient. -/
theorem res_v123 (l : Fin 1280) : (X4 m c (Proc.devRef .tc main_v123) : Vec Ideal S1x1280 .f32) (ix2 0 l) = (∑ x : Fin 8208, (colR m c l).drR x.val : EReal) := by
  rw [G19_eq, G19_keep m c (by decide), G18_keep m c (by decide), G17_keep m c (by decide)]
  exact f_v123 m c l

/-- The second gate's bias's gradient. -/
theorem res_v120 (l : Fin 1280) : (X4 m c (Proc.devRef .tc main_v120) : Vec Ideal S1x1280 .f32) (ix2 0 l) = (∑ x : Fin 8208, (colR m c l).diR x.val : EReal) := by
  rw [G19_eq, G19_keep m c (by decide), G18_keep m c (by decide), G17_keep m c (by decide)]
  exact f_v120 m c l

/-- The decay parameter's gradient. -/
theorem res_v115 (l : Fin 1280) : (X4 m c (Proc.devRef .tc main_v115) : Vec Ideal S1x1280 .f32) (ix2 0 l)
    = (-((∑ x : Fin 8208, (colR m c l).cfR (240 + x.val) * (colR m c l).dlaR x.val) * dspR (colR m c l).lam) : EReal) := by
  rw [G19_eq, G19_keep m c (by decide), G18_keep m c (by decide), G17_keep m c (by decide), G16_keep m c (by decide)]
  exact f_v115 m c l

end Cert.ReferenceIdeal.RG

end
-- ==== Proof.Value.lean ====
/-
The value claim: under the precondition the ideal kernel and the reference end with equal results.
-/
module

public import proofs.«01_k».proof.Proof.Tame
public import proofs.«01_k».proof.Proof.Lam
public import proofs.«01_k».proof.Proof.KerOut
public import proofs.«01_k».proof.Proof.RefOut

@[expose] public section

set_option maxRecDepth 16384

noncomputable section

namespace Cert.Value

open Idealize.ShloMosaic Idealize.ShloMosaic.TcCoe Idealize.SL.Sem
open Cert.Col Cert.KernelIdeal.RG

/-- Arrays of rank two with equal entries are equal. -/
theorem ext2 {N M : ℕ} {α : Type} {a b : (⟨2, ![N, M]⟩ : Shape).Idx → α} (h : ∀ (n : Fin N) (q : Fin M), a (ix2 n q) = b (ix2 n q)) : a = b := by
  funext y
  rw [eq_ix2 y]
  exact h (y 0) (y 1)

/-- The same of one row. -/
theorem ext1 {M : ℕ} {α : Type} {a b : (⟨2, ![1, M]⟩ : Shape).Idx → α} (h : ∀ q : Fin M, a (ix2 0 q) = b (ix2 0 q)) : a = b :=
  ext2 fun n q => by rw [show n = 0 from Subsingleton.elim _ _]; exact h q

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' columns, their arguments being equal. -/
def Same : Prop := ∀ l, Cert.ReferenceIdeal.RG.colR m' c l = colM m c l

variable (hs : Same m m' c) (T : ∀ l, Tame (colM m c l))
include hs T

theorem res0 : (bwdOut m 10 c : Vec Ideal Cert.KernelIdeal.S8448x2560 .bf16)
    = Cert.ReferenceIdeal.RG.X4 m' c (Proc.devRef .tc Cert.ReferenceIdeal.main_v132) := by
  refine ext2 (N := 8448) (M := 2560) fun n q => ?_
  refine (out0 m c n q).trans (Eq.trans ?_ (Cert.ReferenceIdeal.RG.res_v132 m' c n q).symm)
  unfold dgriOf
  by_cases h : q.val < 1280
  · rw [dif_pos h, dif_pos h, hs]
    exact (colM m c _).dr_eq (T _) _ n.isLt
  · rw [dif_neg h, dif_neg h, hs]
    exact (colM m c _).di_eq (T _) _ n.isLt

theorem res1 : (bwdOut m 11 c : Vec Ideal Cert.KernelIdeal.S8448x1280 .bf16)
    = Cert.ReferenceIdeal.RG.X4 m' c (Proc.devRef .tc Cert.ReferenceIdeal.main_v127) := by
  refine ext2 (N := 8448) (M := 1280) fun n q => ?_
  refine (out1 m c n q).trans (Eq.trans ?_ (Cert.ReferenceIdeal.RG.res_v127 m' c n q).symm)
  rw [hs]
  exact (colM m c _).dxc_eq (T _) _ n.isLt

theorem res2 (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) :
    (bwdOut m 12 c : Vec Ideal Cert.KernelIdeal.S8448x8960 .bf16)
      = Cert.ReferenceIdeal.RG.X4 m' c (Proc.devRef .tc Cert.ReferenceIdeal.main_v135) := by
  refine ext2 (N := 8448) (M := 8960) fun n q => ?_
  refine (out2 m c n q).trans (Eq.trans ?_ (Cert.ReferenceIdeal.RG.res_v135 m' c n q).symm)
  have hy : q.val < 8960 := q.isLt
  by_cases h : 7680 ≤ q.val
  · rw [if_pos (by omega), dif_pos h, hs]
    exact (colM m c _).dag_eq (T _) _ n.isLt
  · rw [if_neg (by omega), dif_neg h]
    exact (congrFun h7 _).symm

theorem res3 : (bwdOut m 13 c : Vec Ideal Cert.KernelIdeal.S1x1280 .f32)
    = Cert.ReferenceIdeal.RG.X4 m' c (Proc.devRef .tc Cert.ReferenceIdeal.main_v123) := by
  refine ext1 (M := 1280) fun q => ?_
  refine (out3 m c q).trans (Eq.trans ?_ (Cert.ReferenceIdeal.RG.res_v123 m' c q).symm)
  rw [hs]
  exact (colM m c _).dba_eq (T _)

theorem res4 : (bwdOut m 14 c : Vec Ideal Cert.KernelIdeal.S1x1280 .f32)
    = Cert.ReferenceIdeal.RG.X4 m' c (Proc.devRef .tc Cert.ReferenceIdeal.main_v120) := by
  refine ext1 (M := 1280) fun q => ?_
  refine (out4 m c q).trans (Eq.trans ?_ (Cert.ReferenceIdeal.RG.res_v120 m' c q).symm)
  rw [hs]
  exact (colM m c _).dbx_eq (T _)

theorem res5 : (bwdOut m 15 c : Vec Ideal Cert.KernelIdeal.S1x1280 .f32)
    = Cert.ReferenceIdeal.RG.X4 m' c (Proc.devRef .tc Cert.ReferenceIdeal.main_v115) := by
  refine ext1 (M := 1280) fun q => ?_
  refine (out5 m c q).trans (Eq.trans ?_ (Cert.ReferenceIdeal.RG.res_v115 m' c q).symm)
  rw [hs]
  exact (colM m c _).dlam_eq (T _)

end

/-- The value claim: the gradients of the recurrence's arguments are those of the reference. -/
theorem algebraic : Cert.algebraic_KernelIdeal_ReferenceIdeal_pre_tame := fun m g m' g' hpre hargs => by
  have T : ∀ c l, Tame (colM m c l) := fun c l => tame_of _ _ _ _ _ _ _ _ (hpre c) l
  have S : ∀ c, Same m m' c := fun c l => by
    obtain ⟨h0, h1, h2, h3, h4, h5, h6, h7⟩ := hargs c
    unfold Cert.ReferenceIdeal.RG.colR
    rw [h0, h1, h2, h3, h4, h5, h6]
    rfl
  refine ⟨fun c => bwdOut m 10 c, fun c => bwdOut m 11 c, fun c => bwdOut m 12 c, fun c => bwdOut m 13 c, fun c => bwdOut m 14 c,
    fun c => bwdOut m 15 c, ?_, ?_⟩
  · refine (θ_run Cert.KernelIdeal.defs _ _).mono (fun r h c => ?_) (Cert.KernelIdeal.RG.run_main (F := Ideal) m g)
    have e := ends_of m r.2 h.1 c
    exact ⟨e.r0, e.r1, e.r2, e.r3, e.r4, e.r5, e.a0, e.a1, e.a2, e.a3, e.a4, e.a5, e.a6, e.a7⟩
  · refine (θ_run Cert.ReferenceIdeal.defs _ _).mono (fun r h c => ?_) (Cert.ReferenceIdeal.RG.run_main (F := Ideal) m' g')
    exact ⟨(h c _ rfl).trans (res0 m m' c (S c) (T c)).symm, (h c _ rfl).trans (res1 m m' c (S c) (T c)).symm,
      (h c _ rfl).trans (res2 m m' c (S c) (T c) (hargs c).2.2.2.2.2.2.2).symm, (h c _ rfl).trans (res3 m m' c (S c) (T c)).symm,
      (h c _ rfl).trans (res4 m m' c (S c) (T c)).symm, (h c _ rfl).trans (res5 m m' c (S c) (T c)).symm,
      (h c _ rfl).trans (Cert.Frames.ref_arg m' c _ (by decide)), (h c _ rfl).trans (Cert.Frames.ref_arg m' c _ (by decide)),
      (h c _ rfl).trans (Cert.Frames.ref_arg m' c _ (by decide)), (h c _ rfl).trans (Cert.Frames.ref_arg m' c _ (by decide)),
      (h c _ rfl).trans (Cert.Frames.ref_arg m' c _ (by decide)), (h c _ rfl).trans (Cert.Frames.ref_arg m' c _ (by decide)),
      (h c _ rfl).trans (Cert.Frames.ref_arg m' c _ (by decide)), (h c _ rfl).trans (Cert.Frames.ref_arg m' c _ (by decide))⟩

end Cert.Value

end
-- ==== Proof.Prod.lean ====
/-
Sums over the rows of two arrays, a block of rows at a time.
-/
module

public import Idealize.ShloMosaic.PureOps.Ideal
public import Idealize.ShloMosaic.Lib.Pointwise

@[expose] public section

noncomputable section

namespace Cert.Prod

open Idealize.ShloMosaic

/-- An array's element at two numbers, zero outside it. -/
def at2 {N M : ℕ} (A : (⟨2, ![N, M]⟩ : Shape).Idx → EReal) (r p : ℕ) : EReal :=
  if h : r < N ∧ p < M then A (ix2 ⟨r, h.1⟩ ⟨p, h.2⟩) else 0

theorem at2_of {N M : ℕ} (A : (⟨2, ![N, M]⟩ : Shape).Idx → EReal) (r p : ℕ) (hr : r < N) (hp : p < M) :
    at2 A r p = A (ix2 ⟨r, hr⟩ ⟨p, hp⟩) := dif_pos ⟨hr, hp⟩

/-- Two arrays are equal when their elements are. -/
theorem ext2 {N M : ℕ} {α : Type} {a b : (⟨2, ![N, M]⟩ : Shape).Idx → α} (h : ∀ (n : Fin N) (q : Fin M), a (ix2 n q) = b (ix2 n q)) : a = b := by
  funext y
  rw [eq_ix2 y]
  exact h (y 0) (y 1)

/-- The product's element: the sum over the first `n` rows. -/
def rows {N M K : ℕ} (A : (⟨2, ![N, M]⟩ : Shape).Idx → EReal) (B : (⟨2, ![N, K]⟩ : Shape).Idx → EReal) (p q n : ℕ) : EReal :=
  ∑ t ∈ Finset.range n, at2 A t p * at2 B t q

/-- A block of rows more. -/
theorem rows_add {N M K : ℕ} (A : (⟨2, ![N, M]⟩ : Shape).Idx → EReal) (B : (⟨2, ![N, K]⟩ : Shape).Idx → EReal) (p q n b : ℕ) :
    rows A B p q (n + b) = rows A B p q n + ∑ k : Fin b, at2 A (n + k.val) p * at2 B (n + k.val) q := by
  unfold rows
  rw [Finset.sum_range_add, Finset.sum_range (fun x => at2 A (n + x) p * at2 B (n + x) q)]

theorem rows_zero {N M K : ℕ} (A : (⟨2, ![N, M]⟩ : Shape).Idx → EReal) (B : (⟨2, ![N, K]⟩ : Shape).Idx → EReal) (p q : ℕ) :
    rows A B p q 0 = 0 := Finset.sum_range_zero _

/-- All the rows. -/
theorem rows_all {N M K : ℕ} (A : (⟨2, ![N, M]⟩ : Shape).Idx → EReal) (B : (⟨2, ![N, K]⟩ : Shape).Idx → EReal) (p : Fin M) (q : Fin K) :
    rows A B p.val q.val N = ∑ k : Fin N, A (ix2 k p) * B (ix2 k q) := by
  unfold rows
  rw [Finset.sum_range]
  exact Finset.sum_congr rfl fun k _ => by rw [at2_of A _ _ k.isLt p.isLt, at2_of B _ _ k.isLt q.isLt]

end Cert.Prod
end
-- ==== Proof.Tn2.lean ====
/-
The weight gradient `mm_d_win`: the blocked product of the call is the product of the reference.
-/
module

public import proofs.«01_k».proof.Proof.Prod
public import proofs.«01_k».proof.Proof.Gen.Kernel2Ideal.Value
public import proofs.«01_k».proof.Proof.Gen.Reference2Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel2Ideal.Tn

open Cert.Kernel2Ideal Cert.Kernel2Ideal.Gen Cert.Kernel2Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

section
variable {F : FTy → Type} [FloatOps F] (c : Dev nD) (i : grid0.Coords) (a3 : Memref sig .tc .vmem S1408x1024 .bf16) (h3 : a3.IsWhole)
    (a4 : Memref sig .tc .vmem S1408x1792 .bf16) (h4 : a4.IsWhole) (a5 : Memref sig .tc .vmem S1024x1792 .bf16) (h5 : a5.IsWhole)
    (a6 : Memref sig .tc .vmem S1024x1792 .f32) (h6 : a6.IsWhole)
  (x0 : Vec F S1408x1024 .bf16) (x1 : Vec F S1408x1792 .bf16)

/-- The first point of a run stores zero, then adds its product. -/
theorem sout_A (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1792) hz, View.readCov_unit_zero (S := S1024x1792) _ hz]
  simp only [View.readAt_eq_ld, h3.read_unread, h4.read_unread, View.ld_unit_zero (S := S1408x1024) hz, View.ld_unit_zero (S := S1408x1792) hz]

/-- A later point adds its product to what it finds. -/
theorem sout_B (hc0 : ¬cond0_0 i) (hc1 : ¬cond0_1 i) (xs : Vec F S1024x1792 .f32) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1408x1024) hz,
    View.ld_unit_zero (S := S1408x1792) hz, View.ld_unit_zero (S := S1024x1792) hz]

/-- The last point of a run too. -/
theorem sout_C (hc0 : ¬cond0_0 i) (hc1 : cond0_1 i) (xs : Vec F S1024x1792 .f32) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1408x1024) hz,
    View.ld_unit_zero (S := S1408x1792) hz, View.ld_unit_zero (S := S1024x1792) hz]

/-- … and it writes the sum out. -/
theorem out_C (hc0 : ¬cond0_0 i) (hc1 : cond0_1 i) (xs : Vec F S1024x1792 .f32) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1792) _ hz]
  simp only [View.readAt_eq_ld, h3.read_unread, h4.read_unread, h6.read_unread, View.ld_unit_zero (S := S1408x1024) hz,
    View.ld_unit_zero (S := S1408x1792) hz, View.ld_unit_zero (S := S1024x1792) hz]

end

/-- The zero block. -/
theorem pay1_apply (y : S1024x1792.Idx) : k0_pay1 (F := Ideal) y = 0 := by
  unfold k0_pay1
  rw [shapeCast_self]
  exact Ideal.ofBits_zero_f32

/-- A point's sum: what it finds and the product of its blocks. -/
theorem pay2_apply (v0 : Vec Ideal S1408x1024 .bf16) (v4 : Vec Ideal S1024x1792 .f32) (v5 : Vec Ideal S1408x1792 .bf16) (r : Fin 1024) (s : Fin 1792) :
    k0_pay2 v0 v4 v5 (ix2 r s) = v4 (ix2 r s) + ∑ k : Fin 1408, v0 (ix2 k r) * v5 (ix2 k s) := by
  unfold k0_pay2
  rw [shapeCast_self]
  show v4 (ix2 r s) + FloatOps.matmul dot_S1408x1024_S1408x1792_S1024x1792_0_0_1_1_n_n none v0 v5 (constant (F := Ideal) S1024x1792 .f32 0x00000000#32) (ix2 r s) = _
  rw [Ideal.matmul_constant_zero_apply]
  rw [DotDims.sum_contr₁ dot_S1408x1024_S1408x1792_S1024x1792_0_0_1_1_n_n (a := 0) rfl (K := 1408) rfl]
  refine congrArg (v4 (ix2 r s) + ·) (Finset.sum_congr rfl fun k _ => ?_)
  congr 2
  · funext a
    match a with
    | ⟨0, _⟩ => rfl
    | ⟨1, _⟩ => rfl
  · funext a
    match a with
    | ⟨0, _⟩ => rfl
    | ⟨1, _⟩ => rfl

variable (m : (ℓ : Loc nD τ sig) → Buf (Elt Ideal) ℓ) (c : Dev nD)

/-- The two arguments. -/
def argA : (⟨2, ![8448, 1024]⟩ : Shape).Idx → EReal := m ((c : Thread nD τ).loc main_arg0)
def argB : (⟨2, ![8448, 8960]⟩ : Shape).Idx → EReal := m ((c : Thread nD τ).loc main_arg1)

theorem idx0 : ∀ t : Fin cfg0.N, win0_0.index t = ![t.val % 6, t.val / 30] := (by decide +kernel : ∀ t : Fin grid0.N, _)
theorem idx1 : ∀ t : Fin cfg0.N, win0_1.index t = ![t.val % 6, t.val / 6 % 5] := (by decide +kernel : ∀ t : Fin grid0.N, _)

theorem blkA (t : Fin cfg0.N) (k : Fin 1408) (r : Fin 1024) :
    (iblk m c 0 t : Vec Ideal S1408x1024 .bf16) (ix2 k r) = at2 (argA m c) (1408 * (t.val % 6) + k.val) (1024 * (t.val / 30) + r.val) := by
  have ht : t.val < 30 := Nat.lt_of_lt_of_eq t.isLt N_0
  have hk := k.isLt
  have hr := r.isLt
  rw [at2_of _ _ _ (by omega) (by omega)]
  unfold argA
  blk_simp [iblk]
  congr 1
  blk_ext [idx0]

theorem blkB (t : Fin cfg0.N) (k : Fin 1408) (s : Fin 1792) :
    (iblk m c 1 t : Vec Ideal S1408x1792 .bf16) (ix2 k s) = at2 (argB m c) (1408 * (t.val % 6) + k.val) (1792 * (t.val / 6 % 5) + s.val) := by
  have ht : t.val < 30 := Nat.lt_of_lt_of_eq t.isLt N_0
  have hk := k.isLt
  have hs := s.isLt
  rw [at2_of _ _ _ (by omega) (by omega)]
  unfold argB
  blk_simp [iblk]
  congr 1
  blk_ext [idx1]

/-- A point's step, from what the rows before its block gave. -/
theorem step (t : Fin cfg0.N) (xs : Vec Ideal S1024x1792 .f32) (r : Fin 1024) (s : Fin 1792)
    (hx : xs (ix2 r s) = rows (argA m c) (argB m c) (1024 * (t.val / 30) + r.val) (1792 * (t.val / 6 % 5) + s.val) (1408 * (t.val % 6))) :
    k0_pay2 (iblk m c 0 t : Vec Ideal S1408x1024 .bf16) xs (iblk m c 1 t : Vec Ideal S1408x1792 .bf16) (ix2 r s)
      = rows (argA m c) (argB m c) (1024 * (t.val / 30) + r.val) (1792 * (t.val / 6 % 5) + s.val) (1408 * (t.val % 6) + 1408) := by
  rw [pay2_apply, rows_add, hx]
  exact congrArg (rows _ _ _ _ _ + ·) (Finset.sum_congr rfl fun k _ => by rw [blkA, blkB])

/-- What the scratch holds after a point: the sum over the rows up to its block's end. -/
theorem acc_apply (r : Fin 1024) (s : Fin 1792) : ∀ (n : ℕ) (t : Fin cfg0.N), t.val = n → (outsAt0 m c t.val t.isLt).2 (ix2 r s)
    = rows (argA m c) (argB m c) (1024 * (t.val / 30) + r.val) (1792 * (t.val / 6 % 5) + s.val) (1408 * (t.val % 6) + 1408) := by
  intro n
  induction n with
  | zero =>
    intro t h
    rw [outsAt0_A m c t (by omega) (by omega)]
    dsimp only
    rw [sout_A]
    refine step m c t _ r s ?_
    rw [pay1_apply, show 1408 * (t.val % 6) = 0 by omega, rows_zero]
  | succ n ih =>
    intro t h
    have ht : t.val < 30 := Nat.lt_of_lt_of_eq t.isLt N_0
    by_cases h0 : t.val % 6 = 0
    · rw [outsAt0_A m c t h0 (by omega)]
      dsimp only
      rw [sout_A]
      refine step m c t _ r s ?_
      rw [pay1_apply, show 1408 * (t.val % 6) = 0 by omega, rows_zero]
    · have e := ih ⟨t.val - 1, Nat.lt_of_le_of_lt (Nat.sub_le _ _) t.isLt⟩ (by dsimp only; omega)
      dsimp only at e
      rw [show 1408 * ((t.val - 1) % 6) + 1408 = 1408 * (t.val % 6) by omega, show (t.val - 1) / 30 = t.val / 30 by omega,
        show (t.val - 1) / 6 % 5 = t.val / 6 % 5 by omega] at e
      by_cases h1 : t.val % 6 = 5
      · rw [outsAt0_C m c t h0 h1]
        dsimp only
        rw [sout_C]
        exact step m c t _ r s e
      · rw [outsAt0_B m c t h0 h1]
        dsimp only
        rw [sout_B]
        exact step m c t _ r s e

/-- What the last point of a run writes out. -/
theorem out_apply (t : Fin cfg0.N) (h1 : t.val % 6 = 5) (r : Fin 1024) (s : Fin 1792) : (outsAt0 m c t.val t.isLt).1 (ix2 r s)
    = rows (argA m c) (argB m c) (1024 * (t.val / 30) + r.val) (1792 * (t.val / 6 % 5) + s.val) 8448 := by
  have e := acc_apply m c r s t.val t rfl
  rw [show 1408 * (t.val % 6) + 1408 = 8448 by omega] at e
  rw [← e, outsAt0_C m c t (by omega) h1]
  dsimp only
  rw [out_C, sout_C]
  rfl

/-- The array after the run. -/
theorem arr_apply (p : Fin 1024) (q : Fin 8960) :
    (G2 m c : (⟨2, ![1024, 8960]⟩ : Shape).Idx → EReal) (ix2 p q) = ∑ k : Fin 8448, argA m c (ix2 k p) * argB m c (ix2 k q) := by
  have hp := p.isLt
  have hq := q.isLt
  have hpt : pt2Of (ix2 p q) = 6 * (5 * (p.val / 1024 - 0) + 1 * (q.val / 1792 - 0)) + 5 := rfl
  have hN : pt2Of (ix2 p q) < cfg0.N := by rw [hpt, show cfg0.N = 30 from N_0]; omega
  rw [← rows_all]
  refine (dif_pos hN).trans ?_
  rw [← outsAt0_sweep m c _ hN]
  have hl : loc2Of (ix2 p q) = ix2 ⟨p.val % 1024, Nat.mod_lt _ (by decide)⟩ ⟨q.val % 1792, Nat.mod_lt _ (by decide)⟩ := by
    funext a
    match a with
    | ⟨0, _⟩ => rfl
    | ⟨1, _⟩ => rfl
  rw [hl]
  refine (out_apply m c ⟨pt2Of (ix2 p q), hN⟩ (by dsimp only; rw [hpt]; omega) ⟨p.val % 1024, Nat.mod_lt _ (by decide)⟩ ⟨q.val % 1792, Nat.mod_lt _ (by decide)⟩).trans ?_
  dsimp only
  rw [hpt]
  congr 1 <;> omega

end Cert.Kernel2Ideal.Tn

namespace Cert.Reference2Ideal.Tn

open Cert.Reference2Ideal Cert.Reference2Ideal.Gen Idealize.ShloMosaic Idealize.ShloMosaic.TcCoe Idealize.SL.Sem

/-- The reference's result. -/
theorem res_apply (A : (⟨2, ![8448, 1024]⟩ : Shape).Idx → EReal) (B : (⟨2, ![8448, 8960]⟩ : Shape).Idx → EReal) (p : Fin 1024) (q : Fin 8960) :
    (truncf (F := Ideal) (φ := .f32) .bf16 (transpose S1024x8960 [1, 0] (Host.dotGeneral (F := Ideal) dot_S8448x8960_S8448x1024_S8960x1024_0_0_1_1_n_n none
        (extf (F := Ideal) (φ := .bf16) (s := S8448x8960) .f32 B bitsLt_bf16_f32) (extf (F := Ideal) (φ := .bf16) (s := S8448x1024) .f32 A bitsLt_bf16_f32))
        transposes_S8960x1024_S1024x8960_1_0) bitsLt_bf16_f32 : (⟨2, ![1024, 8960]⟩ : Shape).Idx → EReal) (ix2 p q)
      = ∑ k : Fin 8448, A (ix2 k p) * B (ix2 k q) := by
  pointwise
  refine Finset.sum_congr rfl fun k _ => ?_
  exact mul_comm _ _

end Cert.Reference2Ideal.Tn

end
-- ==== Proof.Tn3.lean ====
/-
The weight gradient `mm_d_wfi`: the blocked product of the call is the product of the reference.
-/
module

public import proofs.«01_k».proof.Proof.Prod
public import proofs.«01_k».proof.Proof.Gen.Kernel3Ideal.Value
public import proofs.«01_k».proof.Proof.Gen.Reference3Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel3Ideal.Tn

open Cert.Kernel3Ideal Cert.Kernel3Ideal.Gen Cert.Kernel3Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

section
variable {F : FTy → Type} [FloatOps F] (c : Dev nD) (i : grid0.Coords) (a3 : Memref sig .tc .vmem S1408x1024 .bf16) (h3 : a3.IsWhole)
    (a4 : Memref sig .tc .vmem S1408x1408 .bf16) (h4 : a4.IsWhole) (a5 : Memref sig .tc .vmem S1024x1408 .bf16) (h5 : a5.IsWhole)
    (a6 : Memref sig .tc .vmem S1024x1408 .f32) (h6 : a6.IsWhole)
  (x0 : Vec F S1408x1024 .bf16) (x1 : Vec F S1408x1408 .bf16)

/-- The first point of a run stores zero, then adds its product. -/
theorem sout_A (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1408) hz, View.readCov_unit_zero (S := S1024x1408) _ hz]
  simp only [View.readAt_eq_ld, h3.read_unread, h4.read_unread, View.ld_unit_zero (S := S1408x1024) hz, View.ld_unit_zero (S := S1408x1408) hz]

/-- A later point adds its product to what it finds. -/
theorem sout_B (hc0 : ¬cond0_0 i) (hc1 : ¬cond0_1 i) (xs : Vec F S1024x1408 .f32) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1408x1024) hz,
    View.ld_unit_zero (S := S1408x1408) hz, View.ld_unit_zero (S := S1024x1408) hz]

/-- The last point of a run too. -/
theorem sout_C (hc0 : ¬cond0_0 i) (hc1 : cond0_1 i) (xs : Vec F S1024x1408 .f32) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1408x1024) hz,
    View.ld_unit_zero (S := S1408x1408) hz, View.ld_unit_zero (S := S1024x1408) hz]

/-- … and it writes the sum out. -/
theorem out_C (hc0 : ¬cond0_0 i) (hc1 : cond0_1 i) (xs : Vec F S1024x1408 .f32) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1408) _ hz]
  simp only [View.readAt_eq_ld, h3.read_unread, h4.read_unread, h6.read_unread, View.ld_unit_zero (S := S1408x1024) hz,
    View.ld_unit_zero (S := S1408x1408) hz, View.ld_unit_zero (S := S1024x1408) hz]

end

/-- The zero block. -/
theorem pay1_apply (y : S1024x1408.Idx) : k0_pay1 (F := Ideal) y = 0 := by
  unfold k0_pay1
  rw [shapeCast_self]
  exact Ideal.ofBits_zero_f32

/-- A point's sum: what it finds and the product of its blocks. -/
theorem pay2_apply (v0 : Vec Ideal S1408x1024 .bf16) (v4 : Vec Ideal S1024x1408 .f32) (v5 : Vec Ideal S1408x1408 .bf16) (r : Fin 1024) (s : Fin 1408) :
    k0_pay2 v0 v4 v5 (ix2 r s) = v4 (ix2 r s) + ∑ k : Fin 1408, v0 (ix2 k r) * v5 (ix2 k s) := by
  unfold k0_pay2
  rw [shapeCast_self]
  show v4 (ix2 r s) + FloatOps.matmul dot_S1408x1024_S1408x1408_S1024x1408_0_0_1_1_n_n none v0 v5 (constant (F := Ideal) S1024x1408 .f32 0x00000000#32) (ix2 r s) = _
  rw [Ideal.matmul_constant_zero_apply]
  rw [DotDims.sum_contr₁ dot_S1408x1024_S1408x1408_S1024x1408_0_0_1_1_n_n (a := 0) rfl (K := 1408) rfl]
  refine congrArg (v4 (ix2 r s) + ·) (Finset.sum_congr rfl fun k _ => ?_)
  congr 2
  · funext a
    match a with
    | ⟨0, _⟩ => rfl
    | ⟨1, _⟩ => rfl
  · funext a
    match a with
    | ⟨0, _⟩ => rfl
    | ⟨1, _⟩ => rfl

variable (m : (ℓ : Loc nD τ sig) → Buf (Elt Ideal) ℓ) (c : Dev nD)

/-- The two arguments. -/
def argA : (⟨2, ![8448, 1024]⟩ : Shape).Idx → EReal := m ((c : Thread nD τ).loc main_arg0)
def argB : (⟨2, ![8448, 5632]⟩ : Shape).Idx → EReal := m ((c : Thread nD τ).loc main_arg1)

theorem idx0 : ∀ t : Fin cfg0.N, win0_0.index t = ![t.val % 6, t.val / 24] := (by decide +kernel : ∀ t : Fin grid0.N, _)
theorem idx1 : ∀ t : Fin cfg0.N, win0_1.index t = ![t.val % 6, t.val / 6 % 4] := (by decide +kernel : ∀ t : Fin grid0.N, _)

theorem blkA (t : Fin cfg0.N) (k : Fin 1408) (r : Fin 1024) :
    (iblk m c 0 t : Vec Ideal S1408x1024 .bf16) (ix2 k r) = at2 (argA m c) (1408 * (t.val % 6) + k.val) (1024 * (t.val / 24) + r.val) := by
  have ht : t.val < 24 := Nat.lt_of_lt_of_eq t.isLt N_0
  have hk := k.isLt
  have hr := r.isLt
  rw [at2_of _ _ _ (by omega) (by omega)]
  unfold argA
  blk_simp [iblk]
  congr 1
  blk_ext [idx0]

theorem blkB (t : Fin cfg0.N) (k : Fin 1408) (s : Fin 1408) :
    (iblk m c 1 t : Vec Ideal S1408x1408 .bf16) (ix2 k s) = at2 (argB m c) (1408 * (t.val % 6) + k.val) (1408 * (t.val / 6 % 4) + s.val) := by
  have ht : t.val < 24 := Nat.lt_of_lt_of_eq t.isLt N_0
  have hk := k.isLt
  have hs := s.isLt
  rw [at2_of _ _ _ (by omega) (by omega)]
  unfold argB
  blk_simp [iblk]
  congr 1
  blk_ext [idx1]

/-- A point's step, from what the rows before its block gave. -/
theorem step (t : Fin cfg0.N) (xs : Vec Ideal S1024x1408 .f32) (r : Fin 1024) (s : Fin 1408)
    (hx : xs (ix2 r s) = rows (argA m c) (argB m c) (1024 * (t.val / 24) + r.val) (1408 * (t.val / 6 % 4) + s.val) (1408 * (t.val % 6))) :
    k0_pay2 (iblk m c 0 t : Vec Ideal S1408x1024 .bf16) xs (iblk m c 1 t : Vec Ideal S1408x1408 .bf16) (ix2 r s)
      = rows (argA m c) (argB m c) (1024 * (t.val / 24) + r.val) (1408 * (t.val / 6 % 4) + s.val) (1408 * (t.val % 6) + 1408) := by
  rw [pay2_apply, rows_add, hx]
  exact congrArg (rows _ _ _ _ _ + ·) (Finset.sum_congr rfl fun k _ => by rw [blkA, blkB])

/-- What the scratch holds after a point: the sum over the rows up to its block's end. -/
theorem acc_apply (r : Fin 1024) (s : Fin 1408) : ∀ (n : ℕ) (t : Fin cfg0.N), t.val = n → (outsAt0 m c t.val t.isLt).2 (ix2 r s)
    = rows (argA m c) (argB m c) (1024 * (t.val / 24) + r.val) (1408 * (t.val / 6 % 4) + s.val) (1408 * (t.val % 6) + 1408) := by
  intro n
  induction n with
  | zero =>
    intro t h
    rw [outsAt0_A m c t (by omega) (by omega)]
    dsimp only
    rw [sout_A]
    refine step m c t _ r s ?_
    rw [pay1_apply, show 1408 * (t.val % 6) = 0 by omega, rows_zero]
  | succ n ih =>
    intro t h
    have ht : t.val < 24 := Nat.lt_of_lt_of_eq t.isLt N_0
    by_cases h0 : t.val % 6 = 0
    · rw [outsAt0_A m c t h0 (by omega)]
      dsimp only
      rw [sout_A]
      refine step m c t _ r s ?_
      rw [pay1_apply, show 1408 * (t.val % 6) = 0 by omega, rows_zero]
    · have e := ih ⟨t.val - 1, Nat.lt_of_le_of_lt (Nat.sub_le _ _) t.isLt⟩ (by dsimp only; omega)
      dsimp only at e
      rw [show 1408 * ((t.val - 1) % 6) + 1408 = 1408 * (t.val % 6) by omega, show (t.val - 1) / 24 = t.val / 24 by omega,
        show (t.val - 1) / 6 % 4 = t.val / 6 % 4 by omega] at e
      by_cases h1 : t.val % 6 = 5
      · rw [outsAt0_C m c t h0 h1]
        dsimp only
        rw [sout_C]
        exact step m c t _ r s e
      · rw [outsAt0_B m c t h0 h1]
        dsimp only
        rw [sout_B]
        exact step m c t _ r s e

/-- What the last point of a run writes out. -/
theorem out_apply (t : Fin cfg0.N) (h1 : t.val % 6 = 5) (r : Fin 1024) (s : Fin 1408) : (outsAt0 m c t.val t.isLt).1 (ix2 r s)
    = rows (argA m c) (argB m c) (1024 * (t.val / 24) + r.val) (1408 * (t.val / 6 % 4) + s.val) 8448 := by
  have e := acc_apply m c r s t.val t rfl
  rw [show 1408 * (t.val % 6) + 1408 = 8448 by omega] at e
  rw [← e, outsAt0_C m c t (by omega) h1]
  dsimp only
  rw [out_C, sout_C]
  rfl

/-- The array after the run. -/
theorem arr_apply (p : Fin 1024) (q : Fin 5632) :
    (G2 m c : (⟨2, ![1024, 5632]⟩ : Shape).Idx → EReal) (ix2 p q) = ∑ k : Fin 8448, argA m c (ix2 k p) * argB m c (ix2 k q) := by
  have hp := p.isLt
  have hq := q.isLt
  have hpt : pt2Of (ix2 p q) = 6 * (4 * (p.val / 1024 - 0) + 1 * (q.val / 1408 - 0)) + 5 := rfl
  have hN : pt2Of (ix2 p q) < cfg0.N := by rw [hpt, show cfg0.N = 24 from N_0]; omega
  rw [← rows_all]
  refine (dif_pos hN).trans ?_
  rw [← outsAt0_sweep m c _ hN]
  have hl : loc2Of (ix2 p q) = ix2 ⟨p.val % 1024, Nat.mod_lt _ (by decide)⟩ ⟨q.val % 1408, Nat.mod_lt _ (by decide)⟩ := by
    funext a
    match a with
    | ⟨0, _⟩ => rfl
    | ⟨1, _⟩ => rfl
  rw [hl]
  refine (out_apply m c ⟨pt2Of (ix2 p q), hN⟩ (by dsimp only; rw [hpt]; omega) ⟨p.val % 1024, Nat.mod_lt _ (by decide)⟩ ⟨q.val % 1408, Nat.mod_lt _ (by decide)⟩).trans ?_
  dsimp only
  rw [hpt]
  congr 1 <;> omega

end Cert.Kernel3Ideal.Tn

namespace Cert.Reference3Ideal.Tn

open Cert.Reference3Ideal Cert.Reference3Ideal.Gen Idealize.ShloMosaic Idealize.ShloMosaic.TcCoe Idealize.SL.Sem

/-- The reference's result. -/
theorem res_apply (A : (⟨2, ![8448, 1024]⟩ : Shape).Idx → EReal) (B : (⟨2, ![8448, 5632]⟩ : Shape).Idx → EReal) (p : Fin 1024) (q : Fin 5632) :
    (truncf (F := Ideal) (φ := .f32) .bf16 (transpose S1024x5632 [1, 0] (Host.dotGeneral (F := Ideal) dot_S8448x5632_S8448x1024_S5632x1024_0_0_1_1_n_n none
        (extf (F := Ideal) (φ := .bf16) (s := S8448x5632) .f32 B bitsLt_bf16_f32) (extf (F := Ideal) (φ := .bf16) (s := S8448x1024) .f32 A bitsLt_bf16_f32))
        transposes_S5632x1024_S1024x5632_1_0) bitsLt_bf16_f32 : (⟨2, ![1024, 5632]⟩ : Shape).Idx → EReal) (ix2 p q)
      = ∑ k : Fin 8448, A (ix2 k p) * B (ix2 k q) := by
  pointwise
  refine Finset.sum_congr rfl fun k _ => ?_
  exact mul_comm _ _

end Cert.Reference3Ideal.Tn

end
-- ==== Proof.Tn4.lean ====
/-
The weight gradient `mm_d_wfd`: the blocked product of the call is the product of the reference.
-/
module

public import proofs.«01_k».proof.Proof.Prod
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel4Ideal.Tn

open Cert.Kernel4Ideal Cert.Kernel4Ideal.Gen Cert.Kernel4Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

section
variable {F : FTy → Type} [FloatOps F] (c : Dev nD) (i : grid0.Coords) (a3 : Memref sig .tc .vmem S1408x1408 .bf16) (h3 : a3.IsWhole)
    (a4 : Memref sig .tc .vmem S1408x1024 .bf16) (h4 : a4.IsWhole) (a5 : Memref sig .tc .vmem S1408x1024 .bf16) (h5 : a5.IsWhole)
    (a6 : Memref sig .tc .vmem S1408x1024 .f32) (h6 : a6.IsWhole)
  (x0 : Vec F S1408x1408 .bf16) (x1 : Vec F S1408x1024 .bf16)

/-- The first point of a run stores zero, then adds its product. -/
theorem sout_A (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1408x1408) hz, View.ld_unit_zero (S := S1408x1024) hz]

/-- A later point adds its product to what it finds. -/
theorem sout_B (hc0 : ¬cond0_0 i) (hc1 : ¬cond0_1 i) (xs : Vec F S1408x1024 .f32) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1408x1408) hz,
    View.ld_unit_zero (S := S1408x1024) hz, View.ld_unit_zero (S := S1408x1024) hz]

/-- The last point of a run too. -/
theorem sout_C (hc0 : ¬cond0_0 i) (hc1 : cond0_1 i) (xs : Vec F S1408x1024 .f32) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1408x1408) hz,
    View.ld_unit_zero (S := S1408x1024) hz, View.ld_unit_zero (S := S1408x1024) hz]

/-- … and it writes the sum out. -/
theorem out_C (hc0 : ¬cond0_0 i) (hc1 : cond0_1 i) (xs : Vec F S1408x1024 .f32) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S1408x1408) hz,
    View.ld_unit_zero (S := S1408x1024) hz, View.ld_unit_zero (S := S1408x1024) hz]

end

/-- The zero block. -/
theorem pay1_apply (y : S1408x1024.Idx) : k0_pay1 (F := Ideal) y = 0 := by
  unfold k0_pay1
  rw [shapeCast_self]
  exact Ideal.ofBits_zero_f32

/-- A point's sum: what it finds and the product of its blocks. -/
theorem pay2_apply (v0 : Vec Ideal S1408x1408 .bf16) (v4 : Vec Ideal S1408x1024 .f32) (v5 : Vec Ideal S1408x1024 .bf16) (r : Fin 1408) (s : Fin 1024) :
    k0_pay2 v0 v4 v5 (ix2 r s) = v4 (ix2 r s) + ∑ k : Fin 1408, v0 (ix2 k r) * v5 (ix2 k s) := by
  unfold k0_pay2
  rw [shapeCast_self]
  show v4 (ix2 r s) + FloatOps.matmul dot_S1408x1408_S1408x1024_S1408x1024_0_0_1_1_n_n none v0 v5 (constant (F := Ideal) S1408x1024 .f32 0x00000000#32) (ix2 r s) = _
  rw [Ideal.matmul_constant_zero_apply]
  rw [DotDims.sum_contr₁ dot_S1408x1408_S1408x1024_S1408x1024_0_0_1_1_n_n (a := 0) rfl (K := 1408) rfl]
  refine congrArg (v4 (ix2 r s) + ·) (Finset.sum_congr rfl fun k _ => ?_)
  congr 2
  · funext a
    match a with
    | ⟨0, _⟩ => rfl
    | ⟨1, _⟩ => rfl
  · funext a
    match a with
    | ⟨0, _⟩ => rfl
    | ⟨1, _⟩ => rfl

variable (m : (ℓ : Loc nD τ sig) → Buf (Elt Ideal) ℓ) (c : Dev nD)

/-- The two arguments. -/
def argA : (⟨2, ![8448, 2816]⟩ : Shape).Idx → EReal := m ((c : Thread nD τ).loc main_arg0)
def argB : (⟨2, ![8448, 1024]⟩ : Shape).Idx → EReal := m ((c : Thread nD τ).loc main_arg1)

theorem idx0 : ∀ t : Fin cfg0.N, win0_0.index t = ![t.val % 6, t.val / 6] := (by decide +kernel : ∀ t : Fin grid0.N, _)
theorem idx1 : ∀ t : Fin cfg0.N, win0_1.index t = ![t.val % 6, t.val / 6 % 1] := (by decide +kernel : ∀ t : Fin grid0.N, _)

theorem blkA (t : Fin cfg0.N) (k : Fin 1408) (r : Fin 1408) :
    (iblk m c 0 t : Vec Ideal S1408x1408 .bf16) (ix2 k r) = at2 (argA m c) (1408 * (t.val % 6) + k.val) (1408 * (t.val / 6) + r.val) := by
  have ht : t.val < 12 := Nat.lt_of_lt_of_eq t.isLt N_0
  have hk := k.isLt
  have hr := r.isLt
  rw [at2_of _ _ _ (by omega) (by omega)]
  unfold argA
  blk_simp [iblk]
  congr 1
  blk_ext [idx0]

theorem blkB (t : Fin cfg0.N) (k : Fin 1408) (s : Fin 1024) :
    (iblk m c 1 t : Vec Ideal S1408x1024 .bf16) (ix2 k s) = at2 (argB m c) (1408 * (t.val % 6) + k.val) (1024 * (t.val / 6 % 1) + s.val) := by
  have ht : t.val < 12 := Nat.lt_of_lt_of_eq t.isLt N_0
  have hk := k.isLt
  have hs := s.isLt
  rw [at2_of _ _ _ (by omega) (by omega)]
  unfold argB
  blk_simp [iblk]
  congr 1
  blk_ext [idx1]

/-- A point's step, from what the rows before its block gave. -/
theorem step (t : Fin cfg0.N) (xs : Vec Ideal S1408x1024 .f32) (r : Fin 1408) (s : Fin 1024)
    (hx : xs (ix2 r s) = rows (argA m c) (argB m c) (1408 * (t.val / 6) + r.val) (1024 * (t.val / 6 % 1) + s.val) (1408 * (t.val % 6))) :
    k0_pay2 (iblk m c 0 t : Vec Ideal S1408x1408 .bf16) xs (iblk m c 1 t : Vec Ideal S1408x1024 .bf16) (ix2 r s)
      = rows (argA m c) (argB m c) (1408 * (t.val / 6) + r.val) (1024 * (t.val / 6 % 1) + s.val) (1408 * (t.val % 6) + 1408) := by
  rw [pay2_apply, rows_add, hx]
  exact congrArg (rows _ _ _ _ _ + ·) (Finset.sum_congr rfl fun k _ => by rw [blkA, blkB])

/-- What the scratch holds after a point: the sum over the rows up to its block's end. -/
theorem acc_apply (r : Fin 1408) (s : Fin 1024) : ∀ (n : ℕ) (t : Fin cfg0.N), t.val = n → (outsAt0 m c t.val t.isLt).2 (ix2 r s)
    = rows (argA m c) (argB m c) (1408 * (t.val / 6) + r.val) (1024 * (t.val / 6 % 1) + s.val) (1408 * (t.val % 6) + 1408) := by
  intro n
  induction n with
  | zero =>
    intro t h
    rw [outsAt0_A m c t (by omega) (by omega)]
    dsimp only
    rw [sout_A]
    refine step m c t _ r s ?_
    rw [pay1_apply, show 1408 * (t.val % 6) = 0 by omega, rows_zero]
  | succ n ih =>
    intro t h
    have ht : t.val < 12 := Nat.lt_of_lt_of_eq t.isLt N_0
    by_cases h0 : t.val % 6 = 0
    · rw [outsAt0_A m c t h0 (by omega)]
      dsimp only
      rw [sout_A]
      refine step m c t _ r s ?_
      rw [pay1_apply, show 1408 * (t.val % 6) = 0 by omega, rows_zero]
    · have e := ih ⟨t.val - 1, Nat.lt_of_le_of_lt (Nat.sub_le _ _) t.isLt⟩ (by dsimp only; omega)
      dsimp only at e
      rw [show 1408 * ((t.val - 1) % 6) + 1408 = 1408 * (t.val % 6) by omega, show (t.val - 1) / 6 = t.val / 6 by omega] at e
      by_cases h1 : t.val % 6 = 5
      · rw [outsAt0_C m c t h0 h1]
        dsimp only
        rw [sout_C]
        exact step m c t _ r s e
      · rw [outsAt0_B m c t h0 h1]
        dsimp only
        rw [sout_B]
        exact step m c t _ r s e

/-- What the last point of a run writes out. -/
theorem out_apply (t : Fin cfg0.N) (h1 : t.val % 6 = 5) (r : Fin 1408) (s : Fin 1024) : (outsAt0 m c t.val t.isLt).1 (ix2 r s)
    = rows (argA m c) (argB m c) (1408 * (t.val / 6) + r.val) (1024 * (t.val / 6 % 1) + s.val) 8448 := by
  have e := acc_apply m c r s t.val t rfl
  rw [show 1408 * (t.val % 6) + 1408 = 8448 by omega] at e
  rw [← e, outsAt0_C m c t (by omega) h1]
  dsimp only
  rw [out_C, sout_C]
  rfl

/-- The array after the run. -/
theorem arr_apply (p : Fin 2816) (q : Fin 1024) :
    (G2 m c : (⟨2, ![2816, 1024]⟩ : Shape).Idx → EReal) (ix2 p q) = ∑ k : Fin 8448, argA m c (ix2 k p) * argB m c (ix2 k q) := by
  have hp := p.isLt
  have hq := q.isLt
  have hpt : pt2Of (ix2 p q) = 6 * (1 * (p.val / 1408 - 0) + 1 * (q.val / 1024 - 0)) + 5 := rfl
  have hN : pt2Of (ix2 p q) < cfg0.N := by rw [hpt, show cfg0.N = 12 from N_0]; omega
  rw [← rows_all]
  refine (dif_pos hN).trans ?_
  rw [← outsAt0_sweep m c _ hN]
  have hl : loc2Of (ix2 p q) = ix2 ⟨p.val % 1408, Nat.mod_lt _ (by decide)⟩ ⟨q.val % 1024, Nat.mod_lt _ (by decide)⟩ := by
    funext a
    match a with
    | ⟨0, _⟩ => rfl
    | ⟨1, _⟩ => rfl
  rw [hl]
  refine (out_apply m c ⟨pt2Of (ix2 p q), hN⟩ (by dsimp only; rw [hpt]; omega) ⟨p.val % 1408, Nat.mod_lt _ (by decide)⟩ ⟨q.val % 1024, Nat.mod_lt _ (by decide)⟩).trans ?_
  dsimp only
  rw [hpt]
  congr 1 <;> omega

end Cert.Kernel4Ideal.Tn

namespace Cert.Reference4Ideal.Tn

open Cert.Reference4Ideal Cert.Reference4Ideal.Gen Idealize.ShloMosaic Idealize.ShloMosaic.TcCoe Idealize.SL.Sem

/-- The reference's result. -/
theorem res_apply (A : (⟨2, ![8448, 2816]⟩ : Shape).Idx → EReal) (B : (⟨2, ![8448, 1024]⟩ : Shape).Idx → EReal) (p : Fin 2816) (q : Fin 1024) :
    (truncf (F := Ideal) (φ := .f32) .bf16 (transpose S2816x1024 [1, 0] (Host.dotGeneral (F := Ideal) dot_S8448x1024_S8448x2816_S1024x2816_0_0_1_1_n_n none
        (extf (F := Ideal) (φ := .bf16) (s := S8448x1024) .f32 B bitsLt_bf16_f32) (extf (F := Ideal) (φ := .bf16) (s := S8448x2816) .f32 A bitsLt_bf16_f32))
        transposes_S1024x2816_S2816x1024_1_0) bitsLt_bf16_f32 : (⟨2, ![2816, 1024]⟩ : Shape).Idx → EReal) (ix2 p q)
      = ∑ k : Fin 8448, A (ix2 k p) * B (ix2 k q) := by
  pointwise
  refine Finset.sum_congr rfl fun k _ => ?_
  exact mul_comm _ _

end Cert.Reference4Ideal.Tn

end
-- ==== Proof.Tn5.lean ====
/-
The weight gradient `mm_d_wout`: the blocked product of the call is the product of the reference.
-/
module

public import proofs.«01_k».proof.Proof.Prod
public import proofs.«01_k».proof.Proof.Gen.Kernel5Ideal.Value
public import proofs.«01_k».proof.Proof.Gen.Reference5Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel5Ideal.Tn

open Cert.Kernel5Ideal Cert.Kernel5Ideal.Gen Cert.Kernel5Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

section
variable {F : FTy → Type} [FloatOps F] (c : Dev nD) (i : grid0.Coords) (a3 : Memref sig .tc .vmem S1408x1024 .bf16) (h3 : a3.IsWhole)
    (a4 : Memref sig .tc .vmem S1408x1024 .bf16) (h4 : a4.IsWhole) (a5 : Memref sig .tc .vmem S1024x1024 .bf16) (h5 : a5.IsWhole)
    (a6 : Memref sig .tc .vmem S1024x1024 .f32) (h6 : a6.IsWhole)
  (x0 : Vec F S1408x1024 .bf16) (x1 : Vec F S1408x1024 .bf16)

/-- The first point of a run stores zero, then adds its product. -/
theorem sout_A (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1408x1024) hz, View.ld_unit_zero (S := S1408x1024) hz]

/-- A later point adds its product to what it finds. -/
theorem sout_B (hc0 : ¬cond0_0 i) (hc1 : ¬cond0_1 i) (xs : Vec F S1024x1024 .f32) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1408x1024) hz,
    View.ld_unit_zero (S := S1408x1024) hz, View.ld_unit_zero (S := S1024x1024) hz]

/-- The last point of a run too. -/
theorem sout_C (hc0 : ¬cond0_0 i) (hc1 : cond0_1 i) (xs : Vec F S1024x1024 .f32) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1408x1024) hz,
    View.ld_unit_zero (S := S1408x1024) hz, View.ld_unit_zero (S := S1024x1024) hz]

/-- … and it writes the sum out. -/
theorem out_C (hc0 : ¬cond0_0 i) (hc1 : cond0_1 i) (xs : Vec F S1024x1024 .f32) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1408x1024) hz,
    View.ld_unit_zero (S := S1408x1024) hz, View.ld_unit_zero (S := S1024x1024) hz]

end

/-- The zero block. -/
theorem pay1_apply (y : S1024x1024.Idx) : k0_pay1 (F := Ideal) y = 0 := by
  unfold k0_pay1
  rw [shapeCast_self]
  exact Ideal.ofBits_zero_f32

/-- A point's sum: what it finds and the product of its blocks. -/
theorem pay2_apply (v0 : Vec Ideal S1408x1024 .bf16) (v4 : Vec Ideal S1024x1024 .f32) (v5 : Vec Ideal S1408x1024 .bf16) (r : Fin 1024) (s : Fin 1024) :
    k0_pay2 v0 v4 v5 (ix2 r s) = v4 (ix2 r s) + ∑ k : Fin 1408, v0 (ix2 k r) * v5 (ix2 k s) := by
  unfold k0_pay2
  rw [shapeCast_self]
  show v4 (ix2 r s) + FloatOps.matmul dot_S1408x1024_S1408x1024_S1024x1024_0_0_1_1_n_n none v0 v5 (constant (F := Ideal) S1024x1024 .f32 0x00000000#32) (ix2 r s) = _
  rw [Ideal.matmul_constant_zero_apply]
  rw [DotDims.sum_contr₁ dot_S1408x1024_S1408x1024_S1024x1024_0_0_1_1_n_n (a := 0) rfl (K := 1408) rfl]
  refine congrArg (v4 (ix2 r s) + ·) (Finset.sum_congr rfl fun k _ => ?_)
  congr 2
  · funext a
    match a with
    | ⟨0, _⟩ => rfl
    | ⟨1, _⟩ => rfl
  · funext a
    match a with
    | ⟨0, _⟩ => rfl
    | ⟨1, _⟩ => rfl

variable (m : (ℓ : Loc nD τ sig) → Buf (Elt Ideal) ℓ) (c : Dev nD)

/-- The two arguments. -/
def argA : (⟨2, ![8448, 1024]⟩ : Shape).Idx → EReal := m ((c : Thread nD τ).loc main_arg0)
def argB : (⟨2, ![8448, 1024]⟩ : Shape).Idx → EReal := m ((c : Thread nD τ).loc main_arg1)

theorem idx0 : ∀ t : Fin cfg0.N, win0_0.index t = ![t.val % 6, t.val / 6] := (by decide +kernel : ∀ t : Fin grid0.N, _)
theorem idx1 : ∀ t : Fin cfg0.N, win0_1.index t = ![t.val % 6, t.val / 6 % 1] := (by decide +kernel : ∀ t : Fin grid0.N, _)

theorem blkA (t : Fin cfg0.N) (k : Fin 1408) (r : Fin 1024) :
    (iblk m c 0 t : Vec Ideal S1408x1024 .bf16) (ix2 k r) = at2 (argA m c) (1408 * (t.val % 6) + k.val) (1024 * (t.val / 6) + r.val) := by
  have ht : t.val < 6 := Nat.lt_of_lt_of_eq t.isLt N_0
  have hk := k.isLt
  have hr := r.isLt
  rw [at2_of _ _ _ (by omega) (by omega)]
  unfold argA
  blk_simp [iblk]
  congr 1
  blk_ext [idx0]

theorem blkB (t : Fin cfg0.N) (k : Fin 1408) (s : Fin 1024) :
    (iblk m c 1 t : Vec Ideal S1408x1024 .bf16) (ix2 k s) = at2 (argB m c) (1408 * (t.val % 6) + k.val) (1024 * (t.val / 6 % 1) + s.val) := by
  have ht : t.val < 6 := Nat.lt_of_lt_of_eq t.isLt N_0
  have hk := k.isLt
  have hs := s.isLt
  rw [at2_of _ _ _ (by omega) (by omega)]
  unfold argB
  blk_simp [iblk]
  congr 1
  blk_ext [idx1]

/-- A point's step, from what the rows before its block gave. -/
theorem step (t : Fin cfg0.N) (xs : Vec Ideal S1024x1024 .f32) (r : Fin 1024) (s : Fin 1024)
    (hx : xs (ix2 r s) = rows (argA m c) (argB m c) (1024 * (t.val / 6) + r.val) (1024 * (t.val / 6 % 1) + s.val) (1408 * (t.val % 6))) :
    k0_pay2 (iblk m c 0 t : Vec Ideal S1408x1024 .bf16) xs (iblk m c 1 t : Vec Ideal S1408x1024 .bf16) (ix2 r s)
      = rows (argA m c) (argB m c) (1024 * (t.val / 6) + r.val) (1024 * (t.val / 6 % 1) + s.val) (1408 * (t.val % 6) + 1408) := by
  rw [pay2_apply, rows_add, hx]
  exact congrArg (rows _ _ _ _ _ + ·) (Finset.sum_congr rfl fun k _ => by rw [blkA, blkB])

/-- What the scratch holds after a point: the sum over the rows up to its block's end. -/
theorem acc_apply (r : Fin 1024) (s : Fin 1024) : ∀ (n : ℕ) (t : Fin cfg0.N), t.val = n → (outsAt0 m c t.val t.isLt).2 (ix2 r s)
    = rows (argA m c) (argB m c) (1024 * (t.val / 6) + r.val) (1024 * (t.val / 6 % 1) + s.val) (1408 * (t.val % 6) + 1408) := by
  intro n
  induction n with
  | zero =>
    intro t h
    rw [outsAt0_A m c t (by omega) (by omega)]
    dsimp only
    rw [sout_A]
    refine step m c t _ r s ?_
    rw [pay1_apply, show 1408 * (t.val % 6) = 0 by omega, rows_zero]
  | succ n ih =>
    intro t h
    have ht : t.val < 6 := Nat.lt_of_lt_of_eq t.isLt N_0
    by_cases h0 : t.val % 6 = 0
    · rw [outsAt0_A m c t h0 (by omega)]
      dsimp only
      rw [sout_A]
      refine step m c t _ r s ?_
      rw [pay1_apply, show 1408 * (t.val % 6) = 0 by omega, rows_zero]
    · have e := ih ⟨t.val - 1, Nat.lt_of_le_of_lt (Nat.sub_le _ _) t.isLt⟩ (by dsimp only; omega)
      dsimp only at e
      rw [show 1408 * ((t.val - 1) % 6) + 1408 = 1408 * (t.val % 6) by omega, show (t.val - 1) / 6 = t.val / 6 by omega] at e
      by_cases h1 : t.val % 6 = 5
      · rw [outsAt0_C m c t h0 h1]
        dsimp only
        rw [sout_C]
        exact step m c t _ r s e
      · rw [outsAt0_B m c t h0 h1]
        dsimp only
        rw [sout_B]
        exact step m c t _ r s e

/-- What the last point of a run writes out. -/
theorem out_apply (t : Fin cfg0.N) (h1 : t.val % 6 = 5) (r : Fin 1024) (s : Fin 1024) : (outsAt0 m c t.val t.isLt).1 (ix2 r s)
    = rows (argA m c) (argB m c) (1024 * (t.val / 6) + r.val) (1024 * (t.val / 6 % 1) + s.val) 8448 := by
  have e := acc_apply m c r s t.val t rfl
  rw [show 1408 * (t.val % 6) + 1408 = 8448 by omega] at e
  rw [← e, outsAt0_C m c t (by omega) h1]
  dsimp only
  rw [out_C, sout_C]
  rfl

/-- The array after the run. -/
theorem arr_apply (p : Fin 1024) (q : Fin 1024) :
    (G2 m c : (⟨2, ![1024, 1024]⟩ : Shape).Idx → EReal) (ix2 p q) = ∑ k : Fin 8448, argA m c (ix2 k p) * argB m c (ix2 k q) := by
  have hp := p.isLt
  have hq := q.isLt
  have hpt : pt2Of (ix2 p q) = 6 * (1 * (p.val / 1024 - 0) + 1 * (q.val / 1024 - 0)) + 5 := rfl
  have hN : pt2Of (ix2 p q) < cfg0.N := by rw [hpt, show cfg0.N = 6 from N_0]; omega
  rw [← rows_all]
  refine (dif_pos hN).trans ?_
  rw [← outsAt0_sweep m c _ hN]
  have hl : loc2Of (ix2 p q) = ix2 ⟨p.val % 1024, Nat.mod_lt _ (by decide)⟩ ⟨q.val % 1024, Nat.mod_lt _ (by decide)⟩ := by
    funext a
    match a with
    | ⟨0, _⟩ => rfl
    | ⟨1, _⟩ => rfl
  rw [hl]
  refine (out_apply m c ⟨pt2Of (ix2 p q), hN⟩ (by dsimp only; rw [hpt]; omega) ⟨p.val % 1024, Nat.mod_lt _ (by decide)⟩ ⟨q.val % 1024, Nat.mod_lt _ (by decide)⟩).trans ?_
  dsimp only
  rw [hpt]
  congr 1 <;> omega

end Cert.Kernel5Ideal.Tn

namespace Cert.Reference5Ideal.Tn

open Cert.Reference5Ideal Cert.Reference5Ideal.Gen Idealize.ShloMosaic Idealize.ShloMosaic.TcCoe Idealize.SL.Sem

/-- The reference's result. -/
theorem res_apply (A : (⟨2, ![8448, 1024]⟩ : Shape).Idx → EReal) (B : (⟨2, ![8448, 1024]⟩ : Shape).Idx → EReal) (p : Fin 1024) (q : Fin 1024) :
    (truncf (F := Ideal) (φ := .f32) .bf16 (transpose S1024x1024 [1, 0] (Host.dotGeneral (F := Ideal) dot_S8448x1024_S8448x1024_S1024x1024_0_0_1_1_n_n none
        (extf (F := Ideal) (φ := .bf16) (s := S8448x1024) .f32 B bitsLt_bf16_f32) (extf (F := Ideal) (φ := .bf16) (s := S8448x1024) .f32 A bitsLt_bf16_f32))
        transposes_S1024x1024_S1024x1024_1_0) bitsLt_bf16_f32 : (⟨2, ![1024, 1024]⟩ : Shape).Idx → EReal) (ix2 p q)
      = ∑ k : Fin 8448, A (ix2 k p) * B (ix2 k q) := by
  pointwise
  refine Finset.sum_congr rfl fun k _ => ?_
  exact mul_comm _ _

end Cert.Reference5Ideal.Tn

end
-- ==== Proof.Tn6.lean ====
/-
The weight gradient `mm_d_wpa`: the blocked product of the call is the product of the reference.
-/
module

public import proofs.«01_k».proof.Proof.Prod
public import proofs.«01_k».proof.Proof.Gen.Kernel6Ideal.Value
public import proofs.«01_k».proof.Proof.Gen.Reference6Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel6Ideal.Tn

open Cert.Kernel6Ideal Cert.Kernel6Ideal.Gen Cert.Kernel6Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

section
variable {F : FTy → Type} [FloatOps F] (c : Dev nD) (i : grid0.Coords) (a3 : Memref sig .tc .vmem S1408x1280 .bf16) (h3 : a3.IsWhole)
    (a4 : Memref sig .tc .vmem S1408x1024 .bf16) (h4 : a4.IsWhole) (a5 : Memref sig .tc .vmem S1280x1024 .bf16) (h5 : a5.IsWhole)
    (a6 : Memref sig .tc .vmem S1280x1024 .f32) (h6 : a6.IsWhole)
  (x0 : Vec F S1408x1280 .bf16) (x1 : Vec F S1408x1024 .bf16)

/-- The first point of a run stores zero, then adds its product. -/
theorem sout_A (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1280x1024) hz, View.readCov_unit_zero (S := S1280x1024) _ hz]
  simp only [View.readAt_eq_ld, h3.read_unread, h4.read_unread, View.ld_unit_zero (S := S1408x1280) hz, View.ld_unit_zero (S := S1408x1024) hz]

/-- A later point adds its product to what it finds. -/
theorem sout_B (hc0 : ¬cond0_0 i) (hc1 : ¬cond0_1 i) (xs : Vec F S1280x1024 .f32) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1408x1280) hz,
    View.ld_unit_zero (S := S1408x1024) hz, View.ld_unit_zero (S := S1280x1024) hz]

/-- The last point of a run too. -/
theorem sout_C (hc0 : ¬cond0_0 i) (hc1 : cond0_1 i) (xs : Vec F S1280x1024 .f32) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1408x1280) hz,
    View.ld_unit_zero (S := S1408x1024) hz, View.ld_unit_zero (S := S1280x1024) hz]

/-- … and it writes the sum out. -/
theorem out_C (hc0 : ¬cond0_0 i) (hc1 : cond0_1 i) (xs : Vec F S1280x1024 .f32) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1280x1024) _ hz]
  simp only [View.readAt_eq_ld, h3.read_unread, h4.read_unread, h6.read_unread, View.ld_unit_zero (S := S1408x1280) hz,
    View.ld_unit_zero (S := S1408x1024) hz, View.ld_unit_zero (S := S1280x1024) hz]

end

/-- The zero block. -/
theorem pay1_apply (y : S1280x1024.Idx) : k0_pay1 (F := Ideal) y = 0 := by
  unfold k0_pay1
  rw [shapeCast_self]
  exact Ideal.ofBits_zero_f32

/-- A point's sum: what it finds and the product of its blocks. -/
theorem pay2_apply (v0 : Vec Ideal S1408x1280 .bf16) (v4 : Vec Ideal S1280x1024 .f32) (v5 : Vec Ideal S1408x1024 .bf16) (r : Fin 1280) (s : Fin 1024) :
    k0_pay2 v0 v4 v5 (ix2 r s) = v4 (ix2 r s) + ∑ k : Fin 1408, v0 (ix2 k r) * v5 (ix2 k s) := by
  unfold k0_pay2
  rw [shapeCast_self]
  show v4 (ix2 r s) + FloatOps.matmul dot_S1408x1280_S1408x1024_S1280x1024_0_0_1_1_n_n none v0 v5 (constant (F := Ideal) S1280x1024 .f32 0x00000000#32) (ix2 r s) = _
  rw [Ideal.matmul_constant_zero_apply]
  rw [DotDims.sum_contr₁ dot_S1408x1280_S1408x1024_S1280x1024_0_0_1_1_n_n (a := 0) rfl (K := 1408) rfl]
  refine congrArg (v4 (ix2 r s) + ·) (Finset.sum_congr rfl fun k _ => ?_)
  congr 2
  · funext a
    match a with
    | ⟨0, _⟩ => rfl
    | ⟨1, _⟩ => rfl
  · funext a
    match a with
    | ⟨0, _⟩ => rfl
    | ⟨1, _⟩ => rfl

variable (m : (ℓ : Loc nD τ sig) → Buf (Elt Ideal) ℓ) (c : Dev nD)

/-- The two arguments. -/
def argA : (⟨2, ![8448, 1280]⟩ : Shape).Idx → EReal := m ((c : Thread nD τ).loc main_arg0)
def argB : (⟨2, ![8448, 1024]⟩ : Shape).Idx → EReal := m ((c : Thread nD τ).loc main_arg1)

theorem idx0 : ∀ t : Fin cfg0.N, win0_0.index t = ![t.val % 6, t.val / 6] := (by decide +kernel : ∀ t : Fin grid0.N, _)
theorem idx1 : ∀ t : Fin cfg0.N, win0_1.index t = ![t.val % 6, t.val / 6 % 1] := (by decide +kernel : ∀ t : Fin grid0.N, _)

theorem blkA (t : Fin cfg0.N) (k : Fin 1408) (r : Fin 1280) :
    (iblk m c 0 t : Vec Ideal S1408x1280 .bf16) (ix2 k r) = at2 (argA m c) (1408 * (t.val % 6) + k.val) (1280 * (t.val / 6) + r.val) := by
  have ht : t.val < 6 := Nat.lt_of_lt_of_eq t.isLt N_0
  have hk := k.isLt
  have hr := r.isLt
  rw [at2_of _ _ _ (by omega) (by omega)]
  unfold argA
  blk_simp [iblk]
  congr 1
  blk_ext [idx0]

theorem blkB (t : Fin cfg0.N) (k : Fin 1408) (s : Fin 1024) :
    (iblk m c 1 t : Vec Ideal S1408x1024 .bf16) (ix2 k s) = at2 (argB m c) (1408 * (t.val % 6) + k.val) (1024 * (t.val / 6 % 1) + s.val) := by
  have ht : t.val < 6 := Nat.lt_of_lt_of_eq t.isLt N_0
  have hk := k.isLt
  have hs := s.isLt
  rw [at2_of _ _ _ (by omega) (by omega)]
  unfold argB
  blk_simp [iblk]
  congr 1
  blk_ext [idx1]

/-- A point's step, from what the rows before its block gave. -/
theorem step (t : Fin cfg0.N) (xs : Vec Ideal S1280x1024 .f32) (r : Fin 1280) (s : Fin 1024)
    (hx : xs (ix2 r s) = rows (argA m c) (argB m c) (1280 * (t.val / 6) + r.val) (1024 * (t.val / 6 % 1) + s.val) (1408 * (t.val % 6))) :
    k0_pay2 (iblk m c 0 t : Vec Ideal S1408x1280 .bf16) xs (iblk m c 1 t : Vec Ideal S1408x1024 .bf16) (ix2 r s)
      = rows (argA m c) (argB m c) (1280 * (t.val / 6) + r.val) (1024 * (t.val / 6 % 1) + s.val) (1408 * (t.val % 6) + 1408) := by
  rw [pay2_apply, rows_add, hx]
  exact congrArg (rows _ _ _ _ _ + ·) (Finset.sum_congr rfl fun k _ => by rw [blkA, blkB])

/-- What the scratch holds after a point: the sum over the rows up to its block's end. -/
theorem acc_apply (r : Fin 1280) (s : Fin 1024) : ∀ (n : ℕ) (t : Fin cfg0.N), t.val = n → (outsAt0 m c t.val t.isLt).2 (ix2 r s)
    = rows (argA m c) (argB m c) (1280 * (t.val / 6) + r.val) (1024 * (t.val / 6 % 1) + s.val) (1408 * (t.val % 6) + 1408) := by
  intro n
  induction n with
  | zero =>
    intro t h
    rw [outsAt0_A m c t (by omega) (by omega)]
    dsimp only
    rw [sout_A]
    refine step m c t _ r s ?_
    rw [pay1_apply, show 1408 * (t.val % 6) = 0 by omega, rows_zero]
  | succ n ih =>
    intro t h
    have ht : t.val < 6 := Nat.lt_of_lt_of_eq t.isLt N_0
    by_cases h0 : t.val % 6 = 0
    · rw [outsAt0_A m c t h0 (by omega)]
      dsimp only
      rw [sout_A]
      refine step m c t _ r s ?_
      rw [pay1_apply, show 1408 * (t.val % 6) = 0 by omega, rows_zero]
    · have e := ih ⟨t.val - 1, Nat.lt_of_le_of_lt (Nat.sub_le _ _) t.isLt⟩ (by dsimp only; omega)
      dsimp only at e
      rw [show 1408 * ((t.val - 1) % 6) + 1408 = 1408 * (t.val % 6) by omega, show (t.val - 1) / 6 = t.val / 6 by omega] at e
      by_cases h1 : t.val % 6 = 5
      · rw [outsAt0_C m c t h0 h1]
        dsimp only
        rw [sout_C]
        exact step m c t _ r s e
      · rw [outsAt0_B m c t h0 h1]
        dsimp only
        rw [sout_B]
        exact step m c t _ r s e

/-- What the last point of a run writes out. -/
theorem out_apply (t : Fin cfg0.N) (h1 : t.val % 6 = 5) (r : Fin 1280) (s : Fin 1024) : (outsAt0 m c t.val t.isLt).1 (ix2 r s)
    = rows (argA m c) (argB m c) (1280 * (t.val / 6) + r.val) (1024 * (t.val / 6 % 1) + s.val) 8448 := by
  have e := acc_apply m c r s t.val t rfl
  rw [show 1408 * (t.val % 6) + 1408 = 8448 by omega] at e
  rw [← e, outsAt0_C m c t (by omega) h1]
  dsimp only
  rw [out_C, sout_C]
  rfl

/-- The array after the run. -/
theorem arr_apply (p : Fin 1280) (q : Fin 1024) :
    (G2 m c : (⟨2, ![1280, 1024]⟩ : Shape).Idx → EReal) (ix2 p q) = ∑ k : Fin 8448, argA m c (ix2 k p) * argB m c (ix2 k q) := by
  have hp := p.isLt
  have hq := q.isLt
  have hpt : pt2Of (ix2 p q) = 6 * (1 * (p.val / 1280 - 0) + 1 * (q.val / 1024 - 0)) + 5 := rfl
  have hN : pt2Of (ix2 p q) < cfg0.N := by rw [hpt, show cfg0.N = 6 from N_0]; omega
  rw [← rows_all]
  refine (dif_pos hN).trans ?_
  rw [← outsAt0_sweep m c _ hN]
  have hl : loc2Of (ix2 p q) = ix2 ⟨p.val % 1280, Nat.mod_lt _ (by decide)⟩ ⟨q.val % 1024, Nat.mod_lt _ (by decide)⟩ := by
    funext a
    match a with
    | ⟨0, _⟩ => rfl
    | ⟨1, _⟩ => rfl
  rw [hl]
  refine (out_apply m c ⟨pt2Of (ix2 p q), hN⟩ (by dsimp only; rw [hpt]; omega) ⟨p.val % 1280, Nat.mod_lt _ (by decide)⟩ ⟨q.val % 1024, Nat.mod_lt _ (by decide)⟩).trans ?_
  dsimp only
  rw [hpt]
  congr 1 <;> omega

end Cert.Kernel6Ideal.Tn

namespace Cert.Reference6Ideal.Tn

open Cert.Reference6Ideal Cert.Reference6Ideal.Gen Idealize.ShloMosaic Idealize.ShloMosaic.TcCoe Idealize.SL.Sem

/-- The reference's result. -/
theorem res_apply (A : (⟨2, ![8448, 1280]⟩ : Shape).Idx → EReal) (B : (⟨2, ![8448, 1024]⟩ : Shape).Idx → EReal) (p : Fin 1280) (q : Fin 1024) :
    (truncf (F := Ideal) (φ := .f32) .bf16 (transpose S1280x1024 [1, 0] (Host.dotGeneral (F := Ideal) dot_S8448x1024_S8448x1280_S1024x1280_0_0_1_1_n_n none
        (extf (F := Ideal) (φ := .bf16) (s := S8448x1024) .f32 B bitsLt_bf16_f32) (extf (F := Ideal) (φ := .bf16) (s := S8448x1280) .f32 A bitsLt_bf16_f32))
        transposes_S1024x1280_S1280x1024_1_0) bitsLt_bf16_f32 : (⟨2, ![1280, 1024]⟩ : Shape).Idx → EReal) (ix2 p q)
      = ∑ k : Fin 8448, A (ix2 k p) * B (ix2 k q) := by
  pointwise
  refine Finset.sum_congr rfl fun k _ => ?_
  exact mul_comm _ _

end Cert.Reference6Ideal.Tn

end
-- ==== Proof.Tn7.lean ====
/-
The weight gradient `mm_d_wpb`: the blocked product of the call is the product of the reference.
-/
module

public import proofs.«01_k».proof.Proof.Prod
public import proofs.«01_k».proof.Proof.Gen.Kernel7Ideal.Value
public import proofs.«01_k».proof.Proof.Gen.Reference7Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel7Ideal.Tn

open Cert.Kernel7Ideal Cert.Kernel7Ideal.Gen Cert.Kernel7Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

section
variable {F : FTy → Type} [FloatOps F] (c : Dev nD) (i : grid0.Coords) (a3 : Memref sig .tc .vmem S1408x1024 .bf16) (h3 : a3.IsWhole)
    (a4 : Memref sig .tc .vmem S1408x1024 .bf16) (h4 : a4.IsWhole) (a5 : Memref sig .tc .vmem S1024x1024 .bf16) (h5 : a5.IsWhole)
    (a6 : Memref sig .tc .vmem S1024x1024 .f32) (h6 : a6.IsWhole)
  (x0 : Vec F S1408x1024 .bf16) (x1 : Vec F S1408x1024 .bf16)

/-- The first point of a run stores zero, then adds its product. -/
theorem sout_A (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1408x1024) hz, View.ld_unit_zero (S := S1408x1024) hz]

/-- A later point adds its product to what it finds. -/
theorem sout_B (hc0 : ¬cond0_0 i) (hc1 : ¬cond0_1 i) (xs : Vec F S1024x1024 .f32) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1408x1024) hz,
    View.ld_unit_zero (S := S1408x1024) hz, View.ld_unit_zero (S := S1024x1024) hz]

/-- The last point of a run too. -/
theorem sout_C (hc0 : ¬cond0_0 i) (hc1 : cond0_1 i) (xs : Vec F S1024x1024 .f32) :
    sout0_C_0 c i a3 h3 a4 h4 a5 h5 a6 h6 hc0 hc1 x0 x1 xs = k0_pay2 x0 xs x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero hz]
  simp only [View.readAt_eq_ld, h3.read_unread, h4.read_unread, h6.read_unread, View.ld_unit_zero (S := S1408x1024) hz,
    View.ld_unit_zero (S := S1408x1024) hz, View.ld_unit_zero (S := S1024x1024) hz]

/-- … and it writes the sum out. -/
theorem out_C (hc0 : ¬cond0_0 i) (hc1 : cond0_1 i) (xs : Vec F S1024x1024 .f32) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1408x1024) hz,
    View.ld_unit_zero (S := S1408x1024) hz, View.ld_unit_zero (S := S1024x1024) hz]

end

/-- The zero block. -/
theorem pay1_apply (y : S1024x1024.Idx) : k0_pay1 (F := Ideal) y = 0 := by
  unfold k0_pay1
  rw [shapeCast_self]
  exact Ideal.ofBits_zero_f32

/-- A point's sum: what it finds and the product of its blocks. -/
theorem pay2_apply (v0 : Vec Ideal S1408x1024 .bf16) (v4 : Vec Ideal S1024x1024 .f32) (v5 : Vec Ideal S1408x1024 .bf16) (r : Fin 1024) (s : Fin 1024) :
    k0_pay2 v0 v4 v5 (ix2 r s) = v4 (ix2 r s) + ∑ k : Fin 1408, v0 (ix2 k r) * v5 (ix2 k s) := by
  unfold k0_pay2
  rw [shapeCast_self]
  show v4 (ix2 r s) + FloatOps.matmul dot_S1408x1024_S1408x1024_S1024x1024_0_0_1_1_n_n none v0 v5 (constant (F := Ideal) S1024x1024 .f32 0x00000000#32) (ix2 r s) = _
  rw [Ideal.matmul_constant_zero_apply]
  rw [DotDims.sum_contr₁ dot_S1408x1024_S1408x1024_S1024x1024_0_0_1_1_n_n (a := 0) rfl (K := 1408) rfl]
  refine congrArg (v4 (ix2 r s) + ·) (Finset.sum_congr rfl fun k _ => ?_)
  congr 2
  · funext a
    match a with
    | ⟨0, _⟩ => rfl
    | ⟨1, _⟩ => rfl
  · funext a
    match a with
    | ⟨0, _⟩ => rfl
    | ⟨1, _⟩ => rfl

variable (m : (ℓ : Loc nD τ sig) → Buf (Elt Ideal) ℓ) (c : Dev nD)

/-- The two arguments. -/
def argA : (⟨2, ![8448, 1024]⟩ : Shape).Idx → EReal := m ((c : Thread nD τ).loc main_arg0)
def argB : (⟨2, ![8448, 1024]⟩ : Shape).Idx → EReal := m ((c : Thread nD τ).loc main_arg1)

theorem idx0 : ∀ t : Fin cfg0.N, win0_0.index t = ![t.val % 6, t.val / 6] := (by decide +kernel : ∀ t : Fin grid0.N, _)
theorem idx1 : ∀ t : Fin cfg0.N, win0_1.index t = ![t.val % 6, t.val / 6 % 1] := (by decide +kernel : ∀ t : Fin grid0.N, _)

theorem blkA (t : Fin cfg0.N) (k : Fin 1408) (r : Fin 1024) :
    (iblk m c 0 t : Vec Ideal S1408x1024 .bf16) (ix2 k r) = at2 (argA m c) (1408 * (t.val % 6) + k.val) (1024 * (t.val / 6) + r.val) := by
  have ht : t.val < 6 := Nat.lt_of_lt_of_eq t.isLt N_0
  have hk := k.isLt
  have hr := r.isLt
  rw [at2_of _ _ _ (by omega) (by omega)]
  unfold argA
  blk_simp [iblk]
  congr 1
  blk_ext [idx0]

theorem blkB (t : Fin cfg0.N) (k : Fin 1408) (s : Fin 1024) :
    (iblk m c 1 t : Vec Ideal S1408x1024 .bf16) (ix2 k s) = at2 (argB m c) (1408 * (t.val % 6) + k.val) (1024 * (t.val / 6 % 1) + s.val) := by
  have ht : t.val < 6 := Nat.lt_of_lt_of_eq t.isLt N_0
  have hk := k.isLt
  have hs := s.isLt
  rw [at2_of _ _ _ (by omega) (by omega)]
  unfold argB
  blk_simp [iblk]
  congr 1
  blk_ext [idx1]

/-- A point's step, from what the rows before its block gave. -/
theorem step (t : Fin cfg0.N) (xs : Vec Ideal S1024x1024 .f32) (r : Fin 1024) (s : Fin 1024)
    (hx : xs (ix2 r s) = rows (argA m c) (argB m c) (1024 * (t.val / 6) + r.val) (1024 * (t.val / 6 % 1) + s.val) (1408 * (t.val % 6))) :
    k0_pay2 (iblk m c 0 t : Vec Ideal S1408x1024 .bf16) xs (iblk m c 1 t : Vec Ideal S1408x1024 .bf16) (ix2 r s)
      = rows (argA m c) (argB m c) (1024 * (t.val / 6) + r.val) (1024 * (t.val / 6 % 1) + s.val) (1408 * (t.val % 6) + 1408) := by
  rw [pay2_apply, rows_add, hx]
  exact congrArg (rows _ _ _ _ _ + ·) (Finset.sum_congr rfl fun k _ => by rw [blkA, blkB])

/-- What the scratch holds after a point: the sum over the rows up to its block's end. -/
theorem acc_apply (r : Fin 1024) (s : Fin 1024) : ∀ (n : ℕ) (t : Fin cfg0.N), t.val = n → (outsAt0 m c t.val t.isLt).2 (ix2 r s)
    = rows (argA m c) (argB m c) (1024 * (t.val / 6) + r.val) (1024 * (t.val / 6 % 1) + s.val) (1408 * (t.val % 6) + 1408) := by
  intro n
  induction n with
  | zero =>
    intro t h
    rw [outsAt0_A m c t (by omega) (by omega)]
    dsimp only
    rw [sout_A]
    refine step m c t _ r s ?_
    rw [pay1_apply, show 1408 * (t.val % 6) = 0 by omega, rows_zero]
  | succ n ih =>
    intro t h
    have ht : t.val < 6 := Nat.lt_of_lt_of_eq t.isLt N_0
    by_cases h0 : t.val % 6 = 0
    · rw [outsAt0_A m c t h0 (by omega)]
      dsimp only
      rw [sout_A]
      refine step m c t _ r s ?_
      rw [pay1_apply, show 1408 * (t.val % 6) = 0 by omega, rows_zero]
    · have e := ih ⟨t.val - 1, Nat.lt_of_le_of_lt (Nat.sub_le _ _) t.isLt⟩ (by dsimp only; omega)
      dsimp only at e
      rw [show 1408 * ((t.val - 1) % 6) + 1408 = 1408 * (t.val % 6) by omega, show (t.val - 1) / 6 = t.val / 6 by omega] at e
      by_cases h1 : t.val % 6 = 5
      · rw [outsAt0_C m c t h0 h1]
        dsimp only
        rw [sout_C]
        exact step m c t _ r s e
      · rw [outsAt0_B m c t h0 h1]
        dsimp only
        rw [sout_B]
        exact step m c t _ r s e

/-- What the last point of a run writes out. -/
theorem out_apply (t : Fin cfg0.N) (h1 : t.val % 6 = 5) (r : Fin 1024) (s : Fin 1024) : (outsAt0 m c t.val t.isLt).1 (ix2 r s)
    = rows (argA m c) (argB m c) (1024 * (t.val / 6) + r.val) (1024 * (t.val / 6 % 1) + s.val) 8448 := by
  have e := acc_apply m c r s t.val t rfl
  rw [show 1408 * (t.val % 6) + 1408 = 8448 by omega] at e
  rw [← e, outsAt0_C m c t (by omega) h1]
  dsimp only
  rw [out_C, sout_C]
  rfl

/-- The array after the run. -/
theorem arr_apply (p : Fin 1024) (q : Fin 1024) :
    (G2 m c : (⟨2, ![1024, 1024]⟩ : Shape).Idx → EReal) (ix2 p q) = ∑ k : Fin 8448, argA m c (ix2 k p) * argB m c (ix2 k q) := by
  have hp := p.isLt
  have hq := q.isLt
  have hpt : pt2Of (ix2 p q) = 6 * (1 * (p.val / 1024 - 0) + 1 * (q.val / 1024 - 0)) + 5 := rfl
  have hN : pt2Of (ix2 p q) < cfg0.N := by rw [hpt, show cfg0.N = 6 from N_0]; omega
  rw [← rows_all]
  refine (dif_pos hN).trans ?_
  rw [← outsAt0_sweep m c _ hN]
  have hl : loc2Of (ix2 p q) = ix2 ⟨p.val % 1024, Nat.mod_lt _ (by decide)⟩ ⟨q.val % 1024, Nat.mod_lt _ (by decide)⟩ := by
    funext a
    match a with
    | ⟨0, _⟩ => rfl
    | ⟨1, _⟩ => rfl
  rw [hl]
  refine (out_apply m c ⟨pt2Of (ix2 p q), hN⟩ (by dsimp only; rw [hpt]; omega) ⟨p.val % 1024, Nat.mod_lt _ (by decide)⟩ ⟨q.val % 1024, Nat.mod_lt _ (by decide)⟩).trans ?_
  dsimp only
  rw [hpt]
  congr 1 <;> omega

end Cert.Kernel7Ideal.Tn

namespace Cert.Reference7Ideal.Tn

open Cert.Reference7Ideal Cert.Reference7Ideal.Gen Idealize.ShloMosaic Idealize.ShloMosaic.TcCoe Idealize.SL.Sem

/-- The reference's result. -/
theorem res_apply (A : (⟨2, ![8448, 1024]⟩ : Shape).Idx → EReal) (B : (⟨2, ![8448, 1024]⟩ : Shape).Idx → EReal) (p : Fin 1024) (q : Fin 1024) :
    (truncf (F := Ideal) (φ := .f32) .bf16 (transpose S1024x1024 [1, 0] (Host.dotGeneral (F := Ideal) dot_S8448x1024_S8448x1024_S1024x1024_0_0_1_1_n_n none
        (extf (F := Ideal) (φ := .bf16) (s := S8448x1024) .f32 B bitsLt_bf16_f32) (extf (F := Ideal) (φ := .bf16) (s := S8448x1024) .f32 A bitsLt_bf16_f32))
        transposes_S1024x1024_S1024x1024_1_0) bitsLt_bf16_f32 : (⟨2, ![1024, 1024]⟩ : Shape).Idx → EReal) (ix2 p q)
      = ∑ k : Fin 8448, A (ix2 k p) * B (ix2 k q) := by
  pointwise
  refine Finset.sum_congr rfl fun k _ => ?_
  exact mul_comm _ _

end Cert.Reference7Ideal.Tn

end
-- ==== Proof.TnClaims.lean ====
/-
The weight gradients' claims: each call's result is its reference's.
-/
module

public import proofs.«01_k».proof.Defs
public import proofs.«01_k».proof.Proof.Tn2
public import proofs.«01_k».proof.Proof.Tn3
public import proofs.«01_k».proof.Proof.Tn4
public import proofs.«01_k».proof.Proof.Tn5
public import proofs.«01_k».proof.Proof.Tn6
public import proofs.«01_k».proof.Proof.Tn7
public import Idealize.ShloMosaic.Lib.Quiescent

@[expose] public section

noncomputable section

namespace Cert.Tn2

open Idealize.ShloMosaic Idealize.ShloMosaic.TcCoe Idealize.SL.Sem Cert.Prod

theorem frame_ri : Cert.quiescent_Reference2Ideal := fun m g _ =>
  (θ_run _ _ _).mono (fun r h => ⟨fun c => (h c).2, sem_eq_zero_of_no_sems (by decide) r.2⟩) (Cert.Reference2Ideal.Value.run m g)

theorem algebraic : Cert.algebraic_Kernel2Ideal_Reference2Ideal := by
  intro m g m' g' _ hm
  refine ⟨fun c => Cert.Kernel2Ideal.Value.G2 m c, Cert.Kernel2Ideal.Value.run m g, ?_⟩
  refine (θ_run _ _ _).mono (fun r h c => ⟨(h c).1.trans ?_, (h c).2⟩) (Cert.Reference2Ideal.Value.run m' g')
  rw [(hm c).1, (hm c).2]
  refine ext2 (N := 1024) (M := 8960) fun p q => ?_
  exact (Cert.Reference2Ideal.Tn.res_apply (Cert.Kernel2Ideal.Tn.argA m c) (Cert.Kernel2Ideal.Tn.argB m c) p q).trans
    (Cert.Kernel2Ideal.Tn.arr_apply m c p q).symm

end Cert.Tn2

namespace Cert.Tn3

open Idealize.ShloMosaic Idealize.ShloMosaic.TcCoe Idealize.SL.Sem Cert.Prod

theorem frame_ri : Cert.quiescent_Reference3Ideal := fun m g _ =>
  (θ_run _ _ _).mono (fun r h => ⟨fun c => (h c).2, sem_eq_zero_of_no_sems (by decide) r.2⟩) (Cert.Reference3Ideal.Value.run m g)

theorem algebraic : Cert.algebraic_Kernel3Ideal_Reference3Ideal := by
  intro m g m' g' _ hm
  refine ⟨fun c => Cert.Kernel3Ideal.Value.G2 m c, Cert.Kernel3Ideal.Value.run m g, ?_⟩
  refine (θ_run _ _ _).mono (fun r h c => ⟨(h c).1.trans ?_, (h c).2⟩) (Cert.Reference3Ideal.Value.run m' g')
  rw [(hm c).1, (hm c).2]
  refine ext2 (N := 1024) (M := 5632) fun p q => ?_
  exact (Cert.Reference3Ideal.Tn.res_apply (Cert.Kernel3Ideal.Tn.argA m c) (Cert.Kernel3Ideal.Tn.argB m c) p q).trans
    (Cert.Kernel3Ideal.Tn.arr_apply m c p q).symm

end Cert.Tn3

namespace Cert.Tn4

open Idealize.ShloMosaic Idealize.ShloMosaic.TcCoe Idealize.SL.Sem Cert.Prod

theorem frame_ri : Cert.quiescent_Reference4Ideal := fun m g _ =>
  (θ_run _ _ _).mono (fun r h => ⟨fun c => (h c).2, sem_eq_zero_of_no_sems (by decide) r.2⟩) (Cert.Reference4Ideal.Value.run m g)

theorem algebraic : Cert.algebraic_Kernel4Ideal_Reference4Ideal := by
  intro m g m' g' _ hm
  refine ⟨fun c => Cert.Kernel4Ideal.Value.G2 m c, Cert.Kernel4Ideal.Value.run m g, ?_⟩
  refine (θ_run _ _ _).mono (fun r h c => ⟨(h c).1.trans ?_, (h c).2⟩) (Cert.Reference4Ideal.Value.run m' g')
  rw [(hm c).1, (hm c).2]
  refine ext2 (N := 2816) (M := 1024) fun p q => ?_
  exact (Cert.Reference4Ideal.Tn.res_apply (Cert.Kernel4Ideal.Tn.argA m c) (Cert.Kernel4Ideal.Tn.argB m c) p q).trans
    (Cert.Kernel4Ideal.Tn.arr_apply m c p q).symm

end Cert.Tn4

namespace Cert.Tn5

open Idealize.ShloMosaic Idealize.ShloMosaic.TcCoe Idealize.SL.Sem Cert.Prod

theorem frame_ri : Cert.quiescent_Reference5Ideal := fun m g _ =>
  (θ_run _ _ _).mono (fun r h => ⟨fun c => (h c).2, sem_eq_zero_of_no_sems (by decide) r.2⟩) (Cert.Reference5Ideal.Value.run m g)

theorem algebraic : Cert.algebraic_Kernel5Ideal_Reference5Ideal := by
  intro m g m' g' _ hm
  refine ⟨fun c => Cert.Kernel5Ideal.Value.G2 m c, Cert.Kernel5Ideal.Value.run m g, ?_⟩
  refine (θ_run _ _ _).mono (fun r h c => ⟨(h c).1.trans ?_, (h c).2⟩) (Cert.Reference5Ideal.Value.run m' g')
  rw [(hm c).1, (hm c).2]
  refine ext2 (N := 1024) (M := 1024) fun p q => ?_
  exact (Cert.Reference5Ideal.Tn.res_apply (Cert.Kernel5Ideal.Tn.argA m c) (Cert.Kernel5Ideal.Tn.argB m c) p q).trans
    (Cert.Kernel5Ideal.Tn.arr_apply m c p q).symm

end Cert.Tn5

namespace Cert.Tn6

open Idealize.ShloMosaic Idealize.ShloMosaic.TcCoe Idealize.SL.Sem Cert.Prod

theorem frame_ri : Cert.quiescent_Reference6Ideal := fun m g _ =>
  (θ_run _ _ _).mono (fun r h => ⟨fun c => (h c).2, sem_eq_zero_of_no_sems (by decide) r.2⟩) (Cert.Reference6Ideal.Value.run m g)

theorem algebraic : Cert.algebraic_Kernel6Ideal_Reference6Ideal := by
  intro m g m' g' _ hm
  refine ⟨fun c => Cert.Kernel6Ideal.Value.G2 m c, Cert.Kernel6Ideal.Value.run m g, ?_⟩
  refine (θ_run _ _ _).mono (fun r h c => ⟨(h c).1.trans ?_, (h c).2⟩) (Cert.Reference6Ideal.Value.run m' g')
  rw [(hm c).1, (hm c).2]
  refine ext2 (N := 1280) (M := 1024) fun p q => ?_
  exact (Cert.Reference6Ideal.Tn.res_apply (Cert.Kernel6Ideal.Tn.argA m c) (Cert.Kernel6Ideal.Tn.argB m c) p q).trans
    (Cert.Kernel6Ideal.Tn.arr_apply m c p q).symm

end Cert.Tn6

namespace Cert.Tn7

open Idealize.ShloMosaic Idealize.ShloMosaic.TcCoe Idealize.SL.Sem Cert.Prod

theorem frame_ri : Cert.quiescent_Reference7Ideal := fun m g _ =>
  (θ_run _ _ _).mono (fun r h => ⟨fun c => (h c).2, sem_eq_zero_of_no_sems (by decide) r.2⟩) (Cert.Reference7Ideal.Value.run m g)

theorem algebraic : Cert.algebraic_Kernel7Ideal_Reference7Ideal := by
  intro m g m' g' _ hm
  refine ⟨fun c => Cert.Kernel7Ideal.Value.G2 m c, Cert.Kernel7Ideal.Value.run m g, ?_⟩
  refine (θ_run _ _ _).mono (fun r h c => ⟨(h c).1.trans ?_, (h c).2⟩) (Cert.Reference7Ideal.Value.run m' g')
  rw [(hm c).1, (hm c).2]
  refine ext2 (N := 1024) (M := 1024) fun p q => ?_
  exact (Cert.Reference7Ideal.Tn.res_apply (Cert.Kernel7Ideal.Tn.argA m c) (Cert.Kernel7Ideal.Tn.argB m c) p q).trans
    (Cert.Kernel7Ideal.Tn.arr_apply m c p q).symm

end Cert.Tn7

end
-- ==== Proof.Nn8.lean ====
/-
The product `mm_d_ya`: the blocks of the call are the product of the reference.
-/
module

public import proofs.«01_k».proof.Proof.Prod
public import proofs.«01_k».proof.Proof.Gen.Kernel8Ideal.Value
public import proofs.«01_k».proof.Proof.Gen.Reference8Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel8Ideal.Nn

open Cert.Kernel8Ideal Cert.Kernel8Ideal.Gen Cert.Kernel8Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-- A point's product of its blocks. -/
theorem pay1_apply (v0 : Vec Ideal S768x1024 .bf16) (v1 : Vec Ideal S1280x1024 .bf16) (r : Fin 768) (s : Fin 1280) :
    k0_pay1 v0 v1 (ix2 r s) = ∑ k : Fin 1024, v0 (ix2 r k) * v1 (ix2 s k) := by
  unfold k0_pay1
  show FloatOps.matmul (φ₁ := .bf16) (φ₂ := .bf16) dot_S768x1024_S1280x1024_S768x1280_1_1_0_0_n_n none v0 v1 (constant (F := Ideal) S768x1280 .f32 0x00000000#32) (ix2 r s) = _
  rw [Ideal.matmul_constant_zero_apply]
  rw [DotDims.sum_contr₁ dot_S768x1024_S1280x1024_S768x1280_1_1_0_0_n_n (a := 1) rfl (K := 1024) rfl]
  refine Finset.sum_congr rfl fun k _ => ?_
  congr 2
  · funext a
    match a with
    | ⟨0, _⟩ => rfl
    | ⟨1, _⟩ => rfl
  · funext a
    match a with
    | ⟨0, _⟩ => rfl
    | ⟨1, _⟩ => rfl

/-- The product of two arrays. -/
def prod (A : (⟨2, ![8448, 1024]⟩ : Shape).Idx → EReal) (B : (⟨2, ![1280, 1024]⟩ : Shape).Idx → EReal) : (⟨2, ![8448, 1280]⟩ : Shape).Idx → EReal :=
  fun y => ∑ k : Fin 1024, A (ix2 (y 0) k) * B (ix2 (y 1) k)

variable (m : (ℓ : Loc nD τ sig) → Buf (Elt Ideal) ℓ) (c : Dev nD)

/-- The two arguments. -/
def argA : (⟨2, ![8448, 1024]⟩ : Shape).Idx → EReal := m ((c : Thread nD τ).loc main_arg0)
def argB : (⟨2, ![1280, 1024]⟩ : Shape).Idx → EReal := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem out_eq (x0 : Vec Ideal S768x1024 .bf16) (x1 : Vec Ideal S1280x1024 .bf16) : out0_2 x0 x1 = k0_pay1 x0 x1 := by
  unfold out0_2
  rw [View.canon_unit_zero hz, View.ld_unit_zero (S := S768x1024) hz, View.ld_unit_zero (S := S1280x1024) hz]

/-- The array after the run. -/
theorem final : (dats m 0 c).arrAt 2 cfg0.N = prod (argA m c) (argB m c) := by
  refine (dats m 0 c).arrAt_eq_of_covers 2 _ (by decide +kernel) fun t hf y => ?_
  blk_simp
  rw [after0_2, out_eq]
  refine (congrArg _ (eq_ix2 y)).trans ((pay1_apply _ _ (y 0) (y 1)).trans ?_)
  unfold prod argA argB
  refine Finset.sum_congr rfl fun k _ => ?_
  congr 1
  · blk_simp [iblk]
    congr 1
    blk_ext [idx0, idx2]
  · blk_simp [iblk]
    congr 1
    blk_ext [idx1, idx2]

end Cert.Kernel8Ideal.Nn

namespace Cert.Reference8Ideal.Nn

open Cert.Reference8Ideal Cert.Reference8Ideal.Gen Idealize.ShloMosaic Idealize.ShloMosaic.TcCoe Idealize.SL.Sem

/-- The reference's result. -/
theorem res_apply (A : (⟨2, ![8448, 1024]⟩ : Shape).Idx → EReal) (B : (⟨2, ![1280, 1024]⟩ : Shape).Idx → EReal) (p : Fin 8448) (q : Fin 1280) :
    (truncf (F := Ideal) (φ := .f32) .bf16 (Host.dotGeneral (F := Ideal) dot_S8448x1024_S1280x1024_S8448x1280_1_1_0_0_n_n none
        (extf (F := Ideal) (φ := .bf16) (s := S8448x1024) .f32 A bitsLt_bf16_f32) (extf (F := Ideal) (φ := .bf16) (s := S1280x1024) .f32 B bitsLt_bf16_f32))
        bitsLt_bf16_f32 : (⟨2, ![8448, 1280]⟩ : Shape).Idx → EReal) (ix2 p q)
      = ∑ k : Fin 1024, A (ix2 p k) * B (ix2 q k) := by
  pointwise

end Cert.Reference8Ideal.Nn

end
-- ==== Proof.Nn9.lean ====
/-
The product `mm_d_yb`: the blocks of the call are the product of the reference.
-/
module

public import proofs.«01_k».proof.Proof.Prod
public import proofs.«01_k».proof.Proof.Gen.Kernel9Ideal.Value
public import proofs.«01_k».proof.Proof.Gen.Reference9Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel9Ideal.Nn

open Cert.Kernel9Ideal Cert.Kernel9Ideal.Gen Cert.Kernel9Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-- A point's product of its blocks. -/
theorem pay1_apply (v0 : Vec Ideal S768x1024 .bf16) (v1 : Vec Ideal S1024x1024 .bf16) (r : Fin 768) (s : Fin 1024) :
    k0_pay1 v0 v1 (ix2 r s) = ∑ k : Fin 1024, v0 (ix2 r k) * v1 (ix2 s k) := by
  unfold k0_pay1
  show FloatOps.matmul (φ₁ := .bf16) (φ₂ := .bf16) dot_S768x1024_S1024x1024_S768x1024_1_1_0_0_n_n none v0 v1 (constant (F := Ideal) S768x1024 .f32 0x00000000#32) (ix2 r s) = _
  rw [Ideal.matmul_constant_zero_apply]
  rw [DotDims.sum_contr₁ dot_S768x1024_S1024x1024_S768x1024_1_1_0_0_n_n (a := 1) rfl (K := 1024) rfl]
  refine Finset.sum_congr rfl fun k _ => ?_
  congr 2
  · funext a
    match a with
    | ⟨0, _⟩ => rfl
    | ⟨1, _⟩ => rfl
  · funext a
    match a with
    | ⟨0, _⟩ => rfl
    | ⟨1, _⟩ => rfl

/-- The product of two arrays. -/
def prod (A : (⟨2, ![8448, 1024]⟩ : Shape).Idx → EReal) (B : (⟨2, ![1024, 1024]⟩ : Shape).Idx → EReal) : (⟨2, ![8448, 1024]⟩ : Shape).Idx → EReal :=
  fun y => ∑ k : Fin 1024, A (ix2 (y 0) k) * B (ix2 (y 1) k)

variable (m : (ℓ : Loc nD τ sig) → Buf (Elt Ideal) ℓ) (c : Dev nD)

/-- The two arguments. -/
def argA : (⟨2, ![8448, 1024]⟩ : Shape).Idx → EReal := m ((c : Thread nD τ).loc main_arg0)
def argB : (⟨2, ![1024, 1024]⟩ : Shape).Idx → EReal := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem out_eq (x0 : Vec Ideal S768x1024 .bf16) (x1 : Vec Ideal S1024x1024 .bf16) : out0_2 x0 x1 = k0_pay1 x0 x1 := by
  unfold out0_2
  rw [View.canon_unit_zero hz, View.ld_unit_zero (S := S768x1024) hz, View.ld_unit_zero (S := S1024x1024) hz]

/-- The array after the run. -/
theorem final : (dats m 0 c).arrAt 2 cfg0.N = prod (argA m c) (argB m c) := by
  refine (dats m 0 c).arrAt_eq_of_covers 2 _ (by decide +kernel) fun t hf y => ?_
  blk_simp
  rw [after0_2, out_eq]
  refine (congrArg _ (eq_ix2 y)).trans ((pay1_apply _ _ (y 0) (y 1)).trans ?_)
  unfold prod argA argB
  refine Finset.sum_congr rfl fun k _ => ?_
  congr 1
  · blk_simp [iblk]
    congr 1
    blk_ext [idx0, idx2]
  · blk_simp [iblk]
    congr 1
    blk_ext [idx1, idx2]

end Cert.Kernel9Ideal.Nn

namespace Cert.Reference9Ideal.Nn

open Cert.Reference9Ideal Cert.Reference9Ideal.Gen Idealize.ShloMosaic Idealize.ShloMosaic.TcCoe Idealize.SL.Sem

/-- The reference's result. -/
theorem res_apply (A : (⟨2, ![8448, 1024]⟩ : Shape).Idx → EReal) (B : (⟨2, ![1024, 1024]⟩ : Shape).Idx → EReal) (p : Fin 8448) (q : Fin 1024) :
    (truncf (F := Ideal) (φ := .f32) .bf16 (Host.dotGeneral (F := Ideal) dot_S8448x1024_S1024x1024_S8448x1024_1_1_0_0_n_n none
        (extf (F := Ideal) (φ := .bf16) (s := S8448x1024) .f32 A bitsLt_bf16_f32) (extf (F := Ideal) (φ := .bf16) (s := S1024x1024) .f32 B bitsLt_bf16_f32))
        bitsLt_bf16_f32 : (⟨2, ![8448, 1024]⟩ : Shape).Idx → EReal) (ix2 p q)
      = ∑ k : Fin 1024, A (ix2 p k) * B (ix2 q k) := by
  pointwise

end Cert.Reference9Ideal.Nn

end
-- ==== Proof.Nn10.lean ====
/-
The product `mm_pa`: the blocks of the call are the product of the reference.
-/
module

public import proofs.«01_k».proof.Proof.Prod
public import proofs.«01_k».proof.Proof.Gen.Kernel10Ideal.Value
public import proofs.«01_k».proof.Proof.Gen.Reference10Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel10Ideal.Nn

open Cert.Kernel10Ideal Cert.Kernel10Ideal.Gen Cert.Kernel10Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-- A point's product of its blocks. -/
theorem pay1_apply (v0 : Vec Ideal S768x1280 .bf16) (v1 : Vec Ideal S1280x1024 .bf16) (r : Fin 768) (s : Fin 1024) :
    k0_pay1 v0 v1 (ix2 r s) = ∑ k : Fin 1280, v0 (ix2 r k) * v1 (ix2 k s) := by
  unfold k0_pay1
  show FloatOps.matmul (φ₁ := .bf16) (φ₂ := .bf16) dot_S768x1280_S1280x1024_S768x1024_1_0_0_1_n_n none v0 v1 (constant (F := Ideal) S768x1024 .f32 0x00000000#32) (ix2 r s) = _
  rw [Ideal.matmul_constant_zero_apply]
  rw [DotDims.sum_contr₁ dot_S768x1280_S1280x1024_S768x1024_1_0_0_1_n_n (a := 1) rfl (K := 1280) rfl]
  refine Finset.sum_congr rfl fun k _ => ?_
  congr 2
  · funext a
    match a with
    | ⟨0, _⟩ => rfl
    | ⟨1, _⟩ => rfl
  · funext a
    match a with
    | ⟨0, _⟩ => rfl
    | ⟨1, _⟩ => rfl

/-- The product of two arrays. -/
def prod (A : (⟨2, ![8448, 1280]⟩ : Shape).Idx → EReal) (B : (⟨2, ![1280, 1024]⟩ : Shape).Idx → EReal) : (⟨2, ![8448, 1024]⟩ : Shape).Idx → EReal :=
  fun y => ∑ k : Fin 1280, A (ix2 (y 0) k) * B (ix2 k (y 1))

variable (m : (ℓ : Loc nD τ sig) → Buf (Elt Ideal) ℓ) (c : Dev nD)

/-- The two arguments. -/
def argA : (⟨2, ![8448, 1280]⟩ : Shape).Idx → EReal := m ((c : Thread nD τ).loc main_arg0)
def argB : (⟨2, ![1280, 1024]⟩ : Shape).Idx → EReal := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem out_eq (x0 : Vec Ideal S768x1280 .bf16) (x1 : Vec Ideal S1280x1024 .bf16) : out0_2 x0 x1 = k0_pay1 x0 x1 := by
  unfold out0_2
  rw [View.canon_unit_zero hz, View.ld_unit_zero (S := S768x1280) hz, View.ld_unit_zero (S := S1280x1024) hz]

/-- The array after the run. -/
theorem final : (dats m 0 c).arrAt 2 cfg0.N = prod (argA m c) (argB m c) := by
  refine (dats m 0 c).arrAt_eq_of_covers 2 _ (by decide +kernel) fun t hf y => ?_
  blk_simp
  rw [after0_2, out_eq]
  refine (congrArg _ (eq_ix2 y)).trans ((pay1_apply _ _ (y 0) (y 1)).trans ?_)
  unfold prod argA argB
  refine Finset.sum_congr rfl fun k _ => ?_
  congr 1
  · blk_simp [iblk]
    congr 1
    blk_ext [idx0, idx2]
  · blk_simp [iblk]
    congr 1
    blk_ext [idx1, idx2]

end Cert.Kernel10Ideal.Nn

namespace Cert.Reference10Ideal.Nn

open Cert.Reference10Ideal Cert.Reference10Ideal.Gen Idealize.ShloMosaic Idealize.ShloMosaic.TcCoe Idealize.SL.Sem

/-- The reference's result. -/
theorem res_apply (A : (⟨2, ![8448, 1280]⟩ : Shape).Idx → EReal) (B : (⟨2, ![1280, 1024]⟩ : Shape).Idx → EReal) (p : Fin 8448) (q : Fin 1024) :
    (truncf (F := Ideal) (φ := .f32) .bf16 (Host.dotGeneral (F := Ideal) dot_S8448x1280_S1280x1024_S8448x1024_1_0_0_1_n_n none
        (extf (F := Ideal) (φ := .bf16) (s := S8448x1280) .f32 A bitsLt_bf16_f32) (extf (F := Ideal) (φ := .bf16) (s := S1280x1024) .f32 B bitsLt_bf16_f32))
        bitsLt_bf16_f32 : (⟨2, ![8448, 1024]⟩ : Shape).Idx → EReal) (ix2 p q)
      = ∑ k : Fin 1280, A (ix2 p k) * B (ix2 k q) := by
  pointwise

end Cert.Reference10Ideal.Nn

end
-- ==== Proof.Nn11.lean ====
/-
The product `mm_pb`: the blocks of the call are the product of the reference.
-/
module

public import proofs.«01_k».proof.Proof.Prod
public import proofs.«01_k».proof.Proof.Gen.Kernel11Ideal.Value
public import proofs.«01_k».proof.Proof.Gen.Reference11Ideal.Run
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel11Ideal.Nn

open Cert.Kernel11Ideal Cert.Kernel11Ideal.Gen Cert.Kernel11Ideal.Value Cert.Prod
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

/-- A point's product of its blocks. -/
theorem pay1_apply (v0 : Vec Ideal S768x1024 .bf16) (v1 : Vec Ideal S1024x1024 .bf16) (r : Fin 768) (s : Fin 1024) :
    k0_pay1 v0 v1 (ix2 r s) = ∑ k : Fin 1024, v0 (ix2 r k) * v1 (ix2 k s) := by
  unfold k0_pay1
  show FloatOps.matmul (φ₁ := .bf16) (φ₂ := .bf16) dot_S768x1024_S1024x1024_S768x1024_1_0_0_1_n_n none v0 v1 (constant (F := Ideal) S768x1024 .f32 0x00000000#32) (ix2 r s) = _
  rw [Ideal.matmul_constant_zero_apply]
  rw [DotDims.sum_contr₁ dot_S768x1024_S1024x1024_S768x1024_1_0_0_1_n_n (a := 1) rfl (K := 1024) rfl]
  refine Finset.sum_congr rfl fun k _ => ?_
  congr 2
  · funext a
    match a with
    | ⟨0, _⟩ => rfl
    | ⟨1, _⟩ => rfl
  · funext a
    match a with
    | ⟨0, _⟩ => rfl
    | ⟨1, _⟩ => rfl

/-- The product of two arrays. -/
def prod (A : (⟨2, ![8448, 1024]⟩ : Shape).Idx → EReal) (B : (⟨2, ![1024, 1024]⟩ : Shape).Idx → EReal) : (⟨2, ![8448, 1024]⟩ : Shape).Idx → EReal :=
  fun y => ∑ k : Fin 1024, A (ix2 (y 0) k) * B (ix2 k (y 1))

variable (m : (ℓ : Loc nD τ sig) → Buf (Elt Ideal) ℓ) (c : Dev nD)

/-- The two arguments. -/
def argA : (⟨2, ![8448, 1024]⟩ : Shape).Idx → EReal := m ((c : Thread nD τ).loc main_arg0)
def argB : (⟨2, ![1024, 1024]⟩ : Shape).Idx → EReal := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem out_eq (x0 : Vec Ideal S768x1024 .bf16) (x1 : Vec Ideal S1024x1024 .bf16) : out0_2 x0 x1 = k0_pay1 x0 x1 := by
  unfold out0_2
  rw [View.canon_unit_zero hz, View.ld_unit_zero (S := S768x1024) hz, View.ld_unit_zero (S := S1024x1024) hz]

/-- The array after the run. -/
theorem final : (dats m 0 c).arrAt 2 cfg0.N = prod (argA m c) (argB m c) := by
  refine (dats m 0 c).arrAt_eq_of_covers 2 _ (by decide +kernel) fun t hf y => ?_
  blk_simp
  rw [after0_2, out_eq]
  refine (congrArg _ (eq_ix2 y)).trans ((pay1_apply _ _ (y 0) (y 1)).trans ?_)
  unfold prod argA argB
  refine Finset.sum_congr rfl fun k _ => ?_
  congr 1
  · blk_simp [iblk]
    congr 1
    blk_ext [idx0, idx2]
  · blk_simp [iblk]
    congr 1
    blk_ext [idx1, idx2]

end Cert.Kernel11Ideal.Nn

namespace Cert.Reference11Ideal.Nn

open Cert.Reference11Ideal Cert.Reference11Ideal.Gen Idealize.ShloMosaic Idealize.ShloMosaic.TcCoe Idealize.SL.Sem

/-- The reference's result. -/
theorem res_apply (A : (⟨2, ![8448, 1024]⟩ : Shape).Idx → EReal) (B : (⟨2, ![1024, 1024]⟩ : Shape).Idx → EReal) (p : Fin 8448) (q : Fin 1024) :
    (truncf (F := Ideal) (φ := .f32) .bf16 (Host.dotGeneral (F := Ideal) dot_S8448x1024_S1024x1024_S8448x1024_1_0_0_1_n_n none
        (extf (F := Ideal) (φ := .bf16) (s := S8448x1024) .f32 A bitsLt_bf16_f32) (extf (F := Ideal) (φ := .bf16) (s := S1024x1024) .f32 B bitsLt_bf16_f32))
        bitsLt_bf16_f32 : (⟨2, ![8448, 1024]⟩ : Shape).Idx → EReal) (ix2 p q)
      = ∑ k : Fin 1024, A (ix2 p k) * B (ix2 k q) := by
  pointwise

end Cert.Reference11Ideal.Nn

end
-- ==== Proof.Rms.lean ====
/-
A row's norm and its derivative: what the call computes and what the reference's derivative is, on rows of extended reals,
and that they are equal where the rows are finite. And sums along the columns of two arrays, a block of columns at a time.
-/
module

public import proofs.«01_k».proof.Proof.Prod
public import Idealize.ShloMosaic.PureOps.Ideal
public import Idealize.ShloMosaic.Lib.Pointwise

@[expose] public section

noncomputable section

namespace Cert.Rms

open Idealize.ShloMosaic Cert.Prod

/-- The product's element: the sum over the first `n` columns. -/
def cols {N M K : ℕ} (A : (⟨2, ![N, K]⟩ : Shape).Idx → EReal) (B : (⟨2, ![M, K]⟩ : Shape).Idx → EReal) (p q n : ℕ) : EReal :=
  ∑ t ∈ Finset.range n, at2 A p t * at2 B q t

/-- A block of columns more. -/
theorem cols_add {N M K : ℕ} (A : (⟨2, ![N, K]⟩ : Shape).Idx → EReal) (B : (⟨2, ![M, K]⟩ : Shape).Idx → EReal) (p q n b : ℕ) :
    cols A B p q (n + b) = cols A B p q n + ∑ k : Fin b, at2 A p (n + k.val) * at2 B q (n + k.val) := by
  unfold cols
  rw [Finset.sum_range_add, Finset.sum_range (fun x => at2 A p (n + x) * at2 B q (n + x))]

theorem cols_zero {N M K : ℕ} (A : (⟨2, ![N, K]⟩ : Shape).Idx → EReal) (B : (⟨2, ![M, K]⟩ : Shape).Idx → EReal) (p q : ℕ) :
    cols A B p q 0 = 0 := Finset.sum_range_zero _

/-- All the columns. -/
theorem cols_all {N M K : ℕ} (A : (⟨2, ![N, K]⟩ : Shape).Idx → EReal) (B : (⟨2, ![M, K]⟩ : Shape).Idx → EReal) (p : Fin N) (q : Fin M) :
    cols A B p.val q.val K = ∑ k : Fin K, A (ix2 p k) * B (ix2 q k) := by
  unfold cols
  rw [Finset.sum_range]
  exact Finset.sum_congr rfl fun k _ => by rw [at2_of A _ _ p.isLt k.isLt, at2_of B _ _ q.isLt k.isLt]

/-- The mean square of a row and the floor under it. -/
def msq (x : Fin 1024 → EReal) : EReal :=
  Ideal.div (∑ j, x j * x j) (Ideal.ofBits FTy.f32 0x44800000#32) + Ideal.ofBits FTy.f32 0x358637BD#32

/-- The reciprocal of its root. -/
def rr (x : Fin 1024 → EReal) : EReal := Ideal.rsqrt (msq x)

/-- The row's gradient as the call computes it. -/
def kerDx (d x g : Fin 1024 → EReal) (j : Fin 1024) : EReal :=
  rr x * (d j * g j - x j * rr x * Ideal.div (∑ q, d q * g q * (x q * rr x)) (Ideal.ofBits FTy.f32 0x44800000#32))

/-- What the derivative passes through the mean square. -/
def refS (d x g : Fin 1024 → EReal) : EReal :=
  Ideal.div ((∑ q, x q * (d q * g q)) * (Ideal.ofBits FTy.f32 0xBF000000#32 * Ideal.div (rr x) (msq x))) (Ideal.ofBits FTy.f32 0x44800000#32)

/-- The row's gradient as the reference's derivative. -/
def refDx (d x g : Fin 1024 → EReal) (j : Fin 1024) : EReal :=
  d j * g j * rr x + x j * refS d x g + refS d x g * x j

theorem w_n : Ideal.ofBits FTy.f32 0x44800000#32 = ((1024 : ℝ) : EReal) := by
  simp [Ideal.ofBits, Ideal.ieee, -EReal.coe_mul]; norm_num

theorem w_mhalf : Ideal.ofBits FTy.f32 0xBF000000#32 = ((-(1 / 2) : ℝ) : EReal) := by
  simp [Ideal.ofBits, Ideal.ieee, -EReal.coe_mul]; norm_num

theorem w_floor : ∃ e : ℝ, 0 < e ∧ Ideal.ofBits FTy.f32 0x358637BD#32 = (e : EReal) := by
  refine ⟨_, ?_, by simp [Ideal.ofBits, Ideal.ieee, -EReal.coe_mul]; rfl⟩
  positivity

theorem sum_coe {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- A sum of products of reals is a real. -/
theorem real_sum {n : ℕ} (a b : Fin n → EReal) (ha : ∀ k, ∃ r : ℝ, a k = r) (hb : ∀ k, ∃ r : ℝ, b k = r) : ∃ r : ℝ, ∑ k, a k * b k = r := by
  choose A hA using ha
  choose B hB using hb
  refine ⟨∑ k, A k * B k, ?_⟩
  rw [← sum_coe]
  exact Finset.sum_congr rfl fun k _ => by rw [hA, hB, EReal.coe_mul]

/-- On finite rows the two are equal. -/
theorem dx_eq (d x g : Fin 1024 → EReal) (hd : ∀ j, ∃ r : ℝ, d j = r) (hx : ∀ j, ∃ r : ℝ, x j = r) (hg : ∀ j, ∃ r : ℝ, g j = r)
    (j : Fin 1024) : kerDx d x g j = refDx d x g j := by
  choose D hD using hd
  choose X hX using hx
  choose G hG using hg
  obtain ⟨e, he, hE⟩ := w_floor
  have hn : (1024 : ℝ) ≠ 0 := by norm_num
  have hms : msq x = (((∑ j, X j * X j) * (1 / 1024) + e : ℝ) : EReal) := by
    unfold msq
    rw [w_n, hE, Ideal.div_coe hn]
    simp only [hX, ← EReal.coe_mul, sum_coe, ← EReal.coe_add]
  obtain ⟨M, hM⟩ : ∃ M : ℝ, M = (∑ j, X j * X j) * (1 / 1024) + e := ⟨_, rfl⟩
  rw [← hM] at hms
  have hMp : 0 < M := by
    have : 0 ≤ ∑ j, X j * X j := Finset.sum_nonneg fun j _ => mul_self_nonneg _
    rw [hM]; positivity
  have hr : rr x = (((Real.sqrt M)⁻¹ : ℝ) : EReal) := by
    unfold rr
    rw [hms, Ideal.rsqrt_coe, if_neg (not_lt.mpr hMp.le), if_neg hMp.ne']
  obtain ⟨R, hR⟩ : ∃ R : ℝ, R = (Real.sqrt M)⁻¹ := ⟨_, rfl⟩
  rw [← hR] at hr
  have hRR : R * R = 1 / M := by
    rw [hR, ← mul_inv, Real.mul_self_sqrt hMp.le, one_div]
  unfold kerDx refDx refS
  rw [hms, hr, w_n, w_mhalf, Ideal.div_coe hn, Ideal.div_coe hn, Ideal.div_coe hMp.ne']
  simp only [hD, hX, hG, ← EReal.coe_mul, sum_coe, ← EReal.coe_add, ← EReal.coe_sub]
  congr 1
  have e1 : ∑ q, D q * G q * (X q * R) = R * ∑ q, X q * (D q * G q) := by
    rw [Finset.mul_sum]; exact Finset.sum_congr rfl fun q _ => by ring
  rw [e1, ← hRR]
  ring

end Cert.Rms

end
-- ==== Proof.Nb12.lean ====
/-
The call `mm_d_hn2`: the product by blocks of columns, and the norm's derivative on its rows.
-/
module

public import proofs.«01_k».proof.Proof.Rms
public import proofs.«01_k».proof.Proof.Gen.Kernel12Ideal.Value
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel12Ideal.Nb

open Cert.Kernel12Ideal Cert.Kernel12Ideal.Gen Cert.Kernel12Ideal.Value Cert.Prod Cert.Rms
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

section
variable {F : FTy → Type} [FloatOps F] (c : Dev nD) (i : grid0.Coords) (a3 : Memref sig .tc .vmem S768x1408 .bf16) (h3 : a3.IsWhole) (a4 : Memref sig .tc .vmem S1024x1408 .bf16) (h4 : a4.IsWhole) (a5 : Memref sig .tc .vmem S768x1024 .f32) (h5 : a5.IsWhole) (a6 : Memref sig .tc .vmem S1x1024 .f32) (h6 : a6.IsWhole) (a7 : Memref sig .tc .vmem S768x1024 .f32) (h7 : a7.IsWhole) (a8 : Memref sig .tc .vmem S768x1024 .f32) (h8 : a8.IsWhole) (a9 : Memref sig .tc .vmem S768x1024 .bf16) (h9 : a9.IsWhole) (a10 : Memref sig .tc .vmem S1x1024 .f32) (h10 : a10.IsWhole) (a11 : Memref sig .tc .vmem S768x1024 .f32) (h11 : a11.IsWhole)
  (x0 : Vec F S768x1408 .bf16) (x1 : Vec F S1024x1408 .bf16) (x2 : Vec F S768x1024 .f32) (x3 : Vec F S1x1024 .f32) (x4 : Vec F S768x1024 .f32)

/-- The first point of a run stores zero, then adds its product. -/
theorem sout_A (hc0 : cond0_0 i) (hc1 : ¬cond0_1 i) :
    sout0_A_0 c i a3 h3 a4 h4 a5 h5 a6 h6 a7 h7 a8 h8 a9 h9 a10 h10 a11 h11 hc0 hc1 x0 x1 x2 x3 x4 = k0_pay2 x0 k0_pay1 x1 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4)]
  unfold kernelRun0_A
  dsimp only
  sl_unfold_words
  simp only [View.canon_cons_unit_zero (S := S768x1024) hz, View.readCov_unit_zero (S := S768x1024) _ hz, View.readAt_eq_ld, h3.read_unread, h4.read_unread, h11.read_unread, View.ld_unit_zero (S := S768x1408) hz, View.ld_unit_zero (S := S1024x1408) hz, View.ld_unit_zero (S := S768x1024) hz]

/-- A later point adds its product to what it finds. -/
theorem sout_B (hc0 : ¬cond0_0 i) (hc1 : ¬cond0_1 i) (xs : Vec F S768x1024 .f32) :
    sout0_B_0 c i a3 h3 a4 h4 a5 h5 a6 h6 a7 h7 a8 h8 a9 h9 a10 h10 a11 h11 hc0 hc1 x0 x1 x2 x3 x4 xs = k0_pay2 x0 xs x1 := by
  unfold sout0_B_0
  rw [View.read_writes_eq_canon _ _ _ (scover0_B_0 c i a3 h3 a4 h4 a5 h5 a6 h6 a7 h7 a8 h8 a9 h9 a10 h10 a11 h11 hc0 hc1 x0 x1 x2 x3 x4 xs)]
  unfold kernelRun0_B
  dsimp only
  sl_unfold_words
  simp only [View.canon_cons_unit_zero (S := S768x1024) hz, View.readCov_unit_zero (S := S768x1024) _ hz, View.readAt_eq_ld, h3.read_unread, h4.read_unread, h11.read_unread, View.ld_unit_zero (S := S768x1408) hz, View.ld_unit_zero (S := S1024x1408) hz, View.ld_unit_zero (S := S768x1024) hz]

/-- A later point adds its product to what it finds. -/
theorem sout_C (hc0 : ¬cond0_0 i) (hc1 : cond0_1 i) (hc2 : cond0_2 i) (xs : Vec F S768x1024 .f32) :
    sout0_C_0 c i a3 h3 a4 h4 a5 h5 a6 h6 a7 h7 a8 h8 a9 h9 a10 h10 a11 h11 hc0 hc1 hc2 x0 x1 x2 x3 x4 xs = k0_pay2 x0 xs x1 := by
  unfold sout0_C_0
  rw [View.read_writes_eq_canon _ _ _ (scover0_C_0 c i a3 h3 a4 h4 a5 h5 a6 h6 a7 h7 a8 h8 a9 h9 a10 h10 a11 h11 hc0 hc1 hc2 x0 x1 x2 x3 x4 xs)]
  unfold kernelRun0_C
  dsimp only
  sl_unfold_words
  simp only [View.canon_cons_unit_zero (S := S768x1024) hz, View.readCov_unit_zero (S := S768x1024) _ hz, View.readAt_eq_ld, h3.read_unread, h4.read_unread, h11.read_unread, View.ld_unit_zero (S := S768x1408) hz, View.ld_unit_zero (S := S1024x1408) hz, View.ld_unit_zero (S := S768x1024) hz]

/-- A later point adds its product to what it finds. -/
theorem sout_D (hc0 : ¬cond0_0 i) (hc1 : cond0_1 i) (hc2 : ¬cond0_2 i) (xo : Vec F S1x1024 .f32) (xs : Vec F S768x1024 .f32) :
    sout0_D_0 c i a3 h3 a4 h4 a5 h5 a6 h6 a7 h7 a8 h8 a9 h9 a10 h10 a11 h11 hc0 hc1 hc2 x0 x1 x2 x3 x4 xo xs = k0_pay2 x0 xs x1 := by
  unfold sout0_D_0
  rw [View.read_writes_eq_canon _ _ _ (scover0_D_0 c i a3 h3 a4 h4 a5 h5 a6 h6 a7 h7 a8 h8 a9 h9 a10 h10 a11 h11 hc0 hc1 hc2 x0 x1 x2 x3 x4 xo xs)]
  unfold kernelRun0_D
  dsimp only
  sl_unfold_words
  simp only [View.canon_cons_unit_zero (S := S768x1024) hz, View.readCov_unit_zero (S := S768x1024) _ hz, View.readAt_eq_ld, h3.read_unread, h4.read_unread, h11.read_unread, View.ld_unit_zero (S := S768x1408) hz, View.ld_unit_zero (S := S1024x1408) hz, View.ld_unit_zero (S := S768x1024) hz]

/-- The last point of a run writes the rows' gradients. -/
theorem out_C (hc0 : ¬cond0_0 i) (hc1 : cond0_1 i) (hc2 : cond0_2 i) (xs : Vec F S768x1024 .f32) :
    out0_C_5 c i a3 h3 a4 h4 a5 h5 a6 h6 a7 h7 a8 h8 a9 h9 a10 h10 a11 h11 hc0 hc1 hc2 x0 x1 x2 x3 x4 xs = k0_pay8 (k0_pay2 x0 xs x1) x2 x3 x4 := by
  unfold out0_C_5
  rw [View.read_writes_eq_canon _ _ _ (cover0_C_5 c i a3 h3 a4 h4 a5 h5 a6 h6 a7 h7 a8 h8 a9 h9 a10 h10 a11 h11 hc0 hc1 hc2 x0 x1 x2 x3 x4 xs)]
  unfold kernelRun0_C
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, h11.read_unread, View.ld_unit_zero (S := S768x1408) hz, View.ld_unit_zero (S := S1024x1408) hz, View.ld_unit_zero (S := S768x1024) hz, View.ld_unit_zero (S := S1x1024) hz]

/-- … and their copies. -/
theorem outb_C (hc0 : ¬cond0_0 i) (hc1 : cond0_1 i) (hc2 : cond0_2 i) (xs : Vec F S768x1024 .f32) :
    out0_C_6 c i a3 h3 a4 h4 a5 h5 a6 h6 a7 h7 a8 h8 a9 h9 a10 h10 a11 h11 hc0 hc1 hc2 x0 x1 x2 x3 x4 xs = k0_pay9 (k0_pay2 x0 xs x1) x2 x3 x4 := by
  unfold out0_C_6
  rw [View.read_writes_eq_canon _ _ _ (cover0_C_6 c i a3 h3 a4 h4 a5 h5 a6 h6 a7 h7 a8 h8 a9 h9 a10 h10 a11 h11 hc0 hc1 hc2 x0 x1 x2 x3 x4 xs)]
  unfold kernelRun0_C
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, h11.read_unread, View.ld_unit_zero (S := S768x1408) hz, View.ld_unit_zero (S := S1024x1408) hz, View.ld_unit_zero (S := S768x1024) hz, View.ld_unit_zero (S := S1x1024) hz]

/-- The last point of a run writes the rows' gradients. -/
theorem out_D (hc0 : ¬cond0_0 i) (hc1 : cond0_1 i) (hc2 : ¬cond0_2 i) (xo : Vec F S1x1024 .f32) (xs : Vec F S768x1024 .f32) :
    out0_D_5 c i a3 h3 a4 h4 a5 h5 a6 h6 a7 h7 a8 h8 a9 h9 a10 h10 a11 h11 hc0 hc1 hc2 x0 x1 x2 x3 x4 xo xs = k0_pay8 (k0_pay2 x0 xs x1) x2 x3 x4 := by
  unfold out0_D_5
  rw [View.read_writes_eq_canon _ _ _ (cover0_D_5 c i a3 h3 a4 h4 a5 h5 a6 h6 a7 h7 a8 h8 a9 h9 a10 h10 a11 h11 hc0 hc1 hc2 x0 x1 x2 x3 x4 xo xs)]
  unfold kernelRun0_D
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, h11.read_unread, View.ld_unit_zero (S := S768x1408) hz, View.ld_unit_zero (S := S1024x1408) hz, View.ld_unit_zero (S := S768x1024) hz, View.ld_unit_zero (S := S1x1024) hz]

/-- … and their copies. -/
theorem outb_D (hc0 : ¬cond0_0 i) (hc1 : cond0_1 i) (hc2 : ¬cond0_2 i) (xo : Vec F S1x1024 .f32) (xs : Vec F S768x1024 .f32) :
    out0_D_6 c i a3 h3 a4 h4 a5 h5 a6 h6 a7 h7 a8 h8 a9 h9 a10 h10 a11 h11 hc0 hc1 hc2 x0 x1 x2 x3 x4 xo xs = k0_pay9 (k0_pay2 x0 xs x1) x2 x3 x4 := by
  unfold out0_D_6
  rw [View.read_writes_eq_canon _ _ _ (cover0_D_6 c i a3 h3 a4 h4 a5 h5 a6 h6 a7 h7 a8 h8 a9 h9 a10 h10 a11 h11 hc0 hc1 hc2 x0 x1 x2 x3 x4 xo xs)]
  unfold kernelRun0_D
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, h11.read_unread, View.ld_unit_zero (S := S768x1408) hz, View.ld_unit_zero (S := S1024x1408) hz, View.ld_unit_zero (S := S768x1024) hz, View.ld_unit_zero (S := S1x1024) hz]

/-- The gain's gradient, from zero … -/
theorem outg_C (hc0 : ¬cond0_0 i) (hc1 : cond0_1 i) (hc2 : cond0_2 i) (xs : Vec F S768x1024 .f32) :
    out0_C_7 c i a3 h3 a4 h4 a5 h5 a6 h6 a7 h7 a8 h8 a9 h9 a10 h10 a11 h11 hc0 hc1 hc2 x0 x1 x2 x3 x4 xs = k0_pay3 (k0_pay7 (k0_pay2 x0 xs x1) x2) k0_pay4 := by
  unfold out0_C_7
  rw [View.read_writes_eq_canon _ _ _ (cover0_C_7 c i a3 h3 a4 h4 a5 h5 a6 h6 a7 h7 a8 h8 a9 h9 a10 h10 a11 h11 hc0 hc1 hc2 x0 x1 x2 x3 x4 xs)]
  unfold kernelRun0_C
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, h11.read_unread, View.ld_unit_zero (S := S768x1408) hz, View.ld_unit_zero (S := S1024x1408) hz, View.ld_unit_zero (S := S768x1024) hz, View.ld_unit_zero (S := S1x1024) hz]

/-- … and from what is there. -/
theorem outg_D (hc0 : ¬cond0_0 i) (hc1 : cond0_1 i) (hc2 : ¬cond0_2 i) (xo : Vec F S1x1024 .f32) (xs : Vec F S768x1024 .f32) :
    out0_D_7 c i a3 h3 a4 h4 a5 h5 a6 h6 a7 h7 a8 h8 a9 h9 a10 h10 a11 h11 hc0 hc1 hc2 x0 x1 x2 x3 x4 xo xs = k0_pay3 (k0_pay7 (k0_pay2 x0 xs x1) x2) xo := by
  unfold out0_D_7
  rw [View.read_writes_eq_canon _ _ _ (cover0_D_7 c i a3 h3 a4 h4 a5 h5 a6 h6 a7 h7 a8 h8 a9 h9 a10 h10 a11 h11 hc0 hc1 hc2 x0 x1 x2 x3 x4 xo xs)]
  unfold kernelRun0_D
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, h11.read_unread, View.ld_unit_zero (S := S768x1408) hz, View.ld_unit_zero (S := S1024x1408) hz, View.ld_unit_zero (S := S768x1024) hz, View.ld_unit_zero (S := S1x1024) hz]

end

/-- The zero block. -/
theorem pay1_apply (y : S768x1024.Idx) : k0_pay1 (F := Ideal) y = 0 := by
  unfold k0_pay1
  rw [shapeCast_self]
  exact Ideal.ofBits_zero_f32

theorem zero_apply (y : S1x1024.Idx) : k0_pay4 (F := Ideal) y = 0 := by
  unfold k0_pay4
  exact Ideal.ofBits_zero_f32

/-- A point's sum: what it finds and the product of its blocks. -/
theorem pay2_apply (v0 : Vec Ideal S768x1408 .bf16) (v4 : Vec Ideal S768x1024 .f32) (v5 : Vec Ideal S1024x1408 .bf16) (r : Fin 768) (s : Fin 1024) :
    k0_pay2 v0 v4 v5 (ix2 r s) = v4 (ix2 r s) + ∑ k : Fin 1408, v0 (ix2 r k) * v5 (ix2 s k) := by
  unfold k0_pay2
  rw [shapeCast_self]
  show v4 (ix2 r s) + FloatOps.matmul dot_S768x1408_S1024x1408_S768x1024_1_1_0_0_n_n none v0 v5 (constant (F := Ideal) S768x1024 .f32 0x00000000#32) (ix2 r s) = _
  rw [Ideal.matmul_constant_zero_apply]
  rw [DotDims.sum_contr₁ dot_S768x1408_S1024x1408_S768x1024_1_1_0_0_n_n (a := 1) rfl (K := 1408) rfl]
  refine congrArg (v4 (ix2 r s) + ·) (Finset.sum_congr rfl fun k _ => ?_)
  congr 2
  · funext a
    match a with
    | ⟨0, _⟩ => rfl
    | ⟨1, _⟩ => rfl
  · funext a
    match a with
    | ⟨0, _⟩ => rfl
    | ⟨1, _⟩ => rfl

/-- A row's gradient. -/
theorem dh_apply (v14 v18 : Vec Ideal S768x1024 .f32) (v19 : Vec Ideal S1x1024 .f32) (v45 : Vec Ideal S768x1024 .f32) (r : Fin 768) (s : Fin 1024) :
    k0_pay8 v14 v18 v19 v45 (ix2 r s) = v45 (ix2 r s)
      + kerDx (fun q => v14 (ix2 r q)) (fun q => v18 (ix2 r q)) (fun q => v19 (ix2 0 q)) s := by
  pointwise [k0_pay8, k0_pay5, k0_pay6, k0_pay7]
  rfl

/-- The copy is the same over the extended reals. -/
theorem payb_apply (v14 v18 : Vec Ideal S768x1024 .f32) (v19 : Vec Ideal S1x1024 .f32) (v45 : Vec Ideal S768x1024 .f32) (r : Fin 768) (s : Fin 1024) :
    k0_pay9 v14 v18 v19 v45 (ix2 r s) = k0_pay8 v14 v18 v19 v45 (ix2 r s) := by
  unfold k0_pay9
  rfl

/-- The gain's gradient over a block's rows. -/
theorem dg_apply (v14 v18 : Vec Ideal S768x1024 .f32) (v48 : Vec Ideal S1x1024 .f32) (s : Fin 1024) :
    (k0_pay3 (k0_pay7 v14 v18) v48 : Vec Ideal S1x1024 .f32) (ix2 0 s) = v48 (ix2 0 s)
      + ∑ r : Fin 768, v14 (ix2 r s) * (v18 (ix2 r s) * rr (fun q => v18 (ix2 r q))) := by
  pointwise [k0_pay3, k0_pay5, k0_pay6, k0_pay7]
  rfl

variable (m : (ℓ : Loc nD τ sig) → Buf (Elt Ideal) ℓ) (c : Dev nD)

/-- A point's blocks. -/
abbrev b0 (t : Fin cfg0.N) : Vec Ideal S768x1408 .bf16 := iblk m c 0 t
abbrev b1 (t : Fin cfg0.N) : Vec Ideal S1024x1408 .bf16 := iblk m c 1 t
abbrev b2 (t : Fin cfg0.N) : Vec Ideal S768x1024 .f32 := iblk m c 2 t
abbrev b3 (t : Fin cfg0.N) : Vec Ideal S1x1024 .f32 := iblk m c 3 t
abbrev b4 (t : Fin cfg0.N) : Vec Ideal S768x1024 .f32 := iblk m c 4 t

/-- The arguments. -/
def argA : (⟨2, ![8448, 5632]⟩ : Shape).Idx → EReal := m ((c : Thread nD τ).loc main_arg0)
def argW : (⟨2, ![1024, 5632]⟩ : Shape).Idx → EReal := m ((c : Thread nD τ).loc main_arg1)
def argH : (⟨2, ![8448, 1024]⟩ : Shape).Idx → EReal := m ((c : Thread nD τ).loc main_arg2)
def argG : (⟨2, ![1, 1024]⟩ : Shape).Idx → EReal := m ((c : Thread nD τ).loc main_arg3)
def argR : (⟨2, ![8448, 1024]⟩ : Shape).Idx → EReal := m ((c : Thread nD τ).loc main_arg4)

/-- The product's element over the first `n` columns. -/
abbrev pr (p q n : ℕ) : EReal := cols (argA m c) (argW m c) p q n

theorem idx0 : ∀ t : Fin cfg0.N, win0_0.index t = ![t.val / 4, t.val % 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 4, 0] := (by decide +kernel : ∀ t : Fin grid0.N, _)

theorem blkA (t : Fin cfg0.N) (r : Fin 768) (k : Fin 1408) :
    (b0 m c t) (ix2 r k) = at2 (argA m c) (768 * (t.val / 4) + r.val) (1408 * (t.val % 4) + k.val) := by
  have ht : t.val < 44 := Nat.lt_of_lt_of_eq t.isLt N_0
  have hk := k.isLt
  have hr := r.isLt
  rw [at2_of _ _ _ (by omega) (by omega)]
  unfold argA
  blk_simp [b0, b1, b2, b3, b4, iblk]
  congr 1
  blk_ext [idx0]

theorem blkW (t : Fin cfg0.N) (s : Fin 1024) (k : Fin 1408) :
    (b1 m c t) (ix2 s k) = at2 (argW m c) s.val (1408 * (t.val % 4) + k.val) := by
  have ht : t.val < 44 := Nat.lt_of_lt_of_eq t.isLt N_0
  have hk := k.isLt
  have hs := s.isLt
  rw [at2_of _ _ _ (by omega) (by omega)]
  unfold argW
  blk_simp [b0, b1, b2, b3, b4, iblk]
  congr 1
  blk_ext [idx1]

theorem blkH (t : Fin cfg0.N) (r : Fin 768) (q : Fin 1024) :
    (b2 m c t) (ix2 r q) = at2 (argH m c) (768 * (t.val / 4) + r.val) q.val := by
  have ht : t.val < 44 := Nat.lt_of_lt_of_eq t.isLt N_0
  have hr := r.isLt
  have hq := q.isLt
  rw [at2_of _ _ _ (by omega) (by omega)]
  unfold argH
  blk_simp [b0, b1, b2, b3, b4, iblk]
  congr 1
  blk_ext [idx2]

theorem blkG (t : Fin cfg0.N) (q : Fin 1024) : (b3 m c t) (ix2 0 q) = argG m c (ix2 0 q) := by
  unfold argG
  blk_simp [b0, b1, b2, b3, b4, iblk]
  congr 1
  blk_ext [idx3]

theorem blkR (t : Fin cfg0.N) (r : Fin 768) (q : Fin 1024) :
    (b4 m c t) (ix2 r q) = at2 (argR m c) (768 * (t.val / 4) + r.val) q.val := by
  have ht : t.val < 44 := Nat.lt_of_lt_of_eq t.isLt N_0
  have hr := r.isLt
  have hq := q.isLt
  rw [at2_of _ _ _ (by omega) (by omega)]
  unfold argR
  blk_simp [b0, b1, b2, b3, b4, iblk]
  congr 1
  blk_ext [idx4]

/-- A point's step, from what the columns before its block gave. -/
theorem step (t : Fin cfg0.N) (xs : Vec Ideal S768x1024 .f32) (r : Fin 768) (s : Fin 1024)
    (hx : xs (ix2 r s) = pr m c (768 * (t.val / 4) + r.val) s.val (1408 * (t.val % 4))) :
    k0_pay2 (b0 m c t) xs (b1 m c t) (ix2 r s)
      = pr m c (768 * (t.val / 4) + r.val) s.val (1408 * (t.val % 4) + 1408) := by
  rw [pay2_apply, pr, cols_add, hx]
  exact congrArg (cols _ _ _ _ _ + ·) (Finset.sum_congr rfl fun k _ => by rw [blkA, blkW])

/-- What the scratch holds after a point: the sum over the columns up to its block's end. -/
theorem acc_apply (r : Fin 768) (s : Fin 1024) : ∀ (n : ℕ) (t : Fin cfg0.N), t.val = n → (outsAt0 m c t.val t.isLt).2.2.2 (ix2 r s)
    = pr m c (768 * (t.val / 4) + r.val) s.val (1408 * (t.val % 4) + 1408) := by
  intro n
  induction n with
  | zero =>
    intro t h
    rw [outsAt0_A m c t (by omega) (by omega)]
    dsimp only
    rw [sout_A]
    refine step m c t _ r s ?_
    rw [pay1_apply, show 1408 * (t.val % 4) = 0 by omega, pr, cols_zero]
  | succ n ih =>
    intro t h
    by_cases h0 : t.val % 4 = 0
    · rw [outsAt0_A m c t h0 (by omega)]
      dsimp only
      rw [sout_A]
      refine step m c t _ r s ?_
      rw [pay1_apply, show 1408 * (t.val % 4) = 0 by omega, pr, cols_zero]
    · have e := ih ⟨t.val - 1, Nat.lt_of_le_of_lt (Nat.sub_le _ _) t.isLt⟩ (by dsimp only; omega)
      dsimp only at e
      rw [show 1408 * ((t.val - 1) % 4) + 1408 = 1408 * (t.val % 4) by omega, show (t.val - 1) / 4 = t.val / 4 by omega] at e
      by_cases h1 : t.val % 4 = 3
      · by_cases h2 : t.val < 4
        · rw [outsAt0_C m c t h0 h1 h2]
          dsimp only
          rw [sout_C]
          exact step m c t _ r s e
        · rw [outsAt0_D m c t h0 h1 h2]
          dsimp only
          rw [sout_D]
          exact step m c t _ r s e
      · rw [outsAt0_B m c t h0 h1]
        dsimp only
        rw [sout_B]
        exact step m c t _ r s e

/-- What a point finds there, but at the first of a run. -/
theorem prev_apply (t : Fin cfg0.N) (h0 : ¬t.val % 4 = 0) (r : Fin 768) (s : Fin 1024) :
    (outsAt0 m c (t.val - 1) (Nat.lt_of_le_of_lt (Nat.sub_le _ _) t.isLt)).2.2.2 (ix2 r s) = pr m c (768 * (t.val / 4) + r.val) s.val (1408 * (t.val % 4)) := by
  have e := acc_apply m c r s (t.val - 1) ⟨t.val - 1, Nat.lt_of_le_of_lt (Nat.sub_le _ _) t.isLt⟩ rfl
  dsimp only at e
  rw [show 1408 * ((t.val - 1) % 4) + 1408 = 1408 * (t.val % 4) by omega, show (t.val - 1) / 4 = t.val / 4 by omega] at e
  exact e

/-- What the last point of a run writes out. -/
theorem out_apply (t : Fin cfg0.N) (h1 : t.val % 4 = 3) (r : Fin 768) (s : Fin 1024) : (outsAt0 m c t.val t.isLt).1 (ix2 r s)
    = at2 (argR m c) (768 * (t.val / 4) + r.val) s.val + kerDx (fun q => pr m c (768 * (t.val / 4) + r.val) q.val 5632)
        (fun q => at2 (argH m c) (768 * (t.val / 4) + r.val) q.val) (fun q => argG m c (ix2 0 q)) s := by
  have h0 : ¬t.val % 4 = 0 := by omega
  have e := prev_apply m c t h0
  have hrow : ∀ q : Fin 1024, k0_pay2 (b0 m c t) (outsAt0 m c (t.val - 1) (Nat.lt_of_le_of_lt (Nat.sub_le _ _) t.isLt)).2.2.2 (b1 m c t) (ix2 r q)
      = pr m c (768 * (t.val / 4) + r.val) q.val 5632 := fun q => by
    rw [step m c t _ r q (e r q), show 1408 * (t.val % 4) + 1408 = 5632 by omega]
  by_cases h2 : t.val < 4
  · rw [outsAt0_C m c t h0 h1 h2]
    dsimp only
    rw [out_C, dh_apply]
    simp only [hrow, blkH, blkG, blkR]
  · rw [outsAt0_D m c t h0 h1 h2]
    dsimp only
    rw [out_D, dh_apply]
    simp only [hrow, blkH, blkG, blkR]

/-- What the last point of a run writes out. -/
theorem outb_apply (t : Fin cfg0.N) (h1 : t.val % 4 = 3) (r : Fin 768) (s : Fin 1024) : (outsAt0 m c t.val t.isLt).2.1 (ix2 r s)
    = at2 (argR m c) (768 * (t.val / 4) + r.val) s.val + kerDx (fun q => pr m c (768 * (t.val / 4) + r.val) q.val 5632)
        (fun q => at2 (argH m c) (768 * (t.val / 4) + r.val) q.val) (fun q => argG m c (ix2 0 q)) s := by
  have h0 : ¬t.val % 4 = 0 := by omega
  have e := prev_apply m c t h0
  have hrow : ∀ q : Fin 1024, k0_pay2 (b0 m c t) (outsAt0 m c (t.val - 1) (Nat.lt_of_le_of_lt (Nat.sub_le _ _) t.isLt)).2.2.2 (b1 m c t) (ix2 r q)
      = pr m c (768 * (t.val / 4) + r.val) q.val 5632 := fun q => by
    rw [step m c t _ r q (e r q), show 1408 * (t.val % 4) + 1408 = 5632 by omega]
  by_cases h2 : t.val < 4
  · rw [outsAt0_C m c t h0 h1 h2]
    dsimp only
    rw [outb_C, payb_apply, dh_apply]
    simp only [hrow, blkH, blkG, blkR]
  · rw [outsAt0_D m c t h0 h1 h2]
    dsimp only
    rw [outb_D, payb_apply, dh_apply]
    simp only [hrow, blkH, blkG, blkR]

/-- A row's part of the gain's gradient. -/
def gain (s u : ℕ) : EReal :=
  pr m c u s 5632 * (at2 (argH m c) u s * rr (fun q => at2 (argH m c) u q.val))

/-- The gain's gradient after a point: the sum over the rows of the blocks that are done. -/
theorem gain_apply (s : Fin 1024) : ∀ (n : ℕ) (t : Fin cfg0.N), t.val = n → 3 ≤ n → ((outsAt0 m c t.val t.isLt).2.2.1 : Vec Ideal S1x1024 .f32) (ix2 0 s)
    = ∑ u ∈ Finset.range (768 * ((t.val + 1) / 4)), gain m c s.val u := by
  intro n
  induction n with
  | zero => intro t h hL; omega
  | succ n ih =>
    intro t h hL
    by_cases h1 : t.val % 4 = 3
    · have h0 : ¬t.val % 4 = 0 := by omega
      have hrow : ∀ r : Fin 768, k0_pay2 (b0 m c t) (outsAt0 m c (t.val - 1) (Nat.lt_of_le_of_lt (Nat.sub_le _ _) t.isLt)).2.2.2 (b1 m c t) (ix2 r s)
          = pr m c (768 * (t.val / 4) + r.val) s.val 5632 := fun r => by
        rw [step m c t _ r s (prev_apply m c t h0 r s), show 1408 * (t.val % 4) + 1408 = 5632 by omega]
      have hsum : (∑ u ∈ Finset.range (768 * (t.val / 4)), gain m c s.val u) + ∑ r : Fin 768, gain m c s.val (768 * (t.val / 4) + r.val)
          = ∑ u ∈ Finset.range (768 * ((t.val + 1) / 4)), gain m c s.val u := by
        rw [show 768 * ((t.val + 1) / 4) = 768 * (t.val / 4) + 768 by omega, Finset.sum_range_add,
          Finset.sum_range (fun x => gain m c s.val (768 * (t.val / 4) + x))]
      by_cases h2 : t.val < 4
      · rw [outsAt0_C m c t h0 h1 h2]
        dsimp only
        rw [outg_C, dg_apply, zero_apply, ← hsum, show 768 * (t.val / 4) = 0 by omega, Finset.sum_range_zero]
        refine congrArg ((0 : EReal) + ·) (Finset.sum_congr rfl fun r _ => ?_)
        rw [hrow]
        simp only [blkH]
        rw [show t.val / 4 = 0 by omega]
        rfl
      · have e := ih ⟨t.val - 1, Nat.lt_of_le_of_lt (Nat.sub_le _ _) t.isLt⟩ (by dsimp only; omega) (by omega)
        dsimp only at e
        rw [show t.val - 1 + 1 = t.val by omega] at e
        rw [outsAt0_D m c t h0 h1 h2]
        dsimp only
        rw [outg_D, dg_apply, e, ← hsum]
        refine congrArg (_ + ·) (Finset.sum_congr rfl fun r _ => ?_)
        rw [hrow]
        simp only [blkH]
        rfl
    · have e := ih ⟨t.val - 1, Nat.lt_of_le_of_lt (Nat.sub_le _ _) t.isLt⟩ (by dsimp only; omega) (by omega)
      dsimp only at e
      rw [show t.val - 1 + 1 = t.val by omega] at e
      rw [show (t.val + 1) / 4 = t.val / 4 by omega, ← e]
      by_cases h0 : t.val % 4 = 0
      · rw [outsAt0_A m c t h0 h1]
        rfl
      · rw [outsAt0_B m c t h0 h1]
        rfl

/-- The array after the run. -/
theorem arr_apply (p : Fin 8448) (q : Fin 1024) :
    (G5 m c : (⟨2, ![8448, 1024]⟩ : Shape).Idx → EReal) (ix2 p q) = argR m c (ix2 p q)
      + kerDx (fun j => ∑ k : Fin 5632, argA m c (ix2 p k) * argW m c (ix2 j k)) (fun j => argH m c (ix2 p j)) (fun j => argG m c (ix2 0 j)) q := by
  have hp := p.isLt
  have hq := q.isLt
  have hpt : pt5Of (ix2 p q) = 4 * (1 * (p.val / 768 - 0) + 1 * (q.val / 1024 - 0)) + 3 := rfl
  have hN : pt5Of (ix2 p q) < cfg0.N := by rw [hpt, show cfg0.N = 44 from N_0]; omega
  have hl : loc5Of (ix2 p q) = ix2 ⟨p.val % 768, Nat.mod_lt _ (by decide)⟩ q := by
    funext a
    match a with
    | ⟨0, _⟩ => rfl
    | ⟨1, _⟩ => exact Fin.ext (Nat.mod_eq_of_lt hq)
  refine (dif_pos hN).trans ?_
  rw [← outsAt0_sweep m c _ hN, hl]
  refine (out_apply m c ⟨pt5Of (ix2 p q), hN⟩ (by dsimp only; rw [hpt]; omega) ⟨p.val % 768, Nat.mod_lt _ (by decide)⟩ q).trans ?_
  dsimp only
  have hrow : 768 * (pt5Of (ix2 p q) / 4) + p.val % 768 = p.val := by rw [hpt]; omega
  simp only [hrow]
  have e1 : (fun j : Fin 1024 => pr m c p.val j.val 5632) = fun j => ∑ k : Fin 5632, argA m c (ix2 p k) * argW m c (ix2 j k) :=
    funext fun j => cols_all _ _ p j
  have e2 : (fun j : Fin 1024 => at2 (argH m c) p.val j.val) = fun j => argH m c (ix2 p j) := funext fun j => at2_of _ _ _ hp j.isLt
  rw [at2_of _ _ _ hp hq, e1, e2]

/-- The array after the run. -/
theorem arrb_apply (p : Fin 8448) (q : Fin 1024) :
    (G6 m c : (⟨2, ![8448, 1024]⟩ : Shape).Idx → EReal) (ix2 p q) = argR m c (ix2 p q)
      + kerDx (fun j => ∑ k : Fin 5632, argA m c (ix2 p k) * argW m c (ix2 j k)) (fun j => argH m c (ix2 p j)) (fun j => argG m c (ix2 0 j)) q := by
  have hp := p.isLt
  have hq := q.isLt
  have hpt : pt6Of (ix2 p q) = 4 * (1 * (p.val / 768 - 0) + 1 * (q.val / 1024 - 0)) + 3 := rfl
  have hN : pt6Of (ix2 p q) < cfg0.N := by rw [hpt, show cfg0.N = 44 from N_0]; omega
  have hl : loc6Of (ix2 p q) = ix2 ⟨p.val % 768, Nat.mod_lt _ (by decide)⟩ q := by
    funext a
    match a with
    | ⟨0, _⟩ => rfl
    | ⟨1, _⟩ => exact Fin.ext (Nat.mod_eq_of_lt hq)
  refine (dif_pos hN).trans ?_
  rw [← outsAt0_sweep m c _ hN, hl]
  refine (outb_apply m c ⟨pt6Of (ix2 p q), hN⟩ (by dsimp only; rw [hpt]; omega) ⟨p.val % 768, Nat.mod_lt _ (by decide)⟩ q).trans ?_
  dsimp only
  have hrow : 768 * (pt6Of (ix2 p q) / 4) + p.val % 768 = p.val := by rw [hpt]; omega
  simp only [hrow]
  have e1 : (fun j : Fin 1024 => pr m c p.val j.val 5632) = fun j => ∑ k : Fin 5632, argA m c (ix2 p k) * argW m c (ix2 j k) :=
    funext fun j => cols_all _ _ p j
  have e2 : (fun j : Fin 1024 => at2 (argH m c) p.val j.val) = fun j => argH m c (ix2 p j) := funext fun j => at2_of _ _ _ hp j.isLt
  rw [at2_of _ _ _ hp hq, e1, e2]

/-- The gain's gradient after the run. -/
def gArr : (⟨2, ![1, 1024]⟩ : Shape).Idx → EReal := G7 m c

theorem arrg_range (q : Fin 1024) : gArr m c (ix2 0 q) = ∑ u ∈ Finset.range 8448, gain m c q.val u := by
  have hq := q.isLt
  have hpt : pt7Of (ix2 0 q) = 44 * (1 * ((0 : Fin 1).val / 1 - 0) + 1 * (q.val / 1024 - 0)) + 43 := rfl
  have hN : pt7Of (ix2 0 q) < cfg0.N := by rw [hpt, show cfg0.N = 44 from N_0]; omega
  have hl : loc7Of (ix2 0 q) = ix2 0 q := by
    funext a
    match a with
    | ⟨0, _⟩ => rfl
    | ⟨1, _⟩ => exact Fin.ext (Nat.mod_eq_of_lt hq)
  refine (dif_pos hN).trans ?_
  rw [← outsAt0_sweep m c _ hN, hl]
  refine (gain_apply m c q (pt7Of (ix2 0 q)) ⟨pt7Of (ix2 0 q), hN⟩ rfl (by rw [hpt]; omega)).trans ?_
  dsimp only
  have hn : 768 * ((pt7Of (ix2 0 q) + 1) / 4) = 8448 := by rw [hpt]; omega
  rw [hn]

theorem gain_eq (q : Fin 1024) (p : Fin 8448) : gain m c q.val p.val
    = (∑ k : Fin 5632, argA m c (ix2 p k) * argW m c (ix2 q k)) * (argH m c (ix2 p q) * rr (fun j => argH m c (ix2 p j))) := by
  have e2 : (fun j : Fin 1024 => at2 (argH m c) p.val j.val) = fun j => argH m c (ix2 p j) := funext fun j => at2_of _ _ _ p.isLt j.isLt
  unfold gain
  rw [pr, cols_all _ _ p q, at2_of _ _ _ p.isLt q.isLt, e2]

theorem arrg_apply (q : Fin 1024) :
    gArr m c (ix2 0 q)
      = ∑ p : Fin 8448, (∑ k : Fin 5632, argA m c (ix2 p k) * argW m c (ix2 q k)) * (argH m c (ix2 p q) * rr (fun j => argH m c (ix2 p j))) := by
  rw [arrg_range, Finset.sum_range (fun u => gain m c q.val u)]
  exact Finset.sum_congr rfl fun p _ => gain_eq m c q p

end Cert.Kernel12Ideal.Nb

end
-- ==== Proof.Rb12.lean ====
/-
The reference of the call: the product's rows through the norm's derivative, at an index.
-/
module

public import proofs.«01_k».proof.Proof.Rms
public import proofs.«01_k».proof.Proof.Gen.Reference12Ideal.Run
public import Idealize.ShloMosaic.Lib.Pointwise
public import Idealize.ShloMosaic.PureOps.Ideal.Laws

@[expose] public section

set_option maxRecDepth 16384

noncomputable section

namespace Cert.Reference12Ideal.Nb

open Cert.Reference12Ideal Cert.Reference12Ideal.Gen Cert.Reference12Ideal.Value Cert.Rms
open Idealize.ShloMosaic Idealize.ShloMosaic.TcCoe Idealize.SL.Sem

variable (m : (ℓ : Loc nD τ sig) → Buf (Elt Ideal) ℓ) (c : Dev nD)

def argD : (⟨2, ![8448, 5632]⟩ : Shape).Idx → EReal := m ((c : Thread nD τ).loc main_arg0)
def argW : (⟨2, ![1024, 5632]⟩ : Shape).Idx → EReal := m ((c : Thread nD τ).loc main_arg1)
def argX : (⟨2, ![8448, 1024]⟩ : Shape).Idx → EReal := m ((c : Thread nD τ).loc main_arg2)
def argG : (⟨2, ![1, 1024]⟩ : Shape).Idx → EReal := m ((c : Thread nD τ).loc main_arg3)
def argR : (⟨2, ![8448, 1024]⟩ : Shape).Idx → EReal := m ((c : Thread nD τ).loc main_arg4)

theorem res_apply (p : Fin 8448) (q : Fin 1024) :
    (res_main_v38 m c : (⟨2, ![8448, 1024]⟩ : Shape).Idx → EReal) (ix2 p q) = argR m c (ix2 p q)
      + refDx (fun j => ∑ k : Fin 5632, argD m c (ix2 p k) * argW m c (ix2 j k)) (fun j => argX m c (ix2 p j)) (fun j => argG m c (ix2 0 j)) q := by
  unfold argD argW argX argG argR
  generalize hD : m ((c : Thread nD τ).loc main_arg0) = D
  generalize hW : m ((c : Thread nD τ).loc main_arg1) = W
  generalize hX : m ((c : Thread nD τ).loc main_arg2) = X
  generalize hG : m ((c : Thread nD τ).loc main_arg3) = g
  generalize hR : m ((c : Thread nD τ).loc main_arg4) = R
  have e : res_main_v38 m c = res_main_v38 m c := rfl
  conv_rhs at e => unfold res_main_v38
  rw [e, hD, hW, hX, hG, hR]
  clear e
  pointwise
  simp only [Finset.univ_unique, Finset.sum_singleton]
  rfl

theorem resb_eq : (res_main_v39 m c : (⟨2, ![8448, 1024]⟩ : Shape).Idx → EReal) = res_main_v38 m c := by
  unfold res_main_v39 res_main_v38
  rfl

theorem resg_apply (D : (⟨2, ![8448, 5632]⟩ : Shape).Idx → EReal) (W : (⟨2, ![1024, 5632]⟩ : Shape).Idx → EReal)
    (X : (⟨2, ![8448, 1024]⟩ : Shape).Idx → EReal) (q : Fin 1024) :
    (shapeCast S1x1024 (Host.reduceAdd (F := Ideal) (mulf (mulf X (broadcastInDim S8448x1024 ![0, 1] bcast_S8448x1_S8448x1024_0_1 (Host.rsqrt (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (Host.dotGeneral dot_S8448x5632_S1024x5632_S8448x1024_1_1_0_0_n_n none (extf (F := Ideal) (φ := .bf16) (s := S8448x5632) .f32 D bitsLt_bf16_f32) (extf (F := Ideal) (φ := .bf16) (s := S1024x5632) .f32 W bitsLt_bf16_f32))) (constant S_ .f32 0x00000000#32) reducesTo_S8448x1024_S1024_d0 h_S_) shapeCasts_S1024_S1x1024 : (⟨2, ![1, 1024]⟩ : Shape).Idx → EReal) (ix2 0 q)
      = ∑ p : Fin 8448, X (ix2 p q) * rr (fun j => X (ix2 p j)) * ∑ k : Fin 5632, D (ix2 p k) * W (ix2 q k) := by
  pointwise
  rfl

end Cert.Reference12Ideal.Nb

end
-- ==== Proof.Nb13.lean ====
/-
The call `mm_d_hn1`: the product by blocks of columns, and the norm's derivative on its rows.
-/
module

public import proofs.«01_k».proof.Proof.Rms
public import proofs.«01_k».proof.Proof.Gen.Kernel13Ideal.Value
public import Idealize.ShloMosaic.Lib.Pipeline.ValueKit.Geometry
public import Idealize.ShloMosaic.Lib.Pointwise
public import Idealize.ShloMosaic.PureOps.Ideal.Laws
public import Idealize.ShloMosaic.Lib.Tactic

@[expose] public section

set_option maxRecDepth 16384

noncomputable section

namespace Cert.Kernel13Ideal.Nb

open Cert.Kernel13Ideal Cert.Kernel13Ideal.Gen Cert.Kernel13Ideal.Value Cert.Prod Cert.Rms
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

section
variable {F : FTy → Type} [FloatOps F] (c : Dev nD) (i : grid0.Coords) (a3 : Memref sig .tc .vmem S768x1792 .bf16) (h3 : a3.IsWhole) (a4 : Memref sig .tc .vmem S1024x1792 .bf16) (h4 : a4.IsWhole) (a5 : Memref sig .tc .vmem S768x1024 .f32) (h5 : a5.IsWhole) (a6 : Memref sig .tc .vmem S1x1024 .f32) (h6 : a6.IsWhole) (a7 : Memref sig .tc .vmem S768x1024 .f32) (h7 : a7.IsWhole) (a8 : Memref sig .tc .vmem S768x1024 .f32) (h8 : a8.IsWhole) (a9 : Memref sig .tc .vmem S1x1024 .f32) (h9 : a9.IsWhole) (a10 : Memref sig .tc .vmem S768x1024 .f32) (h10 : a10.IsWhole)
  (x0 : Vec F S768x1792 .bf16) (x1 : Vec F S1024x1792 .bf16) (x2 : Vec F S768x1024 .f32) (x3 : Vec F S1x1024 .f32) (x4 : Vec F S768x1024 .f32)

/-- The first point of a run stores zero, then adds its product. -/
theorem sout_A (hc0 : cond0_0 i) (hc1 : ¬cond0_1 i) :
    sout0_A_0 c i a3 h3 a4 h4 a5 h5 a6 h6 a7 h7 a8 h8 a9 h9 a10 h10 hc0 hc1 x0 x1 x2 x3 x4 = k0_pay2 x0 k0_pay1 x1 := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  simp only [View.canon_cons_unit_zero (S := S768x1024) hz, View.readCov_unit_zero (S := S768x1024) _ hz, View.readAt_eq_ld, h3.read_unread, h4.read_unread, h10.read_unread, View.ld_unit_zero (S := S768x1792) hz, View.ld_unit_zero (S := S1024x1792) hz, View.ld_unit_zero (S := S768x1024) hz]

/-- A later point adds its product to what it finds. -/
theorem sout_B (hc0 : ¬cond0_0 i) (hc1 : ¬cond0_1 i) (xs : Vec F S768x1024 .f32) :
    sout0_B_0 c i a3 h3 a4 h4 a5 h5 a6 h6 a7 h7 a8 h8 a9 h9 a10 h10 hc0 hc1 x0 x1 x2 x3 x4 xs = k0_pay2 x0 xs x1 := by
  unfold sout0_B_0
  rw [View.read_writes_eq_canon _ _ _ (scover0_B_0 c i a3 h3 a4 h4 a5 h5 a6 h6 a7 h7 a8 h8 a9 h9 a10 h10 hc0 hc1 x0 x1 x2 x3 x4 xs)]
  unfold kernelRun0_B
  dsimp only
  sl_unfold_words
  simp only [View.canon_cons_unit_zero (S := S768x1024) hz, View.readCov_unit_zero (S := S768x1024) _ hz, View.readAt_eq_ld, h3.read_unread, h4.read_unread, h10.read_unread, View.ld_unit_zero (S := S768x1792) hz, View.ld_unit_zero (S := S1024x1792) hz, View.ld_unit_zero (S := S768x1024) hz]

/-- A later point adds its product to what it finds. -/
theorem sout_C (hc0 : ¬cond0_0 i) (hc1 : cond0_1 i) (hc2 : cond0_2 i) (xs : Vec F S768x1024 .f32) :
    sout0_C_0 c i a3 h3 a4 h4 a5 h5 a6 h6 a7 h7 a8 h8 a9 h9 a10 h10 hc0 hc1 hc2 x0 x1 x2 x3 x4 xs = k0_pay2 x0 xs x1 := by
  unfold sout0_C_0
  rw [View.read_writes_eq_canon _ _ _ (scover0_C_0 c i a3 h3 a4 h4 a5 h5 a6 h6 a7 h7 a8 h8 a9 h9 a10 h10 hc0 hc1 hc2 x0 x1 x2 x3 x4 xs)]
  unfold kernelRun0_C
  dsimp only
  sl_unfold_words
  simp only [View.canon_cons_unit_zero (S := S768x1024) hz, View.readCov_unit_zero (S := S768x1024) _ hz, View.readAt_eq_ld, h3.read_unread, h4.read_unread, h10.read_unread, View.ld_unit_zero (S := S768x1792) hz, View.ld_unit_zero (S := S1024x1792) hz, View.ld_unit_zero (S := S768x1024) hz]

/-- A later point adds its product to what it finds. -/
theorem sout_D (hc0 : ¬cond0_0 i) (hc1 : cond0_1 i) (hc2 : ¬cond0_2 i) (xo : Vec F S1x1024 .f32) (xs : Vec F S768x1024 .f32) :
    sout0_D_0 c i a3 h3 a4 h4 a5 h5 a6 h6 a7 h7 a8 h8 a9 h9 a10 h10 hc0 hc1 hc2 x0 x1 x2 x3 x4 xo xs = k0_pay2 x0 xs x1 := by
  unfold sout0_D_0
  rw [View.read_writes_eq_canon _ _ _ (scover0_D_0 c i a3 h3 a4 h4 a5 h5 a6 h6 a7 h7 a8 h8 a9 h9 a10 h10 hc0 hc1 hc2 x0 x1 x2 x3 x4 xo xs)]
  unfold kernelRun0_D
  dsimp only
  sl_unfold_words
  simp only [View.canon_cons_unit_zero (S := S768x1024) hz, View.readCov_unit_zero (S := S768x1024) _ hz, View.readAt_eq_ld, h3.read_unread, h4.read_unread, h10.read_unread, View.ld_unit_zero (S := S768x1792) hz, View.ld_unit_zero (S := S1024x1792) hz, View.ld_unit_zero (S := S768x1024) hz]

/-- The last point of a run writes the rows' gradients. -/
theorem out_C (hc0 : ¬cond0_0 i) (hc1 : cond0_1 i) (hc2 : cond0_2 i) (xs : Vec F S768x1024 .f32) :
    out0_C_5 c i a3 h3 a4 h4 a5 h5 a6 h6 a7 h7 a8 h8 a9 h9 a10 h10 hc0 hc1 hc2 x0 x1 x2 x3 x4 xs = k0_pay6 (k0_pay2 x0 xs x1) x2 x3 x4 := by
  unfold out0_C_5
  rw [View.read_writes_eq_canon _ _ _ (cover0_C_5 c i a3 h3 a4 h4 a5 h5 a6 h6 a7 h7 a8 h8 a9 h9 a10 h10 hc0 hc1 hc2 x0 x1 x2 x3 x4 xs)]
  unfold kernelRun0_C
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, View.ld_unit_zero (S := S768x1792) hz, View.ld_unit_zero (S := S1024x1792) hz, View.ld_unit_zero (S := S768x1024) hz, View.ld_unit_zero (S := S1x1024) hz]

/-- The last point of a run writes the rows' gradients. -/
theorem out_D (hc0 : ¬cond0_0 i) (hc1 : cond0_1 i) (hc2 : ¬cond0_2 i) (xo : Vec F S1x1024 .f32) (xs : Vec F S768x1024 .f32) :
    out0_D_5 c i a3 h3 a4 h4 a5 h5 a6 h6 a7 h7 a8 h8 a9 h9 a10 h10 hc0 hc1 hc2 x0 x1 x2 x3 x4 xo xs = k0_pay6 (k0_pay2 x0 xs x1) x2 x3 x4 := by
  unfold out0_D_5
  rw [View.read_writes_eq_canon _ _ _ (cover0_D_5 c i a3 h3 a4 h4 a5 h5 a6 h6 a7 h7 a8 h8 a9 h9 a10 h10 hc0 hc1 hc2 x0 x1 x2 x3 x4 xo xs)]
  unfold kernelRun0_D
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, View.ld_unit_zero (S := S768x1792) hz, View.ld_unit_zero (S := S1024x1792) hz, View.ld_unit_zero (S := S768x1024) hz, View.ld_unit_zero (S := S1x1024) hz]

/-- The gain's gradient, from zero … -/
theorem outg_C (hc0 : ¬cond0_0 i) (hc1 : cond0_1 i) (hc2 : cond0_2 i) (xs : Vec F S768x1024 .f32) :
    out0_C_6 c i a3 h3 a4 h4 a5 h5 a6 h6 a7 h7 a8 h8 a9 h9 a10 h10 hc0 hc1 hc2 x0 x1 x2 x3 x4 xs = k0_pay7 (k0_pay2 x0 xs x1) x2 k0_pay3 := by
  unfold out0_C_6
  rw [View.read_writes_eq_canon _ _ _ (cover0_C_6 c i a3 h3 a4 h4 a5 h5 a6 h6 a7 h7 a8 h8 a9 h9 a10 h10 hc0 hc1 hc2 x0 x1 x2 x3 x4 xs)]
  unfold kernelRun0_C
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, View.ld_unit_zero (S := S768x1792) hz, View.ld_unit_zero (S := S1024x1792) hz, View.ld_unit_zero (S := S768x1024) hz, View.ld_unit_zero (S := S1x1024) hz]

/-- … and from what is there. -/
theorem outg_D (hc0 : ¬cond0_0 i) (hc1 : cond0_1 i) (hc2 : ¬cond0_2 i) (xo : Vec F S1x1024 .f32) (xs : Vec F S768x1024 .f32) :
    out0_D_6 c i a3 h3 a4 h4 a5 h5 a6 h6 a7 h7 a8 h8 a9 h9 a10 h10 hc0 hc1 hc2 x0 x1 x2 x3 x4 xo xs = k0_pay7 (k0_pay2 x0 xs x1) x2 xo := by
  unfold out0_D_6
  rw [View.read_writes_eq_canon _ _ _ (cover0_D_6 c i a3 h3 a4 h4 a5 h5 a6 h6 a7 h7 a8 h8 a9 h9 a10 h10 hc0 hc1 hc2 x0 x1 x2 x3 x4 xo xs)]
  unfold kernelRun0_D
  dsimp only
  sl_unfold_words
  simp only [View.canon_cons_unit_zero (S := S768x1024) hz, View.canon_cons_unit_zero (S := S1x1024) hz, View.readCov_unit_zero (S := S768x1024) _ hz, View.readCov_unit_zero (S := S1x1024) _ hz, View.readAt_eq_ld, h3.read_unread, h4.read_unread, h5.read_unread, h6.read_unread, h7.read_unread, h8.read_unread, h9.read_unread, h10.read_unread, View.ld_unit_zero (S := S768x1792) hz, View.ld_unit_zero (S := S1024x1792) hz, View.ld_unit_zero (S := S768x1024) hz, View.ld_unit_zero (S := S1x1024) hz]

end

/-- The zero block. -/
theorem pay1_apply (y : S768x1024.Idx) : k0_pay1 (F := Ideal) y = 0 := by
  unfold k0_pay1
  rw [shapeCast_self]
  exact Ideal.ofBits_zero_f32

theorem zero_apply (y : S1x1024.Idx) : k0_pay3 (F := Ideal) y = 0 := by
  unfold k0_pay3
  exact Ideal.ofBits_zero_f32

/-- A point's sum: what it finds and the product of its blocks. -/
theorem pay2_apply (v0 : Vec Ideal S768x1792 .bf16) (v4 : Vec Ideal S768x1024 .f32) (v5 : Vec Ideal S1024x1792 .bf16) (r : Fin 768) (s : Fin 1024) :
    k0_pay2 v0 v4 v5 (ix2 r s) = v4 (ix2 r s) + ∑ k : Fin 1792, v0 (ix2 r k) * v5 (ix2 s k) := by
  unfold k0_pay2
  rw [shapeCast_self]
  show v4 (ix2 r s) + FloatOps.matmul dot_S768x1792_S1024x1792_S768x1024_1_1_0_0_n_n none v0 v5 (constant (F := Ideal) S768x1024 .f32 0x00000000#32) (ix2 r s) = _
  rw [Ideal.matmul_constant_zero_apply]
  rw [DotDims.sum_contr₁ dot_S768x1792_S1024x1792_S768x1024_1_1_0_0_n_n (a := 1) rfl (K := 1792) rfl]
  refine congrArg (v4 (ix2 r s) + ·) (Finset.sum_congr rfl fun k _ => ?_)
  congr 2
  · funext a
    match a with
    | ⟨0, _⟩ => rfl
    | ⟨1, _⟩ => rfl
  · funext a
    match a with
    | ⟨0, _⟩ => rfl
    | ⟨1, _⟩ => rfl

/-- A row's gradient. -/
theorem dh_apply (v14 v18 : Vec Ideal S768x1024 .f32) (v19 : Vec Ideal S1x1024 .f32) (v45 : Vec Ideal S768x1024 .f32) (r : Fin 768) (s : Fin 1024) :
    k0_pay6 v14 v18 v19 v45 (ix2 r s) = v45 (ix2 r s)
      + kerDx (fun q => v14 (ix2 r q)) (fun q => v18 (ix2 r q)) (fun q => v19 (ix2 0 q)) s := by
  pointwise [k0_pay6, k0_pay4, k0_pay5]
  rfl

/-- The gain's gradient over a block's rows. -/
theorem dg_apply (v14 v18 : Vec Ideal S768x1024 .f32) (v48 : Vec Ideal S1x1024 .f32) (s : Fin 1024) :
    (k0_pay7 v14 v18 v48 : Vec Ideal S1x1024 .f32) (ix2 0 s) = v48 (ix2 0 s)
      + ∑ r : Fin 768, v14 (ix2 r s) * (v18 (ix2 r s) * rr (fun q => v18 (ix2 r q))) := by
  pointwise [k0_pay7, k0_pay4, k0_pay5]
  rfl

variable (m : (ℓ : Loc nD τ sig) → Buf (Elt Ideal) ℓ) (c : Dev nD)

/-- A point's blocks. -/
abbrev b0 (t : Fin cfg0.N) : Vec Ideal S768x1792 .bf16 := iblk m c 0 t
abbrev b1 (t : Fin cfg0.N) : Vec Ideal S1024x1792 .bf16 := iblk m c 1 t
abbrev b2 (t : Fin cfg0.N) : Vec Ideal S768x1024 .f32 := iblk m c 2 t
abbrev b3 (t : Fin cfg0.N) : Vec Ideal S1x1024 .f32 := iblk m c 3 t
abbrev b4 (t : Fin cfg0.N) : Vec Ideal S768x1024 .f32 := iblk m c 4 t

/-- The arguments. -/
def argA : (⟨2, ![8448, 8960]⟩ : Shape).Idx → EReal := m ((c : Thread nD τ).loc main_arg0)
def argW : (⟨2, ![1024, 8960]⟩ : Shape).Idx → EReal := m ((c : Thread nD τ).loc main_arg1)
def argH : (⟨2, ![8448, 1024]⟩ : Shape).Idx → EReal := m ((c : Thread nD τ).loc main_arg2)
def argG : (⟨2, ![1, 1024]⟩ : Shape).Idx → EReal := m ((c : Thread nD τ).loc main_arg3)
def argR : (⟨2, ![8448, 1024]⟩ : Shape).Idx → EReal := m ((c : Thread nD τ).loc main_arg4)

/-- The product's element over the first `n` columns. -/
abbrev pr (p q n : ℕ) : EReal := cols (argA m c) (argW m c) p q n

theorem idx0 : ∀ t : Fin cfg0.N, win0_0.index t = ![t.val / 5, t.val % 5] := (by decide +kernel : ∀ t : Fin grid0.N, _)
theorem idx1 : ∀ t : Fin cfg0.N, win0_1.index t = ![0, t.val % 5] := (by decide +kernel : ∀ t : Fin grid0.N, _)
theorem idx2 : ∀ t : Fin cfg0.N, win0_2.index t = ![t.val / 5, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 5, 0] := (by decide +kernel : ∀ t : Fin grid0.N, _)

theorem blkA (t : Fin cfg0.N) (r : Fin 768) (k : Fin 1792) :
    (b0 m c t) (ix2 r k) = at2 (argA m c) (768 * (t.val / 5) + r.val) (1792 * (t.val % 5) + k.val) := by
  have ht : t.val < 55 := Nat.lt_of_lt_of_eq t.isLt N_0
  have hk := k.isLt
  have hr := r.isLt
  rw [at2_of _ _ _ (by omega) (by omega)]
  unfold argA
  blk_simp [b0, b1, b2, b3, b4, iblk]
  congr 1
  blk_ext [idx0]

theorem blkW (t : Fin cfg0.N) (s : Fin 1024) (k : Fin 1792) :
    (b1 m c t) (ix2 s k) = at2 (argW m c) s.val (1792 * (t.val % 5) + k.val) := by
  have ht : t.val < 55 := Nat.lt_of_lt_of_eq t.isLt N_0
  have hk := k.isLt
  have hs := s.isLt
  rw [at2_of _ _ _ (by omega) (by omega)]
  unfold argW
  blk_simp [b0, b1, b2, b3, b4, iblk]
  congr 1
  blk_ext [idx1]

theorem blkH (t : Fin cfg0.N) (r : Fin 768) (q : Fin 1024) :
    (b2 m c t) (ix2 r q) = at2 (argH m c) (768 * (t.val / 5) + r.val) q.val := by
  have ht : t.val < 55 := Nat.lt_of_lt_of_eq t.isLt N_0
  have hr := r.isLt
  have hq := q.isLt
  rw [at2_of _ _ _ (by omega) (by omega)]
  unfold argH
  blk_simp [b0, b1, b2, b3, b4, iblk]
  congr 1
  blk_ext [idx2]

theorem blkG (t : Fin cfg0.N) (q : Fin 1024) : (b3 m c t) (ix2 0 q) = argG m c (ix2 0 q) := by
  unfold argG
  blk_simp [b0, b1, b2, b3, b4, iblk]
  congr 1
  blk_ext [idx3]

theorem blkR (t : Fin cfg0.N) (r : Fin 768) (q : Fin 1024) :
    (b4 m c t) (ix2 r q) = at2 (argR m c) (768 * (t.val / 5) + r.val) q.val := by
  have ht : t.val < 55 := Nat.lt_of_lt_of_eq t.isLt N_0
  have hr := r.isLt
  have hq := q.isLt
  rw [at2_of _ _ _ (by omega) (by omega)]
  unfold argR
  blk_simp [b0, b1, b2, b3, b4, iblk]
  congr 1
  blk_ext [idx4]

/-- A point's step, from what the columns before its block gave. -/
theorem step (t : Fin cfg0.N) (xs : Vec Ideal S768x1024 .f32) (r : Fin 768) (s : Fin 1024)
    (hx : xs (ix2 r s) = pr m c (768 * (t.val / 5) + r.val) s.val (1792 * (t.val % 5))) :
    k0_pay2 (b0 m c t) xs (b1 m c t) (ix2 r s)
      = pr m c (768 * (t.val / 5) + r.val) s.val (1792 * (t.val % 5) + 1792) := by
  rw [pay2_apply, pr, cols_add, hx]
  exact congrArg (cols _ _ _ _ _ + ·) (Finset.sum_congr rfl fun k _ => by rw [blkA, blkW])

/-- What the scratch holds after a point: the sum over the columns up to its block's end. -/
theorem acc_apply (r : Fin 768) (s : Fin 1024) : ∀ (n : ℕ) (t : Fin cfg0.N), t.val = n → (outsAt0 m c t.val t.isLt).2.2 (ix2 r s)
    = pr m c (768 * (t.val / 5) + r.val) s.val (1792 * (t.val % 5) + 1792) := by
  intro n
  induction n with
  | zero =>
    intro t h
    rw [outsAt0_A m c t (by omega) (by omega)]
    dsimp only
    rw [sout_A]
    refine step m c t _ r s ?_
    rw [pay1_apply, show 1792 * (t.val % 5) = 0 by omega, pr, cols_zero]
  | succ n ih =>
    intro t h
    by_cases h0 : t.val % 5 = 0
    · rw [outsAt0_A m c t h0 (by omega)]
      dsimp only
      rw [sout_A]
      refine step m c t _ r s ?_
      rw [pay1_apply, show 1792 * (t.val % 5) = 0 by omega, pr, cols_zero]
    · have e := ih ⟨t.val - 1, Nat.lt_of_le_of_lt (Nat.sub_le _ _) t.isLt⟩ (by dsimp only; omega)
      dsimp only at e
      rw [show 1792 * ((t.val - 1) % 5) + 1792 = 1792 * (t.val % 5) by omega, show (t.val - 1) / 5 = t.val / 5 by omega] at e
      by_cases h1 : t.val % 5 = 4
      · by_cases h2 : t.val < 5
        · rw [outsAt0_C m c t h0 h1 h2]
          dsimp only
          rw [sout_C]
          exact step m c t _ r s e
        · rw [outsAt0_D m c t h0 h1 h2]
          dsimp only
          rw [sout_D]
          exact step m c t _ r s e
      · rw [outsAt0_B m c t h0 h1]
        dsimp only
        rw [sout_B]
        exact step m c t _ r s e

/-- What a point finds there, but at the first of a run. -/
theorem prev_apply (t : Fin cfg0.N) (h0 : ¬t.val % 5 = 0) (r : Fin 768) (s : Fin 1024) :
    (outsAt0 m c (t.val - 1) (Nat.lt_of_le_of_lt (Nat.sub_le _ _) t.isLt)).2.2 (ix2 r s) = pr m c (768 * (t.val / 5) + r.val) s.val (1792 * (t.val % 5)) := by
  have e := acc_apply m c r s (t.val - 1) ⟨t.val - 1, Nat.lt_of_le_of_lt (Nat.sub_le _ _) t.isLt⟩ rfl
  dsimp only at e
  rw [show 1792 * ((t.val - 1) % 5) + 1792 = 1792 * (t.val % 5) by omega, show (t.val - 1) / 5 = t.val / 5 by omega] at e
  exact e

/-- What the last point of a run writes out. -/
theorem out_apply (t : Fin cfg0.N) (h1 : t.val % 5 = 4) (r : Fin 768) (s : Fin 1024) : (outsAt0 m c t.val t.isLt).1 (ix2 r s)
    = at2 (argR m c) (768 * (t.val / 5) + r.val) s.val + kerDx (fun q => pr m c (768 * (t.val / 5) + r.val) q.val 8960)
        (fun q => at2 (argH m c) (768 * (t.val / 5) + r.val) q.val) (fun q => argG m c (ix2 0 q)) s := by
  have h0 : ¬t.val % 5 = 0 := by omega
  have e := prev_apply m c t h0
  have hrow : ∀ q : Fin 1024, k0_pay2 (b0 m c t) (outsAt0 m c (t.val - 1) (Nat.lt_of_le_of_lt (Nat.sub_le _ _) t.isLt)).2.2 (b1 m c t) (ix2 r q)
      = pr m c (768 * (t.val / 5) + r.val) q.val 8960 := fun q => by
    rw [step m c t _ r q (e r q), show 1792 * (t.val % 5) + 1792 = 8960 by omega]
  by_cases h2 : t.val < 5
  · rw [outsAt0_C m c t h0 h1 h2]
    dsimp only
    rw [out_C, dh_apply]
    simp only [hrow, blkH, blkG, blkR]
  · rw [outsAt0_D m c t h0 h1 h2]
    dsimp only
    rw [out_D, dh_apply]
    simp only [hrow, blkH, blkG, blkR]

/-- A row's part of the gain's gradient. -/
def gain (s u : ℕ) : EReal :=
  pr m c u s 8960 * (at2 (argH m c) u s * rr (fun q => at2 (argH m c) u q.val))

/-- The gain's gradient after a point: the sum over the rows of the blocks that are done. -/
theorem gain_apply (s : Fin 1024) : ∀ (n : ℕ) (t : Fin cfg0.N), t.val = n → 4 ≤ n → ((outsAt0 m c t.val t.isLt).2.1 : Vec Ideal S1x1024 .f32) (ix2 0 s)
    = ∑ u ∈ Finset.range (768 * ((t.val + 1) / 5)), gain m c s.val u := by
  intro n
  induction n with
  | zero => intro t h hL; omega
  | succ n ih =>
    intro t h hL
    by_cases h1 : t.val % 5 = 4
    · have h0 : ¬t.val % 5 = 0 := by omega
      have hrow : ∀ r : Fin 768, k0_pay2 (b0 m c t) (outsAt0 m c (t.val - 1) (Nat.lt_of_le_of_lt (Nat.sub_le _ _) t.isLt)).2.2 (b1 m c t) (ix2 r s)
          = pr m c (768 * (t.val / 5) + r.val) s.val 8960 := fun r => by
        rw [step m c t _ r s (prev_apply m c t h0 r s), show 1792 * (t.val % 5) + 1792 = 8960 by omega]
      have hsum : (∑ u ∈ Finset.range (768 * (t.val / 5)), gain m c s.val u) + ∑ r : Fin 768, gain m c s.val (768 * (t.val / 5) + r.val)
          = ∑ u ∈ Finset.range (768 * ((t.val + 1) / 5)), gain m c s.val u := by
        rw [show 768 * ((t.val + 1) / 5) = 768 * (t.val / 5) + 768 by omega, Finset.sum_range_add,
          Finset.sum_range (fun x => gain m c s.val (768 * (t.val / 5) + x))]
      by_cases h2 : t.val < 5
      · rw [outsAt0_C m c t h0 h1 h2]
        dsimp only
        rw [outg_C, dg_apply, zero_apply, ← hsum, show 768 * (t.val / 5) = 0 by omega, Finset.sum_range_zero]
        refine congrArg ((0 : EReal) + ·) (Finset.sum_congr rfl fun r _ => ?_)
        rw [hrow]
        simp only [blkH]
        rw [show t.val / 5 = 0 by omega]
        rfl
      · have e := ih ⟨t.val - 1, Nat.lt_of_le_of_lt (Nat.sub_le _ _) t.isLt⟩ (by dsimp only; omega) (by omega)
        dsimp only at e
        rw [show t.val - 1 + 1 = t.val by omega] at e
        rw [outsAt0_D m c t h0 h1 h2]
        dsimp only
        rw [outg_D, dg_apply, e, ← hsum]
        refine congrArg (_ + ·) (Finset.sum_congr rfl fun r _ => ?_)
        rw [hrow]
        simp only [blkH]
        rfl
    · have e := ih ⟨t.val - 1, Nat.lt_of_le_of_lt (Nat.sub_le _ _) t.isLt⟩ (by dsimp only; omega) (by omega)
      dsimp only at e
      rw [show t.val - 1 + 1 = t.val by omega] at e
      rw [show (t.val + 1) / 5 = t.val / 5 by omega, ← e]
      by_cases h0 : t.val % 5 = 0
      · rw [outsAt0_A m c t h0 h1]
        rfl
      · rw [outsAt0_B m c t h0 h1]
        rfl

/-- The array after the run. -/
theorem arr_apply (p : Fin 8448) (q : Fin 1024) :
    (G5 m c : (⟨2, ![8448, 1024]⟩ : Shape).Idx → EReal) (ix2 p q) = argR m c (ix2 p q)
      + kerDx (fun j => ∑ k : Fin 8960, argA m c (ix2 p k) * argW m c (ix2 j k)) (fun j => argH m c (ix2 p j)) (fun j => argG m c (ix2 0 j)) q := by
  have hp := p.isLt
  have hq := q.isLt
  have hpt : pt5Of (ix2 p q) = 5 * (1 * (p.val / 768 - 0) + 1 * (q.val / 1024 - 0)) + 4 := rfl
  have hN : pt5Of (ix2 p q) < cfg0.N := by rw [hpt, show cfg0.N = 55 from N_0]; omega
  have hl : loc5Of (ix2 p q) = ix2 ⟨p.val % 768, Nat.mod_lt _ (by decide)⟩ q := by
    funext a
    match a with
    | ⟨0, _⟩ => rfl
    | ⟨1, _⟩ => exact Fin.ext (Nat.mod_eq_of_lt hq)
  refine (dif_pos hN).trans ?_
  rw [← outsAt0_sweep m c _ hN, hl]
  refine (out_apply m c ⟨pt5Of (ix2 p q), hN⟩ (by dsimp only; rw [hpt]; omega) ⟨p.val % 768, Nat.mod_lt _ (by decide)⟩ q).trans ?_
  dsimp only
  have hrow : 768 * (pt5Of (ix2 p q) / 5) + p.val % 768 = p.val := by rw [hpt]; omega
  simp only [hrow]
  have e1 : (fun j : Fin 1024 => pr m c p.val j.val 8960) = fun j => ∑ k : Fin 8960, argA m c (ix2 p k) * argW m c (ix2 j k) :=
    funext fun j => cols_all _ _ p j
  have e2 : (fun j : Fin 1024 => at2 (argH m c) p.val j.val) = fun j => argH m c (ix2 p j) := funext fun j => at2_of _ _ _ hp j.isLt
  rw [at2_of _ _ _ hp hq, e1, e2]

/-- The gain's gradient after the run. -/
def gArr : (⟨2, ![1, 1024]⟩ : Shape).Idx → EReal := G6 m c

theorem arrg_range (q : Fin 1024) : gArr m c (ix2 0 q) = ∑ u ∈ Finset.range 8448, gain m c q.val u := by
  have hq := q.isLt
  have hpt : pt6Of (ix2 0 q) = 55 * (1 * ((0 : Fin 1).val / 1 - 0) + 1 * (q.val / 1024 - 0)) + 54 := rfl
  have hN : pt6Of (ix2 0 q) < cfg0.N := by rw [hpt, show cfg0.N = 55 from N_0]; omega
  have hl : loc6Of (ix2 0 q) = ix2 0 q := by
    funext a
    match a with
    | ⟨0, _⟩ => rfl
    | ⟨1, _⟩ => exact Fin.ext (Nat.mod_eq_of_lt hq)
  refine (dif_pos hN).trans ?_
  rw [← outsAt0_sweep m c _ hN, hl]
  refine (gain_apply m c q (pt6Of (ix2 0 q)) ⟨pt6Of (ix2 0 q), hN⟩ rfl (by rw [hpt]; omega)).trans ?_
  dsimp only
  have hn : 768 * ((pt6Of (ix2 0 q) + 1) / 5) = 8448 := by rw [hpt]; omega
  rw [hn]

theorem gain_eq (q : Fin 1024) (p : Fin 8448) : gain m c q.val p.val
    = (∑ k : Fin 8960, argA m c (ix2 p k) * argW m c (ix2 q k)) * (argH m c (ix2 p q) * rr (fun j => argH m c (ix2 p j))) := by
  have e2 : (fun j : Fin 1024 => at2 (argH m c) p.val j.val) = fun j => argH m c (ix2 p j) := funext fun j => at2_of _ _ _ p.isLt j.isLt
  unfold gain
  rw [pr, cols_all _ _ p q, at2_of _ _ _ p.isLt q.isLt, e2]

theorem arrg_apply (q : Fin 1024) :
    gArr m c (ix2 0 q)
      = ∑ p : Fin 8448, (∑ k : Fin 8960, argA m c (ix2 p k) * argW m c (ix2 q k)) * (argH m c (ix2 p q) * rr (fun j => argH m c (ix2 p j))) := by
  rw [arrg_range, Finset.sum_range (fun u => gain m c q.val u)]
  exact Finset.sum_congr rfl fun p _ => gain_eq m c q p

end Cert.Kernel13Ideal.Nb

end
-- ==== Proof.Rb13.lean ====
/-
The reference of the call: the product's rows through the norm's derivative, at an index.
-/
module

public import proofs.«01_k».proof.Proof.Rms
public import proofs.«01_k».proof.Proof.Gen.Reference13Ideal.Run
public import Idealize.ShloMosaic.Lib.Pointwise
public import Idealize.ShloMosaic.PureOps.Ideal.Laws

@[expose] public section

set_option maxRecDepth 16384

noncomputable section

namespace Cert.Reference13Ideal.Nb

open Cert.Reference13Ideal Cert.Reference13Ideal.Gen Cert.Reference13Ideal.Value Cert.Rms
open Idealize.ShloMosaic Idealize.ShloMosaic.TcCoe Idealize.SL.Sem

variable (m : (ℓ : Loc nD τ sig) → Buf (Elt Ideal) ℓ) (c : Dev nD)

def argD : (⟨2, ![8448, 8960]⟩ : Shape).Idx → EReal := m ((c : Thread nD τ).loc main_arg0)
def argW : (⟨2, ![1024, 8960]⟩ : Shape).Idx → EReal := m ((c : Thread nD τ).loc main_arg1)
def argX : (⟨2, ![8448, 1024]⟩ : Shape).Idx → EReal := m ((c : Thread nD τ).loc main_arg2)
def argG : (⟨2, ![1, 1024]⟩ : Shape).Idx → EReal := m ((c : Thread nD τ).loc main_arg3)
def argR : (⟨2, ![8448, 1024]⟩ : Shape).Idx → EReal := m ((c : Thread nD τ).loc main_arg4)

theorem res_apply (p : Fin 8448) (q : Fin 1024) :
    (res_main_v38 m c : (⟨2, ![8448, 1024]⟩ : Shape).Idx → EReal) (ix2 p q) = argR m c (ix2 p q)
      + refDx (fun j => ∑ k : Fin 8960, argD m c (ix2 p k) * argW m c (ix2 j k)) (fun j => argX m c (ix2 p j)) (fun j => argG m c (ix2 0 j)) q := by
  unfold argD argW argX argG argR
  generalize hD : m ((c : Thread nD τ).loc main_arg0) = D
  generalize hW : m ((c : Thread nD τ).loc main_arg1) = W
  generalize hX : m ((c : Thread nD τ).loc main_arg2) = X
  generalize hG : m ((c : Thread nD τ).loc main_arg3) = g
  generalize hR : m ((c : Thread nD τ).loc main_arg4) = R
  have e : res_main_v38 m c = res_main_v38 m c := rfl
  conv_rhs at e => unfold res_main_v38
  rw [e, hD, hW, hX, hG, hR]
  clear e
  pointwise
  simp only [Finset.univ_unique, Finset.sum_singleton]
  rfl

theorem resg_apply (D : (⟨2, ![8448, 8960]⟩ : Shape).Idx → EReal) (W : (⟨2, ![1024, 8960]⟩ : Shape).Idx → EReal)
    (X : (⟨2, ![8448, 1024]⟩ : Shape).Idx → EReal) (q : Fin 1024) :
    (shapeCast S1x1024 (Host.reduceAdd (F := Ideal) (mulf (mulf X (broadcastInDim S8448x1024 ![0, 1] bcast_S8448x1_S8448x1024_0_1 (Host.rsqrt (addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x358637BD#32)))))) (Host.dotGeneral dot_S8448x8960_S1024x8960_S8448x1024_1_1_0_0_n_n none (extf (F := Ideal) (φ := .bf16) (s := S8448x8960) .f32 D bitsLt_bf16_f32) (extf (F := Ideal) (φ := .bf16) (s := S1024x8960) .f32 W bitsLt_bf16_f32))) (constant S_ .f32 0x00000000#32) reducesTo_S8448x1024_S1024_d0 h_S_) shapeCasts_S1024_S1x1024 : (⟨2, ![1, 1024]⟩ : Shape).Idx → EReal) (ix2 0 q)
      = ∑ p : Fin 8448, X (ix2 p q) * rr (fun j => X (ix2 p j)) * ∑ k : Fin 8960, D (ix2 p k) * W (ix2 q k) := by
  pointwise
  rfl

end Cert.Reference13Ideal.Nb

end
-- ==== Proof.NbClaims.lean ====
/-
The claims of the calls over the products: each call's results are its reference's.
-/
module

public import proofs.«01_k».proof.Defs
public import proofs.«01_k».proof.Proof.Nn8
public import proofs.«01_k».proof.Proof.Nn9
public import proofs.«01_k».proof.Proof.Nn10
public import proofs.«01_k».proof.Proof.Nn11
public import proofs.«01_k».proof.Proof.Nb12
public import proofs.«01_k».proof.Proof.Rb12
public import proofs.«01_k».proof.Proof.Nb13
public import proofs.«01_k».proof.Proof.Rb13
public import proofs.«01_k».proof.Proof.Tame
public import Idealize.ShloMosaic.Lib.Quiescent

@[expose] public section

set_option maxRecDepth 16384

noncomputable section

namespace Cert.Nn8

open Idealize.ShloMosaic Idealize.ShloMosaic.TcCoe Idealize.SL.Sem Cert.Prod

theorem frame_ri : Cert.quiescent_Reference8Ideal := fun m g _ =>
  (θ_run _ _ _).mono (fun r h => ⟨fun c => (h c).2, sem_eq_zero_of_no_sems (by decide) r.2⟩) (Cert.Reference8Ideal.Value.run m g)

theorem algebraic : Cert.algebraic_Kernel8Ideal_Reference8Ideal := by
  intro m g m' g' _ hm
  refine ⟨fun c => Cert.Kernel8Ideal.Nn.prod (Cert.Kernel8Ideal.Nn.argA m c) (Cert.Kernel8Ideal.Nn.argB m c), ?_, ?_⟩
  · exact (θ_run _ _ _).mono (fun r h c => ⟨(h c).1.trans (Cert.Kernel8Ideal.Nn.final m c), (h c).2⟩) (Cert.Kernel8Ideal.Value.run_blocks m g)
  refine (θ_run _ _ _).mono (fun r h c => ⟨(h c).1.trans ?_, (h c).2⟩) (Cert.Reference8Ideal.Value.run m' g')
  rw [(hm c).1, (hm c).2]
  refine ext2 (N := 8448) (M := 1280) fun p q => ?_
  exact Cert.Reference8Ideal.Nn.res_apply (Cert.Kernel8Ideal.Nn.argA m c) (Cert.Kernel8Ideal.Nn.argB m c) p q

end Cert.Nn8

namespace Cert.Nn9

open Idealize.ShloMosaic Idealize.ShloMosaic.TcCoe Idealize.SL.Sem Cert.Prod

theorem frame_ri : Cert.quiescent_Reference9Ideal := fun m g _ =>
  (θ_run _ _ _).mono (fun r h => ⟨fun c => (h c).2, sem_eq_zero_of_no_sems (by decide) r.2⟩) (Cert.Reference9Ideal.Value.run m g)

theorem algebraic : Cert.algebraic_Kernel9Ideal_Reference9Ideal := by
  intro m g m' g' _ hm
  refine ⟨fun c => Cert.Kernel9Ideal.Nn.prod (Cert.Kernel9Ideal.Nn.argA m c) (Cert.Kernel9Ideal.Nn.argB m c), ?_, ?_⟩
  · exact (θ_run _ _ _).mono (fun r h c => ⟨(h c).1.trans (Cert.Kernel9Ideal.Nn.final m c), (h c).2⟩) (Cert.Kernel9Ideal.Value.run_blocks m g)
  refine (θ_run _ _ _).mono (fun r h c => ⟨(h c).1.trans ?_, (h c).2⟩) (Cert.Reference9Ideal.Value.run m' g')
  rw [(hm c).1, (hm c).2]
  refine ext2 (N := 8448) (M := 1024) fun p q => ?_
  exact Cert.Reference9Ideal.Nn.res_apply (Cert.Kernel9Ideal.Nn.argA m c) (Cert.Kernel9Ideal.Nn.argB m c) p q

end Cert.Nn9

namespace Cert.Nn10

open Idealize.ShloMosaic Idealize.ShloMosaic.TcCoe Idealize.SL.Sem Cert.Prod

theorem frame_ri : Cert.quiescent_Reference10Ideal := fun m g _ =>
  (θ_run _ _ _).mono (fun r h => ⟨fun c => (h c).2, sem_eq_zero_of_no_sems (by decide) r.2⟩) (Cert.Reference10Ideal.Value.run m g)

theorem algebraic : Cert.algebraic_Kernel10Ideal_Reference10Ideal := by
  intro m g m' g' _ hm
  refine ⟨fun c => Cert.Kernel10Ideal.Nn.prod (Cert.Kernel10Ideal.Nn.argA m c) (Cert.Kernel10Ideal.Nn.argB m c), ?_, ?_⟩
  · exact (θ_run _ _ _).mono (fun r h c => ⟨(h c).1.trans (Cert.Kernel10Ideal.Nn.final m c), (h c).2⟩) (Cert.Kernel10Ideal.Value.run_blocks m g)
  refine (θ_run _ _ _).mono (fun r h c => ⟨(h c).1.trans ?_, (h c).2⟩) (Cert.Reference10Ideal.Value.run m' g')
  rw [(hm c).1, (hm c).2]
  refine ext2 (N := 8448) (M := 1024) fun p q => ?_
  exact Cert.Reference10Ideal.Nn.res_apply (Cert.Kernel10Ideal.Nn.argA m c) (Cert.Kernel10Ideal.Nn.argB m c) p q

end Cert.Nn10

namespace Cert.Nn11

open Idealize.ShloMosaic Idealize.ShloMosaic.TcCoe Idealize.SL.Sem Cert.Prod

theorem frame_ri : Cert.quiescent_Reference11Ideal := fun m g _ =>
  (θ_run _ _ _).mono (fun r h => ⟨fun c => (h c).2, sem_eq_zero_of_no_sems (by decide) r.2⟩) (Cert.Reference11Ideal.Value.run m g)

theorem algebraic : Cert.algebraic_Kernel11Ideal_Reference11Ideal := by
  intro m g m' g' _ hm
  refine ⟨fun c => Cert.Kernel11Ideal.Nn.prod (Cert.Kernel11Ideal.Nn.argA m c) (Cert.Kernel11Ideal.Nn.argB m c), ?_, ?_⟩
  · exact (θ_run _ _ _).mono (fun r h c => ⟨(h c).1.trans (Cert.Kernel11Ideal.Nn.final m c), (h c).2⟩) (Cert.Kernel11Ideal.Value.run_blocks m g)
  refine (θ_run _ _ _).mono (fun r h c => ⟨(h c).1.trans ?_, (h c).2⟩) (Cert.Reference11Ideal.Value.run m' g')
  rw [(hm c).1, (hm c).2]
  refine ext2 (N := 8448) (M := 1024) fun p q => ?_
  exact Cert.Reference11Ideal.Nn.res_apply (Cert.Kernel11Ideal.Nn.argA m c) (Cert.Kernel11Ideal.Nn.argB m c) p q

end Cert.Nn11

namespace Cert.Nb12

open Idealize.ShloMosaic Idealize.ShloMosaic.TcCoe Idealize.SL.Sem Cert.Prod Cert.Rms

/-- The side conditions of the precondition's program hold. -/
instance pre_facts : Cert.Pre_finite_copy.Facts where
  bcast_S_S8448x5632 := by decide
  bcast_S_S1024x5632 := by decide
  bcast_S_S8448x1024 := by decide
  bcast_S_S1x1024 := by decide

theorem w_inf16 : Ideal.ofBits FTy.bf16 0x7F80#16 = ⊤ := by simp [Ideal.ofBits, Ideal.ieee]

section
variable (x0 : Vec Ideal Cert.Pre_finite_copy.S8448x5632 .bf16) (x1 : Vec Ideal Cert.Pre_finite_copy.S1024x5632 .bf16) (x2 : Vec Ideal Cert.Pre_finite_copy.S8448x1024 .f32)
    (x3 : Vec Ideal Cert.Pre_finite_copy.S1x1024 .f32) (x4 : Vec Ideal Cert.Pre_finite_copy.S8448x1024 .f32)

/-- The precondition's conjunct 0: the array's entries are reals. -/
theorem fin0 (h : (Cert.Pre_finite_copy.fn (F := Ideal) x0 x1 x2 x3 x4).1 = fun _ => 1#1) (p : Fin 8448) (q : Fin 5632) : ∃ r : ℝ, x0 (ix2 p q) = r := by
  have e := congrFun h (ix2 p q)
  pointwise [Cert.Pre_finite_copy.fn] at e
  simp only [StableHlo.Predicate.ofBool_eq_one_iff, decide_eq_true_eq, w_inf16] at e
  exact Cert.Col.real_of_abs e

/-- The precondition's conjunct 1: the array's entries are reals. -/
theorem fin1 (h : (Cert.Pre_finite_copy.fn (F := Ideal) x0 x1 x2 x3 x4).2.1 = fun _ => 1#1) (p : Fin 1024) (q : Fin 5632) : ∃ r : ℝ, x1 (ix2 p q) = r := by
  have e := congrFun h (ix2 p q)
  pointwise [Cert.Pre_finite_copy.fn] at e
  simp only [StableHlo.Predicate.ofBool_eq_one_iff, decide_eq_true_eq, w_inf16] at e
  exact Cert.Col.real_of_abs e

/-- The precondition's conjunct 2: the array's entries are reals. -/
theorem fin2 (h : (Cert.Pre_finite_copy.fn (F := Ideal) x0 x1 x2 x3 x4).2.2.1 = fun _ => 1#1) (p : Fin 8448) (q : Fin 1024) : ∃ r : ℝ, x2 (ix2 p q) = r := by
  have e := congrFun h (ix2 p q)
  pointwise [Cert.Pre_finite_copy.fn] at e
  simp only [StableHlo.Predicate.ofBool_eq_one_iff, decide_eq_true_eq, Cert.Col.w_inf] at e
  exact Cert.Col.real_of_abs e

/-- The precondition's conjunct 3: the array's entries are reals. -/
theorem fin3 (h : (Cert.Pre_finite_copy.fn (F := Ideal) x0 x1 x2 x3 x4).2.2.2 = fun _ => 1#1) (p : Fin 1) (q : Fin 1024) : ∃ r : ℝ, x3 (ix2 p q) = r := by
  have e := congrFun h (ix2 p q)
  pointwise [Cert.Pre_finite_copy.fn] at e
  simp only [StableHlo.Predicate.ofBool_eq_one_iff, decide_eq_true_eq, Cert.Col.w_inf] at e
  exact Cert.Col.real_of_abs e

end

theorem frame_pi_fin : Cert.quiescent_Kernel12Ideal_pre_finite_copy := fun m ρ _ => Cert.Kernel12Ideal.Gen.frame m ρ

theorem frame_ri : Cert.quiescent_Reference12Ideal := fun m g _ =>
  (θ_run _ _ _).mono (fun r h => ⟨fun c => (h c).2.2.2, sem_eq_zero_of_no_sems (by decide) r.2⟩) (Cert.Reference12Ideal.Value.run m g)

theorem frame_ri_fin : Cert.quiescent_Reference12Ideal_pre_finite_copy := fun m g _ => frame_ri m g trivial

section
variable (m : (ℓ : Loc Cert.Kernel12Ideal.nD Cert.Kernel12Ideal.τ Cert.Kernel12Ideal.sig) → Buf (Elt Ideal) ℓ) (c : Dev Cert.Kernel12Ideal.nD)
  (m' : (ℓ : Loc Cert.Reference12Ideal.nD Cert.Reference12Ideal.τ Cert.Reference12Ideal.sig) → Buf (Elt Ideal) ℓ)

/-- A row's gradient: the two forms are equal where the product's row, the norm's row and its gain are reals. -/
theorem row_eq (hpre : Cert.Pre_Kernel12Ideal_finite_copy m)
    (e : Cert.Reference12Ideal.Nb.argD m' c = Cert.Kernel12Ideal.Nb.argA m c ∧ Cert.Reference12Ideal.Nb.argW m' c = Cert.Kernel12Ideal.Nb.argW m c
      ∧ Cert.Reference12Ideal.Nb.argX m' c = Cert.Kernel12Ideal.Nb.argH m c ∧ Cert.Reference12Ideal.Nb.argG m' c = Cert.Kernel12Ideal.Nb.argG m c ∧ Cert.Reference12Ideal.Nb.argR m' c = Cert.Kernel12Ideal.Nb.argR m c) (p : Fin 8448) (q : Fin 1024) :
    Cert.Reference12Ideal.Nb.argR m' c (ix2 p q) + refDx (fun j => ∑ k : Fin 5632, Cert.Reference12Ideal.Nb.argD m' c (ix2 p k) * Cert.Reference12Ideal.Nb.argW m' c (ix2 j k))
        (fun j => Cert.Reference12Ideal.Nb.argX m' c (ix2 p j)) (fun j => Cert.Reference12Ideal.Nb.argG m' c (ix2 0 j)) q
      = Cert.Kernel12Ideal.Nb.argR m c (ix2 p q) + kerDx (fun j => ∑ k : Fin 5632, Cert.Kernel12Ideal.Nb.argA m c (ix2 p k) * Cert.Kernel12Ideal.Nb.argW m c (ix2 j k))
        (fun j => Cert.Kernel12Ideal.Nb.argH m c (ix2 p j)) (fun j => Cert.Kernel12Ideal.Nb.argG m c (ix2 0 j)) q := by
  obtain ⟨f0, f1, f2, f3⟩ := hpre c
  rw [e.1, e.2.1, e.2.2.1, e.2.2.2.1, e.2.2.2.2]
  exact congrArg (Cert.Kernel12Ideal.Nb.argR m c (ix2 p q) + ·) (dx_eq _ _ _
    (fun j => real_sum _ _ (fun k => fin0 _ _ _ _ _ f0 p k) (fun k => fin1 _ _ _ _ _ f1 j k))
    (fun j => fin2 _ _ _ _ _ f2 p j) (fun j => fin3 _ _ _ _ _ f3 0 j) q).symm

end

theorem algebraic : Cert.algebraic_Kernel12Ideal_Reference12Ideal_pre_finite_copy := by
  intro m g m' g' hpre hm
  refine ⟨fun c => Cert.Kernel12Ideal.Value.G5 m c, fun c => Cert.Kernel12Ideal.Value.G6 m c, fun c => Cert.Kernel12Ideal.Value.G7 m c, Cert.Kernel12Ideal.Value.run m g, ?_⟩
  refine (θ_run _ _ _).mono (fun r h c => ⟨(h c).1.trans ?_, (h c).2.1.trans ?_, (h c).2.2.1.trans ?_, (h c).2.2.2⟩) (Cert.Reference12Ideal.Value.run m' g')
  · refine ext2 (N := 8448) (M := 1024) fun p q => ?_
    exact (Cert.Reference12Ideal.Nb.res_apply m' c p q).trans ((row_eq m c m' hpre (hm c) p q).trans
      (Cert.Kernel12Ideal.Nb.arr_apply m c p q).symm)
  · rw [Cert.Reference12Ideal.Nb.resb_eq]
    refine ext2 (N := 8448) (M := 1024) fun p q => ?_
    exact (Cert.Reference12Ideal.Nb.res_apply m' c p q).trans ((row_eq m c m' hpre (hm c) p q).trans
      (Cert.Kernel12Ideal.Nb.arrb_apply m c p q).symm)
  · rw [(hm c).1, (hm c).2.1, (hm c).2.2.1]
    refine ext2 (N := 1) (M := 1024) fun p q => ?_
    obtain rfl : p = 0 := Subsingleton.elim _ _
    refine (Cert.Reference12Ideal.Nb.resg_apply (Cert.Kernel12Ideal.Nb.argA m c) (Cert.Kernel12Ideal.Nb.argW m c) (Cert.Kernel12Ideal.Nb.argH m c) q).trans
      (Eq.trans ?_ (Cert.Kernel12Ideal.Nb.arrg_apply m c q).symm)
    exact Finset.sum_congr rfl fun p _ => mul_comm _ _

end Cert.Nb12

namespace Cert.Nb13

open Idealize.ShloMosaic Idealize.ShloMosaic.TcCoe Idealize.SL.Sem Cert.Prod Cert.Rms

/-- The side conditions of the precondition's program hold. -/
instance pre_facts : Cert.Pre_finite.Facts where
  bcast_S_S8448x8960 := by decide
  bcast_S_S1024x8960 := by decide
  bcast_S_S8448x1024 := by decide
  bcast_S_S1x1024 := by decide

theorem w_inf16 : Ideal.ofBits FTy.bf16 0x7F80#16 = ⊤ := by simp [Ideal.ofBits, Ideal.ieee]

section
variable (x0 : Vec Ideal Cert.Pre_finite.S8448x8960 .bf16) (x1 : Vec Ideal Cert.Pre_finite.S1024x8960 .bf16) (x2 : Vec Ideal Cert.Pre_finite.S8448x1024 .f32)
    (x3 : Vec Ideal Cert.Pre_finite.S1x1024 .f32) (x4 : Vec Ideal Cert.Pre_finite.S8448x1024 .f32)

/-- The precondition's conjunct 0: the array's entries are reals. -/
theorem fin0 (h : (Cert.Pre_finite.fn (F := Ideal) x0 x1 x2 x3 x4).1 = fun _ => 1#1) (p : Fin 8448) (q : Fin 8960) : ∃ r : ℝ, x0 (ix2 p q) = r := by
  have e := congrFun h (ix2 p q)
  pointwise [Cert.Pre_finite.fn] at e
  simp only [StableHlo.Predicate.ofBool_eq_one_iff, decide_eq_true_eq, w_inf16] at e
  exact Cert.Col.real_of_abs e

/-- The precondition's conjunct 1: the array's entries are reals. -/
theorem fin1 (h : (Cert.Pre_finite.fn (F := Ideal) x0 x1 x2 x3 x4).2.1 = fun _ => 1#1) (p : Fin 1024) (q : Fin 8960) : ∃ r : ℝ, x1 (ix2 p q) = r := by
  have e := congrFun h (ix2 p q)
  pointwise [Cert.Pre_finite.fn] at e
  simp only [StableHlo.Predicate.ofBool_eq_one_iff, decide_eq_true_eq, w_inf16] at e
  exact Cert.Col.real_of_abs e

/-- The precondition's conjunct 2: the array's entries are reals. -/
theorem fin2 (h : (Cert.Pre_finite.fn (F := Ideal) x0 x1 x2 x3 x4).2.2.1 = fun _ => 1#1) (p : Fin 8448) (q : Fin 1024) : ∃ r : ℝ, x2 (ix2 p q) = r := by
  have e := congrFun h (ix2 p q)
  pointwise [Cert.Pre_finite.fn] at e
  simp only [StableHlo.Predicate.ofBool_eq_one_iff, decide_eq_true_eq, Cert.Col.w_inf] at e
  exact Cert.Col.real_of_abs e

/-- The precondition's conjunct 3: the array's entries are reals. -/
theorem fin3 (h : (Cert.Pre_finite.fn (F := Ideal) x0 x1 x2 x3 x4).2.2.2 = fun _ => 1#1) (p : Fin 1) (q : Fin 1024) : ∃ r : ℝ, x3 (ix2 p q) = r := by
  have e := congrFun h (ix2 p q)
  pointwise [Cert.Pre_finite.fn] at e
  simp only [StableHlo.Predicate.ofBool_eq_one_iff, decide_eq_true_eq, Cert.Col.w_inf] at e
  exact Cert.Col.real_of_abs e

end

theorem frame_pi_fin : Cert.quiescent_Kernel13Ideal_pre_finite := fun m ρ _ => Cert.Kernel13Ideal.Gen.frame m ρ

theorem frame_ri : Cert.quiescent_Reference13Ideal := fun m g _ =>
  (θ_run _ _ _).mono (fun r h => ⟨fun c => (h c).2.2, sem_eq_zero_of_no_sems (by decide) r.2⟩) (Cert.Reference13Ideal.Value.run m g)

theorem frame_ri_fin : Cert.quiescent_Reference13Ideal_pre_finite := fun m g _ => frame_ri m g trivial

section
variable (m : (ℓ : Loc Cert.Kernel13Ideal.nD Cert.Kernel13Ideal.τ Cert.Kernel13Ideal.sig) → Buf (Elt Ideal) ℓ) (c : Dev Cert.Kernel13Ideal.nD)
  (m' : (ℓ : Loc Cert.Reference13Ideal.nD Cert.Reference13Ideal.τ Cert.Reference13Ideal.sig) → Buf (Elt Ideal) ℓ)

/-- A row's gradient: the two forms are equal where the product's row, the norm's row and its gain are reals. -/
theorem row_eq (hpre : Cert.Pre_Kernel13Ideal_finite m)
    (e : Cert.Reference13Ideal.Nb.argD m' c = Cert.Kernel13Ideal.Nb.argA m c ∧ Cert.Reference13Ideal.Nb.argW m' c = Cert.Kernel13Ideal.Nb.argW m c
      ∧ Cert.Reference13Ideal.Nb.argX m' c = Cert.Kernel13Ideal.Nb.argH m c ∧ Cert.Reference13Ideal.Nb.argG m' c = Cert.Kernel13Ideal.Nb.argG m c ∧ Cert.Reference13Ideal.Nb.argR m' c = Cert.Kernel13Ideal.Nb.argR m c) (p : Fin 8448) (q : Fin 1024) :
    Cert.Reference13Ideal.Nb.argR m' c (ix2 p q) + refDx (fun j => ∑ k : Fin 8960, Cert.Reference13Ideal.Nb.argD m' c (ix2 p k) * Cert.Reference13Ideal.Nb.argW m' c (ix2 j k))
        (fun j => Cert.Reference13Ideal.Nb.argX m' c (ix2 p j)) (fun j => Cert.Reference13Ideal.Nb.argG m' c (ix2 0 j)) q
      = Cert.Kernel13Ideal.Nb.argR m c (ix2 p q) + kerDx (fun j => ∑ k : Fin 8960, Cert.Kernel13Ideal.Nb.argA m c (ix2 p k) * Cert.Kernel13Ideal.Nb.argW m c (ix2 j k))
        (fun j => Cert.Kernel13Ideal.Nb.argH m c (ix2 p j)) (fun j => Cert.Kernel13Ideal.Nb.argG m c (ix2 0 j)) q := by
  obtain ⟨f0, f1, f2, f3⟩ := hpre c
  rw [e.1, e.2.1, e.2.2.1, e.2.2.2.1, e.2.2.2.2]
  exact congrArg (Cert.Kernel13Ideal.Nb.argR m c (ix2 p q) + ·) (dx_eq _ _ _
    (fun j => real_sum _ _ (fun k => fin0 _ _ _ _ _ f0 p k) (fun k => fin1 _ _ _ _ _ f1 j k))
    (fun j => fin2 _ _ _ _ _ f2 p j) (fun j => fin3 _ _ _ _ _ f3 0 j) q).symm

end

theorem algebraic : Cert.algebraic_Kernel13Ideal_Reference13Ideal_pre_finite := by
  intro m g m' g' hpre hm
  refine ⟨fun c => Cert.Kernel13Ideal.Value.G5 m c, fun c => Cert.Kernel13Ideal.Value.G6 m c, Cert.Kernel13Ideal.Value.run m g, ?_⟩
  refine (θ_run _ _ _).mono (fun r h c => ⟨(h c).1.trans ?_, (h c).2.1.trans ?_, (h c).2.2⟩) (Cert.Reference13Ideal.Value.run m' g')
  · refine ext2 (N := 8448) (M := 1024) fun p q => ?_
    exact (Cert.Reference13Ideal.Nb.res_apply m' c p q).trans ((row_eq m c m' hpre (hm c) p q).trans
      (Cert.Kernel13Ideal.Nb.arr_apply m c p q).symm)
  · rw [(hm c).1, (hm c).2.1, (hm c).2.2.1]
    refine ext2 (N := 1) (M := 1024) fun p q => ?_
    obtain rfl : p = 0 := Subsingleton.elim _ _
    refine (Cert.Reference13Ideal.Nb.resg_apply (Cert.Kernel13Ideal.Nb.argA m c) (Cert.Kernel13Ideal.Nb.argW m c) (Cert.Kernel13Ideal.Nb.argH m c) q).trans
      (Eq.trans ?_ (Cert.Kernel13Ideal.Nb.arrg_apply m c q).symm)
    exact Finset.sum_congr rfl fun p _ => mul_comm _ _

end Cert.Nb13

end
-- ==== Proof.lean ====
/-
The claims, assembled: the three frames, the named constants and the value claim.
-/
module

public import proofs.«01_k».proof.Defs
public import proofs.«01_k».proof.Proof.Frames
public import proofs.«01_k».proof.Proof.KernelFrame
public import proofs.«01_k».proof.Proof.Value
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.TnClaims
public import proofs.«01_k».proof.Proof.NbClaims
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import Idealize.ShloMosaic.Adequacy
public import Idealize.ShloMosaic.Init

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Frames.pre_facts, Cert.Nb12.pre_facts, Cert.Nb13.pre_facts,
  Cert.Frames.frame_p,
  Cert.Frames.frame_pi,
  Cert.Frames.frame_pi_tame,
  Cert.Frames.frame_ri,
  Cert.Frames.frame_ri_tame,
  fun m ρ _ => Cert.Kernel2.Gen.frame m ρ,
  fun m ρ _ => Cert.Kernel2Ideal.Gen.frame m ρ,
  Cert.Tn2.frame_ri,
  fun m ρ _ => Cert.Kernel3.Gen.frame m ρ,
  fun m ρ _ => Cert.Kernel3Ideal.Gen.frame m ρ,
  Cert.Tn3.frame_ri,
  fun m ρ _ => Cert.Kernel4.Gen.frame m ρ,
  fun m ρ _ => Cert.Kernel4Ideal.Gen.frame m ρ,
  Cert.Tn4.frame_ri,
  fun m ρ _ => Cert.Kernel5.Gen.frame m ρ,
  fun m ρ _ => Cert.Kernel5Ideal.Gen.frame m ρ,
  Cert.Tn5.frame_ri,
  fun m ρ _ => Cert.Kernel6.Gen.frame m ρ,
  fun m ρ _ => Cert.Kernel6Ideal.Gen.frame m ρ,
  Cert.Tn6.frame_ri,
  fun m ρ _ => Cert.Kernel7.Gen.frame m ρ,
  fun m ρ _ => Cert.Kernel7Ideal.Gen.frame m ρ,
  Cert.Tn7.frame_ri,
  fun m ρ _ => Cert.Kernel8.Gen.frame m ρ,
  fun m ρ _ => Cert.Kernel8Ideal.Gen.frame m ρ,
  Cert.Nn8.frame_ri,
  fun m ρ _ => Cert.Kernel9.Gen.frame m ρ,
  fun m ρ _ => Cert.Kernel9Ideal.Gen.frame m ρ,
  Cert.Nn9.frame_ri,
  fun m ρ _ => Cert.Kernel10.Gen.frame m ρ,
  fun m ρ _ => Cert.Kernel10Ideal.Gen.frame m ρ,
  Cert.Nn10.frame_ri,
  fun m ρ _ => Cert.Kernel11.Gen.frame m ρ,
  fun m ρ _ => Cert.Kernel11Ideal.Gen.frame m ρ,
  Cert.Nn11.frame_ri,
  fun m ρ _ => Cert.Kernel12.Gen.frame m ρ,
  fun m ρ _ => Cert.Kernel12Ideal.Gen.frame m ρ,
  Cert.Nb12.frame_pi_fin,
  Cert.Nb12.frame_ri,
  Cert.Nb12.frame_ri_fin,
  fun m ρ _ => Cert.Kernel13.Gen.frame m ρ,
  fun m ρ _ => Cert.Kernel13Ideal.Gen.frame m ρ,
  Cert.Nb13.frame_pi_fin,
  Cert.Nb13.frame_ri,
  Cert.Nb13.frame_ri_fin,
  Cert.Frames.preserves,
  Cert.Value.algebraic,
  trivial,
  Cert.Tn2.algebraic,
  trivial,
  Cert.Tn3.algebraic,
  trivial,
  Cert.Tn4.algebraic,
  trivial,
  Cert.Tn5.algebraic,
  trivial,
  Cert.Tn6.algebraic,
  trivial,
  Cert.Tn7.algebraic,
  trivial,
  Cert.Nn8.algebraic,
  trivial,
  Cert.Nn9.algebraic,
  trivial,
  Cert.Nn10.algebraic,
  trivial,
  Cert.Nn11.algebraic,
  trivial,
  Cert.Nb12.algebraic,
  trivial,
  Cert.Nb13.algebraic⟩

end Cert.Proof

end
